-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_v_do [hPre_finite_v_do : Cert.Pre_finite_v_do.Facts] (m : (ℓ : Loc Cert.KernelIdeal.nD Cert.KernelIdeal.τ Cert.KernelIdeal.sig) → Buf (Elt Ideal) ℓ) : Prop :=
  ∀ c : Dev Cert.KernelIdeal.nD,
    (Cert.Pre_finite_v_do.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_v_do [hPre_finite_v_do : Cert.Pre_finite_v_do.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_v_do.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_q_k [hPre_finite_q_k : Cert.Pre_finite_q_k.Facts] (m : (ℓ : Loc Cert.AttendIdeal.nD Cert.AttendIdeal.τ Cert.AttendIdeal.sig) → Buf (Elt Ideal) ℓ) : Prop :=
  ∀ c : Dev Cert.AttendIdeal.nD,
    (Cert.Pre_finite_q_k.fn (F := Ideal) (m ((c.tc : Thread Cert.AttendIdeal.nD Cert.AttendIdeal.τ).loc Cert.AttendIdeal.main_arg0))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite_q_k [hPre_finite_q_k : Cert.Pre_finite_q_k.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite_q_k.fn (F := Ideal) (m ((c.tc : Thread Cert.AttendReferenceIdeal.nD Cert.AttendReferenceIdeal.τ).loc Cert.AttendReferenceIdeal.main_arg0))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_SsmRows (m : (ℓ : Loc Cert.SsmRows.nD Cert.SsmRows.τ Cert.SsmRows.sig) → Buf (Elt Bits) ℓ) : Prop :=
  True

def Pre_SsmRowsIdeal (m : (ℓ : Loc Cert.SsmRowsIdeal.nD Cert.SsmRowsIdeal.τ Cert.SsmRowsIdeal.sig) → Buf (Elt Ideal) ℓ) : Prop :=
  True

def Pre_SsmRowsReferenceIdeal (m : (ℓ : Loc Cert.SsmRowsReferenceIdeal.nD Cert.SsmRowsReferenceIdeal.τ Cert.SsmRowsReferenceIdeal.sig) → Buf (Elt Ideal) ℓ) : Prop :=
  True

def Pre_SsmWeight (m : (ℓ : Loc Cert.SsmWeight.nD Cert.SsmWeight.τ Cert.SsmWeight.sig) → Buf (Elt Bits) ℓ) : Prop :=
  True

def Pre_SsmWeightIdeal (m : (ℓ : Loc Cert.SsmWeightIdeal.nD Cert.SsmWeightIdeal.τ Cert.SsmWeightIdeal.sig) → Buf (Elt Ideal) ℓ) : Prop :=
  True

def Pre_SsmWeightReferenceIdeal (m : (ℓ : Loc Cert.SsmWeightReferenceIdeal.nD Cert.SsmWeightReferenceIdeal.τ Cert.SsmWeightReferenceIdeal.sig) → Buf (Elt Ideal) ℓ) : Prop :=
  True

def Pre_StepSize (m : (ℓ : Loc Cert.StepSize.nD Cert.StepSize.τ Cert.StepSize.sig) → Buf (Elt Bits) ℓ) : Prop :=
  True

def Pre_StepSizeIdeal (m : (ℓ : Loc Cert.StepSizeIdeal.nD Cert.StepSizeIdeal.τ Cert.StepSizeIdeal.sig) → Buf (Elt Ideal) ℓ) : Prop :=
  True

def Pre_StepSizeReferenceIdeal (m : (ℓ : Loc Cert.StepSizeReferenceIdeal.nD Cert.StepSizeReferenceIdeal.τ Cert.StepSizeReferenceIdeal.sig) → Buf (Elt Ideal) ℓ) : Prop :=
  True

def Pre_StepWeight (m : (ℓ : Loc Cert.StepWeight.nD Cert.StepWeight.τ Cert.StepWeight.sig) → Buf (Elt Bits) ℓ) : Prop :=
  True

def Pre_StepWeightIdeal (m : (ℓ : Loc Cert.StepWeightIdeal.nD Cert.StepWeightIdeal.τ Cert.StepWeightIdeal.sig) → Buf (Elt Ideal) ℓ) : Prop :=
  True

def Pre_StepWeightReferenceIdeal (m : (ℓ : Loc Cert.StepWeightReferenceIdeal.nD Cert.StepWeightReferenceIdeal.τ Cert.StepWeightReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradReferenceIdeal (m : (ℓ : Loc Cert.MergeGradReferenceIdeal.nD Cert.MergeGradReferenceIdeal.τ Cert.MergeGradReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_v_do [hKernelIdeal : Cert.KernelIdeal.Facts] [hPre_finite_v_do : Cert.Pre_finite_v_do.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_v_do m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_v_do [hReferenceIdeal : Cert.ReferenceIdeal.Facts] [hPre_finite_v_do : Cert.Pre_finite_v_do.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_v_do m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendIdeal_pre_finite_q_k [hAttendIdeal : Cert.AttendIdeal.Facts] [hPre_finite_q_k : Cert.Pre_finite_q_k.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_q_k m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0))
      ∧ r.2.sem = fun _ => 0)

def quiescent_AttendReferenceIdeal_pre_finite_q_k [hAttendReferenceIdeal : Cert.AttendReferenceIdeal.Facts] [hPre_finite_q_k : Cert.Pre_finite_q_k.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite_q_k m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1)
      ∧ r.2.mem ((c.tc : Thread Cert.GateWeight.nD Cert.GateWeight.τ).loc Cert.GateWeight.main_arg2) = m ((c.tc : Thread Cert.GateWeight.nD Cert.GateWeight.τ).loc Cert.GateWeight.main_arg2))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
      ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1)
      ∧ r.2.mem ((c.tc : Thread Cert.GateWeightReferenceIdeal.nD Cert.GateWeightReferenceIdeal.τ).loc Cert.GateWeightReferenceIdeal.main_arg2) = m ((c.tc : Thread Cert.GateWeightReferenceIdeal.nD Cert.GateWeightReferenceIdeal.τ).loc Cert.GateWeightReferenceIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1)
      ∧ r.2.mem ((c.tc : Thread Cert.OutWeightReferenceIdeal.nD Cert.OutWeightReferenceIdeal.τ).loc Cert.OutWeightReferenceIdeal.main_arg2) = m ((c.tc : Thread Cert.OutWeightReferenceIdeal.nD Cert.OutWeightReferenceIdeal.τ).loc Cert.OutWeightReferenceIdeal.main_arg2))
      ∧ r.2.sem = fun _ => 0)

def quiescent_SsmRows [hSsmRows : Cert.SsmRows.Facts] : Prop :=
  ∀ (m : (ℓ : Loc Cert.SsmRows.nD Cert.SsmRows.τ Cert.SsmRows.sig) → Buf (Elt Bits) ℓ) (g : Dev Cert.SsmRows.nD → PrngReg), Pre_SsmRows m →
    θ_run (Cert.SsmRows.defs (F := Bits)) (onTc (τ := Cert.SsmRows.τ) (Cert.SsmRows.main (F := Bits))) ⟨m, fun _ => 0, g⟩ (fun r => (∀ c : Dev Cert.SsmRows.nD,
      r.2.mem ((c.tc : Thread Cert.SsmRows.nD Cert.SsmRows.τ).loc Cert.SsmRows.main_arg0) = m ((c.tc : Thread Cert.SsmRows.nD Cert.SsmRows.τ).loc Cert.SsmRows.main_arg0)
      ∧ r.2.mem ((c.tc : Thread Cert.SsmRows.nD Cert.SsmRows.τ).loc Cert.SsmRows.main_arg1) = m ((c.tc : Thread Cert.SsmRows.nD Cert.SsmRows.τ).loc Cert.SsmRows.main_arg1)
      ∧ r.2.mem ((c.tc : Thread Cert.SsmRows.nD Cert.SsmRows.τ).loc Cert.SsmRows.main_arg2) = m ((c.tc : Thread Cert.SsmRows.nD Cert.SsmRows.τ).loc Cert.SsmRows.main_arg2))
      ∧ r.2.sem = fun _ => 0)

def quiescent_SsmRowsIdeal [hSsmRowsIdeal : Cert.SsmRowsIdeal.Facts] : Prop :=
  ∀ (m : (ℓ : Loc Cert.SsmRowsIdeal.nD Cert.SsmRowsIdeal.τ Cert.SsmRowsIdeal.sig) → Buf (Elt Ideal) ℓ) (g : Dev Cert.SsmRowsIdeal.nD → PrngReg), Pre_SsmRowsIdeal m →
    θ_run (Cert.SsmRowsIdeal.defs (F := Ideal)) (onTc (τ := Cert.SsmRowsIdeal.τ) (Cert.SsmRowsIdeal.main (F := Ideal))) ⟨m, fun _ => 0, g⟩ (fun r => (∀ c : Dev Cert.SsmRowsIdeal.nD,
      r.2.mem ((c.tc : Thread Cert.SsmRowsIdeal.nD Cert.SsmRowsIdeal.τ).loc Cert.SsmRowsIdeal.main_arg0) = m ((c.tc : Thread Cert.SsmRowsIdeal.nD Cert.SsmRowsIdeal.τ).loc Cert.SsmRowsIdeal.main_arg0)
      ∧ r.2.mem ((c.tc : Thread Cert.SsmRowsIdeal.nD Cert.SsmRowsIdeal.τ).loc Cert.SsmRowsIdeal.main_arg1) = m ((c.tc : Thread Cert.SsmRowsIdeal.nD Cert.SsmRowsIdeal.τ).loc Cert.SsmRowsIdeal.main_arg1)
      ∧ r.2.mem ((c.tc : Thread Cert.SsmRowsIdeal.nD Cert.SsmRowsIdeal.τ).loc Cert.SsmRowsIdeal.main_arg2) = m ((c.tc : Thread Cert.SsmRowsIdeal.nD Cert.SsmRowsIdeal.τ).loc Cert.SsmRowsIdeal.main_arg2))
      ∧ r.2.sem = fun _ => 0)

def quiescent_SsmRowsReferenceIdeal [hSsmRowsReferenceIdeal : Cert.SsmRowsReferenceIdeal.Facts] : Prop :=
  ∀ (m : (ℓ : Loc Cert.SsmRowsReferenceIdeal.nD Cert.SsmRowsReferenceIdeal.τ Cert.SsmRowsReferenceIdeal.sig) → Buf (Elt Ideal) ℓ) (g : Dev Cert.SsmRowsReferenceIdeal.nD → PrngReg), Pre_SsmRowsReferenceIdeal m →
    θ_run (Cert.SsmRowsReferenceIdeal.defs (F := Ideal)) (onTc (τ := Cert.SsmRowsReferenceIdeal.τ) (Cert.SsmRowsReferenceIdeal.main (F := Ideal))) ⟨m, fun _ => 0, g⟩ (fun r => (∀ c : Dev Cert.SsmRowsReferenceIdeal.nD,
      r.2.mem ((c.tc : Thread Cert.SsmRowsReferenceIdeal.nD Cert.SsmRowsReferenceIdeal.τ).loc Cert.SsmRowsReferenceIdeal.main_arg0) = m ((c.tc : Thread Cert.SsmRowsReferenceIdeal.nD Cert.SsmRowsReferenceIdeal.τ).loc Cert.SsmRowsReferenceIdeal.main_arg0)
      ∧ r.2.mem ((c.tc : Thread Cert.SsmRowsReferenceIdeal.nD Cert.SsmRowsReferenceIdeal.τ).loc Cert.SsmRowsReferenceIdeal.main_arg1) = m ((c.tc : Thread Cert.SsmRowsReferenceIdeal.nD Cert.SsmRowsReferenceIdeal.τ).loc Cert.SsmRowsReferenceIdeal.main_arg1)
      ∧ r.2.mem ((c.tc : Thread Cert.SsmRowsReferenceIdeal.nD Cert.SsmRowsReferenceIdeal.τ).loc Cert.SsmRowsReferenceIdeal.main_arg2) = m ((c.tc : Thread Cert.SsmRowsReferenceIdeal.nD Cert.SsmRowsReferenceIdeal.τ).loc Cert.SsmRowsReferenceIdeal.main_arg2))
      ∧ r.2.sem = fun _ => 0)

def quiescent_SsmWeight [hSsmWeight : Cert.SsmWeight.Facts] : Prop :=
  ∀ (m : (ℓ : Loc Cert.SsmWeight.nD Cert.SsmWeight.τ Cert.SsmWeight.sig) → Buf (Elt Bits) ℓ) (g : Dev Cert.SsmWeight.nD → PrngReg), Pre_SsmWeight m →
    θ_run (Cert.SsmWeight.defs (F := Bits)) (onTc (τ := Cert.SsmWeight.τ) (Cert.SsmWeight.main (F := Bits))) ⟨m, fun _ => 0, g⟩ (fun r => (∀ c : Dev Cert.SsmWeight.nD,
      r.2.mem ((c.tc : Thread Cert.SsmWeight.nD Cert.SsmWeight.τ).loc Cert.SsmWeight.main_arg0) = m ((c.tc : Thread Cert.SsmWeight.nD Cert.SsmWeight.τ).loc Cert.SsmWeight.main_arg0)
      ∧ r.2.mem ((c.tc : Thread Cert.SsmWeight.nD Cert.SsmWeight.τ).loc Cert.SsmWeight.main_arg1) = m ((c.tc : Thread Cert.SsmWeight.nD Cert.SsmWeight.τ).loc Cert.SsmWeight.main_arg1)
      ∧ r.2.mem ((c.tc : Thread Cert.SsmWeight.nD Cert.SsmWeight.τ).loc Cert.SsmWeight.main_arg2) = m ((c.tc : Thread Cert.SsmWeight.nD Cert.SsmWeight.τ).loc Cert.SsmWeight.main_arg2))
      ∧ r.2.sem = fun _ => 0)

def quiescent_SsmWeightIdeal [hSsmWeightIdeal : Cert.SsmWeightIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg), Pre_SsmWeightIdeal m →
    θ_run (Cert.SsmWeightIdeal.defs (F := Ideal)) (onTc (τ := Cert.SsmWeightIdeal.τ) (Cert.SsmWeightIdeal.main (F := Ideal))) ⟨m, fun _ => 0, g⟩ (fun r => (∀ c : Dev Cert.SsmWeightIdeal.nD,
      r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0)
      ∧ r.2.mem ((c.tc : Thread Cert.SsmWeightIdeal.nD Cert.SsmWeightIdeal.τ).loc Cert.SsmWeightIdeal.main_arg1) = m ((c.tc : Thread Cert.SsmWeightIdeal.nD Cert.SsmWeightIdeal.τ).loc Cert.SsmWeightIdeal.main_arg1)
      ∧ r.2.mem ((c.tc : Thread Cert.SsmWeightIdeal.nD Cert.SsmWeightIdeal.τ).loc Cert.SsmWeightIdeal.main_arg2) = m ((c.tc : Thread Cert.SsmWeightIdeal.nD Cert.SsmWeightIdeal.τ).loc Cert.SsmWeightIdeal.main_arg2))
      ∧ r.2.sem = fun _ => 0)

def quiescent_SsmWeightReferenceIdeal [hSsmWeightReferenceIdeal : Cert.SsmWeightReferenceIdeal.Facts] : Prop :=
  ∀ (m : (ℓ : Loc Cert.SsmWeightReferenceIdeal.nD Cert.SsmWeightReferenceIdeal.τ Cert.SsmWeightReferenceIdeal.sig) → Buf (Elt Ideal) ℓ) (g : Dev Cert.SsmWeightReferenceIdeal.nD → PrngReg), Pre_SsmWeightReferenceIdeal m →
    θ_run (Cert.SsmWeightReferenceIdeal.defs (F := Ideal)) (onTc (τ := Cert.SsmWeightReferenceIdeal.τ) (Cert.SsmWeightReferenceIdeal.main (F := Ideal))) ⟨m, fun _ => 0, g⟩ (fun r => (∀ c : Dev Cert.SsmWeightReferenceIdeal.nD,
      r.2.mem ((c.tc : Thread Cert.SsmWeightReferenceIdeal.nD Cert.SsmWeightReferenceIdeal.τ).loc Cert.SsmWeightReferenceIdeal.main_arg0) = m ((c.tc : Thread Cert.SsmWeightReferenceIdeal.nD Cert.SsmWeightReferenceIdeal.τ).loc Cert.SsmWeightReferenceIdeal.main_arg0)
      ∧ r.2.mem ((c.tc : Thread Cert.SsmWeightReferenceIdeal.nD Cert.SsmWeightReferenceIdeal.τ).loc Cert.SsmWeightReferenceIdeal.main_arg1) = m ((c.tc : Thread Cert.SsmWeightReferenceIdeal.nD Cert.SsmWeightReferenceIdeal.τ).loc Cert.SsmWeightReferenceIdeal.main_arg1)
      ∧ r.2.mem ((c.tc : Thread Cert.SsmWeightReferenceIdeal.nD Cert.SsmWeightReferenceIdeal.τ).loc Cert.SsmWeightReferenceIdeal.main_arg2) = m ((c.tc : Thread Cert.SsmWeightReferenceIdeal.nD Cert.SsmWeightReferenceIdeal.τ).loc Cert.SsmWeightReferenceIdeal.main_arg2))
      ∧ r.2.sem = fun _ => 0)

def quiescent_StepSize [hStepSize : Cert.StepSize.Facts] : Prop :=
  ∀ (m : (ℓ : Loc Cert.StepSize.nD Cert.StepSize.τ Cert.StepSize.sig) → Buf (Elt Bits) ℓ) (g : Dev Cert.StepSize.nD → PrngReg), Pre_StepSize m →
    θ_run (Cert.StepSize.defs (F := Bits)) (onTc (τ := Cert.StepSize.τ) (Cert.StepSize.main (F := Bits))) ⟨m, fun _ => 0, g⟩ (fun r => (∀ c : Dev Cert.StepSize.nD,
      r.2.mem ((c.tc : Thread Cert.StepSize.nD Cert.StepSize.τ).loc Cert.StepSize.main_arg0) = m ((c.tc : Thread Cert.StepSize.nD Cert.StepSize.τ).loc Cert.StepSize.main_arg0)
      ∧ r.2.mem ((c.tc : Thread Cert.StepSize.nD Cert.StepSize.τ).loc Cert.StepSize.main_arg1) = m ((c.tc : Thread Cert.StepSize.nD Cert.StepSize.τ).loc Cert.StepSize.main_arg1))
      ∧ r.2.sem = fun _ => 0)

def quiescent_StepSizeIdeal [hStepSizeIdeal : Cert.StepSizeIdeal.Facts] : Prop :=
  ∀ (m : (ℓ : Loc Cert.StepSizeIdeal.nD Cert.StepSizeIdeal.τ Cert.StepSizeIdeal.sig) → Buf (Elt Ideal) ℓ) (g : Dev Cert.StepSizeIdeal.nD → PrngReg), Pre_StepSizeIdeal m →
    θ_run (Cert.StepSizeIdeal.defs (F := Ideal)) (onTc (τ := Cert.StepSizeIdeal.τ) (Cert.StepSizeIdeal.main (F := Ideal))) ⟨m, fun _ => 0, g⟩ (fun r => (∀ c : Dev Cert.StepSizeIdeal.nD,
      r.2.mem ((c.tc : Thread Cert.StepSizeIdeal.nD Cert.StepSizeIdeal.τ).loc Cert.StepSizeIdeal.main_arg0) = m ((c.tc : Thread Cert.StepSizeIdeal.nD Cert.StepSizeIdeal.τ).loc Cert.StepSizeIdeal.main_arg0)
      ∧ r.2.mem ((c.tc : Thread Cert.StepSizeIdeal.nD Cert.StepSizeIdeal.τ).loc Cert.StepSizeIdeal.main_arg1) = m ((c.tc : Thread Cert.StepSizeIdeal.nD Cert.StepSizeIdeal.τ).loc Cert.StepSizeIdeal.main_arg1))
      ∧ r.2.sem = fun _ => 0)

def quiescent_StepSizeReferenceIdeal [hStepSizeReferenceIdeal : Cert.StepSizeReferenceIdeal.Facts] : Prop :=
  ∀ (m : (ℓ : Loc Cert.StepSizeReferenceIdeal.nD Cert.StepSizeReferenceIdeal.τ Cert.StepSizeReferenceIdeal.sig) → Buf (Elt Ideal) ℓ) (g : Dev Cert.StepSizeReferenceIdeal.nD → PrngReg), Pre_StepSizeReferenceIdeal m →
    θ_run (Cert.StepSizeReferenceIdeal.defs (F := Ideal)) (onTc (τ := Cert.StepSizeReferenceIdeal.τ) (Cert.StepSizeReferenceIdeal.main (F := Ideal))) ⟨m, fun _ => 0, g⟩ (fun r => (∀ c : Dev Cert.StepSizeReferenceIdeal.nD,
      r.2.mem ((c.tc : Thread Cert.StepSizeReferenceIdeal.nD Cert.StepSizeReferenceIdeal.τ).loc Cert.StepSizeReferenceIdeal.main_arg0) = m ((c.tc : Thread Cert.StepSizeReferenceIdeal.nD Cert.StepSizeReferenceIdeal.τ).loc Cert.StepSizeReferenceIdeal.main_arg0)
      ∧ r.2.mem ((c.tc : Thread Cert.StepSizeReferenceIdeal.nD Cert.StepSizeReferenceIdeal.τ).loc Cert.StepSizeReferenceIdeal.main_arg1) = m ((c.tc : Thread Cert.StepSizeReferenceIdeal.nD Cert.StepSizeReferenceIdeal.τ).loc Cert.StepSizeReferenceIdeal.main_arg1))
      ∧ r.2.sem = fun _ => 0)

def quiescent_StepWeight [hStepWeight : Cert.StepWeight.Facts] : Prop :=
  ∀ (m : (ℓ : Loc Cert.StepWeight.nD Cert.StepWeight.τ Cert.StepWeight.sig) → Buf (Elt Bits) ℓ) (g : Dev Cert.StepWeight.nD → PrngReg), Pre_StepWeight m →
    θ_run (Cert.StepWeight.defs (F := Bits)) (onTc (τ := Cert.StepWeight.τ) (Cert.StepWeight.main (F := Bits))) ⟨m, fun _ => 0, g⟩ (fun r => (∀ c : Dev Cert.StepWeight.nD,
      r.2.mem ((c.tc : Thread Cert.StepWeight.nD Cert.StepWeight.τ).loc Cert.StepWeight.main_arg0) = m ((c.tc : Thread Cert.StepWeight.nD Cert.StepWeight.τ).loc Cert.StepWeight.main_arg0)
      ∧ r.2.mem ((c.tc : Thread Cert.StepWeight.nD Cert.StepWeight.τ).loc Cert.StepWeight.main_arg1) = m ((c.tc : Thread Cert.StepWeight.nD Cert.StepWeight.τ).loc Cert.StepWeight.main_arg1)
      ∧ r.2.mem ((c.tc : Thread Cert.StepWeight.nD Cert.StepWeight.τ).loc Cert.StepWeight.main_arg2) = m ((c.tc : Thread Cert.StepWeight.nD Cert.StepWeight.τ).loc Cert.StepWeight.main_arg2))
      ∧ r.2.sem = fun _ => 0)

def quiescent_StepWeightIdeal [hStepWeightIdeal : Cert.StepWeightIdeal.Facts] : Prop :=
  ∀ (m : (ℓ : Loc Cert.StepWeightIdeal.nD Cert.StepWeightIdeal.τ Cert.StepWeightIdeal.sig) → Buf (Elt Ideal) ℓ) (g : Dev Cert.StepWeightIdeal.nD → PrngReg), Pre_StepWeightIdeal m →
    θ_run (Cert.StepWeightIdeal.defs (F := Ideal)) (onTc (τ := Cert.StepWeightIdeal.τ) (Cert.StepWeightIdeal.main (F := Ideal))) ⟨m, fun _ => 0, g⟩ (fun r => (∀ c : Dev Cert.StepWeightIdeal.nD,
      r.2.mem ((c.tc : Thread Cert.StepWeightIdeal.nD Cert.StepWeightIdeal.τ).loc Cert.StepWeightIdeal.main_arg0) = m ((c.tc : Thread Cert.StepWeightIdeal.nD Cert.StepWeightIdeal.τ).loc Cert.StepWeightIdeal.main_arg0)
      ∧ r.2.mem ((c.tc : Thread Cert.StepWeightIdeal.nD Cert.StepWeightIdeal.τ).loc Cert.StepWeightIdeal.main_arg1) = m ((c.tc : Thread Cert.StepWeightIdeal.nD Cert.StepWeightIdeal.τ).loc Cert.StepWeightIdeal.main_arg1)
      ∧ r.2.mem ((c.tc : Thread Cert.StepWeightIdeal.nD Cert.StepWeightIdeal.τ).loc Cert.StepWeightIdeal.main_arg2) = m ((c.tc : Thread Cert.StepWeightIdeal.nD Cert.StepWeightIdeal.τ).loc Cert.StepWeightIdeal.main_arg2))
      ∧ r.2.sem = fun _ => 0)

def quiescent_StepWeightReferenceIdeal [hStepWeightReferenceIdeal : Cert.StepWeightReferenceIdeal.Facts] : Prop :=
  ∀ (m : (ℓ : Loc Cert.StepWeightReferenceIdeal.nD Cert.StepWeightReferenceIdeal.τ Cert.StepWeightReferenceIdeal.sig) → Buf (Elt Ideal) ℓ) (g : Dev Cert.StepWeightReferenceIdeal.nD → PrngReg), Pre_StepWeightReferenceIdeal m →
    θ_run (Cert.StepWeightReferenceIdeal.defs (F := Ideal)) (onTc (τ := Cert.StepWeightReferenceIdeal.τ) (Cert.StepWeightReferenceIdeal.main (F := Ideal))) ⟨m, fun _ => 0, g⟩ (fun r => (∀ c : Dev Cert.StepWeightReferenceIdeal.nD,
      r.2.mem ((c.tc : Thread Cert.StepWeightReferenceIdeal.nD Cert.StepWeightReferenceIdeal.τ).loc Cert.StepWeightReferenceIdeal.main_arg0) = m ((c.tc : Thread Cert.StepWeightReferenceIdeal.nD Cert.StepWeightReferenceIdeal.τ).loc Cert.StepWeightReferenceIdeal.main_arg0)
      ∧ r.2.mem ((c.tc : Thread Cert.StepWeightReferenceIdeal.nD Cert.StepWeightReferenceIdeal.τ).loc Cert.StepWeightReferenceIdeal.main_arg1) = m ((c.tc : Thread Cert.StepWeightReferenceIdeal.nD Cert.StepWeightReferenceIdeal.τ).loc Cert.StepWeightReferenceIdeal.main_arg1)
      ∧ r.2.mem ((c.tc : Thread Cert.StepWeightReferenceIdeal.nD Cert.StepWeightReferenceIdeal.τ).loc Cert.StepWeightReferenceIdeal.main_arg2) = m ((c.tc : Thread Cert.StepWeightReferenceIdeal.nD Cert.StepWeightReferenceIdeal.τ).loc Cert.StepWeightReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ r.2.sem = fun _ => 0)

def quiescent_MergeGradReferenceIdeal [hMergeGradReferenceIdeal : Cert.MergeGradReferenceIdeal.Facts] : Prop :=
  ∀ (m : (ℓ : Loc Cert.MergeGradReferenceIdeal.nD Cert.MergeGradReferenceIdeal.τ Cert.MergeGradReferenceIdeal.sig) → Buf (Elt Ideal) ℓ) (g : Dev Cert.MergeGradReferenceIdeal.nD → PrngReg), Pre_MergeGradReferenceIdeal m →
    θ_run (Cert.MergeGradReferenceIdeal.defs (F := Ideal)) (onTc (τ := Cert.MergeGradReferenceIdeal.τ) (Cert.MergeGradReferenceIdeal.main (F := Ideal))) ⟨m, fun _ => 0, g⟩ (fun r => (∀ c : Dev Cert.MergeGradReferenceIdeal.nD,
      r.2.mem ((c.tc : Thread Cert.MergeGradReferenceIdeal.nD Cert.MergeGradReferenceIdeal.τ).loc Cert.MergeGradReferenceIdeal.main_arg0) = m ((c.tc : Thread Cert.MergeGradReferenceIdeal.nD Cert.MergeGradReferenceIdeal.τ).loc Cert.MergeGradReferenceIdeal.main_arg0)
      ∧ r.2.mem ((c.tc : Thread Cert.MergeGradReferenceIdeal.nD Cert.MergeGradReferenceIdeal.τ).loc Cert.MergeGradReferenceIdeal.main_arg1) = m ((c.tc : Thread Cert.MergeGradReferenceIdeal.nD Cert.MergeGradReferenceIdeal.τ).loc Cert.MergeGradReferenceIdeal.main_arg1)
      ∧ r.2.mem ((c.tc : Thread Cert.MergeGradReferenceIdeal.nD Cert.MergeGradReferenceIdeal.τ).loc Cert.MergeGradReferenceIdeal.main_arg2) = m ((c.tc : Thread Cert.MergeGradReferenceIdeal.nD Cert.MergeGradReferenceIdeal.τ).loc Cert.MergeGradReferenceIdeal.main_arg2)
      ∧ r.2.mem ((c.tc : Thread Cert.MergeGradReferenceIdeal.nD Cert.MergeGradReferenceIdeal.τ).loc Cert.MergeGradReferenceIdeal.main_arg3) = m ((c.tc : Thread Cert.MergeGradReferenceIdeal.nD Cert.MergeGradReferenceIdeal.τ).loc Cert.MergeGradReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal_pre_finite_v_do [hKernelIdeal : Cert.KernelIdeal.Facts] [hReferenceIdeal : Cert.ReferenceIdeal.Facts] [hPre_finite_v_do : Cert.Pre_finite_v_do.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_v_do m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Attend_AttendIdeal : Prop :=
  IdealRules.bf16_pack.Statement Cert.AttendIdeal.S512x256

def algebraic_AttendIdeal_AttendReferenceIdeal_pre_finite_q_k [hAttendIdeal : Cert.AttendIdeal.Facts] [hAttendReferenceIdeal : Cert.AttendReferenceIdeal.Facts] [hPre_finite_q_k : Cert.Pre_finite_q_k.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite_q_k m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)) →
    ∃ (v0 : (c : Dev Cert.AttendIdeal.nD) → Buf (Elt Ideal) ((c.tc : Thread Cert.AttendIdeal.nD Cert.AttendIdeal.τ).loc Cert.AttendIdeal.main_v0_0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0_0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v33) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)
      ∧ m' ((c.tc : Thread Cert.HiddenReferenceIdeal.nD Cert.HiddenReferenceIdeal.τ).loc Cert.HiddenReferenceIdeal.main_arg4) = m ((c.tc : Thread Cert.HiddenIdeal.nD Cert.HiddenIdeal.τ).loc Cert.HiddenIdeal.main_arg4)) →
    ∃ (v0 : (c : Dev Cert.HiddenIdeal.nD) → Buf (Elt Ideal) ((c.tc : Thread Cert.HiddenIdeal.nD Cert.HiddenIdeal.τ).loc Cert.HiddenIdeal.main_v4)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v4) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v6) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)
      ∧ m' ((c.tc : Thread Cert.WeightReferenceIdeal.nD Cert.WeightReferenceIdeal.τ).loc Cert.WeightReferenceIdeal.main_arg2) = m ((c.tc : Thread Cert.WeightIdeal.nD Cert.WeightIdeal.τ).loc Cert.WeightIdeal.main_arg2)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v9) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v5) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)
      ∧ m' ((c.tc : Thread Cert.GateWeightReferenceIdeal.nD Cert.GateWeightReferenceIdeal.τ).loc Cert.GateWeightReferenceIdeal.main_arg2) = m ((c.tc : Thread Cert.GateWeightIdeal.nD Cert.GateWeightIdeal.τ).loc Cert.GateWeightIdeal.main_arg2)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
          ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v9) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1)
          ∧ r.2.mem ((c.tc : Thread Cert.GateWeightReferenceIdeal.nD Cert.GateWeightReferenceIdeal.τ).loc Cert.GateWeightReferenceIdeal.main_arg2) = m' ((c.tc : Thread Cert.GateWeightReferenceIdeal.nD Cert.GateWeightReferenceIdeal.τ).loc Cert.GateWeightReferenceIdeal.main_arg2))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v3) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v5) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)
      ∧ m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v5) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1)
          ∧ r.2.mem ((c.tc : Thread Cert.OutWeightReferenceIdeal.nD Cert.OutWeightReferenceIdeal.τ).loc Cert.OutWeightReferenceIdeal.main_arg2) = m' ((c.tc : Thread Cert.OutWeightReferenceIdeal.nD Cert.OutWeightReferenceIdeal.τ).loc Cert.OutWeightReferenceIdeal.main_arg2))

def preserves_SsmRows_SsmRowsIdeal : Prop :=
  True

def algebraic_SsmRowsIdeal_SsmRowsReferenceIdeal [hSsmRowsIdeal : Cert.SsmRowsIdeal.Facts] [hSsmRowsReferenceIdeal : Cert.SsmRowsReferenceIdeal.Facts] : Prop :=
  ∀ (m : (ℓ : Loc Cert.SsmRowsIdeal.nD Cert.SsmRowsIdeal.τ Cert.SsmRowsIdeal.sig) → Buf (Elt Ideal) ℓ) (g : Dev Cert.SsmRowsIdeal.nD → PrngReg)
    (m' : (ℓ : Loc Cert.SsmRowsReferenceIdeal.nD Cert.SsmRowsReferenceIdeal.τ Cert.SsmRowsReferenceIdeal.sig) → Buf (Elt Ideal) ℓ) (g' : Dev Cert.SsmRowsReferenceIdeal.nD → PrngReg), Pre_SsmRowsIdeal m →
    (∀ c : Dev Cert.SsmRowsIdeal.nD,
      m' ((c.tc : Thread Cert.SsmRowsReferenceIdeal.nD Cert.SsmRowsReferenceIdeal.τ).loc Cert.SsmRowsReferenceIdeal.main_arg0) = m ((c.tc : Thread Cert.SsmRowsIdeal.nD Cert.SsmRowsIdeal.τ).loc Cert.SsmRowsIdeal.main_arg0)
      ∧ m' ((c.tc : Thread Cert.SsmRowsReferenceIdeal.nD Cert.SsmRowsReferenceIdeal.τ).loc Cert.SsmRowsReferenceIdeal.main_arg1) = m ((c.tc : Thread Cert.SsmRowsIdeal.nD Cert.SsmRowsIdeal.τ).loc Cert.SsmRowsIdeal.main_arg1)
      ∧ m' ((c.tc : Thread Cert.SsmRowsReferenceIdeal.nD Cert.SsmRowsReferenceIdeal.τ).loc Cert.SsmRowsReferenceIdeal.main_arg2) = m ((c.tc : Thread Cert.SsmRowsIdeal.nD Cert.SsmRowsIdeal.τ).loc Cert.SsmRowsIdeal.main_arg2)) →
    ∃ (v0 : (c : Dev Cert.SsmRowsIdeal.nD) → Buf (Elt Ideal) ((c.tc : Thread Cert.SsmRowsIdeal.nD Cert.SsmRowsIdeal.τ).loc Cert.SsmRowsIdeal.main_v0)),
      θ_run (Cert.SsmRowsIdeal.defs (F := Ideal)) (onTc (τ := Cert.SsmRowsIdeal.τ) (Cert.SsmRowsIdeal.main (F := Ideal))) ⟨m, fun _ => 0, g⟩ (fun r => ∀ c : Dev Cert.SsmRowsIdeal.nD,
          r.2.mem ((c.tc : Thread Cert.SsmRowsIdeal.nD Cert.SsmRowsIdeal.τ).loc Cert.SsmRowsIdeal.main_v0) = v0 c
          ∧ r.2.mem ((c.tc : Thread Cert.SsmRowsIdeal.nD Cert.SsmRowsIdeal.τ).loc Cert.SsmRowsIdeal.main_arg0) = m ((c.tc : Thread Cert.SsmRowsIdeal.nD Cert.SsmRowsIdeal.τ).loc Cert.SsmRowsIdeal.main_arg0)
          ∧ r.2.mem ((c.tc : Thread Cert.SsmRowsIdeal.nD Cert.SsmRowsIdeal.τ).loc Cert.SsmRowsIdeal.main_arg1) = m ((c.tc : Thread Cert.SsmRowsIdeal.nD Cert.SsmRowsIdeal.τ).loc Cert.SsmRowsIdeal.main_arg1)
          ∧ r.2.mem ((c.tc : Thread Cert.SsmRowsIdeal.nD Cert.SsmRowsIdeal.τ).loc Cert.SsmRowsIdeal.main_arg2) = m ((c.tc : Thread Cert.SsmRowsIdeal.nD Cert.SsmRowsIdeal.τ).loc Cert.SsmRowsIdeal.main_arg2))
      ∧ θ_run (Cert.SsmRowsReferenceIdeal.defs (F := Ideal)) (onTc (τ := Cert.SsmRowsReferenceIdeal.τ) (Cert.SsmRowsReferenceIdeal.main (F := Ideal))) ⟨m', fun _ => 0, g'⟩ (fun r => ∀ c : Dev Cert.SsmRowsReferenceIdeal.nD,
          r.2.mem ((c.tc : Thread Cert.SsmRowsReferenceIdeal.nD Cert.SsmRowsReferenceIdeal.τ).loc Cert.SsmRowsReferenceIdeal.main_v4) = v0 c
          ∧ r.2.mem ((c.tc : Thread Cert.SsmRowsReferenceIdeal.nD Cert.SsmRowsReferenceIdeal.τ).loc Cert.SsmRowsReferenceIdeal.main_arg0) = m' ((c.tc : Thread Cert.SsmRowsReferenceIdeal.nD Cert.SsmRowsReferenceIdeal.τ).loc Cert.SsmRowsReferenceIdeal.main_arg0)
          ∧ r.2.mem ((c.tc : Thread Cert.SsmRowsReferenceIdeal.nD Cert.SsmRowsReferenceIdeal.τ).loc Cert.SsmRowsReferenceIdeal.main_arg1) = m' ((c.tc : Thread Cert.SsmRowsReferenceIdeal.nD Cert.SsmRowsReferenceIdeal.τ).loc Cert.SsmRowsReferenceIdeal.main_arg1)
          ∧ r.2.mem ((c.tc : Thread Cert.SsmRowsReferenceIdeal.nD Cert.SsmRowsReferenceIdeal.τ).loc Cert.SsmRowsReferenceIdeal.main_arg2) = m' ((c.tc : Thread Cert.SsmRowsReferenceIdeal.nD Cert.SsmRowsReferenceIdeal.τ).loc Cert.SsmRowsReferenceIdeal.main_arg2))

def preserves_SsmWeight_SsmWeightIdeal : Prop :=
  True

def algebraic_SsmWeightIdeal_SsmWeightReferenceIdeal [hSsmWeightIdeal : Cert.SsmWeightIdeal.Facts] [hSsmWeightReferenceIdeal : Cert.SsmWeightReferenceIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg)
    (m' : (ℓ : Loc Cert.SsmWeightReferenceIdeal.nD Cert.SsmWeightReferenceIdeal.τ Cert.SsmWeightReferenceIdeal.sig) → Buf (Elt Ideal) ℓ) (g' : Dev Cert.SsmWeightReferenceIdeal.nD → PrngReg), Pre_SsmWeightIdeal m →
    (∀ c : Dev Cert.SsmWeightIdeal.nD,
      m' ((c.tc : Thread Cert.SsmWeightReferenceIdeal.nD Cert.SsmWeightReferenceIdeal.τ).loc Cert.SsmWeightReferenceIdeal.main_arg0) = m ((c.tc : Thread Cert.SsmWeightIdeal.nD Cert.SsmWeightIdeal.τ).loc Cert.SsmWeightIdeal.main_arg0)
      ∧ m' ((c.tc : Thread Cert.SsmWeightReferenceIdeal.nD Cert.SsmWeightReferenceIdeal.τ).loc Cert.SsmWeightReferenceIdeal.main_arg1) = m ((c.tc : Thread Cert.SsmWeightIdeal.nD Cert.SsmWeightIdeal.τ).loc Cert.SsmWeightIdeal.main_arg1)
      ∧ m' ((c.tc : Thread Cert.SsmWeightReferenceIdeal.nD Cert.SsmWeightReferenceIdeal.τ).loc Cert.SsmWeightReferenceIdeal.main_arg2) = m ((c.tc : Thread Cert.SsmWeightIdeal.nD Cert.SsmWeightIdeal.τ).loc Cert.SsmWeightIdeal.main_arg2)) →
    ∃ (v0 : (c : Dev Cert.SsmWeightIdeal.nD) → Buf (Elt Ideal) ((c.tc : Thread Cert.SsmWeightIdeal.nD Cert.SsmWeightIdeal.τ).loc Cert.SsmWeightIdeal.main_v0)),
      θ_run (Cert.SsmWeightIdeal.defs (F := Ideal)) (onTc (τ := Cert.SsmWeightIdeal.τ) (Cert.SsmWeightIdeal.main (F := Ideal))) ⟨m, fun _ => 0, g⟩ (fun r => ∀ c : Dev Cert.SsmWeightIdeal.nD,
          r.2.mem ((c.tc : Thread Cert.SsmWeightIdeal.nD Cert.SsmWeightIdeal.τ).loc Cert.SsmWeightIdeal.main_v0) = v0 c
          ∧ r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0)
          ∧ r.2.mem ((c.tc : Thread Cert.SsmWeightIdeal.nD Cert.SsmWeightIdeal.τ).loc Cert.SsmWeightIdeal.main_arg1) = m ((c.tc : Thread Cert.SsmWeightIdeal.nD Cert.SsmWeightIdeal.τ).loc Cert.SsmWeightIdeal.main_arg1)
          ∧ r.2.mem ((c.tc : Thread Cert.SsmWeightIdeal.nD Cert.SsmWeightIdeal.τ).loc Cert.SsmWeightIdeal.main_arg2) = m ((c.tc : Thread Cert.SsmWeightIdeal.nD Cert.SsmWeightIdeal.τ).loc Cert.SsmWeightIdeal.main_arg2))
      ∧ θ_run (Cert.SsmWeightReferenceIdeal.defs (F := Ideal)) (onTc (τ := Cert.SsmWeightReferenceIdeal.τ) (Cert.SsmWeightReferenceIdeal.main (F := Ideal))) ⟨m', fun _ => 0, g'⟩ (fun r => ∀ c : Dev Cert.SsmWeightReferenceIdeal.nD,
          r.2.mem ((c.tc : Thread Cert.SsmWeightReferenceIdeal.nD Cert.SsmWeightReferenceIdeal.τ).loc Cert.SsmWeightReferenceIdeal.main_v5) = v0 c
          ∧ r.2.mem ((c.tc : Thread Cert.SsmWeightReferenceIdeal.nD Cert.SsmWeightReferenceIdeal.τ).loc Cert.SsmWeightReferenceIdeal.main_arg0) = m' ((c.tc : Thread Cert.SsmWeightReferenceIdeal.nD Cert.SsmWeightReferenceIdeal.τ).loc Cert.SsmWeightReferenceIdeal.main_arg0)
          ∧ r.2.mem ((c.tc : Thread Cert.SsmWeightReferenceIdeal.nD Cert.SsmWeightReferenceIdeal.τ).loc Cert.SsmWeightReferenceIdeal.main_arg1) = m' ((c.tc : Thread Cert.SsmWeightReferenceIdeal.nD Cert.SsmWeightReferenceIdeal.τ).loc Cert.SsmWeightReferenceIdeal.main_arg1)
          ∧ r.2.mem ((c.tc : Thread Cert.SsmWeightReferenceIdeal.nD Cert.SsmWeightReferenceIdeal.τ).loc Cert.SsmWeightReferenceIdeal.main_arg2) = m' ((c.tc : Thread Cert.SsmWeightReferenceIdeal.nD Cert.SsmWeightReferenceIdeal.τ).loc Cert.SsmWeightReferenceIdeal.main_arg2))

def preserves_StepSize_StepSizeIdeal : Prop :=
  True

def algebraic_StepSizeIdeal_StepSizeReferenceIdeal [hStepSizeIdeal : Cert.StepSizeIdeal.Facts] [hStepSizeReferenceIdeal : Cert.StepSizeReferenceIdeal.Facts] : Prop :=
  ∀ (m : (ℓ : Loc Cert.StepSizeIdeal.nD Cert.StepSizeIdeal.τ Cert.StepSizeIdeal.sig) → Buf (Elt Ideal) ℓ) (g : Dev Cert.StepSizeIdeal.nD → PrngReg)
    (m' : (ℓ : Loc Cert.StepSizeReferenceIdeal.nD Cert.StepSizeReferenceIdeal.τ Cert.StepSizeReferenceIdeal.sig) → Buf (Elt Ideal) ℓ) (g' : Dev Cert.StepSizeReferenceIdeal.nD → PrngReg), Pre_StepSizeIdeal m →
    (∀ c : Dev Cert.StepSizeIdeal.nD,
      m' ((c.tc : Thread Cert.StepSizeReferenceIdeal.nD Cert.StepSizeReferenceIdeal.τ).loc Cert.StepSizeReferenceIdeal.main_arg0) = m ((c.tc : Thread Cert.StepSizeIdeal.nD Cert.StepSizeIdeal.τ).loc Cert.StepSizeIdeal.main_arg0)
      ∧ m' ((c.tc : Thread Cert.StepSizeReferenceIdeal.nD Cert.StepSizeReferenceIdeal.τ).loc Cert.StepSizeReferenceIdeal.main_arg1) = m ((c.tc : Thread Cert.StepSizeIdeal.nD Cert.StepSizeIdeal.τ).loc Cert.StepSizeIdeal.main_arg1)) →
    ∃ (v0 : (c : Dev Cert.StepSizeIdeal.nD) → Buf (Elt Ideal) ((c.tc : Thread Cert.StepSizeIdeal.nD Cert.StepSizeIdeal.τ).loc Cert.StepSizeIdeal.main_v2)),
      θ_run (Cert.StepSizeIdeal.defs (F := Ideal)) (onTc (τ := Cert.StepSizeIdeal.τ) (Cert.StepSizeIdeal.main (F := Ideal))) ⟨m, fun _ => 0, g⟩ (fun r => ∀ c : Dev Cert.StepSizeIdeal.nD,
          r.2.mem ((c.tc : Thread Cert.StepSizeIdeal.nD Cert.StepSizeIdeal.τ).loc Cert.StepSizeIdeal.main_v2) = v0 c
          ∧ r.2.mem ((c.tc : Thread Cert.StepSizeIdeal.nD Cert.StepSizeIdeal.τ).loc Cert.StepSizeIdeal.main_arg0) = m ((c.tc : Thread Cert.StepSizeIdeal.nD Cert.StepSizeIdeal.τ).loc Cert.StepSizeIdeal.main_arg0)
          ∧ r.2.mem ((c.tc : Thread Cert.StepSizeIdeal.nD Cert.StepSizeIdeal.τ).loc Cert.StepSizeIdeal.main_arg1) = m ((c.tc : Thread Cert.StepSizeIdeal.nD Cert.StepSizeIdeal.τ).loc Cert.StepSizeIdeal.main_arg1))
      ∧ θ_run (Cert.StepSizeReferenceIdeal.defs (F := Ideal)) (onTc (τ := Cert.StepSizeReferenceIdeal.τ) (Cert.StepSizeReferenceIdeal.main (F := Ideal))) ⟨m', fun _ => 0, g'⟩ (fun r => ∀ c : Dev Cert.StepSizeReferenceIdeal.nD,
          r.2.mem ((c.tc : Thread Cert.StepSizeReferenceIdeal.nD Cert.StepSizeReferenceIdeal.τ).loc Cert.StepSizeReferenceIdeal.main_v5) = v0 c
          ∧ r.2.mem ((c.tc : Thread Cert.StepSizeReferenceIdeal.nD Cert.StepSizeReferenceIdeal.τ).loc Cert.StepSizeReferenceIdeal.main_arg0) = m' ((c.tc : Thread Cert.StepSizeReferenceIdeal.nD Cert.StepSizeReferenceIdeal.τ).loc Cert.StepSizeReferenceIdeal.main_arg0)
          ∧ r.2.mem ((c.tc : Thread Cert.StepSizeReferenceIdeal.nD Cert.StepSizeReferenceIdeal.τ).loc Cert.StepSizeReferenceIdeal.main_arg1) = m' ((c.tc : Thread Cert.StepSizeReferenceIdeal.nD Cert.StepSizeReferenceIdeal.τ).loc Cert.StepSizeReferenceIdeal.main_arg1))

def preserves_StepWeight_StepWeightIdeal : Prop :=
  True

def algebraic_StepWeightIdeal_StepWeightReferenceIdeal [hStepWeightIdeal : Cert.StepWeightIdeal.Facts] [hStepWeightReferenceIdeal : Cert.StepWeightReferenceIdeal.Facts] : Prop :=
  ∀ (m : (ℓ : Loc Cert.StepWeightIdeal.nD Cert.StepWeightIdeal.τ Cert.StepWeightIdeal.sig) → Buf (Elt Ideal) ℓ) (g : Dev Cert.StepWeightIdeal.nD → PrngReg)
    (m' : (ℓ : Loc Cert.StepWeightReferenceIdeal.nD Cert.StepWeightReferenceIdeal.τ Cert.StepWeightReferenceIdeal.sig) → Buf (Elt Ideal) ℓ) (g' : Dev Cert.StepWeightReferenceIdeal.nD → PrngReg), Pre_StepWeightIdeal m →
    (∀ c : Dev Cert.StepWeightIdeal.nD,
      m' ((c.tc : Thread Cert.StepWeightReferenceIdeal.nD Cert.StepWeightReferenceIdeal.τ).loc Cert.StepWeightReferenceIdeal.main_arg0) = m ((c.tc : Thread Cert.StepWeightIdeal.nD Cert.StepWeightIdeal.τ).loc Cert.StepWeightIdeal.main_arg0)
      ∧ m' ((c.tc : Thread Cert.StepWeightReferenceIdeal.nD Cert.StepWeightReferenceIdeal.τ).loc Cert.StepWeightReferenceIdeal.main_arg1) = m ((c.tc : Thread Cert.StepWeightIdeal.nD Cert.StepWeightIdeal.τ).loc Cert.StepWeightIdeal.main_arg1)
      ∧ m' ((c.tc : Thread Cert.StepWeightReferenceIdeal.nD Cert.StepWeightReferenceIdeal.τ).loc Cert.StepWeightReferenceIdeal.main_arg2) = m ((c.tc : Thread Cert.StepWeightIdeal.nD Cert.StepWeightIdeal.τ).loc Cert.StepWeightIdeal.main_arg2)) →
    ∃ (v0 : (c : Dev Cert.StepWeightIdeal.nD) → Buf (Elt Ideal) ((c.tc : Thread Cert.StepWeightIdeal.nD Cert.StepWeightIdeal.τ).loc Cert.StepWeightIdeal.main_v1)),
      θ_run (Cert.StepWeightIdeal.defs (F := Ideal)) (onTc (τ := Cert.StepWeightIdeal.τ) (Cert.StepWeightIdeal.main (F := Ideal))) ⟨m, fun _ => 0, g⟩ (fun r => ∀ c : Dev Cert.StepWeightIdeal.nD,
          r.2.mem ((c.tc : Thread Cert.StepWeightIdeal.nD Cert.StepWeightIdeal.τ).loc Cert.StepWeightIdeal.main_v1) = v0 c
          ∧ r.2.mem ((c.tc : Thread Cert.StepWeightIdeal.nD Cert.StepWeightIdeal.τ).loc Cert.StepWeightIdeal.main_arg0) = m ((c.tc : Thread Cert.StepWeightIdeal.nD Cert.StepWeightIdeal.τ).loc Cert.StepWeightIdeal.main_arg0)
          ∧ r.2.mem ((c.tc : Thread Cert.StepWeightIdeal.nD Cert.StepWeightIdeal.τ).loc Cert.StepWeightIdeal.main_arg1) = m ((c.tc : Thread Cert.StepWeightIdeal.nD Cert.StepWeightIdeal.τ).loc Cert.StepWeightIdeal.main_arg1)
          ∧ r.2.mem ((c.tc : Thread Cert.StepWeightIdeal.nD Cert.StepWeightIdeal.τ).loc Cert.StepWeightIdeal.main_arg2) = m ((c.tc : Thread Cert.StepWeightIdeal.nD Cert.StepWeightIdeal.τ).loc Cert.StepWeightIdeal.main_arg2))
      ∧ θ_run (Cert.StepWeightReferenceIdeal.defs (F := Ideal)) (onTc (τ := Cert.StepWeightReferenceIdeal.τ) (Cert.StepWeightReferenceIdeal.main (F := Ideal))) ⟨m', fun _ => 0, g'⟩ (fun r => ∀ c : Dev Cert.StepWeightReferenceIdeal.nD,
          r.2.mem ((c.tc : Thread Cert.StepWeightReferenceIdeal.nD Cert.StepWeightReferenceIdeal.τ).loc Cert.StepWeightReferenceIdeal.main_v10) = v0 c
          ∧ r.2.mem ((c.tc : Thread Cert.StepWeightReferenceIdeal.nD Cert.StepWeightReferenceIdeal.τ).loc Cert.StepWeightReferenceIdeal.main_arg0) = m' ((c.tc : Thread Cert.StepWeightReferenceIdeal.nD Cert.StepWeightReferenceIdeal.τ).loc Cert.StepWeightReferenceIdeal.main_arg0)
          ∧ r.2.mem ((c.tc : Thread Cert.StepWeightReferenceIdeal.nD Cert.StepWeightReferenceIdeal.τ).loc Cert.StepWeightReferenceIdeal.main_arg1) = m' ((c.tc : Thread Cert.StepWeightReferenceIdeal.nD Cert.StepWeightReferenceIdeal.τ).loc Cert.StepWeightReferenceIdeal.main_arg1)
          ∧ r.2.mem ((c.tc : Thread Cert.StepWeightReferenceIdeal.nD Cert.StepWeightReferenceIdeal.τ).loc Cert.StepWeightReferenceIdeal.main_arg2) = m' ((c.tc : Thread Cert.StepWeightReferenceIdeal.nD Cert.StepWeightReferenceIdeal.τ).loc Cert.StepWeightReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v14) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def preserves_MergeGrad_MergeGradIdeal : Prop :=
  True

def algebraic_MergeGradIdeal_MergeGradReferenceIdeal [hMergeGradIdeal : Cert.MergeGradIdeal.Facts] [hMergeGradReferenceIdeal : Cert.MergeGradReferenceIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradReferenceIdeal.nD Cert.MergeGradReferenceIdeal.τ Cert.MergeGradReferenceIdeal.sig) → Buf (Elt Ideal) ℓ) (g' : Dev Cert.MergeGradReferenceIdeal.nD → PrngReg), Pre_MergeGradIdeal m →
    (∀ c : Dev Cert.MergeGradIdeal.nD,
      m' ((c.tc : Thread Cert.MergeGradReferenceIdeal.nD Cert.MergeGradReferenceIdeal.τ).loc Cert.MergeGradReferenceIdeal.main_arg0) = m ((c.tc : Thread Cert.MergeGradIdeal.nD Cert.MergeGradIdeal.τ).loc Cert.MergeGradIdeal.main_arg0)
      ∧ m' ((c.tc : Thread Cert.MergeGradReferenceIdeal.nD Cert.MergeGradReferenceIdeal.τ).loc Cert.MergeGradReferenceIdeal.main_arg1) = m ((c.tc : Thread Cert.MergeGradIdeal.nD Cert.MergeGradIdeal.τ).loc Cert.MergeGradIdeal.main_arg1)
      ∧ m' ((c.tc : Thread Cert.MergeGradReferenceIdeal.nD Cert.MergeGradReferenceIdeal.τ).loc Cert.MergeGradReferenceIdeal.main_arg2) = m ((c.tc : Thread Cert.MergeGradIdeal.nD Cert.MergeGradIdeal.τ).loc Cert.MergeGradIdeal.main_arg2)
      ∧ m' ((c.tc : Thread Cert.MergeGradReferenceIdeal.nD Cert.MergeGradReferenceIdeal.τ).loc Cert.MergeGradReferenceIdeal.main_arg3) = m ((c.tc : Thread Cert.MergeGradIdeal.nD Cert.MergeGradIdeal.τ).loc Cert.MergeGradIdeal.main_arg3)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v0_0) = v0 c
          ∧ r.2.mem ((c.tc : Thread Cert.MergeGradIdeal.nD Cert.MergeGradIdeal.τ).loc Cert.MergeGradIdeal.main_v0_1) = v1 c
          ∧ r.2.mem ((c.tc : Thread Cert.MergeGradIdeal.nD Cert.MergeGradIdeal.τ).loc Cert.MergeGradIdeal.main_v0_2) = v2 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ θ_run (Cert.MergeGradReferenceIdeal.defs (F := Ideal)) (onTc (τ := Cert.MergeGradReferenceIdeal.τ) (Cert.MergeGradReferenceIdeal.main (F := Ideal))) ⟨m', fun _ => 0, g'⟩ (fun r => ∀ c : Dev Cert.MergeGradReferenceIdeal.nD,
          r.2.mem ((c.tc : Thread Cert.MergeGradReferenceIdeal.nD Cert.MergeGradReferenceIdeal.τ).loc Cert.MergeGradReferenceIdeal.main_v23) = v0 c
          ∧ r.2.mem ((c.tc : Thread Cert.MergeGradReferenceIdeal.nD Cert.MergeGradReferenceIdeal.τ).loc Cert.MergeGradReferenceIdeal.main_v20) = v1 c
          ∧ r.2.mem ((c.tc : Thread Cert.MergeGradReferenceIdeal.nD Cert.MergeGradReferenceIdeal.τ).loc Cert.MergeGradReferenceIdeal.main_v26) = v2 c
          ∧ r.2.mem ((c.tc : Thread Cert.MergeGradReferenceIdeal.nD Cert.MergeGradReferenceIdeal.τ).loc Cert.MergeGradReferenceIdeal.main_arg0) = m' ((c.tc : Thread Cert.MergeGradReferenceIdeal.nD Cert.MergeGradReferenceIdeal.τ).loc Cert.MergeGradReferenceIdeal.main_arg0)
          ∧ r.2.mem ((c.tc : Thread Cert.MergeGradReferenceIdeal.nD Cert.MergeGradReferenceIdeal.τ).loc Cert.MergeGradReferenceIdeal.main_arg1) = m' ((c.tc : Thread Cert.MergeGradReferenceIdeal.nD Cert.MergeGradReferenceIdeal.τ).loc Cert.MergeGradReferenceIdeal.main_arg1)
          ∧ r.2.mem ((c.tc : Thread Cert.MergeGradReferenceIdeal.nD Cert.MergeGradReferenceIdeal.τ).loc Cert.MergeGradReferenceIdeal.main_arg2) = m' ((c.tc : Thread Cert.MergeGradReferenceIdeal.nD Cert.MergeGradReferenceIdeal.τ).loc Cert.MergeGradReferenceIdeal.main_arg2)
          ∧ r.2.mem ((c.tc : Thread Cert.MergeGradReferenceIdeal.nD Cert.MergeGradReferenceIdeal.τ).loc Cert.MergeGradReferenceIdeal.main_arg3) = m' ((c.tc : Thread Cert.MergeGradReferenceIdeal.nD Cert.MergeGradReferenceIdeal.τ).loc Cert.MergeGradReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_v7) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hAttend : Cert.Attend.Facts) (hAttendIdeal : Cert.AttendIdeal.Facts) (hAttendReferenceIdeal : Cert.AttendReferenceIdeal.Facts) (hHidden : Cert.Hidden.Facts) (hHiddenIdeal : Cert.HiddenIdeal.Facts) (hHiddenReferenceIdeal : Cert.HiddenReferenceIdeal.Facts) (hWeight : Cert.Weight.Facts) (hWeightIdeal : Cert.WeightIdeal.Facts) (hWeightReferenceIdeal : Cert.WeightReferenceIdeal.Facts) (hProject : Cert.Project.Facts) (hProjectIdeal : Cert.ProjectIdeal.Facts) (hProjectReferenceIdeal : Cert.ProjectReferenceIdeal.Facts) (hGate : Cert.Gate.Facts) (hGateIdeal : Cert.GateIdeal.Facts) (hGateReferenceIdeal : Cert.GateReferenceIdeal.Facts) (hGateWeight : Cert.GateWeight.Facts) (hGateWeightIdeal : Cert.GateWeightIdeal.Facts) (hGateWeightReferenceIdeal : Cert.GateWeightReferenceIdeal.Facts) (hAttnOut : Cert.AttnOut.Facts) (hAttnOutIdeal : Cert.AttnOutIdeal.Facts) (hAttnOutReferenceIdeal : Cert.AttnOutReferenceIdeal.Facts) (hOut : Cert.Out.Facts) (hOutIdeal : Cert.OutIdeal.Facts) (hOutReferenceIdeal : Cert.OutReferenceIdeal.Facts) (hSsmOut : Cert.SsmOut.Facts) (hSsmOutIdeal : Cert.SsmOutIdeal.Facts) (hSsmOutReferenceIdeal : Cert.SsmOutReferenceIdeal.Facts) (hRows : Cert.Rows.Facts) (hRowsIdeal : Cert.RowsIdeal.Facts) (hRowsReferenceIdeal : Cert.RowsReferenceIdeal.Facts) (hOutWeight : Cert.OutWeight.Facts) (hOutWeightIdeal : Cert.OutWeightIdeal.Facts) (hOutWeightReferenceIdeal : Cert.OutWeightReferenceIdeal.Facts) (hSsmRows : Cert.SsmRows.Facts) (hSsmRowsIdeal : Cert.SsmRowsIdeal.Facts) (hSsmRowsReferenceIdeal : Cert.SsmRowsReferenceIdeal.Facts) (hSsmWeight : Cert.SsmWeight.Facts) (hSsmWeightIdeal : Cert.SsmWeightIdeal.Facts) (hSsmWeightReferenceIdeal : Cert.SsmWeightReferenceIdeal.Facts) (hStepSize : Cert.StepSize.Facts) (hStepSizeIdeal : Cert.StepSizeIdeal.Facts) (hStepSizeReferenceIdeal : Cert.StepSizeReferenceIdeal.Facts) (hStepWeight : Cert.StepWeight.Facts) (hStepWeightIdeal : Cert.StepWeightIdeal.Facts) (hStepWeightReferenceIdeal : Cert.StepWeightReferenceIdeal.Facts) (hMerge : Cert.Merge.Facts) (hMergeIdeal : Cert.MergeIdeal.Facts) (hMergeReferenceIdeal : Cert.MergeReferenceIdeal.Facts) (hMergeGrad : Cert.MergeGrad.Facts) (hMergeGradIdeal : Cert.MergeGradIdeal.Facts) (hMergeGradReferenceIdeal : Cert.MergeGradReferenceIdeal.Facts) (hNorm : Cert.Norm.Facts) (hNormIdeal : Cert.NormIdeal.Facts) (hNormReferenceIdeal : Cert.NormReferenceIdeal.Facts) (hPre_finite_v_do : Cert.Pre_finite_v_do.Facts) (hPre_finite_q_k : Cert.Pre_finite_q_k.Facts),
    quiescent_Kernel (hKernel := hKernel)
    ∧ quiescent_KernelIdeal (hKernelIdeal := hKernelIdeal)
    ∧ quiescent_KernelIdeal_pre_finite_v_do (hKernelIdeal := hKernelIdeal) (hPre_finite_v_do := hPre_finite_v_do)
    ∧ quiescent_ReferenceIdeal (hReferenceIdeal := hReferenceIdeal)
    ∧ quiescent_ReferenceIdeal_pre_finite_v_do (hReferenceIdeal := hReferenceIdeal) (hPre_finite_v_do := hPre_finite_v_do)
    ∧ quiescent_Attend (hAttend := hAttend)
    ∧ quiescent_AttendIdeal (hAttendIdeal := hAttendIdeal)
    ∧ quiescent_AttendIdeal_pre_finite_q_k (hAttendIdeal := hAttendIdeal) (hPre_finite_q_k := hPre_finite_q_k)
    ∧ quiescent_AttendReferenceIdeal (hAttendReferenceIdeal := hAttendReferenceIdeal)
    ∧ quiescent_AttendReferenceIdeal_pre_finite_q_k (hAttendReferenceIdeal := hAttendReferenceIdeal) (hPre_finite_q_k := hPre_finite_q_k)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Gate (hGate := hGate)
    ∧ quiescent_GateIdeal (hGateIdeal := hGateIdeal)
    ∧ quiescent_GateReferenceIdeal (hGateReferenceIdeal := hGateReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_Out (hOut := hOut)
    ∧ quiescent_OutIdeal (hOutIdeal := hOutIdeal)
    ∧ quiescent_OutReferenceIdeal (hOutReferenceIdeal := hOutReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_SsmRows (hSsmRows := hSsmRows)
    ∧ quiescent_SsmRowsIdeal (hSsmRowsIdeal := hSsmRowsIdeal)
    ∧ quiescent_SsmRowsReferenceIdeal (hSsmRowsReferenceIdeal := hSsmRowsReferenceIdeal)
    ∧ quiescent_SsmWeight (hSsmWeight := hSsmWeight)
    ∧ quiescent_SsmWeightIdeal (hSsmWeightIdeal := hSsmWeightIdeal)
    ∧ quiescent_SsmWeightReferenceIdeal (hSsmWeightReferenceIdeal := hSsmWeightReferenceIdeal)
    ∧ quiescent_StepSize (hStepSize := hStepSize)
    ∧ quiescent_StepSizeIdeal (hStepSizeIdeal := hStepSizeIdeal)
    ∧ quiescent_StepSizeReferenceIdeal (hStepSizeReferenceIdeal := hStepSizeReferenceIdeal)
    ∧ quiescent_StepWeight (hStepWeight := hStepWeight)
    ∧ quiescent_StepWeightIdeal (hStepWeightIdeal := hStepWeightIdeal)
    ∧ quiescent_StepWeightReferenceIdeal (hStepWeightReferenceIdeal := hStepWeightReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeGrad (hMergeGrad := hMergeGrad)
    ∧ quiescent_MergeGradIdeal (hMergeGradIdeal := hMergeGradIdeal)
    ∧ quiescent_MergeGradReferenceIdeal (hMergeGradReferenceIdeal := hMergeGradReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite_v_do (hKernelIdeal := hKernelIdeal) (hReferenceIdeal := hReferenceIdeal) (hPre_finite_v_do := hPre_finite_v_do)
    ∧ preserves_Attend_AttendIdeal
    ∧ algebraic_AttendIdeal_AttendReferenceIdeal_pre_finite_q_k (hAttendIdeal := hAttendIdeal) (hAttendReferenceIdeal := hAttendReferenceIdeal) (hPre_finite_q_k := hPre_finite_q_k)
    ∧ preserves_Hidden_HiddenIdeal
    ∧ algebraic_HiddenIdeal_HiddenReferenceIdeal (hHiddenIdeal := hHiddenIdeal) (hHiddenReferenceIdeal := hHiddenReferenceIdeal)
    ∧ preserves_Weight_WeightIdeal
    ∧ algebraic_WeightIdeal_WeightReferenceIdeal (hWeightIdeal := hWeightIdeal) (hWeightReferenceIdeal := hWeightReferenceIdeal)
    ∧ preserves_Project_ProjectIdeal
    ∧ algebraic_ProjectIdeal_ProjectReferenceIdeal (hProjectIdeal := hProjectIdeal) (hProjectReferenceIdeal := hProjectReferenceIdeal)
    ∧ preserves_Gate_GateIdeal
    ∧ algebraic_GateIdeal_GateReferenceIdeal (hGateIdeal := hGateIdeal) (hGateReferenceIdeal := hGateReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_Out_OutIdeal
    ∧ algebraic_OutIdeal_OutReferenceIdeal (hOutIdeal := hOutIdeal) (hOutReferenceIdeal := hOutReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_Rows_RowsIdeal
    ∧ algebraic_RowsIdeal_RowsReferenceIdeal (hRowsIdeal := hRowsIdeal) (hRowsReferenceIdeal := hRowsReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_SsmRows_SsmRowsIdeal
    ∧ algebraic_SsmRowsIdeal_SsmRowsReferenceIdeal (hSsmRowsIdeal := hSsmRowsIdeal) (hSsmRowsReferenceIdeal := hSsmRowsReferenceIdeal)
    ∧ preserves_SsmWeight_SsmWeightIdeal
    ∧ algebraic_SsmWeightIdeal_SsmWeightReferenceIdeal (hSsmWeightIdeal := hSsmWeightIdeal) (hSsmWeightReferenceIdeal := hSsmWeightReferenceIdeal)
    ∧ preserves_StepSize_StepSizeIdeal
    ∧ algebraic_StepSizeIdeal_StepSizeReferenceIdeal (hStepSizeIdeal := hStepSizeIdeal) (hStepSizeReferenceIdeal := hStepSizeReferenceIdeal)
    ∧ preserves_StepWeight_StepWeightIdeal
    ∧ algebraic_StepWeightIdeal_StepWeightReferenceIdeal (hStepWeightIdeal := hStepWeightIdeal) (hStepWeightReferenceIdeal := hStepWeightReferenceIdeal)
    ∧ preserves_Merge_MergeIdeal
    ∧ algebraic_MergeIdeal_MergeReferenceIdeal (hMergeIdeal := hMergeIdeal) (hMergeReferenceIdeal := hMergeReferenceIdeal)
    ∧ preserves_MergeGrad_MergeGradIdeal
    ∧ algebraic_MergeGradIdeal_MergeGradReferenceIdeal (hMergeGradIdeal := hMergeGradIdeal) (hMergeGradReferenceIdeal := hMergeGradReferenceIdeal)
    ∧ preserves_Norm_NormIdeal
    ∧ algebraic_NormIdeal_NormReferenceIdeal (hNormIdeal := hNormIdeal) (hNormReferenceIdeal := hNormReferenceIdeal)
-- ==== Pre_finite_q_k.lean ====
abbrev S4096x9216 : Shape := ⟨2, ![4096, 9216]⟩
abbrev S4096x2048 : Shape := ⟨2, ![4096, 2048]⟩
abbrev S_ : Shape := ⟨0, ![]⟩

class Facts : Prop where
  slices_S4096x9216_S4096x2048_0_0 : S4096x9216.Slices ![0, 0] S4096x2048
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x9216 .bf16) : IVec S4096x2048 1 :=
  let main_v0 : FVec F S4096x2048 .bf16 := (extractStridedSlice S4096x2048 ![0, 0] · slices_S4096x9216_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  main_v4
-- ==== Pre_finite_v_do.lean ====
abbrev S4096x9216 : Shape := ⟨2, ![4096, 9216]⟩
abbrev S4096x1024 : Shape := ⟨2, ![4096, 1024]⟩
abbrev S_ : Shape := ⟨0, ![]⟩

class Facts : Prop where
  slices_S4096x9216_S4096x1024_0_2048 : S4096x9216.Slices ![0, 2048] S4096x1024
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x9216 .bf16) (main_arg1 : FVec F S4096x1024 .bf16) : IVec S4096x1024 1 :=
  let main_v0 : FVec F S4096x1024 .bf16 := (extractStridedSlice S4096x1024 ![0, 2048] · slices_S4096x9216_S4096x1024_0_2048) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_v9 : IVec S4096x1024 1 := andi main_v4 main_v8
  main_v9
-- ==== Kernel.lean ====
abbrev S4096x9216 : Shape := ⟨2, ![4096, 9216]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2x8x256x8x256 : Shape := ⟨7, ![2, 8, 2, 8, 256, 8, 256]⟩
abbrev S2x8x8x8x2x256x256 : Shape := ⟨7, ![2, 8, 8, 8, 2, 256, 256]⟩
abbrev S2x8x8x8x512x256 : Shape := ⟨6, ![2, 8, 8, 8, 512, 256]⟩
abbrev S2x8x1x1x512x256 : Shape := ⟨6, ![2, 8, 1, 1, 512, 256]⟩
abbrev S2x8x1x512x256 : Shape := ⟨5, ![2, 8, 1, 512, 256]⟩
abbrev S2x8x1x2x512x256 : Shape := ⟨6, ![2, 8, 1, 2, 512, 256]⟩
abbrev S2x8x2x512x256 : Shape := ⟨5, ![2, 8, 2, 512, 256]⟩
abbrev S2x8x1x3x512x256 : Shape := ⟨6, ![2, 8, 1, 3, 512, 256]⟩
abbrev S2x8x3x512x256 : Shape := ⟨5, ![2, 8, 3, 512, 256]⟩
abbrev S2x8x1x4x512x256 : Shape := ⟨6, ![2, 8, 1, 4, 512, 256]⟩
abbrev S2x8x4x512x256 : Shape := ⟨5, ![2, 8, 4, 512, 256]⟩
abbrev S2x8x1x5x512x256 : Shape := ⟨6, ![2, 8, 1, 5, 512, 256]⟩
abbrev S2x8x5x512x256 : Shape := ⟨5, ![2, 8, 5, 512, 256]⟩
abbrev S2x8x1x6x512x256 : Shape := ⟨6, ![2, 8, 1, 6, 512, 256]⟩
abbrev S2x8x6x512x256 : Shape := ⟨5, ![2, 8, 6, 512, 256]⟩
abbrev S2x8x1x7x512x256 : Shape := ⟨6, ![2, 8, 1, 7, 512, 256]⟩
abbrev S2x8x7x512x256 : Shape := ⟨5, ![2, 8, 7, 512, 256]⟩
abbrev S2x8x1x8x512x256 : Shape := ⟨6, ![2, 8, 1, 8, 512, 256]⟩
abbrev S2x8x8x512x256 : Shape := ⟨5, ![2, 8, 8, 512, 256]⟩
abbrev S2x8x36x512x256 : Shape := ⟨5, ![2, 8, 36, 512, 256]⟩
abbrev S2048x128 : Shape := ⟨2, ![2048, 128]⟩
abbrev S1x1x36x512x256 : Shape := ⟨5, ![1, 1, 36, 512, 256]⟩
abbrev S128x2048 : Shape := ⟨2, ![128, 2048]⟩
abbrev S2x512x256 : Shape := ⟨3, ![2, 512, 256]⟩
abbrev S256x128 : Shape := ⟨2, ![256, 128]⟩
abbrev S512x1 : Shape := ⟨2, ![512, 1]⟩
abbrev S256x256 : Shape := ⟨2, ![256, 256]⟩
abbrev S512x256 : Shape := ⟨2, ![512, 256]⟩
abbrev S512x128 : Shape := ⟨2, ![512, 128]⟩
abbrev S128x256 : Shape := ⟨2, ![128, 256]⟩
abbrev S128x512 : Shape := ⟨2, ![128, 512]⟩
abbrev S1x512x256 : Shape := ⟨3, ![1, 512, 256]⟩
abbrev S1x1x1x512x256 : Shape := ⟨5, ![1, 1, 1, 512, 256]⟩
abbrev S256x512 : Shape := ⟨2, ![256, 512]⟩

abbrev nBuf : Space → Nat
  | .hbm => 116
  | .vmem => 33
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .bf16⟩
  | .hbm, ⟨2, _⟩ => ⟨S4096x1024, .bf16⟩
  | .hbm, ⟨3, _⟩ => ⟨S2x2048x16x64, .bf16⟩
  | .hbm, ⟨4, _⟩ => ⟨S2x16x2048x64, .bf16⟩
  | .hbm, ⟨5, _⟩ => ⟨S2x16x2048x64, .f32⟩
  | .hbm, ⟨6, _⟩ => ⟨S4096x1024, .bf16⟩
  | .hbm, ⟨7, _⟩ => ⟨S2x2048x16x64, .bf16⟩
  | .hbm, ⟨8, _⟩ => ⟨S2x16x2048x64, .bf16⟩
  | .hbm, ⟨9, _⟩ => ⟨S2x16x2048x64, .f32⟩
  | .hbm, ⟨10, _⟩ => ⟨S2x16x2048x2048, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x16x2048x2048, .f32⟩
  | .hbm, ⟨22, _⟩ => ⟨S_, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .i1⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .i1⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S_, .f32⟩
  | .hbm, ⟨56, _⟩ => ⟨S2x16x2048x2048, .i1⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S_, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S_, .f32⟩
  | .hbm, ⟨67, _⟩ => ⟨S2x16x2048x2048, .i1⟩
  | .hbm, ⟨68, _⟩ => ⟨S2x16x2048x2048, .f32⟩
  | .hbm, ⟨69, _⟩ => ⟨S2x16x2048x2048, .f32⟩
  | .hbm, ⟨70, _⟩ => ⟨S2x8x2x8x256x8x256, .f32⟩
  | .hbm, ⟨71, _⟩ => ⟨S2x8x8x8x2x256x256, .f32⟩
  | .hbm, ⟨72, _⟩ => ⟨S2x8x8x8x512x256, .f32⟩
  | .hbm, ⟨73, _⟩ => ⟨S2x8x1x1x512x256, .f32⟩
  | .hbm, ⟨74, _⟩ => ⟨S2x8x1x512x256, .f32⟩
  | .hbm, ⟨75, _⟩ => ⟨S2x8x1x2x512x256, .f32⟩
  | .hbm, ⟨76, _⟩ => ⟨S2x8x2x512x256, .f32⟩
  | .hbm, ⟨77, _⟩ => ⟨S2x8x1x3x512x256, .f32⟩
  | .hbm, ⟨78, _⟩ => ⟨S2x8x3x512x256, .f32⟩
  | .hbm, ⟨79, _⟩ => ⟨S2x8x1x4x512x256, .f32⟩
  | .hbm, ⟨80, _⟩ => ⟨S2x8x4x512x256, .f32⟩
  | .hbm, ⟨81, _⟩ => ⟨S2x8x1x5x512x256, .f32⟩
  | .hbm, ⟨82, _⟩ => ⟨S2x8x5x512x256, .f32⟩
  | .hbm, ⟨83, _⟩ => ⟨S2x8x1x6x512x256, .f32⟩
  | .hbm, ⟨84, _⟩ => ⟨S2x8x6x512x256, .f32⟩
  | .hbm, ⟨85, _⟩ => ⟨S2x8x1x7x512x256, .f32⟩
  | .hbm, ⟨86, _⟩ => ⟨S2x8x7x512x256, .f32⟩
  | .hbm, ⟨87, _⟩ => ⟨S2x8x1x8x512x256, .f32⟩
  | .hbm, ⟨88, _⟩ => ⟨S2x8x8x512x256, .f32⟩
  | .hbm, ⟨89, _⟩ => ⟨S2x8x36x512x256, .f32⟩
  | .hbm, ⟨90, _⟩ => ⟨S2x8x36x512x256, .bf16⟩
  | .hbm, ⟨91, _⟩ => ⟨S2x16x2048x2048, .f32⟩
  | .hbm, ⟨92, _⟩ => ⟨S2x8x2x8x256x8x256, .f32⟩
  | .hbm, ⟨93, _⟩ => ⟨S2x8x8x8x2x256x256, .f32⟩
  | .hbm, ⟨94, _⟩ => ⟨S2x8x8x8x512x256, .f32⟩
  | .hbm, ⟨95, _⟩ => ⟨S2x8x1x1x512x256, .f32⟩
  | .hbm, ⟨96, _⟩ => ⟨S2x8x1x512x256, .f32⟩
  | .hbm, ⟨97, _⟩ => ⟨S2x8x1x2x512x256, .f32⟩
  | .hbm, ⟨98, _⟩ => ⟨S2x8x2x512x256, .f32⟩
  | .hbm, ⟨99, _⟩ => ⟨S2x8x1x3x512x256, .f32⟩
  | .hbm, ⟨100, _⟩ => ⟨S2x8x3x512x256, .f32⟩
  | .hbm, ⟨101, _⟩ => ⟨S2x8x1x4x512x256, .f32⟩
  | .hbm, ⟨102, _⟩ => ⟨S2x8x4x512x256, .f32⟩
  | .hbm, ⟨103, _⟩ => ⟨S2x8x1x5x512x256, .f32⟩
  | .hbm, ⟨104, _⟩ => ⟨S2x8x5x512x256, .f32⟩
  | .hbm, ⟨105, _⟩ => ⟨S2x8x1x6x512x256, .f32⟩
  | .hbm, ⟨106, _⟩ => ⟨S2x8x6x512x256, .f32⟩
  | .hbm, ⟨107, _⟩ => ⟨S2x8x1x7x512x256, .f32⟩
  | .hbm, ⟨108, _⟩ => ⟨S2x8x7x512x256, .f32⟩
  | .hbm, ⟨109, _⟩ => ⟨S2x8x1x8x512x256, .f32⟩
  | .hbm, ⟨110, _⟩ => ⟨S2x8x8x512x256, .f32⟩
  | .hbm, ⟨111, _⟩ => ⟨S2x8x36x512x256, .f32⟩
  | .hbm, ⟨112, _⟩ => ⟨S2x8x36x512x256, .bf16⟩
  | .hbm, ⟨113, _⟩ => ⟨S4096x1024, .bf16⟩
  | .hbm, ⟨114, _⟩ => ⟨S4096x1024, .bf16⟩
  | .hbm, ⟨115, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x1x36x512x256, .bf16⟩
  | .local _ .vmem, ⟨9, _⟩ => ⟨S1x1x36x512x256, .bf16⟩
  | .local _ .vmem, ⟨10, _⟩ => ⟨S1x1x36x512x256, .bf16⟩
  | .local _ .vmem, ⟨11, _⟩ => ⟨S1x1x36x512x256, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S128x2048, .bf16⟩
  | .local _ .vmem, ⟨19, _⟩ => ⟨S128x2048, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S128x2048, .bf16⟩
  | .local _ .vmem, ⟨26, _⟩ => ⟨S128x2048, .bf16⟩
  | .local _ .vmem, ⟨27, _⟩ => ⟨S2x512x256, .f32⟩
  | .local _ .vmem, ⟨28, _⟩ => ⟨S2x512x256, .bf16⟩
  | .local _ .vmem, ⟨29, _⟩ => ⟨S128x2048, .f32⟩
  | .local _ .vmem, ⟨30, _⟩ => ⟨S128x2048, .f32⟩
  | .local _ .vmem, ⟨31, _⟩ => ⟨S256x128, .f32⟩
  | .local _ .vmem, ⟨32, _⟩ => ⟨S512x1, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70_0 : Ref sig .tc := ⟨.hbm, 113, rfl⟩
abbrev main_v70_1 : Ref sig .tc := ⟨.hbm, 114, rfl⟩
abbrev main_v70_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_scratch14 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c8_i32 : BitVec 32 := 8#32
  let v83 : BitVec 32 := Scalar.addi c0_i32 c8_i32
  let c1_i32 : BitVec 32 := 1#32
  ⟨c0_i32, v83, c1_i32⟩
def k0_mult1 (k0_t1 : Fin k0_t1_loop.trips) : BitVec 32 :=
  let c0_i32 : BitVec 32 := 0#32
  let c1_i32 : BitVec 32 := 1#32
  let arg26 : BitVec 32 := Scf.iv c0_i32 c1_i32 k0_t1
  let c256_i32 : BitVec 32 := 256#32
  let v92 : BitVec 32 := Scalar.muli arg26 c256_i32
  v92
def k0_off1 (k0_t1 : Fin k0_t1_loop.trips) : Fin 2 → Nat :=
  let c0_i32 : BitVec 32 := 0#32
  let c1_i32 : BitVec 32 := 1#32
  let arg26 : BitVec 32 := Scf.iv c0_i32 c1_i32 k0_t1
  let c256_i32 : BitVec 32 := 256#32
  let v92 : BitVec 32 := Scalar.muli arg26 c256_i32
  let v93 : BitVec 32 := v92
  let v113 : Index := Scalar.indexCast v93
  let c0_56 : Index := 0#32
  ![v113.toNat, 0]
def k0_off2 (k0_t1 : Fin k0_t1_loop.trips) : Fin 2 → Nat :=
  let c0_58 : Index := 0#32
  let c0_i32 : BitVec 32 := 0#32
  let c1_i32 : BitVec 32 := 1#32
  let arg26 : BitVec 32 := Scf.iv c0_i32 c1_i32 k0_t1
  let c256_i32 : BitVec 32 := 256#32
  let v92 : BitVec 32 := Scalar.muli arg26 c256_i32
  let v93 : BitVec 32 := v92
  let v118 : Index := Scalar.indexCast v93
  ![0, v118.toNat]
def k0_mult2 : BitVec 32 :=
  let c0_i32_62 : BitVec 32 := 0#32
  c0_i32_62
def k0_cond1 (k0_t1 : Fin k0_t1_loop.trips) : BitVec 1 :=
  let c0_i32 : BitVec 32 := 0#32
  let c1_i32 : BitVec 32 := 1#32
  let arg26 : BitVec 32 := Scf.iv c0_i32 c1_i32 k0_t1
  let c0_i32_74 : BitVec 32 := 0#32
  let v143 : BitVec 1 := Scalar.cmpi .eq arg26 c0_i32_74
  let v144 : BitVec 32 := Scalar.extui v143
  let c0_i32_75 : BitVec 32 := 0#32
  let v145 : BitVec 1 := Scalar.cmpi .ne v144 c0_i32_75
  v145

def k0_off3 (k0_t1 : Fin k0_t1_loop.trips) : Fin 5 → Nat :=
  let c0_136 : Index := 0#32
  let c0_137 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c0_i32_135 : BitVec 32 := 0#32
  let v249 : BitVec 32 := Scalar.addi v112 c0_i32_135
  let v250 : Index := Scalar.indexCast v249
  let c0_138 : Index := 0#32
  let c0_139 : Index := 0#32
  ![0, 0, v250.toNat, 0, 0]
def k0_cond2 (k0_t1 : Fin k0_t1_loop.trips) : BitVec 1 :=
  let c0_i32 : BitVec 32 := 0#32
  let c1_i32 : BitVec 32 := 1#32
  let arg26 : BitVec 32 := Scf.iv c0_i32 c1_i32 k0_t1
  let c0_i32_76 : BitVec 32 := 0#32
  let v146 : BitVec 1 := Scalar.cmpi .sgt arg26 c0_i32_76
  let v147 : BitVec 32 := Scalar.extui v146
  let c0_i32_77 : BitVec 32 := 0#32
  let v148 : BitVec 1 := Scalar.cmpi .ne v147 c0_i32_77
  v148

def k0_mult3 : BitVec 32 :=
  let c256_i32_133 : BitVec 32 := 256#32
  c256_i32_133
def k0_off4 (k0_t1 : Fin k0_t1_loop.trips) : Fin 5 → Nat :=
  let c0_141 : Index := 0#32
  let c0_142 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c0_i32_140 : BitVec 32 := 0#32
  let v256 : BitVec 32 := Scalar.addi v112 c0_i32_140
  let v257 : Index := Scalar.indexCast v256
  let c0_143 : Index := 0#32
  let c0_144 : Index := 0#32
  ![0, 0, v257.toNat, 0, 0]
@[reducible] def k0_t2_loop (k0_t1 : Fin k0_t1_loop.trips) : Scf.Loop 32 :=
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_89 : BitVec 32 := 1#32
  ⟨c0_i32_86, v171, c1_i32_89⟩
def k0_mult4 (k0_t1 : Fin k0_t1_loop.trips) (k0_t2 : Fin (k0_t2_loop k0_t1).trips) : BitVec 32 :=
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let c1_i32_134 : BitVec 32 := 1#32
  let v249 : BitVec 32 := Scalar.addi v248 c1_i32_134
  let c1_i32_135 : BitVec 32 := 1#32
  let v250 : BitVec 32 := Scalar.addi v249 c1_i32_135
  let c256_i32_136 : BitVec 32 := 256#32
  let v251 : BitVec 32 := Scalar.muli v250 c256_i32_136
  v251
def k0_off5 (k0_t1 : Fin k0_t1_loop.trips) (k0_t2 : Fin (k0_t2_loop k0_t1).trips) (c1_i32_134 : BitVec 32) : Fin 2 → Nat :=
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let v249 : BitVec 32 := Scalar.addi v248 c1_i32_134
  let c1_i32_135 : BitVec 32 := 1#32
  let v250 : BitVec 32 := Scalar.addi v249 c1_i32_135
  let c256_i32_136 : BitVec 32 := 256#32
  let v251 : BitVec 32 := Scalar.muli v250 c256_i32_136
  let v252 : BitVec 32 := v251
  let v253 : Index := Scalar.indexCast v252
  let c0_137 : Index := 0#32
  ![v253.toNat, 0]
def k0_off6 (k0_t1 : Fin k0_t1_loop.trips) (k0_t2 : Fin (k0_t2_loop k0_t1).trips) (c1_i32_134 : BitVec 32) : Fin 5 → Nat :=
  let c0_144 : Index := 0#32
  let c0_145 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let v249 : BitVec 32 := Scalar.addi v248 c1_i32_134
  let v260 : BitVec 32 := Scalar.addi v112 v249
  let v261 : Index := Scalar.indexCast v260
  let c0_146 : Index := 0#32
  let c0_147 : Index := 0#32
  ![0, 0, v261.toNat, 0, 0]
def k0_mult5 (k0_t1 : Fin k0_t1_loop.trips) (k0_t2 : Fin (k0_t2_loop k0_t1).trips) : BitVec 32 :=
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let c1_i32_134 : BitVec 32 := 1#32
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  v292
def k0_off7 (k0_t1 : Fin k0_t1_loop.trips) (k0_t2 : Fin (k0_t2_loop k0_t1).trips) (c1_i32_134 : BitVec 32) : Fin 2 → Nat :=
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  let v293 : BitVec 32 := v292
  let v300 : Index := Scalar.indexCast v293
  let c0_167 : Index := 0#32
  ![v300.toNat, 0]
def k0_off8 (k0_t1 : Fin k0_t1_loop.trips) (k0_t2 : Fin (k0_t2_loop k0_t1).trips) (c1_i32_134 : BitVec 32) : Fin 2 → Nat :=
  let c0_172 : Index := 0#32
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  let v293 : BitVec 32 := v292
  let v310 : Index := Scalar.indexCast v293
  ![0, v310.toNat]
def k0_off9 (k0_t1 : Fin k0_t1_loop.trips) (k0_t2 : Fin (k0_t2_loop k0_t1).trips) (c1_i32_134 : BitVec 32) : Fin 5 → Nat :=
  let c0_176 : Index := 0#32
  let c0_177 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c2_i32_133 : BitVec 32 := 2#32
  let c0_i32_86 : BitVec 32 := 0#32
  let c1_i32_89 : BitVec 32 := 1#32
  let arg27 : BitVec 32 := Scf.iv c0_i32_86 c1_i32_89 k0_t2
  let v248 : BitVec 32 := Scalar.muli c2_i32_133 arg27
  let v249 : BitVec 32 := Scalar.addi v248 c1_i32_134
  let c1_i32_160 : BitVec 32 := 1#32
  let v291 : BitVec 32 := Scalar.subi v249 c1_i32_160
  let v320 : BitVec 32 := Scalar.addi v112 v291
  let v321 : Index := Scalar.indexCast v320
  let c0_178 : Index := 0#32
  let c0_179 : Index := 0#32
  ![0, 0, v321.toNat, 0, 0]
def k0_mult6 (k0_t1 : Fin k0_t1_loop.trips) (k0_t2 : Fin (k0_t2_loop k0_t1).trips) : BitVec 32 :=
  let c2_i32_182 : BitVec 32 := 2#32
  let c0_i32_86 : BitVec 32 := 0#32
  let c1_i32_89 : BitVec 32 := 1#32
  let arg27 : BitVec 32 := Scf.iv c0_i32_86 c1_i32_89 k0_t2
  let v330 : BitVec 32 := Scalar.muli c2_i32_182 arg27
  let c2_i32_183 : BitVec 32 := 2#32
  let v331 : BitVec 32 := Scalar.addi v330 c2_i32_183
  let c1_i32_184 : BitVec 32 := 1#32
  let v332 : BitVec 32 := Scalar.addi v331 c1_i32_184
  let c256_i32_185 : BitVec 32 := 256#32
  let v333 : BitVec 32 := Scalar.muli v332 c256_i32_185
  v333
def k0_mult7 (k0_t1 : Fin k0_t1_loop.trips) (k0_t2 : Fin (k0_t2_loop k0_t1).trips) : BitVec 32 :=
  let c2_i32_182 : BitVec 32 := 2#32
  let c0_i32_86 : BitVec 32 := 0#32
  let c1_i32_89 : BitVec 32 := 1#32
  let arg27 : BitVec 32 := Scf.iv c0_i32_86 c1_i32_89 k0_t2
  let v330 : BitVec 32 := Scalar.muli c2_i32_182 arg27
  let c2_i32_183 : BitVec 32 := 2#32
  let v331 : BitVec 32 := Scalar.addi v330 c2_i32_183
  let c1_i32_210 : BitVec 32 := 1#32
  let v373 : BitVec 32 := Scalar.subi v331 c1_i32_210
  let c256_i32_211 : BitVec 32 := 256#32
  let v374 : BitVec 32 := Scalar.muli v373 c256_i32_211
  v374
@[reducible] def k0_t3_loop (k0_t1 : Fin k0_t1_loop.trips) : Scf.Loop 32 :=
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let v168 : BitVec 32 := Scalar.addi c0_i32_86 v167
  let c1_i32_90 : BitVec 32 := 1#32
  ⟨v171, v168, c1_i32_90⟩
def k0_mult8 (k0_t1 : Fin k0_t1_loop.trips) (k0_t3 : Fin (k0_t3_loop k0_t1).trips) : BitVec 32 :=
  let c2_i32_133 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let c1_i32_134 : BitVec 32 := 1#32
  let v249 : BitVec 32 := Scalar.addi v248 c1_i32_134
  let c1_i32_135 : BitVec 32 := 1#32
  let v250 : BitVec 32 := Scalar.addi v249 c1_i32_135
  let c256_i32_136 : BitVec 32 := 256#32
  let v251 : BitVec 32 := Scalar.muli v250 c256_i32_136
  v251
def k0_off10 (k0_t1 : Fin k0_t1_loop.trips) (k0_t3 : Fin (k0_t3_loop k0_t1).trips) (c1_i32_134 : BitVec 32) : Fin 2 → Nat :=
  let c2_i32_133 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let v249 : BitVec 32 := Scalar.addi v248 c1_i32_134
  let c1_i32_135 : BitVec 32 := 1#32
  let v250 : BitVec 32 := Scalar.addi v249 c1_i32_135
  let c256_i32_136 : BitVec 32 := 256#32
  let v251 : BitVec 32 := Scalar.muli v250 c256_i32_136
  let v252 : BitVec 32 := v251
  let v253 : Index := Scalar.indexCast v252
  let c0_137 : Index := 0#32
  ![v253.toNat, 0]
def k0_off11 (k0_t1 : Fin k0_t1_loop.trips) (k0_t3 : Fin (k0_t3_loop k0_t1).trips) (c1_i32_134 : BitVec 32) : Fin 5 → Nat :=
  let c0_144 : Index := 0#32
  let c0_145 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c2_i32_133 : BitVec 32 := 2#32
  let c0_i32_86 : BitVec 32 := 0#32
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let v249 : BitVec 32 := Scalar.addi v248 c1_i32_134
  let v260 : BitVec 32 := Scalar.addi v112 v249
  let v261 : Index := Scalar.indexCast v260
  let c0_146 : Index := 0#32
  let c0_147 : Index := 0#32
  ![0, 0, v261.toNat, 0, 0]
def k0_mult9 (k0_t1 : Fin k0_t1_loop.trips) (k0_t3 : Fin (k0_t3_loop k0_t1).trips) : BitVec 32 :=
  let c2_i32_133 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let c1_i32_134 : BitVec 32 := 1#32
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  v292
def k0_off12 (k0_t1 : Fin k0_t1_loop.trips) (k0_t3 : Fin (k0_t3_loop k0_t1).trips) (c1_i32_134 : BitVec 32) : Fin 2 → Nat :=
  let c2_i32_133 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  let v293 : BitVec 32 := v292
  let v300 : Index := Scalar.indexCast v293
  let c0_167 : Index := 0#32
  ![v300.toNat, 0]
def k0_off13 (k0_t1 : Fin k0_t1_loop.trips) (k0_t3 : Fin (k0_t3_loop k0_t1).trips) (c1_i32_134 : BitVec 32) : Fin 2 → Nat :=
  let c0_172 : Index := 0#32
  let c2_i32_133 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let v249 : BitVec 32 := Scalar.addi v248 c1_i32_134
  let c1_i32_160 : BitVec 32 := 1#32
  let v291 : BitVec 32 := Scalar.subi v249 c1_i32_160
  let c256_i32_161 : BitVec 32 := 256#32
  let v292 : BitVec 32 := Scalar.muli v291 c256_i32_161
  let v293 : BitVec 32 := v292
  let v310 : Index := Scalar.indexCast v293
  ![0, v310.toNat]
def k0_off14 (k0_t1 : Fin k0_t1_loop.trips) (k0_t3 : Fin (k0_t3_loop k0_t1).trips) (c1_i32_134 : BitVec 32) : Fin 5 → Nat :=
  let c0_176 : Index := 0#32
  let c0_177 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c2_i32_133 : BitVec 32 := 2#32
  let c0_i32_86 : BitVec 32 := 0#32
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v248 : BitVec 32 := Scalar.muli c2_i32_133 arg27
  let v249 : BitVec 32 := Scalar.addi v248 c1_i32_134
  let c1_i32_160 : BitVec 32 := 1#32
  let v291 : BitVec 32 := Scalar.subi v249 c1_i32_160
  let v320 : BitVec 32 := Scalar.addi v112 v291
  let v321 : Index := Scalar.indexCast v320
  let c0_178 : Index := 0#32
  let c0_179 : Index := 0#32
  ![0, 0, v321.toNat, 0, 0]
def k0_mult10 (k0_t1 : Fin k0_t1_loop.trips) (k0_t3 : Fin (k0_t3_loop k0_t1).trips) : BitVec 32 :=
  let c2_i32_182 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v330 : BitVec 32 := Scalar.muli c2_i32_182 arg27
  let c2_i32_183 : BitVec 32 := 2#32
  let v331 : BitVec 32 := Scalar.addi v330 c2_i32_183
  let c1_i32_184 : BitVec 32 := 1#32
  let v332 : BitVec 32 := Scalar.addi v331 c1_i32_184
  let c256_i32_185 : BitVec 32 := 256#32
  let v333 : BitVec 32 := Scalar.muli v332 c256_i32_185
  v333
def k0_mult11 (k0_t1 : Fin k0_t1_loop.trips) (k0_t3 : Fin (k0_t3_loop k0_t1).trips) : BitVec 32 :=
  let c2_i32_182 : BitVec 32 := 2#32
  let c0_i32_86 : BitVec 32 := 0#32
  let c0_i32 : BitVec 32 := 0#32
  let c1_i32 : BitVec 32 := 1#32
  let arg26 : BitVec 32 := Scf.iv c0_i32 c1_i32 k0_t1
  let c1_i32_78 : BitVec 32 := 1#32
  let v149 : BitVec 32 := Scalar.subi arg26 c1_i32_78
  let c0_i32_80 : BitVec 32 := 0#32
  let v151 : BitVec 1 := Scalar.cmpi .sgt v149 c0_i32_80
  let v152 : BitVec 32 := Scalar.extui v151
  let c0_i32_81 : BitVec 32 := 0#32
  let v153 : BitVec 1 := Scalar.cmpi .slt v149 c0_i32_81
  let v154 : BitVec 32 := Scalar.extui v153
  let v155 : BitVec 32 := Scalar.subi v152 v154
  let c2_i32_79 : BitVec 32 := 2#32
  let c0_i32_82 : BitVec 32 := 0#32
  let v156 : BitVec 1 := Scalar.cmpi .sgt c2_i32_79 c0_i32_82
  let v157 : BitVec 32 := Scalar.extui v156
  let c0_i32_83 : BitVec 32 := 0#32
  let v158 : BitVec 1 := Scalar.cmpi .slt c2_i32_79 c0_i32_83
  let v159 : BitVec 32 := Scalar.extui v158
  let v160 : BitVec 32 := Scalar.subi v157 v159
  let v161 : BitVec 1 := Scalar.cmpi .ne v155 v160
  let v162 : BitVec 32 := Scalar.remsi v149 c2_i32_79
  let c0_i32_84 : BitVec 32 := 0#32
  let v163 : BitVec 1 := Scalar.cmpi .ne v162 c0_i32_84
  let v164 : BitVec 1 := Scalar.andi v161 v163
  let v150 : BitVec 32 := Scalar.divsi v149 c2_i32_79
  let c1_i32_85 : BitVec 32 := 1#32
  let v165 : BitVec 32 := Scalar.subi v150 c1_i32_85
  let v166 : BitVec 32 := Scalar.select v164 v165 v150
  let v167 : BitVec 32 := Scalar.subi v166 c0_i32_86
  let c1_i32_88 : BitVec 32 := 1#32
  let v169 : BitVec 32 := Scalar.divsi v167 c1_i32_88
  let v170 : BitVec 32 := Scalar.muli v169 c1_i32_88
  let v171 : BitVec 32 := Scalar.addi c0_i32_86 v170
  let c1_i32_90 : BitVec 32 := 1#32
  let arg27 : BitVec 32 := Scf.iv v171 c1_i32_90 k0_t3
  let v330 : BitVec 32 := Scalar.muli c2_i32_182 arg27
  let c2_i32_183 : BitVec 32 := 2#32
  let v331 : BitVec 32 := Scalar.addi v330 c2_i32_183
  let c1_i32_210 : BitVec 32 := 1#32
  let v373 : BitVec 32 := Scalar.subi v331 c1_i32_210
  let c256_i32_211 : BitVec 32 := 256#32
  let v374 : BitVec 32 := Scalar.muli v373 c256_i32_211
  v374
def k0_cond3 (k0_t1 : Fin k0_t1_loop.trips) : BitVec 1 :=
  let c0_i32 : BitVec 32 := 0#32
  let c1_i32 : BitVec 32 := 1#32
  let arg26 : BitVec 32 := Scf.iv c0_i32 c1_i32 k0_t1
  let c0_i32_91 : BitVec 32 := 0#32
  let v174 : BitVec 1 := Scalar.cmpi .sgt arg26 c0_i32_91
  let c2_i32_92 : BitVec 32 := 2#32
  let c0_i32_93 : BitVec 32 := 0#32
  let v175 : BitVec 1 := Scalar.cmpi .eq c2_i32_92 c0_i32_93
  let c1_i32_94 : BitVec 32 := 1#32
  let v176 : BitVec 32 := Scalar.select v175 c1_i32_94 c2_i32_92
  let v177 : BitVec 32 := Scalar.remsi arg26 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  let c0_i32_98 : BitVec 32 := 0#32
  let v185 : BitVec 1 := Scalar.cmpi .eq v184 c0_i32_98
  let v186 : BitVec 1 := Scalar.andi v174 v185
  let v187 : BitVec 32 := Scalar.extui v186
  let c0_i32_99 : BitVec 32 := 0#32
  let v188 : BitVec 1 := Scalar.cmpi .ne v187 c0_i32_99
  v188

def k0_mult12 (k0_t1 : Fin k0_t1_loop.trips) : BitVec 32 :=
  let c0_i32 : BitVec 32 := 0#32
  let c1_i32 : BitVec 32 := 1#32
  let arg26 : BitVec 32 := Scf.iv c0_i32 c1_i32 k0_t1
  let c1_i32_133 : BitVec 32 := 1#32
  let v248 : BitVec 32 := Scalar.subi arg26 c1_i32_133
  let c1_i32_134 : BitVec 32 := 1#32
  let v249 : BitVec 32 := Scalar.addi v248 c1_i32_134
  let c256_i32_135 : BitVec 32 := 256#32
  let v250 : BitVec 32 := Scalar.muli v249 c256_i32_135
  v250
def k0_off15 (k0_t1 : Fin k0_t1_loop.trips) : Fin 2 → Nat :=
  let c0_i32 : BitVec 32 := 0#32
  let c1_i32 : BitVec 32 := 1#32
  let arg26 : BitVec 32 := Scf.iv c0_i32 c1_i32 k0_t1
  let c1_i32_133 : BitVec 32 := 1#32
  let v248 : BitVec 32 := Scalar.subi arg26 c1_i32_133
  let c1_i32_134 : BitVec 32 := 1#32
  let v249 : BitVec 32 := Scalar.addi v248 c1_i32_134
  let c256_i32_135 : BitVec 32 := 256#32
  let v250 : BitVec 32 := Scalar.muli v249 c256_i32_135
  let v251 : BitVec 32 := v250
  let v252 : Index := Scalar.indexCast v251
  let c0_136 : Index := 0#32
  ![v252.toNat, 0]
def k0_off16 (k0_t1 : Fin k0_t1_loop.trips) : Fin 5 → Nat :=
  let c0_143 : Index := 0#32
  let c0_144 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c1_i32_133 : BitVec 32 := 1#32
  let v248 : BitVec 32 := Scalar.subi arg26 c1_i32_133
  let v259 : BitVec 32 := Scalar.addi v112 v248
  let v260 : Index := Scalar.indexCast v259
  let c0_145 : Index := 0#32
  let c0_146 : Index := 0#32
  ![0, 0, v260.toNat, 0, 0]
def k0_mult13 (k0_t1 : Fin k0_t1_loop.trips) : BitVec 32 :=
  let c0_i32 : BitVec 32 := 0#32
  let c1_i32 : BitVec 32 := 1#32
  let arg26 : BitVec 32 := Scf.iv c0_i32 c1_i32 k0_t1
  let c1_i32_133 : BitVec 32 := 1#32
  let v248 : BitVec 32 := Scalar.subi arg26 c1_i32_133
  let c1_i32_159 : BitVec 32 := 1#32
  let v290 : BitVec 32 := Scalar.subi v248 c1_i32_159
  let c256_i32_160 : BitVec 32 := 256#32
  let v291 : BitVec 32 := Scalar.muli v290 c256_i32_160
  v291
def k0_off17 (k0_t1 : Fin k0_t1_loop.trips) : Fin 2 → Nat :=
  let c0_i32 : BitVec 32 := 0#32
  let c1_i32 : BitVec 32 := 1#32
  let arg26 : BitVec 32 := Scf.iv c0_i32 c1_i32 k0_t1
  let c1_i32_133 : BitVec 32 := 1#32
  let v248 : BitVec 32 := Scalar.subi arg26 c1_i32_133
  let c1_i32_159 : BitVec 32 := 1#32
  let v290 : BitVec 32 := Scalar.subi v248 c1_i32_159
  let c256_i32_160 : BitVec 32 := 256#32
  let v291 : BitVec 32 := Scalar.muli v290 c256_i32_160
  let v292 : BitVec 32 := v291
  let v299 : Index := Scalar.indexCast v292
  let c0_166 : Index := 0#32
  ![v299.toNat, 0]
def k0_off18 (k0_t1 : Fin k0_t1_loop.trips) : Fin 2 → Nat :=
  let c0_171 : Index := 0#32
  let c0_i32 : BitVec 32 := 0#32
  let c1_i32 : BitVec 32 := 1#32
  let arg26 : BitVec 32 := Scf.iv c0_i32 c1_i32 k0_t1
  let c1_i32_133 : BitVec 32 := 1#32
  let v248 : BitVec 32 := Scalar.subi arg26 c1_i32_133
  let c1_i32_159 : BitVec 32 := 1#32
  let v290 : BitVec 32 := Scalar.subi v248 c1_i32_159
  let c256_i32_160 : BitVec 32 := 256#32
  let v291 : BitVec 32 := Scalar.muli v290 c256_i32_160
  let v292 : BitVec 32 := v291
  let v309 : Index := Scalar.indexCast v292
  ![0, v309.toNat]
def k0_off19 (k0_t1 : Fin k0_t1_loop.trips) : Fin 5 → Nat :=
  let c0_175 : Index := 0#32
  let c0_176 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c1_i32_133 : BitVec 32 := 1#32
  let v248 : BitVec 32 := Scalar.subi arg26 c1_i32_133
  let c1_i32_159 : BitVec 32 := 1#32
  let v290 : BitVec 32 := Scalar.subi v248 c1_i32_159
  let v319 : BitVec 32 := Scalar.addi v112 v290
  let v320 : Index := Scalar.indexCast v319
  let c0_177 : Index := 0#32
  let c0_178 : Index := 0#32
  ![0, 0, v320.toNat, 0, 0]
def k0_off20 (k0_t1 : Fin k0_t1_loop.trips) : Fin 5 → Nat :=
  let c0_183 : Index := 0#32
  let c0_184 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let v330 : BitVec 32 := Scalar.addi v112 arg26
  let v331 : Index := Scalar.indexCast v330
  let c0_185 : Index := 0#32
  let c0_186 : Index := 0#32
  ![0, 0, v331.toNat, 0, 0]
def k0_mult14 (k0_t1 : Fin k0_t1_loop.trips) : BitVec 32 :=
  let c0_i32 : BitVec 32 := 0#32
  let c1_i32 : BitVec 32 := 1#32
  let arg26 : BitVec 32 := Scf.iv c0_i32 c1_i32 k0_t1
  let c1_i32_201 : BitVec 32 := 1#32
  let v363 : BitVec 32 := Scalar.subi arg26 c1_i32_201
  let c256_i32_202 : BitVec 32 := 256#32
  let v364 : BitVec 32 := Scalar.muli v363 c256_i32_202
  v364
def k0_off21 (k0_t1 : Fin k0_t1_loop.trips) : Fin 2 → Nat :=
  let c0_i32 : BitVec 32 := 0#32
  let c1_i32 : BitVec 32 := 1#32
  let arg26 : BitVec 32 := Scf.iv c0_i32 c1_i32 k0_t1
  let c1_i32_201 : BitVec 32 := 1#32
  let v363 : BitVec 32 := Scalar.subi arg26 c1_i32_201
  let c256_i32_202 : BitVec 32 := 256#32
  let v364 : BitVec 32 := Scalar.muli v363 c256_i32_202
  let v365 : BitVec 32 := v364
  let v372 : Index := Scalar.indexCast v365
  let c0_208 : Index := 0#32
  ![v372.toNat, 0]
def k0_off22 (k0_t1 : Fin k0_t1_loop.trips) : Fin 2 → Nat :=
  let c0_213 : Index := 0#32
  let c0_i32 : BitVec 32 := 0#32
  let c1_i32 : BitVec 32 := 1#32
  let arg26 : BitVec 32 := Scf.iv c0_i32 c1_i32 k0_t1
  let c1_i32_201 : BitVec 32 := 1#32
  let v363 : BitVec 32 := Scalar.subi arg26 c1_i32_201
  let c256_i32_202 : BitVec 32 := 256#32
  let v364 : BitVec 32 := Scalar.muli v363 c256_i32_202
  let v365 : BitVec 32 := v364
  let v382 : Index := Scalar.indexCast v365
  ![0, v382.toNat]
def k0_cond4 (k0_t1 : Fin k0_t1_loop.trips) : BitVec 1 :=
  let c0_i32 : BitVec 32 := 0#32
  let c1_i32 : BitVec 32 := 1#32
  let arg26 : BitVec 32 := Scf.iv c0_i32 c1_i32 k0_t1
  let c2_i32_100 : BitVec 32 := 2#32
  let c0_i32_101 : BitVec 32 := 0#32
  let v189 : BitVec 1 := Scalar.cmpi .eq c2_i32_100 c0_i32_101
  let c1_i32_102 : BitVec 32 := 1#32
  let v190 : BitVec 32 := Scalar.select v189 c1_i32_102 c2_i32_100
  let v191 : BitVec 32 := Scalar.remsi arg26 v190
  let c0_i32_104 : BitVec 32 := 0#32
  let v193 : BitVec 1 := Scalar.cmpi .slt v191 c0_i32_104
  let c0_i32_105 : BitVec 32 := 0#32
  let v194 : BitVec 1 := Scalar.cmpi .slt v190 c0_i32_105
  let v195 : BitVec 1 := Scalar.xori v193 v194
  let c0_i32_103 : BitVec 32 := 0#32
  let v192 : BitVec 1 := Scalar.cmpi .ne v191 c0_i32_103
  let v196 : BitVec 1 := Scalar.andi v195 v192
  let v197 : BitVec 32 := Scalar.addi v191 v190
  let v198 : BitVec 32 := Scalar.select v196 v197 v191
  let c1_i32_106 : BitVec 32 := 1#32
  let v199 : BitVec 1 := Scalar.cmpi .eq v198 c1_i32_106
  let v200 : BitVec 32 := Scalar.extui v199
  let c0_i32_107 : BitVec 32 := 0#32
  let v201 : BitVec 1 := Scalar.cmpi .ne v200 c0_i32_107
  v201

def k0_off23 (k0_t1 : Fin k0_t1_loop.trips) : Fin 5 → Nat :=
  let c0_135 : Index := 0#32
  let c0_136 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let v249 : BitVec 32 := Scalar.addi v112 arg26
  let v250 : Index := Scalar.indexCast v249
  let c0_137 : Index := 0#32
  let c0_138 : Index := 0#32
  ![0, 0, v250.toNat, 0, 0]
def k0_mult15 (k0_t1 : Fin k0_t1_loop.trips) : BitVec 32 :=
  let c0_i32 : BitVec 32 := 0#32
  let c1_i32 : BitVec 32 := 1#32
  let arg26 : BitVec 32 := Scf.iv c0_i32 c1_i32 k0_t1
  let c1_i32_152 : BitVec 32 := 1#32
  let v282 : BitVec 32 := Scalar.subi arg26 c1_i32_152
  let c256_i32_153 : BitVec 32 := 256#32
  let v283 : BitVec 32 := Scalar.muli v282 c256_i32_153
  v283
def k0_off24 (k0_t1 : Fin k0_t1_loop.trips) : Fin 2 → Nat :=
  let c0_i32 : BitVec 32 := 0#32
  let c1_i32 : BitVec 32 := 1#32
  let arg26 : BitVec 32 := Scf.iv c0_i32 c1_i32 k0_t1
  let c1_i32_152 : BitVec 32 := 1#32
  let v282 : BitVec 32 := Scalar.subi arg26 c1_i32_152
  let c256_i32_153 : BitVec 32 := 256#32
  let v283 : BitVec 32 := Scalar.muli v282 c256_i32_153
  let v284 : BitVec 32 := v283
  let v291 : Index := Scalar.indexCast v284
  let c0_159 : Index := 0#32
  ![v291.toNat, 0]
def k0_off25 (k0_t1 : Fin k0_t1_loop.trips) : Fin 2 → Nat :=
  let c0_164 : Index := 0#32
  let c0_i32 : BitVec 32 := 0#32
  let c1_i32 : BitVec 32 := 1#32
  let arg26 : BitVec 32 := Scf.iv c0_i32 c1_i32 k0_t1
  let c1_i32_152 : BitVec 32 := 1#32
  let v282 : BitVec 32 := Scalar.subi arg26 c1_i32_152
  let c256_i32_153 : BitVec 32 := 256#32
  let v283 : BitVec 32 := Scalar.muli v282 c256_i32_153
  let v284 : BitVec 32 := v283
  let v301 : Index := Scalar.indexCast v284
  ![0, v301.toNat]
def k0_off26 (k0_t1 : Fin k0_t1_loop.trips) : Fin 5 → Nat :=
  let c0_168 : Index := 0#32
  let c0_169 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let c1_i32_152 : BitVec 32 := 1#32
  let v282 : BitVec 32 := Scalar.subi arg26 c1_i32_152
  let v311 : BitVec 32 := Scalar.addi v112 v282
  let v312 : Index := Scalar.indexCast v311
  let c0_170 : Index := 0#32
  let c0_171 : Index := 0#32
  ![0, 0, v312.toNat, 0, 0]
def k0_mult16 (k0_t1 : Fin k0_t1_loop.trips) : BitVec 32 :=
  let c0_i32 : BitVec 32 := 0#32
  let c1_i32 : BitVec 32 := 1#32
  let arg26 : BitVec 32 := Scf.iv c0_i32 c1_i32 k0_t1
  let c256_i32_109 : BitVec 32 := 256#32
  let v203 : BitVec 32 := Scalar.muli arg26 c256_i32_109
  v203
def k0_off27 (k0_t1 : Fin k0_t1_loop.trips) : Fin 3 → Nat :=
  let c0_i32 : BitVec 32 := 0#32
  let c1_i32 : BitVec 32 := 1#32
  let arg26 : BitVec 32 := Scf.iv c0_i32 c1_i32 k0_t1
  let c1_i32_108 : BitVec 32 := 1#32
  let v202 : BitVec 32 := Scalar.andi arg26 c1_i32_108
  let v205 : Index := Scalar.indexCast v202
  let c0_110 : Index := 0#32
  let c0_111 : Index := 0#32
  ![v205.toNat, 0, 0]
def k0_off28 (k0_t1 : Fin k0_t1_loop.trips) : Fin 5 → Nat :=
  let c0_123 : Index := 0#32
  let c0_124 : Index := 0#32
  let c0_i32 : BitVec 32 := 0#32
  let c1_i32 : BitVec 32 := 1#32
  let arg26 : BitVec 32 := Scf.iv c0_i32 c1_i32 k0_t1
  let c1_i32_49 : BitVec 32 := 1#32
  let v94 : BitVec 32 := Scalar.addi arg26 c1_i32_49
  let v95 : BitVec 32 := Scalar.muli arg26 v94
  let c0_i32_50 : BitVec 32 := 0#32
  let v97 : BitVec 1 := Scalar.cmpi .sgt v95 c0_i32_50
  let v98 : BitVec 32 := Scalar.extui v97
  let c0_i32_51 : BitVec 32 := 0#32
  let v99 : BitVec 1 := Scalar.cmpi .slt v95 c0_i32_51
  let v100 : BitVec 32 := Scalar.extui v99
  let v101 : BitVec 32 := Scalar.subi v98 v100
  let c2_i32 : BitVec 32 := 2#32
  let c0_i32_52 : BitVec 32 := 0#32
  let v102 : BitVec 1 := Scalar.cmpi .sgt c2_i32 c0_i32_52
  let v103 : BitVec 32 := Scalar.extui v102
  let c0_i32_53 : BitVec 32 := 0#32
  let v104 : BitVec 1 := Scalar.cmpi .slt c2_i32 c0_i32_53
  let v105 : BitVec 32 := Scalar.extui v104
  let v106 : BitVec 32 := Scalar.subi v103 v105
  let v107 : BitVec 1 := Scalar.cmpi .ne v101 v106
  let v108 : BitVec 32 := Scalar.remsi v95 c2_i32
  let c0_i32_54 : BitVec 32 := 0#32
  let v109 : BitVec 1 := Scalar.cmpi .ne v108 c0_i32_54
  let v110 : BitVec 1 := Scalar.andi v107 v109
  let v96 : BitVec 32 := Scalar.divsi v95 c2_i32
  let c1_i32_55 : BitVec 32 := 1#32
  let v111 : BitVec 32 := Scalar.subi v96 c1_i32_55
  let v112 : BitVec 32 := Scalar.select v110 v111 v96
  let v232 : BitVec 32 := Scalar.addi v112 arg26
  let v233 : Index := Scalar.indexCast v232
  let c0_125 : Index := 0#32
  let c0_126 : Index := 0#32
  ![0, 0, v233.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x36x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x36x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x9216 : Shape := ⟨2, ![4096, 9216]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩

abbrev nBuf : Space → Nat
  | .hbm => 185
  | .vmem => 0
  | .smem => 0
  | _ => 0

abbrev hbmTy0_0 (i : Nat) : BufTy := match i % 128 with
  | 0 => ⟨S4096x9216, .bf16⟩
  | 1 => ⟨S4096x1024, .bf16⟩
  | 2 => ⟨S4096x1024, .bf16⟩
  | 3 => ⟨S4096x1024, .bf16⟩
  | 4 => ⟨S4096x1024, .bf16⟩
  | 5 => ⟨S2x2048x16x64, .bf16⟩
  | 6 => ⟨S2x16x2048x64, .bf16⟩
  | 7 => ⟨S2x16x2048x64, .f32⟩
  | 8 => ⟨S2x2048x16x64, .bf16⟩
  | 9 => ⟨S2x16x2048x64, .bf16⟩
  | 10 => ⟨S2x16x2048x64, .f32⟩
  | 11 => ⟨S2x16x2048x2048, .f32⟩
  | 12 => ⟨S_, .f32⟩
  | 13 => ⟨S2x16x2048x2048, .f32⟩
  | 14 => ⟨S2x16x2048x2048, .f32⟩
  | 15 => ⟨S2048, .i32⟩
  | 16 => ⟨S2048x1, .i32⟩
  | 17 => ⟨S2048, .i32⟩
  | 18 => ⟨S1x2048, .i32⟩
  | 19 => ⟨S2048x2048, .i32⟩
  | 20 => ⟨S2048x2048, .i32⟩
  | 21 => ⟨S2048x2048, .i1⟩
  | 22 => ⟨S2x16x2048x2048, .f32⟩
  | 23 => ⟨S_, .f32⟩
  | 24 => ⟨S2x16x2048x2048, .f32⟩
  | 25 => ⟨S2x16x2048x2048, .f32⟩
  | 26 => ⟨S2x16x2048x2048, .f32⟩
  | 27 => ⟨S2x16x2048x2048, .f32⟩
  | 28 => ⟨S2x16x2048x2048, .i1⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S_, .f32⟩
  | 38 => ⟨S2x16x2048x2048, .f32⟩
  | 39 => ⟨S2x16x2048x2048, .i1⟩
  | 40 => ⟨S_, .f32⟩
  | 41 => ⟨S2x16x2048x2048, .f32⟩
  | 42 => ⟨S2x16x2048x2048, .f32⟩
  | 43 => ⟨S_, .f32⟩
  | 44 => ⟨S2x16x2048x2048, .f32⟩
  | 45 => ⟨S2x16x2048x2048, .i1⟩
  | 46 => ⟨S_, .f32⟩
  | 47 => ⟨S2x16x2048x2048, .f32⟩
  | 48 => ⟨S2x16x2048x2048, .f32⟩
  | 49 => ⟨S2x16x2048x2048, .f32⟩
  | 50 => ⟨S2x16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x16x2048x2048, .f32⟩
  | 59 => ⟨S2x16x2048x2048, .i1⟩
  | 60 => ⟨S_, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S_, .f32⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S2x16x2048x2048, .f32⟩
  | 72 => ⟨S_, .f32⟩
  | 73 => ⟨S2x16x2048x2048, .f32⟩
  | 74 => ⟨S2x16x2048x2048, .f32⟩
  | 75 => ⟨S2x16x2048x2048, .f32⟩
  | 76 => ⟨S2x16x2048x2048, .f32⟩
  | 77 => ⟨S2x16x2048x2048, .i1⟩
  | 78 => ⟨S2x16x2048x2048, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .f32⟩
  | 84 => ⟨S2x16x2048x2048, .f32⟩
  | 85 => ⟨S2x16x2048x2048, .f32⟩
  | 86 => ⟨S_, .f32⟩
  | 87 => ⟨S2x16x2048x2048, .f32⟩
  | 88 => ⟨S2x16x2048x2048, .i1⟩
  | 89 => ⟨S_, .f32⟩
  | 90 => ⟨S2x16x2048x2048, .f32⟩
  | 91 => ⟨S2x16x2048x2048, .f32⟩
  | 92 => ⟨S_, .f32⟩
  | 93 => ⟨S2x16x2048x2048, .f32⟩
  | 94 => ⟨S2x16x2048x2048, .i1⟩
  | 95 => ⟨S_, .f32⟩
  | 96 => ⟨S2x16x2048x2048, .f32⟩
  | 97 => ⟨S2x16x2048x2048, .f32⟩
  | 98 => ⟨S2x16x2048x2048, .f32⟩
  | 99 => ⟨S2x16x2048x2048, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S2x16x2048x2048, .f32⟩
  | 108 => ⟨S2x16x2048x2048, .i1⟩
  | 109 => ⟨S_, .f32⟩
  | 110 => ⟨S2x16x2048x2048, .f32⟩
  | 111 => ⟨S2x16x2048x2048, .f32⟩
  | 112 => ⟨S2x16x2048x2048, .f32⟩
  | 113 => ⟨S2x16x2048x2048, .f32⟩
  | 114 => ⟨S2x16x2048x2048, .f32⟩
  | 115 => ⟨S_, .f32⟩
  | 116 => ⟨S2x16x2048x2048, .f32⟩
  | 117 => ⟨S2x16x2048x2048, .f32⟩
  | 118 => ⟨S2x16x2048x2048, .f32⟩
  | 119 => ⟨S_, .f32⟩
  | 120 => ⟨S_, .f32⟩
  | 121 => ⟨S2x16x2048x2048, .i1⟩
  | 122 => ⟨S2x16x2048x2048, .f32⟩
  | 123 => ⟨S2x16x2048x2048, .f32⟩
  | 124 => ⟨S_, .f32⟩
  | 125 => ⟨S2x16x2048x2048, .f32⟩
  | 126 => ⟨S_, .f32⟩
  | 127 => ⟨S_, .f32⟩
  | _ => ⟨S4096x9216, .bf16⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S2x16x2048x2048, .f32⟩
  | 4 => ⟨S_, .f32⟩
  | 5 => ⟨S_, .f32⟩
  | 6 => ⟨S2x16x2048x2048, .i1⟩
  | 7 => ⟨S2x16x2048x2048, .f32⟩
  | 8 => ⟨S2x16x2048x2048, .f32⟩
  | 9 => ⟨S_, .f32⟩
  | 10 => ⟨S2x16x2048x2048, .f32⟩
  | 11 => ⟨S2x2048x16x64, .bf16⟩
  | 12 => ⟨S2x16x2048x64, .bf16⟩
  | 13 => ⟨S2x16x2048x64, .f32⟩
  | 14 => ⟨S2x16x2048x64, .f32⟩
  | 15 => ⟨S2x2048x16x64, .f32⟩
  | 16 => ⟨S4096x1024, .f32⟩
  | 17 => ⟨S4096x1024, .f32⟩
  | 18 => ⟨S2x2048x16x64, .f32⟩
  | 19 => ⟨S2x16x2048x64, .f32⟩
  | 20 => ⟨S2x16x64x2048, .f32⟩
  | 21 => ⟨S2x16x2048x64, .f32⟩
  | 22 => ⟨S2x16x2048x2048, .f32⟩
  | 23 => ⟨S2x16x2048x64, .bf16⟩
  | 24 => ⟨S2x2048x16x64, .bf16⟩
  | 25 => ⟨S4096x1024, .bf16⟩
  | 26 => ⟨S_, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S_, .f32⟩
  | 32 => ⟨S_, .f32⟩
  | 33 => ⟨S2x16x2048x2048, .f32⟩
  | 34 => ⟨S2x16x2048x2048, .f32⟩
  | 35 => ⟨S_, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S2x16x2048x2048, .f32⟩
  | 42 => ⟨S2x16x2048x2048, .f32⟩
  | 43 => ⟨S2x16x2048x2048, .f32⟩
  | 44 => ⟨S2x16x2048x2048, .f32⟩
  | 45 => ⟨S2x16x2048x2048, .f32⟩
  | 46 => ⟨S_, .f32⟩
  | 47 => ⟨S2x16x2048x2048, .f32⟩
  | 48 => ⟨S2x16x2048x2048, .f32⟩
  | 49 => ⟨S2x16x2048x64, .f32⟩
  | 50 => ⟨S2x16x2048x64, .f32⟩
  | 51 => ⟨S2x16x2048x64, .bf16⟩
  | 52 => ⟨S2x2048x16x64, .bf16⟩
  | 53 => ⟨S4096x1024, .bf16⟩
  | 54 => ⟨S2x16x2048x64, .bf16⟩
  | 55 => ⟨S2x2048x16x64, .bf16⟩
  | 56 => ⟨S4096x1024, .bf16⟩
  | _ => ⟨S4096x9216, .bf16⟩

abbrev hbmTy (i : Nat) : BufTy := match i / 128 with
  | 0 => hbmTy0_0 i
  | 1 => hbmTy0_1 i
  | _ => ⟨S4096x9216, .bf16⟩

abbrev bufTy : (tb : Table) → Fin (tcTables nBuf tb) → BufTy
  | .hbm, ⟨i, _⟩ => hbmTy i
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_call5_cst : Ref sig .tc := ⟨.hbm, 154, rfl⟩
abbrev main_call5_v0 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_call6_cst : Ref sig .tc := ⟨.hbm, 159, rfl⟩
abbrev main_call6_v0 : Ref sig .tc := ⟨.hbm, 160, rfl⟩
abbrev main_v46 : Ref sig .tc := ⟨.hbm, 161, rfl⟩
abbrev main_v47 : Ref sig .tc := ⟨.hbm, 162, rfl⟩
abbrev main_call7_cst : Ref sig .tc := ⟨.hbm, 163, rfl⟩
abbrev main_call7_v0 : Ref sig .tc := ⟨.hbm, 164, rfl⟩
abbrev main_v48 : Ref sig .tc := ⟨.hbm, 165, rfl⟩
abbrev main_call8_v0 : Ref sig .tc := ⟨.hbm, 166, rfl⟩
abbrev main_call8_v1 : Ref sig .tc := ⟨.hbm, 167, rfl⟩
abbrev main_v49 : Ref sig .tc := ⟨.hbm, 168, rfl⟩
abbrev main_v50 : Ref sig .tc := ⟨.hbm, 169, rfl⟩
abbrev main_call9_v0 : Ref sig .tc := ⟨.hbm, 170, rfl⟩
abbrev main_call9_v1 : Ref sig .tc := ⟨.hbm, 171, rfl⟩
abbrev main_v51 : Ref sig .tc := ⟨.hbm, 172, rfl⟩
abbrev main_v52 : Ref sig .tc := ⟨.hbm, 173, rfl⟩
abbrev main_cst_2 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== Attend.lean ====
abbrev S4096x9216 : Shape := ⟨2, ![4096, 9216]⟩
abbrev S4096x1024 : Shape := ⟨2, ![4096, 1024]⟩
abbrev S2x8x36x512x256 : Shape := ⟨5, ![2, 8, 36, 512, 256]⟩
abbrev S2048x128 : Shape := ⟨2, ![2048, 128]⟩
abbrev S1x1x36x512x256 : Shape := ⟨5, ![1, 1, 36, 512, 256]⟩
abbrev S4x512x256 : Shape := ⟨3, ![4, 512, 256]⟩
abbrev S2x512x256 : Shape := ⟨3, ![2, 512, 256]⟩
abbrev S256x128 : Shape := ⟨2, ![256, 128]⟩
abbrev S512x1 : Shape := ⟨2, ![512, 1]⟩
abbrev S256x256 : Shape := ⟨2, ![256, 256]⟩
abbrev S512x256 : Shape := ⟨2, ![512, 256]⟩
abbrev S512x128 : Shape := ⟨2, ![512, 128]⟩
abbrev S1x512x256 : Shape := ⟨3, ![1, 512, 256]⟩
abbrev S512x512 : Shape := ⟨2, ![512, 512]⟩
abbrev S1x1x1x512x256 : Shape := ⟨5, ![1, 1, 1, 512, 256]⟩
abbrev S256x512 : Shape := ⟨2, ![256, 512]⟩

abbrev nBuf : Space → Nat
  | .hbm => 4
  | .vmem => 21
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .f32⟩
  | .hbm, ⟨2, _⟩ => ⟨S2x8x36x512x256, .bf16⟩
  | .hbm, ⟨3, _⟩ => ⟨S2x8x36x512x256, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x36x512x256, .bf16⟩
  | .local _ .vmem, ⟨9, _⟩ => ⟨S1x1x36x512x256, .bf16⟩
  | .local _ .vmem, ⟨10, _⟩ => ⟨S1x1x36x512x256, .bf16⟩
  | .local _ .vmem, ⟨11, _⟩ => ⟨S1x1x36x512x256, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S4x512x256, .f32⟩
  | .local _ .vmem, ⟨18, _⟩ => ⟨S2x512x256, .bf16⟩
  | .local _ .vmem, ⟨19, _⟩ => ⟨S256x128, .f32⟩
  | .local _ .vmem, ⟨20, _⟩ => ⟨S512x1, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![2, 8], ![false, false]⟩

def k0_mult1 : BitVec 32 :=
  let c0_i32 : BitVec 32 := 0#32
  let c256_i32 : BitVec 32 := 256#32
  let v44 : BitVec 32 := Scalar.muli c0_i32 c256_i32
  v44
def k0_off1 : Fin 2 → Nat :=
  let c0_i32 : BitVec 32 := 0#32
  let c256_i32 : BitVec 32 := 256#32
  let v44 : BitVec 32 := Scalar.muli c0_i32 c256_i32
  let v45 : BitVec 32 := v44
  let v46 : Index := Scalar.indexCast v45
  let c0_19 : Index := 0#32
  ![v46.toNat, 0]
def k0_mult2 : BitVec 32 :=
  let c0_i32_21 : BitVec 32 := 0#32
  let c0_i32_22 : BitVec 32 := 0#32
  let v51 : BitVec 32 := Scalar.maxsi c0_i32_21 c0_i32_22
  let c256_i32_23 : BitVec 32 := 256#32
  let v52 : BitVec 32 := Scalar.muli v51 c256_i32_23
  v52
def k0_off2 : Fin 2 → Nat :=
  let c0_i32_21 : BitVec 32 := 0#32
  let c0_i32_22 : BitVec 32 := 0#32
  let v51 : BitVec 32 := Scalar.maxsi c0_i32_21 c0_i32_22
  let c256_i32_23 : BitVec 32 := 256#32
  let v52 : BitVec 32 := Scalar.muli v51 c256_i32_23
  let v53 : BitVec 32 := v52
  let v54 : Index := Scalar.indexCast v53
  let c0_24 : Index := 0#32
  ![v54.toNat, 0]
def k0_mult3 : BitVec 32 :=
  let c0_i32_28 : BitVec 32 := 0#32
  let c1_i32 : BitVec 32 := 1#32
  let v60 : BitVec 32 := Scalar.subi c0_i32_28 c1_i32
  let c0_i32_29 : BitVec 32 := 0#32
  let v61 : BitVec 32 := Scalar.maxsi v60 c0_i32_29
  let c256_i32_30 : BitVec 32 := 256#32
  let v62 : BitVec 32 := Scalar.muli v61 c256_i32_30
  v62
def k0_off3 : Fin 2 → Nat :=
  let c0_i32_28 : BitVec 32 := 0#32
  let c1_i32 : BitVec 32 := 1#32
  let v60 : BitVec 32 := Scalar.subi c0_i32_28 c1_i32
  let c0_i32_29 : BitVec 32 := 0#32
  let v61 : BitVec 32 := Scalar.maxsi v60 c0_i32_29
  let c256_i32_30 : BitVec 32 := 256#32
  let v62 : BitVec 32 := Scalar.muli v61 c256_i32_30
  let v63 : BitVec 32 := v62
  let v64 : Index := Scalar.indexCast v63
  let c0_31 : Index := 0#32
  ![v64.toNat, 0]
@[reducible] def k0_t1_loop : Scf.Loop 32 :=
  let c0_i32_35 : BitVec 32 := 0#32
  let c8_i32 : BitVec 32 := 8#32
  let v70 : BitVec 32 := Scalar.addi c0_i32_35 c8_i32
  let c1_i32_36 : BitVec 32 := 1#32
  ⟨c0_i32_35, v70, c1_i32_36⟩
def k0_mult4 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let c256_i32_38 : BitVec 32 := 256#32
  let v71 : BitVec 32 := Scalar.muli arg17 c256_i32_38
  v71
def k0_mult5 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let c256_i32_46 : BitVec 32 := 256#32
  let v92 : BitVec 32 := Scalar.muli arg17 c256_i32_46
  v92
def k0_off4 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let c256_i32_46 : BitVec 32 := 256#32
  let v92 : BitVec 32 := Scalar.muli arg17 c256_i32_46
  let v93 : BitVec 32 := v92
  let v94 : Index := Scalar.indexCast v93
  let c0_47 : Index := 0#32
  ![v94.toNat, 0]
def k0_off5 (k0_t1 : Fin k0_t1_loop.trips) : Fin 5 → Nat :=
  let c0_74 : Index := 0#32
  let c0_75 : Index := 0#32
  let c0_i32_35 : BitVec 32 := 0#32
  let c1_i32_36 : BitVec 32 := 1#32
  let arg17 : BitVec 32 := Scf.iv c0_i32_35 c1_i32_36 k0_t1
  let c1_i32_39 : BitVec 32 := 1#32
  let v73 : BitVec 32 := Scalar.addi arg17 c1_i32_39
  let v74 : BitVec 32 := Scalar.muli arg17 v73
  let c0_i32_40 : BitVec 32 := 0#32
  let v76 : BitVec 1 := Scalar.cmpi .sgt v74 c0_i32_40
  let v77 : BitVec 32 := Scalar.extui v76
  let c0_i32_41 : BitVec 32 := 0#32
  let v78 : BitVec 1 := Scalar.cmpi .slt v74 c0_i32_41
  let v79 : BitVec 32 := Scalar.extui v78
  let v80 : BitVec 32 := Scalar.subi v77 v79
  let c2_i32 : BitVec 32 := 2#32
  let c0_i32_42 : BitVec 32 := 0#32
  let v81 : BitVec 1 := Scalar.cmpi .sgt c2_i32 c0_i32_42
  let v82 : BitVec 32 := Scalar.extui v81
  let c0_i32_43 : BitVec 32 := 0#32
  let v83 : BitVec 1 := Scalar.cmpi .slt c2_i32 c0_i32_43
  let v84 : BitVec 32 := Scalar.extui v83
  let v85 : BitVec 32 := Scalar.subi v82 v84
  let v86 : BitVec 1 := Scalar.cmpi .ne v80 v85
  let v87 : BitVec 32 := Scalar.remsi v74 c2_i32
  let c0_i32_44 : BitVec 32 := 0#32
  let v88 : BitVec 1 := Scalar.cmpi .ne v87 c0_i32_44
  let v89 : BitVec 1 := Scalar.andi v86 v88
  let v75 : BitVec 32 := Scalar.divsi v74 c2_i32
  let c1_i32_45 : BitVec 32 := 1#32
  let v90 : BitVec 32 := Scalar.subi v75 c1_i32_45
  let v91 : BitVec 32 := Scalar.select v89 v90 v75
  let v112 : BitVec 32 := Scalar.addi v91 arg17
  let v148 : Index := Scalar.indexCast v112
  let c0_76 : Index := 0#32
  let c0_77 : Index := 0#32
  ![0, 0, v148.toNat, 0, 0]
def k0_mult6 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c256_i32_85 : BitVec 32 := 256#32
  let v167 : BitVec 32 := Scalar.muli v166 c256_i32_85
  v167
def k0_off6 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c256_i32_85 : BitVec 32 := 256#32
  let v167 : BitVec 32 := Scalar.muli v166 c256_i32_85
  let v168 : BitVec 32 := v167
  let v169 : Index := Scalar.indexCast v168
  let c0_86 : Index := 0#32
  ![v169.toNat, 0]
def k0_mult7 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c0_i32_88 : BitVec 32 := 0#32
  let v174 : BitVec 32 := Scalar.maxsi v166 c0_i32_88
  let c256_i32_89 : BitVec 32 := 256#32
  let v175 : BitVec 32 := Scalar.muli v174 c256_i32_89
  v175
def k0_off7 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c0_i32_88 : BitVec 32 := 0#32
  let v174 : BitVec 32 := Scalar.maxsi v166 c0_i32_88
  let c256_i32_89 : BitVec 32 := 256#32
  let v175 : BitVec 32 := Scalar.muli v174 c256_i32_89
  let v176 : BitVec 32 := v175
  let v177 : Index := Scalar.indexCast v176
  let c0_90 : Index := 0#32
  ![v177.toNat, 0]
def k0_mult8 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c1_i32_95 : BitVec 32 := 1#32
  let v183 : BitVec 32 := Scalar.subi v166 c1_i32_95
  let c0_i32_96 : BitVec 32 := 0#32
  let v184 : BitVec 32 := Scalar.maxsi v183 c0_i32_96
  let c256_i32_97 : BitVec 32 := 256#32
  let v185 : BitVec 32 := Scalar.muli v184 c256_i32_97
  v185
def k0_off8 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let c1_i32_84 : BitVec 32 := 1#32
  let v165 : BitVec 32 := Scalar.addi arg17 c1_i32_84
  let c7_i32 : BitVec 32 := 7#32
  let v166 : BitVec 32 := Scalar.minsi v165 c7_i32
  let c1_i32_95 : BitVec 32 := 1#32
  let v183 : BitVec 32 := Scalar.subi v166 c1_i32_95
  let c0_i32_96 : BitVec 32 := 0#32
  let v184 : BitVec 32 := Scalar.maxsi v183 c0_i32_96
  let c256_i32_97 : BitVec 32 := 256#32
  let v185 : BitVec 32 := Scalar.muli v184 c256_i32_97
  let v186 : BitVec 32 := v185
  let v187 : Index := Scalar.indexCast v186
  let c0_98 : Index := 0#32
  ![v187.toNat, 0]
@[reducible] def k0_t2_loop (k0_t1 : Fin k0_t1_loop.trips) : Scf.Loop 32 :=
  let c0_i32_110 : BitVec 32 := 0#32
  let c0_i32_35 : BitVec 32 := 0#32
  let c1_i32_36 : BitVec 32 := 1#32
  let arg17 : BitVec 32 := Scf.iv c0_i32_35 c1_i32_36 k0_t1
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_113 : BitVec 32 := 1#32
  ⟨c0_i32_110, v214, c1_i32_113⟩
def k0_mult9 (k0_t1 : Fin k0_t1_loop.trips) (k0_t2 : Fin (k0_t2_loop k0_t1).trips) : BitVec 32 :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c1_i32_113 : BitVec 32 := 1#32
  let arg18 : BitVec 32 := Scf.iv c0_i32_110 c1_i32_113 k0_t2
  let v249 : BitVec 32 := Scalar.muli c2_i32_138 arg18
  let c1_i32_139 : BitVec 32 := 1#32
  let v250 : BitVec 32 := Scalar.addi v249 c1_i32_139
  let v251 : BitVec 32 := Scalar.subi arg17 v250
  let c1_i32_140 : BitVec 32 := 1#32
  let v252 : BitVec 32 := Scalar.subi v251 c1_i32_140
  let c0_i32_141 : BitVec 32 := 0#32
  let v253 : BitVec 32 := Scalar.maxsi v252 c0_i32_141
  let c256_i32_142 : BitVec 32 := 256#32
  let v254 : BitVec 32 := Scalar.muli v253 c256_i32_142
  v254
def k0_off9 (k0_t1 : Fin k0_t1_loop.trips) (k0_t2 : Fin (k0_t2_loop k0_t1).trips) (c1_i32_139 : BitVec 32) : Fin 2 → Nat :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c1_i32_113 : BitVec 32 := 1#32
  let arg18 : BitVec 32 := Scf.iv c0_i32_110 c1_i32_113 k0_t2
  let v249 : BitVec 32 := Scalar.muli c2_i32_138 arg18
  let v250 : BitVec 32 := Scalar.addi v249 c1_i32_139
  let v251 : BitVec 32 := Scalar.subi arg17 v250
  let c1_i32_140 : BitVec 32 := 1#32
  let v252 : BitVec 32 := Scalar.subi v251 c1_i32_140
  let c0_i32_141 : BitVec 32 := 0#32
  let v253 : BitVec 32 := Scalar.maxsi v252 c0_i32_141
  let c256_i32_142 : BitVec 32 := 256#32
  let v254 : BitVec 32 := Scalar.muli v253 c256_i32_142
  let v255 : BitVec 32 := v254
  let v256 : Index := Scalar.indexCast v255
  let c0_143 : Index := 0#32
  ![v256.toNat, 0]
def k0_off10 (k0_t1 : Fin k0_t1_loop.trips) (k0_t2 : Fin (k0_t2_loop k0_t1).trips) (c1_i32_139 : BitVec 32) : Fin 5 → Nat :=
  let c0_161 : Index := 0#32
  let c0_162 : Index := 0#32
  let c0_i32_35 : BitVec 32 := 0#32
  let c1_i32_36 : BitVec 32 := 1#32
  let arg17 : BitVec 32 := Scf.iv c0_i32_35 c1_i32_36 k0_t1
  let c1_i32_39 : BitVec 32 := 1#32
  let v73 : BitVec 32 := Scalar.addi arg17 c1_i32_39
  let v74 : BitVec 32 := Scalar.muli arg17 v73
  let c0_i32_40 : BitVec 32 := 0#32
  let v76 : BitVec 1 := Scalar.cmpi .sgt v74 c0_i32_40
  let v77 : BitVec 32 := Scalar.extui v76
  let c0_i32_41 : BitVec 32 := 0#32
  let v78 : BitVec 1 := Scalar.cmpi .slt v74 c0_i32_41
  let v79 : BitVec 32 := Scalar.extui v78
  let v80 : BitVec 32 := Scalar.subi v77 v79
  let c2_i32 : BitVec 32 := 2#32
  let c0_i32_42 : BitVec 32 := 0#32
  let v81 : BitVec 1 := Scalar.cmpi .sgt c2_i32 c0_i32_42
  let v82 : BitVec 32 := Scalar.extui v81
  let c0_i32_43 : BitVec 32 := 0#32
  let v83 : BitVec 1 := Scalar.cmpi .slt c2_i32 c0_i32_43
  let v84 : BitVec 32 := Scalar.extui v83
  let v85 : BitVec 32 := Scalar.subi v82 v84
  let v86 : BitVec 1 := Scalar.cmpi .ne v80 v85
  let v87 : BitVec 32 := Scalar.remsi v74 c2_i32
  let c0_i32_44 : BitVec 32 := 0#32
  let v88 : BitVec 1 := Scalar.cmpi .ne v87 c0_i32_44
  let v89 : BitVec 1 := Scalar.andi v86 v88
  let v75 : BitVec 32 := Scalar.divsi v74 c2_i32
  let c1_i32_45 : BitVec 32 := 1#32
  let v90 : BitVec 32 := Scalar.subi v75 c1_i32_45
  let v91 : BitVec 32 := Scalar.select v89 v90 v75
  let v262 : BitVec 32 := Scalar.addi v91 arg17
  let c2_i32_138 : BitVec 32 := 2#32
  let c0_i32_110 : BitVec 32 := 0#32
  let c1_i32_113 : BitVec 32 := 1#32
  let arg18 : BitVec 32 := Scf.iv c0_i32_110 c1_i32_113 k0_t2
  let v249 : BitVec 32 := Scalar.muli c2_i32_138 arg18
  let v250 : BitVec 32 := Scalar.addi v249 c1_i32_139
  let v263 : BitVec 32 := Scalar.subi v262 v250
  let v295 : Index := Scalar.indexCast v263
  let c0_163 : Index := 0#32
  let c0_164 : Index := 0#32
  ![0, 0, v295.toNat, 0, 0]
def k0_mult10 (k0_t1 : Fin k0_t1_loop.trips) (k0_t2 : Fin (k0_t2_loop k0_t1).trips) : BitVec 32 :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c1_i32_113 : BitVec 32 := 1#32
  let arg18 : BitVec 32 := Scf.iv c0_i32_110 c1_i32_113 k0_t2
  let v249 : BitVec 32 := Scalar.muli c2_i32_138 arg18
  let c1_i32_139 : BitVec 32 := 1#32
  let v250 : BitVec 32 := Scalar.addi v249 c1_i32_139
  let v312 : BitVec 32 := Scalar.subi arg17 v250
  let c1_i32_171 : BitVec 32 := 1#32
  let v313 : BitVec 32 := Scalar.addi v312 c1_i32_171
  let c256_i32_172 : BitVec 32 := 256#32
  let v314 : BitVec 32 := Scalar.muli v313 c256_i32_172
  v314
def k0_off11 (k0_t1 : Fin k0_t1_loop.trips) (k0_t2 : Fin (k0_t2_loop k0_t1).trips) (c1_i32_139 : BitVec 32) : Fin 2 → Nat :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c1_i32_113 : BitVec 32 := 1#32
  let arg18 : BitVec 32 := Scf.iv c0_i32_110 c1_i32_113 k0_t2
  let v249 : BitVec 32 := Scalar.muli c2_i32_138 arg18
  let v250 : BitVec 32 := Scalar.addi v249 c1_i32_139
  let v312 : BitVec 32 := Scalar.subi arg17 v250
  let c1_i32_171 : BitVec 32 := 1#32
  let v313 : BitVec 32 := Scalar.addi v312 c1_i32_171
  let c256_i32_172 : BitVec 32 := 256#32
  let v314 : BitVec 32 := Scalar.muli v313 c256_i32_172
  let v315 : BitVec 32 := v314
  let v318 : Index := Scalar.indexCast v315
  let c0_176 : Index := 0#32
  ![v318.toNat, 0]
def k0_mult11 (k0_t1 : Fin k0_t1_loop.trips) (k0_t2 : Fin (k0_t2_loop k0_t1).trips) : BitVec 32 :=
  let c0_i32_35 : BitVec 32 := 0#32
  let c1_i32_36 : BitVec 32 := 1#32
  let arg17 : BitVec 32 := Scf.iv c0_i32_35 c1_i32_36 k0_t1
  let c2_i32_183 : BitVec 32 := 2#32
  let c0_i32_110 : BitVec 32 := 0#32
  let c1_i32_113 : BitVec 32 := 1#32
  let arg18 : BitVec 32 := Scf.iv c0_i32_110 c1_i32_113 k0_t2
  let v332 : BitVec 32 := Scalar.muli c2_i32_183 arg18
  let c2_i32_184 : BitVec 32 := 2#32
  let v333 : BitVec 32 := Scalar.addi v332 c2_i32_184
  let v334 : BitVec 32 := Scalar.subi arg17 v333
  let c1_i32_185 : BitVec 32 := 1#32
  let v335 : BitVec 32 := Scalar.subi v334 c1_i32_185
  let c0_i32_186 : BitVec 32 := 0#32
  let v336 : BitVec 32 := Scalar.maxsi v335 c0_i32_186
  let c256_i32_187 : BitVec 32 := 256#32
  let v337 : BitVec 32 := Scalar.muli v336 c256_i32_187
  v337
def k0_mult12 (k0_t1 : Fin k0_t1_loop.trips) (k0_t2 : Fin (k0_t2_loop k0_t1).trips) : BitVec 32 :=
  let c0_i32_35 : BitVec 32 := 0#32
  let c1_i32_36 : BitVec 32 := 1#32
  let arg17 : BitVec 32 := Scf.iv c0_i32_35 c1_i32_36 k0_t1
  let c2_i32_183 : BitVec 32 := 2#32
  let c0_i32_110 : BitVec 32 := 0#32
  let c1_i32_113 : BitVec 32 := 1#32
  let arg18 : BitVec 32 := Scf.iv c0_i32_110 c1_i32_113 k0_t2
  let v332 : BitVec 32 := Scalar.muli c2_i32_183 arg18
  let c2_i32_184 : BitVec 32 := 2#32
  let v333 : BitVec 32 := Scalar.addi v332 c2_i32_184
  let v395 : BitVec 32 := Scalar.subi arg17 v333
  let c1_i32_216 : BitVec 32 := 1#32
  let v396 : BitVec 32 := Scalar.addi v395 c1_i32_216
  let c256_i32_217 : BitVec 32 := 256#32
  let v397 : BitVec 32 := Scalar.muli v396 c256_i32_217
  v397
@[reducible] def k0_t3_loop (k0_t1 : Fin k0_t1_loop.trips) : Scf.Loop 32 :=
  let c0_i32_110 : BitVec 32 := 0#32
  let c0_i32_35 : BitVec 32 := 0#32
  let c1_i32_36 : BitVec 32 := 1#32
  let arg17 : BitVec 32 := Scf.iv c0_i32_35 c1_i32_36 k0_t1
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let v211 : BitVec 32 := Scalar.addi c0_i32_110 v210
  let c1_i32_114 : BitVec 32 := 1#32
  ⟨v214, v211, c1_i32_114⟩
def k0_mult13 (k0_t1 : Fin k0_t1_loop.trips) (k0_t3 : Fin (k0_t3_loop k0_t1).trips) : BitVec 32 :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v249 : BitVec 32 := Scalar.muli c2_i32_138 arg18
  let c1_i32_139 : BitVec 32 := 1#32
  let v250 : BitVec 32 := Scalar.addi v249 c1_i32_139
  let v251 : BitVec 32 := Scalar.subi arg17 v250
  let c1_i32_140 : BitVec 32 := 1#32
  let v252 : BitVec 32 := Scalar.subi v251 c1_i32_140
  let c0_i32_141 : BitVec 32 := 0#32
  let v253 : BitVec 32 := Scalar.maxsi v252 c0_i32_141
  let c256_i32_142 : BitVec 32 := 256#32
  let v254 : BitVec 32 := Scalar.muli v253 c256_i32_142
  v254
def k0_off12 (k0_t1 : Fin k0_t1_loop.trips) (k0_t3 : Fin (k0_t3_loop k0_t1).trips) (c1_i32_139 : BitVec 32) : Fin 2 → Nat :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v249 : BitVec 32 := Scalar.muli c2_i32_138 arg18
  let v250 : BitVec 32 := Scalar.addi v249 c1_i32_139
  let v251 : BitVec 32 := Scalar.subi arg17 v250
  let c1_i32_140 : BitVec 32 := 1#32
  let v252 : BitVec 32 := Scalar.subi v251 c1_i32_140
  let c0_i32_141 : BitVec 32 := 0#32
  let v253 : BitVec 32 := Scalar.maxsi v252 c0_i32_141
  let c256_i32_142 : BitVec 32 := 256#32
  let v254 : BitVec 32 := Scalar.muli v253 c256_i32_142
  let v255 : BitVec 32 := v254
  let v256 : Index := Scalar.indexCast v255
  let c0_143 : Index := 0#32
  ![v256.toNat, 0]
def k0_off13 (k0_t1 : Fin k0_t1_loop.trips) (k0_t3 : Fin (k0_t3_loop k0_t1).trips) (c1_i32_139 : BitVec 32) : Fin 5 → Nat :=
  let c0_161 : Index := 0#32
  let c0_162 : Index := 0#32
  let c0_i32_35 : BitVec 32 := 0#32
  let c1_i32_36 : BitVec 32 := 1#32
  let arg17 : BitVec 32 := Scf.iv c0_i32_35 c1_i32_36 k0_t1
  let c1_i32_39 : BitVec 32 := 1#32
  let v73 : BitVec 32 := Scalar.addi arg17 c1_i32_39
  let v74 : BitVec 32 := Scalar.muli arg17 v73
  let c0_i32_40 : BitVec 32 := 0#32
  let v76 : BitVec 1 := Scalar.cmpi .sgt v74 c0_i32_40
  let v77 : BitVec 32 := Scalar.extui v76
  let c0_i32_41 : BitVec 32 := 0#32
  let v78 : BitVec 1 := Scalar.cmpi .slt v74 c0_i32_41
  let v79 : BitVec 32 := Scalar.extui v78
  let v80 : BitVec 32 := Scalar.subi v77 v79
  let c2_i32 : BitVec 32 := 2#32
  let c0_i32_42 : BitVec 32 := 0#32
  let v81 : BitVec 1 := Scalar.cmpi .sgt c2_i32 c0_i32_42
  let v82 : BitVec 32 := Scalar.extui v81
  let c0_i32_43 : BitVec 32 := 0#32
  let v83 : BitVec 1 := Scalar.cmpi .slt c2_i32 c0_i32_43
  let v84 : BitVec 32 := Scalar.extui v83
  let v85 : BitVec 32 := Scalar.subi v82 v84
  let v86 : BitVec 1 := Scalar.cmpi .ne v80 v85
  let v87 : BitVec 32 := Scalar.remsi v74 c2_i32
  let c0_i32_44 : BitVec 32 := 0#32
  let v88 : BitVec 1 := Scalar.cmpi .ne v87 c0_i32_44
  let v89 : BitVec 1 := Scalar.andi v86 v88
  let v75 : BitVec 32 := Scalar.divsi v74 c2_i32
  let c1_i32_45 : BitVec 32 := 1#32
  let v90 : BitVec 32 := Scalar.subi v75 c1_i32_45
  let v91 : BitVec 32 := Scalar.select v89 v90 v75
  let v262 : BitVec 32 := Scalar.addi v91 arg17
  let c2_i32_138 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v249 : BitVec 32 := Scalar.muli c2_i32_138 arg18
  let v250 : BitVec 32 := Scalar.addi v249 c1_i32_139
  let v263 : BitVec 32 := Scalar.subi v262 v250
  let v295 : Index := Scalar.indexCast v263
  let c0_163 : Index := 0#32
  let c0_164 : Index := 0#32
  ![0, 0, v295.toNat, 0, 0]
def k0_mult14 (k0_t1 : Fin k0_t1_loop.trips) (k0_t3 : Fin (k0_t3_loop k0_t1).trips) : BitVec 32 :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v249 : BitVec 32 := Scalar.muli c2_i32_138 arg18
  let c1_i32_139 : BitVec 32 := 1#32
  let v250 : BitVec 32 := Scalar.addi v249 c1_i32_139
  let v312 : BitVec 32 := Scalar.subi arg17 v250
  let c1_i32_171 : BitVec 32 := 1#32
  let v313 : BitVec 32 := Scalar.addi v312 c1_i32_171
  let c256_i32_172 : BitVec 32 := 256#32
  let v314 : BitVec 32 := Scalar.muli v313 c256_i32_172
  v314
def k0_off14 (k0_t1 : Fin k0_t1_loop.trips) (k0_t3 : Fin (k0_t3_loop k0_t1).trips) (c1_i32_139 : BitVec 32) : Fin 2 → Nat :=
  let c0_i32_35 : BitVec 32 := 0#32
  let c1_i32_36 : BitVec 32 := 1#32
  let arg17 : BitVec 32 := Scf.iv c0_i32_35 c1_i32_36 k0_t1
  let c2_i32_138 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v249 : BitVec 32 := Scalar.muli c2_i32_138 arg18
  let v250 : BitVec 32 := Scalar.addi v249 c1_i32_139
  let v312 : BitVec 32 := Scalar.subi arg17 v250
  let c1_i32_171 : BitVec 32 := 1#32
  let v313 : BitVec 32 := Scalar.addi v312 c1_i32_171
  let c256_i32_172 : BitVec 32 := 256#32
  let v314 : BitVec 32 := Scalar.muli v313 c256_i32_172
  let v315 : BitVec 32 := v314
  let v318 : Index := Scalar.indexCast v315
  let c0_176 : Index := 0#32
  ![v318.toNat, 0]
def k0_mult15 (k0_t1 : Fin k0_t1_loop.trips) (k0_t3 : Fin (k0_t3_loop k0_t1).trips) : BitVec 32 :=
  let c0_i32_35 : BitVec 32 := 0#32
  let c1_i32_36 : BitVec 32 := 1#32
  let arg17 : BitVec 32 := Scf.iv c0_i32_35 c1_i32_36 k0_t1
  let c2_i32_183 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v332 : BitVec 32 := Scalar.muli c2_i32_183 arg18
  let c2_i32_184 : BitVec 32 := 2#32
  let v333 : BitVec 32 := Scalar.addi v332 c2_i32_184
  let v334 : BitVec 32 := Scalar.subi arg17 v333
  let c1_i32_185 : BitVec 32 := 1#32
  let v335 : BitVec 32 := Scalar.subi v334 c1_i32_185
  let c0_i32_186 : BitVec 32 := 0#32
  let v336 : BitVec 32 := Scalar.maxsi v335 c0_i32_186
  let c256_i32_187 : BitVec 32 := 256#32
  let v337 : BitVec 32 := Scalar.muli v336 c256_i32_187
  v337
def k0_mult16 (k0_t1 : Fin k0_t1_loop.trips) (k0_t3 : Fin (k0_t3_loop k0_t1).trips) : BitVec 32 :=
  let c0_i32_35 : BitVec 32 := 0#32
  let c1_i32_36 : BitVec 32 := 1#32
  let arg17 : BitVec 32 := Scf.iv c0_i32_35 c1_i32_36 k0_t1
  let c2_i32_183 : BitVec 32 := 2#32
  let c0_i32_110 : BitVec 32 := 0#32
  let c0_i32_104 : BitVec 32 := 0#32
  let v194 : BitVec 1 := Scalar.cmpi .sgt arg17 c0_i32_104
  let v195 : BitVec 32 := Scalar.extui v194
  let c0_i32_105 : BitVec 32 := 0#32
  let v196 : BitVec 1 := Scalar.cmpi .slt arg17 c0_i32_105
  let v197 : BitVec 32 := Scalar.extui v196
  let v198 : BitVec 32 := Scalar.subi v195 v197
  let c2_i32_103 : BitVec 32 := 2#32
  let c0_i32_106 : BitVec 32 := 0#32
  let v199 : BitVec 1 := Scalar.cmpi .sgt c2_i32_103 c0_i32_106
  let v200 : BitVec 32 := Scalar.extui v199
  let c0_i32_107 : BitVec 32 := 0#32
  let v201 : BitVec 1 := Scalar.cmpi .slt c2_i32_103 c0_i32_107
  let v202 : BitVec 32 := Scalar.extui v201
  let v203 : BitVec 32 := Scalar.subi v200 v202
  let v204 : BitVec 1 := Scalar.cmpi .ne v198 v203
  let v205 : BitVec 32 := Scalar.remsi arg17 c2_i32_103
  let c0_i32_108 : BitVec 32 := 0#32
  let v206 : BitVec 1 := Scalar.cmpi .ne v205 c0_i32_108
  let v207 : BitVec 1 := Scalar.andi v204 v206
  let v193 : BitVec 32 := Scalar.divsi arg17 c2_i32_103
  let c1_i32_109 : BitVec 32 := 1#32
  let v208 : BitVec 32 := Scalar.subi v193 c1_i32_109
  let v209 : BitVec 32 := Scalar.select v207 v208 v193
  let v210 : BitVec 32 := Scalar.subi v209 c0_i32_110
  let c1_i32_112 : BitVec 32 := 1#32
  let v212 : BitVec 32 := Scalar.divsi v210 c1_i32_112
  let v213 : BitVec 32 := Scalar.muli v212 c1_i32_112
  let v214 : BitVec 32 := Scalar.addi c0_i32_110 v213
  let c1_i32_114 : BitVec 32 := 1#32
  let arg18 : BitVec 32 := Scf.iv v214 c1_i32_114 k0_t3
  let v332 : BitVec 32 := Scalar.muli c2_i32_183 arg18
  let c2_i32_184 : BitVec 32 := 2#32
  let v333 : BitVec 32 := Scalar.addi v332 c2_i32_184
  let v395 : BitVec 32 := Scalar.subi arg17 v333
  let c1_i32_216 : BitVec 32 := 1#32
  let v396 : BitVec 32 := Scalar.addi v395 c1_i32_216
  let c256_i32_217 : BitVec 32 := 256#32
  let v397 : BitVec 32 := Scalar.muli v396 c256_i32_217
  v397
def k0_cond1 (k0_t1 : Fin k0_t1_loop.trips) : BitVec 1 :=
  let c0_i32_35 : BitVec 32 := 0#32
  let c1_i32_36 : BitVec 32 := 1#32
  let arg17 : BitVec 32 := Scf.iv c0_i32_35 c1_i32_36 k0_t1
  let c2_i32_115 : BitVec 32 := 2#32
  let c0_i32_116 : BitVec 32 := 0#32
  let v217 : BitVec 1 := Scalar.cmpi .eq c2_i32_115 c0_i32_116
  let c1_i32_117 : BitVec 32 := 1#32
  let v218 : BitVec 32 := Scalar.select v217 c1_i32_117 c2_i32_115
  let v219 : BitVec 32 := Scalar.remsi arg17 v218
  let c0_i32_119 : BitVec 32 := 0#32
  let v221 : BitVec 1 := Scalar.cmpi .slt v219 c0_i32_119
  let c0_i32_120 : BitVec 32 := 0#32
  let v222 : BitVec 1 := Scalar.cmpi .slt v218 c0_i32_120
  let v223 : BitVec 1 := Scalar.xori v221 v222
  let c0_i32_118 : BitVec 32 := 0#32
  let v220 : BitVec 1 := Scalar.cmpi .ne v219 c0_i32_118
  let v224 : BitVec 1 := Scalar.andi v223 v220
  let v225 : BitVec 32 := Scalar.addi v219 v218
  let v226 : BitVec 32 := Scalar.select v224 v225 v219
  let c1_i32_121 : BitVec 32 := 1#32
  let v227 : BitVec 1 := Scalar.cmpi .eq v226 c1_i32_121
  let v228 : BitVec 32 := Scalar.extui v227
  let c0_i32_122 : BitVec 32 := 0#32
  let v229 : BitVec 1 := Scalar.cmpi .ne v228 c0_i32_122
  v229

def k0_mult17 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let v249 : BitVec 32 := Scalar.subi arg17 arg17
  let c1_i32_138 : BitVec 32 := 1#32
  let v250 : BitVec 32 := Scalar.subi v249 c1_i32_138
  let c0_i32_139 : BitVec 32 := 0#32
  let v251 : BitVec 32 := Scalar.maxsi v250 c0_i32_139
  let c256_i32_140 : BitVec 32 := 256#32
  let v252 : BitVec 32 := Scalar.muli v251 c256_i32_140
  v252
def k0_off15 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let v249 : BitVec 32 := Scalar.subi arg17 arg17
  let c1_i32_138 : BitVec 32 := 1#32
  let v250 : BitVec 32 := Scalar.subi v249 c1_i32_138
  let c0_i32_139 : BitVec 32 := 0#32
  let v251 : BitVec 32 := Scalar.maxsi v250 c0_i32_139
  let c256_i32_140 : BitVec 32 := 256#32
  let v252 : BitVec 32 := Scalar.muli v251 c256_i32_140
  let v253 : BitVec 32 := v252
  let v254 : Index := Scalar.indexCast v253
  let c0_141 : Index := 0#32
  ![v254.toNat, 0]
def k0_off16 (k0_t1 : Fin k0_t1_loop.trips) : Fin 5 → Nat :=
  let c0_159 : Index := 0#32
  let c0_160 : Index := 0#32
  let c0_i32_35 : BitVec 32 := 0#32
  let c1_i32_36 : BitVec 32 := 1#32
  let arg17 : BitVec 32 := Scf.iv c0_i32_35 c1_i32_36 k0_t1
  let c1_i32_39 : BitVec 32 := 1#32
  let v73 : BitVec 32 := Scalar.addi arg17 c1_i32_39
  let v74 : BitVec 32 := Scalar.muli arg17 v73
  let c0_i32_40 : BitVec 32 := 0#32
  let v76 : BitVec 1 := Scalar.cmpi .sgt v74 c0_i32_40
  let v77 : BitVec 32 := Scalar.extui v76
  let c0_i32_41 : BitVec 32 := 0#32
  let v78 : BitVec 1 := Scalar.cmpi .slt v74 c0_i32_41
  let v79 : BitVec 32 := Scalar.extui v78
  let v80 : BitVec 32 := Scalar.subi v77 v79
  let c2_i32 : BitVec 32 := 2#32
  let c0_i32_42 : BitVec 32 := 0#32
  let v81 : BitVec 1 := Scalar.cmpi .sgt c2_i32 c0_i32_42
  let v82 : BitVec 32 := Scalar.extui v81
  let c0_i32_43 : BitVec 32 := 0#32
  let v83 : BitVec 1 := Scalar.cmpi .slt c2_i32 c0_i32_43
  let v84 : BitVec 32 := Scalar.extui v83
  let v85 : BitVec 32 := Scalar.subi v82 v84
  let v86 : BitVec 1 := Scalar.cmpi .ne v80 v85
  let v87 : BitVec 32 := Scalar.remsi v74 c2_i32
  let c0_i32_44 : BitVec 32 := 0#32
  let v88 : BitVec 1 := Scalar.cmpi .ne v87 c0_i32_44
  let v89 : BitVec 1 := Scalar.andi v86 v88
  let v75 : BitVec 32 := Scalar.divsi v74 c2_i32
  let c1_i32_45 : BitVec 32 := 1#32
  let v90 : BitVec 32 := Scalar.subi v75 c1_i32_45
  let v91 : BitVec 32 := Scalar.select v89 v90 v75
  let v260 : BitVec 32 := Scalar.addi v91 arg17
  let v261 : BitVec 32 := Scalar.subi v260 arg17
  let v293 : Index := Scalar.indexCast v261
  let c0_161 : Index := 0#32
  let c0_162 : Index := 0#32
  ![0, 0, v293.toNat, 0, 0]
def k0_mult18 (k0_t1 : Fin k0_t1_loop.trips) : BitVec 32 :=
  let c0_i32_35 : BitVec 32 := 0#32
  let c1_i32_36 : BitVec 32 := 1#32
  let arg17 : BitVec 32 := Scf.iv c0_i32_35 c1_i32_36 k0_t1
  let v310 : BitVec 32 := Scalar.subi arg17 arg17
  let c1_i32_169 : BitVec 32 := 1#32
  let v311 : BitVec 32 := Scalar.addi v310 c1_i32_169
  let c256_i32_170 : BitVec 32 := 256#32
  let v312 : BitVec 32 := Scalar.muli v311 c256_i32_170
  v312
def k0_off17 (k0_t1 : Fin k0_t1_loop.trips) : Fin 2 → Nat :=
  let c0_i32_35 : BitVec 32 := 0#32
  let c1_i32_36 : BitVec 32 := 1#32
  let arg17 : BitVec 32 := Scf.iv c0_i32_35 c1_i32_36 k0_t1
  let v310 : BitVec 32 := Scalar.subi arg17 arg17
  let c1_i32_169 : BitVec 32 := 1#32
  let v311 : BitVec 32 := Scalar.addi v310 c1_i32_169
  let c256_i32_170 : BitVec 32 := 256#32
  let v312 : BitVec 32 := Scalar.muli v311 c256_i32_170
  let v313 : BitVec 32 := v312
  let v316 : Index := Scalar.indexCast v313
  let c0_174 : Index := 0#32
  ![v316.toNat, 0]
def k0_off18 (k0_t1 : Fin k0_t1_loop.trips) : Fin 3 → Nat :=
  let c0_i32_35 : BitVec 32 := 0#32
  let c1_i32_36 : BitVec 32 := 1#32
  let arg17 : BitVec 32 := Scf.iv c0_i32_35 c1_i32_36 k0_t1
  let c1_i32_123 : BitVec 32 := 1#32
  let v230 : BitVec 32 := Scalar.andi arg17 c1_i32_123
  let v231 : Index := Scalar.indexCast v230
  let c0_124 : Index := 0#32
  let c0_125 : Index := 0#32
  ![v231.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x36x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x36x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttendIdeal.lean ====
variable {F : FTy → Type} [FloatOps F]
-- ==== AttendReferenceIdeal.lean ====
abbrev S4096x9216 : Shape := ⟨2, ![4096, 9216]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x2048x16x64, .bf16⟩
  | .hbm, ⟨5, _⟩ => ⟨S2x16x2048x64, .bf16⟩
  | .hbm, ⟨6, _⟩ => ⟨S2x16x2048x64, .f32⟩
  | .hbm, ⟨7, _⟩ => ⟨S2x2048x16x64, .bf16⟩
  | .hbm, ⟨8, _⟩ => ⟨S2x16x2048x64, .bf16⟩
  | .hbm, ⟨9, _⟩ => ⟨S2x16x2048x64, .f32⟩
  | .hbm, ⟨10, _⟩ => ⟨S2x16x2048x2048, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x16x2048x2048, .f32⟩
  | .hbm, ⟨22, _⟩ => ⟨S_, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .i1⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .i1⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S_, .f32⟩
  | .hbm, ⟨56, _⟩ => ⟨S2x16x2048x2048, .i1⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S_, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S_, .f32⟩
  | .hbm, ⟨67, _⟩ => ⟨S2x16x2048x2048, .i1⟩
  | .hbm, ⟨68, _⟩ => ⟨S2x16x2048x2048, .f32⟩
  | .hbm, ⟨69, _⟩ => ⟨S2x16x2048x2048, .f32⟩
  | .hbm, ⟨70, _⟩ => ⟨S2x2048x16x64, .bf16⟩
  | .hbm, ⟨71, _⟩ => ⟨S2x16x2048x64, .bf16⟩
  | .hbm, ⟨72, _⟩ => ⟨S2x16x2048x64, .f32⟩
  | .hbm, ⟨73, _⟩ => ⟨S2x16x2048x64, .f32⟩
  | .hbm, ⟨74, _⟩ => ⟨S2x2048x16x64, .f32⟩
  | .hbm, ⟨75, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Hidden.lean ====
abbrev S4096x1024 : Shape := ⟨2, ![4096, 1024]⟩
abbrev S11296x1024 : Shape := ⟨2, ![11296, 1024]⟩
abbrev S4096x9216 : Shape := ⟨2, ![4096, 9216]⟩
abbrev S4096x32 : Shape := ⟨2, ![4096, 32]⟩
abbrev S4096x2048 : Shape := ⟨2, ![4096, 2048]⟩
abbrev S2048x1024 : Shape := ⟨2, ![2048, 1024]⟩
abbrev S32x1024 : Shape := ⟨2, ![32, 1024]⟩
abbrev S_ : Shape := ⟨0, ![]⟩
abbrev S128x1024 : Shape := ⟨2, ![128, 1024]⟩
abbrev S4096x128 : Shape := ⟨2, ![4096, 128]⟩
abbrev S1024x2304 : Shape := ⟨2, ![1024, 2304]⟩
abbrev S2304x1024 : Shape := ⟨2, ![2304, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x9216, .bf16⟩
  | .hbm, ⟨3, _⟩ => ⟨S4096x32, .bf16⟩
  | .hbm, ⟨4, _⟩ => ⟨S4096x2048, .bf16⟩
  | .hbm, ⟨5, _⟩ => ⟨S2048x1024, .bf16⟩
  | .hbm, ⟨6, _⟩ => ⟨S32x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S_, .i32⟩
  | .hbm, ⟨11, _⟩ => ⟨S_, .bf16⟩
  | .hbm, ⟨12, _⟩ => ⟨S4096x128, .bf16⟩
  | .hbm, ⟨13, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== HiddenReferenceIdeal.lean ====
abbrev S4096x1024 : Shape := ⟨2, ![4096, 1024]⟩
abbrev S11296x1024 : Shape := ⟨2, ![11296, 1024]⟩
abbrev S4096x9216 : Shape := ⟨2, ![4096, 9216]⟩
abbrev S4096x32 : Shape := ⟨2, ![4096, 32]⟩
abbrev S4096x2048 : Shape := ⟨2, ![4096, 2048]⟩
abbrev S4096x11296 : Shape := ⟨2, ![4096, 11296]⟩
abbrev S1024x11296 : Shape := ⟨2, ![1024, 11296]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x9216, .bf16⟩
  | .hbm, ⟨3, _⟩ => ⟨S4096x32, .bf16⟩
  | .hbm, ⟨4, _⟩ => ⟨S4096x2048, .bf16⟩
  | .hbm, ⟨5, _⟩ => ⟨S4096x11296, .bf16⟩
  | .hbm, ⟨6, _⟩ => ⟨S4096x11296, .f32⟩
  | .hbm, ⟨7, _⟩ => ⟨S4096x1024, .f32⟩
  | .hbm, ⟨8, _⟩ => ⟨S1024x11296, .bf16⟩
  | .hbm, ⟨9, _⟩ => ⟨S1024x11296, .f32⟩
  | .hbm, ⟨10, _⟩ => ⟨S4096x11296, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Weight.lean ====
abbrev S4096x1024 : Shape := ⟨2, ![4096, 1024]⟩
abbrev S11296x1024 : Shape := ⟨2, ![11296, 1024]⟩
abbrev S4096x9216 : Shape := ⟨2, ![4096, 9216]⟩
abbrev S9216x1024 : Shape := ⟨2, ![9216, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x9216, .bf16⟩
  | .hbm, ⟨3, _⟩ => ⟨S9216x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S4096x1024 : Shape := ⟨2, ![4096, 1024]⟩
abbrev S11296x1024 : Shape := ⟨2, ![11296, 1024]⟩
abbrev S4096x9216 : Shape := ⟨2, ![4096, 9216]⟩
abbrev S9216x1024 : Shape := ⟨2, ![9216, 1024]⟩
abbrev S1024x9216 : Shape := ⟨2, ![1024, 9216]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x9216, .bf16⟩
  | .hbm, ⟨3, _⟩ => ⟨S9216x1024, .bf16⟩
  | .hbm, ⟨4, _⟩ => ⟨S1024x9216, .bf16⟩
  | .hbm, ⟨5, _⟩ => ⟨S4096x1024, .f32⟩
  | .hbm, ⟨6, _⟩ => ⟨S1024x9216, .f32⟩
  | .hbm, ⟨7, _⟩ => ⟨S4096x9216, .f32⟩
  | .hbm, ⟨8, _⟩ => ⟨S4096x9216, .f32⟩
  | .hbm, ⟨9, _⟩ => ⟨S9216x1024, .f32⟩
  | .hbm, ⟨10, _⟩ => ⟨S1024x9216, .f32⟩
  | .hbm, ⟨11, _⟩ => ⟨S1024x9216, .bf16⟩
  | .hbm, ⟨12, _⟩ => ⟨S9216x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Project.lean ====
abbrev S4096x1024 : Shape := ⟨2, ![4096, 1024]⟩
abbrev S11296x1024 : Shape := ⟨2, ![11296, 1024]⟩
abbrev S4096x9216 : Shape := ⟨2, ![4096, 9216]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x9216, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectReferenceIdeal.lean ====
abbrev S4096x1024 : Shape := ⟨2, ![4096, 1024]⟩
abbrev S11296x1024 : Shape := ⟨2, ![11296, 1024]⟩
abbrev S9216x1024 : Shape := ⟨2, ![9216, 1024]⟩
abbrev S1024x9216 : Shape := ⟨2, ![1024, 9216]⟩
abbrev S4096x9216 : Shape := ⟨2, ![4096, 9216]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S9216x1024, .bf16⟩
  | .hbm, ⟨3, _⟩ => ⟨S1024x9216, .bf16⟩
  | .hbm, ⟨4, _⟩ => ⟨S4096x1024, .f32⟩
  | .hbm, ⟨5, _⟩ => ⟨S1024x9216, .f32⟩
  | .hbm, ⟨6, _⟩ => ⟨S4096x9216, .f32⟩
  | .hbm, ⟨7, _⟩ => ⟨S4096x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gate.lean ====
abbrev S4096x1024 : Shape := ⟨2, ![4096, 1024]⟩
abbrev S11296x1024 : Shape := ⟨2, ![11296, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S2048x1024, .bf16⟩
  | .hbm, ⟨3, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S4096x1024 : Shape := ⟨2, ![4096, 1024]⟩
abbrev S11296x1024 : Shape := ⟨2, ![11296, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S2048x1024, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateWeight.lean ====
abbrev S4096x1024 : Shape := ⟨2, ![4096, 1024]⟩
abbrev S11296x1024 : Shape := ⟨2, ![11296, 1024]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWeightReferenceIdeal.lean ====
abbrev S4096x1024 : Shape := ⟨2, ![4096, 1024]⟩
abbrev S11296x1024 : Shape := ⟨2, ![11296, 1024]⟩
abbrev S4096x2048 : Shape := ⟨2, ![4096, 2048]⟩
abbrev S2048x1024 : Shape := ⟨2, ![2048, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x2048, .bf16⟩
  | .hbm, ⟨3, _⟩ => ⟨S2048x1024, .bf16⟩
  | .hbm, ⟨4, _⟩ => ⟨S1024x2048, .bf16⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | .hbm, ⟨12, _⟩ => ⟨S2048x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rows.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RowsReferenceIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightReferenceIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmRows.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmRowsReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmWeight.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmWeightReferenceIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== StepSize.lean ====
abbrev S4096x1024 : Shape := ⟨2, ![4096, 1024]⟩
abbrev S11296x1024 : Shape := ⟨2, ![11296, 1024]⟩
abbrev S32x1024 : Shape := ⟨2, ![32, 1024]⟩
abbrev S_ : Shape := ⟨0, ![]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S32x1024, .bf16⟩
  | .hbm, ⟨3, _⟩ => ⟨S_, .i32⟩
  | .hbm, ⟨4, _⟩ => ⟨S_, .bf16⟩
  | .hbm, ⟨5, _⟩ => ⟨S128x1024, .bf16⟩
  | .hbm, ⟨6, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepSizeReferenceIdeal.lean ====
abbrev S4096x1024 : Shape := ⟨2, ![4096, 1024]⟩
abbrev S11296x1024 : Shape := ⟨2, ![11296, 1024]⟩
abbrev S32x1024 : Shape := ⟨2, ![32, 1024]⟩
abbrev S1024x32 : Shape := ⟨2, ![1024, 32]⟩
abbrev S4096x32 : Shape := ⟨2, ![4096, 32]⟩
abbrev S_ : Shape := ⟨0, ![]⟩
abbrev S4096x128 : Shape := ⟨2, ![4096, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S32x1024, .bf16⟩
  | .hbm, ⟨3, _⟩ => ⟨S1024x32, .bf16⟩
  | .hbm, ⟨4, _⟩ => ⟨S4096x1024, .f32⟩
  | .hbm, ⟨5, _⟩ => ⟨S1024x32, .f32⟩
  | .hbm, ⟨6, _⟩ => ⟨S4096x32, .f32⟩
  | .hbm, ⟨7, _⟩ => ⟨S_, .i32⟩
  | .hbm, ⟨8, _⟩ => ⟨S_, .f32⟩
  | .hbm, ⟨9, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== StepWeight.lean ====
abbrev S4096x1024 : Shape := ⟨2, ![4096, 1024]⟩
abbrev S11296x1024 : Shape := ⟨2, ![11296, 1024]⟩
abbrev S4096x32 : Shape := ⟨2, ![4096, 32]⟩
abbrev S_ : Shape := ⟨0, ![]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x32, .bf16⟩
  | .hbm, ⟨3, _⟩ => ⟨S_, .i32⟩
  | .hbm, ⟨4, _⟩ => ⟨S_, .bf16⟩
  | .hbm, ⟨5, _⟩ => ⟨S4096x128, .bf16⟩
  | .hbm, ⟨6, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StepWeightReferenceIdeal.lean ====
abbrev S4096x1024 : Shape := ⟨2, ![4096, 1024]⟩
abbrev S11296x1024 : Shape := ⟨2, ![11296, 1024]⟩
abbrev S4096x32 : Shape := ⟨2, ![4096, 32]⟩
abbrev S32x1024 : Shape := ⟨2, ![32, 1024]⟩
abbrev S1024x32 : Shape := ⟨2, ![1024, 32]⟩
abbrev S_ : Shape := ⟨0, ![]⟩
abbrev S128x1024 : Shape := ⟨2, ![128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S11296x1024, .bf16⟩
  | .hbm, ⟨2, _⟩ => ⟨S4096x32, .bf16⟩
  | .hbm, ⟨3, _⟩ => ⟨S32x1024, .bf16⟩
  | .hbm, ⟨4, _⟩ => ⟨S1024x32, .bf16⟩
  | .hbm, ⟨5, _⟩ => ⟨S4096x1024, .f32⟩
  | .hbm, ⟨6, _⟩ => ⟨S1024x32, .f32⟩
  | .hbm, ⟨7, _⟩ => ⟨S4096x32, .f32⟩
  | .hbm, ⟨8, _⟩ => ⟨S4096x32, .f32⟩
  | .hbm, ⟨9, _⟩ => ⟨S32x1024, .f32⟩
  | .hbm, ⟨10, _⟩ => ⟨S1024x32, .f32⟩
  | .hbm, ⟨11, _⟩ => ⟨S1024x32, .bf16⟩
  | .hbm, ⟨12, _⟩ => ⟨S32x1024, .bf16⟩
  | .hbm, ⟨13, _⟩ => ⟨S_, .i32⟩
  | .hbm, ⟨14, _⟩ => ⟨S_, .bf16⟩
  | .hbm, ⟨15, _⟩ => ⟨S128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Merge.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeReferenceIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeGrad.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeGradReferenceIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Offsets.lean ====
/-
  Where the body's loads and stores lie, in closed form: for each offset the program computes from the query block `qi`
  (`k0_t1`) and, inside the pair loop, from the trip `i` (`k0_t2`), the block of 256 rows or columns or the weight tile it
  names. Each is checked at every value of the two counters. Also: how many trips each loop makes, and which of the
  body's four conditionals is taken at which query block.
-/
module

public import proofs.«01_k».proof.Proof.Gen.KernelIdeal.Loops
public import Idealize.ShloMosaic.Lib.Exec

@[expose] public section

set_option maxRecDepth 20000

noncomputable section

namespace Cert.Proof.Attn

open Cert.KernelIdeal Cert.KernelIdeal.Gen
open Idealize.ShloMosaic

/-- The position of tile `(qi, j)` among the tiles of the lower block triangle, listed row by row. -/
def tileIx (qi j : ℕ) : ℕ := qi * (qi + 1) / 2 + j

/-! ## Loops and conditionals -/

theorem trips_q : k0_t1_loop.trips = 8 := by decide +kernel

theorem trips_pair : ∀ q : Fin k0_t1_loop.trips, (k0_t2_loop q).trips = (q.val - 1) / 2 := by decide +kernel

theorem trips_rest : ∀ q : Fin k0_t1_loop.trips, (k0_t3_loop q).trips = 0 := by decide +kernel

theorem cond1_iff : ∀ q : Fin k0_t1_loop.trips, k0_cond1 q = 1#1 ↔ q.val = 0 := by decide +kernel

theorem cond2_iff : ∀ q : Fin k0_t1_loop.trips, k0_cond2 q = 1#1 ↔ 0 < q.val := by decide +kernel

theorem cond3_iff : ∀ q : Fin k0_t1_loop.trips, k0_cond3 q = 1#1 ↔ 0 < q.val ∧ q.val % 2 = 0 := by decide +kernel

theorem cond4_iff : ∀ q : Fin k0_t1_loop.trips, k0_cond4 q = 1#1 ↔ q.val % 2 = 1 := by decide +kernel

/-! ## Offsets at a query block -/

theorem off3_eq : ∀ q : Fin k0_t1_loop.trips, k0_off3 q = ![0, 0, tileIx q.val 0, 0, 0] := by decide +kernel

theorem off4_eq : ∀ q : Fin k0_t1_loop.trips, k0_off4 q = ![0, 0, tileIx q.val 0, 0, 0] := by decide +kernel

theorem off16_eq : ∀ q : Fin k0_t1_loop.trips, k0_cond3 q = 1#1 → k0_off16 q = ![0, 0, tileIx q.val (q.val - 1), 0, 0] := by decide +kernel

theorem off17_eq : ∀ q : Fin k0_t1_loop.trips, k0_cond3 q = 1#1 → k0_off17 q = ![256 * (q.val - 2), 0] := by decide +kernel

theorem off18_eq : ∀ q : Fin k0_t1_loop.trips, k0_cond3 q = 1#1 → k0_off18 q = ![0, 256 * (q.val - 2)] := by decide +kernel

theorem off19_eq : ∀ q : Fin k0_t1_loop.trips, k0_cond3 q = 1#1 → k0_off19 q = ![0, 0, tileIx q.val (q.val - 2), 0, 0] := by decide +kernel

theorem off20_eq : ∀ q : Fin k0_t1_loop.trips, k0_off20 q = ![0, 0, tileIx q.val q.val, 0, 0] := by decide +kernel

theorem off21_eq : ∀ q : Fin k0_t1_loop.trips, k0_cond3 q = 1#1 → k0_off21 q = ![256 * (q.val - 1), 0] := by decide +kernel

theorem off22_eq : ∀ q : Fin k0_t1_loop.trips, k0_cond3 q = 1#1 → k0_off22 q = ![0, 256 * (q.val - 1)] := by decide +kernel

theorem off23_eq : ∀ q : Fin k0_t1_loop.trips, k0_off23 q = ![0, 0, tileIx q.val q.val, 0, 0] := by decide +kernel

theorem off24_eq : ∀ q : Fin k0_t1_loop.trips, k0_cond4 q = 1#1 → k0_off24 q = ![256 * (q.val - 1), 0] := by decide +kernel

theorem off25_eq : ∀ q : Fin k0_t1_loop.trips, k0_cond4 q = 1#1 → k0_off25 q = ![0, 256 * (q.val - 1)] := by decide +kernel

theorem off26_eq : ∀ q : Fin k0_t1_loop.trips, k0_cond4 q = 1#1 → k0_off26 q = ![0, 0, tileIx q.val (q.val - 1), 0, 0] := by decide +kernel

theorem off27_eq : ∀ q : Fin k0_t1_loop.trips, k0_off27 q = ![q.val % 2, 0, 0] := by decide +kernel

theorem off28_eq : ∀ q : Fin k0_t1_loop.trips, k0_off28 q = ![0, 0, tileIx q.val q.val, 0, 0] := by decide +kernel

/-! ## Offsets at a trip of the pair loop: step `2i + 1` (word 1) and step `2i + 2` (word 2) -/

theorem off5_one : ∀ (q : Fin k0_t1_loop.trips) (i : Fin (k0_t2_loop q).trips), k0_off5 q i 1#32 = ![256 * (2 * i.val + 2), 0] := by decide +kernel
theorem off5_two : ∀ (q : Fin k0_t1_loop.trips) (i : Fin (k0_t2_loop q).trips), k0_off5 q i 2#32 = ![256 * (2 * i.val + 3), 0] := by decide +kernel

theorem off6_one : ∀ (q : Fin k0_t1_loop.trips) (i : Fin (k0_t2_loop q).trips), k0_off6 q i 1#32 = ![0, 0, tileIx q.val (2 * i.val + 1), 0, 0] := by decide +kernel
theorem off6_two : ∀ (q : Fin k0_t1_loop.trips) (i : Fin (k0_t2_loop q).trips), k0_off6 q i 2#32 = ![0, 0, tileIx q.val (2 * i.val + 2), 0, 0] := by decide +kernel

theorem off7_one : ∀ (q : Fin k0_t1_loop.trips) (i : Fin (k0_t2_loop q).trips), k0_off7 q i 1#32 = ![256 * (2 * i.val), 0] := by decide +kernel
theorem off7_two : ∀ (q : Fin k0_t1_loop.trips) (i : Fin (k0_t2_loop q).trips), k0_off7 q i 2#32 = ![256 * (2 * i.val + 1), 0] := by decide +kernel

theorem off8_one : ∀ (q : Fin k0_t1_loop.trips) (i : Fin (k0_t2_loop q).trips), k0_off8 q i 1#32 = ![0, 256 * (2 * i.val)] := by decide +kernel
theorem off8_two : ∀ (q : Fin k0_t1_loop.trips) (i : Fin (k0_t2_loop q).trips), k0_off8 q i 2#32 = ![0, 256 * (2 * i.val + 1)] := by decide +kernel

theorem off9_one : ∀ (q : Fin k0_t1_loop.trips) (i : Fin (k0_t2_loop q).trips), k0_off9 q i 1#32 = ![0, 0, tileIx q.val (2 * i.val), 0, 0] := by decide +kernel
theorem off9_two : ∀ (q : Fin k0_t1_loop.trips) (i : Fin (k0_t2_loop q).trips), k0_off9 q i 2#32 = ![0, 0, tileIx q.val (2 * i.val + 1), 0, 0] := by decide +kernel

/-- The accumulators' columns at step `2i + 1`, for the symbolic run. -/
instance closedOff_off8_one (q : Fin k0_t1_loop.trips) (i : Fin (k0_t2_loop q).trips) : ClosedOff (k0_off8 q i 1#32) := ⟨_, off8_one q i⟩

/-- The accumulators' columns at step `2i + 2`, for the symbolic run. -/
instance closedOff_off8_two (q : Fin k0_t1_loop.trips) (i : Fin (k0_t2_loop q).trips) : ClosedOff (k0_off8 q i 2#32) := ⟨_, off8_two q i⟩

end Cert.Proof.Attn

end
-- ==== Proof.Spec.lean ====
/-
  What the body of the attention gradient does to the buffers it keeps, as plain functions of vectors.

  At one grid point the body walks over the eight blocks of 256 queries. Within a query block it walks over the key
  blocks up to the diagonal, and keeps six buffers (`St`): the product of the output's cotangent with the values (two
  slots, `da`), the scores' gradient (two slots, `dz`), the transposed key and value gradients (`dkt`, `dvt`), the query
  gradient of the block (`dq`), and the running row sum of `a · da` over the key blocks already passed (`cw`). What it only
  reads is `Ctx` (for the grid point) and `Blk` (for the query block).

  Three functions change the state: `scores` fills a slot of `da`, `grads` turns a slot of `da` into a slot of `dz` and
  moves the running sum on, `apply` adds a slot of `dz` into the three gradients. `qblock` is the query block's walk.
-/
module

public import proofs.«01_k».proof.Proof.Offsets
public import Idealize.ShloMosaic.Lib.VecWindow

@[expose] public section

set_option maxRecDepth 20000

noncomputable section

namespace Cert.Proof.Attn

open Cert.KernelIdeal Cert.KernelIdeal.Gen
open Idealize.ShloMosaic

variable {F : FTy → Type} [FloatOps F]

/-! ## Blocks of the buffers -/

section Blocks

variable {α : Type}

/-- Rows `256 j … 256 j + 255` (the row taken modulo 2048, so that every `j` names a block). -/
def rowsAt (x : S2048x128.Idx → α) (j : ℕ) : S256x128.Idx → α :=
  fun y => x (Fin.cons ⟨(256 * j + (y 0).val) % 2048, Nat.mod_lt _ (by decide)⟩ (Fin.cons (y 1) finZeroElim))

/-- Columns `256 j … 256 j + 255` (modulo 2048). -/
def colsAt (x : S128x2048.Idx → α) (j : ℕ) : S128x256.Idx → α :=
  fun y => x (Fin.cons (y 0) (Fin.cons ⟨(256 * j + (y 1).val) % 2048, Nat.mod_lt _ (by decide)⟩ finZeroElim))

/-- Weight tile `n` (modulo 36). -/
def tileAt (x : S1x1x36x512x256.Idx → α) (n : ℕ) : S1x1x1x512x256.Idx → α :=
  fun y => x (Fin.cons (y 0) (Fin.cons (y 1) (Fin.cons ⟨(n + (y 2).val) % 36, Nat.mod_lt _ (by decide)⟩ (Fin.cons (y 3) (Fin.cons (y 4) finZeroElim)))))

/-- Slot `b` of a two-slot buffer (modulo 2). -/
def slotAt (x : S2x512x256.Idx → α) (b : ℕ) : S1x512x256.Idx → α :=
  fun y => x (Fin.cons ⟨(b + (y 0).val) % 2, Nat.mod_lt _ (by decide)⟩ (Fin.cons (y 1) (Fin.cons (y 2) finZeroElim)))

/-- The buffer with slot `b` replaced. -/
def putSlot (x : S2x512x256.Idx → α) (b : ℕ) (w : S1x512x256.Idx → α) : S2x512x256.Idx → α :=
  VecWindow.put x ![b, 0, 0] S1x512x256.size w

/-- The buffer with the columns of block `j` replaced. -/
def putCols (x : S128x2048.Idx → α) (j : ℕ) (w : S128x256.Idx → α) : S128x2048.Idx → α :=
  VecWindow.put x ![0, 256 * j] S128x256.size w

/-- The buffer with the rows of block `j` replaced. -/
def putRows (x : S2048x128.Idx → α) (j : ℕ) (w : S256x128.Idx → α) : S2048x128.Idx → α :=
  VecWindow.put x ![256 * j, 0] S256x128.size w

theorem window_rows (x : S2048x128.Idx → α) (j : ℕ) (inb : ∀ a, (![256 * j, 0] : Fin 2 → ℕ) a + S256x128.size a ≤ S2048x128.size a) :
    VecWindow.window x ![256 * j, 0] S256x128.size inb = rowsAt x j := by
  funext y
  refine congrArg x (funext fun a => Fin.ext ?_)
  have h0 : 256 * j + 256 ≤ 2048 := inb 0
  have hy : (y 0).val < 256 := (y 0).isLt
  fin_cases a
  · show 256 * j + 1 * (y 0).val = (256 * j + (y 0).val) % 2048
    omega
  · show 0 + 1 * (y 1).val = (y 1).val
    omega

theorem window_cols (x : S128x2048.Idx → α) (j : ℕ) (inb : ∀ a, (![0, 256 * j] : Fin 2 → ℕ) a + S128x256.size a ≤ S128x2048.size a) :
    VecWindow.window x ![0, 256 * j] S128x256.size inb = colsAt x j := by
  funext y
  refine congrArg x (funext fun a => Fin.ext ?_)
  have h0 : 256 * j + 256 ≤ 2048 := inb 1
  have hy : (y 1).val < 256 := (y 1).isLt
  fin_cases a
  · show 0 + 1 * (y 0).val = (y 0).val
    omega
  · show 256 * j + 1 * (y 1).val = (256 * j + (y 1).val) % 2048
    omega

theorem window_tile (x : S1x1x36x512x256.Idx → α) (n : ℕ) (inb : ∀ a, (![0, 0, n, 0, 0] : Fin 5 → ℕ) a + S1x1x1x512x256.size a ≤ S1x1x36x512x256.size a) :
    VecWindow.window x ![0, 0, n, 0, 0] S1x1x1x512x256.size inb = tileAt x n := by
  funext y
  refine congrArg x (funext fun a => Fin.ext ?_)
  have h0 : n + 1 ≤ 36 := inb 2
  have hy : (y 2).val < 1 := (y 2).isLt
  fin_cases a
  · show 0 + 1 * (y 0).val = (y 0).val
    omega
  · show 0 + 1 * (y 1).val = (y 1).val
    omega
  · show n + 1 * (y 2).val = (n + (y 2).val) % 36
    omega
  · show 0 + 1 * (y 3).val = (y 3).val
    omega
  · show 0 + 1 * (y 4).val = (y 4).val
    omega

theorem window_slot (x : S2x512x256.Idx → α) (b : ℕ) (inb : ∀ a, (![b, 0, 0] : Fin 3 → ℕ) a + S1x512x256.size a ≤ S2x512x256.size a) :
    VecWindow.window x ![b, 0, 0] S1x512x256.size inb = slotAt x b := by
  funext y
  refine congrArg x (funext fun a => Fin.ext ?_)
  have h0 : b + 1 ≤ 2 := inb 0
  have hy : (y 0).val < 1 := (y 0).isLt
  fin_cases a
  · show b + 1 * (y 0).val = (b + (y 0).val) % 2
    omega
  · show 0 + 1 * (y 1).val = (y 1).val
    omega
  · show 0 + 1 * (y 2).val = (y 2).val
    omega

/-- The slot just filled. -/
theorem slotAt_putSlot (x : S2x512x256.Idx → α) (b : ℕ) (hb : b < 2) (w : S1x512x256.Idx → α) : slotAt (putSlot x b w) b = w := by
  have inb : ∀ a, (![b, 0, 0] : Fin 3 → ℕ) a + S1x512x256.size a ≤ S2x512x256.size a := by
    intro a; fin_cases a
    · show b + 1 ≤ 2; omega
    · exact Nat.le_refl 512
    · exact Nat.le_refl 256
  rw [← window_slot _ b inb]
  exact VecWindow.window_put_same x _ _ inb w

/-- The other slot. -/
theorem slotAt_putSlot_ne (x : S2x512x256.Idx → α) (b b' : ℕ) (hb : b < 2) (h : b ≠ b') (w : S1x512x256.Idx → α) :
    slotAt (putSlot x b' w) b = slotAt x b := by
  have inb : ∀ a, (![b, 0, 0] : Fin 3 → ℕ) a + S1x512x256.size a ≤ S2x512x256.size a := by
    intro a; fin_cases a
    · show b + 1 ≤ 2; omega
    · exact Nat.le_refl 512
    · exact Nat.le_refl 256
  rw [← window_slot _ b inb, ← window_slot _ b inb]
  exact VecWindow.window_put_of_disjoint x _ _ _ _ inb w 0 (by show b + 1 ≤ b' ∨ b' + 1 ≤ b; omega)

/-- The columns just replaced. -/
theorem colsAt_putCols (x : S128x2048.Idx → α) (j : ℕ) (hj : j < 8) (w : S128x256.Idx → α) : colsAt (putCols x j w) j = w := by
  have inb : ∀ a, (![0, 256 * j] : Fin 2 → ℕ) a + S128x256.size a ≤ S128x2048.size a := by
    intro a; fin_cases a
    · exact Nat.le_refl 128
    · show 256 * j + 256 ≤ 2048; omega
  rw [← window_cols _ j inb]
  exact VecWindow.window_put_same x _ _ inb w

/-- The columns of another block. -/
theorem colsAt_putCols_ne (x : S128x2048.Idx → α) (j j' : ℕ) (hj : j < 8) (h : j ≠ j') (w : S128x256.Idx → α) :
    colsAt (putCols x j' w) j = colsAt x j := by
  have inb : ∀ a, (![0, 256 * j] : Fin 2 → ℕ) a + S128x256.size a ≤ S128x2048.size a := by
    intro a; fin_cases a
    · exact Nat.le_refl 128
    · show 256 * j + 256 ≤ 2048; omega
  rw [← window_cols _ j inb, ← window_cols _ j inb]
  exact VecWindow.window_put_of_disjoint x _ _ _ _ inb w 1 (by show 256 * j + 256 ≤ 256 * j' ∨ 256 * j' + 256 ≤ 256 * j; omega)

end Blocks

/-! ## The state, and what is only read -/

/-- What the body reads at one grid point: the two masks, the keys of the two heads of the pair, the values, and the tiles of the
    attention's weights `a` and of the sigmoids `sg`. -/
structure Ctx (F : FTy → Type) where
  tri : IVec S512x256 1
  u : FVec F S256x256 .bf16
  k0 : Vec F S2048x128 .bf16
  k1 : Vec F S2048x128 .bf16
  vb : Vec F S2048x128 .bf16
  a : Vec F S1x1x36x512x256 .bf16
  sg : Vec F S1x1x36x512x256 .bf16

/-- What it reads at one query block: the cotangent's rows of the two heads one over the other, and the queries and the cotangent of the two
    heads side by side, transposed. -/
structure Blk (F : FTy → Type) where
  dcat : FVec F S512x128 .bf16
  qcatT : FVec F S128x512 .bf16
  dcatT : FVec F S128x512 .bf16

/-- What it keeps. -/
structure St (F : FTy → Type) where
  da : Vec F S2x512x256 .f32
  dz : Vec F S2x512x256 .bf16
  dkt : Vec F S128x2048 .f32
  dvt : Vec F S128x2048 .f32
  dq : Vec F S256x128 .f32
  cw : Vec F S512x1 .f32

/-- Slot `slot` of `da` becomes the cotangent's rows times key block `j`'s values. -/
def scores (C : Ctx F) (B : Blk F) (j slot : ℕ) (s : St F) : St F :=
  { s with da := putSlot s.da slot (k0_pay13 B.dcat (rowsAt C.vb j)) }

/-- Slot `slot` of `dz` becomes the scores' gradient of tile `t`, off the diagonal, and the running sum moves on by the tile's row sums. -/
def grads (C : Ctx F) (t slot : ℕ) (s : St F) : St F :=
  { s with
    dz := putSlot s.dz slot (k0_pay17 (k0_pay16 C.u s.cw (tileAt C.a t) (slotAt s.da slot) (tileAt C.sg t)))
    cw := k0_pay18 s.cw (k0_pay14 (tileAt C.a t) (slotAt s.da slot)) (k0_pay15 C.u (tileAt C.a t) (slotAt s.da slot)) }

/-- The same on the diagonal tile, where the gradient is masked to the positions strictly below the diagonal. -/
def gradsDiag (C : Ctx F) (t slot : ℕ) (s : St F) : St F :=
  { s with
    dz := putSlot s.dz slot (k0_pay84 C.tri C.u s.cw (tileAt C.a t) (slotAt s.da slot) (tileAt C.sg t))
    cw := k0_pay18 s.cw (k0_pay14 (tileAt C.a t) (slotAt s.da slot)) (k0_pay15 C.u (tileAt C.a t) (slotAt s.da slot)) }

/-- Slot `slot` of `dz`, the gradient at tile `t` of key block `j`, goes into the gradients of the queries, keys and values. -/
def apply (C : Ctx F) (B : Blk F) (t j slot : ℕ) (s : St F) : St F :=
  { s with
    dq := k0_pay20 (slotAt s.dz slot) s.dq (rowsAt C.k0 j) (rowsAt C.k1 j)
    dkt := putCols s.dkt j (k0_pay21 B.qcatT (slotAt s.dz slot) (colsAt s.dkt j))
    dvt := putCols s.dvt j (k0_pay22 B.dcatT (colsAt s.dvt j) (tileAt C.a t)) }

/-- Step `j` of query block `qi` off the diagonal: the next block's scores, this block's gradient, the last block's gradient applied. -/
def step (C : Ctx F) (B : Blk F) (qi j slot : ℕ) (s : St F) : St F :=
  apply C B (tileIx qi (j - 1)) (j - 1) (1 - slot) (grads C (tileIx qi j) slot (scores C B (j + 1) (1 - slot) s))

/-- The step on the diagonal: no next block. -/
def stepDiag (C : Ctx F) (B : Blk F) (qi slot : ℕ) (s : St F) : St F :=
  apply C B (tileIx qi (qi - 1)) (qi - 1) (1 - slot) (gradsDiag C (tileIx qi qi) slot s)

/-- Trip `i` of the pair loop: steps `2i + 1` and `2i + 2`. -/
def pair (C : Ctx F) (B : Blk F) (qi i : ℕ) (s : St F) : St F :=
  step C B qi (2 * i + 2) 0 (step C B qi (2 * i + 1) 1 s)

/-- The pair loop's first `n` trips. -/
def pairs (C : Ctx F) (B : Blk F) (qi : ℕ) (s : St F) : ℕ → St F
  | 0 => s
  | n + 1 => pair C B qi n (pairs C B qi s n)

/-- What comes before the pair loop: the first block's scores, the two sums at zero, and step 0, which applies nothing. -/
def start (C : Ctx F) (B : Blk F) (qi : ℕ) (s : St F) : St F :=
  let s₀ : St F := { scores C B 0 0 s with dq := k0_pay80, cw := k0_pay81 }
  if qi = 0 then gradsDiag C (tileIx qi 0) 0 s₀ else grads C (tileIx qi 0) 0 (scores C B 1 1 s₀)

/-- What comes after it: the last one or two steps, up to the diagonal. -/
def finish (C : Ctx F) (B : Blk F) (qi : ℕ) (s : St F) : St F :=
  if 0 < qi ∧ qi % 2 = 0 then stepDiag C B qi 0 (step C B qi (qi - 1) 1 s)
  else if qi % 2 = 1 then stepDiag C B qi 1 s else s

/-- One query block. -/
def qblock (C : Ctx F) (B : Blk F) (qi : ℕ) (s : St F) : St F :=
  apply C B (tileIx qi qi) qi (qi % 2) (finish C B qi (pairs C B qi (start C B qi s) ((qi - 1) / 2)))

end Cert.Proof.Attn

end
-- ==== Proof.Access.lean ====
/-
  What the walk's loads and stores read and leave, by what the buffers read; the walk's payloads at its several places in the program, which
  are the same functions; and the buffers the walk holds.
-/
module

public import proofs.«01_k».proof.Proof.Spec
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Loads and stores of blocks, by what the buffer reads -/

section Access

variable {κ : Kind} {sp : Space} {e : EltTy} {Val : EltTy → Type}

theorem readAt_rows (v : View sig κ sp S2048x128 e) (f : v.ty.Contents Val) {off : Fin 2 → ℕ} {j : ℕ} (h : off = ![256 * j, 0])
    (inb : ∀ a, off a + S256x128.size a ≤ S2048x128.size a) :
    v.readAt Val (Rect.unit (s := S2048x128) off S256x128.size inb).toLoadRect f = rowsAt (v.read Val f) j := by
  subst h; exact window_rows _ j inb

theorem readAt_cols (v : View sig κ sp S128x2048 e) (f : v.ty.Contents Val) {off : Fin 2 → ℕ} {j : ℕ} (h : off = ![0, 256 * j])
    (inb : ∀ a, off a + S128x256.size a ≤ S128x2048.size a) :
    v.readAt Val (Rect.unit (s := S128x2048) off S128x256.size inb).toLoadRect f = colsAt (v.read Val f) j := by
  subst h; exact window_cols _ j inb

theorem readAt_tile (v : View sig κ sp S1x1x36x512x256 e) (f : v.ty.Contents Val) {off : Fin 5 → ℕ} {n : ℕ} (h : off = ![0, 0, n, 0, 0])
    (inb : ∀ a, off a + S1x1x1x512x256.size a ≤ S1x1x36x512x256.size a) :
    v.readAt Val (Rect.unit (s := S1x1x36x512x256) off S1x1x1x512x256.size inb).toLoadRect f = tileAt (v.read Val f) n := by
  subst h; exact window_tile _ n inb

theorem readAt_slot (v : View sig κ sp S2x512x256 e) (f : v.ty.Contents Val) {off : Fin 3 → ℕ} {b : ℕ} (h : off = ![b, 0, 0])
    (inb : ∀ a, off a + S1x512x256.size a ≤ S2x512x256.size a) :
    v.readAt Val (Rect.unit (s := S2x512x256) off S1x512x256.size inb).toLoadRect f = slotAt (v.read Val f) b := by
  subst h; exact window_slot _ b inb

theorem read_writes_slot (v : View sig κ sp S2x512x256 e) (f : v.ty.Contents Val) {off : Fin 3 → ℕ} {b : ℕ} (h : off = ![b, 0, 0])
    (inb : ∀ a, off a + S1x512x256.size a ≤ S2x512x256.size a) (w : S1x512x256.Idx → Val e) (L : List (View.Piece Val S2x512x256 e)) :
    v.read Val (v.writes Val f (⟨Rect.unit (s := S2x512x256) off S1x512x256.size inb, w⟩ :: L)) = putSlot (v.read Val (v.writes Val f L)) b w :=
  View.read_writes_cons_put v f inb w L h

theorem read_writes_cols (v : View sig κ sp S128x2048 e) (f : v.ty.Contents Val) {off : Fin 2 → ℕ} {j : ℕ} (h : off = ![0, 256 * j])
    (inb : ∀ a, off a + S128x256.size a ≤ S128x2048.size a) (w : S128x256.Idx → Val e) (L : List (View.Piece Val S128x2048 e)) :
    v.read Val (v.writes Val f (⟨Rect.unit (s := S128x2048) off S128x256.size inb, w⟩ :: L)) = putCols (v.read Val (v.writes Val f L)) j w :=
  View.read_writes_cons_put v f inb w L h

theorem read_writes_rows (v : View sig κ sp S2048x128 e) (f : v.ty.Contents Val) {off : Fin 2 → ℕ} {j : ℕ} (h : off = ![256 * j, 0])
    (inb : ∀ a, off a + S256x128.size a ≤ S2048x128.size a) (w : S256x128.Idx → Val e) (L : List (View.Piece Val S2048x128 e)) :
    v.read Val (v.writes Val f (⟨Rect.unit (s := S2048x128) off S256x128.size inb, w⟩ :: L)) = putRows (v.read Val (v.writes Val f L)) j w :=
  View.read_writes_cons_put v f inb w L h

theorem readAt_whole_cw (v : View sig κ sp S512x1 e) (f : v.ty.Contents Val) {off : Fin 2 → ℕ} (inb : ∀ a, off a + S512x1.size a ≤ S512x1.size a) :
    v.readAt Val (Rect.unit (s := S512x1) off S512x1.size inb).toLoadRect f = v.read Val f := View.readAt_full v f inb

theorem read_writes_whole_cw (v : View sig κ sp S512x1 e) (f : v.ty.Contents Val) {off : Fin 2 → ℕ} (inb : ∀ a, off a + S512x1.size a ≤ S512x1.size a)
    (w : S512x1.Idx → Val e) (L : List (View.Piece Val S512x1 e)) :
    v.read Val (v.writes Val f (⟨Rect.unit (s := S512x1) off S512x1.size inb, w⟩ :: L)) = w := View.read_writes_full v f inb w L

theorem readAt_whole_dq (v : View sig κ sp S256x128 e) (f : v.ty.Contents Val) {off : Fin 2 → ℕ} (inb : ∀ a, off a + S256x128.size a ≤ S256x128.size a) :
    v.readAt Val (Rect.unit (s := S256x128) off S256x128.size inb).toLoadRect f = v.read Val f := View.readAt_full v f inb

theorem read_writes_whole_dq (v : View sig κ sp S256x128 e) (f : v.ty.Contents Val) {off : Fin 2 → ℕ} (inb : ∀ a, off a + S256x128.size a ≤ S256x128.size a)
    (w : S256x128.Idx → Val e) (L : List (View.Piece Val S256x128 e)) :
    v.read Val (v.writes Val f (⟨Rect.unit (s := S256x128) off S256x128.size inb, w⟩ :: L)) = w := View.read_writes_full v f inb w L

theorem readAt_whole_acc (v : View sig κ sp S128x2048 e) (f : v.ty.Contents Val) {off : Fin 2 → ℕ} (inb : ∀ a, off a + S128x2048.size a ≤ S128x2048.size a) :
    v.readAt Val (Rect.unit (s := S128x2048) off S128x2048.size inb).toLoadRect f = v.read Val f := View.readAt_full v f inb

theorem read_writes_whole_acc (v : View sig κ sp S128x2048 e) (f : v.ty.Contents Val) {off : Fin 2 → ℕ} (inb : ∀ a, off a + S128x2048.size a ≤ S128x2048.size a)
    (w : S128x2048.Idx → Val e) (L : List (View.Piece Val S128x2048 e)) :
    v.read Val (v.writes Val f (⟨Rect.unit (s := S128x2048) off S128x2048.size inb, w⟩ :: L)) = w := View.read_writes_full v f inb w L

theorem readAt_whole_rows (v : View sig κ sp S2048x128 e) (f : v.ty.Contents Val) {off : Fin 2 → ℕ} (inb : ∀ a, off a + S2048x128.size a ≤ S2048x128.size a) :
    v.readAt Val (Rect.unit (s := S2048x128) off S2048x128.size inb).toLoadRect f = v.read Val f := View.readAt_full v f inb

theorem read_writes_whole_rows (v : View sig κ sp S2048x128 e) (f : v.ty.Contents Val) {off : Fin 2 → ℕ} (inb : ∀ a, off a + S2048x128.size a ≤ S2048x128.size a)
    (w : S2048x128.Idx → Val e) (L : List (View.Piece Val S2048x128 e)) :
    v.read Val (v.writes Val f (⟨Rect.unit (s := S2048x128) off S2048x128.size inb, w⟩ :: L)) = w := View.read_writes_full v f inb w L

end Access

/-! ## The payloads of every place are those of one

The program writes the three functions of a step out at every place they stand: before the pair loop, twice in it, and after it. -/

theorem pay23_eq (d : FVec F S512x128 .bf16) (v : Vec F S256x128 .bf16) : k0_pay23 d v = k0_pay13 d v := rfl

theorem pay8_eq (d : FVec F S512x128 .bf16) (v : Vec F S256x128 .bf16) : k0_pay8 d v = k0_pay13 d v := rfl

theorem pay49_eq (d : FVec F S512x128 .bf16) (v : Vec F S256x128 .bf16) : k0_pay49 d v = k0_pay13 d v := rfl

theorem pay79_eq (x y : Vec F S256x128 .bf16) (v : Vec F S256x128 .bf16) : k0_pay79 (k0_pay78 x y v) = k0_pay13 (k0_pay75 x y) v := rfl

theorem pay27_eq (u : FVec F S256x256 .bf16) (cw : Vec F S512x1 .f32) (a : Vec F S1x1x1x512x256 .bf16) (da : Vec F S1x512x256 .f32) (sg : Vec F S1x1x1x512x256 .bf16) : k0_pay27 u cw (k0_pay24 a da) (k0_pay25 a da) (constant S512x256 FTy.f32 0#32) sg = k0_pay17 (k0_pay16 u cw a da sg) := rfl

theorem pay11_eq (u : FVec F S256x256 .bf16) (cw : Vec F S512x1 .f32) (a : Vec F S1x1x1x512x256 .bf16) (da : Vec F S1x512x256 .f32) (sg : Vec F S1x1x1x512x256 .bf16) : k0_pay11 u cw a da sg = k0_pay17 (k0_pay16 u cw a da sg) := rfl

theorem pay53_eq (u : FVec F S256x256 .bf16) (cw : Vec F S512x1 .f32) (a : Vec F S1x1x1x512x256 .bf16) (da : Vec F S1x512x256 .f32) (sg : Vec F S1x1x1x512x256 .bf16) : k0_pay53 (k0_pay52 u cw a da sg) = k0_pay17 (k0_pay16 u cw a da sg) := rfl

theorem pay62_eq (tri : IVec S512x256 1) (u : FVec F S256x256 .bf16) (cw : Vec F S512x1 .f32) (a : Vec F S1x1x1x512x256 .bf16) (da : Vec F S1x512x256 .f32) (sg : Vec F S1x1x1x512x256 .bf16) : k0_pay62 (k0_pay61 tri u cw a da sg) = k0_pay84 tri u cw a da sg := rfl

theorem pay69_eq (tri : IVec S512x256 1) (u : FVec F S256x256 .bf16) (cw : Vec F S512x1 .f32) (a : Vec F S1x1x1x512x256 .bf16) (da : Vec F S1x512x256 .f32) (sg : Vec F S1x1x1x512x256 .bf16) : k0_pay69 tri u cw a da sg = k0_pay84 tri u cw a da sg := rfl

theorem pay28_eq (u : FVec F S256x256 .bf16) (cw : Vec F S512x1 .f32) (a : Vec F S1x1x1x512x256 .bf16) (da : Vec F S1x512x256 .f32) : k0_pay28 u cw (k0_pay24 a da) (k0_pay25 a da) (constant S512x256 FTy.f32 0#32) = k0_pay18 cw (k0_pay14 a da) (k0_pay15 u a da) := rfl

theorem pay85_eq (u : FVec F S256x256 .bf16) (cw : Vec F S512x1 .f32) (a : Vec F S1x1x1x512x256 .bf16) (da : Vec F S1x512x256 .f32) : k0_pay85 u cw a da = k0_pay18 cw (k0_pay14 a da) (k0_pay15 u a da) := rfl

theorem pay86_eq (u : FVec F S256x256 .bf16) (cw : Vec F S512x1 .f32) (a : Vec F S1x1x1x512x256 .bf16) (da : Vec F S1x512x256 .f32) : k0_pay86 cw (k0_pay9 a da) (k0_pay12 u a da) = k0_pay18 cw (k0_pay14 a da) (k0_pay15 u a da) := rfl

theorem pay54_eq (u : FVec F S256x256 .bf16) (cw : Vec F S512x1 .f32) (a : Vec F S1x1x1x512x256 .bf16) (da : Vec F S1x512x256 .f32) : k0_pay54 cw (k0_pay50 a da) (k0_pay51 u a da) = k0_pay18 cw (k0_pay14 a da) (k0_pay15 u a da) := rfl

theorem pay63_eq (u : FVec F S256x256 .bf16) (cw : Vec F S512x1 .f32) (a : Vec F S1x1x1x512x256 .bf16) (da : Vec F S1x512x256 .f32) : k0_pay63 cw (k0_pay59 a da) (k0_pay60 u a da) = k0_pay18 cw (k0_pay14 a da) (k0_pay15 u a da) := rfl

theorem pay70_eq (u : FVec F S256x256 .bf16) (cw : Vec F S512x1 .f32) (a : Vec F S1x1x1x512x256 .bf16) (da : Vec F S1x512x256 .f32) : k0_pay70 u cw a da = k0_pay18 cw (k0_pay14 a da) (k0_pay15 u a da) := rfl

theorem pay87_eq (dz : Vec F S1x512x256 .bf16) (dq : Vec F S256x128 .f32) (k0 k1 : Vec F S256x128 .bf16) : k0_pay87 (k0_pay30 dz dq k0 k1) = k0_pay20 dz dq k0 k1 := rfl

theorem pay56_eq (dz : Vec F S1x512x256 .bf16) (dq : Vec F S256x128 .f32) (k0 k1 : Vec F S256x128 .bf16) : k0_pay56 dz dq k0 k1 = k0_pay20 dz dq k0 k1 := rfl

theorem pay65_eq (dz : Vec F S1x512x256 .bf16) (dq : Vec F S256x128 .f32) (k0 k1 : Vec F S256x128 .bf16) : k0_pay65 dz dq k0 k1 = k0_pay20 dz dq k0 k1 := rfl

theorem pay72_eq (dz : Vec F S1x512x256 .bf16) (dq : Vec F S256x128 .f32) (k0 k1 : Vec F S256x128 .bf16) : k0_pay72 dz dq k0 k1 = k0_pay20 dz dq k0 k1 := rfl

theorem pay95_eq (dz : Vec F S1x512x256 .bf16) (dq : Vec F S256x128 .f32) (k0 k1 : Vec F S256x128 .bf16) : k0_pay95 dz dq k0 k1 = k0_pay20 dz dq k0 k1 := rfl

theorem pay88_eq (qT : FVec F S128x512 .bf16) (dz : Vec F S1x512x256 .bf16) (dk : Vec F S128x256 .f32) : k0_pay88 qT (k0_pay29 dz) dk = k0_pay21 qT dz dk := rfl

theorem pay57_eq (qT : FVec F S128x512 .bf16) (dz : Vec F S1x512x256 .bf16) (dk : Vec F S128x256 .f32) : k0_pay57 qT dz dk = k0_pay21 qT dz dk := rfl

theorem pay66_eq (qT : FVec F S128x512 .bf16) (dz : Vec F S1x512x256 .bf16) (dk : Vec F S128x256 .f32) : k0_pay66 qT dz dk = k0_pay21 qT dz dk := rfl

theorem pay73_eq (qT : FVec F S128x512 .bf16) (dz : Vec F S1x512x256 .bf16) (dk : Vec F S128x256 .f32) : k0_pay73 qT dz dk = k0_pay21 qT dz dk := rfl

theorem pay96_eq (qT : FVec F S128x512 .bf16) (dz : Vec F S1x512x256 .bf16) (dk : Vec F S128x256 .f32) : k0_pay96 qT dz dk = k0_pay21 qT dz dk := rfl

theorem pay89_eq (dT : FVec F S128x512 .bf16) (dv : Vec F S128x256 .f32) (a : Vec F S1x1x1x512x256 .bf16) : k0_pay89 dT dv a = k0_pay22 dT dv a := rfl

theorem pay58_eq (dT : FVec F S128x512 .bf16) (dv : Vec F S128x256 .f32) (a : Vec F S1x1x1x512x256 .bf16) : k0_pay58 dT dv a = k0_pay22 dT dv a := rfl

theorem pay93_eq (dT : FVec F S128x512 .bf16) (dv : Vec F S128x256 .f32) (a : Vec F S1x1x1x512x256 .bf16) : k0_pay93 dT dv a = k0_pay22 dT dv a := rfl

theorem pay74_eq (dT : FVec F S128x512 .bf16) (dv : Vec F S128x256 .f32) (a : Vec F S1x1x1x512x256 .bf16) : k0_pay74 dT dv a = k0_pay22 dT dv a := rfl

theorem pay97_eq (dT : FVec F S128x512 .bf16) (dv : Vec F S128x256 .f32) (a : Vec F S1x1x1x512x256 .bf16) : k0_pay4 (k0_pay97 dT dv a) = k0_pay22 dT dv a := rfl

/-! ## The buffers of the walk -/

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

/-- The buffers the walk only reads, at the context's values. -/
def readsAt (C : Ctx F) : sProp 𝕄 :=
  iprop(owns (c : Thread nD τ) arg6 fullShare C.a ∗ owns (c : Thread nD τ) arg7 fullShare C.sg ∗ owns (c : Thread nD τ) arg13 fullShare C.k0
    ∗ owns (c : Thread nD τ) arg14 fullShare C.k1 ∗ owns (c : Thread nD τ) arg15 fullShare C.vb)

/-- The buffers the walk keeps, at a state. -/
def heldAt (s : St F) : sProp 𝕄 :=
  iprop(owns (c : Thread nD τ) arg20 fullShare s.da ∗ owns (c : Thread nD τ) arg21 fullShare s.dz ∗ owns (c : Thread nD τ) arg22 fullShare s.dkt
    ∗ owns (c : Thread nD τ) arg23 fullShare s.dvt ∗ owns (c : Thread nD τ) arg24 fullShare s.dq ∗ owns (c : Thread nD τ) arg25 fullShare s.cw)

/-- A program after another: the second runs from what the first leaves. -/
theorem wp_then {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h : P ⊢ wp frame (wpE (defs₀ (F := F)) Variants.none c none) Set.univ p Φ) (hk : ∀ v, Φ v ⊢ wp frame (wpE (defs₀ (F := F)) Variants.none c none) Set.univ (k v) Q) :
    P ⊢ wp frame (wpE (defs₀ (F := F)) Variants.none c none) Set.univ (p >>= k) Q := by
  rw [wp_bind]
  iintro H
  iapply (wp_wand_r frame (wpE (defs₀ (F := F)) Variants.none c none) Set.univ)
  isplitl [H]
  · iapply h; iexact H
  iintro %v H
  iapply (hk v); iexact H

end Cert.Proof.Attn

end
-- ==== Proof.Pair.lean ====
/-
  One trip of the pair loop, and the loop: from buffers at a state to buffers at that state after the trips' steps.
-/
module

public import proofs.«01_k».proof.Proof.Access
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

-- One trip of the pair loop.
set_option maxHeartbeats 2000000 in
theorem trip_pair (C : Ctx F) (B : Blk F) (q : Fin k0_t1_loop.trips) (w26 w112 w166 acc : BitVec 32) (k : Fin (k0_t2_loop q).trips) (s : St F) :
    iprop(readsAt c arg6 arg7 arg13 arg14 arg15 C ∗ heldAt c arg20 arg21 arg22 arg23 arg24 arg25 s)
      ⊢ wp frame (wpE (defs₀ (F := F)) Variants.none c none) Set.univ
          (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q w26 w112 B.dcat B.qcatT B.dcatT w166 k acc)
          (fun _ => iprop(readsAt c arg6 arg7 arg13 arg14 arg15 C ∗ heldAt c arg20 arg21 arg22 arg23 arg24 arg25 (pair C B q.val k.val s))) := by
  have hk : 2 * k.val + 1 < 8 := by
    have h1 := k.isLt
    have h2 := trips_pair q
    have h3 := q.isLt
    have h4 := trips_q
    omega
  have hs1 : 2 * k.val + 2 - 1 = 2 * k.val + 1 := by omega
  have hs2 : 2 * k.val + 2 + 1 = 2 * k.val + 3 := by omega
  have hs3 : 2 * k.val + 1 + 1 = 2 * k.val + 2 := by omega
  obtain ⟨tri, u, k0, k1, vb, a, sg⟩ := C
  obtain ⟨da, dz, dkt, dvt, dq, cw⟩ := s
  generalize hQ : (fun _ : BitVec 32 => iprop(readsAt c arg6 arg7 arg13 arg14 arg15 (⟨tri, u, k0, k1, vb, a, sg⟩ : Ctx F) ∗ heldAt c arg20 arg21 arg22 arg23 arg24 arg25 (pair ⟨tri, u, k0, k1, vb, a, sg⟩ B q.val k.val ⟨da, dz, dkt, dvt, dq, cw⟩))) = Q
  unfold readsAt heldAt owns
  iintro ⟨⟨⟨%f6, %h6, H6⟩, ⟨%f7, %h7, H7⟩, ⟨%f13, %h13, H13⟩, ⟨%f14, %h14, H14⟩, ⟨%f15, %h15, H15⟩⟩,
    ⟨⟨%f20, %h20, H20⟩, ⟨%f21, %h21, H21⟩, ⟨%f22, %h22, H22⟩, ⟨%f23, %h23, H23⟩, ⟨%f24, %h24, H24⟩, ⟨%f25, %h25, H25⟩⟩⟩
  dsimp only at h6 h7 h13 h14 h15 h20 h21 h22 h23 h24 h25
  subst h6 h7 h13 h14 h15 h20 h21 h22 h23 h24 h25
  unfold k0_t2_body
  dsimp only
  sl_exec
  sl_step
  subst hQ
  dsimp only
  unfold readsAt heldAt owns
  dsimp only
  isplitl [H6 H7 H13 H14 H15]
  · isplitl [H6]; · iexists f6; isplitr; · ipureintro; rfl
                    iexact H6
    isplitl [H7]; · iexists f7; isplitr; · ipureintro; rfl
                    iexact H7
    isplitl [H13]; · iexists f13; isplitr; · ipureintro; rfl
                     iexact H13
    isplitl [H14]; · iexists f14; isplitr; · ipureintro; rfl
                     iexact H14
    iexists f15; isplitr; · ipureintro; rfl
    iexact H15
  isplitl [H20]; iexists _; isplitr; swap; iexact H20; rotate_left
  isplitl [H21]; iexists _; isplitr; swap; iexact H21; rotate_left
  isplitl [H22]; iexists _; isplitr; swap; iexact H22; rotate_left
  isplitl [H23]; iexists _; isplitr; swap; iexact H23; rotate_left
  isplitl [H24]; iexists _; isplitr; swap; iexact H24; rotate_left
  iexists _; isplitr; swap; iexact H25; rotate_left
  all_goals
    ipureintro
    sl_open_run
    simp only [View.readCov, readAt_rows _ _ (off5_one q k), readAt_rows _ _ (off5_two q k), readAt_tile _ _ (off6_one q k), readAt_tile _ _ (off6_two q k),
      readAt_rows _ _ (off7_one q k), readAt_rows _ _ (off7_two q k), readAt_cols _ _ (off8_one q k), readAt_cols _ _ (off8_two q k),
      readAt_tile _ _ (off9_one q k), readAt_tile _ _ (off9_two q k), readAt_slot _ _ (rfl : _ = ![0, 0, 0]), readAt_slot _ _ (rfl : _ = ![1, 0, 0]),
      read_writes_cols _ _ (off8_one q k), read_writes_cols _ _ (off8_two q k), read_writes_slot _ _ (rfl : _ = ![0, 0, 0]),
      read_writes_slot _ _ (rfl : _ = ![1, 0, 0]), readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), View.writes_nil,
      slotAt_putSlot _ 0 (by decide), slotAt_putSlot _ 1 (by decide), slotAt_putSlot_ne _ 0 1 (by decide) (by decide), slotAt_putSlot_ne _ 1 0 (by decide) (by decide),
      pay23_eq, pay27_eq, pay28_eq, pay87_eq, pay88_eq, pay89_eq, pair, step, scores, grads, apply, Nat.add_sub_cancel, Nat.sub_zero, Nat.sub_self, hs1, hs2, hs3, colsAt_putCols_ne _ (2 * k.val + 1) (2 * k.val) hk (by omega)]

/-- The pair loop. -/
theorem wp_pairs (C : Ctx F) (B : Blk F) (q : Fin k0_t1_loop.trips) (w26 w112 w166 init : BitVec 32) (s : St F) :
    iprop(readsAt c arg6 arg7 arg13 arg14 arg15 C ∗ heldAt c arg20 arg21 arg22 arg23 arg24 arg25 s)
      ⊢ wp frame (wpE (defs₀ (F := F)) Variants.none c none) Set.univ
          (Scf.Loop.for (k0_t2_loop q) (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q w26 w112 B.dcat B.qcatT B.dcatT w166))
          (fun _ => iprop(readsAt c arg6 arg7 arg13 arg14 arg15 C ∗ heldAt c arg20 arg21 arg22 arg23 arg24 arg25 (pairs C B q.val s ((q.val - 1) / 2)))) := by
  have h := Scf.wp_for (Fr := frame) (wpE := wpE (defs₀ (F := F)) Variants.none c none) (Es := Set.univ) (k0_t2_loop q).lb (k0_t2_loop q).ub
    (k0_t2_loop q).st (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q w26 w112 B.dcat B.qcatT B.dcatT w166)
    (fun n _ => iprop(readsAt c arg6 arg7 arg13 arg14 arg15 C ∗ heldAt c arg20 arg21 arg22 arg23 arg24 arg25 (pairs C B q.val s n)))
    (fun k acc => trip_pair c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C B q w26 w112 w166 acc k _)
    (Q := fun _ => iprop(readsAt c arg6 arg7 arg13 arg14 arg15 C ∗ heldAt c arg20 arg21 arg22 arg23 arg24 arg25 (pairs C B q.val s ((q.val - 1) / 2))))
  refine BIBase.Entails.trans ?_ h
  iintro H
  isplitl [H]; · iexact H
  iintro %acc H
  have e : Scf.trips (k0_t2_loop q).lb (k0_t2_loop q).ub (k0_t2_loop q).st = (q.val - 1) / 2 := trips_pair q
  rw [e]
  iexact H

end Cert.Proof.Attn

end
-- ==== Proof.Finish.lean ====
/-
  The rest of a query block's steps: the pair loop, and the last one or two steps up to the diagonal.
-/
module

public import proofs.«01_k».proof.Proof.Pair
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

/-- The accumulators' columns at the step before the diagonal's, for the symbolic run. -/
instance closedOff_off18 (q : Fin k0_t1_loop.trips) [h : Fact (k0_cond3 q = 1#1)] : ClosedOff (k0_off18 q) := ⟨_, off18_eq q h.out⟩

/-- The accumulators' columns at the diagonal's step, for the symbolic run. -/
instance closedOff_off22 (q : Fin k0_t1_loop.trips) [h : Fact (k0_cond3 q = 1#1)] : ClosedOff (k0_off22 q) := ⟨_, off22_eq q h.out⟩

/-- The loop the lowering leaves for trips past the even part: it has none. -/
theorem wp_rest (q : Fin k0_t1_loop.trips) (P : sProp 𝕄) (init : BitVec 32)
    (body : Fin (k0_t3_loop q).trips → BitVec 32 → Prog (TpuEff nD τ sig (Elt F) Λ₀ .tc) (BitVec 32)) :
    P ⊢ wp frame (wpE (defs₀ (F := F)) Variants.none c none) Set.univ (Scf.Loop.for (k0_t3_loop q) (k0_t3_ok q) init body) (fun _ => P) := by
  have e : Scf.trips (k0_t3_loop q).lb (k0_t3_loop q).ub (k0_t3_loop q).st = 0 := trips_rest q
  have h := Scf.wp_for (Fr := frame) (wpE := wpE (defs₀ (F := F)) Variants.none c none) (Es := Set.univ) (k0_t3_loop q).lb (k0_t3_loop q).ub
    (k0_t3_loop q).st (k0_t3_ok q) init body (fun _ _ => P) (fun k _ => absurd (e ▸ k.isLt : k.val < 0) (Nat.not_lt_zero _)) (Q := fun _ => P)
  refine BIBase.Entails.trans ?_ h
  iintro H
  isplitl [H]; · iexact H
  iintro %acc H
  iexact H

set_option maxHeartbeats 4000000 in
/-- The pair loop and what follows it up to the diagonal's step. -/
theorem wp_finish (C : Ctx F) (B : Blk F) (q : Fin k0_t1_loop.trips) (w26 w112 w166 : BitVec 32) (s : St F) :
    iprop(readsAt c arg6 arg7 arg13 arg14 arg15 C ∗ heldAt c arg20 arg21 arg22 arg23 arg24 arg25 s)
      ⊢ wp frame (wpE (defs₀ (F := F)) Variants.none c none) Set.univ (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q w26 w112 B.dcat B.qcatT B.dcatT w166)
          (fun _ => iprop(readsAt c arg6 arg7 arg13 arg14 arg15 C ∗ heldAt c arg20 arg21 arg22 arg23 arg24 arg25 (finish C B q.val (pairs C B q.val s ((q.val - 1) / 2))))) := by
  have hlt : q.val < 8 := by have := q.isLt; have := trips_q; omega
  rw [k0_part18_eq_skeleton]
  unfold k0_part18_skel
  dsimp only
  refine wp_then c (wp_pairs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C B q _ _ _ _ s) fun w172 => ?_
  generalize pairs C B q.val s ((q.val - 1) / 2) = s'
  refine wp_then c (wp_rest c q _ _ _) fun w173 => ?_
  obtain ⟨tri, u, k0, k1, vb, a, sg⟩ := C
  obtain ⟨da, dz, dkt, dvt, dq, cw⟩ := s'
  obtain ⟨dcat, qcatT, dcatT⟩ := B
  generalize hQ : (fun _ : BitVec 32 => iprop(readsAt c arg6 arg7 arg13 arg14 arg15 (⟨tri, u, k0, k1, vb, a, sg⟩ : Ctx F) ∗ heldAt c arg20 arg21 arg22 arg23 arg24 arg25 (finish ⟨tri, u, k0, k1, vb, a, sg⟩ ⟨dcat, qcatT, dcatT⟩ q.val ⟨da, dz, dkt, dvt, dq, cw⟩))) = Q
  by_cases hodd : q.val % 2 = 1
  · have h3 : ¬ k0_cond3 q = 1#1 := fun h => by have := (cond3_iff q).1 h; omega
    have h4 : k0_cond4 q = 1#1 := (cond4_iff q).2 hodd
    have hn : ¬ (0 < q.val ∧ q.val % 2 = 0) := by omega
    unfold readsAt heldAt owns
    iintro ⟨⟨⟨%f6, %h6, H6⟩, ⟨%f7, %h7, H7⟩, ⟨%f13, %h13, H13⟩, ⟨%f14, %h14, H14⟩, ⟨%f15, %h15, H15⟩⟩,
      ⟨⟨%f20, %h20, H20⟩, ⟨%f21, %h21, H21⟩, ⟨%f22, %h22, H22⟩, ⟨%f23, %h23, H23⟩, ⟨%f24, %h24, H24⟩, ⟨%f25, %h25, H25⟩⟩⟩
    dsimp only at h6 h7 h13 h14 h15 h20 h21 h22 h23 h24 h25
    subst h6 h7 h13 h14 h15 h20 h21 h22 h23 h24 h25
    sl_exec
    sl_step
    subst hQ
    dsimp only
    unfold readsAt heldAt owns
    dsimp only
    isplitl [H6 H7 H13 H14 H15]
    · isplitl [H6]; · iexists f6; isplitr; · ipureintro; rfl
                      iexact H6
      isplitl [H7]; · iexists f7; isplitr; · ipureintro; rfl
                      iexact H7
      isplitl [H13]; · iexists f13; isplitr; · ipureintro; rfl
                       iexact H13
      isplitl [H14]; · iexists f14; isplitr; · ipureintro; rfl
                       iexact H14
      iexists f15; isplitr; · ipureintro; rfl
      iexact H15
    isplitl [H20]; iexists _; isplitr; swap; iexact H20; rotate_left
    isplitl [H21]; iexists _; isplitr; swap; iexact H21; rotate_left
    isplitl [H22]; iexists _; isplitr; swap; iexact H22; rotate_left
    isplitl [H23]; iexists _; isplitr; swap; iexact H23; rotate_left
    isplitl [H24]; iexists _; isplitr; swap; iexact H24; rotate_left
    iexists _; isplitr; swap; iexact H25; rotate_left
    all_goals
      ipureintro
      sl_open_run
      simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (rfl : _ = ![0, 0, 0]), readAt_slot _ _ (rfl : _ = ![1, 0, 0]), read_writes_slot _ _ (rfl : _ = ![0, 0, 0]), read_writes_slot _ _ (rfl : _ = ![1, 0, 0]),
      slotAt_putSlot _ 0 (by decide), slotAt_putSlot _ 1 (by decide), slotAt_putSlot_ne _ 0 1 (by decide) (by decide), slotAt_putSlot_ne _ 1 0 (by decide) (by decide),
        readAt_tile _ _ (off23_eq q), readAt_rows _ _ (off24_eq q h4), readAt_cols _ _ (off25_eq q h4), read_writes_cols _ _ (off25_eq q h4), readAt_tile _ _ (off26_eq q h4),
        pay69_eq, pay70_eq, pay72_eq, pay73_eq, pay74_eq, finish, if_neg hn, if_pos hodd, stepDiag, gradsDiag, apply, Nat.sub_self]
  · have h4 : ¬ k0_cond4 q = 1#1 := fun h => hodd ((cond4_iff q).1 h)
    by_cases hz : q.val = 0
    · have h3 : ¬ k0_cond3 q = 1#1 := fun h => by have := (cond3_iff q).1 h; omega
      have hn : ¬ (0 < q.val ∧ q.val % 2 = 0) := by omega
      unfold readsAt heldAt owns
      iintro ⟨⟨⟨%f6, %h6, H6⟩, ⟨%f7, %h7, H7⟩, ⟨%f13, %h13, H13⟩, ⟨%f14, %h14, H14⟩, ⟨%f15, %h15, H15⟩⟩,
        ⟨⟨%f20, %h20, H20⟩, ⟨%f21, %h21, H21⟩, ⟨%f22, %h22, H22⟩, ⟨%f23, %h23, H23⟩, ⟨%f24, %h24, H24⟩, ⟨%f25, %h25, H25⟩⟩⟩
      dsimp only at h6 h7 h13 h14 h15 h20 h21 h22 h23 h24 h25
      subst h6 h7 h13 h14 h15 h20 h21 h22 h23 h24 h25
      sl_exec
      sl_step
      subst hQ
      dsimp only
      unfold readsAt heldAt owns
      dsimp only
      isplitl [H6 H7 H13 H14 H15]
      · isplitl [H6]; · iexists f6; isplitr; · ipureintro; rfl
                        iexact H6
        isplitl [H7]; · iexists f7; isplitr; · ipureintro; rfl
                        iexact H7
        isplitl [H13]; · iexists f13; isplitr; · ipureintro; rfl
                         iexact H13
        isplitl [H14]; · iexists f14; isplitr; · ipureintro; rfl
                         iexact H14
        iexists f15; isplitr; · ipureintro; rfl
        iexact H15
      isplitl [H20]; iexists _; isplitr; swap; iexact H20; rotate_left
      isplitl [H21]; iexists _; isplitr; swap; iexact H21; rotate_left
      isplitl [H22]; iexists _; isplitr; swap; iexact H22; rotate_left
      isplitl [H23]; iexists _; isplitr; swap; iexact H23; rotate_left
      isplitl [H24]; iexists _; isplitr; swap; iexact H24; rotate_left
      iexists _; isplitr; swap; iexact H25; rotate_left
      all_goals
        ipureintro
        simp only [finish, if_neg hn, if_neg hodd]
    · have hp : 0 < q.val ∧ q.val % 2 = 0 := by omega
      have h3 : k0_cond3 q = 1#1 := (cond3_iff q).2 hp
      have h2 : 2 ≤ q.val := by omega
      haveI : Fact (k0_cond3 q = 1#1) := ⟨h3⟩
      have hs1 : q.val - 1 + 1 = q.val := by omega
      have hs2 : q.val - 1 - 1 = q.val - 2 := by omega
      unfold readsAt heldAt owns
      iintro ⟨⟨⟨%f6, %h6, H6⟩, ⟨%f7, %h7, H7⟩, ⟨%f13, %h13, H13⟩, ⟨%f14, %h14, H14⟩, ⟨%f15, %h15, H15⟩⟩,
        ⟨⟨%f20, %h20, H20⟩, ⟨%f21, %h21, H21⟩, ⟨%f22, %h22, H22⟩, ⟨%f23, %h23, H23⟩, ⟨%f24, %h24, H24⟩, ⟨%f25, %h25, H25⟩⟩⟩
      dsimp only at h6 h7 h13 h14 h15 h20 h21 h22 h23 h24 h25
      subst h6 h7 h13 h14 h15 h20 h21 h22 h23 h24 h25
      sl_exec
      sl_step
      subst hQ
      dsimp only
      unfold readsAt heldAt owns
      dsimp only
      isplitl [H6 H7 H13 H14 H15]
      · isplitl [H6]; · iexists f6; isplitr; · ipureintro; rfl
                        iexact H6
        isplitl [H7]; · iexists f7; isplitr; · ipureintro; rfl
                        iexact H7
        isplitl [H13]; · iexists f13; isplitr; · ipureintro; rfl
                         iexact H13
        isplitl [H14]; · iexists f14; isplitr; · ipureintro; rfl
                         iexact H14
        iexists f15; isplitr; · ipureintro; rfl
        iexact H15
      isplitl [H20]; iexists _; isplitr; swap; iexact H20; rotate_left
      isplitl [H21]; iexists _; isplitr; swap; iexact H21; rotate_left
      isplitl [H22]; iexists _; isplitr; swap; iexact H22; rotate_left
      isplitl [H23]; iexists _; isplitr; swap; iexact H23; rotate_left
      isplitl [H24]; iexists _; isplitr; swap; iexact H24; rotate_left
      iexists _; isplitr; swap; iexact H25; rotate_left
      all_goals
        ipureintro
        sl_open_run
        simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (rfl : _ = ![0, 0, 0]), readAt_slot _ _ (rfl : _ = ![1, 0, 0]), read_writes_slot _ _ (rfl : _ = ![0, 0, 0]), read_writes_slot _ _ (rfl : _ = ![1, 0, 0]),
      slotAt_putSlot _ 0 (by decide), slotAt_putSlot _ 1 (by decide), slotAt_putSlot_ne _ 0 1 (by decide) (by decide), slotAt_putSlot_ne _ 1 0 (by decide) (by decide),
          readAt_rows _ _ (k0_off15_eq q), readAt_tile _ _ (off16_eq q h3), readAt_rows _ _ (off17_eq q h3), readAt_cols _ _ (off18_eq q h3), read_writes_cols _ _ (off18_eq q h3),
          readAt_tile _ _ (off19_eq q h3), readAt_tile _ _ (off20_eq q), readAt_rows _ _ (off21_eq q h3), readAt_cols _ _ (off22_eq q h3), read_writes_cols _ _ (off22_eq q h3),
          pay49_eq, pay53_eq, pay54_eq, pay56_eq, pay57_eq, pay58_eq, pay62_eq, pay63_eq, pay65_eq, pay66_eq, pay93_eq,
          finish, if_pos hp, stepDiag, step, scores, grads, gradsDiag, apply, hs1, hs2, Nat.sub_self, Nat.sub_zero,
          colsAt_putCols_ne _ (q.val - 1) (q.val - 2) (by omega) (by omega)]

end Cert.Proof.Attn

end
-- ==== Proof.Start.lean ====
/-
  The head of a query block: the parts of the query and cotangent buffers the block reads, the first key block's scores, and step 0.
-/
module

public import proofs.«01_k».proof.Proof.Access
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

/-- The buffers the query block's rows are read from. -/
def sideAt (q0 q1 : Vec F S128x2048 .bf16) (d0 d1 : Vec F S2048x128 .bf16) (t0 t1 : Vec F S128x2048 .bf16) : sProp 𝕄 :=
  iprop(owns (c : Thread nD τ) arg11 fullShare q0 ∗ owns (c : Thread nD τ) arg12 fullShare q1 ∗ owns (c : Thread nD τ) arg16 fullShare d0
    ∗ owns (c : Thread nD τ) arg17 fullShare d1 ∗ owns (c : Thread nD τ) arg18 fullShare t0 ∗ owns (c : Thread nD τ) arg19 fullShare t1)

/-- What query block `q` reads of them. -/
def blkOf (q0 q1 : Vec F S128x2048 .bf16) (d0 d1 : Vec F S2048x128 .bf16) (t0 t1 : Vec F S128x2048 .bf16) (q : ℕ) : Blk F :=
  ⟨k0_pay75 (rowsAt d0 q) (rowsAt d1 q), k0_pay76 (colsAt q0 q) (colsAt q1 q), k0_pay77 (colsAt t0 q) (colsAt t1 q)⟩

theorem rows_zero : (![0, 0] : Fin 2 → ℕ) = ![256 * 0, 0] := rfl
theorem rows_one : (![256, 0] : Fin 2 → ℕ) = ![256 * 1, 0] := rfl

set_option maxHeartbeats 2000000 in
/-- The block's loads. -/
theorem wp_loads (q0 q1 : Vec F S128x2048 .bf16) (d0 d1 : Vec F S2048x128 .bf16) (t0 t1 : Vec F S128x2048 .bf16) (vb : Vec F S2048x128 .bf16) (q : Fin k0_t1_loop.trips) (c0 c1 : BitVec 32) :
    iprop(sideAt c arg11 arg12 arg16 arg17 arg18 arg19 q0 q1 d0 d1 t0 t1 ∗ owns (c : Thread nD τ) arg15 fullShare vb)
      ⊢ wp frame (wpE (defs₀ (F := F)) Variants.none c none) Set.univ (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 c0 c1 q)
          (fun r => iprop(⌜r.2.2.2 = ⟨(blkOf q0 q1 d0 d1 t0 t1 q.val).dcat, (blkOf q0 q1 d0 d1 t0 t1 q.val).qcatT, (blkOf q0 q1 d0 d1 t0 t1 q.val).dcatT,
              k0_pay78 (rowsAt d0 q.val) (rowsAt d1 q.val) (rowsAt vb 0)⟩⌝
            ∗ sideAt c arg11 arg12 arg16 arg17 arg18 arg19 q0 q1 d0 d1 t0 t1 ∗ owns (c : Thread nD τ) arg15 fullShare vb)) := by
  rw [k0_part16_eq_skeleton]
  unfold k0_part16_skel sideAt owns
  iintro ⟨⟨⟨%f11, %h11, H11⟩, ⟨%f12, %h12, H12⟩, ⟨%f16, %h16, H16⟩, ⟨%f17, %h17, H17⟩, ⟨%f18, %h18, H18⟩, ⟨%f19, %h19, H19⟩⟩, ⟨%f15, %h15, H15⟩⟩
  dsimp only at h11 h12 h15 h16 h17 h18 h19
  subst h11 h12 h15 h16 h17 h18 h19
  sl_exec
  sl_step
  isplitr
  · ipureintro
    sl_open_run
    dsimp only
    simp only [View.readCov, View.writes_nil, blkOf, readAt_rows _ _ (k0_off1_eq q), readAt_cols _ _ (k0_off2_eq q), readAt_rows _ _ rows_zero]
  isplitr [H15]
  · isplitl [H11]; · iexists f11; isplitr; · ipureintro; rfl
                     iexact H11
    isplitl [H12]; · iexists f12; isplitr; · ipureintro; rfl
                     iexact H12
    isplitl [H16]; · iexists f16; isplitr; · ipureintro; rfl
                     iexact H16
    isplitl [H17]; · iexists f17; isplitr; · ipureintro; rfl
                     iexact H17
    isplitl [H18]; · iexists f18; isplitr; · ipureintro; rfl
                     iexact H18
    iexists f19; isplitr; · ipureintro; rfl
    iexact H19
  iexists f15; isplitr; · ipureintro; rfl
  iexact H15

set_option maxHeartbeats 2000000 in
/-- Step 0. -/
theorem wp_start (C : Ctx F) (x y : Vec F S256x128 .bf16) (B : Blk F) (hB : B.dcat = k0_pay75 x y) (q : Fin k0_t1_loop.trips) (w26 w112 : BitVec 32) (s : St F) :
    iprop(readsAt c arg6 arg7 arg13 arg14 arg15 C ∗ heldAt c arg20 arg21 arg22 arg23 arg24 arg25 s)
      ⊢ wp frame (wpE (defs₀ (F := F)) Variants.none c none) Set.univ (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q w26 w112 B.dcat (k0_pay78 x y (rowsAt C.vb 0)))
          (fun _ => iprop(readsAt c arg6 arg7 arg13 arg14 arg15 C ∗ heldAt c arg20 arg21 arg22 arg23 arg24 arg25 (start C B q.val s))) := by
  obtain ⟨tri, u, k0, k1, vb, a, sg⟩ := C
  obtain ⟨da, dz, dkt, dvt, dq, cw⟩ := s
  obtain ⟨dcat, qcatT, dcatT⟩ := B
  dsimp only at hB
  subst hB
  generalize hQ : (fun _ : BitVec 32 => iprop(readsAt c arg6 arg7 arg13 arg14 arg15 (⟨tri, u, k0, k1, vb, a, sg⟩ : Ctx F) ∗ heldAt c arg20 arg21 arg22 arg23 arg24 arg25 (start ⟨tri, u, k0, k1, vb, a, sg⟩ ⟨k0_pay75 x y, qcatT, dcatT⟩ q.val ⟨da, dz, dkt, dvt, dq, cw⟩))) = Q
  rw [k0_part17_eq_skeleton]
  unfold k0_part17_skel
  dsimp only
  by_cases hq : q.val = 0
  · have h1 : k0_cond1 q = 1#1 := (cond1_iff q).2 hq
    have h2 : ¬ k0_cond2 q = 1#1 := fun h => by have := (cond2_iff q).1 h; omega
    unfold readsAt heldAt owns
    iintro ⟨⟨⟨%f6, %h6, H6⟩, ⟨%f7, %h7, H7⟩, ⟨%f13, %h13, H13⟩, ⟨%f14, %h14, H14⟩, ⟨%f15, %h15, H15⟩⟩,
      ⟨⟨%f20, %h20, H20⟩, ⟨%f21, %h21, H21⟩, ⟨%f22, %h22, H22⟩, ⟨%f23, %h23, H23⟩, ⟨%f24, %h24, H24⟩, ⟨%f25, %h25, H25⟩⟩⟩
    dsimp only at h6 h7 h13 h14 h15 h20 h21 h22 h23 h24 h25
    subst h6 h7 h13 h14 h15 h20 h21 h22 h23 h24 h25
    sl_exec
    sl_step
    subst hQ
    dsimp only
    unfold readsAt heldAt owns
    dsimp only
    isplitl [H6 H7 H13 H14 H15]
    · isplitl [H6]; · iexists f6; isplitr; · ipureintro; rfl
                      iexact H6
      isplitl [H7]; · iexists f7; isplitr; · ipureintro; rfl
                      iexact H7
      isplitl [H13]; · iexists f13; isplitr; · ipureintro; rfl
                       iexact H13
      isplitl [H14]; · iexists f14; isplitr; · ipureintro; rfl
                       iexact H14
      iexists f15; isplitr; · ipureintro; rfl
      iexact H15
    isplitl [H20]; iexists _; isplitr; swap; iexact H20; rotate_left
    isplitl [H21]; iexists _; isplitr; swap; iexact H21; rotate_left
    isplitl [H22]; iexists _; isplitr; swap; iexact H22; rotate_left
    isplitl [H23]; iexists _; isplitr; swap; iexact H23; rotate_left
    isplitl [H24]; iexists _; isplitr; swap; iexact H24; rotate_left
    iexists _; isplitr; swap; iexact H25; rotate_left
    all_goals
      ipureintro
      sl_open_run
      simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (rfl : _ = ![0, 0, 0]), readAt_slot _ _ (rfl : _ = ![1, 0, 0]), read_writes_slot _ _ (rfl : _ = ![0, 0, 0]), read_writes_slot _ _ (rfl : _ = ![1, 0, 0]),
      slotAt_putSlot _ 0 (by decide), slotAt_putSlot _ 1 (by decide), slotAt_putSlot_ne _ 0 1 (by decide) (by decide), slotAt_putSlot_ne _ 1 0 (by decide) (by decide),
        readAt_tile _ _ (off3_eq q), pay79_eq, pay85_eq, start, if_pos hq, scores, gradsDiag]
  · have h1 : ¬ k0_cond1 q = 1#1 := fun h => hq ((cond1_iff q).1 h)
    have h2 : k0_cond2 q = 1#1 := (cond2_iff q).2 (by omega)
    unfold readsAt heldAt owns
    iintro ⟨⟨⟨%f6, %h6, H6⟩, ⟨%f7, %h7, H7⟩, ⟨%f13, %h13, H13⟩, ⟨%f14, %h14, H14⟩, ⟨%f15, %h15, H15⟩⟩,
      ⟨⟨%f20, %h20, H20⟩, ⟨%f21, %h21, H21⟩, ⟨%f22, %h22, H22⟩, ⟨%f23, %h23, H23⟩, ⟨%f24, %h24, H24⟩, ⟨%f25, %h25, H25⟩⟩⟩
    dsimp only at h6 h7 h13 h14 h15 h20 h21 h22 h23 h24 h25
    subst h6 h7 h13 h14 h15 h20 h21 h22 h23 h24 h25
    sl_exec
    sl_step
    subst hQ
    dsimp only
    unfold readsAt heldAt owns
    dsimp only
    isplitl [H6 H7 H13 H14 H15]
    · isplitl [H6]; · iexists f6; isplitr; · ipureintro; rfl
                      iexact H6
      isplitl [H7]; · iexists f7; isplitr; · ipureintro; rfl
                      iexact H7
      isplitl [H13]; · iexists f13; isplitr; · ipureintro; rfl
                       iexact H13
      isplitl [H14]; · iexists f14; isplitr; · ipureintro; rfl
                       iexact H14
      iexists f15; isplitr; · ipureintro; rfl
      iexact H15
    isplitl [H20]; iexists _; isplitr; swap; iexact H20; rotate_left
    isplitl [H21]; iexists _; isplitr; swap; iexact H21; rotate_left
    isplitl [H22]; iexists _; isplitr; swap; iexact H22; rotate_left
    isplitl [H23]; iexists _; isplitr; swap; iexact H23; rotate_left
    isplitl [H24]; iexists _; isplitr; swap; iexact H24; rotate_left
    iexists _; isplitr; swap; iexact H25; rotate_left
    all_goals
      ipureintro
      sl_open_run
      simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (rfl : _ = ![0, 0, 0]), readAt_slot _ _ (rfl : _ = ![1, 0, 0]), read_writes_slot _ _ (rfl : _ = ![0, 0, 0]), read_writes_slot _ _ (rfl : _ = ![1, 0, 0]),
      slotAt_putSlot _ 0 (by decide), slotAt_putSlot _ 1 (by decide), slotAt_putSlot_ne _ 0 1 (by decide) (by decide), slotAt_putSlot_ne _ 1 0 (by decide) (by decide),
        readAt_rows _ _ rows_one, readAt_tile _ _ (off4_eq q), pay79_eq, pay8_eq, pay11_eq, pay86_eq, start, if_neg hq, scores, grads]

end Cert.Proof.Attn

end
-- ==== Proof.Block.lean ====
/-
  One query block: its loads, its steps, the diagonal tile's gradient applied, and the query gradient's rows stored.
-/
module

public import proofs.«01_k».proof.Proof.Finish
public import proofs.«01_k».proof.Proof.Start
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

set_option maxHeartbeats 2000000 in
/-- The diagonal tile's gradient applied, all but the store into the value gradient's accumulator, which stays to be done. -/
theorem wp_block_end (C : Ctx F) (B : Blk F) (D : Vec F S2048x128 .bf16) (q : Fin k0_t1_loop.trips) (w26 w112 w1 : BitVec 32) (s : St F) :
    iprop((readsAt c arg6 arg7 arg13 arg14 arg15 C ∗ heldAt c arg20 arg21 arg22 arg23 arg24 arg25 s) ∗ owns (c : Thread nD τ) arg8 fullShare D)
      ⊢ wp frame (wpE (defs₀ (F := F)) Variants.none c none) Set.univ (do
          let ⟨v237, v239⟩ : Σ' (v237 : FVec F S128x256 .f32), Vec F S128x256 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 q w26 w112 B.qcatT B.dcatT w1
          Prog.lift (.store arg23 (Rect.unit (s := S128x2048) (k0_off2 q) S128x256.size (k0_off2_inb q)) (k0_pay4 v237) Finset.univ (View.stores_vmem_bits_univ h_S128x256 rfl) (.inl rfl))
          let v242 : Vec F S256x128 .f32 ← Prog.lift (.load arg24 (Rect.unit (s := S256x128) ![0, 0] S256x128.size inb_S256x128_S256x128_0_0).toLoadRect (View.loadsAt_vmem h_S256x128))
          let v247 : Vec F S256x128 .bf16 ← Prog.lift (.load arg8 (Rect.unit (s := S2048x128) (k0_off1 q) S256x128.size (k0_off1_inb q)).toLoadRect (View.loadsAt_vmem h_S256x128))
          Prog.lift (.store arg8 (Rect.unit (s := S2048x128) (k0_off1 q) S256x128.size (k0_off1_inb q)) (k0_pay5 v242) Finset.univ (View.stores_vmem h_S256x128 (harg8.storeExact_slice rfl _ (k0_off1_packedbf16 q)) (fun _ => rfl)) (.inl rfl))
          pure ⟨⟩)
          (fun _ : Unit => iprop((readsAt c arg6 arg7 arg13 arg14 arg15 C ∗ heldAt c arg20 arg21 arg22 arg23 arg24 arg25 (apply C B (tileIx q.val q.val) q.val (q.val % 2) s))
            ∗ owns (c : Thread nD τ) arg8 fullShare (putRows D q.val (k0_pay5 (apply C B (tileIx q.val q.val) q.val (q.val % 2) s).dq)))) := by
  obtain ⟨tri, u, k0, k1, vb, a, sg⟩ := C
  obtain ⟨da, dz, dkt, dvt, dq, cw⟩ := s
  obtain ⟨dcat, qcatT, dcatT⟩ := B
  generalize hQ : (fun _ : Unit => iprop((readsAt c arg6 arg7 arg13 arg14 arg15 (⟨tri, u, k0, k1, vb, a, sg⟩ : Ctx F) ∗ heldAt c arg20 arg21 arg22 arg23 arg24 arg25 (apply ⟨tri, u, k0, k1, vb, a, sg⟩ ⟨dcat, qcatT, dcatT⟩ (tileIx q.val q.val) q.val (q.val % 2) ⟨da, dz, dkt, dvt, dq, cw⟩))
            ∗ owns (c : Thread nD τ) arg8 fullShare (putRows D q.val (k0_pay5 (apply ⟨tri, u, k0, k1, vb, a, sg⟩ ⟨dcat, qcatT, dcatT⟩ (tileIx q.val q.val) q.val (q.val % 2) ⟨da, dz, dkt, dvt, dq, cw⟩).dq)))) = Q
  unfold readsAt heldAt owns
  iintro ⟨⟨⟨⟨%f6, %h6, H6⟩, ⟨%f7, %h7, H7⟩, ⟨%f13, %h13, H13⟩, ⟨%f14, %h14, H14⟩, ⟨%f15, %h15, H15⟩⟩,
    ⟨⟨%f20, %h20, H20⟩, ⟨%f21, %h21, H21⟩, ⟨%f22, %h22, H22⟩, ⟨%f23, %h23, H23⟩, ⟨%f24, %h24, H24⟩, ⟨%f25, %h25, H25⟩⟩⟩, ⟨%f8, %h8, H8⟩⟩
  dsimp only at h6 h7 h8 h13 h14 h15 h20 h21 h22 h23 h24 h25
  subst h6 h7 h8 h13 h14 h15 h20 h21 h22 h23 h24 h25
  dsimp only
  sl_exec
  sl_step
  subst hQ
  dsimp only
  unfold readsAt heldAt owns
  dsimp only
  isplitr [H8]; swap
  · iexists _; isplitr; swap; iexact H8
    ipureintro
    sl_open_run
    simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (off27_eq q), readAt_rows _ _ (k0_off1_eq q), read_writes_rows _ _ (k0_off1_eq q), pay95_eq, apply]
  isplitl [H6 H7 H13 H14 H15]
  · isplitl [H6]; · iexists f6; isplitr; · ipureintro; rfl
                    iexact H6
    isplitl [H7]; · iexists f7; isplitr; · ipureintro; rfl
                    iexact H7
    isplitl [H13]; · iexists f13; isplitr; · ipureintro; rfl
                     iexact H13
    isplitl [H14]; · iexists f14; isplitr; · ipureintro; rfl
                     iexact H14
    iexists f15; isplitr; · ipureintro; rfl
    iexact H15
  isplitl [H20]; iexists _; isplitr; swap; iexact H20; rotate_left
  isplitl [H21]; iexists _; isplitr; swap; iexact H21; rotate_left
  isplitl [H22]; iexists _; isplitr; swap; iexact H22; rotate_left
  isplitl [H23]; iexists _; isplitr; swap; iexact H23; rotate_left
  isplitl [H24]; iexists _; isplitr; swap; iexact H24; rotate_left
  iexists _; isplitr; swap; iexact H25; rotate_left
  all_goals
    ipureintro
    sl_open_run
    simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), readAt_slot _ _ (off27_eq q), readAt_rows _ _ (k0_off1_eq q), readAt_cols _ _ (k0_off2_eq q),
      read_writes_cols _ _ (k0_off2_eq q), readAt_tile _ _ (off28_eq q), pay95_eq, pay96_eq, pay97_eq, apply]

/-- One query block: the state after it, and its rows of the query gradient in the output. -/
theorem trip_qblock (C : Ctx F) (q0 q1 : Vec F S128x2048 .bf16) (d0 d1 : Vec F S2048x128 .bf16) (t0 t1 : Vec F S128x2048 .bf16) (D : Vec F S2048x128 .bf16)
    (q : Fin k0_t1_loop.trips) (s : St F) :
    iprop(sideAt c arg11 arg12 arg16 arg17 arg18 arg19 q0 q1 d0 d1 t0 t1 ∗ (readsAt c arg6 arg7 arg13 arg14 arg15 C ∗ heldAt c arg20 arg21 arg22 arg23 arg24 arg25 s) ∗ owns (c : Thread nD τ) arg8 fullShare D)
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q ())
          (fun _ => iprop(sideAt c arg11 arg12 arg16 arg17 arg18 arg19 q0 q1 d0 d1 t0 t1
            ∗ (readsAt c arg6 arg7 arg13 arg14 arg15 C ∗ heldAt c arg20 arg21 arg22 arg23 arg24 arg25 (qblock C (blkOf q0 q1 d0 d1 t0 t1 q.val) q.val s))
            ∗ owns (c : Thread nD τ) arg8 fullShare (putRows D q.val (k0_pay5 (qblock C (blkOf q0 q1 d0 d1 t0 t1 q.val) q.val s).dq)))) := by
  unfold k0_t1_body
  dsimp only
  refine wp_then c (Φ := fun r => iprop(⌜r.2.2.2 = ⟨(blkOf q0 q1 d0 d1 t0 t1 q.val).dcat, (blkOf q0 q1 d0 d1 t0 t1 q.val).qcatT, (blkOf q0 q1 d0 d1 t0 t1 q.val).dcatT,
              k0_pay78 (rowsAt d0 q.val) (rowsAt d1 q.val) (rowsAt C.vb 0)⟩⌝
            ∗ sideAt c arg11 arg12 arg16 arg17 arg18 arg19 q0 q1 d0 d1 t0 t1 ∗ (readsAt c arg6 arg7 arg13 arg14 arg15 C ∗ heldAt c arg20 arg21 arg22 arg23 arg24 arg25 s) ∗ owns (c : Thread nD τ) arg8 fullShare D)) ?_ fun r => ?_
  · iintro ⟨HS, ⟨HR, HH⟩, HD⟩
    unfold readsAt
    icases HR with ⟨H6, H7, H13, H14, H15⟩
    iapply (wp_wand_r frame (wpE (defs₀ (F := F)) Variants.none c none) Set.univ)
    isplitl [HS H15]
    · iapply (wp_loads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 q0 q1 d0 d1 t0 t1 C.vb q)
      isplitl [HS]; · iexact HS
      iexact H15
    iintro %r ⟨%hr, HS, H15⟩
    isplitr; · ipureintro; exact hr
    isplitl [HS]; · iexact HS
    isplitr [HD]; swap; · iexact HD
    isplitr [HH]; swap; · iexact HH
    isplitl [H6]; · iexact H6
    isplitl [H7]; · iexact H7
    isplitl [H13]; · iexact H13
    isplitl [H14]; · iexact H14
    iexact H15
  obtain ⟨w26, w93, w112, r⟩ := r
  iintro ⟨%hr, HS, HW, HD⟩
  dsimp only at hr
  subst hr
  dsimp only
  istop
  generalize hB : blkOf q0 q1 d0 d1 t0 t1 q.val = B
  have hBd : B.dcat = k0_pay75 (rowsAt d0 q.val) (rowsAt d1 q.val) := by rw [← hB]; rfl
  refine wp_then c (Φ := fun _ => iprop(sideAt c arg11 arg12 arg16 arg17 arg18 arg19 q0 q1 d0 d1 t0 t1 ∗ (readsAt c arg6 arg7 arg13 arg14 arg15 C ∗ heldAt c arg20 arg21 arg22 arg23 arg24 arg25 (start C B q.val s)) ∗ owns (c : Thread nD τ) arg8 fullShare D)) ?_ fun w166 => ?_
  · iintro ⟨⟨HS, HW⟩, HD⟩
    iapply (wp_wand_r frame (wpE (defs₀ (F := F)) Variants.none c none) Set.univ)
    isplitl [HW]
    · iapply (wp_start c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C _ _ B hBd q w26 w112 s); iexact HW
    iintro %w HW
    isplitl [HS]; · iexact HS
    isplitl [HW]; · iexact HW
    iexact HD
  refine wp_then c (Φ := fun _ => iprop(sideAt c arg11 arg12 arg16 arg17 arg18 arg19 q0 q1 d0 d1 t0 t1
    ∗ (readsAt c arg6 arg7 arg13 arg14 arg15 C ∗ heldAt c arg20 arg21 arg22 arg23 arg24 arg25 (finish C B q.val (pairs C B q.val (start C B q.val s) ((q.val - 1) / 2)))) ∗ owns (c : Thread nD τ) arg8 fullShare D)) ?_ fun w1 => ?_
  · iintro ⟨HS, HW, HD⟩
    iapply (wp_wand_r frame (wpE (defs₀ (F := F)) Variants.none c none) Set.univ)
    isplitl [HW]
    · iapply (wp_finish c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C B q w26 w112 w166 (start C B q.val s)); iexact HW
    iintro %w HW
    isplitl [HS]; · iexact HS
    isplitl [HW]; · iexact HW
    iexact HD
  iintro ⟨HS, HW, HD⟩
  iapply (wp_wand_r frame (wpE (defs₀ (F := F)) Variants.none c none) Set.univ)
  isplitl [HW HD]
  · iapply (wp_block_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C B D q w26 w112 w1)
    isplitl [HW]; · iexact HW
    iexact HD
  iintro %w ⟨HW, HD⟩
  isplitl [HS]; · iexact HS
  isplitl [HW]; · iexact HW
  iexact HD

end Cert.Proof.Attn

end
-- ==== Proof.Canon.lean ====
/-
  The walk of a query block without its slots: what each step puts into the buffers, as a recursion over the key blocks, and that the state
  after the walk holds those values. In particular nothing depends on what the scratch held before.
-/
module

public import proofs.«01_k».proof.Proof.Spec

@[expose] public section

set_option maxRecDepth 20000

noncomputable section

namespace Cert.Proof.Attn

open Cert.KernelIdeal Cert.KernelIdeal.Gen
open Idealize.ShloMosaic

variable {F : FTy → Type} [FloatOps F] (C : Ctx F) (B : Blk F) (qi : ℕ)

/-- The cotangent's rows times key block `j`'s values. -/
def daOf (j : ℕ) : Vec F S1x512x256 .f32 := k0_pay13 B.dcat (rowsAt C.vb j)

/-- The running row sum of `a · da` over the key blocks before `j`. -/
def cwOf : ℕ → Vec F S512x1 .f32
  | 0 => k0_pay81
  | j + 1 => k0_pay18 (cwOf j) (k0_pay14 (tileAt C.a (tileIx qi j)) (daOf C B j)) (k0_pay15 C.u (tileAt C.a (tileIx qi j)) (daOf C B j))

/-- The scores' gradient at key block `j`: masked on the diagonal. -/
def dzOf (j : ℕ) : Vec F S1x512x256 .bf16 :=
  if j = qi then k0_pay84 C.tri C.u (cwOf C B qi j) (tileAt C.a (tileIx qi j)) (daOf C B j) (tileAt C.sg (tileIx qi j))
  else k0_pay17 (k0_pay16 C.u (cwOf C B qi j) (tileAt C.a (tileIx qi j)) (daOf C B j) (tileAt C.sg (tileIx qi j)))

/-- The query gradient of the block from the key blocks before `j`. -/
def dqOf : ℕ → Vec F S256x128 .f32
  | 0 => k0_pay80
  | j + 1 => k0_pay20 (dzOf C B qi j) (dqOf j) (rowsAt C.k0 j) (rowsAt C.k1 j)

/-- The transposed key gradient `x` with the query block's part of the key blocks before `j` added. -/
def dkOf (x : Vec F S128x2048 .f32) : ℕ → Vec F S128x2048 .f32
  | 0 => x
  | j + 1 => putCols (dkOf x j) j (k0_pay21 B.qcatT (dzOf C B qi j) (colsAt (dkOf x j) j))

/-- The transposed value gradient likewise. -/
def dvOf (x : Vec F S128x2048 .f32) : ℕ → Vec F S128x2048 .f32
  | 0 => x
  | j + 1 => putCols (dvOf x j) j (k0_pay22 B.dcatT (colsAt (dvOf x j) j) (tileAt C.a (tileIx qi j)))

/-- The state after step `j`, begun from the accumulators of `s₀`. -/
structure Reached (s₀ : St F) (j : ℕ) (s : St F) : Prop where
  da : j < qi → slotAt s.da ((j + 1) % 2) = daOf C B (j + 1)
  dz : slotAt s.dz (j % 2) = dzOf C B qi j
  cw : s.cw = cwOf C B qi (j + 1)
  dq : s.dq = dqOf C B qi j
  dk : s.dkt = dkOf C B qi s₀.dkt j
  dv : s.dvt = dvOf C B qi s₀.dvt j

theorem start_reached (s : St F) : Reached C B qi s 0 (start C B qi s) := by
  unfold start
  by_cases h : qi = 0
  · subst h
    simp only [if_pos]
    refine ⟨fun h => absurd h (Nat.lt_irrefl 0), ?_, ?_, rfl, rfl, rfl⟩
    · simp only [gradsDiag, scores, slotAt_putSlot _ 0 (by decide), Nat.zero_mod]
      rfl
    · simp only [gradsDiag, scores, slotAt_putSlot _ 0 (by decide)]
      rfl
  · simp only [if_neg h]
    refine ⟨fun _ => ?_, ?_, ?_, rfl, rfl, rfl⟩
    · simp only [grads, scores]
      exact slotAt_putSlot _ 1 (by decide) _
    · simp only [grads, scores, slotAt_putSlot _ 0 (by decide), slotAt_putSlot_ne _ 0 1 (by decide) (by decide), Nat.zero_mod, dzOf, if_neg (Ne.symm h)]
      rfl
    · simp only [grads, scores, slotAt_putSlot _ 0 (by decide), slotAt_putSlot_ne _ 0 1 (by decide) (by decide)]
      rfl

theorem step_reached (s₀ s : St F) (j b : ℕ) (hb : b = (j + 1) % 2) (hj : j + 1 < qi) (h : Reached C B qi s₀ j s) :
    Reached C B qi s₀ (j + 1) (step C B qi (j + 1) b s) := by
  have hb2 : b < 2 := by omega
  have hc : (j + 1 + 1) % 2 = 1 - b := by omega
  have hj2 : j % 2 = 1 - b := by omega
  have hne : j + 1 ≠ qi := by omega
  have hda := h.da (by omega)
  have hdz := h.dz
  rw [← hb] at hda
  rw [hj2] at hdz
  unfold step
  simp only [Nat.add_sub_cancel]
  refine ⟨fun _ => ?_, ?_, ?_, ?_, ?_, ?_⟩
  · simp only [apply, grads, scores, hc]
    exact slotAt_putSlot _ (1 - b) (by omega) _
  · simp only [apply, grads, scores, ← hb]
    rw [slotAt_putSlot _ b hb2, slotAt_putSlot_ne _ b (1 - b) hb2 (by omega), hda, h.cw, dzOf, if_neg hne]
  · simp only [apply, grads, scores]
    rw [slotAt_putSlot_ne _ b (1 - b) hb2 (by omega), hda, h.cw]
    rfl
  · simp only [apply, grads, scores]
    rw [slotAt_putSlot_ne _ (1 - b) b (by omega) (by omega), hdz, h.dq]
    rfl
  · simp only [apply, grads, scores]
    rw [slotAt_putSlot_ne _ (1 - b) b (by omega) (by omega), hdz, h.dk]
    rfl
  · simp only [apply, grads, scores]
    rw [h.dv]
    rfl

theorem stepDiag_reached (s₀ s : St F) (j b : ℕ) (hb : b = (j + 1) % 2) (hj : j + 1 = qi) (h : Reached C B qi s₀ j s) :
    Reached C B qi s₀ (j + 1) (stepDiag C B qi b s) := by
  have hb2 : b < 2 := by omega
  have hj2 : j % 2 = 1 - b := by omega
  have hda := h.da (by omega)
  have hdz := h.dz
  rw [← hb] at hda
  rw [hj2] at hdz
  unfold stepDiag
  subst hj
  simp only [Nat.add_sub_cancel]
  refine ⟨fun h => absurd h (Nat.lt_irrefl _), ?_, ?_, ?_, ?_, ?_⟩
  · simp only [apply, gradsDiag, ← hb]
    rw [slotAt_putSlot _ b hb2, hda, h.cw, dzOf, if_pos rfl]
  · simp only [apply, gradsDiag]
    rw [hda, h.cw]
    rfl
  · simp only [apply, gradsDiag]
    rw [slotAt_putSlot_ne _ (1 - b) b (by omega) (by omega), hdz, h.dq]
    rfl
  · simp only [apply, gradsDiag]
    rw [slotAt_putSlot_ne _ (1 - b) b (by omega) (by omega), hdz, h.dk]
    rfl
  · simp only [apply, gradsDiag]
    rw [h.dv]
    rfl

theorem pairs_reached (s : St F) : ∀ n, 2 * n < qi ∨ n = 0 → Reached C B qi s (2 * n) (pairs C B qi (start C B qi s) n)
  | 0, _ => start_reached C B qi s
  | n + 1, h => by
    have ih := pairs_reached s n (by omega)
    have h1 := step_reached C B qi s _ (2 * n) 1 (by omega) (by omega) ih
    exact step_reached C B qi s _ (2 * n + 1) 0 (by omega) (by omega) h1

theorem finish_reached (s : St F) : Reached C B qi s qi (finish C B qi (pairs C B qi (start C B qi s) ((qi - 1) / 2))) := by
  have h := pairs_reached C B qi s ((qi - 1) / 2) (by omega)
  unfold finish
  by_cases h1 : 0 < qi ∧ qi % 2 = 0
  · rw [if_pos h1]
    have e : 2 * ((qi - 1) / 2) = qi - 2 := by omega
    rw [e] at h
    have h2 := step_reached C B qi s _ (qi - 2) 1 (by omega) (by omega) h
    have e2 : qi - 2 + 1 = qi - 1 := by omega
    rw [e2] at h2
    have h3 := stepDiag_reached C B qi s _ (qi - 1) 0 (by omega) (by omega) h2
    have e3 : qi - 1 + 1 = qi := by omega
    rwa [e3] at h3
  · rw [if_neg h1]
    by_cases h2 : qi % 2 = 1
    · rw [if_pos h2]
      have e : 2 * ((qi - 1) / 2) = qi - 1 := by omega
      rw [e] at h
      have h3 := stepDiag_reached C B qi s _ (qi - 1) 1 (by omega) (by omega) h
      have e3 : qi - 1 + 1 = qi := by omega
      rwa [e3] at h3
    · rw [if_neg h2]
      have e : 2 * ((qi - 1) / 2) = qi := by omega
      rwa [e] at h

theorem qblock_dq (s : St F) : (qblock C B qi s).dq = dqOf C B qi (qi + 1) := by
  have h := finish_reached C B qi s
  unfold qblock
  simp only [apply]
  rw [h.dz, h.dq]
  rfl

theorem qblock_dkt (s : St F) : (qblock C B qi s).dkt = dkOf C B qi s.dkt (qi + 1) := by
  have h := finish_reached C B qi s
  unfold qblock
  simp only [apply]
  rw [h.dz, h.dk]
  rfl

theorem qblock_dvt (s : St F) : (qblock C B qi s).dvt = dvOf C B qi s.dvt (qi + 1) := by
  have h := finish_reached C B qi s
  unfold qblock
  simp only [apply]
  rw [h.dv]
  rfl

/-! ## All query blocks -/

variable (Bs : ℕ → Blk F)

/-- The transposed key gradient after the first `n` query blocks. -/
def dkAll : ℕ → Vec F S128x2048 .f32
  | 0 => k0_pay2
  | n + 1 => dkOf C (Bs n) n (dkAll n) (n + 1)

/-- The transposed value gradient after the first `n` query blocks. -/
def dvAll : ℕ → Vec F S128x2048 .f32
  | 0 => k0_pay3
  | n + 1 => dvOf C (Bs n) n (dvAll n) (n + 1)

/-- Query block `n`'s rows of the query gradient. -/
def dqRow (n : ℕ) : Vec F S256x128 .bf16 := k0_pay5 (dqOf C (Bs n) n (n + 1))

/-- The query gradient of the grid point: each row in its block. -/
def dqAll : Vec F S2048x128 .bf16 := fun y =>
  dqRow C Bs ((y 0).val / 256) (Fin.cons ⟨(y 0).val % 256, Nat.mod_lt _ (by decide)⟩ (Fin.cons (y 1) finZeroElim))

/-- A block of rows at an index in it, and at an index outside. -/
theorem putRows_apply {α : Type} (x : S2048x128.Idx → α) (n : ℕ) (hn : n < 8) (w : S256x128.Idx → α) (y : S2048x128.Idx) :
    putRows x n w y = if (y 0).val / 256 = n then w (Fin.cons ⟨(y 0).val % 256, Nat.mod_lt _ (by decide)⟩ (Fin.cons (y 1) finZeroElim)) else x y := by
  have hy : (y 0).val < 2048 := (y 0).isLt
  by_cases h : (y 0).val / 256 = n
  · rw [if_pos h]
    have inb : ∀ a, (![256 * n, 0] : Fin 2 → ℕ) a + S256x128.size a ≤ S2048x128.size a := by
      intro a; fin_cases a
      · show 256 * n + 256 ≤ 2048; omega
      · exact Nat.le_refl 128
    have e := congrFun (VecWindow.window_put_same x ![256 * n, 0] S256x128.size inb w) (Fin.cons ⟨(y 0).val % 256, Nat.mod_lt _ (by decide)⟩ (Fin.cons (y 1) finZeroElim))
    rw [← e]
    refine congrArg (VecWindow.put x ![256 * n, 0] S256x128.size w) (funext fun a => Fin.ext ?_)
    fin_cases a
    · show (y 0).val = 256 * n + 1 * ((y 0).val % 256)
      omega
    · show (y 1).val = 0 + 1 * (y 1).val
      omega
  · rw [if_neg h]
    refine dif_neg fun hm => h ?_
    have h0 : 256 * n ≤ (y 0).val ∧ (y 0).val < 256 * n + 256 := hm 0
    omega

end Cert.Proof.Attn

end
-- ==== Proof.Loop.lean ====
/-
  The loop over the query blocks: the key and value gradients it leaves in the accumulators, and the query gradient it leaves in the output.
-/
module

public import proofs.«01_k».proof.Proof.Block
public import proofs.«01_k».proof.Proof.Canon
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

/-- Before query block `n` runs: the accumulators hold the gradients of the blocks before it, and so do the rows of the output. -/
def loopInv (C : Ctx F) (q0 q1 : Vec F S128x2048 .bf16) (d0 d1 : Vec F S2048x128 .bf16) (t0 t1 : Vec F S128x2048 .bf16) (n : ℕ) : sProp 𝕄 :=
  iprop(∃ s D, ⌜s.dkt = dkAll C (blkOf q0 q1 d0 d1 t0 t1) n ∧ s.dvt = dvAll C (blkOf q0 q1 d0 d1 t0 t1) n
      ∧ ∀ y : S2048x128.Idx, (y 0).val < 256 * n → D y = dqAll C (blkOf q0 q1 d0 d1 t0 t1) y⌝
    ∗ sideAt c arg11 arg12 arg16 arg17 arg18 arg19 q0 q1 d0 d1 t0 t1 ∗ (readsAt c arg6 arg7 arg13 arg14 arg15 C ∗ heldAt c arg20 arg21 arg22 arg23 arg24 arg25 s) ∗ owns (c : Thread nD τ) arg8 fullShare D)

set_option maxHeartbeats 1000000 in
theorem trip_loop (C : Ctx F) (q0 q1 : Vec F S128x2048 .bf16) (d0 d1 : Vec F S2048x128 .bf16) (t0 t1 : Vec F S128x2048 .bf16) (q : Fin k0_t1_loop.trips) :
    loopInv c arg6 arg7 arg8 arg11 arg12 arg13 arg14 arg15 arg16 arg17 arg18 arg19 arg20 arg21 arg22 arg23 arg24 arg25 C q0 q1 d0 d1 t0 t1 q.val
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u q ())
          (fun _ => loopInv c arg6 arg7 arg8 arg11 arg12 arg13 arg14 arg15 arg16 arg17 arg18 arg19 arg20 arg21 arg22 arg23 arg24 arg25 C q0 q1 d0 d1 t0 t1 (q.val + 1)) := by
  have hq : q.val < 8 := trips_q ▸ q.isLt
  unfold loopInv
  iintro ⟨%s, %D, %h, HS, HW, HD⟩
  obtain ⟨hk, hv, hD⟩ := h
  iapply (wp_wand_r frame (wpE (defs₀ (F := F)) Variants.none c none) Set.univ)
  isplitl [HS HW HD]
  · iapply (trip_qblock c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C q0 q1 d0 d1 t0 t1 D q s)
    isplitl [HS]; · iexact HS
    isplitl [HW]; · iexact HW
    iexact HD
  iintro %w ⟨HS, HW, HD⟩
  iexists _, _
  isplitr
  swap
  · isplitl [HS]; · iexact HS
    isplitl [HW]; · iexact HW
    iexact HD
  ipureintro
  refine ⟨by rw [qblock_dkt, hk]; rfl, by rw [qblock_dvt, hv]; rfl, fun y hy => ?_⟩
  rw [putRows_apply _ _ hq, qblock_dq]
  by_cases h : (y 0).val / 256 = q.val
  · rw [if_pos h]
    unfold dqAll dqRow
    rw [h]
  · rw [if_neg h]
    exact hD y (by omega)

set_option maxHeartbeats 1000000 in
theorem wp_qblocks (C : Ctx F) (q0 q1 : Vec F S128x2048 .bf16) (d0 d1 : Vec F S2048x128 .bf16) (t0 t1 : Vec F S128x2048 .bf16) :
    loopInv c arg6 arg7 arg8 arg11 arg12 arg13 arg14 arg15 arg16 arg17 arg18 arg19 arg20 arg21 arg22 arg23 arg24 arg25 C q0 q1 d0 d1 t0 t1 0
      ⊢ wp frame (wpE (defs₀ (F := F)) Variants.none c none) Set.univ (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u))
          (fun _ => loopInv c arg6 arg7 arg8 arg11 arg12 arg13 arg14 arg15 arg16 arg17 arg18 arg19 arg20 arg21 arg22 arg23 arg24 arg25 C q0 q1 d0 d1 t0 t1 8) := by
  have h := Scf.wp_for (Fr := frame) (wpE := wpE (defs₀ (F := F)) Variants.none c none) (Es := Set.univ) k0_t1_loop.lb k0_t1_loop.ub
    k0_t1_loop.st k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C.tri C.u)
    (fun n _ => loopInv c arg6 arg7 arg8 arg11 arg12 arg13 arg14 arg15 arg16 arg17 arg18 arg19 arg20 arg21 arg22 arg23 arg24 arg25 C q0 q1 d0 d1 t0 t1 n)
    (fun k _ => trip_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 C q0 q1 d0 d1 t0 t1 k)
    (Q := fun _ => loopInv c arg6 arg7 arg8 arg11 arg12 arg13 arg14 arg15 arg16 arg17 arg18 arg19 arg20 arg21 arg22 arg23 arg24 arg25 C q0 q1 d0 d1 t0 t1 8)
  refine BIBase.Entails.trans ?_ h
  iintro H
  isplitl [H]; · iexact H
  iintro %acc H
  have e : Scf.trips k0_t1_loop.lb k0_t1_loop.ub k0_t1_loop.st = 8 := trips_q
  rw [e]
  iexact H

end Cert.Proof.Attn

end
-- ==== Proof.Body.lean ====
/-
  The whole body: the scratch filled from the operands, the loop over the query blocks, and the key and value gradients transposed into the
  outputs. What it leaves in the outputs is a function of the operands alone.
-/
module

public import proofs.«01_k».proof.Proof.Loop
public import Idealize.ShloMosaic.Lib.Tactic.Stretches

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S128x2048 .bf16) (harg18 : arg18.IsWhole) (arg19 : Memref sig .tc .vmem S128x2048 .bf16) (harg19 : arg19.IsWhole) (arg20 : Memref sig .tc .vmem S2x512x256 .f32) (harg20 : arg20.IsWhole) (arg21 : Memref sig .tc .vmem S2x512x256 .bf16) (harg21 : arg21.IsWhole) (arg22 : Memref sig .tc .vmem S128x2048 .f32) (harg22 : arg22.IsWhole) (arg23 : Memref sig .tc .vmem S128x2048 .f32) (harg23 : arg23.IsWhole) (arg24 : Memref sig .tc .vmem S256x128 .f32) (harg24 : arg24.IsWhole) (arg25 : Memref sig .tc .vmem S512x1 .f32) (harg25 : arg25.IsWhole)

/-- What the body reads, of the operands. -/
def ctxOf (x3 x4 : Vec F S2048x128 .bf16) (x6 x7 : Vec F S1x1x36x512x256 .bf16) : Ctx F :=
  ⟨k0_pay99, k0_pay100, k0_pay105 x3, k0_pay106 k0_pay98 x3 (Scalar.ofBits .f32 0x00000000#32), k0_pay107 x4, x6, x7⟩

/-- What it reads at a query block, of the operands. -/
def blksOf (x2 x5 : Vec F S2048x128 .bf16) : ℕ → Blk F :=
  blkOf (k0_pay103 x2) (k0_pay104 x2) (k0_pay108 k0_pay98 x5) (k0_pay109 k0_pay98 x5) (k0_pay111 k0_pay101 x5) (k0_pay1 (k0_pay112 k0_pay101 x5))

/-- The three outputs. -/
def outDq (x2 x3 x4 x5 : Vec F S2048x128 .bf16) (x6 x7 : Vec F S1x1x36x512x256 .bf16) : Vec F S2048x128 .bf16 :=
  dqAll (ctxOf x3 x4 x6 x7) (blksOf x2 x5)
def outDk (x2 x3 x4 x5 : Vec F S2048x128 .bf16) (x6 x7 : Vec F S1x1x36x512x256 .bf16) : Vec F S2048x128 .bf16 :=
  k0_pay6 (dkAll (ctxOf x3 x4 x6 x7) (blksOf x2 x5) 8)
def outDv (x2 x3 x4 x5 : Vec F S2048x128 .bf16) (x6 x7 : Vec F S1x1x36x512x256 .bf16) : Vec F S2048x128 .bf16 :=
  k0_pay7 (dvAll (ctxOf x3 x4 x6 x7) (blksOf x2 x5) 8)

set_option maxHeartbeats 2000000 in
/-- The scratch of the queries and of the first head's keys. -/
theorem wp_fill (x2 x3 : Vec F S2048x128 .bf16) :
    (iprop(owns (c : Thread nD τ) arg2 fullShare x2 ∗ owns (c : Thread nD τ) arg3 fullShare x3
        ∗ (∃ d, owns (c : Thread nD τ) arg11 fullShare d) ∗ (∃ d, owns (c : Thread nD τ) arg12 fullShare d) ∗ (∃ d, owns (c : Thread nD τ) arg13 fullShare d)) : sProp 𝕄)
      ⊢ wp frame (wpE (defs₀ (F := F)) Variants.none c none) Set.univ (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun r => iprop(⌜r = ⟨k0_pay98, k0_pay99, k0_pay100, k0_pay101, x3, Scalar.ofBits .f32 0x00000000#32⟩⌝
            ∗ owns (c : Thread nD τ) arg2 fullShare x2 ∗ owns (c : Thread nD τ) arg3 fullShare x3
            ∗ owns (c : Thread nD τ) arg11 fullShare (k0_pay103 x2) ∗ owns (c : Thread nD τ) arg12 fullShare (k0_pay104 x2) ∗ owns (c : Thread nD τ) arg13 fullShare (k0_pay105 x3))) := by
  rw [k0_part20_eq_skeleton]
  unfold k0_part20_skel owns
  iintro ⟨⟨%f2, %h2, H2⟩, ⟨%f3, %h3, H3⟩, ⟨%d11, %f11, -, H11⟩, ⟨%d12, %f12, -, H12⟩, ⟨%d13, %f13, -, H13⟩⟩
  subst h2 h3
  sl_exec
  sl_step
  isplitr
  · ipureintro
    sl_open_run
    dsimp only
    simp only [View.readCov, View.writes_nil, readAt_whole_rows _ _ (off := ![0, 0])]
  isplitl [H2]; · iexists f2; isplitr; · ipureintro; rfl
                  iexact H2
  isplitl [H3]; · iexists f3; isplitr; · ipureintro; rfl
                  iexact H3
  isplitl [H11]; iexists _; isplitr; swap; iexact H11; rotate_left
  isplitl [H12]; iexists _; isplitr; swap; iexact H12; rotate_left
  iexists _; isplitr; swap; iexact H13; rotate_left
  all_goals
    ipureintro
    sl_open_run
    simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), outDk]

set_option maxHeartbeats 2000000 in
/-- The scratch of the second head's keys, of the values and of the cotangent. -/
theorem wp_fill2 (x3 x4 x5 : Vec F S2048x128 .bf16) :
    (iprop(owns (c : Thread nD τ) arg4 fullShare x4 ∗ owns (c : Thread nD τ) arg5 fullShare x5
        ∗ (∃ d, owns (c : Thread nD τ) arg14 fullShare d) ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d) ∗ (∃ d, owns (c : Thread nD τ) arg19 fullShare d)) : sProp 𝕄)
      ⊢ wp frame (wpE (defs₀ (F := F)) Variants.none c none) Set.univ (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_pay98 k0_pay101 x3 (Scalar.ofBits .f32 0x00000000#32))
          (fun r => iprop(⌜r.1 = k0_pay112 k0_pay101 x5⌝
            ∗ owns (c : Thread nD τ) arg4 fullShare x4 ∗ owns (c : Thread nD τ) arg5 fullShare x5
            ∗ owns (c : Thread nD τ) arg14 fullShare (k0_pay106 k0_pay98 x3 (Scalar.ofBits .f32 0x00000000#32)) ∗ owns (c : Thread nD τ) arg15 fullShare (k0_pay107 x4)
            ∗ owns (c : Thread nD τ) arg16 fullShare (k0_pay108 k0_pay98 x5) ∗ owns (c : Thread nD τ) arg17 fullShare (k0_pay109 k0_pay98 x5)
            ∗ owns (c : Thread nD τ) arg18 fullShare (k0_pay111 k0_pay101 x5) ∗ (∃ d, owns (c : Thread nD τ) arg19 fullShare d))) := by
  rw [k0_part21_eq_skeleton]
  unfold k0_part21_skel owns
  iintro ⟨⟨%f4, %h4, H4⟩, ⟨%f5, %h5, H5⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  subst h4 h5
  sl_exec
  sl_step
  isplitr
  · ipureintro
    sl_open_run
    dsimp only
    simp only [View.readCov, View.writes_nil, readAt_whole_rows _ _ (off := ![0, 0])]
  isplitl [H4]; · iexists f4; isplitr; · ipureintro; rfl
                  iexact H4
  isplitl [H5]; · iexists f5; isplitr; · ipureintro; rfl
                  iexact H5
  isplitl [H14]; iexists _; isplitr; swap; iexact H14; rotate_left
  isplitl [H15]; iexists _; isplitr; swap; iexact H15; rotate_left
  isplitl [H16]; iexists _; isplitr; swap; iexact H16; rotate_left
  isplitl [H17]; iexists _; isplitr; swap; iexact H17; rotate_left
  isplitl [H18]; iexists _; isplitr; swap; iexact H18; rotate_left
  · iexists _, f19; isplitr; · ipureintro; rfl
    iexact H19
  all_goals
    ipureintro
    sl_open_run
    simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), View.writes_nil]

/-- The operands, at their values. -/
def operandsAt (x2 x3 x4 x5 : Vec F S2048x128 .bf16) (x6 x7 : Vec F S1x1x36x512x256 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7)

/-- The outputs, at what the operands give. -/
def outputsAt (x2 x3 x4 x5 : Vec F S2048x128 .bf16) (x6 x7 : Vec F S1x1x36x512x256 .bf16) : sProp 𝕄 :=
  iprop(owns (c : Thread nD τ) arg8 fullShare (outDq x2 x3 x4 x5 x6 x7) ∗ owns (c : Thread nD τ) arg9 fullShare (outDk x2 x3 x4 x5 x6 x7) ∗ owns (c : Thread nD τ) arg10 fullShare (outDv x2 x3 x4 x5 x6 x7))

/-- The scratch, at anything. -/
def scratchAny : sProp 𝕄 :=
  iprop((∃ d, owns (c : Thread nD τ) arg11 fullShare d) ∗ (∃ d, owns (c : Thread nD τ) arg12 fullShare d) ∗ (∃ d, owns (c : Thread nD τ) arg13 fullShare d)
          ∗ (∃ d, owns (c : Thread nD τ) arg14 fullShare d) ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d) ∗ (∃ d, owns (c : Thread nD τ) arg19 fullShare d)
          ∗ (∃ d, owns (c : Thread nD τ) arg20 fullShare d) ∗ (∃ d, owns (c : Thread nD τ) arg21 fullShare d) ∗ (∃ d, owns (c : Thread nD τ) arg22 fullShare d)
          ∗ (∃ d, owns (c : Thread nD τ) arg23 fullShare d) ∗ (∃ d, owns (c : Thread nD τ) arg24 fullShare d) ∗ (∃ d, owns (c : Thread nD τ) arg25 fullShare d))

set_option maxHeartbeats 2000000 in
/-- The body: the operands as they were, the outputs at what the operands give, the scratch at anything. -/
theorem wp_body (x2 x3 x4 x5 : Vec F S2048x128 .bf16) (x6 x7 : Vec F S1x1x36x512x256 .bf16) :
    iprop(operandsAt c arg2 arg3 arg4 arg5 arg6 arg7 x2 x3 x4 x5 x6 x7 ∗ ((∃ d, owns (c : Thread nD τ) arg8 fullShare d) ∗ (∃ d, owns (c : Thread nD τ) arg9 fullShare d) ∗ (∃ d, owns (c : Thread nD τ) arg10 fullShare d)) ∗ scratchAny (F := F) c arg11 arg12 arg13 arg14 arg15 arg16 arg17 arg18 arg19 arg20 arg21 arg22 arg23 arg24 arg25)
      ⊢ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(operandsAt c arg2 arg3 arg4 arg5 arg6 arg7 x2 x3 x4 x5 x6 x7 ∗ outputsAt c arg8 arg9 arg10 x2 x3 x4 x5 x6 x7 ∗ scratchAny (F := F) c arg11 arg12 arg13 arg14 arg15 arg16 arg17 arg18 arg19 arg20 arg21 arg22 arg23 arg24 arg25)) := by
  generalize hQ : (fun _ : PUnit => iprop(operandsAt c arg2 arg3 arg4 arg5 arg6 arg7 x2 x3 x4 x5 x6 x7 ∗ outputsAt c arg8 arg9 arg10 x2 x3 x4 x5 x6 x7 ∗ scratchAny (F := F) c arg11 arg12 arg13 arg14 arg15 arg16 arg17 arg18 arg19 arg20 arg21 arg22 arg23 arg24 arg25)) = Q
  unfold operandsAt scratchAny
  rw [cc0_attn_bwd_eq_skeleton]
  unfold cc0_attn_bwd_skel
  dsimp only
  refine wp_then c (Φ := fun r => iprop((⌜r = ⟨k0_pay98, k0_pay99, k0_pay100, k0_pay101, x3, Scalar.ofBits .f32 0x00000000#32⟩⌝
            ∗ owns (c : Thread nD τ) arg2 fullShare x2 ∗ owns (c : Thread nD τ) arg3 fullShare x3
            ∗ owns (c : Thread nD τ) arg11 fullShare (k0_pay103 x2) ∗ owns (c : Thread nD τ) arg12 fullShare (k0_pay104 x2) ∗ owns (c : Thread nD τ) arg13 fullShare (k0_pay105 x3))
      ∗ (owns (c : Thread nD τ) arg6 fullShare x6 ∗ owns (c : Thread nD τ) arg7 fullShare x7)
      ∗ ((∃ d, owns (c : Thread nD τ) arg8 fullShare d) ∗ (∃ d, owns (c : Thread nD τ) arg9 fullShare d) ∗ (∃ d, owns (c : Thread nD τ) arg10 fullShare d))
      ∗ ((∃ d, owns (c : Thread nD τ) arg20 fullShare d) ∗ (∃ d, owns (c : Thread nD τ) arg21 fullShare d) ∗ (∃ d, owns (c : Thread nD τ) arg22 fullShare d)
          ∗ (∃ d, owns (c : Thread nD τ) arg23 fullShare d) ∗ (∃ d, owns (c : Thread nD τ) arg24 fullShare d) ∗ (∃ d, owns (c : Thread nD τ) arg25 fullShare d))
      ∗ (owns (c : Thread nD τ) arg4 fullShare x4 ∗ owns (c : Thread nD τ) arg5 fullShare x5
        ∗ (∃ d, owns (c : Thread nD τ) arg14 fullShare d) ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d) ∗ (∃ d, owns (c : Thread nD τ) arg19 fullShare d)))) ?_ fun r => ?_
  · iintro ⟨⟨H2, H3, H4, H5, H6, H7⟩, HO, H11, H12, H13, H14, H15, H16, H17, H18, H19, HS⟩
    iapply (wp_wand_r frame (wpE (defs₀ (F := F)) Variants.none c none) Set.univ)
    isplitl [H2 H3 H11 H12 H13]
    · iapply (wp_fill (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x2 x3)
      isplitl [H2]; · iexact H2
      isplitl [H3]; · iexact H3
      isplitl [H11]; · iexact H11
      isplitl [H12]; · iexact H12
      iexact H13
    iintro %r HR
    isplitl [HR]; · iexact HR
    isplitl [H6 H7]
    · isplitl [H6]; · iexact H6
      iexact H7
    isplitl [HO]; · iexact HO
    isplitl [HS]; · iexact HS
    isplitl [H4]; · iexact H4
    isplitl [H5]; · iexact H5
    isplitl [H14]; · iexact H14
    isplitl [H15]; · iexact H15
    isplitl [H16]; · iexact H16
    isplitl [H17]; · iexact H17
    isplitl [H18]; · iexact H18
    iexact H19
  iintro ⟨⟨%hr, H2, H3, H11, H12, H13⟩, HX, HO, HS, HP⟩
  subst hr
  dsimp only
  istop
  refine wp_then c (Φ := fun r => iprop((⌜r.1 = k0_pay112 k0_pay101 x5⌝
            ∗ owns (c : Thread nD τ) arg4 fullShare x4 ∗ owns (c : Thread nD τ) arg5 fullShare x5
            ∗ owns (c : Thread nD τ) arg14 fullShare (k0_pay106 k0_pay98 x3 (Scalar.ofBits .f32 0x00000000#32)) ∗ owns (c : Thread nD τ) arg15 fullShare (k0_pay107 x4)
            ∗ owns (c : Thread nD τ) arg16 fullShare (k0_pay108 k0_pay98 x5) ∗ owns (c : Thread nD τ) arg17 fullShare (k0_pay109 k0_pay98 x5)
            ∗ owns (c : Thread nD τ) arg18 fullShare (k0_pay111 k0_pay101 x5) ∗ (∃ d, owns (c : Thread nD τ) arg19 fullShare d))
      ∗ (owns (c : Thread nD τ) arg2 fullShare x2 ∗ owns (c : Thread nD τ) arg3 fullShare x3
            ∗ owns (c : Thread nD τ) arg11 fullShare (k0_pay103 x2) ∗ owns (c : Thread nD τ) arg12 fullShare (k0_pay104 x2) ∗ owns (c : Thread nD τ) arg13 fullShare (k0_pay105 x3))
      ∗ (owns (c : Thread nD τ) arg6 fullShare x6 ∗ owns (c : Thread nD τ) arg7 fullShare x7)
      ∗ ((∃ d, owns (c : Thread nD τ) arg8 fullShare d) ∗ (∃ d, owns (c : Thread nD τ) arg9 fullShare d) ∗ (∃ d, owns (c : Thread nD τ) arg10 fullShare d))
      ∗ ((∃ d, owns (c : Thread nD τ) arg20 fullShare d) ∗ (∃ d, owns (c : Thread nD τ) arg21 fullShare d) ∗ (∃ d, owns (c : Thread nD τ) arg22 fullShare d)
          ∗ (∃ d, owns (c : Thread nD τ) arg23 fullShare d) ∗ (∃ d, owns (c : Thread nD τ) arg24 fullShare d) ∗ (∃ d, owns (c : Thread nD τ) arg25 fullShare d)))) ?_ fun r => ?_
  · iintro ⟨⟨⟨⟨⟨⟨⟨⟨H2, H3⟩, H11⟩, H12⟩, H13⟩, HX⟩, HO⟩, HS⟩, HP⟩
    iapply (wp_wand_r frame (wpE (defs₀ (F := F)) Variants.none c none) Set.univ)
    isplitl [HP]
    · iapply (wp_fill2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x3 x4 x5); iexact HP
    iintro %r HR
    isplitl [HR]; · iexact HR
    isplitl [H2 H3 H11 H12 H13]
    · isplitl [H2]; · iexact H2
      isplitl [H3]; · iexact H3
      isplitl [H11]; · iexact H11
      isplitl [H12]; · iexact H12
      iexact H13
    isplitl [HX]; · iexact HX
    isplitl [HO]; · iexact HO
    iexact HS
  obtain ⟨v71, v72⟩ := r
  iintro ⟨⟨%hr, H4, H5, H14, H15, H16, H17, H18, H19⟩, ⟨H2, H3, H11, H12, H13⟩, ⟨H6, H7⟩, ⟨H8, H9, H10⟩, ⟨H20, H21, H22, H23, H24, H25⟩⟩
  dsimp only at hr
  subst hr
  dsimp only
  icases H19 with ⟨%d19, H19⟩
  icases H22 with ⟨%d22, H22⟩
  icases H23 with ⟨%d23, H23⟩
  unfold owns
  icases H19 with ⟨%f19, -, H19⟩
  icases H22 with ⟨%f22, -, H22⟩
  icases H23 with ⟨%f23, -, H23⟩
  sl_exec
  iapply (wp_then c (Φ := fun _ => iprop(loopInv c arg6 arg7 arg8 arg11 arg12 arg13 arg14 arg15 arg16 arg17 arg18 arg19 arg20 arg21 arg22 arg23 arg24 arg25 (ctxOf x3 x4 x6 x7) (k0_pay103 x2) (k0_pay104 x2) (k0_pay108 k0_pay98 x5) (k0_pay109 k0_pay98 x5) (k0_pay111 k0_pay101 x5) (k0_pay1 (k0_pay112 k0_pay101 x5)) 8
      ∗ (∃ f, ⌜arg2.view.read (Elt F) f = x2⌝ ∗ View.loc c.tc arg2.view ↦[arg2.view.set]{fullShare} f) ∗ (∃ f, ⌜arg3.view.read (Elt F) f = x3⌝ ∗ View.loc c.tc arg3.view ↦[arg3.view.set]{fullShare} f)
      ∗ (∃ f, ⌜arg4.view.read (Elt F) f = x4⌝ ∗ View.loc c.tc arg4.view ↦[arg4.view.set]{fullShare} f) ∗ (∃ f, ⌜arg5.view.read (Elt F) f = x5⌝ ∗ View.loc c.tc arg5.view ↦[arg5.view.set]{fullShare} f)
      ∗ (∃ d, owns (c : Thread nD τ) arg9 fullShare d) ∗ (∃ d, owns (c : Thread nD τ) arg10 fullShare d))) (P := iprop(loopInv c arg6 arg7 arg8 arg11 arg12 arg13 arg14 arg15 arg16 arg17 arg18 arg19 arg20 arg21 arg22 arg23 arg24 arg25 (ctxOf x3 x4 x6 x7) (k0_pay103 x2) (k0_pay104 x2) (k0_pay108 k0_pay98 x5) (k0_pay109 k0_pay98 x5) (k0_pay111 k0_pay101 x5) (k0_pay1 (k0_pay112 k0_pay101 x5)) 0
      ∗ (∃ f, ⌜arg2.view.read (Elt F) f = x2⌝ ∗ View.loc c.tc arg2.view ↦[arg2.view.set]{fullShare} f) ∗ (∃ f, ⌜arg3.view.read (Elt F) f = x3⌝ ∗ View.loc c.tc arg3.view ↦[arg3.view.set]{fullShare} f)
      ∗ (∃ f, ⌜arg4.view.read (Elt F) f = x4⌝ ∗ View.loc c.tc arg4.view ↦[arg4.view.set]{fullShare} f) ∗ (∃ f, ⌜arg5.view.read (Elt F) f = x5⌝ ∗ View.loc c.tc arg5.view ↦[arg5.view.set]{fullShare} f)
      ∗ (∃ d, owns (c : Thread nD τ) arg9 fullShare d) ∗ (∃ d, owns (c : Thread nD τ) arg10 fullShare d))) ?_ ?_)
  · iintro ⟨HL, HR⟩
    iapply (wp_wand_r frame (wpE (defs₀ (F := F)) Variants.none c none) Set.univ)
    isplitl [HL]
    · iapply (wp_qblocks (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (ctxOf x3 x4 x6 x7)); iexact HL
    iintro %w HL
    isplitl [HL]; · iexact HL
    iexact HR
  · intro w
    unfold loopInv
    iintro ⟨⟨%s, %D, %hs, HS, ⟨HR, HH⟩, HD⟩, H2, H3, H4, H5, ⟨%d9, H9⟩, ⟨%d10, H10⟩⟩
    obtain ⟨hk, hv, hD⟩ := hs
    have hD' : D = dqAll (ctxOf x3 x4 x6 x7) (blksOf x2 x5) := funext fun y => hD y (y 0).isLt
    obtain ⟨da, dz, dkt, dvt, dq, cw⟩ := s
    dsimp only at hk hv
    subst hD' hk hv
    unfold heldAt owns
    icases HH with ⟨H20, H21, ⟨%f22, %h22, H22⟩, ⟨%f23, %h23, H23⟩, H24, H25⟩
    icases H9 with ⟨%f9, -, H9⟩
    icases H10 with ⟨%f10, -, H10⟩
    sl_exec
    sl_step
    subst hQ
    unfold operandsAt outputsAt scratchAny owns
    dsimp only
    unfold sideAt readsAt owns
    icases HS with ⟨H11, H12, H16, H17, H18, H19⟩
    icases HR with ⟨H6, H7, H13, H14, H15⟩
    dsimp only [ctxOf]
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [HD H9 H10]
    · isplitl [HD]; · iexact HD
      isplitl [H9]
      · iexists _; isplitr; swap; · iexact H9
        ipureintro
        sl_open_run
        simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), h22]
        rfl
      iexists _; isplitr; swap; · iexact H10
      ipureintro
      sl_open_run
      simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), h23]
      rfl
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _, f22; isplitr; · ipureintro; rfl
                     iexact H22
    isplitl [H23]; · iexists _, f23; isplitr; · ipureintro; rfl
                     iexact H23
    isplitl [H24]; · iexists _; iexact H24
    iexists _; iexact H25
  · unfold loopInv sideAt readsAt heldAt owns
    icases H8 with ⟨%d8, H8⟩
    icases H20 with ⟨%d20, H20⟩
    icases H21 with ⟨%d21, H21⟩
    icases H24 with ⟨%d24, H24⟩
    icases H25 with ⟨%d25, H25⟩
    isplitl [H6 H7 H8 H11 H12 H13 H14 H15 H16 H17 H18 H19 H20 H21 H22 H23 H24 H25]
    · iexists (⟨d20, d21, k0_pay2, k0_pay3, d24, d25⟩ : St F), d8
      dsimp only [ctxOf]
      isplitr
      · ipureintro
        exact ⟨rfl, rfl, fun y hy => absurd hy (Nat.not_lt_zero _)⟩
      isplitl [H11 H12 H16 H17 H18 H19]
      · isplitl [H11]; · iexact H11
        isplitl [H12]; · iexact H12
        isplitl [H16]; · iexact H16
        isplitl [H17]; · iexact H17
        isplitl [H18]; · iexact H18
        iexists _; isplitr; swap; · iexact H19
        ipureintro
        sl_open_run
        simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), View.writes_nil]
      isplitr [H8]; swap
      · iexact H8
      isplitl [H6 H7 H13 H14 H15]
      · isplitl [H6]; · iexact H6
        isplitl [H7]; · iexact H7
        isplitl [H13]; · iexact H13
        isplitl [H14]; · iexact H14
        iexact H15
      isplitl [H20]; · iexact H20
      isplitl [H21]; · iexact H21
      isplitl [H22]
      · iexists _; isplitr; swap; · iexact H22
        ipureintro
        sl_open_run
        simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), View.writes_nil]
      isplitl [H23]
      · iexists _; isplitr; swap; · iexact H23
        ipureintro
        sl_open_run
        simp only [View.readCov, View.writes_nil, readAt_whole_cw _ _ (off := ![0, 0]), read_writes_whole_cw _ _ (off := ![0, 0]), readAt_whole_dq _ _ (off := ![0, 0]), read_writes_whole_dq _ _ (off := ![0, 0]), readAt_whole_acc _ _ (off := ![0, 0]), read_writes_whole_acc _ _ (off := ![0, 0]), readAt_whole_rows _ _ (off := ![0, 0]), read_writes_whole_rows _ _ (off := ![0, 0]), View.writes_nil]
      isplitl [H24]; · iexact H24
      iexact H25
    isplitl [H2]; · iexact H2
    isplitl [H3]; · iexact H3
    isplitl [H4]; · iexact H4
    isplitl [H5]; · iexact H5
    isplitl [H9]; · iexact H9
    iexact H10

end Cert.Proof.Attn

end
-- ==== Proof.Launch.lean ====
/-
  The launch: what the region's windows hold at each grid point, the body's triple at a point, and the run of the whole program with its
  final memory and its counters. Stated over any float values, so that both readings of the program take it.
-/
module

public import proofs.«01_k».proof.Proof.Body
public import proofs.«01_k».proof.Proof.Gen.KernelIdeal.Frame
public import Idealize.ShloMosaic.Lib.Claim

@[expose] public section

set_option maxRecDepth 20000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the body at point `t`: each operand's window at its block, each output's at what the blocks give. The key, query and value operands
    are windows of one array, so they hold their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outDq (iblk m c 0 t) (iblk m c 1 t) (iblk m c 2 t) (iblk m c 3 t) (iblk m c 4 t) (iblk m c 5 t)
    | ⟨7, _⟩ => outDk (iblk m c 0 t) (iblk m c 1 t) (iblk m c 2 t) (iblk m c 3 t) (iblk m c 4 t) (iblk m c 5 t)
    | ⟨8, _⟩ => outDv (iblk m c 0 t) (iblk m c 1 t) (iblk m c 2 t) (iblk m c 3 t) (iblk m c 4 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outDq (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outDk (iblk m c 0 t) (iblk m c 1 t) (iblk m c 2 t) (iblk m c 3 t) (iblk m c 4 t) (iblk m c 5 t) := by dsimp only [dats]
theorem after0_8 (c : Dev nD) (t : Fin cfg0.N) : (dats m 0 c).after 8 t = outDv (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The region's invariant is the scratch at anything, and the generator register. -/
theorem scratch_eq (c : Dev nD) : (Pipeline.ΦA (Val := Elt F) (U := UR sig nD τ) spec0 c : sProp 𝕄)
    = iprop(scratchAny (F := F) c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) ∗ ∃ r, prngReg c r) := by
  unfold Pipeline.ΦA scratchAny
  rw [scopedRest0_eq]
  simp only [owns_whole]
  rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, after0_4, after0_5, after0_6, after0_7, after0_8, scratch_eq]
  iintro ⟨⟨HS, HG⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r frame (wpE (defs₀ (F := F)) Variants.none c none) Set.univ)
  isplitl [HS H0 H1 H2 H3 H4 H5 H6 H7 H8]
  · iapply (wp_body (F := F) c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t))
    isplitl [H0 H1 H2 H3 H4 H5]
    · unfold operandsAt
      isplitl [H0]; · iexact H0
      isplitl [H1]; · iexact H1
      isplitl [H2]; · iexact H2
      isplitl [H3]; · iexact H3
      isplitl [H4]; · iexact H4
      iexact H5
    isplitr [HS]; swap
    · iexact HS
    isplitl [H6]; · iexists _; iexact H6
    isplitl [H7]; · iexists _; iexact H7
    iexists _; iexact H8
  iintro %w ⟨HI, HO, HS⟩
  unfold operandsAt outputsAt
  icases HI with ⟨H0, H1, H2, H3, H4, H5⟩
  icases HO with ⟨H6, H7, H8⟩
  isplitl [HS HG]
  · isplitl [HS]; · iexact HS
    iexact HG
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- The program from any memory with zero counters: it terminates, and at the end every array is at what the region computes, with zero counters. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Proof.Attn

end
-- ==== Proof.Twin.lean ====
/-
  The program and its idealization print the same text, so a run of one, read at the machine's floats, is a run of the other. What is shown here is
  the equality of the two body tables and of the two host functions; the frame of the program follows from that of its idealization.
-/
module

public import proofs.«01_k».proof.Defs
public import proofs.«01_k».proof.Proof.Gen.Kernel
public import proofs.«01_k».proof.Proof.Launch

@[expose] public section

set_option maxHeartbeats 4000000

noncomputable section

namespace Cert.Proof

open Idealize.ShloMosaic Idealize.SL.Sem

/-- The kernels' body tables are equal: each has one label, running the same text. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => exact (rfl)
  | ⟨_ + 1, h⟩, _ => exact absurd h (Nat.not_lt.2 (Nat.le_add_left _ _))

/-- So are the tables with the launches' regions added. -/
theorem defs_eq : Cert.Kernel.defs (F := Bits) = Cert.KernelIdeal.defs (F := Bits) := by
  unfold Cert.Kernel.defs Cert.KernelIdeal.defs
  rw [bodies_eq]
  exact (rfl)

/-- And the host functions. -/
theorem main_eq [Cert.Kernel.Facts] [Cert.KernelIdeal.Facts] :
    Cert.Kernel.main (F := Bits) = Cert.KernelIdeal.main (F := Bits) := (rfl)

/-- The program runs, leaves its arguments as they were and its counters at zero. -/
theorem frame_kernel : Cert.quiescent_Kernel := by
  intro m g _
  have h := Attn.run_frame (F := Bits) m g
  rw [← main_eq, ← defs_eq] at h
  exact h

end Cert.Proof

end
-- ==== Proof.Host.lean ====
/-
  What the host computes before the launch: the attention weights and the derivative of the scores' logarithm, cut into tiles. Over any float.
-/
module

public import proofs.«01_k».proof.Proof.Gen.KernelIdeal.Frame
public import proofs.«01_k».proof.Proof.Gen.ReferenceIdeal.Read
public import Idealize.ShloMosaic.Lib.StableHlo.RunRead

@[expose] public section

set_option maxRecDepth 20000

noncomputable section

namespace Cert.Proof.Attn

open Cert.KernelIdeal Cert.KernelIdeal.Gen
open Idealize.ShloMosaic

variable {F : FTy → Type} [FloatOps F]

/-- The lower triangle of blocks of a square matrix per head, in tile order, pairs of heads stacked. -/
def blocksOf (x : (⟨S2x16x2048x2048, .f32⟩ : BufTy).Contents (Elt F)) : (⟨S2x8x8x8x512x256, .f32⟩ : BufTy).Contents (Elt F) :=
  shapeCast _ (transpose S2x8x8x8x2x256x256 [0, 1, 3, 5, 2, 4, 6] (shapeCast S2x8x2x8x256x8x256 x shapeCasts_S2x16x2048x2048_S2x8x2x8x256x8x256)
    transposes_S2x8x2x8x256x8x256_S2x8x8x8x2x256x256_0_1_3_5_2_4_6) shapeCasts_S2x8x8x8x2x256x256_S2x8x8x8x512x256

def tilesOf (y : (⟨S2x8x8x8x512x256, .f32⟩ : BufTy).Contents (Elt F)) : (⟨S2x8x36x512x256, .bf16⟩ : BufTy).Contents (Elt F) :=
  truncf .bf16 (concatenate S2x8x36x512x256 2 [
    ⟨S2x8x1x512x256, (shapeCast _ (extractStridedSlice S2x8x1x1x512x256 ![0, 0, 0, 0, 0, 0] y slices_S2x8x8x8x512x256_S2x8x1x1x512x256_0_0_0_0_0_0) shapeCasts_S2x8x1x1x512x256_S2x8x1x512x256 : (⟨S2x8x1x512x256, .f32⟩ : BufTy).Contents (Elt F))⟩,
    ⟨S2x8x2x512x256, (shapeCast _ (extractStridedSlice S2x8x1x2x512x256 ![0, 0, 1, 0, 0, 0] y slices_S2x8x8x8x512x256_S2x8x1x2x512x256_0_0_1_0_0_0) shapeCasts_S2x8x1x2x512x256_S2x8x2x512x256 : (⟨S2x8x2x512x256, .f32⟩ : BufTy).Contents (Elt F))⟩,
    ⟨S2x8x3x512x256, (shapeCast _ (extractStridedSlice S2x8x1x3x512x256 ![0, 0, 2, 0, 0, 0] y slices_S2x8x8x8x512x256_S2x8x1x3x512x256_0_0_2_0_0_0) shapeCasts_S2x8x1x3x512x256_S2x8x3x512x256 : (⟨S2x8x3x512x256, .f32⟩ : BufTy).Contents (Elt F))⟩,
    ⟨S2x8x4x512x256, (shapeCast _ (extractStridedSlice S2x8x1x4x512x256 ![0, 0, 3, 0, 0, 0] y slices_S2x8x8x8x512x256_S2x8x1x4x512x256_0_0_3_0_0_0) shapeCasts_S2x8x1x4x512x256_S2x8x4x512x256 : (⟨S2x8x4x512x256, .f32⟩ : BufTy).Contents (Elt F))⟩,
    ⟨S2x8x5x512x256, (shapeCast _ (extractStridedSlice S2x8x1x5x512x256 ![0, 0, 4, 0, 0, 0] y slices_S2x8x8x8x512x256_S2x8x1x5x512x256_0_0_4_0_0_0) shapeCasts_S2x8x1x5x512x256_S2x8x5x512x256 : (⟨S2x8x5x512x256, .f32⟩ : BufTy).Contents (Elt F))⟩,
    ⟨S2x8x6x512x256, (shapeCast _ (extractStridedSlice S2x8x1x6x512x256 ![0, 0, 5, 0, 0, 0] y slices_S2x8x8x8x512x256_S2x8x1x6x512x256_0_0_5_0_0_0) shapeCasts_S2x8x1x6x512x256_S2x8x6x512x256 : (⟨S2x8x6x512x256, .f32⟩ : BufTy).Contents (Elt F))⟩,
    ⟨S2x8x7x512x256, (shapeCast _ (extractStridedSlice S2x8x1x7x512x256 ![0, 0, 6, 0, 0, 0] y slices_S2x8x8x8x512x256_S2x8x1x7x512x256_0_0_6_0_0_0) shapeCasts_S2x8x1x7x512x256_S2x8x7x512x256 : (⟨S2x8x7x512x256, .f32⟩ : BufTy).Contents (Elt F))⟩,
    ⟨S2x8x8x512x256, (shapeCast _ (extractStridedSlice S2x8x1x8x512x256 ![0, 0, 7, 0, 0, 0] y slices_S2x8x8x8x512x256_S2x8x1x8x512x256_0_0_7_0_0_0) shapeCasts_S2x8x1x8x512x256_S2x8x8x512x256 : (⟨S2x8x8x512x256, .f32⟩ : BufTy).Contents (Elt F))⟩]
    concatenates_S2x8x1x512x256_S2x8x2x512x256_S2x8x3x512x256_S2x8x4x512x256_S2x8x5x512x256_S2x8x6x512x256_S2x8x7x512x256_S2x8x8x512x256_S2x8x36x512x256_d2) bitsLt_bf16_f32

variable (W : Valuation τ sig (Elt F))

theorem tiles_a : StableHlo.after hostOps0_9 W (Proc.devRef .tc main_v47) = tilesOf (blocksOf (W (Proc.devRef .tc main_v26))) := by
  after_reads_simp
  rfl

theorem tiles_sg : StableHlo.after hostOps0_9 W (Proc.devRef .tc main_v69) = tilesOf (blocksOf (Host.exp (W (Proc.devRef .tc main_v18)))) := by
  after_reads_simp
  rfl

abbrev before : List (HloOp τ sig (Elt F)) := List.flatten [hostOps0, hostOps0_1, hostOps0_2, hostOps0_3, hostOps0_4, hostOps0_5, hostOps0_6, hostOps0_7, hostOps0_8]

theorem log_beta : StableHlo.after before W (Proc.devRef .tc main_v18) = Cert.ReferenceIdeal.Read.val_main_v19_0 (W (Proc.devRef .tc main_arg0)) := by
  unfold before
  simp only [List.flatten_cons, List.flatten_nil, List.append_nil, List.cons_append, List.nil_append]
  after_reads_simp
  rfl

theorem weights : StableHlo.after before W (Proc.devRef .tc main_v26) = Cert.ReferenceIdeal.Read.val_main_v27_0 (W (Proc.devRef .tc main_arg0)) := by
  unfold before
  simp only [List.flatten_cons, List.flatten_nil, List.append_nil, List.cons_append, List.nil_append]
  after_reads_simp
  rfl

end Cert.Proof.Attn

end
-- ==== Proof.Tiles.lean ====
/-
  The tiles the host cuts, at an index: tile `qi (qi + 1) / 2 + j` of the pair of heads `p` of batch element `b` holds, in its row `256 h + r`
  and column `c`, entry `(256 qi + r, 256 j + c)` of head `2 p + h`.
-/
module

public import proofs.«01_k».proof.Proof.Host
public import proofs.«01_k».proof.Proof.Spec
public import Idealize.ShloMosaic.Lib.Pointwise

@[expose] public section

set_option maxRecDepth 20000

noncomputable section

namespace Cert.Proof.Attn

open Idealize.ShloMosaic
open Cert.KernelIdeal Cert.KernelIdeal.Gen

theorem blocksOf_at (x : (⟨S2x16x2048x2048, .f32⟩ : BufTy).Contents (Elt Ideal)) (b : Fin 2) (p i j : Fin 8) (r : Fin 512) (c : Fin 256) :
    blocksOf x (ix6 b p i j r c) = x (ix4 b ⟨2 * p.val + r.val / 256, by omega⟩ ⟨256 * i.val + r.val % 256, by omega⟩ ⟨256 * j.val + c.val, by omega⟩) := by
  unfold blocksOf
  pointwise
  congr 2 <;> exact Fin.ext (by simp only; omega)

theorem tilesOf_at (y : (⟨S2x8x8x8x512x256, .f32⟩ : BufTy).Contents (Elt Ideal)) (b : Fin 2) (p i j : Fin 8) (hj : j.val ≤ i.val) (h : tileIx i j < 36) (r : Fin 512) (c : Fin 256) :
    tilesOf y (ix5 b p ⟨tileIx i j, h⟩ r c) = y (ix6 b p i j r c) := by
  have key : ∀ (i' j' : Fin 8), i'.val = i.val → j'.val = j.val → y (ix6 b p i' j' r c) = y (ix6 b p i j r c) := fun i' j' hi hj => by
    rw [Fin.ext hi, Fin.ext hj]
  have ht : (i.val = 0 ∧ tileIx i j = 0 + j.val) ∨ (i.val = 1 ∧ tileIx i j = 1 + j.val) ∨ (i.val = 2 ∧ tileIx i j = 3 + j.val) ∨ (i.val = 3 ∧ tileIx i j = 6 + j.val) ∨ (i.val = 4 ∧ tileIx i j = 10 + j.val) ∨ (i.val = 5 ∧ tileIx i j = 15 + j.val) ∨ (i.val = 6 ∧ tileIx i j = 21 + j.val) ∨ (i.val = 7 ∧ tileIx i j = 28 + j.val) := by
    have hi := i.isLt
    unfold tileIx
    generalize i.val = k at *
    interval_cases k <;> omega
  unfold tilesOf
  pointwise
  generalize tileIx i.val j.val = n at *
  by_cases h0 : n < 1
  · rw [dif_pos h0]
    exact key 0 0 (by show 0 = i.val; omega) (by show 0 = j.val; omega)
  rw [dif_neg h0]
  by_cases h1 : n - 1 < 2
  · rw [dif_pos h1]
    exact key 1 ⟨n - 1, by omega⟩ (by show 1 = i.val; omega) (by show n - 1 = j.val; omega)
  rw [dif_neg h1]
  by_cases h2 : n - 1 - 2 < 3
  · rw [dif_pos h2]
    exact key 2 ⟨n - 1 - 2, by omega⟩ (by show 2 = i.val; omega) (by show n - 1 - 2 = j.val; omega)
  rw [dif_neg h2]
  by_cases h3 : n - 1 - 2 - 3 < 4
  · rw [dif_pos h3]
    exact key 3 ⟨n - 1 - 2 - 3, by omega⟩ (by show 3 = i.val; omega) (by show n - 1 - 2 - 3 = j.val; omega)
  rw [dif_neg h3]
  by_cases h4 : n - 1 - 2 - 3 - 4 < 5
  · rw [dif_pos h4]
    exact key 4 ⟨n - 1 - 2 - 3 - 4, by omega⟩ (by show 4 = i.val; omega) (by show n - 1 - 2 - 3 - 4 = j.val; omega)
  rw [dif_neg h4]
  by_cases h5 : n - 1 - 2 - 3 - 4 - 5 < 6
  · rw [dif_pos h5]
    exact key 5 ⟨n - 1 - 2 - 3 - 4 - 5, by omega⟩ (by show 5 = i.val; omega) (by show n - 1 - 2 - 3 - 4 - 5 = j.val; omega)
  rw [dif_neg h5]
  by_cases h6 : n - 1 - 2 - 3 - 4 - 5 - 6 < 7
  · rw [dif_pos h6]
    exact key 6 ⟨n - 1 - 2 - 3 - 4 - 5 - 6, by omega⟩ (by show 6 = i.val; omega) (by show n - 1 - 2 - 3 - 4 - 5 - 6 = j.val; omega)
  rw [dif_neg h6]
  exact key 7 ⟨n - 1 - 2 - 3 - 4 - 5 - 6 - 7, by omega⟩ (by show 7 = i.val; omega) (by show n - 1 - 2 - 3 - 4 - 5 - 6 - 7 = j.val; omega)

end Cert.Proof.Attn

end
-- ==== Proof.Pay.lean ====
/-
  What each vector the kernel's body computes holds at an index, over the extended reals.
-/
module

public import proofs.«01_k».proof.Proof.Gen.KernelIdeal.Skeleton
public import Idealize.ShloMosaic.Lib.Pointwise

@[expose] public section

set_option maxRecDepth 20000

noncomputable section

namespace Cert.Proof.Attn

open Idealize.ShloMosaic
open Cert.KernelIdeal Cert.KernelIdeal.Gen

theorem pay13_at (d : Vec Ideal S512x128 .bf16) (v : Vec Ideal S256x128 .bf16) (r : Fin 512) (c : Fin 256) :
    k0_pay13 d v (ix3 0 r c) = ∑ k : Fin 128, d (ix2 r k) * v (ix2 c k) := by
  unfold k0_pay13
  pointwise

theorem pay14_at (a : Vec Ideal S1x1x1x512x256 .bf16) (d : Vec Ideal S1x512x256 .f32) (r : Fin 512) (c : Fin 256) :
    k0_pay14 a d (ix2 r c) = a (ix5 0 0 0 r c) * d (ix3 0 r c) := by
  unfold k0_pay14
  pointwise

theorem pay15_at (u : Vec Ideal S256x256 .bf16) (a : Vec Ideal S1x1x1x512x256 .bf16) (d : Vec Ideal S1x512x256 .f32) (r : Fin 512) (c : Fin 256) :
    k0_pay15 u a d (ix2 r c) = ∑ k : Fin 256, k0_pay14 a d (ix2 r k) * u (ix2 k c) := by
  unfold k0_pay15
  pointwise

theorem pay16_at (u : Vec Ideal S256x256 .bf16) (cw : Vec Ideal S512x1 .f32) (a : Vec Ideal S1x1x1x512x256 .bf16) (d : Vec Ideal S1x512x256 .f32)
    (g : Vec Ideal S1x1x1x512x256 .bf16) (r : Fin 512) (c : Fin 256) :
    k0_pay16 u cw a d g (ix2 r c) = k0_pay14 a d (ix2 r c) - g (ix5 0 0 0 r c) * (k0_pay14 a d (ix2 r c) + (k0_pay15 u a d (ix2 r c) + cw (ix2 r 0))) := by
  unfold k0_pay16
  pointwise

theorem pay17_at (x : Vec Ideal S512x256 .bf16) (r : Fin 512) (c : Fin 256) : k0_pay17 (F := Ideal) x (ix3 0 r c) = x (ix2 r c) := by
  unfold k0_pay17
  pointwise

theorem pay18_at (cw : Vec Ideal S512x1 .f32) (w x : Vec Ideal S512x256 .f32) (r : Fin 512) :
    k0_pay18 cw w x (ix2 r 0) = cw (ix2 r 0) + x (ix2 r 255) + w (ix2 r 255) := by
  unfold k0_pay18
  pointwise

theorem pay84_at (tri : Vec Ideal S512x256 .i1) (u : Vec Ideal S256x256 .bf16) (cw : Vec Ideal S512x1 .f32) (a : Vec Ideal S1x1x1x512x256 .bf16) (d : Vec Ideal S1x512x256 .f32)
    (g : Vec Ideal S1x1x1x512x256 .bf16) (r : Fin 512) (c : Fin 256) :
    k0_pay84 tri u cw a d g (ix3 0 r c) = Scalar.select (tri (ix2 r c)) (k0_pay16 u cw a d g (ix2 r c)) 0 := by
  rw [pay16_at, pay15_at, pay14_at]
  simp only [pay14_at]
  unfold k0_pay84 k0_pay83 k0_pay82
  pointwise

theorem pay80_at (r : Fin 256) (c : Fin 128) : k0_pay80 (F := Ideal) (ix2 r c) = 0 := by
  unfold k0_pay80
  pointwise

theorem pay81_at (r : Fin 512) : k0_pay81 (F := Ideal) (ix2 r 0) = 0 := by
  unfold k0_pay81
  pointwise

theorem pay2_at (r : Fin 128) (c : Fin 2048) : k0_pay2 (F := Ideal) (ix2 r c) = 0 := by
  unfold k0_pay2
  pointwise

theorem pay3_at (r : Fin 128) (c : Fin 2048) : k0_pay3 (F := Ideal) (ix2 r c) = 0 := by
  unfold k0_pay3
  pointwise

theorem pay5_at (x : Vec Ideal S256x128 .f32) (r : Fin 256) (c : Fin 128) :
    k0_pay5 x (ix2 r c) = x (ix2 r c) * FloatOps.ofBits (F := Ideal) .f32 0x3E000000#32 := by
  unfold k0_pay5
  pointwise

theorem pay6_at (x : Vec Ideal S128x2048 .f32) (r : Fin 2048) (c : Fin 128) : k0_pay6 x (ix2 r c) = x (ix2 c r) := by
  unfold k0_pay6
  pointwise

theorem pay7_at (x : Vec Ideal S128x2048 .f32) (r : Fin 2048) (c : Fin 128) : k0_pay7 x (ix2 r c) = x (ix2 c r) := by
  unfold k0_pay7
  pointwise

theorem pay20_at (dz : Vec Ideal S1x512x256 .bf16) (x : Vec Ideal S256x128 .f32) (k0 k1 : Vec Ideal S256x128 .bf16) (r : Fin 256) (c : Fin 128) :
    k0_pay20 dz x k0 k1 (ix2 r c) = x (ix2 r c) + (∑ k : Fin 256, dz (ix3 0 ⟨r.val, by omega⟩ k) * k0 (ix2 k c)
      + ∑ k : Fin 256, dz (ix3 0 ⟨256 + r.val, by omega⟩ k) * k1 (ix2 k c)) := by
  unfold k0_pay20 k0_pay19
  pointwise

theorem pay21_at (q : Vec Ideal S128x512 .bf16) (dz : Vec Ideal S1x512x256 .bf16) (x : Vec Ideal S128x256 .f32) (d : Fin 128) (c : Fin 256) :
    k0_pay21 q dz x (ix2 d c) = x (ix2 d c) + ∑ k : Fin 512, q (ix2 d k) * dz (ix3 0 k c) := by
  unfold k0_pay21 k0_pay19
  pointwise

theorem pay22_at (q : Vec Ideal S128x512 .bf16) (x : Vec Ideal S128x256 .f32) (a : Vec Ideal S1x1x1x512x256 .bf16) (d : Fin 128) (c : Fin 256) :
    k0_pay22 q x a (ix2 d c) = x (ix2 d c) + ∑ k : Fin 512, q (ix2 d k) * a (ix5 0 0 0 k c) := by
  unfold k0_pay22
  pointwise

theorem pay75_at (x y : Vec Ideal S256x128 .bf16) (r : Fin 512) (c : Fin 128) :
    k0_pay75 x y (ix2 r c) = if h : r.val < 256 then x (ix2 ⟨r.val, h⟩ c) else y (ix2 ⟨r.val - 256, by omega⟩ c) := by
  unfold k0_pay75
  pointwise

theorem pay76_at (x y : Vec Ideal S128x256 .bf16) (r : Fin 128) (c : Fin 512) :
    k0_pay76 x y (ix2 r c) = if h : c.val < 256 then x (ix2 r ⟨c.val, h⟩) else y (ix2 r ⟨c.val - 256, by omega⟩) := by
  unfold k0_pay76
  pointwise

theorem pay77_at (x y : Vec Ideal S128x256 .bf16) (r : Fin 128) (c : Fin 512) :
    k0_pay77 x y (ix2 r c) = if h : c.val < 256 then x (ix2 r ⟨c.val, h⟩) else y (ix2 r ⟨c.val - 256, by omega⟩) := by
  unfold k0_pay77
  pointwise

/-- Two small numbers compare as 32-bit words the way they compare as numbers. -/
theorem slt_small {a b : ℕ} (ha : a < 4096) (hb : b < 4096) :
    IntOp.cmpi .slt (BitVec.ofNat 32 a) (BitVec.ofNat 32 b) = if a < b then 1 else 0 := by
  have e : BitVec.slt (BitVec.ofNat 32 a) (BitVec.ofNat 32 b) = decide (a < b) := by
    rw [BitVec.slt_eq_ult]
    have h1 : (BitVec.ofNat 32 a).msb = false := by
      rw [BitVec.msb_eq_decide]; simp only [BitVec.toNat_ofNat]; rw [decide_eq_false_iff_not]; omega
    have h2 : (BitVec.ofNat 32 b).msb = false := by
      rw [BitVec.msb_eq_decide]; simp only [BitVec.toNat_ofNat]; rw [decide_eq_false_iff_not]; omega
    rw [h1, h2]
    simp only [BitVec.ult, BitVec.toNat_ofNat, bne_self_eq_false, Bool.false_bne]
    rw [Nat.mod_eq_of_lt (by omega), Nat.mod_eq_of_lt (by omega)]
  show BitVec.ofBool (BitVec.slt (BitVec.ofNat 32 a) (BitVec.ofNat 32 b)) = _
  rw [e]
  by_cases h : a < b <;> simp [h]

theorem select_if {α : Type} (P : Prop) [Decidable P] (x y : α) :
    Scalar.select (if P then (1 : BitVec 1) else 0) x y = if P then x else y := by
  by_cases h : P <;> simp [h, Scalar.select]

theorem pay99_at (r : Fin 512) (c : Fin 256) : k0_pay99 (ix2 r c) = if c.val < r.val % 256 then 1 else 0 := by
  unfold k0_pay99
  pointwise
  rw [slt_small (by omega) (by omega), slt_small (by omega) (by omega)]
  by_cases h : r.val < 256
  · rw [dif_pos h, Nat.mod_eq_of_lt h]
  · rw [dif_neg h, show r.val % 256 = r.val - 256 from by omega]

theorem pay100_at (r c : Fin 256) : k0_pay100 (F := Ideal) (ix2 r c) = if r.val < c.val then 1 else 0 := by
  unfold k0_pay100
  pointwise
  rw [slt_small (by omega) (by omega)]
  by_cases h : r.val < c.val
  · rw [if_pos h, if_pos h]
    show (((BitVec.setWidth 32 (1 : BitVec 1)).toInt : ℝ) : EReal) = 1
    simp
  · rw [if_neg h, if_neg h]
    show (((BitVec.setWidth 32 (0 : BitVec 1)).toInt : ℝ) : EReal) = 0
    simp

theorem lt64 (d : Fin 128) : IntOp.cmpi .slt (BitVec.ofNat 32 d.val) 64#32 = if d.val < 64 then 1 else 0 :=
  slt_small (by omega) (by omega)

theorem pay103_at (x : Vec Ideal S2048x128 .bf16) (d : Fin 128) (t : Fin 2048) :
    k0_pay103 x (ix2 d t) = if d.val < 64 then x (ix2 t d) * FloatOps.ofBits (F := Ideal) .f32 0x3E000000#32 else 0 := by
  unfold k0_pay103 k0_pay102 k0_pay101
  pointwise
  rw [lt64, select_if]

theorem pay104_at (x : Vec Ideal S2048x128 .bf16) (d : Fin 128) (t : Fin 2048) :
    k0_pay104 x (ix2 d t) = if d.val < 64 then 0 else x (ix2 t d) * FloatOps.ofBits (F := Ideal) .f32 0x3E000000#32 := by
  unfold k0_pay104 k0_pay102 k0_pay101
  pointwise
  rw [lt64, select_if]

theorem pay105_at (x : Vec Ideal S2048x128 .bf16) (t : Fin 2048) (d : Fin 128) :
    k0_pay105 x (ix2 t d) = if d.val < 64 then x (ix2 t d) else 0 := by
  unfold k0_pay105 k0_pay98
  pointwise
  rw [lt64, select_if]

theorem pay106_at (x : Vec Ideal S2048x128 .bf16) (t : Fin 2048) (d : Fin 128) :
    k0_pay106 k0_pay98 x (Scalar.ofBits .f32 0x00000000#32) (ix2 t d) = if d.val < 64 then 0 else x (ix2 t d) := by
  unfold k0_pay106 k0_pay98
  pointwise
  rw [lt64, select_if]

theorem pay107_at (x : Vec Ideal S2048x128 .bf16) (t : Fin 2048) (d : Fin 128) :
    k0_pay107 x (ix2 t d) = x (ix2 t d) := by
  unfold k0_pay107
  pointwise

theorem pay108_at (x : Vec Ideal S2048x128 .bf16) (t : Fin 2048) (d : Fin 128) :
    k0_pay108 k0_pay98 x (ix2 t d) = if d.val < 64 then x (ix2 t d) else 0 := by
  unfold k0_pay108 k0_pay98
  pointwise
  rw [lt64, select_if]

theorem pay109_at (x : Vec Ideal S2048x128 .bf16) (t : Fin 2048) (d : Fin 128) :
    k0_pay109 k0_pay98 x (ix2 t d) = if d.val < 64 then 0 else x (ix2 t d) := by
  unfold k0_pay109 k0_pay98
  pointwise
  rw [lt64, select_if]

theorem pay111_at (x : Vec Ideal S2048x128 .bf16) (d : Fin 128) (t : Fin 2048) :
    k0_pay111 k0_pay101 x (ix2 d t) = if d.val < 64 then x (ix2 t d) else 0 := by
  unfold k0_pay111 k0_pay110 k0_pay101
  pointwise
  rw [lt64, select_if]

theorem pay112_at (x : Vec Ideal S2048x128 .bf16) (d : Fin 128) (t : Fin 2048) :
    k0_pay1 (k0_pay112 k0_pay101 x) (ix2 d t) = if d.val < 64 then 0 else x (ix2 t d) := by
  unfold k0_pay1 k0_pay112 k0_pay110 k0_pay101
  pointwise
  rw [lt64, select_if]

end Cert.Proof.Attn

end
-- ==== Proof.Sums.lean ====
/-
  What the walk leaves, as sums over the extended reals.

  For one pair of heads let `q t c`, `k s c`, `v s c`, `d t c` be the rows of the queries, keys, values and of the output's cotangent (column
  `c` of 128, head `c / 64`), and `A h t s`, `G h t s` the weights and the first derivative of the log-sigmoid that the forward pass saved. Then
  with `W = A · (d vᵀ)` and `DZ h t s = W − G · (W + Σ_{s' < s} W)` below the diagonal, the walk leaves `Σ_s DZ · k`, `Σ_t q · DZ` and
  `Σ_t d · A`. No sum is reordered other than as a sum of a commutative monoid, so nothing is assumed finite.
-/
module

public import proofs.«01_k».proof.Proof.Pay
public import proofs.«01_k».proof.Proof.Canon

@[expose] public section

set_option maxRecDepth 20000

noncomputable section

namespace Cert.Proof.Attn

open Idealize.ShloMosaic
open Cert.KernelIdeal Cert.KernelIdeal.Gen
open Finset (range)

/-! ## The blocks at an index -/

section Blocks

variable {α : Type}

theorem rowsAt_at (x : S2048x128.Idx → α) {j : ℕ} (hj : j < 8) (r : Fin 256) (c : Fin 128) :
    rowsAt x j (ix2 r c) = x (ix2 ⟨256 * j + r.val, by omega⟩ c) := by
  refine congrArg x (funext fun a => Fin.ext ?_)
  fin_cases a
  · exact Nat.mod_eq_of_lt (by show 256 * j + r.val < 2048; omega)
  · rfl

theorem colsAt_at (x : S128x2048.Idx → α) {j : ℕ} (hj : j < 8) (c : Fin 128) (r : Fin 256) :
    colsAt x j (ix2 c r) = x (ix2 c ⟨256 * j + r.val, by omega⟩) := by
  refine congrArg x (funext fun a => Fin.ext ?_)
  fin_cases a
  · rfl
  · exact Nat.mod_eq_of_lt (by show 256 * j + r.val < 2048; omega)

theorem tileAt_at (x : S1x1x36x512x256.Idx → α) {n : ℕ} (hn : n < 36) (r : Fin 512) (c : Fin 256) :
    tileAt x n (ix5 0 0 0 r c) = x (ix5 0 0 ⟨n, hn⟩ r c) := by
  refine congrArg x (funext fun a => Fin.ext ?_)
  fin_cases a
  · rfl
  · rfl
  · exact Nat.mod_eq_of_lt (by show n + 0 < 36; omega)
  · rfl
  · rfl

theorem putCols_at (x : S128x2048.Idx → α) {n : ℕ} (hn : n < 8) (w : S128x256.Idx → α) (c : Fin 128) (s : Fin 2048) :
    putCols x n w (ix2 c s) = if s.val / 256 = n then w (ix2 c ⟨s.val % 256, by omega⟩) else x (ix2 c s) := by
  by_cases h : s.val / 256 = n
  · rw [if_pos h]
    have inb : ∀ a, (![0, 256 * n] : Fin 2 → ℕ) a + S128x256.size a ≤ S128x2048.size a := by
      intro a; fin_cases a
      · exact Nat.le_refl 128
      · show 256 * n + 256 ≤ 2048; omega
    have e := congrFun (VecWindow.window_put_same x ![0, 256 * n] S128x256.size inb w) (ix2 c ⟨s.val % 256, by omega⟩)
    rw [← e]
    refine congrArg (VecWindow.put x ![0, 256 * n] S128x256.size w) (funext fun a => Fin.ext ?_)
    fin_cases a
    · show c.val = 0 + 1 * c.val
      omega
    · show s.val = 256 * n + 1 * (s.val % 256)
      omega
  · rw [if_neg h]
    refine dif_neg fun hm => h ?_
    have h0 : 256 * n ≤ s.val ∧ s.val < 256 * n + 256 := hm 1
    omega

end Blocks

/-! ## Sums -/

theorem sum_cut (f : ℕ → EReal) (n m : ℕ) : ∑ i ∈ range (n + m), f i = ∑ i ∈ range n, f i + ∑ i ∈ range m, f (n + i) :=
  Finset.sum_range_add f n m

/-- A sum over 128 columns of which one half is masked. -/
theorem sum_half {h : ℕ} (hh : h < 2) (f : ℕ → EReal) : (∑ k : Fin 128, if k.val / 64 = h then f k.val else 0) = ∑ i ∈ range 64, f (64 * h + i) := by
  rw [Fin.sum_univ_eq_sum_range (fun k => if k / 64 = h then f k else 0) 128, sum_cut _ 64 64]
  rcases (by omega : h = 0 ∨ h = 1) with rfl | rfl
  · rw [Finset.sum_congr rfl (g := fun i => f (64 * 0 + i)) (fun i hi => ?_), Finset.sum_eq_zero (s := range 64) (f := fun i => if (64 + i) / 64 = 0 then f (64 + i) else 0) (fun i hi => ?_), add_zero]
    · rw [if_neg (by omega)]
    · have := Finset.mem_range.1 hi
      rw [if_pos (by omega)]; congr 1; omega
  · rw [Finset.sum_eq_zero (s := range 64) (f := fun i => if i / 64 = 1 then f i else 0) (fun i hi => ?_), zero_add, Finset.sum_congr rfl (fun i hi => ?_)]
    · have := Finset.mem_range.1 hi
      rw [if_pos (by omega)]
    · have := Finset.mem_range.1 hi
      rw [if_neg (by omega)]

/-- A sum over the 512 stacked rows of two heads of which one head is masked. -/
theorem sum_stack {h : ℕ} (hh : h < 2) (f : ℕ → EReal) : (∑ k : Fin 512, if h = k.val / 256 then f k.val else 0) = ∑ i ∈ range 256, f (256 * h + i) := by
  rw [Fin.sum_univ_eq_sum_range (fun k => if h = k / 256 then f k else 0) 512, sum_cut _ 256 256]
  rcases (by omega : h = 0 ∨ h = 1) with rfl | rfl
  · rw [Finset.sum_congr rfl (g := fun i => f (256 * 0 + i)) (fun i hi => ?_), Finset.sum_eq_zero (s := range 256) (f := fun i => if 0 = (256 + i) / 256 then f (256 + i) else 0) (fun i hi => ?_), add_zero]
    · rw [if_neg (by omega)]
    · have := Finset.mem_range.1 hi
      rw [if_pos (by omega)]; congr 1; omega
  · rw [Finset.sum_eq_zero (s := range 256) (f := fun i => if 1 = i / 256 then f i else 0) (fun i hi => ?_), zero_add, Finset.sum_congr rfl (fun i hi => ?_)]
    · have := Finset.mem_range.1 hi
      rw [if_pos (by omega)]
    · have := Finset.mem_range.1 hi
      rw [if_neg (by omega)]

/-! ## The mathematics of one pair of heads -/

/-- The rows of one pair of heads, and what its forward pass saved. -/
structure Heads where
  q : ℕ → ℕ → EReal
  k : ℕ → ℕ → EReal
  v : ℕ → ℕ → EReal
  d : ℕ → ℕ → EReal
  A : ℕ → ℕ → ℕ → EReal
  G : ℕ → ℕ → ℕ → EReal

namespace Heads

variable (H : Heads)

/-- The weights' cotangent. -/
def DA (h t s : ℕ) : EReal := ∑ i ∈ range 64, H.d t (64 * h + i) * H.v s (64 * h + i)

def W (h t s : ℕ) : EReal := H.A h t s * H.DA h t s

/-- The scores' cotangent. -/
def DZ (h t s : ℕ) : EReal := if s < t then H.W h t s - H.G h t s * (H.W h t s + ∑ i ∈ range s, H.W h t i) else 0

end Heads

/-- An eighth: the scores' scale, as the program writes it. -/
def scale : EReal := FloatOps.ofBits (F := Ideal) .f32 0x3E000000#32

/-- A grid point's vectors hold the rows of a pair of heads. -/
structure Holds (C : Ctx Ideal) (Bs : ℕ → Blk Ideal) (H : Heads) : Prop where
  tri : ∀ (r : Fin 512) (c : Fin 256), C.tri (ix2 r c) = if c.val < r.val % 256 then 1 else 0
  u : ∀ r c : Fin 256, C.u (ix2 r c) = if r.val < c.val then (1 : EReal) else 0
  k0 : ∀ (s : Fin 2048) (c : Fin 128), C.k0 (ix2 s c) = if c.val < 64 then H.k s c else 0
  k1 : ∀ (s : Fin 2048) (c : Fin 128), C.k1 (ix2 s c) = if c.val < 64 then 0 else H.k s c
  v : ∀ (s : Fin 2048) (c : Fin 128), C.vb (ix2 s c) = H.v s c
  a : ∀ (qi j : ℕ) (h : tileIx qi j < 36), j ≤ qi → qi < 8 → ∀ (r : Fin 512) (c : Fin 256), C.a (ix5 0 0 ⟨tileIx qi j, h⟩ r c) = H.A (r / 256) (256 * qi + r % 256) (256 * j + c)
  sg : ∀ (qi j : ℕ) (h : tileIx qi j < 36), j ≤ qi → qi < 8 → ∀ (r : Fin 512) (c : Fin 256), C.sg (ix5 0 0 ⟨tileIx qi j, h⟩ r c) = H.G (r / 256) (256 * qi + r % 256) (256 * j + c)
  dcat : ∀ n, n < 8 → ∀ (r : Fin 512) (c : Fin 128), (Bs n).dcat (ix2 r c) = if c.val / 64 = r.val / 256 then H.d (256 * n + r % 256) c else 0
  qcatT : ∀ n, n < 8 → ∀ (c : Fin 128) (r : Fin 512), (Bs n).qcatT (ix2 c r) = if c.val / 64 = r.val / 256 then H.q (256 * n + r % 256) c * scale else 0
  dcatT : ∀ n, n < 8 → ∀ (c : Fin 128) (r : Fin 512), (Bs n).dcatT (ix2 c r) = if c.val / 64 = r.val / 256 then H.d (256 * n + r % 256) c else 0

theorem tileIx_lt {qi j : ℕ} (h : j ≤ qi) (hq : qi < 8) : tileIx qi j < 36 := by
  unfold tileIx
  interval_cases qi <;> omega

section Walk

variable {C : Ctx Ideal} {Bs : ℕ → Blk Ideal} {H : Heads} (hH : Holds C Bs H) {qi : ℕ} (hq : qi < 8)
include hH hq

theorem da_at {j : ℕ} (hj : j ≤ qi) (r : Fin 512) (c : Fin 256) :
    daOf C (Bs qi) j (ix3 0 r c) = H.DA (r / 256) (256 * qi + r % 256) (256 * j + c) := by
  unfold daOf
  rw [pay13_at]
  unfold Heads.DA
  rw [← sum_half (h := r.val / 256) (by omega) (fun i => H.d (256 * qi + r % 256) i * H.v (256 * j + c) i)]
  refine Finset.sum_congr rfl fun k _ => ?_
  rw [hH.dcat qi hq, rowsAt_at _ (by omega), hH.v]
  split
  · rfl
  · exact zero_mul _

theorem a_at {j : ℕ} (hj : j ≤ qi) (r : Fin 512) (c : Fin 256) :
    tileAt C.a (tileIx qi j) (ix5 0 0 0 r c) = H.A (r / 256) (256 * qi + r % 256) (256 * j + c) := by
  rw [tileAt_at _ (tileIx_lt hj hq), hH.a qi j _ hj hq]

theorem sg_at {j : ℕ} (hj : j ≤ qi) (r : Fin 512) (c : Fin 256) :
    tileAt C.sg (tileIx qi j) (ix5 0 0 0 r c) = H.G (r / 256) (256 * qi + r % 256) (256 * j + c) := by
  rw [tileAt_at _ (tileIx_lt hj hq), hH.sg qi j _ hj hq]

theorem w_at {j : ℕ} (hj : j ≤ qi) (r : Fin 512) (c : Fin 256) :
    k0_pay14 (tileAt C.a (tileIx qi j)) (daOf C (Bs qi) j) (ix2 r c) = H.W (r / 256) (256 * qi + r % 256) (256 * j + c) := by
  rw [pay14_at, a_at hH hq hj, da_at hH hq hj]
  rfl

/-- The product with the strictly upper triangle is the exclusive row sum within the block. -/
theorem wex_at {j : ℕ} (hj : j ≤ qi) (r : Fin 512) (c : Fin 256) :
    k0_pay15 C.u (tileAt C.a (tileIx qi j)) (daOf C (Bs qi) j) (ix2 r c)
      = ∑ i ∈ range c, H.W (r / 256) (256 * qi + r % 256) (256 * j + i) := by
  rw [pay15_at]
  have e : ∀ k : Fin 256, k0_pay14 (tileAt C.a (tileIx qi j)) (daOf C (Bs qi) j) (ix2 r k) * C.u (ix2 k c)
      = if k.val < c.val then H.W (r / 256) (256 * qi + r % 256) (256 * j + k) else 0 := fun k => by
    rw [w_at hH hq hj, hH.u]
    split
    · exact mul_one _
    · exact mul_zero _
  rw [Finset.sum_congr rfl (fun k _ => e k), Fin.sum_univ_eq_sum_range (fun k => if k < c.val then H.W (r / 256) (256 * qi + r % 256) (256 * j + k) else 0) 256,
    ← Finset.sum_filter]
  refine Finset.sum_congr (Finset.ext fun i => ?_) fun _ _ => rfl
  simp only [Finset.mem_filter, Finset.mem_range]
  omega

theorem cw_at (r : Fin 512) : ∀ j, j ≤ qi + 1 → cwOf C (Bs qi) qi j (ix2 r 0) = ∑ i ∈ range (256 * j), H.W (r / 256) (256 * qi + r % 256) i
  | 0, _ => pay81_at r
  | j + 1, hj => by
    have hj' : j ≤ qi := by omega
    unfold cwOf
    rw [pay18_at, cw_at r j (by omega), w_at hH hq hj', wex_at hH hq hj', Nat.mul_succ, sum_cut, add_assoc]
    congr 1
    exact (Finset.sum_range_succ (fun i => H.W (r / 256) (256 * qi + r % 256) (256 * j + i)) 255).symm

theorem dz_at {j : ℕ} (hj : j ≤ qi) (r : Fin 512) (c : Fin 256) :
    dzOf C (Bs qi) qi j (ix3 0 r c) = H.DZ (r / 256) (256 * qi + r % 256) (256 * j + c) := by
  have e : k0_pay16 C.u (cwOf C (Bs qi) qi j) (tileAt C.a (tileIx qi j)) (daOf C (Bs qi) j) (tileAt C.sg (tileIx qi j)) (ix2 r c)
      = H.W (r / 256) (256 * qi + r % 256) (256 * j + c) - H.G (r / 256) (256 * qi + r % 256) (256 * j + c)
        * (H.W (r / 256) (256 * qi + r % 256) (256 * j + c) + ∑ i ∈ range (256 * j + c), H.W (r / 256) (256 * qi + r % 256) i) := by
    rw [pay16_at, w_at hH hq hj, wex_at hH hq hj, sg_at hH hq hj, cw_at hH hq r j (by omega), sum_cut _ (256 * j) c, add_comm (∑ i ∈ range (256 * j), _)]
  unfold dzOf Heads.DZ
  by_cases h : j = qi
  · rw [if_pos h, pay84_at, e, hH.tri, select_if]
    by_cases hc : c.val < r.val % 256
    · rw [if_pos hc, if_pos (by omega)]
    · rw [if_neg hc, if_neg (by omega)]
  · rw [if_neg h, pay17_at, e, if_pos (by omega)]

theorem dq_at (r : Fin 256) (c : Fin 128) : ∀ j, j ≤ qi + 1 → dqOf C (Bs qi) qi j (ix2 r c)
    = ∑ i ∈ range (256 * j), H.DZ (c / 64) (256 * qi + r) i * H.k i c
  | 0, _ => pay80_at r c
  | j + 1, hj => by
    have hj' : j ≤ qi := by omega
    unfold dqOf
    rw [pay20_at, dq_at r c j (by omega), Nat.mul_succ, sum_cut]
    congr 1
    rw [← Fin.sum_univ_eq_sum_range (fun i => H.DZ (c / 64) (256 * qi + r) (256 * j + i) * H.k (256 * j + i) c) 256]
    by_cases hc : c.val < 64
    · rw [Finset.sum_eq_zero (f := fun k : Fin 256 => dzOf C (Bs qi) qi j (ix3 0 ⟨256 + r.val, by omega⟩ k) * rowsAt C.k1 j (ix2 k c)) (fun k _ => ?_), add_zero]
      · refine Finset.sum_congr rfl fun k _ => ?_
        rw [dz_at hH hq hj', rowsAt_at _ (by omega), hH.k0, if_pos hc]
        congr 2 <;> simp only <;> omega
      · rw [rowsAt_at _ (by omega), hH.k1, if_pos hc]; exact mul_zero _
    · rw [Finset.sum_eq_zero (f := fun k : Fin 256 => dzOf C (Bs qi) qi j (ix3 0 ⟨r.val, by omega⟩ k) * rowsAt C.k0 j (ix2 k c)) (fun k _ => ?_), zero_add]
      · refine Finset.sum_congr rfl fun k _ => ?_
        rw [dz_at hH hq hj', rowsAt_at _ (by omega), hH.k1, if_neg hc]
        congr 2 <;> simp only <;> omega
      · rw [rowsAt_at _ (by omega), hH.k0, if_neg hc]; exact mul_zero _

theorem dk_at (x : Vec Ideal S128x2048 .f32) (c : Fin 128) (s : Fin 2048) : ∀ j, j ≤ qi + 1 → dkOf C (Bs qi) qi x j (ix2 c s)
    = if s.val / 256 < j then x (ix2 c s) + ∑ i ∈ range 256, H.q (256 * qi + i) c * scale * H.DZ (c / 64) (256 * qi + i) s else x (ix2 c s)
  | 0, _ => (if_neg (Nat.not_lt_zero _)).symm
  | j + 1, hj => by
    have hj' : j ≤ qi := by omega
    unfold dkOf
    rw [putCols_at _ (by omega)]
    by_cases h : s.val / 256 = j
    · rw [if_pos h, if_pos (by omega), pay21_at, colsAt_at _ (by omega)]
      rw [show (⟨256 * j + (⟨s.val % 256, by omega⟩ : Fin 256).val, by simp only; omega⟩ : Fin 2048) = s from Fin.ext (by simp only; omega), dk_at x c s j (by omega), if_neg (by omega)]
      congr 1
      have e : ∀ k : Fin 512, (Bs qi).qcatT (ix2 c k) * dzOf C (Bs qi) qi j (ix3 0 k ⟨s.val % 256, by omega⟩)
          = if c.val / 64 = k.val / 256 then H.q (256 * qi + k.val % 256) c * scale * H.DZ (k.val / 256) (256 * qi + k.val % 256) s else 0 := fun k => by
        rw [hH.qcatT qi hq, dz_at hH hq hj', show 256 * j + (⟨s.val % 256, by omega⟩ : Fin 256).val = s.val from by simp only; omega]
        split
        · rfl
        · exact zero_mul _
      rw [Finset.sum_congr rfl (fun k _ => e k), sum_stack (h := c.val / 64) (by omega) (fun k => H.q (256 * qi + k % 256) c * scale * H.DZ (k / 256) (256 * qi + k % 256) s)]
      refine Finset.sum_congr rfl fun i hi => ?_
      have := Finset.mem_range.1 hi
      rw [show (256 * (c.val / 64) + i) % 256 = i from by omega, show (256 * (c.val / 64) + i) / 256 = c.val / 64 from by omega]
    · rw [if_neg h, dk_at x c s j (by omega)]
      by_cases h2 : s.val / 256 < j
      · rw [if_pos h2, if_pos (by omega)]
      · rw [if_neg h2, if_neg (by omega)]

theorem dv_at (x : Vec Ideal S128x2048 .f32) (c : Fin 128) (s : Fin 2048) : ∀ j, j ≤ qi + 1 → dvOf C (Bs qi) qi x j (ix2 c s)
    = if s.val / 256 < j then x (ix2 c s) + ∑ i ∈ range 256, H.d (256 * qi + i) c * H.A (c / 64) (256 * qi + i) s else x (ix2 c s)
  | 0, _ => (if_neg (Nat.not_lt_zero _)).symm
  | j + 1, hj => by
    have hj' : j ≤ qi := by omega
    unfold dvOf
    rw [putCols_at _ (by omega)]
    by_cases h : s.val / 256 = j
    · rw [if_pos h, if_pos (by omega), pay22_at, colsAt_at _ (by omega)]
      rw [show (⟨256 * j + (⟨s.val % 256, by omega⟩ : Fin 256).val, by simp only; omega⟩ : Fin 2048) = s from Fin.ext (by simp only; omega), dv_at x c s j (by omega), if_neg (by omega)]
      congr 1
      have e : ∀ k : Fin 512, (Bs qi).dcatT (ix2 c k) * tileAt C.a (tileIx qi j) (ix5 0 0 0 k ⟨s.val % 256, by omega⟩)
          = if c.val / 64 = k.val / 256 then H.d (256 * qi + k.val % 256) c * H.A (k.val / 256) (256 * qi + k.val % 256) s else 0 := fun k => by
        rw [hH.dcatT qi hq, a_at hH hq hj', show 256 * j + (⟨s.val % 256, by omega⟩ : Fin 256).val = s.val from by simp only; omega]
        split
        · rfl
        · exact zero_mul _
      rw [Finset.sum_congr rfl (fun k _ => e k), sum_stack (h := c.val / 64) (by omega) (fun k => H.d (256 * qi + k % 256) c * H.A (k / 256) (256 * qi + k % 256) s)]
      refine Finset.sum_congr rfl fun i hi => ?_
      have := Finset.mem_range.1 hi
      rw [show (256 * (c.val / 64) + i) % 256 = i from by omega, show (256 * (c.val / 64) + i) / 256 = c.val / 64 from by omega]
    · rw [if_neg h, dv_at x c s j (by omega)]
      by_cases h2 : s.val / 256 < j
      · rw [if_pos h2, if_pos (by omega)]
      · rw [if_neg h2, if_neg (by omega)]

end Walk

section All

variable {C : Ctx Ideal} {Bs : ℕ → Blk Ideal} {H : Heads} (hH : Holds C Bs H)
include hH

theorem dkAll_at (c : Fin 128) (s : Fin 2048) : ∀ n, n ≤ 8 → dkAll C Bs n (ix2 c s)
    = ∑ t ∈ range (256 * n), H.q t c * scale * H.DZ (c / 64) t s
  | 0, _ => pay2_at c s
  | n + 1, hn => by
    unfold dkAll
    rw [dk_at hH (by omega) _ c s (n + 1) (by omega), dkAll_at c s n (by omega), Nat.mul_succ, sum_cut]
    split
    · rfl
    · rw [Finset.sum_eq_zero (s := range 256), add_zero]
      intro i hi
      have := Finset.mem_range.1 hi
      unfold Heads.DZ
      rw [if_neg (by omega)]; exact mul_zero _

theorem dvAll_at (hA : ∀ h t s, t ≤ s → H.A h t s = 0) (c : Fin 128) (s : Fin 2048) : ∀ n, n ≤ 8 → dvAll C Bs n (ix2 c s)
    = ∑ t ∈ range (256 * n), H.d t c * H.A (c / 64) t s
  | 0, _ => pay3_at c s
  | n + 1, hn => by
    unfold dvAll
    rw [dv_at hH (by omega) _ c s (n + 1) (by omega), dvAll_at hA c s n (by omega), Nat.mul_succ, sum_cut]
    split
    · rfl
    · rw [Finset.sum_eq_zero (s := range 256), add_zero]
      intro i hi
      have := Finset.mem_range.1 hi
      rw [hA _ _ _ (by omega)]; exact mul_zero _

theorem dqAll_at (t : Fin 2048) (c : Fin 128) : dqAll C Bs (ix2 t c) = (∑ s ∈ range 2048, H.DZ (c / 64) t s * H.k s c) * scale := by
  show dqRow C Bs (t.val / 256) (ix2 ⟨t.val % 256, by omega⟩ c) = _
  unfold dqRow
  have e : range 2048 = range (256 * (t.val / 256 + 1) + (2048 - 256 * (t.val / 256 + 1))) := congrArg range (by omega)
  rw [pay5_at, dq_at hH (by omega) _ c _ (le_refl _), show 256 * (t.val / 256) + (⟨t.val % 256, by omega⟩ : Fin 256).val = t.val from by simp only; omega, e, sum_cut]
  refine congrArg (· * scale) ?_
  rw [Finset.sum_eq_zero (s := range (2048 - 256 * (t.val / 256 + 1))), add_zero]
  intro i hi
  unfold Heads.DZ
  rw [if_neg (by omega)]; exact zero_mul _

end All

end Cert.Proof.Attn

end
-- ==== Proof.Held.lean ====
/-
  What a grid point's six operand blocks give: the context and the query blocks the body makes of them hold the pair of heads' rows, so the
  three blocks it leaves are the sums of `Sums`.
-/
module

public import proofs.«01_k».proof.Proof.Sums
public import proofs.«01_k».proof.Proof.Body

@[expose] public section

set_option maxRecDepth 20000

noncomputable section

namespace Cert.Proof.Attn

open Idealize.ShloMosaic
open Cert.KernelIdeal Cert.KernelIdeal.Gen
open Finset (range)

/-- The operand blocks are the rows of a pair of heads and its saved tiles. -/
structure Windows (x2 x3 x4 x5 : Vec Ideal S2048x128 .bf16) (x6 x7 : Vec Ideal S1x1x36x512x256 .bf16) (H : Heads) : Prop where
  q : ∀ (t : Fin 2048) (c : Fin 128), x2 (ix2 t c) = H.q t c
  k : ∀ (t : Fin 2048) (c : Fin 128), x3 (ix2 t c) = H.k t c
  v : ∀ (t : Fin 2048) (c : Fin 128), x4 (ix2 t c) = H.v t c
  d : ∀ (t : Fin 2048) (c : Fin 128), x5 (ix2 t c) = H.d t c
  a : ∀ (qi j : ℕ) (h : tileIx qi j < 36), j ≤ qi → qi < 8 → ∀ (r : Fin 512) (c : Fin 256), x6 (ix5 0 0 ⟨tileIx qi j, h⟩ r c) = H.A (r / 256) (256 * qi + r % 256) (256 * j + c)
  sg : ∀ (qi j : ℕ) (h : tileIx qi j < 36), j ≤ qi → qi < 8 → ∀ (r : Fin 512) (c : Fin 256), x7 (ix5 0 0 ⟨tileIx qi j, h⟩ r c) = H.G (r / 256) (256 * qi + r % 256) (256 * j + c)

variable {x2 x3 x4 x5 : Vec Ideal S2048x128 .bf16} {x6 x7 : Vec Ideal S1x1x36x512x256 .bf16} {H : Heads}

theorem holds_of (h : Windows x2 x3 x4 x5 x6 x7 H) : Holds (ctxOf x3 x4 x6 x7) (blksOf x2 x5) H where
  tri := pay99_at
  u := pay100_at
  k0 s c := by rw [← h.k]; exact pay105_at x3 s c
  k1 s c := by rw [← h.k]; exact pay106_at x3 s c
  v s c := (pay107_at x4 s c).trans (h.v s c)
  a := h.a
  sg := h.sg
  dcat n hn r c := by
    show k0_pay75 (rowsAt (k0_pay108 k0_pay98 x5) n) (rowsAt (k0_pay109 k0_pay98 x5) n) (ix2 r c) = _
    rw [pay75_at]
    by_cases hr : r.val < 256
    · rw [dif_pos hr, rowsAt_at _ hn, pay108_at, h.d]
      by_cases hc : c.val < 64
      · rw [if_pos hc, if_pos (by omega)]; congr 1; simp only; omega
      · rw [if_neg hc, if_neg (by omega)]
    · rw [dif_neg hr, rowsAt_at _ hn, pay109_at, h.d]
      by_cases hc : c.val < 64
      · rw [if_pos hc, if_neg (by omega)]
      · rw [if_neg hc, if_pos (by omega)]; congr 1; simp only; omega
  qcatT n hn c r := by
    show k0_pay76 (colsAt (k0_pay103 x2) n) (colsAt (k0_pay104 x2) n) (ix2 c r) = _
    rw [pay76_at]
    by_cases hr : r.val < 256
    · rw [dif_pos hr, colsAt_at _ hn, pay103_at, h.q]
      by_cases hc : c.val < 64
      · rw [if_pos hc, if_pos (by omega)]; refine congrArg (· * scale) ?_; congr 1; simp only; omega
      · rw [if_neg hc, if_neg (by omega)]
    · rw [dif_neg hr, colsAt_at _ hn, pay104_at, h.q]
      by_cases hc : c.val < 64
      · rw [if_pos hc, if_neg (by omega)]
      · rw [if_neg hc, if_pos (by omega)]; refine congrArg (· * scale) ?_; congr 1; simp only; omega
  dcatT n hn c r := by
    show k0_pay77 (colsAt (k0_pay111 k0_pay101 x5) n) (colsAt (k0_pay1 (k0_pay112 k0_pay101 x5)) n) (ix2 c r) = _
    rw [pay77_at]
    by_cases hr : r.val < 256
    · rw [dif_pos hr, colsAt_at _ hn, pay111_at, h.d]
      by_cases hc : c.val < 64
      · rw [if_pos hc, if_pos (by omega)]; congr 1; simp only; omega
      · rw [if_neg hc, if_neg (by omega)]
    · rw [dif_neg hr, colsAt_at _ hn, pay112_at, h.d]
      by_cases hc : c.val < 64
      · rw [if_pos hc, if_neg (by omega)]
      · rw [if_neg hc, if_pos (by omega)]; congr 1; simp only; omega

theorem outDq_at (h : Windows x2 x3 x4 x5 x6 x7 H) (t : Fin 2048) (c : Fin 128) :
    outDq x2 x3 x4 x5 x6 x7 (ix2 t c) = (∑ s ∈ range 2048, H.DZ (c / 64) t s * H.k s c) * scale :=
  dqAll_at (holds_of h) t c

theorem outDk_at (h : Windows x2 x3 x4 x5 x6 x7 H) (s : Fin 2048) (c : Fin 128) :
    outDk x2 x3 x4 x5 x6 x7 (ix2 s c) = ∑ t ∈ range 2048, H.q t c * scale * H.DZ (c / 64) t s :=
  (pay6_at _ s c).trans (dkAll_at (holds_of h) c s 8 (le_refl 8))

theorem outDv_at (h : Windows x2 x3 x4 x5 x6 x7 H) (hA : ∀ h t s, t ≤ s → H.A h t s = 0) (s : Fin 2048) (c : Fin 128) :
    outDv x2 x3 x4 x5 x6 x7 (ix2 s c) = ∑ t ∈ range 2048, H.d t c * H.A (c / 64) t s :=
  (pay7_at _ s c).trans (dvAll_at (holds_of h) hA c s 8 (le_refl 8))

end Cert.Proof.Attn

end
-- ==== Proof.Residual.lean ====
/-
  The reference's derivative of `log σ` at a logit, over the extended reals. The forward pass saves no sigmoid: the derivative keeps the
  softplus `s` of the argument and gives `e^(x - s)`, an infinite `x` or `s` replaced by zero. At `x = -z` this is `1 - σ z`, at `x = z` it is
  `σ z`, where `σ z = e^(-softplus (-z))` is the factor the kernel saves.
-/
module

public import Idealize.ShloMosaic.Lib.ValueIdx
public import Idealize.ShloMosaic.PureOps

@[expose] public section

noncomputable section

namespace Cert.Proof.Attn

open Idealize.ShloMosaic

/-- `log (1 + e^x)`. -/
def softplus (x : EReal) : EReal := max x 0 + Ideal.log1p (Ideal.exp (-(max x (-x))))

/-- The derivative of `softplus` at `x`, from `x` and the softplus. -/
def resid (x : EReal) : EReal := Ideal.exp ((if x = ⊤ then 0 else x) - (if softplus x = ⊤ then 0 else softplus x))

/-- The sigmoid of `z` as the kernel saves it. -/
def sigma (z : EReal) : EReal := Ideal.exp (-softplus (-z))

theorem softplus_bot : softplus ⊥ = 0 := by
  have h1 : Ideal.log1p 0 = 0 := by
    show Ideal.log (1 + 0) = 0
    rw [add_zero]
    show (if (1 : ℝ) ≤ 0 then (⊥ : EReal) else (Real.log 1 : EReal)) = 0
    simp
  simp [softplus, h1]

theorem softplus_top : softplus ⊤ = ⊤ := by
  have h1 : Ideal.log1p 0 = 0 := by
    show Ideal.log (1 + 0) = 0
    rw [add_zero]
    show (if (1 : ℝ) ≤ 0 then (⊥ : EReal) else (Real.log 1 : EReal)) = 0
    simp
  simp [softplus, h1]

theorem softplus_coe (x : ℝ) : softplus x = ((Real.log (1 + Real.exp x) : ℝ) : EReal) := by
  have hm : max (x : EReal) (-(x : EReal)) = ((|x| : ℝ) : EReal) := by
    rw [← EReal.coe_neg, abs_eq_max_neg]; exact (EReal.coe_strictMono.monotone.map_max).symm
  have hp : max (x : EReal) 0 = ((max x 0 : ℝ) : EReal) := by
    rw [← EReal.coe_zero]; exact (EReal.coe_strictMono.monotone.map_max).symm
  have hl : Ideal.log1p ((Real.exp (-|x|) : ℝ) : EReal) = ((Real.log (1 + Real.exp (-|x|)) : ℝ) : EReal) := by
    show Ideal.log (1 + _) = _
    rw [← EReal.coe_one, ← EReal.coe_add]
    show (if 1 + Real.exp (-|x|) ≤ 0 then (⊥ : EReal) else _) = _
    rw [if_neg (by have := Real.exp_pos (-|x|); linarith)]
  rw [softplus, hm, hp, ← EReal.coe_neg, Ideal.exp_coe, hl, ← EReal.coe_add]
  congr 1
  rcases le_total 0 x with h | h
  · rw [max_eq_left h, abs_of_nonneg h]
    conv_lhs => rw [← Real.log_exp x]
    rw [← Real.log_mul (Real.exp_pos _).ne' (by have := Real.exp_pos (-x); positivity)]
    congr 1
    rw [mul_add, ← Real.exp_add]; simp; ring
  · rw [max_eq_right h, abs_of_nonpos h]; simp

theorem softplus_nonneg (x : EReal) : 0 ≤ softplus x := by
  induction x with
  | bot => rw [softplus_bot]
  | top => rw [softplus_top]; exact le_top
  | coe x =>
    rw [softplus_coe]
    exact_mod_cast Real.log_nonneg (by have := Real.exp_pos x; linarith)

theorem sigma_coe (z : ℝ) : sigma z = (((1 + Real.exp (-z))⁻¹ : ℝ) : EReal) := by
  have hp : 0 < 1 + Real.exp (-z) := by positivity
  rw [sigma, ← EReal.coe_neg, softplus_coe, ← EReal.coe_neg, Ideal.exp_coe, Real.exp_neg, Real.exp_log hp]

theorem resid_coe (z : ℝ) : resid z = ((Real.exp z * (1 + Real.exp z)⁻¹ : ℝ) : EReal) := by
  have hp : 0 < 1 + Real.exp z := by positivity
  rw [resid, softplus_coe, if_neg (EReal.coe_ne_top _), if_neg (EReal.coe_ne_top _), ← EReal.coe_sub, Ideal.exp_coe, Real.exp_sub, Real.exp_log hp]
  rfl

theorem resid_bot : resid ⊥ = 0 := by simp [resid, softplus_bot]
theorem resid_top : resid ⊤ = 1 := by
  have h : Ideal.exp 0 = 1 := by rw [← EReal.coe_zero, Ideal.exp_coe]; simp
  simp [resid, softplus_top, h]
theorem sigma_bot : sigma ⊥ = 0 := by simp [sigma, softplus_top]
theorem sigma_top : sigma ⊤ = 1 := by
  have h : Ideal.exp 0 = 1 := by rw [← EReal.coe_zero, Ideal.exp_coe]; simp
  simp [sigma, softplus_bot, h]

/-- The derivative of the softplus at the logit is the sigmoid, -/
theorem resid_eq (z : EReal) : resid z = sigma z := by
  induction z with
  | bot => rw [resid_bot, sigma_bot]
  | top => rw [resid_top, sigma_top]
  | coe z =>
    rw [resid_coe, sigma_coe, Real.exp_neg]
    have := Real.exp_pos z
    congr 1; field_simp; ring

/-- and at the negated logit it is what is left of one. Both are real. -/
theorem resid_neg (z : EReal) : resid (-z) = 1 - sigma z := by
  induction z with
  | bot => rw [EReal.neg_bot, resid_top, sigma_bot]; simp
  | top =>
    rw [EReal.neg_top, resid_bot, sigma_top, ← EReal.coe_one, ← EReal.coe_sub]; simp
  | coe z =>
    rw [← EReal.coe_neg, resid_coe, sigma_coe, ← EReal.coe_one, ← EReal.coe_sub, Real.exp_neg]
    have := Real.exp_pos z
    congr 1; field_simp; ring

theorem sigma_real (z : EReal) : ∃ r : ℝ, sigma z = r := by
  induction z with
  | bot => exact ⟨0, sigma_bot⟩
  | top => exact ⟨1, sigma_top⟩
  | coe z => exact ⟨_, sigma_coe z⟩

/-- The exponential is real below `⊤`. -/
theorem exp_real {x : EReal} (h : x ≠ ⊤) : ∃ r : ℝ, Ideal.exp x = r := by
  induction x with
  | bot => exact ⟨0, Ideal.exp_bot⟩
  | top => exact absurd rfl h
  | coe z => exact ⟨_, Ideal.exp_coe z⟩

/-- What follows a summand that is not above zero, with more such: the sum with the summand taken off again is not above zero, nor at `⊤`, even
    where the summand is `⊥`. -/
theorem later_le {x y : EReal} (hx : x ≤ 0) (hy : y ≤ 0) : (x + y) - x ≤ 0 := by
  induction x with
  | bot => simp
  | top => exact absurd hx (by simp)
  | coe x =>
    induction y with
    | bot => simp
    | top => exact absurd hy (by simp)
    | coe y =>
      rw [← EReal.coe_add, ← EReal.coe_sub]
      have : y ≤ 0 := by exact_mod_cast hy
      exact_mod_cast (by linarith : x + y - x ≤ 0)

/-- A positive real factor goes out of a sum. -/
theorem sum_scale {ι : Type*} (S : Finset ι) (f : ι → EReal) {c : ℝ} (hc : 0 ≤ c) : ∑ i ∈ S, f i * (c : EReal) = (∑ i ∈ S, f i) * c := by
  classical
  induction S using Finset.induction_on with
  | empty => simp
  | insert i S hi ih =>
    rw [Finset.sum_insert hi, Finset.sum_insert hi, ih,
      EReal.right_distrib_of_nonneg_of_ne_top (by exact_mod_cast hc) (EReal.coe_ne_top _)]

theorem sum_real {ι : Type*} (S : Finset ι) (f : ι → EReal) (h : ∀ i ∈ S, ∃ r : ℝ, f i = r) : ∃ r : ℝ, ∑ i ∈ S, f i = r := by
  classical
  induction S using Finset.induction_on with
  | empty => exact ⟨0, by simp⟩
  | insert i S hi ih =>
    obtain ⟨a, ha⟩ := h i (Finset.mem_insert_self _ _)
    obtain ⟨b, hb⟩ := ih fun j hj => h j (Finset.mem_insert_of_mem hj)
    exact ⟨a + b, by rw [Finset.sum_insert hi, ha, hb, EReal.coe_add]⟩

/-- The gradient at a logit from the two derivatives, all real: what the kernel subtracts in one product. -/
theorem grad_eq {w p g : EReal} (hw : ∃ r : ℝ, w = r) (hp : ∃ r : ℝ, p = r) (hg : ∃ r : ℝ, g = r) :
    -(-(-(-w + (p + w)) * g)) + -(-w * (1 - g)) = w - g * (w + p) := by
  obtain ⟨w, rfl⟩ := hw
  obtain ⟨p, rfl⟩ := hp
  obtain ⟨g, rfl⟩ := hg
  rw [← EReal.coe_one]
  simp only [← EReal.coe_neg, ← EReal.coe_sub, ← EReal.coe_add, ← EReal.coe_mul]
  congr 1; ring

end Cert.Proof.Attn
-- ==== Proof.Cumsum.lean ====
/-
  The reference's two running sums along the last axis of a four-axis array, read at an index: a window as wide as the axis, padded on one side
  so that it covers the entries up to an index, or the entries from it on.
-/
module

public import Idealize.ShloMosaic.Lib.Pointwise
public import Idealize.ShloMosaic.PureOps

@[expose] public section

noncomputable section

namespace Cert.Proof.Attn

open Idealize.ShloMosaic
open Finset (range)

variable {B H T N : ℕ}

/-- The window at an index: one term for every place of it, zero at the padding. -/
theorem window_at (l r : ℕ) (x : FVec Ideal ⟨4, ![B, H, T, N]⟩ .f32) (init : FVec Ideal ⟨0, ![]⟩ .f32) (hi : ∀ i, init i = 0)
    (h : (⟨4, ![B, H, T, N]⟩ : Shape).ReduceWindows ![1, 1, 1, N] ![1, 1, 1, 1] ![0, 0, 0, l] ![0, 0, 0, r] ⟨4, ![B, H, T, N]⟩)
    (hu : 0 < (⟨0, ![]⟩ : Shape).numel) (b : Fin B) (g : Fin H) (t : Fin T) (s : Fin N) :
    Host.reduceWindowAdd ![1, 1, 1, N] ![1, 1, 1, 1] ![0, 0, 0, l] ![0, 0, 0, r] x init h hu (ix4 b g t s)
      = ∑ k : Fin N, if hk : l ≤ s.val + k.val ∧ s.val + k.val - l < N then x (ix4 b g t ⟨s.val + k.val - l, hk.2⟩) else 0 := by
  let W : Shape := ⟨4, ![1, 1, 1, N]⟩
  let G : W.Idx → EReal := fun w => if hk : l ≤ s.val + (w 3).val ∧ s.val + (w 3).val - l < N then x (ix4 b g t ⟨s.val + (w 3).val - l, hk.2⟩) else 0
  have hsum : (∑ w : W.Idx, G w) = ∑ k : Fin N, if hk : l ≤ s.val + k.val ∧ s.val + k.val - l < N then x (ix4 b g t ⟨s.val + k.val - l, hk.2⟩) else 0 := by
    rw [sum_idx4]
    simp only [Fin.sum_univ_one]
    rfl
  have key : ∀ w : W.Idx, (if hin : ∀ a : Fin 4, (![0, 0, 0, l] : Fin 4 → ℕ) a ≤ (ix4 b g t s a).val * (![1, 1, 1, 1] : Fin 4 → ℕ) a + (w a).val ∧
      (ix4 b g t s a).val * (![1, 1, 1, 1] : Fin 4 → ℕ) a + (w a).val - (![0, 0, 0, l] : Fin 4 → ℕ) a < (![B, H, T, N] : Fin 4 → ℕ) a then
      x (fun a => ⟨(ix4 b g t s a).val * (![1, 1, 1, 1] : Fin 4 → ℕ) a + (w a).val - (![0, 0, 0, l] : Fin 4 → ℕ) a, (hin a).2⟩) else (0 : EReal)) = G w := by
    intro w
    have h0 : (w 0).val = 0 := by have := (w 0).isLt; exact Nat.lt_one_iff.mp this
    have h1 : (w 1).val = 0 := by have := (w 1).isLt; exact Nat.lt_one_iff.mp this
    have h2 : (w 2).val = 0 := by have := (w 2).isLt; exact Nat.lt_one_iff.mp this
    show _ = if hk : l ≤ s.val + (w 3).val ∧ s.val + (w 3).val - l < N then x (ix4 b g t ⟨s.val + (w 3).val - l, hk.2⟩) else 0
    have a3 : (ix4 b g t s 3).val * (![1, 1, 1, 1] : Fin 4 → ℕ) 3 + (w 3).val = s.val + (w 3).val := by
      show s.val * 1 + _ = _; rw [mul_one]
    have a2 : (ix4 b g t s 2).val * (![1, 1, 1, 1] : Fin 4 → ℕ) 2 + (w 2).val = t.val := by
      show t.val * 1 + _ = _; rw [mul_one, h2, add_zero]
    have a1 : (ix4 b g t s 1).val * (![1, 1, 1, 1] : Fin 4 → ℕ) 1 + (w 1).val = g.val := by
      show g.val * 1 + _ = _; rw [mul_one, h1, add_zero]
    have a0 : (ix4 b g t s 0).val * (![1, 1, 1, 1] : Fin 4 → ℕ) 0 + (w 0).val = b.val := by
      show b.val * 1 + _ = _; rw [mul_one, h0, add_zero]
    by_cases hk : l ≤ s.val + (w 3).val ∧ s.val + (w 3).val - l < N
    · have hin : ∀ a : Fin 4, (![0, 0, 0, l] : Fin 4 → ℕ) a ≤ (ix4 b g t s a).val * (![1, 1, 1, 1] : Fin 4 → ℕ) a + (w a).val ∧
          (ix4 b g t s a).val * (![1, 1, 1, 1] : Fin 4 → ℕ) a + (w a).val - (![0, 0, 0, l] : Fin 4 → ℕ) a < (![B, H, T, N] : Fin 4 → ℕ) a := by
        intro a
        match a with
        | 0 => rw [a0]; exact ⟨Nat.zero_le _, b.isLt⟩
        | 1 => rw [a1]; exact ⟨Nat.zero_le _, g.isLt⟩
        | 2 => rw [a2]; exact ⟨Nat.zero_le _, t.isLt⟩
        | 3 => rw [a3]; exact hk
      rw [dif_pos hin, dif_pos hk]
      congr 1
      funext a
      match a with
      | 0 => exact Fin.ext a0
      | 1 => exact Fin.ext a1
      | 2 => exact Fin.ext a2
      | 3 => exact Fin.ext (congrArg (· - l) a3)
    · rw [dif_neg hk, dif_neg]
      intro hin
      have := hin 3
      rw [a3] at this
      exact hk this
  have hfold : ∀ (L : List (Fin W.numel)) (f : Fin W.numel → EReal) (a : EReal), L.foldl (fun r n => r + f n) a = a + (L.map f).sum := by
    intro L f
    induction L with
    | nil => intro a; simp
    | cons n L ih => intro a; rw [List.foldl_cons, ih, List.map_cons, List.sum_cons, add_assoc]
  rw [← hsum, ← W.rowMajor.symm.sum_comp G, ← List.sum_ofFn, List.ofFn_eq_map]
  refine (hfold (List.finRange W.numel) _ (init _)).trans ?_
  rw [hi, zero_add]
  congr 2
  funext n
  convert key (W.rowMajor.symm n) <;> rfl

/-- The sum from an index on: the entry there, and entries after it or zeros. -/
theorem sum_from (x : FVec Ideal ⟨4, ![B, H, T, N]⟩ .f32) (init : FVec Ideal ⟨0, ![]⟩ .f32) (hi : ∀ i, init i = 0) (r : ℕ)
    (h : (⟨4, ![B, H, T, N]⟩ : Shape).ReduceWindows ![1, 1, 1, N] ![1, 1, 1, 1] ![0, 0, 0, 0] ![0, 0, 0, r] ⟨4, ![B, H, T, N]⟩)
    (hu : 0 < (⟨0, ![]⟩ : Shape).numel) (hx : ∀ i, x i ≤ 0) (b : Fin B) (g : Fin H) (t : Fin T) (s : Fin N) :
    ∃ y : EReal, y ≤ 0 ∧
      Host.reduceWindowAdd ![1, 1, 1, N] ![1, 1, 1, 1] ![0, 0, 0, 0] ![0, 0, 0, r] x init h hu (ix4 b g t s) = x (ix4 b g t s) + y := by
  rw [window_at 0 r x init hi h hu]
  have hN : 0 < N := Nat.lt_of_le_of_lt (Nat.zero_le _) s.isLt
  rw [← Finset.add_sum_erase _ _ (Finset.mem_univ (⟨0, hN⟩ : Fin N))]
  refine ⟨∑ k ∈ Finset.univ.erase (⟨0, hN⟩ : Fin N), if hk : 0 ≤ s.val + k.val ∧ s.val + k.val - 0 < N then x (ix4 b g t ⟨s.val + k.val - 0, hk.2⟩) else 0,
    Finset.sum_nonpos fun k _ => ?_, ?_⟩
  · split_ifs with hk
    · exact hx _
    · exact le_rfl
  · rw [dif_pos ⟨Nat.zero_le _, by simp only [Nat.add_zero, Nat.sub_zero]; exact s.isLt⟩]
    rfl

/-- The sum up to an index. -/
theorem sum_upto (x : FVec Ideal ⟨4, ![B, H, T, N]⟩ .f32) (init : FVec Ideal ⟨0, ![]⟩ .f32) (hi : ∀ i, init i = 0) (l : ℕ) (hl : l + 1 = N)
    (h : (⟨4, ![B, H, T, N]⟩ : Shape).ReduceWindows ![1, 1, 1, N] ![1, 1, 1, 1] ![0, 0, 0, l] ![0, 0, 0, 0] ⟨4, ![B, H, T, N]⟩)
    (hu : 0 < (⟨0, ![]⟩ : Shape).numel) (b : Fin B) (g : Fin H) (t : Fin T) (f : ℕ → EReal) (hf : ∀ i : Fin N, x (ix4 b g t i) = f i)
    (s : Fin N) :
    Host.reduceWindowAdd ![1, 1, 1, N] ![1, 1, 1, 1] ![0, 0, 0, l] ![0, 0, 0, 0] x init h hu (ix4 b g t s) = ∑ i ∈ range (s.val + 1), f i := by
  rw [window_at l 0 x init hi h hu]
  have hs := s.isLt
  have e : ∀ k : Fin N, (if hk : l ≤ s.val + k.val ∧ s.val + k.val - l < N then x (ix4 b g t ⟨s.val + k.val - l, hk.2⟩) else 0)
      = (fun k : ℕ => if l ≤ s.val + k then f (s.val + k - l) else 0) k.val := by
    intro k
    have := k.isLt
    by_cases hk : l ≤ s.val + k.val
    · rw [dif_pos ⟨hk, by omega⟩, hf]; simp only [if_pos hk]
    · rw [dif_neg fun c => hk c.1]; simp only [if_neg hk]
  rw [Finset.sum_congr rfl fun k _ => e k, Fin.sum_univ_eq_sum_range (fun k : ℕ => if l ≤ s.val + k then f (s.val + k - l) else 0),
    show range N = range ((l - s.val) + (s.val + 1)) from by congr 1; omega, Finset.sum_range_add]
  rw [Finset.sum_eq_zero fun k hk => if_neg (by have := Finset.mem_range.mp hk; omega), zero_add]
  refine Finset.sum_congr rfl fun k hk => ?_
  rw [if_pos (by omega)]
  congr 1; omega

end Cert.Proof.Attn
-- ==== Proof.Ref.lean ====
/-
  The reference's arrays read at an index: the heads' rows of its arguments, the gradient of the saved weights and its sums.
-/
module

public import proofs.«01_k».proof.Proof.Residual
public import proofs.«01_k».proof.Proof.Cumsum
public import proofs.«01_k».proof.Proof.Sums
public import proofs.«01_k».proof.Proof.Gen.ReferenceIdeal.Read

@[expose] public section

set_option maxRecDepth 20000

noncomputable section

namespace Cert.Proof.Attn

open Idealize.ShloMosaic
open Cert.ReferenceIdeal Cert.ReferenceIdeal.Gen Cert.ReferenceIdeal.Read
open Finset (range)

variable (x0 : (⟨S4096x9216, .bf16⟩ : BufTy).Contents (Elt Ideal)) (x1 : (⟨S4096x1024, .bf16⟩ : BufTy).Contents (Elt Ideal))

theorem q_ref (b : Fin 2) (h : Fin 16) (t : Fin 2048) (d : Fin 64) :
    val_main_v5 (F := Ideal) x0 (ix4 b h t d) = x0 (ix2 ⟨2048 * b.val + t.val, by omega⟩ ⟨64 * h.val + d.val, by omega⟩) := by
  unfold val_main_v5 val_main_v4 val_main_v3 val_main_v0
  pointwise
  congr 1; congr 1 <;> (apply Fin.ext; simp only; omega)

theorem k_ref (b : Fin 2) (h : Fin 16) (t : Fin 2048) (d : Fin 64) :
    val_main_v8 (F := Ideal) x0 (ix4 b h t d) = x0 (ix2 ⟨2048 * b.val + t.val, by omega⟩ ⟨1024 + (64 * h.val + d.val), by omega⟩) := by
  unfold val_main_v8 val_main_v7 val_main_v6 val_main_v1
  pointwise
  congr 1; congr 1 <;> (apply Fin.ext; simp only; omega)

theorem v_ref (b : Fin 2) (h : Fin 16) (t : Fin 2048) (d : Fin 64) :
    val_main_v30 (F := Ideal) x0 (ix4 b h t d) = x0 (ix2 ⟨2048 * b.val + t.val, by omega⟩ ⟨2048 + (64 * h.val + d.val), by omega⟩) := by
  unfold val_main_v30 val_main_v29 val_main_v28 val_main_v2
  pointwise
  congr 1; congr 1 <;> (apply Fin.ext; simp only; omega)

theorem d_ref (b : Fin 2) (h : Fin 16) (t : Fin 2048) (d : Fin 64) :
    val_main_v36 (F := Ideal) x1 (ix4 b h t d) = x1 (ix2 ⟨2048 * b.val + t.val, by omega⟩ ⟨64 * h.val + d.val, by omega⟩) := by
  unfold val_main_v36 val_main_v35 val_main_v34
  pointwise
  congr 1; congr 1 <;> (apply Fin.ext; simp only; omega)

theorem mask_ref (b : Fin 2) (h : Fin 16) (t s : Fin 2048) :
    val_main_v22_1 (F := Ideal) (ix4 b h t s) = if s.val < t.val then 1 else 0 := by
  unfold val_main_v22_1 val_main_v18 val_main_v16 val_main_v17 val_main_v15 val_main_v13 val_main_v12 val_main_v14
  pointwise
  exact slt_small (by omega) (by omega)

theorem sp_ref (i : S2x16x2048x2048.Idx) :
    val_main_call0_v1_0 (F := Ideal) x0 i = softplus (-(val_main_v11 (F := Ideal) x0 i)) := by
  obtain ⟨b, h, t, s, rfl⟩ : ∃ b h t s, i = ix4 b h t s := ⟨i 0, i 1, i 2, i 3, by funext a; match a with | 0 => rfl | 1 => rfl | 2 => rfl | 3 => rfl⟩
  unfold val_main_call0_v1_0 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_call0_v2 val_main_call0_call0_v0 val_main_call0_call0_v5 val_main_call0_v0 val_main_call0_call0_cst
  pointwise
  rw [if_neg fun h => h rfl]
  rfl

theorem sp_ref' (i : S2x16x2048x2048.Idx) :
    val_main_call1_v1_0 (F := Ideal) x0 i = softplus (val_main_v11 (F := Ideal) x0 i) := by
  obtain ⟨b, h, t, s, rfl⟩ : ∃ b h t s, i = ix4 b h t s := ⟨i 0, i 1, i 2, i 3, by funext a; match a with | 0 => rfl | 1 => rfl | 2 => rfl | 3 => rfl⟩
  unfold val_main_call1_v1_0 val_main_call1_call0_v4 val_main_call1_call0_v6 val_main_call1_call0_v11 val_main_call1_call0_v1 val_main_call1_call0_v10 val_main_call1_call0_v9 val_main_call1_call0_v8 val_main_call1_call0_v7 val_main_call1_call0_v3 val_main_call1_call0_v2 val_main_call1_call0_v0 val_main_call1_call0_v5 val_main_call1_v0 val_main_v20 val_main_call1_call0_cst
  pointwise
  rw [if_neg fun h => h rfl, neg_neg]
  rfl

theorem resid_ref (b : Fin 2) (h : Fin 16) (t s : Fin 2048) :
    val_main_v19_1 (F := Ideal) x0 (ix4 b h t s) = resid (-(val_main_v11 (F := Ideal) x0 (ix4 b h t s))) := by
  unfold val_main_v19_1 val_main_call0_call0_v21 val_main_call0_call0_v20 val_main_call0_call0_v16 val_main_call0_call0_v14 val_main_call0_call0_v18 val_main_call0_call0_v13 val_main_call0_call0_v15 val_main_call0_call0_v17 val_main_call0_call0_v19 val_main_call0_v0 val_main_call0_call0_cst_0 val_main_call0_call0_cst_1 val_main_call0_call0_cst_2 val_main_call0_call0_cst_3
  pointwise
  rw [sp_ref]
  rfl

theorem resid_ref' (b : Fin 2) (h : Fin 16) (t s : Fin 2048) :
    val_main_v21_1 (F := Ideal) x0 (ix4 b h t s) = resid (val_main_v11 (F := Ideal) x0 (ix4 b h t s)) := by
  unfold val_main_v21_1 val_main_call1_call0_v21 val_main_call1_call0_v20 val_main_call1_call0_v16 val_main_call1_call0_v14 val_main_call1_call0_v18 val_main_call1_call0_v13 val_main_call1_call0_v15 val_main_call1_call0_v17 val_main_call1_call0_v19 val_main_call1_v0 val_main_v20 val_main_call1_call0_cst_0 val_main_call1_call0_cst_1 val_main_call1_call0_cst_2 val_main_call1_call0_cst_3
  pointwise
  rw [sp_ref', neg_neg]
  rfl

/-- The saved sigmoid. -/
theorem sg_ref (i : S2x16x2048x2048.Idx) :
    (Host.exp (val_main_v19_0 (F := Ideal) x0) : FVec Ideal S2x16x2048x2048 .f32) i = sigma (val_main_v11 (F := Ideal) x0 i) := by
  show Ideal.exp (-(val_main_call0_v1_0 (F := Ideal) x0 i)) = _
  rw [sp_ref]
  rfl

theorem neg_softplus (z : EReal) : -softplus z ≤ 0 := by
  simpa using EReal.neg_le_neg_iff.mpr (softplus_nonneg z)

theorem zero_const (i : S_.Idx) : constant (F := Ideal) S_ .f32 0x00000000#32 i = (0 : EReal) := by
  obtain rfl : i = ix0 := by funext a; exact a.elim0
  pointwise

theorem zero_call3 (i : S_.Idx) : val_main_call3_v0 (F := Ideal) i = (0 : EReal) := by
  obtain rfl : i = ix0 := by funext a; exact a.elim0
  unfold val_main_call3_v0 val_main_call3_cst
  pointwise

theorem zero_call6 (i : S_.Idx) : val_main_call6_v0 (F := Ideal) i = (0 : EReal) := by
  obtain rfl : i = ix0 := by funext a; exact a.elim0
  unfold val_main_call6_v0 val_main_call6_cst
  pointwise

/-- The logarithm of what a weight leaves is not above zero. -/
theorem left_ref (i : S2x16x2048x2048.Idx) : val_main_v22_0 (F := Ideal) x0 i ≤ 0 := by
  obtain ⟨b, h, t, s, rfl⟩ : ∃ b h t s, i = ix4 b h t s := ⟨i 0, i 1, i 2, i 3, by funext a; match a with | 0 => rfl | 1 => rfl | 2 => rfl | 3 => rfl⟩
  unfold val_main_v22_0 val_main_v21_0 val_main_call2_v2 val_main_call2_v0 val_main_cst_0
  pointwise
  rw [sp_ref', mask_ref, select_if]
  split_ifs
  · exact neg_softplus _
  · exact (zero_const ix0).le

/-- The weight is real. -/
theorem weight_real (b : Fin 2) (h : Fin 16) (t s : Fin 2048) : ∃ r : ℝ, val_main_v26 (F := Ideal) x0 (ix4 b h t s) = r := by
  obtain ⟨y, hy, e⟩ := sum_from (val_main_v22_0 (F := Ideal) x0) (val_main_call3_v0 (F := Ideal)) zero_call3 2047
    reduceWindows_S2x16x2048x2048_S2x16x2048x2048_w1s1p0_0_w1s1p0_0_w1s1p0_0_w2048s1p0_2047 h_S_ (left_ref x0) b h t s
  refine exp_real (x := val_main_v25 (F := Ideal) x0 (ix4 b h t s)) ?_
  show -(val_main_call0_v1_0 (F := Ideal) x0 (ix4 b h t s)) + (val_main_v23 (F := Ideal) x0 (ix4 b h t s) - val_main_v22_0 (F := Ideal) x0 (ix4 b h t s)) ≠ ⊤
  have h1 := later_le (left_ref x0 (ix4 b h t s)) hy
  have h2 : val_main_v23 (F := Ideal) x0 (ix4 b h t s) = val_main_v22_0 (F := Ideal) x0 (ix4 b h t s) + y := e
  rw [h2, sp_ref]
  have h3 : -softplus (-(val_main_v11 (F := Ideal) x0 (ix4 b h t s))) ≤ 0 := neg_softplus _
  have := add_le_add h3 h1
  rw [add_zero] at this
  exact ne_of_lt (this.trans_lt (by simp))

theorem a_ref (b : Fin 2) (h : Fin 16) (t s : Fin 2048) :
    val_main_v27_0 (F := Ideal) x0 (ix4 b h t s) = if s.val < t.val then val_main_v26 (F := Ideal) x0 (ix4 b h t s) else 0 := by
  have hm : val_main_v27_1 (F := Ideal) (ix4 b h t s) = if s.val < t.val then 1 else 0 := mask_ref b h t s
  unfold val_main_v27_0 val_main_call4_v2 val_main_call4_v0 val_main_cst_1
  pointwise
  rw [hm, select_if]
  exact congrArg (fun z => if s.val < t.val then val_main_v26 (F := Ideal) x0 (ix4 b h t s) else z) (zero_const ix0)

theorem w_ref (b : Fin 2) (h : Fin 16) (t s : Fin 2048) :
    val_main_v44 (F := Ideal) x0 x1 (ix4 b h t s)
      = (if s.val < t.val then ∑ d : Fin 64, val_main_v36 (F := Ideal) x1 (ix4 b h t d) * val_main_v30 (F := Ideal) x0 (ix4 b h s d) else 0)
        * val_main_v26 (F := Ideal) x0 (ix4 b h t s) := by
  have hm : val_main_v27_1 (F := Ideal) (ix4 b h t s) = if s.val < t.val then 1 else 0 := mask_ref b h t s
  unfold val_main_v44 val_main_v43 val_main_call5_v0 val_main_call5_cst val_main_v39
  pointwise
  rw [hm, select_if]
  split_ifs
  · rfl
  · rw [zero_mul]

theorem dz_ref (b : Fin 2) (h : Fin 16) (t s : Fin 2048) (w : ℕ → EReal) (hw : ∀ i : Fin 2048, val_main_v44 (F := Ideal) x0 x1 (ix4 b h t i) = w i)
    (hr : ∀ i, ∃ r : ℝ, w i = r) (h0 : t.val ≤ s.val → w s = 0) :
    val_main_v52 (F := Ideal) x0 x1 (ix4 b h t s)
      = if s.val < t.val then w s - sigma (val_main_v11 (F := Ideal) x0 (ix4 b h t s)) * (w s + ∑ i ∈ range s, w i) else 0 := by
  have e : val_main_v46 (F := Ideal) x0 x1 (ix4 b h t s) = ∑ i ∈ range (s.val + 1), w i :=
    sum_upto (val_main_v44 (F := Ideal) x0 x1) (val_main_call6_v0 (F := Ideal)) zero_call6 2047 rfl
      reduceWindows_S2x16x2048x2048_S2x16x2048x2048_w1s1p0_0_w1s1p0_0_w1s1p0_0_w2048s1p2047_0 h_S_ b h t w hw s
  have hm := mask_ref b h t s
  unfold val_main_v52 val_main_v50 val_main_v49 val_main_call8_v1 val_main_call8_v0 val_main_v51 val_main_call9_v1 val_main_call9_v0 val_main_v48 val_main_v47 val_main_v45 val_main_call7_v0 val_main_call7_cst
  pointwise
  rw [hm, hw, e, resid_ref, resid_ref', resid_neg, resid_eq, select_if]
  split_ifs with ht
  · rw [Finset.sum_range_succ]
    exact grad_eq (hr _) (sum_real _ _ fun i _ => hr i) (sigma_real _)
  · rw [h0 (by omega)]
    simp

theorem dq_ref (b : Fin 2) (h : Fin 16) (t : Fin 2048) (d : Fin 64) :
    val_main_v62 (F := Ideal) x0 x1 (ix2 ⟨2048 * b.val + t.val, by omega⟩ ⟨64 * h.val + d.val, by omega⟩)
      = ∑ s : Fin 2048, val_main_v54 (F := Ideal) x0 x1 (ix4 b h t s) * val_main_v8 (F := Ideal) x0 (ix4 b h s d) := by
  unfold val_main_v62 val_main_v61 val_main_v60 val_main_v56
  pointwise

theorem dk_ref (b : Fin 2) (h : Fin 16) (s : Fin 2048) (d : Fin 64) :
    val_main_v59 (F := Ideal) x0 x1 (ix2 ⟨2048 * b.val + s.val, by omega⟩ ⟨64 * h.val + d.val, by omega⟩)
      = ∑ t : Fin 2048, val_main_v54 (F := Ideal) x0 x1 (ix4 b h t s) * val_main_v5 (F := Ideal) x0 (ix4 b h t d) := by
  unfold val_main_v59 val_main_v58 val_main_v57 val_main_v55
  pointwise

theorem dv_ref (b : Fin 2) (h : Fin 16) (s : Fin 2048) (d : Fin 64) :
    val_main_v42 (F := Ideal) x0 x1 (ix2 ⟨2048 * b.val + s.val, by omega⟩ ⟨64 * h.val + d.val, by omega⟩)
      = ∑ t : Fin 2048, val_main_v36 (F := Ideal) x1 (ix4 b h t d) * val_main_v27_0 (F := Ideal) x0 (ix4 b h t s) := by
  unfold val_main_v42 val_main_v41 val_main_v40 val_main_v38 val_main_v37
  pointwise

/-- The scale is an eighth. -/
theorem scale_eq : scale = ((1 / 8 : ℝ) : EReal) := by
  show Ideal.ofBits .f32 0x3E000000#32 = _
  simp [Ideal.ofBits, Ideal.ieee, -EReal.coe_mul]; norm_num

theorem scaled_ref (b : Fin 2) (h : Fin 16) (t s : Fin 2048) :
    val_main_v54 (F := Ideal) x0 x1 (ix4 b h t s) = val_main_v52 (F := Ideal) x0 x1 (ix4 b h t s) * scale := by
  unfold val_main_v54 val_main_v53 val_main_cst_2
  pointwise
  rfl

/-- An entry of an array of 4096 rows, by numbers. -/
def entry {n : ℕ} (x : (⟨2, ![4096, n]⟩ : Shape).Idx → EReal) (r c : ℕ) : EReal := if h : r < 4096 ∧ c < n then x (ix2 ⟨r, h.1⟩ ⟨c, h.2⟩) else 0

theorem entry_of {n : ℕ} (x : (⟨2, ![4096, n]⟩ : Shape).Idx → EReal) {r c : ℕ} (hr : r < 4096) (hc : c < n) :
    entry x r c = x (ix2 ⟨r, hr⟩ ⟨c, hc⟩) := dif_pos ⟨hr, hc⟩

/-- The rows of a batch's pair of heads, and what its forward pass gives. -/
def headsOf (b : Fin 2) (p : Fin 8) : Heads where
  q t c := entry x0 (2048 * b.val + t) (128 * p.val + c)
  k t c := entry x0 (2048 * b.val + t) (1024 + (128 * p.val + c))
  v t c := entry x0 (2048 * b.val + t) (2048 + (128 * p.val + c))
  d t c := entry x1 (2048 * b.val + t) (128 * p.val + c)
  A h t s := if hh : s < t ∧ t < 2048 ∧ h < 2 then val_main_v26 (F := Ideal) x0 (ix4 b ⟨2 * p.val + h, by omega⟩ ⟨t, hh.2.1⟩ ⟨s, by omega⟩) else 0
  G h t s := if hh : s < 2048 ∧ t < 2048 ∧ h < 2 then sigma (val_main_v11 (F := Ideal) x0 (ix4 b ⟨2 * p.val + h, by omega⟩ ⟨t, hh.2.1⟩ ⟨s, hh.1⟩)) else 0

theorem headsOf_above (b : Fin 2) (p : Fin 8) (h t s : ℕ) (hts : t ≤ s) : (headsOf x0 x1 b p).A h t s = 0 := dif_neg (by omega)

theorem headsOf_a (b : Fin 2) (p : Fin 8) (h : Fin 2) (t s : Fin 2048) :
    (headsOf x0 x1 b p).A h t s = val_main_v27_0 (F := Ideal) x0 (ix4 b ⟨2 * p.val + h.val, by omega⟩ t s) := by
  rw [a_ref]
  by_cases hts : s.val < t.val
  · rw [if_pos hts]; exact dif_pos ⟨hts, t.isLt, h.isLt⟩
  · rw [if_neg hts]; exact dif_neg fun c => hts c.1

theorem headsOf_g (b : Fin 2) (p : Fin 8) (h : Fin 2) (t s : Fin 2048) :
    (headsOf x0 x1 b p).G h t s = sigma (val_main_v11 (F := Ideal) x0 (ix4 b ⟨2 * p.val + h.val, by omega⟩ t s)) :=
  dif_pos ⟨s.isLt, t.isLt, h.isLt⟩

theorem headsOf_da (b : Fin 2) (p : Fin 8) (h : Fin 2) (t s : Fin 2048) :
    (headsOf x0 x1 b p).DA h t s = ∑ d : Fin 64, val_main_v36 (F := Ideal) x1 (ix4 b ⟨2 * p.val + h.val, by omega⟩ t d)
      * val_main_v30 (F := Ideal) x0 (ix4 b ⟨2 * p.val + h.val, by omega⟩ s d) := by
  rw [Heads.DA, Finset.sum_range]
  refine Finset.sum_congr rfl fun d _ => ?_
  rw [d_ref, v_ref]
  refine congrArg₂ (· * ·) ((entry_of x1 (by omega) (by omega)).trans ?_) ((entry_of x0 (by omega) (by omega)).trans ?_)
  · congr 1; congr 1; apply Fin.ext; simp only; omega
  · congr 1; congr 1; apply Fin.ext; simp only; omega

theorem headsOf_w (b : Fin 2) (p : Fin 8) (h : Fin 2) (t s : Fin 2048) :
    val_main_v44 (F := Ideal) x0 x1 (ix4 b ⟨2 * p.val + h.val, by omega⟩ t s) = (headsOf x0 x1 b p).W h t s := by
  rw [w_ref, Heads.W, headsOf_da, headsOf_a, a_ref]
  split_ifs
  · rw [mul_comm]
  · rw [zero_mul, zero_mul]

/-- The entries of `x` that are named finite. -/
def Finite (x0 : (⟨S4096x9216, .bf16⟩ : BufTy).Contents (Elt Ideal)) (x1 : (⟨S4096x1024, .bf16⟩ : BufTy).Contents (Elt Ideal)) : Prop :=
  (∀ (r : Fin 4096) (c : Fin 1024), ∃ y : ℝ, (x0 (ix2 r ⟨2048 + c.val, by omega⟩) : EReal) = y) ∧
    ∀ (r : Fin 4096) (c : Fin 1024), ∃ y : ℝ, (x1 (ix2 r c) : EReal) = y

variable {x0 x1} (hf : Finite x0 x1)
include hf

theorem headsOf_w_real (b : Fin 2) (p : Fin 8) (h : Fin 2) (t : Fin 2048) (s : ℕ) : ∃ r : ℝ, (headsOf x0 x1 b p).W h t s = r := by
  by_cases hts : s < t.val
  · have hs : s < 2048 := by omega
    obtain ⟨a, ha⟩ := weight_real x0 b ⟨2 * p.val + h.val, by omega⟩ t ⟨s, hs⟩
    have e : (headsOf x0 x1 b p).A h t s = a := by
      rw [← ha]; exact dif_pos ⟨hts, t.isLt, h.isLt⟩
    obtain ⟨y, hy⟩ : ∃ y : ℝ, (headsOf x0 x1 b p).DA h t s = y := by
      refine sum_real _ _ fun i hi => ?_
      have hi := Finset.mem_range.mp hi
      obtain ⟨u, hu⟩ := hf.2 ⟨2048 * b.val + t.val, by omega⟩ ⟨128 * p.val + (64 * h.val + i), by omega⟩
      obtain ⟨v, hv⟩ := hf.1 ⟨2048 * b.val + s, by omega⟩ ⟨128 * p.val + (64 * h.val + i), by omega⟩
      refine ⟨u * v, ?_⟩
      rw [EReal.coe_mul, ← hu, ← hv]
      exact congrArg₂ (· * ·) (entry_of x1 (by omega) (by omega)) (entry_of x0 (by omega) (by omega))
    exact ⟨a * y, by rw [Heads.W, e, hy, EReal.coe_mul]⟩
  · refine ⟨0, ?_⟩
    rw [Heads.W, headsOf_above _ _ _ _ _ _ _ (by omega), zero_mul, EReal.coe_zero]

theorem headsOf_dz (b : Fin 2) (p : Fin 8) (h : Fin 2) (t s : Fin 2048) :
    val_main_v52 (F := Ideal) x0 x1 (ix4 b ⟨2 * p.val + h.val, by omega⟩ t s) = (headsOf x0 x1 b p).DZ h t s := by
  rw [dz_ref x0 x1 b ⟨2 * p.val + h.val, by omega⟩ t s (fun i => (headsOf x0 x1 b p).W h t i) (fun i => headsOf_w x0 x1 b p h t i)
    (fun i => headsOf_w_real hf b p h t i)
    (fun hts => by show (headsOf x0 x1 b p).W h t s = 0; rw [Heads.W, headsOf_above _ _ _ _ _ _ _ hts, zero_mul]), ← headsOf_g x0 x1 b p h t s]
  rfl

/-- The three results of the reference. -/
theorem dq_heads (b : Fin 2) (p : Fin 8) (t : Fin 2048) (c : Fin 128) :
    val_main_v62 (F := Ideal) x0 x1 (ix2 ⟨2048 * b.val + t.val, by omega⟩ ⟨128 * p.val + c.val, by omega⟩)
      = (∑ s ∈ range 2048, (headsOf x0 x1 b p).DZ (c.val / 64) t s * (headsOf x0 x1 b p).k s c) * scale := by
  have e : (⟨128 * p.val + c.val, by omega⟩ : Fin 1024) = ⟨64 * (⟨2 * p.val + c.val / 64, by omega⟩ : Fin 16).val + (⟨c.val % 64, by omega⟩ : Fin 64).val, by simp only; omega⟩ := by
    apply Fin.ext; simp only; omega
  rw [e, dq_ref, Finset.sum_range, scale_eq, ← sum_scale _ _ (by norm_num)]
  refine Finset.sum_congr rfl fun s _ => ?_
  rw [scaled_ref, headsOf_dz hf b p ⟨c.val / 64, by omega⟩, k_ref, scale_eq, mul_right_comm]
  refine congrArg (fun z : EReal => (headsOf x0 x1 b p).DZ (c.val / 64) t s * z * ((1 / 8 : ℝ) : EReal)) ?_
  refine Eq.trans ?_ (entry_of x0 (by omega) (by omega)).symm
  congr 1; congr 1; apply Fin.ext; simp only; omega

theorem dk_heads (b : Fin 2) (p : Fin 8) (s : Fin 2048) (c : Fin 128) :
    val_main_v59 (F := Ideal) x0 x1 (ix2 ⟨2048 * b.val + s.val, by omega⟩ ⟨128 * p.val + c.val, by omega⟩)
      = ∑ t ∈ range 2048, (headsOf x0 x1 b p).q t c * scale * (headsOf x0 x1 b p).DZ (c.val / 64) t s := by
  have e : (⟨128 * p.val + c.val, by omega⟩ : Fin 1024) = ⟨64 * (⟨2 * p.val + c.val / 64, by omega⟩ : Fin 16).val + (⟨c.val % 64, by omega⟩ : Fin 64).val, by simp only; omega⟩ := by
    apply Fin.ext; simp only; omega
  rw [e, dk_ref, Finset.sum_range]
  refine Finset.sum_congr rfl fun t _ => ?_
  rw [scaled_ref, headsOf_dz hf b p ⟨c.val / 64, by omega⟩, q_ref, mul_comm, mul_comm _ scale, ← mul_assoc]
  refine congrArg (fun z : EReal => z * scale * (headsOf x0 x1 b p).DZ (c.val / 64) t s) ?_
  refine Eq.trans ?_ (entry_of x0 (by omega) (by omega)).symm
  congr 1; congr 1; apply Fin.ext; simp only; omega

omit hf in
theorem dv_heads (b : Fin 2) (p : Fin 8) (s : Fin 2048) (c : Fin 128) :
    val_main_v42 (F := Ideal) x0 x1 (ix2 ⟨2048 * b.val + s.val, by omega⟩ ⟨128 * p.val + c.val, by omega⟩)
      = ∑ t ∈ range 2048, (headsOf x0 x1 b p).d t c * (headsOf x0 x1 b p).A (c.val / 64) t s := by
  have e : (⟨128 * p.val + c.val, by omega⟩ : Fin 1024) = ⟨64 * (⟨2 * p.val + c.val / 64, by omega⟩ : Fin 16).val + (⟨c.val % 64, by omega⟩ : Fin 64).val, by simp only; omega⟩ := by
    apply Fin.ext; simp only; omega
  rw [e, dv_ref, Finset.sum_range]
  refine Finset.sum_congr rfl fun t _ => ?_
  rw [headsOf_a x0 x1 b p ⟨c.val / 64, by omega⟩, d_ref]
  refine congrArg (fun z => z * _) ?_
  refine Eq.trans ?_ (entry_of x1 (by omega) (by omega)).symm
  congr 1; congr 1; apply Fin.ext; simp only; omega

end Cert.Proof.Attn
-- ==== Proof.Windows.lean ====
/-
  The blocks a grid point's windows hold, at coordinates: the point of batch `b` and pair of heads `p` holds the pair's rows and saved tiles.
-/
module

public import proofs.«01_k».proof.Proof.Launch
public import proofs.«01_k».proof.Proof.Host
public import proofs.«01_k».proof.Proof.Tiles
public import proofs.«01_k».proof.Proof.Held
public import proofs.«01_k».proof.Proof.Ref
public import Idealize.ShloMosaic.Lib.Pipeline.ValueKit.Geometry

@[expose] public section

set_option maxRecDepth 20000

noncomputable section

namespace Cert.Proof.Attn

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- The point's batch and pair of heads. -/
abbrev bOf (t : Fin cfg0.N) : Fin 2 := grid0.coords t 0
abbrev pOf (t : Fin cfg0.N) : Fin 8 := grid0.coords t 1

theorem at0 : ∀ t : Fin cfg0.N, win0_0.index t = ![(bOf t).val, (pOf t).val] := (by decide +kernel : ∀ t : Fin grid0.N, _)
theorem at1 : ∀ t : Fin cfg0.N, win0_1.index t = ![(bOf t).val, 8 + (pOf t).val] := (by decide +kernel : ∀ t : Fin grid0.N, _)
theorem at2 : ∀ t : Fin cfg0.N, win0_2.index t = ![(bOf t).val, 16 + (pOf t).val] := (by decide +kernel : ∀ t : Fin grid0.N, _)
theorem at3 : ∀ t : Fin cfg0.N, win0_3.index t = ![(bOf t).val, (pOf t).val] := (by decide +kernel : ∀ t : Fin grid0.N, _)
theorem at4 : ∀ t : Fin cfg0.N, win0_4.index t = ![(bOf t).val, (pOf t).val, 0, 0, 0] := (by decide +kernel : ∀ t : Fin grid0.N, _)
theorem at5 : ∀ t : Fin cfg0.N, win0_5.index t = ![(bOf t).val, (pOf t).val, 0, 0, 0] := (by decide +kernel : ∀ t : Fin grid0.N, _)
theorem at6 : ∀ t : Fin cfg0.N, win0_6.index t = ![(bOf t).val, (pOf t).val] := (by decide +kernel : ∀ t : Fin grid0.N, _)
theorem at7 : ∀ t : Fin cfg0.N, win0_7.index t = ![(bOf t).val, (pOf t).val] := (by decide +kernel : ∀ t : Fin grid0.N, _)
theorem at8 : ∀ t : Fin cfg0.N, win0_8.index t = ![(bOf t).val, (pOf t).val] := (by decide +kernel : ∀ t : Fin grid0.N, _)

theorem place0 (t : Fin cfg0.N) (r : Fin 2048) (l : Fin 128) :
    (win0_0.blk t).view.emb (ix2 r l) = (ix2 ⟨2048 * (bOf t).val + r.val, by omega⟩ ⟨128 * (pOf t).val + l.val, by omega⟩ : (⟨2, ![4096, 9216]⟩ : Shape).Idx) := by
  blk_ext [at0]

theorem place1 (t : Fin cfg0.N) (r : Fin 2048) (l : Fin 128) :
    (win0_1.blk t).view.emb (ix2 r l) = (ix2 ⟨2048 * (bOf t).val + r.val, by omega⟩ ⟨1024 + (128 * (pOf t).val + l.val), by omega⟩ : (⟨2, ![4096, 9216]⟩ : Shape).Idx) := by
  blk_ext [at1]

theorem place2 (t : Fin cfg0.N) (r : Fin 2048) (l : Fin 128) :
    (win0_2.blk t).view.emb (ix2 r l) = (ix2 ⟨2048 * (bOf t).val + r.val, by omega⟩ ⟨2048 + (128 * (pOf t).val + l.val), by omega⟩ : (⟨2, ![4096, 9216]⟩ : Shape).Idx) := by
  blk_ext [at2]

theorem place3 (t : Fin cfg0.N) (r : Fin 2048) (l : Fin 128) :
    (win0_3.blk t).view.emb (ix2 r l) = (ix2 ⟨2048 * (bOf t).val + r.val, by omega⟩ ⟨128 * (pOf t).val + l.val, by omega⟩ : (⟨2, ![4096, 1024]⟩ : Shape).Idx) := by
  blk_ext [at3]

theorem place4 (t : Fin cfg0.N) (i : Fin 36) (r : Fin 512) (l : Fin 256) :
    (win0_4.blk t).view.emb (ix5 0 0 i r l) = (ix5 (bOf t) (pOf t) i r l : (⟨5, ![2, 8, 36, 512, 256]⟩ : Shape).Idx) := by
  blk_ext [at4]

theorem place5 (t : Fin cfg0.N) (i : Fin 36) (r : Fin 512) (l : Fin 256) :
    (win0_5.blk t).view.emb (ix5 0 0 i r l) = (ix5 (bOf t) (pOf t) i r l : (⟨5, ![2, 8, 36, 512, 256]⟩ : Shape).Idx) := by
  blk_ext [at5]

theorem place6 (t : Fin cfg0.N) (r : Fin 2048) (l : Fin 128) :
    (win0_6.blk t).view.emb (ix2 r l) = (ix2 ⟨2048 * (bOf t).val + r.val, by omega⟩ ⟨128 * (pOf t).val + l.val, by omega⟩ : (⟨2, ![4096, 1024]⟩ : Shape).Idx) := by
  blk_ext [at6]

theorem place7 (t : Fin cfg0.N) (r : Fin 2048) (l : Fin 128) :
    (win0_7.blk t).view.emb (ix2 r l) = (ix2 ⟨2048 * (bOf t).val + r.val, by omega⟩ ⟨128 * (pOf t).val + l.val, by omega⟩ : (⟨2, ![4096, 1024]⟩ : Shape).Idx) := by
  blk_ext [at7]

theorem place8 (t : Fin cfg0.N) (r : Fin 2048) (l : Fin 128) :
    (win0_8.blk t).view.emb (ix2 r l) = (ix2 ⟨2048 * (bOf t).val + r.val, by omega⟩ ⟨128 * (pOf t).val + l.val, by omega⟩ : (⟨2, ![4096, 1024]⟩ : Shape).Idx) := by
  blk_ext [at8]

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem V_split (c : Dev nD) (b : Ref sig .tc) : V m c b = StableHlo.after hostOps0_9 (StableHlo.after before (fun b => m (c, b))) b := by
  have e : (List.flatten [hostOps0, hostOps0_1, hostOps0_2, hostOps0_3, hostOps0_4, hostOps0_5, hostOps0_6, hostOps0_7, hostOps0_8, hostOps0_9]
      : List (HloOp τ sig (Elt Ideal))) = before ++ hostOps0_9 := by
    unfold before
    simp only [List.flatten_cons, List.flatten_nil, List.append_nil, List.append_assoc]
  show StableHlo.after _ _ _ = _
  rw [e, after_two]

theorem V_a (c : Dev nD) : V m c main_v47 = tilesOf (blocksOf (Cert.ReferenceIdeal.Read.val_main_v27_0 (F := Ideal) (m ((c : Thread nD τ).loc main_arg0)))) :=
  (V_split m c main_v47).trans ((tiles_a _).trans (by rw [weights]))

theorem V_sg (c : Dev nD) : V m c main_v69 = tilesOf (blocksOf (Host.exp (Cert.ReferenceIdeal.Read.val_main_v19_0 (F := Ideal) (m ((c : Thread nD τ).loc main_arg0))))) :=
  (V_split m c main_v69).trans ((tiles_sg _).trans (by rw [log_beta]))

/-! A window's block, read off the array it is cut from. -/

theorem read0 (X : FVec Ideal ⟨2, ![4096, 9216]⟩ .bf16) (t : Fin cfg0.N) (r : Fin 2048) (l : Fin 128) :
    (win0_0.blk t).view.read (Elt Ideal) X (ix2 r l) = X (ix2 ⟨2048 * (bOf t).val + r.val, by omega⟩ ⟨128 * (pOf t).val + l.val, by omega⟩) :=
  congrArg X (place0 t r l)

theorem block0 (c : Dev nD) (t : Fin cfg0.N) : iblk m c 0 t = (win0_0.blk t).view.read (Elt Ideal) (m ((c : Thread nD τ).loc main_arg0)) :=
  congrArg (fun z => (win0_0.blk t).view.read (Elt Ideal) z) (V_main_arg0 m c)

theorem read1 (X : FVec Ideal ⟨2, ![4096, 9216]⟩ .bf16) (t : Fin cfg0.N) (r : Fin 2048) (l : Fin 128) :
    (win0_1.blk t).view.read (Elt Ideal) X (ix2 r l) = X (ix2 ⟨2048 * (bOf t).val + r.val, by omega⟩ ⟨1024 + (128 * (pOf t).val + l.val), by omega⟩) :=
  congrArg X (place1 t r l)

theorem block1 (c : Dev nD) (t : Fin cfg0.N) : iblk m c 1 t = (win0_1.blk t).view.read (Elt Ideal) (m ((c : Thread nD τ).loc main_arg0)) :=
  congrArg (fun z => (win0_1.blk t).view.read (Elt Ideal) z) (V_main_arg0 m c)

theorem read2 (X : FVec Ideal ⟨2, ![4096, 9216]⟩ .bf16) (t : Fin cfg0.N) (r : Fin 2048) (l : Fin 128) :
    (win0_2.blk t).view.read (Elt Ideal) X (ix2 r l) = X (ix2 ⟨2048 * (bOf t).val + r.val, by omega⟩ ⟨2048 + (128 * (pOf t).val + l.val), by omega⟩) :=
  congrArg X (place2 t r l)

theorem block2 (c : Dev nD) (t : Fin cfg0.N) : iblk m c 2 t = (win0_2.blk t).view.read (Elt Ideal) (m ((c : Thread nD τ).loc main_arg0)) :=
  congrArg (fun z => (win0_2.blk t).view.read (Elt Ideal) z) (V_main_arg0 m c)

theorem read3 (X : FVec Ideal ⟨2, ![4096, 1024]⟩ .bf16) (t : Fin cfg0.N) (r : Fin 2048) (l : Fin 128) :
    (win0_3.blk t).view.read (Elt Ideal) X (ix2 r l) = X (ix2 ⟨2048 * (bOf t).val + r.val, by omega⟩ ⟨128 * (pOf t).val + l.val, by omega⟩) :=
  congrArg X (place3 t r l)

theorem block3 (c : Dev nD) (t : Fin cfg0.N) : iblk m c 3 t = (win0_3.blk t).view.read (Elt Ideal) (m ((c : Thread nD τ).loc main_arg1)) :=
  congrArg (fun z => (win0_3.blk t).view.read (Elt Ideal) z) (V_main_arg1 m c)

theorem read4 (X : FVec Ideal ⟨5, ![2, 8, 36, 512, 256]⟩ .bf16) (t : Fin cfg0.N) (i : Fin 36) (r : Fin 512) (l : Fin 256) :
    (win0_4.blk t).view.read (Elt Ideal) X (ix5 0 0 i r l) = X (ix5 (bOf t) (pOf t) i r l) :=
  congrArg X (place4 t i r l)

theorem block4 (c : Dev nD) (t : Fin cfg0.N) :
    iblk m c 4 t = (win0_4.blk t).view.read (Elt Ideal) (tilesOf (blocksOf (Cert.ReferenceIdeal.Read.val_main_v27_0 (F := Ideal) (m ((c : Thread nD τ).loc main_arg0))))) :=
  congrArg (fun z => (win0_4.blk t).view.read (Elt Ideal) z) (V_a m c)

theorem read5 (X : FVec Ideal ⟨5, ![2, 8, 36, 512, 256]⟩ .bf16) (t : Fin cfg0.N) (i : Fin 36) (r : Fin 512) (l : Fin 256) :
    (win0_5.blk t).view.read (Elt Ideal) X (ix5 0 0 i r l) = X (ix5 (bOf t) (pOf t) i r l) :=
  congrArg X (place5 t i r l)

theorem block5 (c : Dev nD) (t : Fin cfg0.N) :
    iblk m c 5 t = (win0_5.blk t).view.read (Elt Ideal) (tilesOf (blocksOf (Host.exp (Cert.ReferenceIdeal.Read.val_main_v19_0 (F := Ideal) (m ((c : Thread nD τ).loc main_arg0))) : FVec Ideal S2x16x2048x2048 .f32))) :=
  congrArg (fun z => (win0_5.blk t).view.read (Elt Ideal) z) (V_sg m c)

/-- The operand blocks of a point hold the rows and tiles of its pair of heads. -/
theorem windows_at (c : Dev nD) (t : Fin cfg0.N) :
    Windows (iblk m c 0 t) (iblk m c 1 t) (iblk m c 2 t) (iblk m c 3 t) (iblk m c 4 t) (iblk m c 5 t)
      (headsOf (m ((c : Thread nD τ).loc main_arg0)) (m ((c : Thread nD τ).loc main_arg1)) (bOf t) (pOf t)) where
  q r l := by
    rw [block0, read0]
    exact (entry_of _ (by omega) (by omega)).symm
  k r l := by
    rw [block1, read1]
    exact (entry_of _ (by omega) (by omega)).symm
  v r l := by
    rw [block2, read2]
    exact (entry_of _ (by omega) (by omega)).symm
  d r l := by
    rw [block3, read3]
    exact (entry_of _ (by omega) (by omega)).symm
  a qi j h hj hq r l := by
    rw [block4, read4]
    refine (tilesOf_at _ (bOf t) (pOf t) ⟨qi, hq⟩ ⟨j, by omega⟩ hj h r l).trans ((blocksOf_at _ _ _ _ _ _ _).trans ?_)
    exact (headsOf_a _ _ (bOf t) (pOf t) ⟨r.val / 256, by omega⟩ ⟨256 * qi + r.val % 256, by omega⟩ ⟨256 * j + l.val, by omega⟩).symm
  sg qi j h hj hq r l := by
    rw [block5, read5]
    refine (tilesOf_at _ (bOf t) (pOf t) ⟨qi, hq⟩ ⟨j, by omega⟩ hj h r l).trans ((blocksOf_at _ _ _ _ _ _ _).trans ?_)
    rw [sg_ref]
    exact (headsOf_g _ _ (bOf t) (pOf t) ⟨r.val / 256, by omega⟩ ⟨256 * qi + r.val % 256, by omega⟩ ⟨256 * j + l.val, by omega⟩).symm

end Cert.Proof.Attn
-- ==== Proof.Final.lean ====
/-
  The three output arrays after the launch are the reference's three gradients.
-/
module

public import proofs.«01_k».proof.Defs
public import proofs.«01_k».proof.Proof.Gen.Pre_finite_v_do
public import proofs.«01_k».proof.Proof.Windows
public import Idealize.ShloMosaic.Lib.Pointwise

@[expose] public section

set_option maxRecDepth 20000

noncomputable section

namespace Cert.Proof.Attn

open Cert.KernelIdeal Cert.KernelIdeal.Gen
open Idealize.ShloMosaic Idealize.ShloMosaic.TcCoe
open Idealize.ShloMosaic.Pipeline (Dat)
open Cert.ReferenceIdeal.Read (val_main_v62 val_main_v59 val_main_v42)

variable (m : (ℓ : Loc nD τ sig) → Buf (Elt Ideal) ℓ)

theorem ix2_of {a b : ℕ} (y : (⟨2, ![a, b]⟩ : Shape).Idx) : ∃ (r : Fin a) (l : Fin b), y = ix2 r l :=
  ⟨y 0, y 1, by funext k; fin_cases k <;> rfl⟩

/-! What the body leaves at a point is the reference's gradient at the rows and columns of the point's pair of heads. -/

theorem point_dq (c : Dev nD) (hf : Finite (m ((c : Thread nD τ).loc main_arg0)) (m ((c : Thread nD τ).loc main_arg1))) (t : Fin cfg0.N) (r : Fin 2048) (l : Fin 128) :
    outDq (iblk m c 0 t) (iblk m c 1 t) (iblk m c 2 t) (iblk m c 3 t) (iblk m c 4 t) (iblk m c 5 t) (ix2 r l)
      = val_main_v62 (F := Ideal) (m ((c : Thread nD τ).loc main_arg0)) (m ((c : Thread nD τ).loc main_arg1)) (ix2 ⟨2048 * (bOf t).val + r.val, by omega⟩ ⟨128 * (pOf t).val + l.val, by omega⟩) :=
  (outDq_at (windows_at m c t) r l).trans (dq_heads hf (bOf t) (pOf t) r l).symm

theorem point_dk (c : Dev nD) (hf : Finite (m ((c : Thread nD τ).loc main_arg0)) (m ((c : Thread nD τ).loc main_arg1))) (t : Fin cfg0.N) (r : Fin 2048) (l : Fin 128) :
    outDk (iblk m c 0 t) (iblk m c 1 t) (iblk m c 2 t) (iblk m c 3 t) (iblk m c 4 t) (iblk m c 5 t) (ix2 r l)
      = val_main_v59 (F := Ideal) (m ((c : Thread nD τ).loc main_arg0)) (m ((c : Thread nD τ).loc main_arg1)) (ix2 ⟨2048 * (bOf t).val + r.val, by omega⟩ ⟨128 * (pOf t).val + l.val, by omega⟩) :=
  (outDk_at (windows_at m c t) r l).trans (dk_heads hf (bOf t) (pOf t) r l).symm

theorem point_dv (c : Dev nD) (t : Fin cfg0.N) (r : Fin 2048) (l : Fin 128) :
    outDv (iblk m c 0 t) (iblk m c 1 t) (iblk m c 2 t) (iblk m c 3 t) (iblk m c 4 t) (iblk m c 5 t) (ix2 r l)
      = val_main_v42 (F := Ideal) (m ((c : Thread nD τ).loc main_arg0)) (m ((c : Thread nD τ).loc main_arg1)) (ix2 ⟨2048 * (bOf t).val + r.val, by omega⟩ ⟨128 * (pOf t).val + l.val, by omega⟩) :=
  (outDv_at (windows_at m c t) (headsOf_above _ _ _ _) r l).trans (dv_heads (bOf t) (pOf t) r l).symm

theorem place_out6 (X : FVec Ideal ⟨2, ![4096, 1024]⟩ .bf16) (t : Fin cfg0.N) (r : Fin 2048) (l : Fin 128) :
    X ((win0_6.blk t).view.emb (ix2 r l)) = X (ix2 ⟨2048 * (bOf t).val + r.val, by omega⟩ ⟨128 * (pOf t).val + l.val, by omega⟩) := congrArg X (place6 t r l)

theorem final_dq (c : Dev nD) (hf : Finite (m ((c : Thread nD τ).loc main_arg0)) (m ((c : Thread nD τ).loc main_arg1))) :
    (dats m 0 c).arrAt 6 cfg0.N = val_main_v62 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  obtain ⟨r, l, rfl⟩ := ix2_of (a := 2048) (b := 128) y
  exact (point_dq m c hf t r l).trans (congrArg _ (place6 t r l)).symm

theorem final_dk (c : Dev nD) (hf : Finite (m ((c : Thread nD τ).loc main_arg0)) (m ((c : Thread nD τ).loc main_arg1))) :
    (dats m 0 c).arrAt 7 cfg0.N = val_main_v59 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  obtain ⟨r, l, rfl⟩ := ix2_of (a := 2048) (b := 128) y
  exact (point_dk m c hf t r l).trans (congrArg _ (place7 t r l)).symm

theorem final_dv (c : Dev nD) :
    (dats m 0 c).arrAt 8 cfg0.N = val_main_v42 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  obtain ⟨r, l, rfl⟩ := ix2_of (a := 2048) (b := 128) y
  exact (point_dv m c t r l).trans (congrArg _ (place8 t r l)).symm

/-- A number whose size is below infinity is real. -/
theorem real_of_abs {x : EReal} (h : max x (-x) < ⊤) : ∃ y : ℝ, x = y := by
  induction x with
  | bot => simp at h
  | top => simp at h
  | coe r => exact ⟨r, rfl⟩

/-- The precondition says the values and the cotangent are real. -/
theorem finite_of (x0 : FVec Ideal ⟨2, ![4096, 9216]⟩ .bf16) (x1 : FVec Ideal ⟨2, ![4096, 1024]⟩ .bf16)
    (h : Cert.Pre_finite_v_do.fn (F := Ideal) x0 x1 = fun _ => 1#1) : Finite x0 x1 := by
  have top : Ideal.ofBits .f32 0x7F800000#32 = ⊤ := by simp [Ideal.ofBits, Ideal.ieee]
  have both : ∀ (r : Fin 4096) (c : Fin 1024), max (x0 (ix2 r ⟨2048 + c.val, by omega⟩)) (-x0 (ix2 r ⟨2048 + c.val, by omega⟩)) < (⊤ : EReal)
      ∧ max (x1 (ix2 r c)) (-x1 (ix2 r c)) < (⊤ : EReal) := by
    intro r c
    have h := congrFun h (ix2 r c)
    simp only [Cert.Pre_finite_v_do.fn, andi] at h
    pointwise at h
    rw [IntOp.andi_eq_one, top] at h
    have lt : ∀ p : Prop, ∀ _ : Decidable p, BitVec.ofBool (decide p) = 1#1 → p := fun p _ e => by
      by_contra hp
      simp [hp] at e
    exact ⟨lt _ _ h.1, lt _ _ h.2⟩
  exact ⟨fun r c => real_of_abs (both r c).1, fun r c => real_of_abs (both r c).2⟩

end Cert.Proof.Attn

end
-- ==== Proof.Attend.Offsets.lean ====
/-
  Where the attention's forward body loads and stores, in closed form: for each offset the program computes from the query block `qi` and, in
  the pair loop, from the trip `i`, the block of 256 rows or the tile it names, checked at every value of the two counters.
-/
module

public import proofs.«01_k».proof.Proof.Gen.AttendIdeal.Loops
public import Idealize.ShloMosaic.Lib.Exec

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The position of tile `(qi, j)` among the tiles of the lower block triangle, listed row by row. -/
def tileIx (qi j : ℕ) : ℕ := qi * (qi + 1) / 2 + j

theorem trips_q : k0_t1_loop.trips = 8 := by decide +kernel

theorem trips_pair : ∀ q : Fin k0_t1_loop.trips, (k0_t2_loop q).trips = q.val / 2 := by decide +kernel

theorem trips_rest : ∀ q : Fin k0_t1_loop.trips, (k0_t3_loop q).trips = 0 := by decide +kernel

theorem cond1_iff : ∀ q : Fin k0_t1_loop.trips, k0_cond1 q = 1#1 ↔ q.val % 2 = 1 := by decide +kernel

theorem off1_eq : k0_off1 = ![256 * 0, 0] := by decide +kernel

theorem off2_eq : k0_off2 = ![256 * 0, 0] := by decide +kernel

theorem off3_eq : k0_off3 = ![256 * 0, 0] := by decide +kernel

theorem off4_eq : ∀ q : Fin k0_t1_loop.trips, k0_off4 q = ![256 * q.val, 0] := by decide +kernel

theorem off5_eq : ∀ q : Fin k0_t1_loop.trips, k0_off5 q = ![0, 0, tileIx q.val q.val, 0, 0] := by decide +kernel

theorem off6_eq : ∀ q : Fin k0_t1_loop.trips, k0_off6 q = ![256 * min (q.val + 1) 7, 0] := by decide +kernel

theorem off7_eq : ∀ q : Fin k0_t1_loop.trips, k0_off7 q = ![256 * min (q.val + 1) 7, 0] := by decide +kernel

theorem off8_eq : ∀ q : Fin k0_t1_loop.trips, k0_off8 q = ![256 * (min (q.val + 1) 7 - 1), 0] := by decide +kernel

theorem off9_one : ∀ (q : Fin k0_t1_loop.trips) (i : Fin (k0_t2_loop q).trips), k0_off9 q i 1#32 = ![256 * (q.val - (2 * i.val + 1) - 1), 0] := by decide +kernel

theorem off9_two : ∀ (q : Fin k0_t1_loop.trips) (i : Fin (k0_t2_loop q).trips), k0_off9 q i 2#32 = ![256 * (q.val - (2 * i.val + 2) - 1), 0] := by decide +kernel

theorem off10_one : ∀ (q : Fin k0_t1_loop.trips) (i : Fin (k0_t2_loop q).trips), k0_off10 q i 1#32 = ![0, 0, tileIx q.val (q.val - (2 * i.val + 1)), 0, 0] := by decide +kernel

theorem off10_two : ∀ (q : Fin k0_t1_loop.trips) (i : Fin (k0_t2_loop q).trips), k0_off10 q i 2#32 = ![0, 0, tileIx q.val (q.val - (2 * i.val + 2)), 0, 0] := by decide +kernel

theorem off11_one : ∀ (q : Fin k0_t1_loop.trips) (i : Fin (k0_t2_loop q).trips), k0_off11 q i 1#32 = ![256 * (q.val - (2 * i.val + 1) + 1), 0] := by decide +kernel

theorem off11_two : ∀ (q : Fin k0_t1_loop.trips) (i : Fin (k0_t2_loop q).trips), k0_off11 q i 2#32 = ![256 * (q.val - (2 * i.val + 2) + 1), 0] := by decide +kernel

theorem off15_eq : ∀ q : Fin k0_t1_loop.trips, k0_cond1 q = 1#1 → k0_off15 q = ![256 * (q.val - q.val - 1), 0] := by decide +kernel

theorem off16_eq : ∀ q : Fin k0_t1_loop.trips, k0_cond1 q = 1#1 → k0_off16 q = ![0, 0, tileIx q.val 0, 0, 0] := by decide +kernel

theorem off17_eq : ∀ q : Fin k0_t1_loop.trips, k0_cond1 q = 1#1 → k0_off17 q = ![256 * (q.val - q.val + 1), 0] := by decide +kernel

theorem off18_eq : ∀ q : Fin k0_t1_loop.trips, k0_off18 q = ![q.val % 2, 0, 0] := by decide +kernel

instance closedOff_off4 (q : Fin k0_t1_loop.trips) : ClosedOff (k0_off4 q) := ⟨_, off4_eq q⟩

instance closedOff_off5 (q : Fin k0_t1_loop.trips) : ClosedOff (k0_off5 q) := ⟨_, off5_eq q⟩

instance closedOff_off10_one (q : Fin k0_t1_loop.trips) (i : Fin (k0_t2_loop q).trips) : ClosedOff (k0_off10 q i 1#32) := ⟨_, off10_one q i⟩

instance closedOff_off10_two (q : Fin k0_t1_loop.trips) (i : Fin (k0_t2_loop q).trips) : ClosedOff (k0_off10 q i 2#32) := ⟨_, off10_two q i⟩

instance closedOff_off16 (q : Fin k0_t1_loop.trips) [h : Fact (k0_cond1 q = 1#1)] : ClosedOff (k0_off16 q) := ⟨_, off16_eq q h.out⟩

instance closedOff_off18 (q : Fin k0_t1_loop.trips) [h : Fact (k0_cond1 q = 1#1)] : ClosedOff (k0_off18 q) :=
  ⟨![1, 0, 0], by rw [off18_eq q, (cond1_iff q).mp h.out]⟩

end Cert.Proof.Attend

end
-- ==== Proof.Attend.Spec.lean ====
/-
  The walk of the attention's forward body, as functions of values: blocks of rows, slots of the two double buffers, and the steps the body
  takes on a tile (its scores, its weights, the weights applied to the values).
-/
module

public import proofs.«01_k».proof.Proof.Attend.Offsets
public import Idealize.ShloMosaic.Lib.VecWindow

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Blocks

variable {α : Type}

/-- Rows `256 j … 256 j + 255` (modulo 2048). -/
def rowsAt (x : S2048x128.Idx → α) (j : ℕ) : S256x128.Idx → α :=
  fun y => x (Fin.cons ⟨(256 * j + (y 0).val) % 2048, Nat.mod_lt _ (by decide)⟩ (Fin.cons (y 1) finZeroElim))

/-- The buffer with the rows of block `j` replaced. -/
def putRows (x : S2048x128.Idx → α) (j : ℕ) (w : S256x128.Idx → α) : S2048x128.Idx → α :=
  VecWindow.put x ![256 * j, 0] S256x128.size w

/-- Slot `b` (modulo 2) of the weights' double buffer. -/
def slotAt (x : S2x512x256.Idx → α) (b : ℕ) : S1x512x256.Idx → α :=
  fun y => x (Fin.cons ⟨(b + (y 0).val) % 2, Nat.mod_lt _ (by decide)⟩ (Fin.cons (y 1) (Fin.cons (y 2) finZeroElim)))

/-- That buffer with slot `b` replaced. -/
def putSlot (x : S2x512x256.Idx → α) (b : ℕ) (w : S1x512x256.Idx → α) : S2x512x256.Idx → α :=
  VecWindow.put x ![b, 0, 0] S1x512x256.size w

/-- Slot `b` (modulo 4) of the scores' buffer: two for the running block, two for the block to come. -/
def slotZ (x : S4x512x256.Idx → α) (b : ℕ) : S1x512x256.Idx → α :=
  fun y => x (Fin.cons ⟨(b + (y 0).val) % 4, Nat.mod_lt _ (by decide)⟩ (Fin.cons (y 1) (Fin.cons (y 2) finZeroElim)))

/-- That buffer with slot `b` replaced. -/
def putZ (x : S4x512x256.Idx → α) (b : ℕ) (w : S1x512x256.Idx → α) : S4x512x256.Idx → α :=
  VecWindow.put x ![b, 0, 0] S1x512x256.size w

theorem window_rows (x : S2048x128.Idx → α) (j : ℕ) (inb : ∀ a, (![256 * j, 0] : Fin 2 → ℕ) a + S256x128.size a ≤ S2048x128.size a) :
    VecWindow.window x ![256 * j, 0] S256x128.size inb = rowsAt x j := by
  funext y
  refine congrArg x (funext fun a => Fin.ext ?_)
  have h0 : 256 * j + 256 ≤ 2048 := inb 0
  have hy : (y 0).val < 256 := (y 0).isLt
  fin_cases a
  · show 256 * j + 1 * (y 0).val = (256 * j + (y 0).val) % 2048
    omega
  · show 0 + 1 * (y 1).val = (y 1).val
    omega

theorem window_slot (x : S2x512x256.Idx → α) (b : ℕ) (inb : ∀ a, (![b, 0, 0] : Fin 3 → ℕ) a + S1x512x256.size a ≤ S2x512x256.size a) :
    VecWindow.window x ![b, 0, 0] S1x512x256.size inb = slotAt x b := by
  funext y
  refine congrArg x (funext fun a => Fin.ext ?_)
  have h0 : b + 1 ≤ 2 := inb 0
  have hy : (y 0).val < 1 := (y 0).isLt
  fin_cases a
  · show b + 1 * (y 0).val = (b + (y 0).val) % 2
    omega
  · show 0 + 1 * (y 1).val = (y 1).val
    omega
  · show 0 + 1 * (y 2).val = (y 2).val
    omega

theorem window_z (x : S4x512x256.Idx → α) (b : ℕ) (inb : ∀ a, (![b, 0, 0] : Fin 3 → ℕ) a + S1x512x256.size a ≤ S4x512x256.size a) :
    VecWindow.window x ![b, 0, 0] S1x512x256.size inb = slotZ x b := by
  funext y
  refine congrArg x (funext fun a => Fin.ext ?_)
  have h0 : b + 1 ≤ 4 := inb 0
  have hy : (y 0).val < 1 := (y 0).isLt
  fin_cases a
  · show b + 1 * (y 0).val = (b + (y 0).val) % 4
    omega
  · show 0 + 1 * (y 1).val = (y 1).val
    omega
  · show 0 + 1 * (y 2).val = (y 2).val
    omega

theorem inb_slot (b : ℕ) (hb : b < 2) : ∀ a, (![b, 0, 0] : Fin 3 → ℕ) a + S1x512x256.size a ≤ S2x512x256.size a := by
  intro a; fin_cases a
  · show b + 1 ≤ 2; omega
  · exact Nat.le_refl 512
  · exact Nat.le_refl 256

theorem inb_z (b : ℕ) (hb : b < 4) : ∀ a, (![b, 0, 0] : Fin 3 → ℕ) a + S1x512x256.size a ≤ S4x512x256.size a := by
  intro a; fin_cases a
  · show b + 1 ≤ 4; omega
  · exact Nat.le_refl 512
  · exact Nat.le_refl 256

/-- The slot just replaced. -/
theorem slotAt_putSlot (x : S2x512x256.Idx → α) (b : ℕ) (hb : b < 2) (w : S1x512x256.Idx → α) : slotAt (putSlot x b w) b = w := by
  rw [← window_slot _ b (inb_slot b hb)]
  exact VecWindow.window_put_same x _ _ (inb_slot b hb) w

/-- The other slot. -/
theorem slotAt_putSlot_ne (x : S2x512x256.Idx → α) (b b' : ℕ) (hb : b < 2) (h : b ≠ b') (w : S1x512x256.Idx → α) :
    slotAt (putSlot x b' w) b = slotAt x b := by
  rw [← window_slot _ b (inb_slot b hb), ← window_slot _ b (inb_slot b hb)]
  exact VecWindow.window_put_of_disjoint x _ _ _ _ (inb_slot b hb) w 0 (by show b + 1 ≤ b' ∨ b' + 1 ≤ b; omega)

theorem slotZ_putZ (x : S4x512x256.Idx → α) (b : ℕ) (hb : b < 4) (w : S1x512x256.Idx → α) : slotZ (putZ x b w) b = w := by
  rw [← window_z _ b (inb_z b hb)]
  exact VecWindow.window_put_same x _ _ (inb_z b hb) w

theorem slotZ_putZ_ne (x : S4x512x256.Idx → α) (b b' : ℕ) (hb : b < 4) (h : b ≠ b') (w : S1x512x256.Idx → α) :
    slotZ (putZ x b' w) b = slotZ x b := by
  rw [← window_z _ b (inb_z b hb), ← window_z _ b (inb_z b hb)]
  exact VecWindow.window_put_of_disjoint x _ _ _ _ (inb_z b hb) w 0 (by show b + 1 ≤ b' ∨ b' + 1 ≤ b; omega)

end Blocks

/-! ## The state, and what is only read -/

variable {F : FTy → Type} [FloatOps F]

/-- What the body reads at one grid point: the diagonal tile's mask, the triangle that sums over later positions, the keys of the two heads
    of the pair side by side, and the values of each of them. -/
structure Ctx (F : FTy → Type) where
  tri : IVec S512x256 1
  u : FVec F S512x256 .bf16
  kb : Vec F S2048x128 .bf16
  v0 : Vec F S2048x128 .bf16
  v1 : Vec F S2048x128 .bf16

/-- The four buffers the walk works in: the scores, the weights, the accumulated output rows and the running sum. -/
structure St (F : FTy → Type) where
  z : Vec F S4x512x256 .f32
  a : Vec F S2x512x256 .bf16
  acc : Vec F S256x128 .f32
  cr : Vec F S512x1 .f32

/-- The scores of key block `j`, into slot `slot`. -/
def scores (C : Ctx F) (B : FVec F S512x128 .bf16) (j slot : ℕ) (s : St F) : St F :=
  { s with z := putZ s.z slot (k0_pay4 B (rowsAt C.kb j)) }

/-- The weights of the tile whose scores are in slot `slot`, and the running sum moved on over the tile. -/
def weights (C : Ctx F) (slot : ℕ) (s : St F) : St F :=
  { s with
    a := putSlot s.a slot (k0_pay11 (k0_pay8 (slotZ s.z slot)) (k0_pay9 C.u (slotZ s.z slot) s.cr))
    cr := k0_pay14 s.cr (k0_pay6 (slotZ s.z slot)) (k0_pay7 C.u (slotZ s.z slot)) }

/-- The weights in slot `slot` applied to the values of key block `j`. -/
def apply (C : Ctx F) (j slot : ℕ) (s : St F) : St F :=
  { s with acc := k0_pay81 (slotAt s.a slot) (rowsAt C.v0 j) (rowsAt C.v1 j) s.acc }

/-- One step: the tile `j` blocks left of the diagonal takes its weights, the scores of the tile after it are made, and the weights of the
    tile before it are applied. -/
def step (C : Ctx F) (B : FVec F S512x128 .bf16) (q j slot other : ℕ) (s : St F) : St F :=
  apply C (q - j + 1) other (weights C slot (scores C B (q - j - 1) other s))

/-- One trip of the pair loop. -/
def pair (C : Ctx F) (B : FVec F S512x128 .bf16) (q i : ℕ) (s : St F) : St F :=
  step C B q (2 * i + 2) 0 1 (step C B q (2 * i + 1) 1 0 s)

def pairs (C : Ctx F) (B : FVec F S512x128 .bf16) (q : ℕ) (s : St F) : ℕ → St F
  | 0 => s
  | n + 1 => pair C B q n (pairs C B q s n)

/-- The beginning of a block: the diagonal tile's weights, the running sum over it, no output yet, and the next block's first two tiles'
    scores (of the queries `B'`, block `m`). -/
def start (C : Ctx F) (B' : FVec F S512x128 .bf16) (m : ℕ) (s : St F) : St F where
  z := putZ (putZ (putZ s.z 1 (slotZ s.z 3)) 2 (k0_pay4 B' (rowsAt C.kb m))) 3 (k0_pay4 B' (rowsAt C.kb (m - 1)))
  a := putSlot s.a 0 (k0_pay74 C.tri C.u (slotZ s.z 2) k0_pay66)
  acc := k0_pay67
  cr := k0_pay77 k0_pay66 (k0_pay70 C.tri (slotZ s.z 2)) (k0_pay71 C.tri C.u (slotZ s.z 2))

/-- The step an odd block takes alone. -/
def odd (C : Ctx F) (B : FVec F S512x128 .bf16) (q : ℕ) (s : St F) : St F := if q % 2 = 1 then step C B q q 1 0 s else s

/-- One query block. -/
def qblock (C : Ctx F) (Bs : ℕ → FVec F S512x128 .bf16) (q : ℕ) (s : St F) : St F :=
  apply C 0 (q % 2) (odd C (Bs q) q (pairs C (Bs q) q (start C (Bs (min (q + 1) 7)) (min (q + 1) 7) s) (q / 2)))

/-- The state after `n` query blocks, and the output rows stored so far. -/
def blocks (C : Ctx F) (Bs : ℕ → FVec F S512x128 .bf16) (s : St F) : ℕ → St F
  | 0 => s
  | n + 1 => qblock C Bs n (blocks C Bs s n)

def rowsOut (C : Ctx F) (Bs : ℕ → FVec F S512x128 .bf16) (s : St F) (D : Vec F S2048x128 .f32) : ℕ → Vec F S2048x128 .f32
  | 0 => D
  | n + 1 => putRows (rowsOut C Bs s D n) n (blocks C Bs s (n + 1)).acc

/-- The queries of block `j`, the two heads' one above the other. -/
def qcat (q0 q1 : Vec F S2048x128 .bf16) (j : ℕ) : FVec F S512x128 .bf16 := k0_pay64 (rowsAt q0 j) (rowsAt q1 j)

end Cert.Proof.Attend

end
-- ==== Proof.Attend.Access.lean ====
/-
  What the walk's loads and stores read and leave, by what the buffers read; the walk's payloads at its several places in the program, which
  are the same functions; and the buffers the walk holds.
-/
module

public import proofs.«01_k».proof.Proof.Attend.Spec
public import Idealize.ShloMosaic.Lib.Tactic.Stretches
public import Idealize.ShloMosaic.Lib.Pipeline.Value

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Access

variable {κ : Kind} {sp : Space} {e : EltTy} {Val : EltTy → Type}

theorem readAt_rows (v : View sig κ sp S2048x128 e) (f : v.ty.Contents Val) {off : Fin 2 → ℕ} {j : ℕ} (h : off = ![256 * j, 0])
    (inb : ∀ a, off a + S256x128.size a ≤ S2048x128.size a) :
    v.readAt Val (Rect.unit (s := S2048x128) off S256x128.size inb).toLoadRect f = rowsAt (v.read Val f) j := by
  subst h; exact window_rows _ j inb

theorem readAt_slot (v : View sig κ sp S2x512x256 e) (f : v.ty.Contents Val) {off : Fin 3 → ℕ} {b : ℕ} (h : off = ![b, 0, 0])
    (inb : ∀ a, off a + S1x512x256.size a ≤ S2x512x256.size a) :
    v.readAt Val (Rect.unit (s := S2x512x256) off S1x512x256.size inb).toLoadRect f = slotAt (v.read Val f) b := by
  subst h; exact window_slot _ b inb

theorem readAt_z (v : View sig κ sp S4x512x256 e) (f : v.ty.Contents Val) {off : Fin 3 → ℕ} {b : ℕ} (h : off = ![b, 0, 0])
    (inb : ∀ a, off a + S1x512x256.size a ≤ S4x512x256.size a) :
    v.readAt Val (Rect.unit (s := S4x512x256) off S1x512x256.size inb).toLoadRect f = slotZ (v.read Val f) b := by
  subst h; exact window_z _ b inb

theorem read_writes_slot (v : View sig κ sp S2x512x256 e) (f : v.ty.Contents Val) {off : Fin 3 → ℕ} {b : ℕ} (h : off = ![b, 0, 0])
    (inb : ∀ a, off a + S1x512x256.size a ≤ S2x512x256.size a) (w : S1x512x256.Idx → Val e) (L : List (View.Piece Val S2x512x256 e)) :
    v.read Val (v.writes Val f (⟨Rect.unit (s := S2x512x256) off S1x512x256.size inb, w⟩ :: L)) = putSlot (v.read Val (v.writes Val f L)) b w :=
  View.read_writes_cons_put v f inb w L h

theorem read_writes_z (v : View sig κ sp S4x512x256 e) (f : v.ty.Contents Val) {off : Fin 3 → ℕ} {b : ℕ} (h : off = ![b, 0, 0])
    (inb : ∀ a, off a + S1x512x256.size a ≤ S4x512x256.size a) (w : S1x512x256.Idx → Val e) (L : List (View.Piece Val S4x512x256 e)) :
    v.read Val (v.writes Val f (⟨Rect.unit (s := S4x512x256) off S1x512x256.size inb, w⟩ :: L)) = putZ (v.read Val (v.writes Val f L)) b w :=
  View.read_writes_cons_put v f inb w L h

theorem read_writes_rows (v : View sig κ sp S2048x128 e) (f : v.ty.Contents Val) {off : Fin 2 → ℕ} {j : ℕ} (h : off = ![256 * j, 0])
    (inb : ∀ a, off a + S256x128.size a ≤ S2048x128.size a) (w : S256x128.Idx → Val e) (L : List (View.Piece Val S2048x128 e)) :
    v.read Val (v.writes Val f (⟨Rect.unit (s := S2048x128) off S256x128.size inb, w⟩ :: L)) = putRows (v.read Val (v.writes Val f L)) j w :=
  View.read_writes_cons_put v f inb w L h

theorem readAt_whole_cr (v : View sig κ sp S512x1 e) (f : v.ty.Contents Val) {off : Fin 2 → ℕ} (inb : ∀ a, off a + S512x1.size a ≤ S512x1.size a) :
    v.readAt Val (Rect.unit (s := S512x1) off S512x1.size inb).toLoadRect f = v.read Val f := View.readAt_full v f inb

theorem read_writes_whole_cr (v : View sig κ sp S512x1 e) (f : v.ty.Contents Val) {off : Fin 2 → ℕ} (inb : ∀ a, off a + S512x1.size a ≤ S512x1.size a)
    (w : S512x1.Idx → Val e) (L : List (View.Piece Val S512x1 e)) :
    v.read Val (v.writes Val f (⟨Rect.unit (s := S512x1) off S512x1.size inb, w⟩ :: L)) = w := View.read_writes_full v f inb w L

theorem readAt_whole_acc (v : View sig κ sp S256x128 e) (f : v.ty.Contents Val) {off : Fin 2 → ℕ} (inb : ∀ a, off a + S256x128.size a ≤ S256x128.size a) :
    v.readAt Val (Rect.unit (s := S256x128) off S256x128.size inb).toLoadRect f = v.read Val f := View.readAt_full v f inb

theorem read_writes_whole_acc (v : View sig κ sp S256x128 e) (f : v.ty.Contents Val) {off : Fin 2 → ℕ} (inb : ∀ a, off a + S256x128.size a ≤ S256x128.size a)
    (w : S256x128.Idx → Val e) (L : List (View.Piece Val S256x128 e)) :
    v.read Val (v.writes Val f (⟨Rect.unit (s := S256x128) off S256x128.size inb, w⟩ :: L)) = w := View.read_writes_full v f inb w L

theorem readAt_whole_rows (v : View sig κ sp S2048x128 e) (f : v.ty.Contents Val) {off : Fin 2 → ℕ} (inb : ∀ a, off a + S2048x128.size a ≤ S2048x128.size a) :
    v.readAt Val (Rect.unit (s := S2048x128) off S2048x128.size inb).toLoadRect f = v.read Val f := View.readAt_full v f inb

theorem read_writes_whole_rows (v : View sig κ sp S2048x128 e) (f : v.ty.Contents Val) {off : Fin 2 → ℕ} (inb : ∀ a, off a + S2048x128.size a ≤ S2048x128.size a)
    (w : S2048x128.Idx → Val e) (L : List (View.Piece Val S2048x128 e)) :
    v.read Val (v.writes Val f (⟨Rect.unit (s := S2048x128) off S2048x128.size inb, w⟩ :: L)) = w := View.read_writes_full v f inb w L

end Access

/-! ## The payloads of every place are those of one -/

theorem pay65_eq (z : Vec F S1x512x256 .f32) : k0_pay65 z = z := by
  unfold k0_pay65
  dsimp only
  rw [shapeCast_shapeCast]

theorem pay18_eq (B : FVec F S512x128 .bf16) (k : Vec F S256x128 .bf16) : k0_pay18 B k = k0_pay4 B k := rfl

theorem pay52_eq (B : FVec F S512x128 .bf16) (k : Vec F S256x128 .bf16) : k0_pay52 B k = k0_pay4 B k := rfl

theorem pay80_eq (B : FVec F S512x128 .bf16) (k : Vec F S256x128 .bf16) : k0_pay80 B k = k0_pay4 B k := rfl

theorem pay79_eq (x y k : Vec F S256x128 .bf16) : k0_pay79 x y k = k0_pay4 (k0_pay64 x y) k := rfl

theorem pay78_eq (x y : Vec F S256x128 .bf16) : k0_pay78 x y = k0_pay64 x y := rfl

theorem pay94_eq (x y k : Vec F S256x128 .bf16) : k0_pay94 x y k = k0_pay4 (k0_pay64 x y) k := rfl

theorem pay95_eq (x y k : Vec F S256x128 .bf16) : k0_pay1 (k0_pay95 x y k) = k0_pay4 (k0_pay64 x y) k := rfl

theorem pay24_eq (u : FVec F S512x256 .bf16) (z : Vec F S1x512x256 .f32) (cr : Vec F S512x1 .f32) :
    k0_pay24 u (k0_pay19 z) cr (k0_pay20 z) = k0_pay11 (k0_pay8 z) (k0_pay9 u z cr) := rfl

theorem pay58_eq (u : FVec F S512x256 .bf16) (z : Vec F S1x512x256 .f32) (cr : Vec F S512x1 .f32) :
    k0_pay58 (k0_pay57 u z cr) = k0_pay11 (k0_pay8 z) (k0_pay9 u z cr) := rfl

theorem pay27_eq (u : FVec F S512x256 .bf16) (z : Vec F S1x512x256 .f32) (cr : Vec F S512x1 .f32) :
    k0_pay27 u cr (k0_pay20 z) = k0_pay14 cr (k0_pay6 z) (k0_pay7 u z) := rfl

theorem pay61_eq (u : FVec F S512x256 .bf16) (z : Vec F S1x512x256 .f32) (cr : Vec F S512x1 .f32) :
    k0_pay61 cr (k0_pay54 z) (k0_pay55 u z) = k0_pay14 cr (k0_pay6 z) (k0_pay7 u z) := rfl

theorem pay17_eq (a : Vec F S1x512x256 .bf16) (v0 v1 : Vec F S256x128 .bf16) (acc : Vec F S256x128 .f32) :
    k0_pay17 (k0_pay15 a) (k0_pay16 v0 v1) acc = k0_pay81 a v0 v1 acc := rfl

theorem pay2_eq (a : Vec F S1x512x256 .bf16) (v0 v1 : Vec F S256x128 .bf16) (acc : Vec F S256x128 .f32) :
    k0_pay2 (k0_pay62 v0 v1) acc (k0_pay63 a) (constant S256x128 .f32 0x00000000#32) = k0_pay81 a v0 v1 acc := rfl

theorem pay3_eq (a : Vec F S1x512x256 .bf16) (v0 v1 : Vec F S256x128 .bf16) (acc : Vec F S256x128 .f32) :
    k0_pay3 a v0 v1 acc = k0_pay81 a v0 v1 acc := rfl

/-! ## The buffers of the walk -/

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S4x512x256 .f32) (harg13 : arg13.IsWhole) (arg14 : Memref sig .tc .vmem S2x512x256 .bf16) (harg14 : arg14.IsWhole) (arg15 : Memref sig .tc .vmem S256x128 .f32) (harg15 : arg15.IsWhole) (arg16 : Memref sig .tc .vmem S512x1 .f32) (harg16 : arg16.IsWhole)

/-- The buffers of the walk: the output's rows, the two tile outputs at anything, the queries, keys and values, and the state. -/
def bufs (C : Ctx F) (q0 q1 : Vec F S2048x128 .bf16) (D : Vec F S2048x128 .f32) (s : St F) : sProp 𝕄 :=
  iprop(owns (c : Thread nD τ) arg5 fullShare D ∗ (∃ d, owns (c : Thread nD τ) arg6 fullShare d) ∗ (∃ d, owns (c : Thread nD τ) arg7 fullShare d)
    ∗ owns (c : Thread nD τ) arg8 fullShare q0 ∗ owns (c : Thread nD τ) arg9 fullShare q1 ∗ owns (c : Thread nD τ) arg10 fullShare C.kb
    ∗ owns (c : Thread nD τ) arg11 fullShare C.v0 ∗ owns (c : Thread nD τ) arg12 fullShare C.v1
    ∗ owns (c : Thread nD τ) arg13 fullShare s.z ∗ owns (c : Thread nD τ) arg14 fullShare s.a
    ∗ owns (c : Thread nD τ) arg15 fullShare s.acc ∗ owns (c : Thread nD τ) arg16 fullShare s.cr)

/-- A program after another: the second runs from what the first leaves. -/
theorem wp_then {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h : P ⊢ wp frame (wpE (defs₀ (F := F)) Variants.none c none) Set.univ p Φ) (hk : ∀ v, Φ v ⊢ wp frame (wpE (defs₀ (F := F)) Variants.none c none) Set.univ (k v) Q) :
    P ⊢ wp frame (wpE (defs₀ (F := F)) Variants.none c none) Set.univ (p >>= k) Q := by
  rw [wp_bind]
  iintro H
  iapply (wp_wand_r frame (wpE (defs₀ (F := F)) Variants.none c none) Set.univ)
  isplitl [H]
  · iapply h; iexact H
  iintro %v H
  iapply (hk v); iexact H

end Cert.Proof.Attend

end
-- ==== Proof.Attend.Pair.lean ====
/-
  The stretches of one query block: each from the buffers at a state to the buffers at the state its steps make.
-/
module

public import proofs.«01_k».proof.Proof.Attend.Access
public import Idealize.ShloMosaic.Lib.Tactic.Stretches

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S4x512x256 .f32) (harg13 : arg13.IsWhole) (arg14 : Memref sig .tc .vmem S2x512x256 .bf16) (harg14 : arg14.IsWhole) (arg15 : Memref sig .tc .vmem S256x128 .f32) (harg15 : arg15.IsWhole) (arg16 : Memref sig .tc .vmem S512x1 .f32) (harg16 : arg16.IsWhole)

set_option maxHeartbeats 2000000 in
/-- One trip of the pair loop. -/
theorem trip_pair (C : Ctx F) (q0 q1 : Vec F S2048x128 .bf16) (D : Vec F S2048x128 .f32) (B B' : FVec F S512x128 .bf16) (q : Fin k0_t1_loop.trips) (w17 w91 w166 acc : BitVec 32)
    (k : Fin (k0_t2_loop q).trips) (s : St F) :
    bufs c arg5 arg6 arg7 arg8 arg9 arg10 arg11 arg12 arg13 arg14 arg15 arg16 C q0 q1 D s
      ⊢ wp frame (wpE (defs₀ (F := F)) Variants.none c none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.u q w17 w91 B w166 B' k acc)
          (fun _ => bufs c arg5 arg6 arg7 arg8 arg9 arg10 arg11 arg12 arg13 arg14 arg15 arg16 C q0 q1 D (pair C B q.val k.val s)) := by
  obtain ⟨tri, u, kb, v0, v1⟩ := C
  obtain ⟨z, a, ac, cr⟩ := s
  generalize hQ : (fun _ : BitVec 32 => bufs c arg5 arg6 arg7 arg8 arg9 arg10 arg11 arg12 arg13 arg14 arg15 arg16 (⟨tri, u, kb, v0, v1⟩ : Ctx F) q0 q1 D (pair ⟨tri, u, kb, v0, v1⟩ B q.val k.val ⟨z, a, ac, cr⟩)) = Q
  unfold bufs owns
  iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
    ⟨%f13, %h13, H13⟩, ⟨%f14, %h14, H14⟩, ⟨%f15, %h15, H15⟩, ⟨%f16, %h16, H16⟩⟩
  dsimp only at h5 h8 h9 h10 h11 h12 h13 h14 h15 h16
  subst h5 h8 h9 h10 h11 h12 h13 h14 h15 h16
  unfold k0_t2_body
  dsimp only
  sl_exec
  sl_step
  subst hQ
  dsimp only
  unfold bufs owns
  dsimp only
  isplitl [H5]; iexists _; isplitr; swap; iexact H5; rotate_left
  isplitl [H6]; iexists _, _; isplitr; swap; iexact H6; ipureintro; rfl
  isplitl [H7]; iexists _, _; isplitr; swap; iexact H7; ipureintro; rfl
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide),
      readAt_rows _ _ (off9_one q k), readAt_rows _ _ (off9_two q k), readAt_rows _ _ (off11_one q k), readAt_rows _ _ (off11_two q k),
      pay18_eq, pay24_eq, pay27_eq, pay17_eq, pair, step, scores, weights, apply]

/-- The pair loop. -/
theorem wp_pairs (C : Ctx F) (q0 q1 : Vec F S2048x128 .bf16) (D : Vec F S2048x128 .f32) (B B' : FVec F S512x128 .bf16) (q : Fin k0_t1_loop.trips) (w17 w91 w166 init : BitVec 32) (s : St F) :
    bufs c arg5 arg6 arg7 arg8 arg9 arg10 arg11 arg12 arg13 arg14 arg15 arg16 C q0 q1 D s
      ⊢ wp frame (wpE (defs₀ (F := F)) Variants.none c none) Set.univ
          (Scf.Loop.for (k0_t2_loop q) (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.u q w17 w91 B w166 B'))
          (fun _ => bufs c arg5 arg6 arg7 arg8 arg9 arg10 arg11 arg12 arg13 arg14 arg15 arg16 C q0 q1 D (pairs C B q.val s (q.val / 2))) := by
  have h := Scf.wp_for (Fr := frame) (wpE := wpE (defs₀ (F := F)) Variants.none c none) (Es := Set.univ) (k0_t2_loop q).lb (k0_t2_loop q).ub
    (k0_t2_loop q).st (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.u q w17 w91 B w166 B')
    (fun n _ => bufs c arg5 arg6 arg7 arg8 arg9 arg10 arg11 arg12 arg13 arg14 arg15 arg16 C q0 q1 D (pairs C B q.val s n))
    (fun k acc => trip_pair c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 D B B' q w17 w91 w166 acc k _)
    (Q := fun _ => bufs c arg5 arg6 arg7 arg8 arg9 arg10 arg11 arg12 arg13 arg14 arg15 arg16 C q0 q1 D (pairs C B q.val s (q.val / 2)))
  refine BIBase.Entails.trans ?_ h
  iintro H
  isplitl [H]; · iexact H
  iintro %acc H
  have e : Scf.trips (k0_t2_loop q).lb (k0_t2_loop q).ub (k0_t2_loop q).st = q.val / 2 := trips_pair q
  rw [e]
  iexact H

/-- The loop over what the pair loop leaves over, which is nothing. -/
theorem wp_rest (P : sProp 𝕄) (u : FVec F S512x256 .bf16) (B B' : FVec F S512x128 .bf16) (q : Fin k0_t1_loop.trips) (w17 w91 w166 w214 init : BitVec 32) :
    P ⊢ wp frame (wpE (defs₀ (F := F)) Variants.none c none) Set.univ
          (Scf.Loop.for (k0_t3_loop q) (k0_t3_ok q) init (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' w214)) (fun _ => P) := by
  have h := Scf.wp_for (Fr := frame) (wpE := wpE (defs₀ (F := F)) Variants.none c none) (Es := Set.univ) (k0_t3_loop q).lb (k0_t3_loop q).ub
    (k0_t3_loop q).st (k0_t3_ok q) init (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' w214)
    (fun _ _ => P)
    (fun k acc => absurd k.isLt (by have := trips_rest q; unfold Scf.Loop.trips at this; omega))
    (Q := fun _ => P)
  refine BIBase.Entails.trans ?_ h
  iintro H
  isplitl [H]; · iexact H
  iintro %acc H
  iexact H

set_option maxHeartbeats 2000000 in
/-- The block's queries, and the score slot carried over from the block before. -/
theorem wp_part11 (C : Ctx F) (q0 q1 : Vec F S2048x128 .bf16) (D : Vec F S2048x128 .f32) (q : Fin k0_t1_loop.trips) (w1 w2 : BitVec 32) (s : St F) :
    bufs c arg5 arg6 arg7 arg8 arg9 arg10 arg11 arg12 arg13 arg14 arg15 arg16 C q0 q1 D s
      ⊢ wp frame (wpE (defs₀ (F := F)) Variants.none c none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 w1 w2 q)
          (fun r => iprop(⌜r.2.2.2 = ⟨qcat q0 q1 q.val, k0_pay66⟩⌝ ∗ bufs c arg5 arg6 arg7 arg8 arg9 arg10 arg11 arg12 arg13 arg14 arg15 arg16 C q0 q1 D { s with z := putZ s.z 1 (slotZ s.z 3) })) := by
  obtain ⟨tri, u, kb, v0, v1⟩ := C
  obtain ⟨z, a, ac, cr⟩ := s
  rw [k0_part11_eq_skeleton]
  unfold k0_part11_skel bufs owns
  iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
    ⟨%f13, %h13, H13⟩, ⟨%f14, %h14, H14⟩, ⟨%f15, %h15, H15⟩, ⟨%f16, %h16, H16⟩⟩
  dsimp only at h5 h8 h9 h10 h11 h12 h13 h14 h15 h16
  subst h5 h8 h9 h10 h11 h12 h13 h14 h15 h16
  dsimp only
  sl_exec
  sl_step
  isplitr
  · ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ (off4_eq q), qcat]
  isplitl [H5]; iexists _; isplitr; swap; iexact H5; rotate_left
  isplitl [H6]; iexists _, _; isplitr; swap; iexact H6; ipureintro; rfl
  isplitl [H7]; iexists _, _; isplitr; swap; iexact H7; ipureintro; rfl
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), pay65_eq]

set_option maxHeartbeats 2000000 in
/-- The diagonal tile's weights; the accumulators restarted. -/
theorem wp_part12 (C : Ctx F) (q0 q1 : Vec F S2048x128 .bf16) (D : Vec F S2048x128 .f32) (w17 w91 : BitVec 32) (x : FVec F S512x1 .f32) (s : St F) :
    bufs c arg5 arg6 arg7 arg8 arg9 arg10 arg11 arg12 arg13 arg14 arg15 arg16 C q0 q1 D s
      ⊢ wp frame (wpE (defs₀ (F := F)) Variants.none c none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 C.tri C.u w17 w91 x)
          (fun r => iprop(⌜r.2.1 = x ∧ r.2.2.1 = k0_pay70 C.tri (slotZ s.z 2) ∧ r.2.2.2.1 = k0_pay71 C.tri C.u (slotZ s.z 2)⌝
            ∗ bufs c arg5 arg6 arg7 arg8 arg9 arg10 arg11 arg12 arg13 arg14 arg15 arg16 C q0 q1 D { s with a := putSlot s.a 0 (k0_pay74 C.tri C.u (slotZ s.z 2) x), acc := k0_pay67, cr := x })) := by
  obtain ⟨tri, u, kb, v0, v1⟩ := C
  obtain ⟨z, a, ac, cr⟩ := s
  rw [k0_part12_eq_skeleton]
  unfold k0_part12_skel bufs owns
  iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
    ⟨%f13, %h13, H13⟩, ⟨%f14, %h14, H14⟩, ⟨%f15, %h15, H15⟩, ⟨%f16, %h16, H16⟩⟩
  dsimp only at h5 h8 h9 h10 h11 h12 h13 h14 h15 h16
  subst h5 h8 h9 h10 h11 h12 h13 h14 h15 h16
  dsimp only
  sl_exec
  sl_step
  isplitr
  · ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), and_self]
  isplitl [H5]; iexists _; isplitr; swap; iexact H5; rotate_left
  isplitl [H6]; iexists _, _; isplitr; swap; iexact H6; ipureintro; rfl
  isplitl [H7]; iexists _, _; isplitr; swap; iexact H7; ipureintro; rfl
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide)]

set_option maxHeartbeats 2000000 in
/-- The diagonal tile's outputs stored; the running sum over it; the scores of the next block's diagonal tile. -/
theorem wp_part13 (C : Ctx F) (q0 q1 : Vec F S2048x128 .bf16) (D : Vec F S2048x128 .f32) (q : Fin k0_t1_loop.trips) (w17 w112 : BitVec 32) (x : Vec F S512x1 .f32)
    (x1 x2 x3 : FVec F S512x256 .f32) (x4 : FVec F S512x256 .bf16) (s : St F) :
    bufs c arg5 arg6 arg7 arg8 arg9 arg10 arg11 arg12 arg13 arg14 arg15 arg16 C q0 q1 D s
      ⊢ wp frame (wpE (defs₀ (F := F)) Variants.none c none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 q w17 w112 x x1 x2 x3 x4)
          (fun r => iprop(⌜r.2 = qcat q0 q1 (min (q.val + 1) 7)⌝
            ∗ bufs c arg5 arg6 arg7 arg8 arg9 arg10 arg11 arg12 arg13 arg14 arg15 arg16 C q0 q1 D { s with cr := k0_pay77 x x1 x2, z := putZ s.z 2 (k0_pay4 (qcat q0 q1 (min (q.val + 1) 7)) (rowsAt C.kb (min (q.val + 1) 7))) })) := by
  obtain ⟨tri, u, kb, v0, v1⟩ := C
  obtain ⟨z, a, ac, cr⟩ := s
  rw [k0_part13_eq_skeleton]
  unfold k0_part13_skel bufs owns
  iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
    ⟨%f13, %h13, H13⟩, ⟨%f14, %h14, H14⟩, ⟨%f15, %h15, H15⟩, ⟨%f16, %h16, H16⟩⟩
  dsimp only at h5 h8 h9 h10 h11 h12 h13 h14 h15 h16
  subst h5 h8 h9 h10 h11 h12 h13 h14 h15 h16
  dsimp only
  sl_exec
  sl_step
  isplitr
  · ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ (off6_eq q), pay78_eq, qcat]
  isplitl [H5]; iexists _; isplitr; swap; iexact H5; rotate_left
  isplitl [H6]; iexists _, _; isplitr; swap; iexact H6; ipureintro; rfl
  isplitl [H7]; iexists _, _; isplitr; swap; iexact H7; ipureintro; rfl
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ (off6_eq q), readAt_rows _ _ (off7_eq q), pay79_eq, qcat]

set_option maxHeartbeats 2000000 in
/-- The scores of the next block's second tile, and the pair loop. -/
theorem wp_part14 (C : Ctx F) (q0 q1 : Vec F S2048x128 .bf16) (D : Vec F S2048x128 .f32) (B B' : FVec F S512x128 .bf16) (q : Fin k0_t1_loop.trips) (w17 w91 w166 : BitVec 32) (s : St F) :
    bufs c arg5 arg6 arg7 arg8 arg9 arg10 arg11 arg12 arg13 arg14 arg15 arg16 C q0 q1 D s
      ⊢ wp frame (wpE (defs₀ (F := F)) Variants.none c none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 C.u q w17 w91 B w166 B')
          (fun _ => bufs c arg5 arg6 arg7 arg8 arg9 arg10 arg11 arg12 arg13 arg14 arg15 arg16 C q0 q1 D (pairs C B q.val { s with z := putZ s.z 3 (k0_pay4 B' (rowsAt C.kb (min (q.val + 1) 7 - 1))) } (q.val / 2))) := by
  obtain ⟨tri, u, kb, v0, v1⟩ := C
  obtain ⟨z, a, ac, cr⟩ := s
  rw [k0_part14_eq_skeleton]
  unfold k0_part14_skel
  generalize hQ : (fun _ : BitVec 32 => bufs c arg5 arg6 arg7 arg8 arg9 arg10 arg11 arg12 arg13 arg14 arg15 arg16 (⟨tri, u, kb, v0, v1⟩ : Ctx F) q0 q1 D (pairs ⟨tri, u, kb, v0, v1⟩ B q.val _ (q.val / 2))) = Q
  unfold bufs owns
  iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
    ⟨%f13, %h13, H13⟩, ⟨%f14, %h14, H14⟩, ⟨%f15, %h15, H15⟩, ⟨%f16, %h16, H16⟩⟩
  dsimp only at h5 h8 h9 h10 h11 h12 h13 h14 h15 h16
  subst h5 h8 h9 h10 h11 h12 h13 h14 h15 h16
  dsimp only
  sl_exec
  iapply (wp_then c (Φ := fun _ => bufs c arg5 arg6 arg7 arg8 arg9 arg10 arg11 arg12 arg13 arg14 arg15 arg16 (⟨tri, u, arg10.view.read (Elt F) f10, arg11.view.read (Elt F) f11, arg12.view.read (Elt F) f12⟩ : Ctx F) (arg8.view.read (Elt F) f8) (arg9.view.read (Elt F) f9) (arg5.view.read (Elt F) f5)
      (pairs (⟨tri, u, arg10.view.read (Elt F) f10, arg11.view.read (Elt F) f11, arg12.view.read (Elt F) f12⟩ : Ctx F) B q.val ⟨putZ (arg13.view.read (Elt F) f13) 3 (k0_pay4 B' (rowsAt (arg10.view.read (Elt F) f10) (min (q.val + 1) 7 - 1))), arg14.view.read (Elt F) f14, arg15.view.read (Elt F) f15, arg16.view.read (Elt F) f16⟩ (q.val / 2)))
    (wp_pairs c i arg2 harg2 arg3 harg3 arg4 harg4 arg5 harg5 arg6 harg6 arg7 harg7 arg8 harg8 arg9 harg9 arg10 harg10 arg11 harg11 arg12 harg12 arg13 harg13 arg14 harg14 arg15 harg15 arg16 harg16 (⟨tri, u, arg10.view.read (Elt F) f10, arg11.view.read (Elt F) f11, arg12.view.read (Elt F) f12⟩ : Ctx F) _ _ _ B B' q w17 w91 w166 0#32 ⟨putZ (arg13.view.read (Elt F) f13) 3 (k0_pay4 B' (rowsAt (arg10.view.read (Elt F) f10) (min (q.val + 1) 7 - 1))), arg14.view.read (Elt F) f14, arg15.view.read (Elt F) f15, arg16.view.read (Elt F) f16⟩) fun w => ?_)
  · refine wp_then c (wp_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 _ u B B' q w17 w91 w166 _ w) fun w' => ?_
    iintro HP
    sl_exec
    sl_step
    subst hQ
    iexact HP
  unfold bufs owns
  isplitl [H5]; iexists _; isplitr; swap; iexact H5; rotate_left
  isplitl [H6]; iexists _, _; isplitr; swap; iexact H6; ipureintro; rfl
  isplitl [H7]; iexists _, _; isplitr; swap; iexact H7; ipureintro; rfl
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  iexists _; isplitr; swap; iexact H16; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ (off8_eq q), pay80_eq]

end Cert.Proof.Attend

end
-- ==== Proof.Attend.Block.lean ====
/-
  One query block, and the loop over the query blocks.
-/
module

public import proofs.«01_k».proof.Proof.Attend.Pair
public import Idealize.ShloMosaic.Lib.Tactic.Stretches

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S4x512x256 .f32) (harg13 : arg13.IsWhole) (arg14 : Memref sig .tc .vmem S2x512x256 .bf16) (harg14 : arg14.IsWhole) (arg15 : Memref sig .tc .vmem S256x128 .f32) (harg15 : arg15.IsWhole) (arg16 : Memref sig .tc .vmem S512x1 .f32) (harg16 : arg16.IsWhole)

set_option maxHeartbeats 4000000 in
/-- One query block: the state after it, and its rows in the output. -/
theorem trip_qblock (C : Ctx F) (q0 q1 : Vec F S2048x128 .bf16) (D : Vec F S2048x128 .f32) (q : Fin k0_t1_loop.trips) (s : St F) :
    bufs c arg5 arg6 arg7 arg8 arg9 arg10 arg11 arg12 arg13 arg14 arg15 arg16 C q0 q1 D s
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.tri C.u q ())
          (fun _ => bufs c arg5 arg6 arg7 arg8 arg9 arg10 arg11 arg12 arg13 arg14 arg15 arg16 C q0 q1 (putRows D q.val (qblock C (qcat q0 q1) q.val s).acc) (qblock C (qcat q0 q1) q.val s)) := by
  unfold k0_t1_body
  dsimp only
  refine wp_then c (wp_part11 c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 D q 0#32 1#32 s) fun r => ?_
  obtain ⟨w17, w72, w91, r⟩ := r
  iintro ⟨%hr, H⟩
  dsimp only at hr
  subst hr
  dsimp only
  istop
  refine wp_then c (wp_part12 c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 D w17 w91 k0_pay66 _) fun r => ?_
  obtain ⟨w112, x, x1, x2, x3, x4⟩ := r
  iintro ⟨%hr, H⟩
  dsimp only at hr
  obtain ⟨hr0, hr1, hr2⟩ := hr
  subst hr0 hr1 hr2
  dsimp only
  istop
  refine wp_then c (wp_part13 c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 D q w17 w112 _ _ _ x3 x4 _) fun r => ?_
  obtain ⟨w166, x5⟩ := r
  iintro ⟨%hr, H⟩
  dsimp only at hr
  subst hr
  dsimp only
  istop
  refine wp_then c (wp_part14 c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 D _ _ q w17 w91 w166 _) fun w218 => ?_
  have hs : pairs C (qcat q0 q1 q.val) q.val (start C (qcat q0 q1 (min (q.val + 1) 7)) (min (q.val + 1) 7) s) (q.val / 2)
      = pairs C (qcat q0 q1 q.val) q.val (start C (qcat q0 q1 (min (q.val + 1) 7)) (min (q.val + 1) 7) s) (q.val / 2) := rfl
  generalize hS : pairs C (qcat q0 q1 q.val) q.val (start C (qcat q0 q1 (min (q.val + 1) 7)) (min (q.val + 1) 7) s) (q.val / 2) = S at hs
  have hq : qblock C (qcat q0 q1) q.val s = apply C 0 (q.val % 2) (odd C (qcat q0 q1 q.val) q.val S) := by rw [← hS]; rfl
  rw [hq]
  have hz : slotZ (putZ s.z 1 (slotZ s.z 3)) 2 = slotZ s.z 2 := slotZ_putZ_ne _ 2 1 (by decide) (by decide) _
  rw [hz]
  change bufs c arg5 arg6 arg7 arg8 arg9 arg10 arg11 arg12 arg13 arg14 arg15 arg16 C q0 q1 D (pairs C (qcat q0 q1 q.val) q.val (start C (qcat q0 q1 (min (q.val + 1) 7)) (min (q.val + 1) 7) s) (q.val / 2)) ⊢ _
  rw [hS]
  generalize qcat q0 q1 q.val = B
  clear hs hq hz hS s
  rename_i s0
  obtain ⟨tri, u, kb, v0, v1⟩ := C
  obtain ⟨z, a, ac, cr⟩ := S
  unfold odd
  rcases Nat.mod_two_eq_zero_or_one q.val with h | h
  · have hc : ¬ k0_cond1 q = 1#1 := fun e => by have := (cond1_iff q).mp e; omega
    rw [if_neg (by omega), h]
    generalize hQ : (fun _ : Unit => bufs c arg5 arg6 arg7 arg8 arg9 arg10 arg11 arg12 arg13 arg14 arg15 arg16 (⟨tri, u, kb, v0, v1⟩ : Ctx F) q0 q1 (putRows D q.val (apply ⟨tri, u, kb, v0, v1⟩ 0 0 ⟨z, a, ac, cr⟩).acc) (apply ⟨tri, u, kb, v0, v1⟩ 0 0 ⟨z, a, ac, cr⟩)) = Q
    unfold bufs owns
    iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
      ⟨%f13, %h13, H13⟩, ⟨%f14, %h14, H14⟩, ⟨%f15, %h15, H15⟩, ⟨%f16, %h16, H16⟩⟩
    dsimp only at h5 h8 h9 h10 h11 h12 h13 h14 h15 h16
    subst h5 h8 h9 h10 h11 h12 h13 h14 h15 h16
    sl_exec
    sl_step
    subst hQ
    dsimp only
    unfold bufs owns
    dsimp only
    isplitl [H5]; iexists _; isplitr; swap; iexact H5; rotate_left
    isplitl [H6]; iexists _, _; isplitr; swap; iexact H6; ipureintro; rfl
    isplitl [H7]; iexists _, _; isplitr; swap; iexact H7; ipureintro; rfl
    isplitl [H8]; iexists _; isplitr; swap; iexact H8; rotate_left
    isplitl [H9]; iexists _; isplitr; swap; iexact H9; rotate_left
    isplitl [H10]; iexists _; isplitr; swap; iexact H10; rotate_left
    isplitl [H11]; iexists _; isplitr; swap; iexact H11; rotate_left
    isplitl [H12]; iexists _; isplitr; swap; iexact H12; rotate_left
    isplitl [H13]; iexists _; isplitr; swap; iexact H13; rotate_left
    isplitl [H14]; iexists _; isplitr; swap; iexact H14; rotate_left
    isplitl [H15]; iexists _; isplitr; swap; iexact H15; rotate_left
    iexists _; isplitr; swap; iexact H16; rotate_left
    all_goals
      ipureintro
      sl_open_run
      simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_slot _ _ ((off18_eq q).trans (by rw [h])), readAt_rows _ _ (rfl : _ = ![256 * 0, 0]), read_writes_rows _ _ (off4_eq q), pay3_eq, apply]
  · have hc : k0_cond1 q = 1#1 := (cond1_iff q).mpr h
    haveI : Fact (k0_cond1 q = 1#1) := ⟨hc⟩
    rw [if_pos h, h]
    generalize hQ : (fun _ : Unit => bufs c arg5 arg6 arg7 arg8 arg9 arg10 arg11 arg12 arg13 arg14 arg15 arg16 (⟨tri, u, kb, v0, v1⟩ : Ctx F) q0 q1 (putRows D q.val (apply ⟨tri, u, kb, v0, v1⟩ 0 1 (step ⟨tri, u, kb, v0, v1⟩ B q.val q.val 1 0 ⟨z, a, ac, cr⟩)).acc) (apply ⟨tri, u, kb, v0, v1⟩ 0 1 (step ⟨tri, u, kb, v0, v1⟩ B q.val q.val 1 0 ⟨z, a, ac, cr⟩))) = Q
    unfold bufs owns
    iintro ⟨⟨%f5, %h5, H5⟩, ⟨%d6, %f6, -, H6⟩, ⟨%d7, %f7, -, H7⟩, ⟨%f8, %h8, H8⟩, ⟨%f9, %h9, H9⟩, ⟨%f10, %h10, H10⟩, ⟨%f11, %h11, H11⟩, ⟨%f12, %h12, H12⟩,
      ⟨%f13, %h13, H13⟩, ⟨%f14, %h14, H14⟩, ⟨%f15, %h15, H15⟩, ⟨%f16, %h16, H16⟩⟩
    dsimp only at h5 h8 h9 h10 h11 h12 h13 h14 h15 h16
    subst h5 h8 h9 h10 h11 h12 h13 h14 h15 h16
    sl_exec
    sl_step
    subst hQ
    dsimp only
    unfold bufs owns
    dsimp only
    isplitl [H5]; iexists _; isplitr; swap; iexact H5; rotate_left
    isplitl [H6]; iexists _, _; isplitr; swap; iexact H6; ipureintro; rfl
    isplitl [H7]; iexists _, _; isplitr; swap; iexact H7; ipureintro; rfl
    isplitl [H8]; iexists _; isplitr; swap; iexact H8; rotate_left
    isplitl [H9]; iexists _; isplitr; swap; iexact H9; rotate_left
    isplitl [H10]; iexists _; isplitr; swap; iexact H10; rotate_left
    isplitl [H11]; iexists _; isplitr; swap; iexact H11; rotate_left
    isplitl [H12]; iexists _; isplitr; swap; iexact H12; rotate_left
    isplitl [H13]; iexists _; isplitr; swap; iexact H13; rotate_left
    isplitl [H14]; iexists _; isplitr; swap; iexact H14; rotate_left
    isplitl [H15]; iexists _; isplitr; swap; iexact H15; rotate_left
    iexists _; isplitr; swap; iexact H16; rotate_left
    all_goals
      ipureintro
      sl_open_run
      simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_slot _ _ ((off18_eq q).trans (by rw [h])), readAt_rows _ _ (rfl : _ = ![256 * 0, 0]), readAt_rows _ _ (off15_eq q hc), readAt_rows _ _ (off17_eq q hc),
        read_writes_rows _ _ (off4_eq q), pay3_eq, pay2_eq, pay52_eq, pay58_eq, pay61_eq, apply, step, scores, weights]

/-- The loop over the eight query blocks. -/
theorem wp_qblocks (C : Ctx F) (q0 q1 : Vec F S2048x128 .bf16) (D : Vec F S2048x128 .f32) (s : St F) :
    bufs c arg5 arg6 arg7 arg8 arg9 arg10 arg11 arg12 arg13 arg14 arg15 arg16 C q0 q1 D s
      ⊢ wp frame (wpE (defs₀ (F := F)) Variants.none c none) Set.univ
          (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.tri C.u))
          (fun _ => bufs c arg5 arg6 arg7 arg8 arg9 arg10 arg11 arg12 arg13 arg14 arg15 arg16 C q0 q1 (rowsOut C (qcat q0 q1) s D 8) (blocks C (qcat q0 q1) s 8)) := by
  have h := Scf.wp_for (Fr := frame) (wpE := wpE (defs₀ (F := F)) Variants.none c none) (Es := Set.univ) k0_t1_loop.lb k0_t1_loop.ub
    k0_t1_loop.st k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 C.tri C.u)
    (fun n _ => bufs c arg5 arg6 arg7 arg8 arg9 arg10 arg11 arg12 arg13 arg14 arg15 arg16 C q0 q1 (rowsOut C (qcat q0 q1) s D n) (blocks C (qcat q0 q1) s n))
    (fun k _ => trip_qblock c i arg2 harg2 arg3 harg3 arg4 harg4 arg5 harg5 arg6 harg6 arg7 harg7 arg8 harg8 arg9 harg9 arg10 harg10 arg11 harg11 arg12 harg12 arg13 harg13 arg14 harg14 arg15 harg15 arg16 harg16 C q0 q1 _ k _)
    (Q := fun _ => bufs c arg5 arg6 arg7 arg8 arg9 arg10 arg11 arg12 arg13 arg14 arg15 arg16 C q0 q1 (rowsOut C (qcat q0 q1) s D 8) (blocks C (qcat q0 q1) s 8))
  refine BIBase.Entails.trans ?_ h
  iintro H
  isplitl [H]; · iexact H
  iintro %acc H
  have e : Scf.trips k0_t1_loop.lb k0_t1_loop.ub k0_t1_loop.st = 8 := trips_q
  rw [e]
  iexact H

end Cert.Proof.Attend

end
-- ==== Proof.Attend.Closed.lean ====
/-
  The walk in closed form: the scores, weights, running sum and output rows of each tile of a query block, by recursion over the tiles from the
  diagonal leftward, and the double buffers left out.
-/
module

public import proofs.«01_k».proof.Proof.Attend.Spec

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The scores of key block `j`. -/
def zRow (C : Ctx F) (B : FVec F S512x128 .bf16) (j : ℕ) : Vec F S1x512x256 .f32 := k0_pay4 B (rowsAt C.kb j)

/-- The running sum after `j` tiles left of the diagonal of query block `q`. -/
def crRow (C : Ctx F) (B : FVec F S512x128 .bf16) (q : ℕ) : ℕ → Vec F S512x1 .f32
  | 0 => k0_pay77 k0_pay66 (k0_pay70 C.tri (zRow C B q)) (k0_pay71 C.tri C.u (zRow C B q))
  | j + 1 => k0_pay14 (crRow C B q j) (k0_pay6 (zRow C B (q - (j + 1)))) (k0_pay7 C.u (zRow C B (q - (j + 1))))

/-- The weights of the tile `j` left of the diagonal. -/
def aRow (C : Ctx F) (B : FVec F S512x128 .bf16) (q : ℕ) : ℕ → Vec F S1x512x256 .bf16
  | 0 => k0_pay74 C.tri C.u (zRow C B q) k0_pay66
  | j + 1 => k0_pay11 (k0_pay8 (zRow C B (q - (j + 1)))) (k0_pay9 C.u (zRow C B (q - (j + 1))) (crRow C B q j))

/-- The output rows after the weights of `j` tiles are applied. -/
def accRow (C : Ctx F) (B : FVec F S512x128 .bf16) (q : ℕ) : ℕ → Vec F S256x128 .f32
  | 0 => k0_pay67
  | j + 1 => k0_pay81 (aRow C B q j) (rowsAt C.v0 (q - j)) (rowsAt C.v1 (q - j)) (accRow C B q j)

/-- The whole output: each block of 256 rows after all its tiles. -/
def outRows (C : Ctx F) (Bs : ℕ → FVec F S512x128 .bf16) : Vec F S2048x128 .f32 :=
  fun y => accRow C (Bs ((y 0).val / 256)) ((y 0).val / 256) ((y 0).val / 256 + 1)
    (Fin.cons ⟨(y 0).val % 256, Nat.mod_lt _ (by decide)⟩ (Fin.cons (y 1) finZeroElim))

/-- What the buffers hold after `j` steps of block `q`: the tile `j`'s weights in slot `cur`, the scores of the next one in the other slot,
    and the two slots of the block to come at `z2` and `z3`. -/
structure Held (C : Ctx F) (B : FVec F S512x128 .bf16) (q j cur other : ℕ) (z2 z3 : Vec F S1x512x256 .f32) (s : St F) : Prop where
  next : slotZ s.z other = zRow C B (q - (j + 1))
  two : slotZ s.z 2 = z2
  three : slotZ s.z 3 = z3
  wts : slotAt s.a cur = aRow C B q j
  acc : s.acc = accRow C B q j
  cr : s.cr = crRow C B q j

theorem held_step {C : Ctx F} {B : FVec F S512x128 .bf16} {q j cur other : ℕ} {z2 z3 : Vec F S1x512x256 .f32} {s : St F} (hc : cur < 2) (ho : other < 2)
    (hne : cur ≠ other) (hj : j + 1 ≤ q) (h : Held C B q j cur other z2 z3 s) : Held C B q (j + 1) other cur z2 z3 (step C B q (j + 1) other cur s) := by
  obtain ⟨h1, h2, h3, h4, h5, h6⟩ := h
  have hz : slotZ (putZ s.z cur (k0_pay4 B (rowsAt C.kb (q - (j + 1) - 1)))) other = zRow C B (q - (j + 1)) := by
    rw [slotZ_putZ_ne _ _ _ (by omega) (Ne.symm hne), h1]
  constructor
  · show slotZ (putZ s.z cur _) cur = _
    rw [slotZ_putZ _ _ (by omega), show q - (j + 1 + 1) = q - (j + 1) - 1 from by omega]
    rfl
  · show slotZ (putZ s.z cur _) 2 = _
    rw [slotZ_putZ_ne _ _ _ (by decide) (by omega), h2]
  · show slotZ (putZ s.z cur _) 3 = _
    rw [slotZ_putZ_ne _ _ _ (by decide) (by omega), h3]
  · show slotAt (putSlot s.a other (k0_pay11 (k0_pay8 (slotZ (putZ s.z cur _) other)) (k0_pay9 C.u (slotZ (putZ s.z cur _) other) s.cr))) other = _
    rw [slotAt_putSlot _ _ ho, hz, h6]
    rfl
  · show k0_pay81 (slotAt (putSlot s.a other _) cur) (rowsAt C.v0 (q - (j + 1) + 1)) (rowsAt C.v1 (q - (j + 1) + 1)) s.acc = _
    rw [slotAt_putSlot_ne _ _ _ hc hne, h4, h5, show q - (j + 1) + 1 = q - j from by omega]
    rfl
  · show k0_pay14 s.cr (k0_pay6 (slotZ (putZ s.z cur _) other)) (k0_pay7 C.u (slotZ (putZ s.z cur _) other)) = _
    rw [hz, h6]
    rfl

theorem held_pairs {C : Ctx F} {B : FVec F S512x128 .bf16} {q : ℕ} {z2 z3 : Vec F S1x512x256 .f32} {s : St F} (h : Held C B q 0 0 1 z2 z3 s) :
    ∀ n, 2 * n ≤ q → Held C B q (2 * n) 0 1 z2 z3 (pairs C B q s n)
  | 0, _ => h
  | n + 1, hn => held_step (j := 2 * n + 1) (by decide) (by decide) (by decide) (by omega)
      (held_step (j := 2 * n) (by decide) (by decide) (by decide) (by omega) (held_pairs h n (by omega)))

/-- What is carried from block to block: the scores of the next block's first two tiles. -/
def Carry (C : Ctx F) (Bs : ℕ → FVec F S512x128 .bf16) (m : ℕ) (s : St F) : Prop :=
  slotZ s.z 2 = zRow C (Bs m) m ∧ slotZ s.z 3 = zRow C (Bs m) (m - 1)

theorem held_start {C : Ctx F} {Bs : ℕ → FVec F S512x128 .bf16} {q m : ℕ} {s : St F} (h : Carry C Bs q s) :
    Held C (Bs q) q 0 0 1 (zRow C (Bs m) m) (zRow C (Bs m) (m - 1)) (start C (Bs m) m s) := by
  obtain ⟨h2, h3⟩ := h
  constructor
  · show slotZ (putZ (putZ (putZ s.z 1 (slotZ s.z 3)) 2 _) 3 _) 1 = _
    rw [slotZ_putZ_ne _ _ _ (by decide) (by decide), slotZ_putZ_ne _ _ _ (by decide) (by decide), slotZ_putZ _ _ (by decide), h3]
  · show slotZ (putZ (putZ (putZ s.z 1 (slotZ s.z 3)) 2 _) 3 _) 2 = _
    rw [slotZ_putZ_ne _ _ _ (by decide) (by decide), slotZ_putZ _ _ (by decide)]
    rfl
  · show slotZ (putZ (putZ (putZ s.z 1 (slotZ s.z 3)) 2 _) 3 _) 3 = _
    rw [slotZ_putZ _ _ (by decide)]
    rfl
  · show slotAt (putSlot s.a 0 (k0_pay74 C.tri C.u (slotZ s.z 2) k0_pay66)) 0 = _
    rw [slotAt_putSlot _ _ (by decide), h2]
    rfl
  · rfl
  · show k0_pay77 k0_pay66 (k0_pay70 C.tri (slotZ s.z 2)) (k0_pay71 C.tri C.u (slotZ s.z 2)) = _
    rw [h2]
    rfl

theorem qblock_spec {C : Ctx F} {Bs : ℕ → FVec F S512x128 .bf16} {q : ℕ} {s : St F} (h : Carry C Bs q s) :
    (qblock C Bs q s).acc = accRow C (Bs q) q (q + 1) ∧ Carry C Bs (min (q + 1) 7) (qblock C Bs q s) := by
  have hp := held_pairs (held_start (m := min (q + 1) 7) h) (q / 2) (by omega)
  unfold qblock odd
  rcases Nat.mod_two_eq_zero_or_one q with e | e
  · rw [if_neg (by omega), e]
    rw [show 2 * (q / 2) = q from by omega] at hp
    obtain ⟨h1, h2, h3, h4, h5, h6⟩ := hp
    refine ⟨?_, h2, h3⟩
    show k0_pay81 (slotAt _ 0) (rowsAt C.v0 0) (rowsAt C.v1 0) _ = k0_pay81 _ (rowsAt C.v0 (q - q)) (rowsAt C.v1 (q - q)) _
    rw [h4, h5, Nat.sub_self]
  · rw [if_pos e, e]
    have hs := held_step (by decide) (by decide) (by decide) (by omega) hp
    rw [show 2 * (q / 2) + 1 = q from by omega] at hs
    obtain ⟨h1, h2, h3, h4, h5, h6⟩ := hs
    refine ⟨?_, h2, h3⟩
    show k0_pay81 (slotAt _ 1) (rowsAt C.v0 0) (rowsAt C.v1 0) _ = k0_pay81 _ (rowsAt C.v0 (q - q)) (rowsAt C.v1 (q - q)) _
    rw [h4, h5, Nat.sub_self]

theorem carry_blocks {C : Ctx F} {Bs : ℕ → FVec F S512x128 .bf16} {s : St F} (h : Carry C Bs 0 s) :
    ∀ n, n ≤ 8 → Carry C Bs (min n 7) (blocks C Bs s n)
  | 0, _ => h
  | n + 1, hn => by
    have := carry_blocks h n (by omega)
    rw [show min n 7 = n from by omega] at this
    exact (qblock_spec this).2

theorem putRows_apply {α : Type} (x : S2048x128.Idx → α) (n : ℕ) (hn : n < 8) (w : S256x128.Idx → α) (y : S2048x128.Idx) :
    putRows x n w y = if (y 0).val / 256 = n then w (Fin.cons ⟨(y 0).val % 256, Nat.mod_lt _ (by decide)⟩ (Fin.cons (y 1) finZeroElim)) else x y := by
  have hy : (y 0).val < 2048 := (y 0).isLt
  by_cases h : (y 0).val / 256 = n
  · rw [if_pos h]
    have inb : ∀ a, (![256 * n, 0] : Fin 2 → ℕ) a + S256x128.size a ≤ S2048x128.size a := by
      intro a; fin_cases a
      · show 256 * n + 256 ≤ 2048; omega
      · exact Nat.le_refl 128
    have e := congrFun (VecWindow.window_put_same x ![256 * n, 0] S256x128.size inb w) (Fin.cons ⟨(y 0).val % 256, Nat.mod_lt _ (by decide)⟩ (Fin.cons (y 1) finZeroElim))
    rw [← e]
    refine congrArg (VecWindow.put x ![256 * n, 0] S256x128.size w) (funext fun a => Fin.ext ?_)
    fin_cases a
    · show (y 0).val = 256 * n + 1 * ((y 0).val % 256)
      omega
    · show (y 1).val = 0 + 1 * (y 1).val
      omega
  · rw [if_neg h]
    refine dif_neg fun hm => h ?_
    have h0 : 256 * n ≤ (y 0).val ∧ (y 0).val < 256 * n + 256 := hm 0
    omega

theorem rowsOut_at {C : Ctx F} {Bs : ℕ → FVec F S512x128 .bf16} {s : St F} {D : Vec F S2048x128 .f32} (h : Carry C Bs 0 s) :
    ∀ n, n ≤ 8 → ∀ y : S2048x128.Idx, (y 0).val < 256 * n → rowsOut C Bs s D n y = outRows C Bs y
  | 0, _, y, hy => absurd hy (Nat.not_lt_zero _)
  | n + 1, hn, y, hy => by
    have hb := carry_blocks h n (by omega)
    rw [show min n 7 = n from by omega] at hb
    show putRows (rowsOut C Bs s D n) n (qblock C Bs n (blocks C Bs s n)).acc y = _
    rw [(qblock_spec hb).1, putRows_apply _ _ (by omega)]
    by_cases e : (y 0).val / 256 = n
    · rw [if_pos e]
      unfold outRows
      rw [e]
    · rw [if_neg e]
      exact rowsOut_at h n (by omega) y (by omega)

theorem rowsOut_eq {C : Ctx F} {Bs : ℕ → FVec F S512x128 .bf16} {s : St F} {D : Vec F S2048x128 .f32} (h : Carry C Bs 0 s) :
    rowsOut C Bs s D 8 = outRows C Bs := funext fun y => rowsOut_at h 8 le_rfl y (y 0).isLt

end Cert.Proof.Attend

end
-- ==== Proof.Attend.Body.lean ====
/-
  The whole body: the scratch filled from the operands, and the loop over the query blocks. What it leaves in the output is a function of the
  operands alone.
-/
module

public import proofs.«01_k».proof.Proof.Attend.Block
public import proofs.«01_k».proof.Proof.Attend.Closed
public import Idealize.ShloMosaic.Lib.Tactic.Stretches

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S4x512x256 .f32) (harg13 : arg13.IsWhole) (arg14 : Memref sig .tc .vmem S2x512x256 .bf16) (harg14 : arg14.IsWhole) (arg15 : Memref sig .tc .vmem S256x128 .f32) (harg15 : arg15.IsWhole) (arg16 : Memref sig .tc .vmem S512x1 .f32) (harg16 : arg16.IsWhole)

/-- What the body reads at a grid point, of the operands. -/
def ctxOf (x3 x4 : Vec F S2048x128 .bf16) : Ctx F :=
  ⟨k0_pay84, k0_pay85, k0_pay89 x3, k0_pay91 (k0_pay90 x4), k0_pay92 k0_pay83 x4⟩

/-- The queries of each block, of the operand. -/
def blksOf (x2 : Vec F S2048x128 .bf16) : ℕ → FVec F S512x128 .bf16 := qcat (k0_pay87 x2) (k0_pay88 x2)

/-- The output. -/
def outO (x2 x3 x4 : Vec F S2048x128 .bf16) : Vec F S2048x128 .f32 := outRows (ctxOf x3 x4) (blksOf x2)

/-- The operands and the scratch that is filled from them. -/
def fillAt (x2 x3 x4 y8 y9 y10 y11 y12 : Vec F S2048x128 .bf16) (z : Vec F S4x512x256 .f32) : sProp 𝕄 :=
  iprop(owns (c : Thread nD τ) arg2 fullShare x2 ∗ owns (c : Thread nD τ) arg3 fullShare x3 ∗ owns (c : Thread nD τ) arg4 fullShare x4
    ∗ owns (c : Thread nD τ) arg8 fullShare y8 ∗ owns (c : Thread nD τ) arg9 fullShare y9 ∗ owns (c : Thread nD τ) arg10 fullShare y10
    ∗ owns (c : Thread nD τ) arg11 fullShare y11 ∗ owns (c : Thread nD τ) arg12 fullShare y12 ∗ owns (c : Thread nD τ) arg13 fullShare z)

set_option maxHeartbeats 2000000 in
/-- The scratch of the queries and keys. -/
theorem wp_part15 (x2 x3 x4 y8 y9 y10 y11 y12 : Vec F S2048x128 .bf16) (z : Vec F S4x512x256 .f32) :
    fillAt c arg2 arg3 arg4 arg8 arg9 arg10 arg11 arg12 arg13 x2 x3 x4 y8 y9 y10 y11 y12 z
      ⊢ wp frame (wpE (defs₀ (F := F)) Variants.none c none) Set.univ (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = ⟨k0_pay83, k0_pay84, k0_pay85, x4, k0_pay90 x4, y11⟩⌝
            ∗ fillAt c arg2 arg3 arg4 arg8 arg9 arg10 arg11 arg12 arg13 x2 x3 x4 (k0_pay87 x2) (k0_pay88 x2) (k0_pay89 x3) y11 y12 z)) := by
  rw [k0_part15_eq_skeleton]
  unfold k0_part15_skel fillAt owns
  iintro ⟨⟨%f2, %h2, H2⟩, ⟨%f3, %h3, H3⟩, ⟨%f4, %h4, H4⟩, ⟨%f8, %h8, H8⟩, ⟨%f9, %h9, H9⟩, ⟨%f10, %h10, H10⟩, ⟨%f11, %h11, H11⟩, ⟨%f12, %h12, H12⟩, ⟨%f13, %h13, H13⟩⟩
  dsimp only at h2 h3 h4 h8 h9 h10 h11 h12 h13
  subst h2 h3 h4 h8 h9 h10 h11 h12 h13
  dsimp only
  sl_exec
  sl_step
  isplitr
  · ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide)]
  isplitl [H2]; iexists _; isplitr; swap; iexact H2; rotate_left
  isplitl [H3]; iexists _; isplitr; swap; iexact H3; rotate_left
  isplitl [H4]; iexists _; isplitr; swap; iexact H4; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  iexists _; isplitr; swap; iexact H13; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide)]

set_option maxHeartbeats 2000000 in
/-- The scratch of the values; the scores of the first block's diagonal tile. -/
theorem wp_part16 (x2 x3 x4 y8 y9 y10 y11 y12 : Vec F S2048x128 .bf16) (z : Vec F S4x512x256 .f32) (x5 : IVec S2048x128 1) (x6 x7 x8 : Vec F S2048x128 .bf16) :
    fillAt c arg2 arg3 arg4 arg8 arg9 arg10 arg11 arg12 arg13 x2 x3 x4 y8 y9 y10 y11 y12 z
      ⊢ wp frame (wpE (defs₀ (F := F)) Variants.none c none) Set.univ (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x5 x6 x7 x8)
          (fun r => iprop(⌜r = k0_pay95 (rowsAt y8 0) (rowsAt y9 0) (rowsAt y10 0)⌝
            ∗ fillAt c arg2 arg3 arg4 arg8 arg9 arg10 arg11 arg12 arg13 x2 x3 x4 y8 y9 y10 (k0_pay91 x7) (k0_pay92 x5 x6) (putZ z 2 (k0_pay4 (qcat y8 y9 0) (rowsAt y10 0))))) := by
  rw [k0_part16_eq_skeleton]
  unfold k0_part16_skel fillAt owns
  iintro ⟨⟨%f2, %h2, H2⟩, ⟨%f3, %h3, H3⟩, ⟨%f4, %h4, H4⟩, ⟨%f8, %h8, H8⟩, ⟨%f9, %h9, H9⟩, ⟨%f10, %h10, H10⟩, ⟨%f11, %h11, H11⟩, ⟨%f12, %h12, H12⟩, ⟨%f13, %h13, H13⟩⟩
  dsimp only at h2 h3 h4 h8 h9 h10 h11 h12 h13
  subst h2 h3 h4 h8 h9 h10 h11 h12 h13
  dsimp only
  sl_exec
  sl_step
  isplitr
  · ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ off1_eq, readAt_rows _ _ off2_eq, readAt_rows _ _ off3_eq]
  isplitl [H2]; iexists _; isplitr; swap; iexact H2; rotate_left
  isplitl [H3]; iexists _; isplitr; swap; iexact H3; rotate_left
  isplitl [H4]; iexists _; isplitr; swap; iexact H4; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  isplitl [H12]; iexists _; isplitr; swap; iexact H12; rotate_left
  iexists _; isplitr; swap; iexact H13; rotate_left
  all_goals
    ipureintro
    sl_open_run
    simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), readAt_rows _ _ off1_eq, readAt_rows _ _ off2_eq, readAt_rows _ _ off3_eq, pay94_eq, qcat]

/-- The operands, at their values. -/
def operandsAt (x2 x3 x4 : Vec F S2048x128 .bf16) : sProp 𝕄 :=
  iprop(owns (c : Thread nD τ) arg2 fullShare x2 ∗ owns (c : Thread nD τ) arg3 fullShare x3 ∗ owns (c : Thread nD τ) arg4 fullShare x4)

/-- The two tile outputs, at anything. -/
def tilesAny : sProp 𝕄 := iprop((∃ d, owns (c : Thread nD τ) arg6 fullShare d) ∗ (∃ d, owns (c : Thread nD τ) arg7 fullShare d))

/-- The scratch, at anything. -/
def scratchAny : sProp 𝕄 :=
  iprop((∃ d, owns (c : Thread nD τ) arg8 fullShare d) ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d) ∗ (∃ d, owns (c : Thread nD τ) arg16 fullShare d))

/-- A program run beside something it does not touch. -/
theorem wp_beside {α : Type} {p : Prog (TpuEff nD τ sig (Elt F) Λ₀ .tc) α} {P R : sProp 𝕄} {Φ : α → sProp 𝕄}
    (h : P ⊢ wp frame (wpE (defs₀ (F := F)) Variants.none c none) Set.univ p Φ) :
    iprop(P ∗ R) ⊢ wp frame (wpE (defs₀ (F := F)) Variants.none c none) Set.univ p (fun v => iprop(Φ v ∗ R)) := by
  iintro ⟨HP, HR⟩
  iapply (wp_wand_r frame (wpE (defs₀ (F := F)) Variants.none c none) Set.univ)
  isplitl [HP]
  · iapply h; iexact HP
  iintro %v H
  isplitl [H]; · iexact H
  iexact HR

set_option maxHeartbeats 4000000 in
/-- The body: the operands as they were, the output at what the operands give, the tile outputs and the scratch at anything. -/
theorem wp_body (x2 x3 x4 : Vec F S2048x128 .bf16) :
    iprop(operandsAt c arg2 arg3 arg4 x2 x3 x4 ∗ (∃ d, owns (c : Thread nD τ) arg5 fullShare d) ∗ tilesAny (F := F) c arg6 arg7 ∗ scratchAny (F := F) c arg8 arg9 arg10 arg11 arg12 arg13 arg14 arg15 arg16)
      ⊢ wp frame (wpE (defs₀ (F := F)) Variants.none c none) Set.univ (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(operandsAt c arg2 arg3 arg4 x2 x3 x4 ∗ owns (c : Thread nD τ) arg5 fullShare (outO x2 x3 x4) ∗ tilesAny (F := F) c arg6 arg7 ∗ scratchAny (F := F) c arg8 arg9 arg10 arg11 arg12 arg13 arg14 arg15 arg16)) := by
  generalize hQ : (fun _ : PUnit => iprop(operandsAt c arg2 arg3 arg4 x2 x3 x4 ∗ owns (c : Thread nD τ) arg5 fullShare (outO x2 x3 x4) ∗ tilesAny (F := F) c arg6 arg7 ∗ scratchAny (F := F) c arg8 arg9 arg10 arg11 arg12 arg13 arg14 arg15 arg16)) = Q
  unfold operandsAt scratchAny tilesAny
  rw [cc0_attn_fwd_eq_skeleton]
  unfold cc0_attn_fwd_skel
  dsimp only
  iintro ⟨⟨H2, H3, H4⟩, ⟨%d5, H5⟩, HT, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have h15 := wp_beside (R := iprop(owns (c : Thread nD τ) arg5 fullShare d5 ∗ ((∃ d, owns (c : Thread nD τ) arg6 fullShare d) ∗ (∃ d, owns (c : Thread nD τ) arg7 fullShare d))
      ∗ owns (c : Thread nD τ) arg14 fullShare d14 ∗ owns (c : Thread nD τ) arg15 fullShare d15 ∗ owns (c : Thread nD τ) arg16 fullShare d16))
    c (wp_part15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 d8 d9 d10 d11 d12 d13)
  have h16 := wp_beside (R := iprop(owns (c : Thread nD τ) arg5 fullShare d5 ∗ ((∃ d, owns (c : Thread nD τ) arg6 fullShare d) ∗ (∃ d, owns (c : Thread nD τ) arg7 fullShare d))
      ∗ owns (c : Thread nD τ) arg14 fullShare d14 ∗ owns (c : Thread nD τ) arg15 fullShare d15 ∗ owns (c : Thread nD τ) arg16 fullShare d16))
    c (wp_part16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 (k0_pay87 x2) (k0_pay88 x2) (k0_pay89 x3) d11 d12 d13 k0_pay83 x4 (k0_pay90 x4) d11)
  iapply (wp_then c (P := iprop(fillAt c arg2 arg3 arg4 arg8 arg9 arg10 arg11 arg12 arg13 x2 x3 x4 d8 d9 d10 d11 d12 d13
      ∗ (owns (c : Thread nD τ) arg5 fullShare d5 ∗ ((∃ d, owns (c : Thread nD τ) arg6 fullShare d) ∗ (∃ d, owns (c : Thread nD τ) arg7 fullShare d))
      ∗ owns (c : Thread nD τ) arg14 fullShare d14 ∗ owns (c : Thread nD τ) arg15 fullShare d15 ∗ owns (c : Thread nD τ) arg16 fullShare d16))) h15 ?_)
  · intro r
    iintro ⟨⟨%hr, H⟩, HR⟩
    subst hr
    dsimp only
    istop
    refine wp_then c h16 fun r => ?_
    iintro ⟨⟨%hr, H⟩, H5, ⟨⟨%d6, H6⟩, ⟨%d7, H7⟩⟩, H14, H15, H16⟩
    subst hr
    have hcarry : Carry (ctxOf x3 x4) (blksOf x2) 0
        (⟨putZ (putZ d13 2 (k0_pay4 (qcat (k0_pay87 x2) (k0_pay88 x2) 0) (rowsAt (k0_pay89 x3) 0))) 3 (k0_pay1 (k0_pay95 (rowsAt (k0_pay87 x2) 0) (rowsAt (k0_pay88 x2) 0) (rowsAt (k0_pay89 x3) 0))), d14, d15, d16⟩ : St F) := by
      refine ⟨?_, ?_⟩
      · show slotZ (putZ (putZ d13 2 _) 3 _) 2 = _
        rw [slotZ_putZ_ne _ _ _ (by decide) (by decide), slotZ_putZ _ _ (by decide)]
        rfl
      · show slotZ (putZ (putZ d13 2 _) 3 _) 3 = _
        rw [slotZ_putZ _ _ (by decide), pay95_eq]
        rfl
    have hout := rowsOut_eq (D := d5) hcarry
    have hrun := wp_qblocks (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 (ctxOf x3 x4) (k0_pay87 x2) (k0_pay88 x2) d5
      ⟨putZ (putZ d13 2 (k0_pay4 (qcat (k0_pay87 x2) (k0_pay88 x2) 0) (rowsAt (k0_pay89 x3) 0))) 3 (k0_pay1 (k0_pay95 (rowsAt (k0_pay87 x2) 0) (rowsAt (k0_pay88 x2) 0) (rowsAt (k0_pay89 x3) 0))), d14, d15, d16⟩
    change _ ⊢ wp _ _ _ _ (fun _ => bufs c arg5 arg6 arg7 arg8 arg9 arg10 arg11 arg12 arg13 arg14 arg15 arg16 (ctxOf x3 x4) (k0_pay87 x2) (k0_pay88 x2) (rowsOut (ctxOf x3 x4) (blksOf x2) _ d5 8) _) at hrun
    rw [hout] at hrun
    have hrun2 := wp_then c (k := fun _ => (pure ⟨⟩ : Prog (TpuEff nD τ sig (Elt F) Λ₀ .tc) PUnit)) (Q := fun _ => bufs c arg5 arg6 arg7 arg8 arg9 arg10 arg11 arg12 arg13 arg14 arg15 arg16 (ctxOf x3 x4) (k0_pay87 x2) (k0_pay88 x2) (outRows (ctxOf x3 x4) (blksOf x2))
      (blocks (ctxOf x3 x4) (blksOf x2) ⟨putZ (putZ d13 2 (k0_pay4 (qcat (k0_pay87 x2) (k0_pay88 x2) 0) (rowsAt (k0_pay89 x3) 0))) 3 (k0_pay1 (k0_pay95 (rowsAt (k0_pay87 x2) 0) (rowsAt (k0_pay88 x2) 0) (rowsAt (k0_pay89 x3) 0))), d14, d15, d16⟩ 8)) hrun (fun w => by
        iintro HP
        sl_step
        iexact HP)
    clear hrun
    unfold fillAt owns
    icases H with ⟨H2, H3, H4, H8, H9, H10, H11, H12, ⟨%f13, %h13, H13⟩⟩
    sl_exec
    iapply (wp_wand_r frame (wpE (defs₀ (F := F)) Variants.none c none) Set.univ)
    isplitl [H5 H6 H7 H8 H9 H10 H11 H12 H13 H14 H15 H16]
    · iapply hrun2
      unfold bufs owns
      dsimp only [ctxOf]
      isplitl [H5]; · iexact H5
      isplitl [H6]; · iexists _; iexact H6
      isplitl [H7]; · iexists _; iexact H7
      isplitl [H8]; · iexact H8
      isplitl [H9]; · iexact H9
      isplitl [H10]; · iexact H10
      isplitl [H11]; · iexact H11
      isplitl [H12]; · iexact H12
      isplitl [H13]
      · iexists _; isplitr; swap; · iexact H13
        ipureintro
        sl_open_run
        simp only [View.readCov, View.writes_nil, readAt_slot _ _ (rfl : _ = ![0, 0, 0]), readAt_slot _ _ (rfl : _ = ![1, 0, 0]), read_writes_slot _ _ (rfl : _ = ![0, 0, 0]), read_writes_slot _ _ (rfl : _ = ![1, 0, 0]),
      readAt_z _ _ (rfl : _ = ![0, 0, 0]), readAt_z _ _ (rfl : _ = ![1, 0, 0]), readAt_z _ _ (rfl : _ = ![2, 0, 0]), readAt_z _ _ (rfl : _ = ![3, 0, 0]), read_writes_z _ _ (rfl : _ = ![0, 0, 0]), read_writes_z _ _ (rfl : _ = ![1, 0, 0]), read_writes_z _ _ (rfl : _ = ![2, 0, 0]), read_writes_z _ _ (rfl : _ = ![3, 0, 0]),
      readAt_whole_cr _ _ (off := ![0, 0]), read_writes_whole_cr _ _ (off := ![0, 0]), readAt_whole_acc _ _ (off := ![0, 0]), read_writes_whole_acc _ _ (off := ![0, 0]), readAt_whole_rows _ _ (off := ![0, 0]), read_writes_whole_rows _ _ (off := ![0, 0]),
      slotAt_putSlot _ 0 (by decide), slotAt_putSlot _ 1 (by decide), slotAt_putSlot_ne _ 0 1 (by decide) (by decide), slotAt_putSlot_ne _ 1 0 (by decide) (by decide),
      slotZ_putZ _ 0 (by decide), slotZ_putZ _ 1 (by decide), slotZ_putZ_ne _ 0 1 (by decide) (by decide), slotZ_putZ_ne _ 1 0 (by decide) (by decide), slotZ_putZ_ne _ 2 1 (by decide) (by decide), h13]
      isplitl [H14]; · iexact H14
      isplitl [H15]; · iexact H15
      iexact H16
    subst hQ
    dsimp only
    unfold operandsAt tilesAny scratchAny bufs owns
    iintro %w HB
    icases HB with ⟨H5, H6, H7, H8, H9, H10, H11, H12, H13, H14, H15, H16⟩
    isplitl [H2 H3 H4]
    · isplitl [H2]; · iexact H2
      isplitl [H3]; · iexact H3
      iexact H4
    isplitl [H5]; · iexact H5
    isplitl [H6 H7]
    · isplitl [H6]; · iexact H6
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  unfold fillAt
  isplitl [H2 H3 H4 H8 H9 H10 H11 H12 H13]
  · isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    iexact H13
  isplitl [H5]; · iexact H5
  isplitl [HT]; · iexact HT
  isplitl [H14]; · iexact H14
  isplitl [H15]; · iexact H15
  iexact H16

end Cert.Proof.Attend

end
-- ==== Proof.Attend.Launch.lean ====
/-
  The launch: what the region's windows hold at each grid point, the body's triple at a point, and the run of the whole program with its
  final memory and its counters. Nothing is said of the two tile outputs, which the body takes and leaves at anything.
-/
module

public import proofs.«01_k».proof.Proof.Attend.Body
public import proofs.«01_k».proof.Proof.Gen.AttendIdeal.Frame
public import Idealize.ShloMosaic.Lib.Claim

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the body at point `t`: each operand's window at its block, the output's at what the blocks give. The query, key and value operands
    are windows of one array, so they hold their shares of it. What the two tile windows hold is not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (iblk m c 1 t) (iblk m c 2 t)
    | ⟨4, _⟩ => iblk m c 4 t
    | ⟨5, _⟩ => iblk m c 5 t
  Φ _ := Pipeline.ΦA spec0 c
  q w := Pipeline.shareOf spec0 w
  owed _ := 0

/-- The windows nothing is said of. -/
def fgt : Fin cfg0.W → Bool := ![false, false, false, false, true, true]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outO (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The region's invariant is the scratch at anything, and the generator register. -/
theorem scratch_eq (c : Dev nD) : (Pipeline.ΦA (Val := Elt F) (U := UR sig nD τ) spec0 c : sProp 𝕄)
    = iprop(scratchAny (F := F) c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) ∗ ∃ r, prngReg c r) := by
  unfold Pipeline.ΦA scratchAny
  rw [scopedRest0_eq]
  simp only [owns_whole]
  rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, scratch_eq]
  iintro ⟨⟨HS, HG⟩, Ho, ⟨%d0, H0⟩, ⟨%d1, H1⟩, ⟨%d2, H2⟩, ⟨%d3, H3⟩, H4, H5⟩
  iapply (wp_wand_r frame (wpE (defs₀ (F := F)) Variants.none c none) Set.univ)
  isplitl [HS H0 H1 H2 H3 H4 H5]
  · iapply (wp_body (F := F) c (grid0.coords t) _ _ _ _ _ _ _ _ _ _ _ _ _ _ _ _ _ _ _ _ _ _ _ _ _ _ _ _ _ _ (iblk m c 0 t) (iblk m c 1 t) (iblk m c 2 t))
    unfold operandsAt tilesAny
    isplitl [H0 H1 H2]
    · isplitl [H0]; · iexact H0
      isplitl [H1]; · iexact H1
      iexact H2
    isplitl [H3]; · iexists _; iexact H3
    isplitr [HS]; swap
    · iexact HS
    isplitl [H4]; · iexact H4
    iexact H5
  iintro %w ⟨HI, H3, HT, HS⟩
  unfold operandsAt tilesAny
  icases HI with ⟨H0, H1, H2⟩
  icases HT with ⟨H4, H5⟩
  isplitl [HS HG]
  · isplitl [HS]; · iexact HS
    iexact HG
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- The program from any memory with zero counters: it terminates, and at the end every array is at what the region computes, with zero counters. -/
theorem run_quiescent : θ_run defs (onTc (τ := τ) (main (F := F))) (s₀ m ρ) (fun r => (RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun c w _ => rfl)
    (howed := fun _ _ => rfl) (V := V m) (hmain := hmain m Variants.none) (hA := A_eq m) (hΦ := fun _ _ => rfl)

/-- The run with what it leaves of the argument, and its counters. -/
theorem run_frame : θ_run defs (onTc (τ := τ) (main (F := F))) (s₀ m ρ)
    (fun r => (∀ c : Dev nD, r.2.mem ((c : Thread nD τ).loc main_arg0) = m ((c : Thread nD τ).loc main_arg0)) ∧ r.2.sem = fun _ => 0) :=
  (θ_run defs _ _).mono (fun _ h => ⟨fun c => ((Dat.toRForget_arrAt_iff (dats m 0 c) (fgt := fgt) (w := 2) rfl cfg0.N _).mp ((h.1 c).1 2)).trans
    (((dats m 0 c).arrAt_in 2 rfl _).trans ((A_eq m c 2).trans (V_main_arg0 m c))), h.2⟩) (run_quiescent m ρ)

/-- The run with what it leaves of the output. -/
theorem run_output : θ_run defs (onTc (τ := τ) (main (F := F))) (s₀ m ρ)
    (fun r => ∀ c : Dev nD, r.2.mem ((c : Thread nD τ).loc main_v0_0) = (dats m 0 c).arrAt 3 cfg0.N) :=
  (θ_run defs _ _).mono (fun _ h c => (Dat.toRForget_arrAt_iff (dats m 0 c) (fgt := fgt) (w := 3) rfl cfg0.N _).mp ((h.1 c).1 3)) (run_quiescent m ρ)

end Cert.Proof.Attend

end
-- ==== Proof.Attend.Pay.lean ====
/-
  What each vector the body computes holds at an index, over the extended reals.
-/
module

public import proofs.«01_k».proof.Proof.Gen.AttendIdeal.Skeleton
public import proofs.«01_k».proof.Proof.Residual
public import proofs.«01_k».proof.Proof.Pay
public import Idealize.ShloMosaic.Lib.Pointwise

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Attn (softplus slt_small select_if lt64)

theorem pay4_at (B : FVec Ideal S512x128 .bf16) (k : Vec Ideal S256x128 .bf16) (r : Fin 512) (c : Fin 256) :
    k0_pay4 B k (ix3 0 r c) = ∑ d : Fin 128, B (ix2 r d) * k (ix2 c d) := by
  unfold k0_pay4
  pointwise

theorem pay5_at (z : Vec Ideal S1x512x256 .f32) (r : Fin 512) (c : Fin 256) : k0_pay5 z (ix2 r c) = z (ix3 0 r c) := by
  unfold k0_pay5
  pointwise

theorem pay6_at (z : Vec Ideal S1x512x256 .f32) (r : Fin 512) (c : Fin 256) : k0_pay6 z (ix2 r c) = softplus (z (ix3 0 r c)) := by
  unfold k0_pay6
  pointwise
  rw [pay5_at, zero_sub]
  rfl

/-- The running sums of a tile's columns: the rounded numbers and what the rounding left off, each times the triangle. -/
theorem pay7_at (u : FVec Ideal S512x256 .bf16) (z : Vec Ideal S1x512x256 .f32) (r : Fin 512) (c : Fin 256) :
    k0_pay7 u z (ix2 r c) = ∑ k : Fin 512, (if h : k.val < 256 then k0_pay6 z (ix2 r ⟨k.val, h⟩)
      else k0_pay6 z (ix2 r ⟨k.val - 256, by omega⟩) - k0_pay6 z (ix2 r ⟨k.val - 256, by omega⟩)) * u (ix2 k c) := by
  unfold k0_pay7
  pointwise

theorem pay8_at (z : Vec Ideal S1x512x256 .f32) (r : Fin 512) (c : Fin 256) :
    k0_pay8 z (ix2 r c) = z (ix3 0 r c) - k0_pay6 z (ix2 r c) := by
  unfold k0_pay8
  pointwise
  rw [pay5_at]

theorem pay9_at (u : FVec Ideal S512x256 .bf16) (z : Vec Ideal S1x512x256 .f32) (cr : Vec Ideal S512x1 .f32) (r : Fin 512) (c : Fin 256) :
    k0_pay9 u z cr (ix2 r c) = k0_pay7 u z (ix2 r c) + cr (ix2 r 0) := by
  unfold k0_pay9
  pointwise

theorem pay11_at (x y : FVec Ideal S512x256 .f32) (r : Fin 512) (c : Fin 256) :
    k0_pay11 x y (ix3 0 r c) = Ideal.exp (x (ix2 r c) - y (ix2 r c)) := by
  unfold k0_pay11 k0_pay10
  pointwise

theorem pay14_at (cr : Vec Ideal S512x1 .f32) (x y : FVec Ideal S512x256 .f32) (r : Fin 512) :
    k0_pay14 cr x y (ix2 r 0) = cr (ix2 r 0) + y (ix2 r 0) + x (ix2 r 0) := by
  unfold k0_pay14
  pointwise

theorem pay64_at (x y : Vec Ideal S256x128 .bf16) (r : Fin 512) (c : Fin 128) :
    k0_pay64 x y (ix2 r c) = if h : r.val < 256 then x (ix2 ⟨r.val, h⟩ c) else y (ix2 ⟨r.val - 256, by omega⟩ c) := by
  unfold k0_pay64
  pointwise

theorem pay66_at (r : Fin 512) : k0_pay66 (F := Ideal) (ix2 r 0) = 0 := by
  unfold k0_pay66
  pointwise

theorem pay67_at (r : Fin 256) (c : Fin 128) : k0_pay67 (F := Ideal) (ix2 r c) = 0 := by
  unfold k0_pay67
  pointwise

theorem pay70_at (tri : IVec S512x256 1) (z : Vec Ideal S1x512x256 .f32) (r : Fin 512) (c : Fin 256) :
    k0_pay70 tri z (ix2 r c) = Scalar.select (tri (ix2 r c)) (k0_pay6 z (ix2 r c)) 0 := by
  show Scalar.select (tri (ix2 r c)) (k0_pay6 z (ix2 r c)) (Ideal.ofBits .f32 0x00000000#32) = _
  congr 1
  exact Ideal.ofBits_zero _

theorem pay71_at (tri : IVec S512x256 1) (u : FVec Ideal S512x256 .bf16) (z : Vec Ideal S1x512x256 .f32) (r : Fin 512) (c : Fin 256) :
    k0_pay71 tri u z (ix2 r c) = ∑ k : Fin 512, (if h : k.val < 256 then k0_pay70 tri z (ix2 r ⟨k.val, h⟩)
      else k0_pay70 tri z (ix2 r ⟨k.val - 256, by omega⟩) - k0_pay70 tri z (ix2 r ⟨k.val - 256, by omega⟩)) * u (ix2 k c) := by
  unfold k0_pay71
  pointwise

theorem pay74_at (tri : IVec S512x256 1) (u : FVec Ideal S512x256 .bf16) (z : Vec Ideal S1x512x256 .f32) (cr : Vec Ideal S512x1 .f32) (r : Fin 512) (c : Fin 256) :
    k0_pay74 tri u z cr (ix3 0 r c) = Scalar.select (tri (ix2 r c)) (Ideal.exp (k0_pay8 z (ix2 r c) - (k0_pay71 tri u z (ix2 r c) + cr (ix2 r 0)))) 0 := by
  unfold k0_pay74 k0_pay73
  pointwise
  rfl

theorem pay77_at (cr : Vec Ideal S512x1 .f32) (x y : FVec Ideal S512x256 .f32) (r : Fin 512) :
    k0_pay77 cr x y (ix2 r 0) = cr (ix2 r 0) + y (ix2 r 0) + x (ix2 r 0) := by
  unfold k0_pay77
  pointwise

theorem pay81_at (a : Vec Ideal S1x512x256 .bf16) (v0 v1 : Vec Ideal S256x128 .bf16) (acc : Vec Ideal S256x128 .f32) (r : Fin 256) (c : Fin 128) :
    k0_pay81 a v0 v1 acc (ix2 r c) = acc (ix2 r c) + ∑ k : Fin 512,
      (if h : k.val < 256 then a (ix3 0 ⟨r.val, by omega⟩ ⟨k.val, h⟩) else a (ix3 0 ⟨256 + r.val, by omega⟩ ⟨k.val - 256, by omega⟩))
        * (if h : k.val < 256 then v0 (ix2 ⟨k.val, h⟩ c) else v1 (ix2 ⟨k.val - 256, by omega⟩ c)) := by
  unfold k0_pay81
  pointwise

theorem pay84_at (r : Fin 512) (c : Fin 256) : k0_pay84 (ix2 r c) = if c.val < r.val % 256 then 1 else 0 := by
  unfold k0_pay84
  pointwise
  rw [slt_small (by omega) (by omega), slt_small (by omega) (by omega)]
  by_cases h : r.val < 256
  · rw [dif_pos h, Nat.mod_eq_of_lt h]
  · rw [dif_neg h, show r.val % 256 = r.val - 256 from by omega]

theorem sgt_small {a b : ℕ} (ha : a < 4096) (hb : b < 4096) :
    IntOp.cmpi .sgt (BitVec.ofNat 32 a) (BitVec.ofNat 32 b) = if b < a then 1 else 0 := slt_small hb ha

theorem bit_to_number (P : Prop) [Decidable P] :
    (((BitVec.setWidth 32 (if P then (1 : BitVec 1) else 0)).toInt : ℝ) : EReal) = if P then 1 else 0 := by
  by_cases h : P <;> simp [h]

theorem pay85_at (r : Fin 512) (c : Fin 256) : k0_pay85 (F := Ideal) (ix2 r c) = if c.val < r.val % 256 then 1 else 0 := by
  unfold k0_pay85
  pointwise
  rw [sgt_small (by omega) (by omega), sgt_small (by omega) (by omega)]
  by_cases h : r.val < 256
  · rw [dif_pos h, Nat.mod_eq_of_lt h]; exact bit_to_number _
  · rw [dif_neg h, show r.val % 256 = r.val - 256 from by omega]; exact bit_to_number _

/-- An eighth: the scores' scale, as the kernel writes it. -/
def scale : EReal := FloatOps.ofBits (F := Ideal) .bf16 0x3E00#16

theorem scale_eq : scale = ((1 / 8 : ℝ) : EReal) := by
  show Ideal.ofBits .bf16 0x3E00#16 = _
  simp [Ideal.ofBits, Ideal.ieee, -EReal.coe_mul]; norm_num

theorem pay87_at (x : Vec Ideal S2048x128 .bf16) (t : Fin 2048) (d : Fin 128) :
    k0_pay87 x (ix2 t d) = if d.val < 64 then x (ix2 t d) * scale else 0 := by
  unfold k0_pay87 k0_pay86 k0_pay83
  pointwise
  rw [lt64, select_if]
  rfl

theorem pay88_at (x : Vec Ideal S2048x128 .bf16) (t : Fin 2048) (d : Fin 128) :
    k0_pay88 x (ix2 t d) = if d.val < 64 then 0 else x (ix2 t d) * scale := by
  unfold k0_pay88 k0_pay86 k0_pay83
  pointwise
  rw [lt64, select_if]
  rfl

theorem pay89_at (x : Vec Ideal S2048x128 .bf16) (t : Fin 2048) (d : Fin 128) : k0_pay89 x (ix2 t d) = x (ix2 t d) := by
  unfold k0_pay89
  pointwise

theorem pay91_at (x : Vec Ideal S2048x128 .bf16) (t : Fin 2048) (d : Fin 128) :
    k0_pay91 (k0_pay90 x) (ix2 t d) = if d.val < 64 then x (ix2 t d) else 0 := by
  unfold k0_pay91 k0_pay90 k0_pay83
  pointwise
  rw [lt64, select_if]

theorem pay92_at (x : Vec Ideal S2048x128 .bf16) (t : Fin 2048) (d : Fin 128) :
    k0_pay92 k0_pay83 x (ix2 t d) = if d.val < 64 then 0 else x (ix2 t d) := by
  unfold k0_pay92 k0_pay83
  pointwise
  rw [lt64, select_if]

end Cert.Proof.Attend

end
-- ==== Proof.Attend.Sums.lean ====
/-
  What the walk leaves, as sums over the extended reals.

  For one pair of heads let `q t c`, `k s c`, `v s c` be the rows of the queries, keys and values (column `c` of 128, head `c / 64`). With
  `Z h t s = Σ q · scale · k` over the head's columns and `sp` the softplus, key `s` before query `t` is given the weight
  `A h t s = exp (Z − sp Z − Σ_{s < s' < t} sp (Z h t s'))`; the walk leaves `Σ_s A · v`. The kernel adds the softplus in two summands, rounded and
  left off; over the reals the second is nothing, which is where the scores are taken to be real.
-/
module

public import proofs.«01_k».proof.Proof.Attend.Pay
public import proofs.«01_k».proof.Proof.Attend.Body
public import proofs.«01_k».proof.Proof.Sums

@[expose] public section

set_option maxRecDepth 20000

noncomputable section

namespace Cert.Proof.Attend

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Attn (softplus slt_small select_if lt64 sum_cut sum_half softplus_coe)
open Finset (range)

theorem rowsAt_at {α : Type} (x : S2048x128.Idx → α) {j : ℕ} (hj : j < 8) (r : Fin 256) (c : Fin 128) :
    rowsAt x j (ix2 r c) = x (ix2 ⟨256 * j + r.val, by omega⟩ c) := by
  refine congrArg x (funext fun a => Fin.ext ?_)
  fin_cases a
  · exact Nat.mod_eq_of_lt (by show 256 * j + r.val < 2048; omega)
  · rfl

/-- A real row against the triangle, taken twice over: the row's entries after `c`. -/
theorem tri_sum (f : ℕ → EReal) (hf : ∀ i, ∃ y : ℝ, f i = y) (c : Fin 256) :
    (∑ k : Fin 512, (if k.val < 256 then f k.val else f (k.val - 256) - f (k.val - 256)) * (if c.val < k.val % 256 then (1 : EReal) else 0))
      = ∑ i ∈ range (255 - c.val), f (c.val + 1 + i) := by
  rw [Fin.sum_univ_eq_sum_range (fun k => (if k < 256 then f k else f (k - 256) - f (k - 256)) * (if c.val < k % 256 then (1 : EReal) else 0)) 512, sum_cut _ 256 256,
    Finset.sum_eq_zero (f := fun i => (if 256 + i < 256 then f (256 + i) else f (256 + i - 256) - f (256 + i - 256)) * (if c.val < (256 + i) % 256 then (1 : EReal) else 0)) (fun i hi => ?_), add_zero,
    show range 256 = range (c.val + 1 + (255 - c.val)) from congrArg range (by omega), sum_cut, Finset.sum_eq_zero (s := range (c.val + 1)) (fun i hi => ?_), zero_add]
  · refine Finset.sum_congr rfl fun i hi => ?_
    have := Finset.mem_range.1 hi
    rw [if_pos (by omega), if_pos (by omega), mul_one]
  · have := Finset.mem_range.1 hi
    rw [if_neg (by omega : ¬ c.val < i % 256), mul_zero]
  · obtain ⟨y, hy⟩ := hf (256 + i - 256)
    rw [if_neg (by omega), hy, ← EReal.coe_sub, sub_self, EReal.coe_zero, zero_mul]

/-- The rows of one pair of heads. -/
structure Heads where
  q : ℕ → ℕ → EReal
  k : ℕ → ℕ → EReal
  v : ℕ → ℕ → EReal

namespace Heads

variable (H : Heads)

/-- The scores. -/
def Z (h t s : ℕ) : EReal := ∑ i ∈ range 64, H.q t (64 * h + i) * scale * H.k s (64 * h + i)

/-- The softplus of the scores before the query. -/
def SP (h t s : ℕ) : EReal := if s < t then softplus (H.Z h t s) else 0

/-- The weights. -/
def A (h t s : ℕ) : EReal := if s < t then Ideal.exp (H.Z h t s - softplus (H.Z h t s) - ∑ i ∈ range (2047 - s), H.SP h t (s + 1 + i)) else 0

/-- The scores are real. -/
def Real : Prop := ∀ h t s, ∃ y : ℝ, H.Z h t s = y

theorem sp_real {H : Heads} (hr : H.Real) (h t s : ℕ) : ∃ y : ℝ, H.SP h t s = y := by
  unfold SP
  by_cases hs : s < t
  · obtain ⟨y, hy⟩ := hr h t s
    exact ⟨_, by rw [if_pos hs, hy, softplus_coe]⟩
  · exact ⟨0, by rw [if_neg hs, EReal.coe_zero]⟩

/-- The sum after a key of the tile `j` left of the diagonal: the tile's own, and the tiles' between it and the diagonal. -/
theorem tail {q j c : ℕ} (hq : q < 8) (hj : j ≤ q) (hc : c < 256) (h : ℕ) {t : ℕ} (ht : t < 256 * (q + 1)) :
    ∑ i ∈ range (2047 - (256 * (q - j) + c)), H.SP h t (256 * (q - j) + c + 1 + i)
      = ∑ i ∈ range (255 - c), H.SP h t (256 * (q - j) + (c + 1 + i)) + ∑ i ∈ range (256 * j), H.SP h t (256 * (q + 1 - j) + i) := by
  rw [show range (2047 - (256 * (q - j) + c)) = range ((255 - c) + 256 * j + (256 * (7 - q))) from congrArg range (by omega), sum_cut, sum_cut,
    Finset.sum_eq_zero (s := range (256 * (7 - q))) (fun i hi => ?_), add_zero]
  · refine congrArg₂ (· + ·) (Finset.sum_congr rfl fun i _ => ?_) (Finset.sum_congr rfl fun i _ => ?_)
    · congr 1; omega
    · congr 1; omega
  · unfold SP; rw [if_neg (by omega)]

end Heads

/-- A grid point's vectors hold the rows of a pair of heads. -/
structure Holds (C : Ctx Ideal) (Bs : ℕ → FVec Ideal S512x128 .bf16) (H : Heads) : Prop where
  tri : ∀ (r : Fin 512) (c : Fin 256), C.tri (ix2 r c) = if c.val < r.val % 256 then 1 else 0
  u : ∀ (r : Fin 512) (c : Fin 256), C.u (ix2 r c) = if c.val < r.val % 256 then (1 : EReal) else 0
  kb : ∀ (s : Fin 2048) (c : Fin 128), C.kb (ix2 s c) = H.k s c
  v0 : ∀ (s : Fin 2048) (c : Fin 128), C.v0 (ix2 s c) = if c.val < 64 then H.v s c else 0
  v1 : ∀ (s : Fin 2048) (c : Fin 128), C.v1 (ix2 s c) = if c.val < 64 then 0 else H.v s c
  q : ∀ n, n < 8 → ∀ (r : Fin 512) (c : Fin 128), Bs n (ix2 r c) = if c.val / 64 = r.val / 256 then H.q (256 * n + r % 256) c * scale else 0

section Walk

variable {C : Ctx Ideal} {Bs : ℕ → FVec Ideal S512x128 .bf16} {H : Heads} (hH : Holds C Bs H) (hr : H.Real) {q : ℕ} (hq : q < 8)

section
include hH hq

theorem z_at {j : ℕ} (hj : j ≤ q) (r : Fin 512) (c : Fin 256) :
    zRow C (Bs q) j (ix3 0 r c) = H.Z (r / 256) (256 * q + r % 256) (256 * j + c) := by
  unfold zRow
  rw [pay4_at]
  unfold Heads.Z
  rw [← sum_half (h := r.val / 256) (by omega) (fun i => H.q (256 * q + r % 256) i * scale * H.k (256 * j + c) i)]
  refine Finset.sum_congr rfl fun k _ => ?_
  rw [hH.q q hq, rowsAt_at _ (by omega), hH.kb]
  split
  · rfl
  · exact zero_mul _

/-- Off the diagonal every key is before the query. -/
theorem sp_at {j : ℕ} (hj : j < q) (r : Fin 512) (c : Fin 256) :
    k0_pay6 (zRow C (Bs q) j) (ix2 r c) = H.SP (r / 256) (256 * q + r % 256) (256 * j + c) := by
  rw [pay6_at, z_at hH hq (by omega)]
  unfold Heads.SP
  rw [if_pos (by omega)]

theorem spDiag_at (r : Fin 512) (c : Fin 256) :
    k0_pay70 C.tri (zRow C (Bs q) q) (ix2 r c) = H.SP (r / 256) (256 * q + r % 256) (256 * q + c) := by
  rw [pay70_at, pay6_at, z_at hH hq (le_refl _), hH.tri, select_if]
  unfold Heads.SP
  by_cases h : c.val < r.val % 256
  · rw [if_pos h, if_pos (by omega)]
  · rw [if_neg h, if_neg (by omega)]

include hr

theorem ps_at {j : ℕ} (hj : j < q) (r : Fin 512) (c : Fin 256) :
    k0_pay7 C.u (zRow C (Bs q) j) (ix2 r c) = ∑ i ∈ range (255 - c.val), H.SP (r / 256) (256 * q + r % 256) (256 * j + (c + 1 + i)) := by
  rw [pay7_at, ← tri_sum (fun i => H.SP (r / 256) (256 * q + r % 256) (256 * j + i)) (fun i => Heads.sp_real hr _ _ _) c]
  refine Finset.sum_congr rfl fun k _ => ?_
  rw [hH.u]
  by_cases h : k.val < 256
  · rw [dif_pos h, if_pos h, sp_at hH hq hj]
  · rw [dif_neg h, if_neg h, sp_at hH hq hj]

theorem psDiag_at (r : Fin 512) (c : Fin 256) :
    k0_pay71 C.tri C.u (zRow C (Bs q) q) (ix2 r c) = ∑ i ∈ range (255 - c.val), H.SP (r / 256) (256 * q + r % 256) (256 * q + (c + 1 + i)) := by
  rw [pay71_at, ← tri_sum (fun i => H.SP (r / 256) (256 * q + r % 256) (256 * q + i)) (fun i => Heads.sp_real hr _ _ _) c]
  refine Finset.sum_congr rfl fun k _ => ?_
  rw [hH.u]
  by_cases h : k.val < 256
  · rw [dif_pos h, if_pos h, spDiag_at hH hq]
  · rw [dif_neg h, if_neg h, spDiag_at hH hq]

/-- A row's sum of a tile, from its first entry and the ones after. -/
theorem row_sum (f : ℕ → EReal) : ∑ i ∈ range 255, f (0 + 1 + i) + f 0 = ∑ i ∈ range 256, f i := by
  rw [Finset.sum_range_succ' f 255]
  exact congrArg (· + f 0) (Finset.sum_congr rfl fun i _ => congrArg f (by omega))

theorem cr_at (r : Fin 512) : ∀ j, j ≤ q → crRow C (Bs q) q j (ix2 r 0) = ∑ i ∈ range (256 * (j + 1)), H.SP (r / 256) (256 * q + r % 256) (256 * (q - j) + i)
  | 0, _ => by
    unfold crRow
    rw [pay77_at, pay66_at, zero_add, psDiag_at hH hr hq, spDiag_at hH hq]
    exact row_sum hH hr hq (fun i => H.SP (r / 256) (256 * q + r % 256) (256 * q + i))
  | j + 1, hj => by
    unfold crRow
    rw [pay14_at, cr_at r j (by omega), ps_at hH hr hq (by omega), sp_at hH hq (by omega), add_assoc]
    refine (congrArg (_ + ·) (row_sum hH hr hq (fun i => H.SP (r / 256) (256 * q + r % 256) (256 * (q - (j + 1)) + i)))).trans ?_
    rw [show 256 * (j + 1 + 1) = 256 + 256 * (j + 1) from by omega, sum_cut, add_comm]
    refine congrArg (_ + ·) (Finset.sum_congr rfl fun i _ => ?_)
    congr 1; omega

theorem a_at (r : Fin 512) (c : Fin 256) : ∀ j, j ≤ q → aRow C (Bs q) q j (ix3 0 r c) = H.A (r / 256) (256 * q + r % 256) (256 * (q - j) + c)
  | 0, _ => by
    rw [aRow, pay74_at, pay8_at, pay6_at, z_at hH hq (le_refl _), psDiag_at hH hr hq, pay66_at, hH.tri, select_if]
    unfold Heads.A
    rw [H.tail hq (Nat.zero_le _) c.isLt _ (by omega : 256 * q + r.val % 256 < 256 * (q + 1))]
    simp only [Nat.mul_zero, Finset.range_zero, Finset.sum_empty, Nat.sub_zero]
    by_cases h : c.val < r.val % 256
    · rw [if_pos h, if_pos (by omega)]
    · rw [if_neg h, if_neg (by omega)]
  | j + 1, hj => by
    rw [aRow, pay11_at, pay8_at, pay6_at, z_at hH hq (by omega), pay9_at, ps_at hH hr hq (by omega), cr_at hH hr hq r j (by omega)]
    unfold Heads.A
    rw [H.tail hq hj c.isLt _ (by omega : 256 * q + r.val % 256 < 256 * (q + 1)), if_pos (by omega), show q + 1 - (j + 1) = q - j from by omega]

theorem acc_at (r : Fin 256) (c : Fin 128) : ∀ j, j ≤ q + 1 → accRow C (Bs q) q j (ix2 r c)
    = ∑ i ∈ range (256 * j), H.A (c / 64) (256 * q + r) (256 * (q + 1 - j) + i) * H.v (256 * (q + 1 - j) + i) c
  | 0, _ => pay67_at r c
  | j + 1, hj => by
    unfold accRow
    rw [pay81_at, acc_at r c j (by omega), show 256 * (j + 1) = 256 + 256 * j from by omega, sum_cut, add_comm]
    refine congrArg₂ (· + ·) ?_ (Finset.sum_congr rfl fun i _ => ?_)
    · rw [← Fin.sum_univ_eq_sum_range (fun i => H.A (c / 64) (256 * q + r) (256 * (q + 1 - (j + 1)) + i) * H.v (256 * (q + 1 - (j + 1)) + i) c) 256]
      refine (Fin.sum_univ_add (a := 256) (b := 256) _).trans ?_
      have e0 : ∀ k : Fin 256, ((Fin.castAdd 256 k : Fin (256 + 256))).val < 256 := fun k => k.isLt
      have e1 : ∀ k : Fin 256, ¬ ((Fin.natAdd 256 k : Fin (256 + 256))).val < 256 := fun k => by show ¬ (256 + k.val < 256); omega
      have e2 : ∀ k : Fin 256, (⟨(Fin.natAdd 256 k : Fin (256 + 256)).val - 256, by have : (Fin.natAdd 256 k : Fin (256 + 256)).val = 256 + k.val := rfl; omega⟩ : Fin 256) = k :=
        fun k => Fin.ext (by show 256 + k.val - 256 = k.val; omega)
      simp only [dif_pos (e0 _), dif_neg (e1 _), e2, a_at hH hr hq _ _ j (by omega), rowsAt_at _ (by omega : q - j < 8), hH.v0, hH.v1]
      by_cases hc : c.val < 64
      · simp only [if_pos hc, mul_zero, Finset.sum_const_zero, add_zero]
        refine Finset.sum_congr rfl fun k _ => ?_
        show H.A (r.val / 256) (256 * q + r.val % 256) (256 * (q - j) + k.val) * H.v (256 * (q - j) + k.val) c = _
        rw [show r.val / 256 = c.val / 64 from by omega, show r.val % 256 = r.val from by omega, show q + 1 - (j + 1) = q - j from by omega]
      · simp only [if_neg hc, mul_zero, Finset.sum_const_zero, zero_add]
        refine Finset.sum_congr rfl fun k _ => ?_
        show H.A ((256 + r.val) / 256) (256 * q + (256 + r.val) % 256) (256 * (q - j) + k.val) * H.v (256 * (q - j) + k.val) c = _
        rw [show (256 + r.val) / 256 = c.val / 64 from by omega, show (256 + r.val) % 256 = r.val from by omega, show q + 1 - (j + 1) = q - j from by omega]
    · rw [show 256 * (q + 1 - (j + 1)) + (256 + i) = 256 * (q + 1 - j) + i from by omega]

end

include hH hr

/-- The whole output. -/
theorem out_at (t : Fin 2048) (c : Fin 128) : outRows C Bs (ix2 t c) = ∑ s ∈ range 2048, H.A (c / 64) t s * H.v s c := by
  show accRow C (Bs (t.val / 256)) (t.val / 256) (t.val / 256 + 1) (ix2 ⟨t.val % 256, by omega⟩ c) = _
  rw [acc_at hH hr (by omega) _ c _ (le_refl _), show range 2048 = range (256 * (t.val / 256 + 1) + (2048 - 256 * (t.val / 256 + 1))) from congrArg range (by omega), sum_cut,
    Finset.sum_eq_zero (s := range (2048 - 256 * (t.val / 256 + 1))) (fun i hi => ?_), add_zero]
  · refine Finset.sum_congr rfl fun i _ => ?_
    rw [Nat.sub_self, Nat.mul_zero, Nat.zero_add, show 256 * (t.val / 256) + (⟨t.val % 256, by omega⟩ : Fin 256).val = t.val from by simp only; omega]
  · unfold Heads.A; rw [if_neg (by omega), zero_mul]

end Walk

/-- The operand blocks are the rows of a pair of heads. -/
structure Windows (x2 x3 x4 : Vec Ideal S2048x128 .bf16) (H : Heads) : Prop where
  q : ∀ (t : Fin 2048) (c : Fin 128), x2 (ix2 t c) = H.q t c
  k : ∀ (t : Fin 2048) (c : Fin 128), x3 (ix2 t c) = H.k t c
  v : ∀ (t : Fin 2048) (c : Fin 128), x4 (ix2 t c) = H.v t c

theorem holds_of {x2 x3 x4 : Vec Ideal S2048x128 .bf16} {H : Heads} (h : Windows x2 x3 x4 H) : Holds (ctxOf x3 x4) (blksOf x2) H where
  tri := pay84_at
  u := pay85_at
  kb s c := (pay89_at x3 s c).trans (h.k s c)
  v0 s c := by rw [← h.v]; exact pay91_at x4 s c
  v1 s c := by rw [← h.v]; exact pay92_at x4 s c
  q n hn r c := by
    show k0_pay64 (rowsAt (k0_pay87 x2) n) (rowsAt (k0_pay88 x2) n) (ix2 r c) = _
    rw [pay64_at]
    by_cases hr : r.val < 256
    · rw [dif_pos hr, rowsAt_at _ hn, pay87_at, h.q]
      by_cases hc : c.val < 64
      · rw [if_pos hc, if_pos (by omega)]; refine congrArg (· * scale) ?_; congr 1; simp only; omega
      · rw [if_neg hc, if_neg (by omega)]
    · rw [dif_neg hr, rowsAt_at _ hn, pay88_at, h.q]
      by_cases hc : c.val < 64
      · rw [if_pos hc, if_neg (by omega)]
      · rw [if_neg hc, if_pos (by omega)]; refine congrArg (· * scale) ?_; congr 1; simp only; omega

theorem outO_at {x2 x3 x4 : Vec Ideal S2048x128 .bf16} {H : Heads} (h : Windows x2 x3 x4 H) (hr : H.Real) (t : Fin 2048) (c : Fin 128) :
    outO x2 x3 x4 (ix2 t c) = ∑ s ∈ range 2048, H.A (c / 64) t s * H.v s c := out_at (holds_of h) hr t c

end Cert.Proof.Attend

end
-- ==== Proof.Attend.Ref.lean ====
/-
  The reference's result read at an index: the heads' rows of its argument, the scores, the weights, and what the weights take of the values.

  The reference keeps `log σ(-z)` of every score before the query, sums it from each key on and takes the key's own away again; with the scores
  real this is minus the sum of the softplus over the later keys. Its `log σ(z)` is `z` less the softplus of `z`.
-/
module

public import proofs.«01_k».proof.Proof.Attend.Sums
public import proofs.«01_k».proof.Proof.Residual
public import proofs.«01_k».proof.Proof.Cumsum
public import proofs.«01_k».proof.Proof.Ref
public import proofs.«01_k».proof.Proof.Gen.AttendReferenceIdeal.Read

@[expose] public section

set_option maxRecDepth 20000

noncomputable section

namespace Cert.Proof.Attend

open Idealize.ShloMosaic
open Cert.AttendReferenceIdeal Cert.AttendReferenceIdeal.Gen Cert.AttendReferenceIdeal.Read
open Cert.Proof.Attn (softplus softplus_coe slt_small select_if zero_const window_at entry entry_of sum_real sum_scale)
open Finset (range)

variable (x0 : (⟨S4096x9216, .bf16⟩ : BufTy).Contents (Elt Ideal))

theorem q_ref (b : Fin 2) (h : Fin 16) (t : Fin 2048) (d : Fin 64) :
    val_main_v5 (F := Ideal) x0 (ix4 b h t d) = x0 (ix2 ⟨2048 * b.val + t.val, by omega⟩ ⟨64 * h.val + d.val, by omega⟩) := by
  unfold val_main_v5 val_main_v4 val_main_v3 val_main_v0
  pointwise
  congr 1; congr 1 <;> (apply Fin.ext; simp only; omega)

theorem k_ref (b : Fin 2) (h : Fin 16) (t : Fin 2048) (d : Fin 64) :
    val_main_v8 (F := Ideal) x0 (ix4 b h t d) = x0 (ix2 ⟨2048 * b.val + t.val, by omega⟩ ⟨1024 + (64 * h.val + d.val), by omega⟩) := by
  unfold val_main_v8 val_main_v7 val_main_v6 val_main_v1
  pointwise
  congr 1; congr 1 <;> (apply Fin.ext; simp only; omega)

theorem v_ref (b : Fin 2) (h : Fin 16) (t : Fin 2048) (d : Fin 64) :
    val_main_v30 (F := Ideal) x0 (ix4 b h t d) = x0 (ix2 ⟨2048 * b.val + t.val, by omega⟩ ⟨2048 + (64 * h.val + d.val), by omega⟩) := by
  unfold val_main_v30 val_main_v29 val_main_v28 val_main_v2
  pointwise
  congr 1; congr 1 <;> (apply Fin.ext; simp only; omega)

theorem mask_sums (b : Fin 2) (h : Fin 16) (t s : Fin 2048) :
    val_main_call2_v1 (F := Ideal) (ix4 b h t s) = if s.val < t.val then 1 else 0 := by
  unfold val_main_call2_v1 val_main_v18 val_main_v16 val_main_v17 val_main_v15 val_main_v13 val_main_v12 val_main_v14
  pointwise
  exact slt_small (by omega) (by omega)

theorem mask_weights (b : Fin 2) (h : Fin 16) (t s : Fin 2048) :
    val_main_call4_v1 (F := Ideal) (ix4 b h t s) = if s.val < t.val then 1 else 0 := mask_sums b h t s

theorem sp_neg (i : S2x16x2048x2048.Idx) :
    val_main_call0_v1 (F := Ideal) x0 i = softplus (-(val_main_v11 (F := Ideal) x0 i)) := by
  obtain ⟨b, h, t, s, rfl⟩ : ∃ b h t s, i = ix4 b h t s := ⟨i 0, i 1, i 2, i 3, by funext a; match a with | 0 => rfl | 1 => rfl | 2 => rfl | 3 => rfl⟩
  unfold val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_call0_v2 val_main_call0_call0_v0 val_main_call0_call0_v5 val_main_call0_v0 val_main_call0_call0_cst
  pointwise
  rw [if_neg fun h => h rfl]
  rfl

theorem sp_pos (i : S2x16x2048x2048.Idx) :
    val_main_call1_v1 (F := Ideal) x0 i = softplus (val_main_v11 (F := Ideal) x0 i) := by
  obtain ⟨b, h, t, s, rfl⟩ : ∃ b h t s, i = ix4 b h t s := ⟨i 0, i 1, i 2, i 3, by funext a; match a with | 0 => rfl | 1 => rfl | 2 => rfl | 3 => rfl⟩
  unfold val_main_call1_v1 val_main_call1_call0_v4 val_main_call1_call0_v6 val_main_call1_call0_v11 val_main_call1_call0_v1 val_main_call1_call0_v10 val_main_call1_call0_v9 val_main_call1_call0_v8 val_main_call1_call0_v7 val_main_call1_call0_v3 val_main_call1_call0_v2 val_main_call1_call0_v0 val_main_call1_call0_v5 val_main_call1_v0 val_main_v20 val_main_call1_call0_cst
  pointwise
  rw [if_neg fun h => h rfl, neg_neg]
  rfl

theorem zero_init (i : S_.Idx) : val_main_call3_v0 (F := Ideal) i = (0 : EReal) := by
  obtain rfl : i = ix0 := by funext a; exact a.elim0
  unfold val_main_call3_v0 val_main_call3_cst
  pointwise

theorem left_at (b : Fin 2) (h : Fin 16) (t s : Fin 2048) :
    val_main_v22 (F := Ideal) x0 (ix4 b h t s) = if s.val < t.val then -softplus (val_main_v11 (F := Ideal) x0 (ix4 b h t s)) else 0 := by
  unfold val_main_v22 val_main_v21 val_main_call2_v2 val_main_call2_v0 val_main_cst_0
  pointwise
  rw [sp_pos, mask_sums, select_if]
  exact congrArg (fun z => if s.val < t.val then -softplus (val_main_v11 (F := Ideal) x0 (ix4 b h t s)) else z) (zero_const ix0)

theorem weight_at (b : Fin 2) (h : Fin 16) (t s : Fin 2048) :
    val_main_v27 (F := Ideal) x0 (ix4 b h t s) = if s.val < t.val then Ideal.exp (-softplus (-(val_main_v11 (F := Ideal) x0 (ix4 b h t s)))
      + (val_main_v23 (F := Ideal) x0 (ix4 b h t s) - val_main_v22 (F := Ideal) x0 (ix4 b h t s))) else 0 := by
  unfold val_main_v27 val_main_v26 val_main_v25 val_main_v24 val_main_v19 val_main_call4_v2 val_main_call4_v0 val_main_cst_1
  pointwise
  rw [mask_weights, sp_neg, select_if]
  exact congrArg (fun z => if s.val < t.val then _ else z) (zero_const ix0)

theorem score_at (b : Fin 2) (h : Fin 16) (t s : Fin 2048) :
    val_main_v11 (F := Ideal) x0 (ix4 b h t s)
      = (∑ d : Fin 64, val_main_v5 (F := Ideal) x0 (ix4 b h t d) * val_main_v8 (F := Ideal) x0 (ix4 b h s d)) * Cert.Proof.Attn.scale := by
  unfold val_main_v11 val_main_v9 val_main_v10 val_main_cst
  pointwise
  rfl

theorem out_ref (b : Fin 2) (h : Fin 16) (t : Fin 2048) (d : Fin 64) :
    val_main_v33 (F := Ideal) x0 (ix2 ⟨2048 * b.val + t.val, by omega⟩ ⟨64 * h.val + d.val, by omega⟩)
      = ∑ s : Fin 2048, val_main_v27 (F := Ideal) x0 (ix4 b h t s) * val_main_v30 (F := Ideal) x0 (ix4 b h s d) := by
  unfold val_main_v33 val_main_v32 val_main_v31
  pointwise

/-- The rows of a batch's pair of heads. -/
def headsOf (b : Fin 2) (p : Fin 8) : Heads where
  q t c := entry x0 (2048 * b.val + t) (128 * p.val + c % 128)
  k t c := entry x0 (2048 * b.val + t) (1024 + (128 * p.val + c % 128))
  v t c := entry x0 (2048 * b.val + t) (2048 + (128 * p.val + c % 128))

theorem heads_z (b : Fin 2) (p : Fin 8) (h : Fin 2) (t s : Fin 2048) :
    (headsOf x0 b p).Z h t s = val_main_v11 (F := Ideal) x0 (ix4 b ⟨2 * p.val + h.val, by omega⟩ t s) := by
  rw [score_at, Heads.Z, Finset.sum_range, Cert.Proof.Attn.scale_eq, ← sum_scale _ _ (by norm_num : (0 : ℝ) ≤ 1 / 8)]
  refine Finset.sum_congr rfl fun d _ => ?_
  rw [scale_eq, mul_right_comm, q_ref, k_ref]
  refine congrArg (· * _) (congrArg₂ (· * ·) ((entry_of x0 (by omega) (by omega)).trans ?_) ((entry_of x0 (by omega) (by omega)).trans ?_))
  · congr 1; congr 1; apply Fin.ext; simp only; omega
  · congr 1; congr 1; apply Fin.ext; simp only; omega

/-- The queries and the keys are finite. -/
def Finite : Prop := ∀ (r : Fin 4096) (c : Fin 2048), ∃ y : ℝ, (x0 (ix2 r ⟨c.val, by omega⟩) : EReal) = y

theorem entry_real {x0 : (⟨S4096x9216, .bf16⟩ : BufTy).Contents (Elt Ideal)} (hf : Finite x0) (r c : ℕ) (hc : c < 2048) : ∃ y : ℝ, entry x0 r c = y := by
  by_cases hr : r < 4096
  · obtain ⟨y, hy⟩ := hf ⟨r, hr⟩ ⟨c, hc⟩
    exact ⟨y, (entry_of x0 hr (by omega)).trans hy⟩
  · exact ⟨0, by rw [EReal.coe_zero]; exact dif_neg fun h => hr h.1⟩

theorem heads_real {x0 : (⟨S4096x9216, .bf16⟩ : BufTy).Contents (Elt Ideal)} (hf : Finite x0) (b : Fin 2) (p : Fin 8) : (headsOf x0 b p).Real := fun h t s => by
  refine sum_real _ _ fun i _ => ?_
  obtain ⟨u, hu⟩ := entry_real hf (2048 * b.val + t) (128 * p.val + (64 * h + i) % 128) (by omega)
  obtain ⟨v, hv⟩ := entry_real hf (2048 * b.val + s) (1024 + (128 * p.val + (64 * h + i) % 128)) (by omega)
  refine ⟨u * (1 / 8) * v, ?_⟩
  rw [EReal.coe_mul, EReal.coe_mul, ← hu, ← hv, scale_eq]
  rfl

/-- `log σ(z)` is `z` less the softplus. -/
theorem log_sigma (z : ℝ) : -softplus (-(z : EReal)) = z - softplus z := by
  rw [← EReal.coe_neg, softplus_coe, softplus_coe, ← EReal.coe_neg, ← EReal.coe_sub]
  congr 1
  have h1 : 1 + Real.exp (-z) = (1 + Real.exp z) * Real.exp (-z) := by rw [add_mul, one_mul, ← Real.exp_add]; simp [add_comm]
  rw [h1, Real.log_mul (by positivity) (by positivity), Real.log_exp]
  ring

theorem neg_sum (n : ℕ) (f : ℕ → EReal) (hf : ∀ i, ∃ y : ℝ, f i = y) : ∑ i ∈ range n, -f i = -∑ i ∈ range n, f i := by
  induction n with
  | zero => simp
  | succ n ih =>
    obtain ⟨a, ha⟩ := sum_real (range n) f fun i _ => hf i
    obtain ⟨b, hb⟩ := hf n
    rw [Finset.sum_range_succ, Finset.sum_range_succ, ih, ha, hb, ← EReal.coe_neg, ← EReal.coe_neg, ← EReal.coe_add, ← EReal.coe_add, ← EReal.coe_neg]
    congr 1; ring

section
variable {x0} (hf : Finite x0)
include hf

theorem later_at (b : Fin 2) (p : Fin 8) (h : Fin 2) (t s : Fin 2048) :
    (val_main_v23 (F := Ideal) x0 (ix4 b ⟨2 * p.val + h.val, by omega⟩ t s) - val_main_v22 (F := Ideal) x0 (ix4 b ⟨2 * p.val + h.val, by omega⟩ t s) : EReal)
      = -∑ i ∈ range (2047 - s), (headsOf x0 b p).SP h t (s + 1 + i) := by
  have hl : ∀ k : Fin 2048, val_main_v22 (F := Ideal) x0 (ix4 b ⟨2 * p.val + h.val, by omega⟩ t k) = -(headsOf x0 b p).SP h t k := fun k => by
    rw [left_at, ← heads_z, Heads.SP]
    split_ifs
    · rfl
    · exact neg_zero.symm
  have e : (val_main_v23 (F := Ideal) x0 (ix4 b ⟨2 * p.val + h.val, by omega⟩ t s) : EReal) = ∑ i ∈ range (2048 - s), -(headsOf x0 b p).SP h t (s + i) := by
    refine (window_at 0 2047 (val_main_v22 (F := Ideal) x0) (val_main_call3_v0 (F := Ideal)) zero_init
      reduceWindows_S2x16x2048x2048_S2x16x2048x2048_w1s1p0_0_w1s1p0_0_w1s1p0_0_w2048s1p0_2047 h_S_ b ⟨2 * p.val + h.val, by omega⟩ t s).trans ?_
    refine (Finset.sum_congr rfl fun k _ => (?_ : _ = (fun i : ℕ => if s.val + i < 2048 then -(headsOf x0 b p).SP h t (s.val + i) else (0 : EReal)) k.val)).trans ?_
    · by_cases hk : s.val + k.val < 2048
      · rw [dif_pos ⟨Nat.zero_le _, by omega⟩, hl]
        exact (if_pos hk).symm
      · rw [dif_neg (by omega)]
        exact (if_neg hk).symm
    · refine (Fin.sum_univ_eq_sum_range (fun i => if s.val + i < 2048 then -(headsOf x0 b p).SP h t (s.val + i) else (0 : EReal)) 2048).trans ?_
      rw [show range 2048 = range (2048 - s.val + s.val) from congrArg range (by omega), Cert.Proof.Attn.sum_cut,
        Finset.sum_eq_zero (s := range s.val) (fun i _ => if_neg (by omega)), add_zero]
      refine Finset.sum_congr rfl fun i hi => if_pos ?_
      have := Finset.mem_range.1 hi
      omega
  have hr := Heads.sp_real (heads_real hf b p) h t
  rw [e, hl, neg_sum _ _ fun i => hr _, show 2048 - s.val = 2047 - s.val + 1 from by omega, Finset.sum_range_succ']
  obtain ⟨u, hu⟩ := hr s
  obtain ⟨v, hv⟩ := sum_real (range (2047 - s.val)) (fun i => (headsOf x0 b p).SP h t (s + 1 + i)) fun i _ => hr _
  have hv' : ∑ i ∈ range (2047 - s.val), (headsOf x0 b p).SP h t (s + (i + 1)) = v :=
    (Finset.sum_congr rfl fun i _ => by rw [show s.val + (i + 1) = s.val + 1 + i from by omega]).trans hv
  rw [hv', hv, add_zero, hu, ← EReal.coe_add, ← EReal.coe_neg, ← EReal.coe_neg, ← EReal.coe_sub, ← EReal.coe_neg]
  congr 1; ring

theorem heads_a (b : Fin 2) (p : Fin 8) (h : Fin 2) (t s : Fin 2048) :
    (headsOf x0 b p).A h t s = val_main_v27 (F := Ideal) x0 (ix4 b ⟨2 * p.val + h.val, by omega⟩ t s) := by
  rw [weight_at, later_at hf, ← heads_z, Heads.A]
  obtain ⟨z, hz⟩ := heads_real hf b p h t s
  rw [hz, log_sigma, sub_eq_add_neg]

/-- The reference's result, by pairs of heads. -/
theorem out_heads (b : Fin 2) (p : Fin 8) (t : Fin 2048) (c : Fin 128) :
    val_main_v33 (F := Ideal) x0 (ix2 ⟨2048 * b.val + t.val, by omega⟩ ⟨128 * p.val + c.val, by omega⟩)
      = ∑ s ∈ range 2048, (headsOf x0 b p).A (c / 64) t s * (headsOf x0 b p).v s c := by
  have ec : (⟨128 * p.val + c.val, by omega⟩ : Fin 1024) = ⟨64 * (⟨2 * p.val + (⟨c.val / 64, by omega⟩ : Fin 2).val, by simp only; omega⟩ : Fin 16).val + (⟨c.val % 64, by omega⟩ : Fin 64).val, by simp only; omega⟩ :=
    Fin.ext (by simp only; omega)
  rw [ec, out_ref, Finset.sum_range]
  refine Finset.sum_congr rfl fun s _ => ?_
  rw [← heads_a hf, v_ref]
  refine congrArg₂ (· * ·) rfl (((entry_of x0 (r := 2048 * b.val + s.val) (c := 2048 + (128 * p.val + c.val % 128)) (by omega) (by omega)).trans ?_).symm)
  congr 1; congr 1; apply Fin.ext; simp only; omega

end

end Cert.Proof.Attend

end
-- ==== Proof.Attend.Final.lean ====
/-
  The blocks a grid point's windows hold, at coordinates, and the output array after the launch: what the reference computes.
-/
module

public import proofs.«01_k».proof.Defs
public import proofs.«01_k».proof.Proof.Gen.Pre_finite_q_k
public import proofs.«01_k».proof.Proof.Attend.Launch
public import proofs.«01_k».proof.Proof.Attend.Ref
public import proofs.«01_k».proof.Proof.Final
public import Idealize.ShloMosaic.Lib.Pipeline.ValueKit.Geometry
public import Idealize.ShloMosaic.Lib.Pointwise

@[expose] public section

set_option maxRecDepth 20000

noncomputable section

namespace Cert.Proof.Attend

open Cert.AttendIdeal Cert.AttendIdeal.Gen
open Idealize.ShloMosaic Idealize.ShloMosaic.TcCoe Idealize.SL.Sem
open Idealize.ShloMosaic.Pipeline (Dat)
open Cert.AttendReferenceIdeal.Read (val_main_v33 val_main_v33_eq)
open Cert.Proof.Attn (entry entry_of ix2_of real_of_abs)

variable (m : (ℓ : Loc nD τ sig) → Buf (Elt Ideal) ℓ)

/-- The point's batch and pair of heads. -/
abbrev bOf (t : Fin cfg0.N) : Fin 2 := grid0.coords t 0
abbrev pOf (t : Fin cfg0.N) : Fin 8 := grid0.coords t 1

theorem at0 : ∀ t : Fin cfg0.N, win0_0.index t = ![(bOf t).val, (pOf t).val] := (by decide +kernel : ∀ t : Fin grid0.N, _)
theorem at1 : ∀ t : Fin cfg0.N, win0_1.index t = ![(bOf t).val, 8 + (pOf t).val] := (by decide +kernel : ∀ t : Fin grid0.N, _)
theorem at2 : ∀ t : Fin cfg0.N, win0_2.index t = ![(bOf t).val, 16 + (pOf t).val] := (by decide +kernel : ∀ t : Fin grid0.N, _)
theorem at3 : ∀ t : Fin cfg0.N, win0_3.index t = ![(bOf t).val, (pOf t).val] := (by decide +kernel : ∀ t : Fin grid0.N, _)

theorem place0 (t : Fin cfg0.N) (r : Fin 2048) (l : Fin 128) :
    (win0_0.blk t).view.emb (ix2 r l) = (ix2 ⟨2048 * (bOf t).val + r.val, by omega⟩ ⟨128 * (pOf t).val + l.val, by omega⟩ : (⟨2, ![4096, 9216]⟩ : Shape).Idx) := by
  blk_ext [at0]

theorem place1 (t : Fin cfg0.N) (r : Fin 2048) (l : Fin 128) :
    (win0_1.blk t).view.emb (ix2 r l) = (ix2 ⟨2048 * (bOf t).val + r.val, by omega⟩ ⟨1024 + (128 * (pOf t).val + l.val), by omega⟩ : (⟨2, ![4096, 9216]⟩ : Shape).Idx) := by
  blk_ext [at1]

theorem place2 (t : Fin cfg0.N) (r : Fin 2048) (l : Fin 128) :
    (win0_2.blk t).view.emb (ix2 r l) = (ix2 ⟨2048 * (bOf t).val + r.val, by omega⟩ ⟨2048 + (128 * (pOf t).val + l.val), by omega⟩ : (⟨2, ![4096, 9216]⟩ : Shape).Idx) := by
  blk_ext [at2]

theorem place3 (t : Fin cfg0.N) (r : Fin 2048) (l : Fin 128) :
    (win0_3.blk t).view.emb (ix2 r l) = (ix2 ⟨2048 * (bOf t).val + r.val, by omega⟩ ⟨128 * (pOf t).val + l.val, by omega⟩ : (⟨2, ![4096, 1024]⟩ : Shape).Idx) := by
  blk_ext [at3]

/-! A window's block, read off the array it is cut from. -/

theorem read0 (X : FVec Ideal ⟨2, ![4096, 9216]⟩ .bf16) (t : Fin cfg0.N) (r : Fin 2048) (l : Fin 128) :
    (win0_0.blk t).view.read (Elt Ideal) X (ix2 r l) = X (ix2 ⟨2048 * (bOf t).val + r.val, by omega⟩ ⟨128 * (pOf t).val + l.val, by omega⟩) :=
  congrArg X (place0 t r l)

theorem block0 (c : Dev nD) (t : Fin cfg0.N) : iblk m c 0 t = (win0_0.blk t).view.read (Elt Ideal) (m ((c : Thread nD τ).loc main_arg0)) :=
  congrArg (fun z => (win0_0.blk t).view.read (Elt Ideal) z) (V_main_arg0 m c)

theorem read1 (X : FVec Ideal ⟨2, ![4096, 9216]⟩ .bf16) (t : Fin cfg0.N) (r : Fin 2048) (l : Fin 128) :
    (win0_1.blk t).view.read (Elt Ideal) X (ix2 r l) = X (ix2 ⟨2048 * (bOf t).val + r.val, by omega⟩ ⟨1024 + (128 * (pOf t).val + l.val), by omega⟩) :=
  congrArg X (place1 t r l)

theorem block1 (c : Dev nD) (t : Fin cfg0.N) : iblk m c 1 t = (win0_1.blk t).view.read (Elt Ideal) (m ((c : Thread nD τ).loc main_arg0)) :=
  congrArg (fun z => (win0_1.blk t).view.read (Elt Ideal) z) (V_main_arg0 m c)

theorem read2 (X : FVec Ideal ⟨2, ![4096, 9216]⟩ .bf16) (t : Fin cfg0.N) (r : Fin 2048) (l : Fin 128) :
    (win0_2.blk t).view.read (Elt Ideal) X (ix2 r l) = X (ix2 ⟨2048 * (bOf t).val + r.val, by omega⟩ ⟨2048 + (128 * (pOf t).val + l.val), by omega⟩) :=
  congrArg X (place2 t r l)

theorem block2 (c : Dev nD) (t : Fin cfg0.N) : iblk m c 2 t = (win0_2.blk t).view.read (Elt Ideal) (m ((c : Thread nD τ).loc main_arg0)) :=
  congrArg (fun z => (win0_2.blk t).view.read (Elt Ideal) z) (V_main_arg0 m c)

/-- The operand blocks of a point hold the rows of its pair of heads. -/
theorem windows_at (c : Dev nD) (t : Fin cfg0.N) :
    Windows (iblk m c 0 t) (iblk m c 1 t) (iblk m c 2 t) (headsOf (m ((c : Thread nD τ).loc main_arg0)) (bOf t) (pOf t)) where
  q r l := by
    rw [block0, read0]
    refine ((entry_of _ (r := 2048 * (bOf t).val + r.val) (c := 128 * (pOf t).val + l.val % 128) (by omega) (by omega)).trans ?_).symm
    congr 1; congr 1; apply Fin.ext; simp only; omega
  k r l := by
    rw [block1, read1]
    refine ((entry_of _ (r := 2048 * (bOf t).val + r.val) (c := 1024 + (128 * (pOf t).val + l.val % 128)) (by omega) (by omega)).trans ?_).symm
    congr 1; congr 1; apply Fin.ext; simp only; omega
  v r l := by
    rw [block2, read2]
    refine ((entry_of _ (r := 2048 * (bOf t).val + r.val) (c := 2048 + (128 * (pOf t).val + l.val % 128)) (by omega) (by omega)).trans ?_).symm
    congr 1; congr 1; apply Fin.ext; simp only; omega

/-- What the body leaves at a point is the reference's output at the rows and columns of the point's pair of heads. -/
theorem point_o (c : Dev nD) (hf : Finite (m ((c : Thread nD τ).loc main_arg0))) (t : Fin cfg0.N) (r : Fin 2048) (l : Fin 128) :
    outO (iblk m c 0 t) (iblk m c 1 t) (iblk m c 2 t) (ix2 r l)
      = val_main_v33 (F := Ideal) (m ((c : Thread nD τ).loc main_arg0)) (ix2 ⟨2048 * (bOf t).val + r.val, by omega⟩ ⟨128 * (pOf t).val + l.val, by omega⟩) :=
  (outO_at (windows_at m c t) (heads_real hf (bOf t) (pOf t)) r l).trans (out_heads hf (bOf t) (pOf t) r l).symm

theorem final_o (c : Dev nD) (hf : Finite (m ((c : Thread nD τ).loc main_arg0))) :
    (dats m 0 c).arrAt 3 cfg0.N = val_main_v33 (F := Ideal) (m ((c : Thread nD τ).loc main_arg0)) := by
  refine (dats m 0 c).arrAt_eq_of_covers 3 _ (by decide +kernel) fun t _ y => ?_
  rw [after0_3]
  obtain ⟨r, l, rfl⟩ := ix2_of (a := 2048) (b := 128) y
  exact (point_o m c hf t r l).trans (congrArg _ (place3 t r l)).symm

/-- The precondition says the queries and the keys are real. -/
theorem finite_of (x0 : FVec Ideal ⟨2, ![4096, 9216]⟩ .bf16) (h : Cert.Pre_finite_q_k.fn (F := Ideal) x0 = fun _ => 1#1) : Finite x0 := by
  have top : Ideal.ofBits .f32 0x7F800000#32 = ⊤ := by simp [Ideal.ofBits, Ideal.ieee]
  intro r c
  have h := congrFun h (ix2 r c)
  simp only [Cert.Pre_finite_q_k.fn] at h
  pointwise at h
  rw [top] at h
  have lt : ∀ p : Prop, ∀ _ : Decidable p, BitVec.ofBool (decide p) = 1#1 → p := fun p _ e => by
    by_contra hp
    simp [hp] at e
  exact real_of_abs (lt _ _ h)

theorem frame_ideal : Cert.quiescent_AttendIdeal := fun m g _ => run_frame m g

theorem frame_ideal_finite : Cert.quiescent_AttendIdeal_pre_finite_q_k := fun m g _ => run_frame m g

theorem frame_reference : Cert.quiescent_AttendReferenceIdeal := fun m g _ =>
  (θ_run Cert.AttendReferenceIdeal.defs _ _).mono
    (fun r h => ⟨fun c => (h c).2, sem_eq_zero_of_no_sems (by decide) r.2⟩)
    (Cert.AttendReferenceIdeal.Value.run (F := Ideal) m g)

theorem frame_reference_finite : Cert.quiescent_AttendReferenceIdeal_pre_finite_q_k := fun m g _ => frame_reference m g trivial

/-- The launch computes the reference's attention. -/
theorem value : Cert.algebraic_AttendIdeal_AttendReferenceIdeal_pre_finite_q_k := by
  intro m g m' g' hpre hin
  refine ⟨fun c => val_main_v33 (F := Ideal) (m ((c.tc : Thread nD τ).loc main_arg0)), ?_, ?_⟩
  · refine (θ_run Cert.AttendIdeal.defs _ _).mono (fun r h c => ?_) (θ_run_and (run_output m g) (run_frame m g))
    exact ⟨(h.1 c).trans (final_o m c (finite_of _ (hpre c))), h.2.1 c⟩
  · refine (θ_run Cert.AttendReferenceIdeal.defs _ _).mono (fun r h c => ?_) (Cert.AttendReferenceIdeal.Value.run (F := Ideal) m' g')
    obtain ⟨h0, h1⟩ := h c
    exact ⟨h0.trans ((val_main_v33_eq _ _).trans (congrArg (val_main_v33 (F := Ideal)) (hin c))), h1⟩

end Cert.Proof.Attend

end
-- ==== Proof.Attend.BitsWalk.lean ====
/-
  The stretches of one query block, nothing said of the values: each runs from buffers at anything to buffers at anything.
-/
module

public import proofs.«01_k».proof.Proof.Attend.BitsOffsets
public import Idealize.ShloMosaic.Lib.Exec
public import Idealize.ShloMosaic.Lib.Tactic.Stretches
public import proofs.«01_k».proof.Proof.Gen.Attend.Frame

@[expose] public section

set_option maxRecDepth 20000

noncomputable section

namespace Cert.Proof.AttendBits

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords)
  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x1x36x512x256 .bf16) (harg6 : arg6.IsWhole) (arg7 : Memref sig .tc .vmem S1x1x36x512x256 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S4x512x256 .f32) (harg13 : arg13.IsWhole) (arg14 : Memref sig .tc .vmem S2x512x256 .bf16) (harg14 : arg14.IsWhole) (arg15 : Memref sig .tc .vmem S256x128 .f32) (harg15 : arg15.IsWhole) (arg16 : Memref sig .tc .vmem S512x1 .f32) (harg16 : arg16.IsWhole)

/-- The outputs and the scratch, at anything. -/
def anyBufs : sProp 𝕄 :=
  iprop((∃ d, owns (c : Thread nD τ) arg5 fullShare d) ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d) ∗ (∃ d, owns (c : Thread nD τ) arg16 fullShare d))

/-- A program after another: the second runs from what the first leaves. -/
theorem wp_then {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h : P ⊢ wp frame (wpE (defs₀ (F := F)) Variants.none c none) Set.univ p Φ) (hk : ∀ v, Φ v ⊢ wp frame (wpE (defs₀ (F := F)) Variants.none c none) Set.univ (k v) Q) :
    P ⊢ wp frame (wpE (defs₀ (F := F)) Variants.none c none) Set.univ (p >>= k) Q := by
  rw [wp_bind]
  iintro H
  iapply (wp_wand_r frame (wpE (defs₀ (F := F)) Variants.none c none) Set.univ)
  isplitl [H]
  · iapply h; iexact H
  iintro %v H
  iapply (hk v); iexact H

/-- A program run beside something it does not touch. -/
theorem wp_beside {α : Type} {p : Prog (TpuEff nD τ sig (Elt F) Λ₀ .tc) α} {P R : sProp 𝕄} {Φ : α → sProp 𝕄}
    (h : P ⊢ wp frame (wpE (defs₀ (F := F)) Variants.none c none) Set.univ p Φ) :
    iprop(P ∗ R) ⊢ wp frame (wpE (defs₀ (F := F)) Variants.none c none) Set.univ p (fun v => iprop(Φ v ∗ R)) := by
  iintro ⟨HP, HR⟩
  iapply (wp_wand_r frame (wpE (defs₀ (F := F)) Variants.none c none) Set.univ)
  isplitl [HP]
  · iapply h; iexact HP
  iintro %v H
  isplitl [H]; · iexact H
  iexact HR

set_option maxHeartbeats 2000000 in
/-- One trip of the pair loop. -/
theorem trip_pair (u : FVec F S512x256 .bf16) (B B' : FVec F S512x128 .bf16) (x : FVec F S512x256 .f32) (q : Fin k0_t1_loop.trips) (w17 w91 w166 acc : BitVec 32)
    (k : Fin (k0_t2_loop q).trips) :
    anyBufs (F := F) c arg5 arg6 arg7 arg8 arg9 arg10 arg11 arg12 arg13 arg14 arg15 arg16
      ⊢ wp frame (wpE (defs₀ (F := F)) Variants.none c none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x k acc) (fun _ => anyBufs (F := F) c arg5 arg6 arg7 arg8 arg9 arg10 arg11 arg12 arg13 arg14 arg15 arg16) := by
  unfold anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  unfold k0_t2_body
  dsimp only
  sl_exec
  sl_step
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

/-- The pair loop. -/
theorem wp_pairs (u : FVec F S512x256 .bf16) (B B' : FVec F S512x128 .bf16) (x : FVec F S512x256 .f32) (q : Fin k0_t1_loop.trips) (w17 w91 w166 init : BitVec 32) :
    anyBufs (F := F) c arg5 arg6 arg7 arg8 arg9 arg10 arg11 arg12 arg13 arg14 arg15 arg16
      ⊢ wp frame (wpE (defs₀ (F := F)) Variants.none c none) Set.univ
          (Scf.Loop.for (k0_t2_loop q) (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x)) (fun _ => anyBufs (F := F) c arg5 arg6 arg7 arg8 arg9 arg10 arg11 arg12 arg13 arg14 arg15 arg16) := by
  have h := Scf.wp_for (Fr := frame) (wpE := wpE (defs₀ (F := F)) Variants.none c none) (Es := Set.univ) (k0_t2_loop q).lb (k0_t2_loop q).ub
    (k0_t2_loop q).st (k0_t2_ok q) init (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x)
    (fun _ _ => anyBufs (F := F) c arg5 arg6 arg7 arg8 arg9 arg10 arg11 arg12 arg13 arg14 arg15 arg16)
    (fun k acc => trip_pair c i arg2 harg2 arg3 harg3 arg4 harg4 arg5 harg5 arg6 harg6 arg7 harg7 arg8 harg8 arg9 harg9 arg10 harg10 arg11 harg11 arg12 harg12 arg13 harg13 arg14 harg14 arg15 harg15 arg16 harg16 u B B' x q w17 w91 w166 acc k)
    (Q := fun _ => anyBufs (F := F) c arg5 arg6 arg7 arg8 arg9 arg10 arg11 arg12 arg13 arg14 arg15 arg16)
  refine BIBase.Entails.trans ?_ h
  iintro H
  isplitl [H]; · iexact H
  iintro %acc H
  iexact H

/-- The loop over what the pair loop leaves over, which is nothing. -/
theorem wp_rest (P : sProp 𝕄) (u : FVec F S512x256 .bf16) (B B' : FVec F S512x128 .bf16) (x : FVec F S512x256 .f32) (q : Fin k0_t1_loop.trips) (w17 w91 w166 w214 init : BitVec 32) :
    P ⊢ wp frame (wpE (defs₀ (F := F)) Variants.none c none) Set.univ
          (Scf.Loop.for (k0_t3_loop q) (k0_t3_ok q) init (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x w214)) (fun _ => P) := by
  have h := Scf.wp_for (Fr := frame) (wpE := wpE (defs₀ (F := F)) Variants.none c none) (Es := Set.univ) (k0_t3_loop q).lb (k0_t3_loop q).ub
    (k0_t3_loop q).st (k0_t3_ok q) init (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x w214)
    (fun _ _ => P)
    (fun k acc => absurd k.isLt (by have := trips_rest q; unfold Scf.Loop.trips at this; omega))
    (Q := fun _ => P)
  refine BIBase.Entails.trans ?_ h
  iintro H
  isplitl [H]; · iexact H
  iintro %acc H
  iexact H

set_option maxHeartbeats 2000000 in
/-- The block's queries, and the score slot carried over from the block before. -/
theorem wp_part11 (q : Fin k0_t1_loop.trips) (w1 w2 : BitVec 32) :
    anyBufs (F := F) c arg5 arg6 arg7 arg8 arg9 arg10 arg11 arg12 arg13 arg14 arg15 arg16
      ⊢ wp frame (wpE (defs₀ (F := F)) Variants.none c none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 w1 w2 q) (fun _ => anyBufs (F := F) c arg5 arg6 arg7 arg8 arg9 arg10 arg11 arg12 arg13 arg14 arg15 arg16) := by
  rw [k0_part11_eq_skeleton]
  unfold k0_part11_skel anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  dsimp only
  sl_exec
  sl_step
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

set_option maxHeartbeats 2000000 in
/-- The diagonal tile's weights; the accumulators restarted. -/
theorem wp_part12 (tri : IVec S512x256 1) (u : FVec F S512x256 .bf16) (w17 w91 : BitVec 32) (x : FVec F S512x1 .f32) :
    anyBufs (F := F) c arg5 arg6 arg7 arg8 arg9 arg10 arg11 arg12 arg13 arg14 arg15 arg16
      ⊢ wp frame (wpE (defs₀ (F := F)) Variants.none c none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 tri u w17 w91 x) (fun _ => anyBufs (F := F) c arg5 arg6 arg7 arg8 arg9 arg10 arg11 arg12 arg13 arg14 arg15 arg16) := by
  rw [k0_part12_eq_skeleton]
  unfold k0_part12_skel anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  dsimp only
  sl_exec
  sl_step
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

set_option maxHeartbeats 2000000 in
/-- The diagonal tile's outputs stored; the running sum over it. -/
theorem wp_part13 (q : Fin k0_t1_loop.trips) (w17 w112 : BitVec 32) (x : Vec F S512x1 .f32) (x1 x2 x3 : FVec F S512x256 .f32) (x4 : FVec F S512x256 .bf16) (x5 : FVec F S1x512x256 .bf16) :
    anyBufs (F := F) c arg5 arg6 arg7 arg8 arg9 arg10 arg11 arg12 arg13 arg14 arg15 arg16
      ⊢ wp frame (wpE (defs₀ (F := F)) Variants.none c none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 q w17 w112 x x1 x2 x3 x4 x5) (fun _ => anyBufs (F := F) c arg5 arg6 arg7 arg8 arg9 arg10 arg11 arg12 arg13 arg14 arg15 arg16) := by
  rw [k0_part13_eq_skeleton]
  unfold k0_part13_skel anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  dsimp only
  sl_exec
  sl_step
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

set_option maxHeartbeats 2000000 in
/-- The scores of the next block's first two tiles, and the pair loop. -/
theorem wp_part14 (u : FVec F S512x256 .bf16) (B B' : FVec F S512x128 .bf16) (x : FVec F S512x256 .f32) (q : Fin k0_t1_loop.trips) (w17 w91 w166 : BitVec 32) :
    anyBufs (F := F) c arg5 arg6 arg7 arg8 arg9 arg10 arg11 arg12 arg13 arg14 arg15 arg16
      ⊢ wp frame (wpE (defs₀ (F := F)) Variants.none c none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 u q w17 w91 B w166 B' x) (fun _ => anyBufs (F := F) c arg5 arg6 arg7 arg8 arg9 arg10 arg11 arg12 arg13 arg14 arg15 arg16) := by
  rw [k0_part14_eq_skeleton]
  unfold k0_part14_skel
  generalize hQ : (fun _ : (Σ' (_ : BitVec 32), BitVec 1) => anyBufs (F := F) c arg5 arg6 arg7 arg8 arg9 arg10 arg11 arg12 arg13 arg14 arg15 arg16) = Q
  unfold anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  dsimp only
  sl_exec
  iapply (wp_then c (Φ := fun _ => anyBufs (F := F) c arg5 arg6 arg7 arg8 arg9 arg10 arg11 arg12 arg13 arg14 arg15 arg16) (wp_pairs c i arg2 harg2 arg3 harg3 arg4 harg4 arg5 harg5 arg6 harg6 arg7 harg7 arg8 harg8 arg9 harg9 arg10 harg10 arg11 harg11 arg12 harg12 arg13 harg13 arg14 harg14 arg15 harg15 arg16 harg16 u B B' x q w17 w91 w166 0#32) fun w => ?_)
  · refine wp_then c (wp_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 _ u B B' x q w17 w91 w166 _ w) fun w' => ?_
    iintro HP
    sl_exec
    sl_step
    subst hQ
    iexact HP
  unfold anyBufs owns
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

set_option maxHeartbeats 4000000 in
/-- One query block. -/
theorem trip_qblock (tri : IVec S512x256 1) (u : FVec F S512x256 .bf16) (q : Fin k0_t1_loop.trips) :
    anyBufs (F := F) c arg5 arg6 arg7 arg8 arg9 arg10 arg11 arg12 arg13 arg14 arg15 arg16
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 tri u q ()) (fun _ => anyBufs (F := F) c arg5 arg6 arg7 arg8 arg9 arg10 arg11 arg12 arg13 arg14 arg15 arg16) := by
  unfold k0_t1_body
  dsimp only
  refine wp_then c (wp_part11 c i arg2 harg2 arg3 harg3 arg4 harg4 arg5 harg5 arg6 harg6 arg7 harg7 arg8 harg8 arg9 harg9 arg10 harg10 arg11 harg11 arg12 harg12 arg13 harg13 arg14 harg14 arg15 harg15 arg16 harg16 q 0#32 1#32) fun r => ?_
  obtain ⟨w17, w72, w91, x0, x1⟩ := r
  dsimp only
  refine wp_then c (wp_part12 c i arg2 harg2 arg3 harg3 arg4 harg4 arg5 harg5 arg6 harg6 arg7 harg7 arg8 harg8 arg9 harg9 arg10 harg10 arg11 harg11 arg12 harg12 arg13 harg13 arg14 harg14 arg15 harg15 arg16 harg16 tri u w17 w91 x1) fun r => ?_
  obtain ⟨w112, y1, y2, y3, y4, y5, y6⟩ := r
  dsimp only
  refine wp_then c (wp_part13 c i arg2 harg2 arg3 harg3 arg4 harg4 arg5 harg5 arg6 harg6 arg7 harg7 arg8 harg8 arg9 harg9 arg10 harg10 arg11 harg11 arg12 harg12 arg13 harg13 arg14 harg14 arg15 harg15 arg16 harg16 q w17 w112 y1 y2 y3 y4 y5 y6) fun r => ?_
  obtain ⟨w166, z1, z2⟩ := r
  dsimp only
  refine wp_then c (wp_part14 c i arg2 harg2 arg3 harg3 arg4 harg4 arg5 harg5 arg6 harg6 arg7 harg7 arg8 harg8 arg9 harg9 arg10 harg10 arg11 harg11 arg12 harg12 arg13 harg13 arg14 harg14 arg15 harg15 arg16 harg16 u x0 z1 z2 q w17 w91 w166) fun r => ?_
  obtain ⟨w217, w218⟩ := r
  dsimp only
  generalize hQ : (fun _ : Unit => anyBufs (F := F) c arg5 arg6 arg7 arg8 arg9 arg10 arg11 arg12 arg13 arg14 arg15 arg16) = Q
  unfold anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  by_cases hc : k0_cond1 q = 1#1
  · haveI : Fact (k0_cond1 q = 1#1) := ⟨hc⟩
    sl_exec
    sl_step
    subst hQ
    dsimp only
    unfold anyBufs owns
    isplitl [H5]; · iexists _, _; isplitr; swap; iexact H5; ipureintro; rfl
    isplitl [H6]; · iexists _, _; isplitr; swap; iexact H6; ipureintro; rfl
    isplitl [H7]; · iexists _, _; isplitr; swap; iexact H7; ipureintro; rfl
    isplitl [H8]; · iexists _, _; isplitr; swap; iexact H8; ipureintro; rfl
    isplitl [H9]; · iexists _, _; isplitr; swap; iexact H9; ipureintro; rfl
    isplitl [H10]; · iexists _, _; isplitr; swap; iexact H10; ipureintro; rfl
    isplitl [H11]; · iexists _, _; isplitr; swap; iexact H11; ipureintro; rfl
    isplitl [H12]; · iexists _, _; isplitr; swap; iexact H12; ipureintro; rfl
    isplitl [H13]; · iexists _, _; isplitr; swap; iexact H13; ipureintro; rfl
    isplitl [H14]; · iexists _, _; isplitr; swap; iexact H14; ipureintro; rfl
    isplitl [H15]; · iexists _, _; isplitr; swap; iexact H15; ipureintro; rfl
    iexists _, _; isplitr; swap; iexact H16; ipureintro; rfl
  · sl_exec
    sl_step
    subst hQ
    dsimp only
    unfold anyBufs owns
    isplitl [H5]; · iexists _, _; isplitr; swap; iexact H5; ipureintro; rfl
    isplitl [H6]; · iexists _, _; isplitr; swap; iexact H6; ipureintro; rfl
    isplitl [H7]; · iexists _, _; isplitr; swap; iexact H7; ipureintro; rfl
    isplitl [H8]; · iexists _, _; isplitr; swap; iexact H8; ipureintro; rfl
    isplitl [H9]; · iexists _, _; isplitr; swap; iexact H9; ipureintro; rfl
    isplitl [H10]; · iexists _, _; isplitr; swap; iexact H10; ipureintro; rfl
    isplitl [H11]; · iexists _, _; isplitr; swap; iexact H11; ipureintro; rfl
    isplitl [H12]; · iexists _, _; isplitr; swap; iexact H12; ipureintro; rfl
    isplitl [H13]; · iexists _, _; isplitr; swap; iexact H13; ipureintro; rfl
    isplitl [H14]; · iexists _, _; isplitr; swap; iexact H14; ipureintro; rfl
    isplitl [H15]; · iexists _, _; isplitr; swap; iexact H15; ipureintro; rfl
    iexists _, _; isplitr; swap; iexact H16; ipureintro; rfl

/-- The loop over the eight query blocks. -/
theorem wp_qblocks (tri : IVec S512x256 1) (u : FVec F S512x256 .bf16) :
    anyBufs (F := F) c arg5 arg6 arg7 arg8 arg9 arg10 arg11 arg12 arg13 arg14 arg15 arg16
      ⊢ wp frame (wpE (defs₀ (F := F)) Variants.none c none) Set.univ (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 tri u))
          (fun _ => anyBufs (F := F) c arg5 arg6 arg7 arg8 arg9 arg10 arg11 arg12 arg13 arg14 arg15 arg16) := by
  have h := Scf.wp_for (Fr := frame) (wpE := wpE (defs₀ (F := F)) Variants.none c none) (Es := Set.univ) k0_t1_loop.lb k0_t1_loop.ub
    k0_t1_loop.st k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 tri u)
    (fun _ _ => anyBufs (F := F) c arg5 arg6 arg7 arg8 arg9 arg10 arg11 arg12 arg13 arg14 arg15 arg16)
    (fun k _ => trip_qblock c i arg2 harg2 arg3 harg3 arg4 harg4 arg5 harg5 arg6 harg6 arg7 harg7 arg8 harg8 arg9 harg9 arg10 harg10 arg11 harg11 arg12 harg12 arg13 harg13 arg14 harg14 arg15 harg15 arg16 harg16 tri u k)
    (Q := fun _ => anyBufs (F := F) c arg5 arg6 arg7 arg8 arg9 arg10 arg11 arg12 arg13 arg14 arg15 arg16)
  refine BIBase.Entails.trans ?_ h
  iintro H
  isplitl [H]; · iexact H
  iintro %acc H
  iexact H

/-- The operands, at their values. -/
def operandsAt (x2 x3 x4 : Vec F S2048x128 .bf16) : sProp 𝕄 :=
  iprop(owns (c : Thread nD τ) arg2 fullShare x2 ∗ owns (c : Thread nD τ) arg3 fullShare x3 ∗ owns (c : Thread nD τ) arg4 fullShare x4)

set_option maxHeartbeats 2000000 in
/-- The scratch of the queries and keys. -/
theorem wp_part15 (x2 x3 x4 : Vec F S2048x128 .bf16) :
    iprop(anyBufs (F := F) c arg5 arg6 arg7 arg8 arg9 arg10 arg11 arg12 arg13 arg14 arg15 arg16 ∗ operandsAt c arg2 arg3 arg4 x2 x3 x4)
      ⊢ wp frame (wpE (defs₀ (F := F)) Variants.none c none) Set.univ (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(anyBufs (F := F) c arg5 arg6 arg7 arg8 arg9 arg10 arg11 arg12 arg13 arg14 arg15 arg16 ∗ operandsAt c arg2 arg3 arg4 x2 x3 x4)) := by
  rw [k0_part15_eq_skeleton]
  unfold k0_part15_skel anyBufs operandsAt owns
  iintro ⟨⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, ⟨⟨%f2, %h2, H2⟩, ⟨%f3, %h3, H3⟩, ⟨%f4, %h4, H4⟩⟩⟩
  dsimp only
  sl_exec
  sl_step
  isplitr [H2 H3 H4]
  ·
    isplitl [H5]; · iexists _, _; isplitr; swap; iexact H5; ipureintro; rfl
    isplitl [H6]; · iexists _, _; isplitr; swap; iexact H6; ipureintro; rfl
    isplitl [H7]; · iexists _, _; isplitr; swap; iexact H7; ipureintro; rfl
    isplitl [H8]; · iexists _, _; isplitr; swap; iexact H8; ipureintro; rfl
    isplitl [H9]; · iexists _, _; isplitr; swap; iexact H9; ipureintro; rfl
    isplitl [H10]; · iexists _, _; isplitr; swap; iexact H10; ipureintro; rfl
    isplitl [H11]; · iexists _, _; isplitr; swap; iexact H11; ipureintro; rfl
    isplitl [H12]; · iexists _, _; isplitr; swap; iexact H12; ipureintro; rfl
    isplitl [H13]; · iexists _, _; isplitr; swap; iexact H13; ipureintro; rfl
    isplitl [H14]; · iexists _, _; isplitr; swap; iexact H14; ipureintro; rfl
    isplitl [H15]; · iexists _, _; isplitr; swap; iexact H15; ipureintro; rfl
    iexists _, _; isplitr; swap; iexact H16; ipureintro; rfl
  isplitl [H2]; · iexists _; isplitr; swap; iexact H2; ipureintro; exact h2
  isplitl [H3]; · iexists _; isplitr; swap; iexact H3; ipureintro; exact h3
  iexists _; isplitr; swap; iexact H4; ipureintro; exact h4

set_option maxHeartbeats 2000000 in
/-- The scratch of the values; the scores of the first block's diagonal tile. -/
theorem wp_part16 (x5 : IVec S2048x128 1) (x6 x7 x8 : Vec F S2048x128 .bf16) :
    anyBufs (F := F) c arg5 arg6 arg7 arg8 arg9 arg10 arg11 arg12 arg13 arg14 arg15 arg16
      ⊢ wp frame (wpE (defs₀ (F := F)) Variants.none c none) Set.univ (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x5 x6 x7 x8) (fun _ => anyBufs (F := F) c arg5 arg6 arg7 arg8 arg9 arg10 arg11 arg12 arg13 arg14 arg15 arg16) := by
  rw [k0_part16_eq_skeleton]
  unfold k0_part16_skel anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  dsimp only
  sl_exec
  sl_step
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

set_option maxHeartbeats 4000000 in
/-- What follows the filling of the scratch. -/
theorem wp_loops (tri : IVec S512x256 1) (u : FVec F S512x256 .bf16) (x : FVec F S512x256 .f32) :
    anyBufs (F := F) c arg5 arg6 arg7 arg8 arg9 arg10 arg11 arg12 arg13 arg14 arg15 arg16
      ⊢ wp frame (wpE (defs₀ (F := F)) Variants.none c none) Set.univ
          (do
            Prog.lift (.store arg13 (Rect.unit (s := S4x512x256) ![3, 0, 0] S1x512x256.size inb_S4x512x256_S1x512x256_3_0_0) (k0_pay1 x) Finset.univ (View.stores_vmem_bits_univ h_S1x512x256 rfl) (.inl rfl))
            Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 tri u)
            pure ⟨⟩)
          (fun _ : PUnit => anyBufs (F := F) c arg5 arg6 arg7 arg8 arg9 arg10 arg11 arg12 arg13 arg14 arg15 arg16) := by
  generalize hQ : (fun _ : PUnit => anyBufs (F := F) c arg5 arg6 arg7 arg8 arg9 arg10 arg11 arg12 arg13 arg14 arg15 arg16) = Q
  unfold anyBufs owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  sl_exec
  iapply (wp_then c (Φ := fun _ => anyBufs (F := F) c arg5 arg6 arg7 arg8 arg9 arg10 arg11 arg12 arg13 arg14 arg15 arg16) (wp_qblocks c i arg2 harg2 arg3 harg3 arg4 harg4 arg5 harg5 arg6 harg6 arg7 harg7 arg8 harg8 arg9 harg9 arg10 harg10 arg11 harg11 arg12 harg12 arg13 harg13 arg14 harg14 arg15 harg15 arg16 harg16 tri u) fun w => ?_)
  · iintro HP
    sl_step
    subst hQ
    iexact HP
  unfold anyBufs owns
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  isplitl [H14]; · iexists _, _; isplitr; swap; iexact H14; ipureintro; rfl
  isplitl [H15]; · iexists _, _; isplitr; swap; iexact H15; ipureintro; rfl
  iexists _, _; isplitr; swap; iexact H16; ipureintro; rfl

/-- The body: the operands as they were, the outputs and the scratch at anything. -/
theorem wp_body (x2 x3 x4 : Vec F S2048x128 .bf16) :
    iprop(anyBufs (F := F) c arg5 arg6 arg7 arg8 arg9 arg10 arg11 arg12 arg13 arg14 arg15 arg16 ∗ operandsAt c arg2 arg3 arg4 x2 x3 x4)
      ⊢ wp frame (wpE (defs₀ (F := F)) Variants.none c none) Set.univ (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(anyBufs (F := F) c arg5 arg6 arg7 arg8 arg9 arg10 arg11 arg12 arg13 arg14 arg15 arg16 ∗ operandsAt c arg2 arg3 arg4 x2 x3 x4)) := by
  rw [cc0_attn_fwd_eq_skeleton]
  unfold cc0_attn_fwd_skel
  dsimp only
  refine wp_then c (wp_part15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4) fun r => ?_
  obtain ⟨v2, v6, v11, v31, v34, v35⟩ := r
  dsimp only
  refine wp_beside c ?_
  refine wp_then c (wp_part16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v31 v34 v35) fun r => ?_
  exact wp_loops c i arg2 harg2 arg3 harg3 arg4 harg4 arg5 harg5 arg6 harg6 arg7 harg7 arg8 harg8 arg9 harg9 arg10 harg10 arg11 harg11 arg12 harg12 arg13 harg13 arg14 harg14 arg15 harg15 arg16 harg16 v6 v11 r

end Cert.Proof.AttendBits

end
-- ==== Proof.Attend.BitsLaunch.lean ====
/-
  The launch at any float formats: the body's triple at a grid point, the outputs left at anything, and the run of the whole program with
  what it leaves of the argument and its counters.
-/
module

public import proofs.«01_k».proof.Proof.Attend.BitsWalk
public import proofs.«01_k».proof.Proof.Gen.Attend.Frame
public import Idealize.ShloMosaic.Lib.Claim

@[expose] public section

set_option maxRecDepth 20000

noncomputable section

namespace Cert.Proof.AttendBits

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- After the body at point `t`: each operand's window at its block. The query, key and value operands are windows of one array, so they hold
    their shares of it. What the output windows hold is not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q w := Pipeline.shareOf spec0 w
  owed _ := 0

/-- The windows nothing is said of. -/
def fgt : Fin cfg0.W → Bool := ![false, false, false, true, true, true]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d))

/-- The scratch, at anything. -/
def scratchAny (c : Dev nD) : sProp 𝕄 :=
  iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ d, owns (c : Thread nD τ) (Memref.whole cc0_scratch6) fullShare d)
    ∗ (∃ d, owns (c : Thread nD τ) (Memref.whole cc0_scratch7) fullShare d)
    ∗ (∃ d, owns (c : Thread nD τ) (Memref.whole cc0_scratch8) fullShare d))

/-- The region's invariant is the scratch at anything, and the generator register. -/
theorem scratch_eq (c : Dev nD) : (Pipeline.ΦA (Val := Elt F) (U := UR sig nD τ) spec0 c : sProp 𝕄)
    = iprop(scratchAny (F := F) c ∗ ∃ r, prngReg c r) := by
  unfold Pipeline.ΦA scratchAny
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, scratch_eq]
  unfold scratchAny
  iintro ⟨⟨⟨K0, K1, K2, K3, K4, K5, K6, K7, K8⟩, HG⟩, Ho, ⟨%d0, H0⟩, ⟨%d1, H1⟩, ⟨%d2, H2⟩, H3, H4, H5⟩
  iapply (wp_wand_r frame (wpE (defs₀ (F := F)) Variants.none c none) Set.univ)
  isplitl [H0 H1 H2 H3 H4 H5 K0 K1 K2 K3 K4 K5 K6 K7 K8]
  · iapply (wp_body (F := F) c (grid0.coords t) _ _ _ _ _ _ _ _ _ _ _ _ _ _ _ _ _ _ _ _ _ _ _ _ _ _ _ _ _ _ (iblk m c 0 t) (iblk m c 1 t) (iblk m c 2 t))
    unfold anyBufs operandsAt
    isplitr [H0 H1 H2]
    · isplitl [H3]; · iexact H3
      isplitl [H4]; · iexact H4
      isplitl [H5]; · iexact H5
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      iexact K8
    isplitl [H0]; · iexact H0
    isplitl [H1]; · iexact H1
    iexact H2
  unfold anyBufs operandsAt
  iintro %w ⟨⟨H3, H4, H5, K0, K1, K2, K3, K4, K5, K6, K7, K8⟩, ⟨H0, H1, H2⟩⟩
  isplitl [HG K0 K1 K2 K3 K4 K5 K6 K7 K8]
  · isplitr [HG]; swap
    · iexact HG
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    iexact K8
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- The program from any memory with zero counters: it terminates, and at the end the argument is as it was, with zero counters. -/
theorem run_quiescent : θ_run defs (onTc (τ := τ) (main (F := F))) (s₀ m ρ) (fun r => (RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun c w _ => rfl)
    (howed := fun _ _ => rfl) (V := V m) (hmain := hmain m Variants.none) (hA := A_eq m) (hΦ := fun _ _ => rfl)

/-- The run with what it leaves of the argument, and its counters. -/
theorem run_frame : θ_run defs (onTc (τ := τ) (main (F := F))) (s₀ m ρ)
    (fun r => (∀ c : Dev nD, r.2.mem ((c : Thread nD τ).loc main_arg0) = m ((c : Thread nD τ).loc main_arg0)) ∧ r.2.sem = fun _ => 0) :=
  (θ_run defs _ _).mono (fun _ h => ⟨fun c => ((Dat.toRForget_arrAt_iff (dats m 0 c) (fgt := fgt) (w := 2) rfl cfg0.N _).mp ((h.1 c).1 2)).trans
    (((dats m 0 c).arrAt_in 2 rfl _).trans ((A_eq m c 2).trans (V_main_arg0 m c))), h.2⟩) (run_quiescent m ρ)

end Cert.Proof.AttendBits

end
-- ==== Proof.Split.lean ====
/-
  A sum taken in two parts, and small facts the products share.
-/
module

public import Idealize.ShloMosaic.Lib.Pipeline.ValueKit.Geometry
public import Idealize.ShloMosaic.Lib.Pointwise

@[expose] public section

noncomputable section

namespace Cert.Proof

open Idealize.ShloMosaic

theorem origin : (![0, 0] : Fin 2 → Nat) = fun _ => 0 := funext fun a => by fin_cases a <;> rfl

theorem pair_of {a b : ℕ} (y : (⟨2, ![a, b]⟩ : Shape).Idx) : ∃ (r : Fin a) (l : Fin b), y = ix2 r l :=
  ⟨y 0, y 1, by funext k; fin_cases k <;> rfl⟩

/-- The first `a` terms, then the remaining `b`. -/
theorem sum_split {n : ℕ} (a b : ℕ) (h : a + b = n) (f : Fin n → EReal) :
    ∑ k, f k = ∑ k : Fin a, f ⟨k.val, by omega⟩ + ∑ k : Fin b, f ⟨a + k.val, by omega⟩ := by
  subst h
  exact Fin.sum_univ_add f

end Cert.Proof

end
-- ==== Proof.HiddenGrad.lean ====
/-
  The gradient of the hidden states through the input projection: four grid points share a block of 1024 rows. Each takes a quarter of the 9216
  columns of the main cotangent, the first leaves its sum in a scratch, the others add theirs, and the last also adds the products of the gate's
  2048 columns and of the step size's 32 columns, which the host lays among 96 columns of zeros. What the launch leaves is the product of the three
  cotangents, side by side, with the whole of the weights.
-/
module

public import proofs.«01_k».proof.Defs
public import proofs.«01_k».proof.Proof.Gen.Hidden
public import proofs.«01_k».proof.Proof.Gen.HiddenIdeal.Value
public import proofs.«01_k».proof.Proof.Gen.HiddenReferenceIdeal.Run
public import proofs.«01_k».proof.Proof.Gen.HiddenReferenceIdeal.Read
public import Idealize.ShloMosaic.Lib.StableHlo.RunRead
public import proofs.«01_k».proof.Proof.Split

@[expose] public section

set_option maxRecDepth 20000

noncomputable section

namespace Cert.Proof.HiddenGrad

open Cert.HiddenIdeal Cert.HiddenIdeal.Gen
open Idealize.ShloMosaic Idealize.ShloMosaic.TcCoe Idealize.SL.Sem
open Idealize.ShloMosaic.Pipeline (Dat)
open Cert.HiddenReferenceIdeal.Read

section Body

variable {F : FTy → Type} [FloatOps F] (c : Dev nD) (i : grid0.Coords)
  (a3 : Memref sig .tc .vmem S1024x2304 .bf16) (h3 : a3.IsWhole) (a4 : Memref sig .tc .vmem S2304x1024 .bf16) (h4 : a4.IsWhole)
  (a5 : Memref sig .tc .vmem S1024x2048 .bf16) (h5 : a5.IsWhole) (a6 : Memref sig .tc .vmem S2048x1024 .bf16) (h6 : a6.IsWhole)
  (a7 : Memref sig .tc .vmem S1024x128 .bf16) (h7 : a7.IsWhole) (a8 : Memref sig .tc .vmem S128x1024 .bf16) (h8 : a8.IsWhole)
  (a9 : Memref sig .tc .vmem S1024x1024 .f32) (h9 : a9.IsWhole) (a10 : Memref sig .tc .vmem S1024x1024 .f32) (h10 : a10.IsWhole)
  (x : Vec F S1024x2304 .bf16) (w : Vec F S2304x1024 .bf16) (xg : Vec F S1024x2048 .bf16) (wg : Vec F S2048x1024 .bf16)
  (xd : Vec F S1024x128 .bf16) (wd : Vec F S128x1024 .bf16) (s : Vec F S1024x1024 .f32)

/-- The first point of a block leaves its product in the scratch. -/
theorem first_eq (hc0 : cond0_0 i) (hc1 : ¬cond0_1 i) (hc2 : ¬cond0_2 i) :
    sout0_A_0 c i a3 h3 a4 h4 a5 h5 a6 h6 a7 h7 a8 h8 a9 h9 a10 h10 hc0 hc1 hc2 x w xg wg xd wd = k0_pay1 x w := by
  unfold sout0_A_0
  rw [View.read_writes_eq_canon _ _ _ (scover0_A_0 c i a3 h3 a4 h4 a5 h5 a6 h6 a7 h7 a8 h8 a9 h9 a10 h10 hc0 hc1 hc2 x w xg wg xd wd)]
  unfold kernelRun0_A
  dsimp only
  rw [View.canon_unit_zero origin]
  simp only [View.readAt_eq_ld, h3.read_unread, h4.read_unread, View.ld_unit_zero (S := S1024x2304) origin, View.ld_unit_zero (S := S2304x1024) origin]

/-- The second and third add theirs. -/
theorem next_eq (hc0 : ¬cond0_0 i) (hc1 : cond0_1 i) (hc2 : ¬cond0_2 i) :
    sout0_B_0 c i a3 h3 a4 h4 a5 h5 a6 h6 a7 h7 a8 h8 a9 h9 a10 h10 hc0 hc1 hc2 x w xg wg xd wd s = k0_pay2 s x w := by
  unfold sout0_B_0
  rw [View.read_writes_eq_canon _ _ _ (scover0_B_0 c i a3 h3 a4 h4 a5 h5 a6 h6 a7 h7 a8 h8 a9 h9 a10 h10 hc0 hc1 hc2 x w xg wg xd wd s)]
  unfold kernelRun0_B
  dsimp only
  rw [View.canon_unit_zero origin]
  simp only [View.readAt_eq_ld, h3.read_unread, h4.read_unread, h10.read_unread, View.ld_unit_zero (S := S1024x2304) origin,
    View.ld_unit_zero (S := S2304x1024) origin, View.ld_unit_zero (S := S1024x1024) origin]

/-- The last adds its own and the other two products, and stores the sum. -/
theorem last_eq (hc0 : ¬cond0_0 i) (hc1 : ¬cond0_1 i) (hc2 : cond0_2 i) :
    out0_C_6 c i a3 h3 a4 h4 a5 h5 a6 h6 a7 h7 a8 h8 a9 h9 a10 h10 hc0 hc1 hc2 x w xg wg xd wd s = k0_pay3 s x w xg wg xd wd := by
  unfold out0_C_6
  rw [View.read_writes_eq_canon _ _ _ (cover0_C_6 c i a3 h3 a4 h4 a5 h5 a6 h6 a7 h7 a8 h8 a9 h9 a10 h10 hc0 hc1 hc2 x w xg wg xd wd s)]
  unfold kernelRun0_C
  dsimp only
  rw [View.canon_unit_zero origin]
  simp only [View.readAt_eq_ld, h3.read_unread, h4.read_unread, h5.read_unread, h6.read_unread, h7.read_unread, h8.read_unread, h10.read_unread,
    View.ld_unit_zero (S := S1024x2304) origin, View.ld_unit_zero (S := S2304x1024) origin, View.ld_unit_zero (S := S1024x2048) origin,
    View.ld_unit_zero (S := S2048x1024) origin, View.ld_unit_zero (S := S1024x128) origin, View.ld_unit_zero (S := S128x1024) origin,
    View.ld_unit_zero (S := S1024x1024) origin]

end Body

theorem pay1_at (x : Vec Ideal S1024x2304 .bf16) (w : Vec Ideal S2304x1024 .bf16) (r l : Fin 1024) :
    k0_pay1 x w (ix2 r l) = ∑ k : Fin 2304, x (ix2 r k) * w (ix2 k l) := by
  unfold k0_pay1
  pointwise

theorem pay2_at (s : Vec Ideal S1024x1024 .f32) (x : Vec Ideal S1024x2304 .bf16) (w : Vec Ideal S2304x1024 .bf16) (r l : Fin 1024) :
    k0_pay2 s x w (ix2 r l) = s (ix2 r l) + ∑ k : Fin 2304, x (ix2 r k) * w (ix2 k l) := by
  unfold k0_pay2
  pointwise

theorem pay3_at (s : Vec Ideal S1024x1024 .f32) (x : Vec Ideal S1024x2304 .bf16) (w : Vec Ideal S2304x1024 .bf16)
    (xg : Vec Ideal S1024x2048 .bf16) (wg : Vec Ideal S2048x1024 .bf16) (xd : Vec Ideal S1024x128 .bf16) (wd : Vec Ideal S128x1024 .bf16) (r l : Fin 1024) :
    k0_pay3 s x w xg wg xd wd (ix2 r l) = s (ix2 r l) + ∑ k : Fin 2304, x (ix2 r k) * w (ix2 k l)
      + ∑ k : Fin 2048, xg (ix2 r k) * wg (ix2 k l) + ∑ k : Fin 128, xd (ix2 r k) * wd (ix2 k l) := by
  unfold k0_pay3
  pointwise

variable (m : (ℓ : Loc nD τ sig) → Buf (Elt Ideal) ℓ)

/-! ## What the host lays out before the launch -/

theorem V_gate (c : Dev nD) : V m c main_v0 = extractStridedSlice S2048x1024 ![9248, 0] (m ((c : Thread nD τ).loc main_arg1)) slices_S11296x1024_S2048x1024_9248_0 := by
  show StableHlo.after _ _ _ = _
  simp only [List.flatten_cons, List.flatten_nil, List.append_nil, List.cons_append, List.nil_append]
  after_reads_simp

theorem V_step (c : Dev nD) : V m c main_v2 = pad S128x1024 ![0, 0] ![96, 0] ![0, 0] (extractStridedSlice S32x1024 ![9216, 0] (m ((c : Thread nD τ).loc main_arg1)) slices_S11296x1024_S32x1024_9216_0)
    (sitofp .bf16 (constantI S_ 32 0#32) : FVec Ideal S_ .bf16) pads_S32x1024_S128x1024_0960_000 h_S_ := by
  show StableHlo.after _ _ _ = _
  simp only [List.flatten_cons, List.flatten_nil, List.append_nil, List.cons_append, List.nil_append]
  after_reads_simp
  rfl

theorem V_dstep (c : Dev nD) : V m c main_v3 = pad S4096x128 ![0, 0] ![0, 96] ![0, 0] (m ((c : Thread nD τ).loc main_arg3))
    (sitofp .bf16 (constantI S_ 32 0#32) : FVec Ideal S_ .bf16) pads_S4096x32_S4096x128_000_0960 h_S_ := by
  show StableHlo.after _ _ _ = _
  simp only [List.flatten_cons, List.flatten_nil, List.append_nil, List.cons_append, List.nil_append]
  after_reads_simp
  rfl

theorem gate_at (x : FVec Ideal ⟨2, ![11296, 1024]⟩ .bf16) (k : Fin 2048) (l : Fin 1024) :
    (extractStridedSlice S2048x1024 ![9248, 0] x slices_S11296x1024_S2048x1024_9248_0 : FVec Ideal S2048x1024 .bf16) (ix2 k l) = x (ix2 ⟨9248 + k.val, by omega⟩ l) := by
  pointwise

theorem zero_at : (FloatOps.sitofp FTy.bf16 0#32 : Ideal .bf16) = 0 := by
  show (((0#32 : BitVec 32).toInt : ℝ) : EReal) = 0
  simp

/-- The step size's weights, with zeros below. -/
theorem step_at (x : FVec Ideal ⟨2, ![11296, 1024]⟩ .bf16) (k : Fin 128) (l : Fin 1024) :
    (pad S128x1024 ![0, 0] ![96, 0] ![0, 0] (extractStridedSlice S32x1024 ![9216, 0] x slices_S11296x1024_S32x1024_9216_0)
      (sitofp .bf16 (constantI S_ 32 0#32) : FVec Ideal S_ .bf16) pads_S32x1024_S128x1024_0960_000 h_S_ : FVec Ideal S128x1024 .bf16) (ix2 k l)
      = if h : k.val < 32 then x (ix2 ⟨9216 + k.val, by omega⟩ l) else 0 := by
  pointwise
  rw [zero_at]

/-- The step size's cotangent, with zeros to the right. -/
theorem dstep_at (x : FVec Ideal ⟨2, ![4096, 32]⟩ .bf16) (r : Fin 4096) (k : Fin 128) :
    (pad S4096x128 ![0, 0] ![0, 96] ![0, 0] x (sitofp .bf16 (constantI S_ 32 0#32) : FVec Ideal S_ .bf16) pads_S4096x32_S4096x128_000_0960 h_S_ : FVec Ideal S4096x128 .bf16) (ix2 r k)
      = if h : k.val < 32 then x (ix2 r ⟨k.val, h⟩) else 0 := by
  pointwise
  rw [zero_at]

/-! ## The blocks a point reads -/

/-- The point's block of rows, and its quarter of the main cotangent's columns. -/
abbrev mOf (t : Fin cfg0.N) : Fin 4 := grid0.coords t 1
abbrev kOf (t : Fin cfg0.N) : Fin 4 := grid0.coords t 2

theorem at0 : ∀ t : Fin cfg0.N, win0_0.index t = ![(mOf t).val, (kOf t).val] := (by decide +kernel : ∀ t : Fin grid0.N, _)
theorem at1 : ∀ t : Fin cfg0.N, win0_1.index t = ![(kOf t).val, 0] := (by decide +kernel : ∀ t : Fin grid0.N, _)
theorem at2 : ∀ t : Fin cfg0.N, win0_2.index t = ![(mOf t).val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![(mOf t).val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![(mOf t).val, 0] := (by decide +kernel : ∀ t : Fin grid0.N, _)
theorem quarter : ∀ t : Fin cfg0.N, (kOf t).val = t.val % 4 := (by decide +kernel : ∀ t : Fin grid0.N, _)
theorem block : ∀ t : Fin cfg0.N, (mOf t).val = t.val / 4 := (by decide +kernel : ∀ t : Fin grid0.N, _)

theorem place0 (t : Fin cfg0.N) (r : Fin 1024) (k : Fin 2304) :
    (win0_0.blk t).view.emb (ix2 r k) = (ix2 ⟨1024 * (mOf t).val + r.val, by omega⟩ ⟨2304 * (kOf t).val + k.val, by omega⟩ : (⟨2, ![4096, 9216]⟩ : Shape).Idx) := by
  blk_ext [at0]

theorem place2 (t : Fin cfg0.N) (r : Fin 1024) (k : Fin 2048) :
    (win0_2.blk t).view.emb (ix2 r k) = (ix2 ⟨1024 * (mOf t).val + r.val, by omega⟩ k : (⟨2, ![4096, 2048]⟩ : Shape).Idx) := by
  blk_ext [at2]

theorem place3 (t : Fin cfg0.N) (k : Fin 2048) (l : Fin 1024) :
    (win0_3.blk t).view.emb (ix2 k l) = (ix2 k l : (⟨2, ![2048, 1024]⟩ : Shape).Idx) := by
  blk_ext [at3]

theorem place4 (t : Fin cfg0.N) (r : Fin 1024) (k : Fin 128) :
    (win0_4.blk t).view.emb (ix2 r k) = (ix2 ⟨1024 * (mOf t).val + r.val, by omega⟩ k : (⟨2, ![4096, 128]⟩ : Shape).Idx) := by
  blk_ext [at4]

theorem place5 (t : Fin cfg0.N) (k : Fin 128) (l : Fin 1024) :
    (win0_5.blk t).view.emb (ix2 k l) = (ix2 k l : (⟨2, ![128, 1024]⟩ : Shape).Idx) := by
  blk_ext [at5]

theorem place6 (t : Fin cfg0.N) (r l : Fin 1024) :
    (win0_6.blk t).view.emb (ix2 r l) = (ix2 ⟨1024 * (mOf t).val + r.val, by omega⟩ l : (⟨2, ![4096, 1024]⟩ : Shape).Idx) := by
  blk_ext [at6]

theorem main_at (c : Dev nD) (t : Fin cfg0.N) (r : Fin 1024) (k : Fin 2304) :
    (iblk m c 0 t : Vec Ideal S1024x2304 .bf16) (ix2 r k)
      = m ((c : Thread nD τ).loc main_arg2) (ix2 ⟨1024 * (mOf t).val + r.val, by omega⟩ ⟨2304 * (kOf t).val + k.val, by omega⟩) := by
  have e : iblk m c 0 t = (win0_0.blk t).view.read (Elt Ideal) (m ((c : Thread nD τ).loc main_arg2)) :=
    congrArg (fun z => (win0_0.blk t).view.read (Elt Ideal) z) (V_main_arg2 m c)
  rw [e]
  exact congrArg (m ((c : Thread nD τ).loc main_arg2)) (place0 t r k)

theorem weights_at (c : Dev nD) (t : Fin cfg0.N) (k : Fin 2304) (l : Fin 1024) :
    (X0_1 m c t : Vec Ideal S2304x1024 .bf16) (ix2 k l) = m ((c : Thread nD τ).loc main_arg1) (ix2 ⟨2304 * (kOf t).val + k.val, by omega⟩ l) := by
  have e : iblk m c 1 t = (win0_1.blk t).view.read (Elt Ideal) (m ((c : Thread nD τ).loc main_arg1)) :=
    congrArg (fun z => (win0_1.blk t).view.read (Elt Ideal) z) (V_main_arg1 m c)
  unfold X0_1 Pipeline.Window.fill
  rw [dif_pos (moved0_1 t (ix2 k l)), e]
  refine congrArg (m ((c : Thread nD τ).loc main_arg1)) (funext fun a => Fin.ext ?_)
  have ht := at1 t
  fin_cases a
  · show win0_1.index t 0 * 2304 + 1 * k.val = 2304 * (kOf t).val + k.val
    rw [ht]; show (kOf t).val * 2304 + 1 * k.val = _; omega
  · show win0_1.index t 1 * 1024 + 1 * l.val = l.val
    rw [ht]; show 0 * 1024 + 1 * l.val = _; omega

theorem dgate_at (c : Dev nD) (t : Fin cfg0.N) (r : Fin 1024) (k : Fin 2048) :
    (iblk m c 2 t : Vec Ideal S1024x2048 .bf16) (ix2 r k) = m ((c : Thread nD τ).loc main_arg4) (ix2 ⟨1024 * (mOf t).val + r.val, by omega⟩ k) := by
  have e : iblk m c 2 t = (win0_2.blk t).view.read (Elt Ideal) (m ((c : Thread nD τ).loc main_arg4)) :=
    congrArg (fun z => (win0_2.blk t).view.read (Elt Ideal) z) (V_main_arg4 m c)
  rw [e]
  exact congrArg (m ((c : Thread nD τ).loc main_arg4)) (place2 t r k)

theorem wgate_at (c : Dev nD) (t : Fin cfg0.N) (k : Fin 2048) (l : Fin 1024) :
    (iblk m c 3 t : Vec Ideal S2048x1024 .bf16) (ix2 k l) = m ((c : Thread nD τ).loc main_arg1) (ix2 ⟨9248 + k.val, by omega⟩ l) := by
  have e : iblk m c 3 t = (win0_3.blk t).view.read (Elt Ideal) _ := congrArg (fun z => (win0_3.blk t).view.read (Elt Ideal) z) (V_gate m c)
  rw [e]
  exact (congrArg (extractStridedSlice S2048x1024 ![9248, 0] (m ((c : Thread nD τ).loc main_arg1)) slices_S11296x1024_S2048x1024_9248_0) (place3 t k l)).trans
    (gate_at _ k l)

/-- The weights and the three cotangents, as the launch finds them. -/
abbrev wts (c : Dev nD) : FVec Ideal ⟨2, ![11296, 1024]⟩ .bf16 := m ((c : Thread nD τ).loc main_arg1)
abbrev dmain (c : Dev nD) : FVec Ideal ⟨2, ![4096, 9216]⟩ .bf16 := m ((c : Thread nD τ).loc main_arg2)
abbrev dstep (c : Dev nD) : FVec Ideal ⟨2, ![4096, 32]⟩ .bf16 := m ((c : Thread nD τ).loc main_arg3)
abbrev dgate (c : Dev nD) : FVec Ideal ⟨2, ![4096, 2048]⟩ .bf16 := m ((c : Thread nD τ).loc main_arg4)

theorem dstepblk_at (c : Dev nD) (t : Fin cfg0.N) (r : Fin 1024) (k : Fin 128) :
    (iblk m c 4 t : Vec Ideal S1024x128 .bf16) (ix2 r k)
      = if h : k.val < 32 then dstep m c (ix2 ⟨1024 * (mOf t).val + r.val, by omega⟩ ⟨k.val, h⟩) else 0 := by
  have e : iblk m c 4 t = (win0_4.blk t).view.read (Elt Ideal) _ := congrArg (fun z => (win0_4.blk t).view.read (Elt Ideal) z) (V_dstep m c)
  rw [e]
  exact (congrArg (pad S4096x128 ![0, 0] ![0, 96] ![0, 0] (m ((c : Thread nD τ).loc main_arg3))
    (sitofp .bf16 (constantI S_ 32 0#32) : FVec Ideal S_ .bf16) pads_S4096x32_S4096x128_000_0960 h_S_) (place4 t r k)).trans (dstep_at _ _ k)

theorem wstep_at (c : Dev nD) (t : Fin cfg0.N) (k : Fin 128) (l : Fin 1024) :
    (iblk m c 5 t : Vec Ideal S128x1024 .bf16) (ix2 k l)
      = if h : k.val < 32 then wts m c (ix2 ⟨9216 + k.val, by omega⟩ l) else 0 := by
  have e : iblk m c 5 t = (win0_5.blk t).view.read (Elt Ideal) _ := congrArg (fun z => (win0_5.blk t).view.read (Elt Ideal) z) (V_step m c)
  rw [e]
  exact (congrArg (pad S128x1024 ![0, 0] ![96, 0] ![0, 0] (extractStridedSlice S32x1024 ![9216, 0] (m ((c : Thread nD τ).loc main_arg1)) slices_S11296x1024_S32x1024_9216_0)
    (sitofp .bf16 (constantI S_ 32 0#32) : FVec Ideal S_ .bf16) pads_S32x1024_S128x1024_0960_000 h_S_) (place5 t k l)).trans (step_at _ k l)

/-- Columns of zeros add nothing to a product. -/
theorem padded_sum (a b : Fin 128 → EReal) (a' b' : Fin 32 → EReal) (ha : ∀ k, a k = if h : k.val < 32 then a' ⟨k.val, h⟩ else 0)
    (hb : ∀ k, b k = if h : k.val < 32 then b' ⟨k.val, h⟩ else 0) : ∑ k, a k * b k = ∑ k, a' k * b' k := by
  rw [sum_split 32 96 rfl]
  refine (congrArg₂ (· + ·) (Finset.sum_congr rfl fun k _ => ?_) (Finset.sum_eq_zero fun k _ => ?_)).trans (add_zero _)
  · rw [ha, hb, dif_pos k.isLt, dif_pos k.isLt]
  · rw [ha, dif_neg (show ¬32 + k.val < 32 by omega), zero_mul]

/-! ## The reference at an index -/

section Reference

variable (x1 : FVec Ideal ⟨2, ![11296, 1024]⟩ .bf16) (x2 : FVec Ideal ⟨2, ![4096, 9216]⟩ .bf16)
  (x3 : FVec Ideal ⟨2, ![4096, 32]⟩ .bf16) (x4 : FVec Ideal ⟨2, ![4096, 2048]⟩ .bf16) (r : Fin 4096)

theorem cat_at (k : Fin 11296) : val_main_v1 (F := Ideal) x2 x3 x4 (ix2 r k)
    = if h : k.val < 9216 then x2 (ix2 r ⟨k.val, h⟩) else if h' : k.val - 9216 < 32 then x3 (ix2 r ⟨k.val - 9216, h'⟩)
      else x4 (ix2 r ⟨k.val - 9216 - 32, by omega⟩) := by
  unfold val_main_v1 val_main_v0
  pointwise

/-- The gradient, cut where the kernel cuts it. -/
theorem ref_at (l : Fin 1024) : val_main_v6 (F := Ideal) x1 x2 x3 x4 (ix2 r l)
    = (∑ k : Fin 2304, x2 (ix2 r ⟨k.val, by omega⟩) * x1 (ix2 ⟨k.val, by omega⟩ l)
      + ∑ k : Fin 2304, x2 (ix2 r ⟨2304 + k.val, by omega⟩) * x1 (ix2 ⟨2304 + k.val, by omega⟩ l)
      + ∑ k : Fin 2304, x2 (ix2 r ⟨4608 + k.val, by omega⟩) * x1 (ix2 ⟨4608 + k.val, by omega⟩ l)
      + ∑ k : Fin 2304, x2 (ix2 r ⟨6912 + k.val, by omega⟩) * x1 (ix2 ⟨6912 + k.val, by omega⟩ l))
      + ∑ k : Fin 2048, x4 (ix2 r k) * x1 (ix2 ⟨9248 + k.val, by omega⟩ l)
      + ∑ k : Fin 32, x3 (ix2 r k) * x1 (ix2 ⟨9216 + k.val, by omega⟩ l) := by
  have e : ∀ k : Fin 11296, val_main_v1 (F := Ideal) x2 x3 x4 (lidx_main_v6 (ix2 r l) k) * val_main_v4 (F := Ideal) x1 (ridx_main_v6 (ix2 r l) k)
      = (if h : k.val < 9216 then x2 (ix2 r ⟨k.val, h⟩) else if h' : k.val - 9216 < 32 then x3 (ix2 r ⟨k.val - 9216, h'⟩)
          else x4 (ix2 r ⟨k.val - 9216 - 32, by omega⟩)) * x1 (ix2 k l) := fun k => by
    rw [← cat_at, val_main_v4_apply, val_main_v3_apply]
    refine congrArg₂ (fun a b => val_main_v1 (F := Ideal) x2 x3 x4 a * x1 b) ?_ ?_ <;> (funext a; fin_cases a <;> rfl)
  rw [val_main_v6_apply, Finset.sum_congr rfl fun k _ => e k, sum_split 9216 2080 rfl, sum_split 6912 2304 (n := 9216) rfl,
    sum_split 4608 2304 (n := 6912) rfl, sum_split 2304 2304 (n := 4608) rfl, sum_split 32 2048 (n := 2080) rfl,
    add_comm (∑ k : Fin 32, _) (∑ k : Fin 2048, _), ← add_assoc]
  refine congrArg₂ (· + ·) (congrArg₂ (· + ·) (congrArg₂ (· + ·) (congrArg₂ (· + ·) (congrArg₂ (· + ·) ?_ ?_) ?_) ?_) ?_) ?_ <;>
    refine Finset.sum_congr rfl fun k _ => congrArg₂ (· * ·) ?_ (congrArg (fun z => x1 (ix2 z l)) (Fin.ext ?_))
  · exact dif_pos (show k.val < 9216 by omega)
  · rfl
  · exact dif_pos (show 2304 + k.val < 9216 by omega)
  · rfl
  · exact dif_pos (show 4608 + k.val < 9216 by omega)
  · rfl
  · exact dif_pos (show 6912 + k.val < 9216 by omega)
  · rfl
  · refine (dif_neg (show ¬9216 + (32 + k.val) < 9216 by omega)).trans ((dif_neg (show ¬9216 + (32 + k.val) - 9216 < 32 by omega)).trans ?_)
    exact congrArg (fun z => x4 (ix2 r z)) (Fin.ext (show 9216 + (32 + k.val) - 9216 - 32 = k.val by omega))
  · show 9216 + (32 + k.val) = 9248 + k.val
    omega
  · refine (dif_neg (show ¬9216 + k.val < 9216 by omega)).trans ((dif_pos (show 9216 + k.val - 9216 < 32 by omega)).trans ?_)
    exact congrArg (fun z => x3 (ix2 r z)) (Fin.ext (show 9216 + k.val - 9216 = k.val by omega))
  · rfl

end Reference

/-! ## The launch -/

/-- A point's own product: its quarter of the main cotangent's columns with the rows of the weights they meet. -/
theorem quarter_sum (c : Dev nD) (t : Fin cfg0.N) (r l : Fin 1024) (M : Fin 4) (n : ℕ) (hn : n + 2304 ≤ 9216) (hM : (mOf t).val = M.val) (hk : 2304 * (kOf t).val = n) :
    ∑ k : Fin 2304, (show Vec Ideal S1024x2304 .bf16 from iblk m c 0 t) (ix2 r k) * (show Vec Ideal S2304x1024 .bf16 from X0_1 m c t) (ix2 k l)
      = ∑ k : Fin 2304, dmain m c (ix2 ⟨1024 * M.val + r.val, by omega⟩ ⟨n + k.val, by omega⟩) * wts m c (ix2 ⟨n + k.val, by omega⟩ l) := by
  refine Finset.sum_congr rfl fun k _ => congrArg₂ (· * ·) ((main_at m c t r k).trans ?_) ((weights_at m c t k l).trans ?_)
  · exact congrArg₂ (fun a b => dmain m c (ix2 a b)) (Fin.ext (by show 1024 * _ + _ = _; rw [hM])) (Fin.ext (by show 2304 * _ + _ = _; rw [hk]))
  · exact congrArg (fun a => wts m c (ix2 a l)) (Fin.ext (by show 2304 * _ + _ = _; rw [hk]))

/-- What the last point of a block leaves. -/
theorem point_at (c : Dev nD) (t : Fin cfg0.N) (ht : t.val % 4 = 3) (r l : Fin 1024) :
    (outsAt0 m c t.val t.isLt).1 (ix2 r l)
      = val_main_v6 (F := Ideal) (wts m c) (dmain m c) (dstep m c) (dgate m c) (ix2 ⟨1024 * (mOf t).val + r.val, by omega⟩ l) := by
  have lt (n : ℕ) : t.val - n < cfg0.N := Nat.lt_of_le_of_lt (Nat.sub_le _ _) t.isLt
  let t2 : Fin cfg0.N := ⟨t.val - 1, lt 1⟩
  let t1 : Fin cfg0.N := ⟨t.val - 1 - 1, Nat.lt_of_le_of_lt (Nat.sub_le _ _) (lt 1)⟩
  let t0 : Fin cfg0.N := ⟨t.val - 1 - 1 - 1, Nat.lt_of_le_of_lt (Nat.sub_le _ _) (Nat.lt_of_le_of_lt (Nat.sub_le _ _) (lt 1))⟩
  have e2 : (mOf t2).val = (mOf t).val := by rw [block t2, block t]; show (t.val - 1) / 4 = _; omega
  have e1 : (mOf t1).val = (mOf t).val := by rw [block t1, block t]; show (t.val - 1 - 1) / 4 = _; omega
  have e0 : (mOf t0).val = (mOf t).val := by rw [block t0, block t]; show (t.val - 1 - 1 - 1) / 4 = _; omega
  have k3 : 2304 * (kOf t).val = 6912 := by rw [quarter t, ht]
  have k2 : 2304 * (kOf t2).val = 4608 := by rw [quarter t2]; show 2304 * ((t.val - 1) % 4) = _; omega
  have k1 : 2304 * (kOf t1).val = 2304 := by rw [quarter t1]; show 2304 * ((t.val - 1 - 1) % 4) = _; omega
  have k0 : 2304 * (kOf t0).val = 0 := by rw [quarter t0]; show 2304 * ((t.val - 1 - 1 - 1) % 4) = _; omega
  rw [outsAt0_C m c t (by omega) (by omega) ht,
    outsAt0_B m c t2 (show ¬(t.val - 1) % 4 = 0 by omega) (show 1 ≤ (t.val - 1) % 4 ∧ (t.val - 1) % 4 ≤ 2 by omega) (show ¬(t.val - 1) % 4 = 3 by omega),
    outsAt0_B m c t1 (show ¬(t.val - 1 - 1) % 4 = 0 by omega) (show 1 ≤ (t.val - 1 - 1) % 4 ∧ (t.val - 1 - 1) % 4 ≤ 2 by omega)
      (show ¬(t.val - 1 - 1) % 4 = 3 by omega),
    outsAt0_A m c t0 (show (t.val - 1 - 1 - 1) % 4 = 0 by omega) (show ¬(1 ≤ (t.val - 1 - 1 - 1) % 4 ∧ (t.val - 1 - 1 - 1) % 4 ≤ 2) by omega)
      (show ¬(t.val - 1 - 1 - 1) % 4 = 3 by omega)]
  dsimp only
  rw [last_eq, next_eq, next_eq, first_eq]
  refine (pay3_at _ _ _ _ _ _ _ r l).trans ?_
  rw [pay2_at, pay2_at, pay1_at, ref_at]
  refine congrArg₂ (· + ·) (congrArg₂ (· + ·) (congrArg₂ (· + ·) (congrArg₂ (· + ·) (congrArg₂ (· + ·) ?_ ?_) ?_) ?_) ?_) ?_
  · refine (quarter_sum m c t0 r l (mOf t) 0 (by omega) e0 k0).trans (Finset.sum_congr rfl fun k _ => ?_)
    simp only [Nat.zero_add]
  · exact quarter_sum m c t1 r l (mOf t) 2304 (by omega) e1 k1
  · exact quarter_sum m c t2 r l (mOf t) 4608 (by omega) e2 k2
  · exact quarter_sum m c t r l (mOf t) 6912 (by omega) rfl k3
  · exact Finset.sum_congr rfl fun k _ => congrArg₂ (· * ·) (dgate_at m c t r k) (wgate_at m c t k l)
  · exact padded_sum _ _ (fun k => dstep m c (ix2 ⟨1024 * (mOf t).val + r.val, by omega⟩ k)) (fun k => wts m c (ix2 ⟨9216 + k.val, by omega⟩ l))
      (dstepblk_at m c t r) fun k => wstep_at m c t k l

/-- What the launch leaves is the reference's gradient. -/
theorem final (c : Dev nD) :
    (dats m 0 c).arrAt 6 cfg0.N = val_main_v6 (F := Ideal) (wts m c) (dmain m c) (dstep m c) (dgate m c) := by
  refine (dats m 0 c).arrAt_eq_of_covers 6 _ (by decide +kernel) fun t hf y => ?_
  blk_simp
  rw [after0_6]
  obtain ⟨r, l, rfl⟩ := pair_of (a := 1024) (b := 1024) y
  exact (point_at m c t ((flush0_6 t).mp hf) r l).trans (congrArg _ (place6 t r l)).symm

/-! The program and its idealization print the same text. -/

theorem bodies_eq : Cert.Hidden.defs₀ (F := Bits) = Cert.HiddenIdeal.defs₀ (F := Bits) := by
  unfold Cert.Hidden.defs₀ Cert.HiddenIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Hidden.defs (F := Bits) = Cert.HiddenIdeal.defs (F := Bits) := by
  unfold Cert.Hidden.defs Cert.HiddenIdeal.defs
  rw [bodies_eq]
  exact (rfl)

theorem main_eq : Cert.Hidden.main (F := Bits) = Cert.HiddenIdeal.main (F := Bits) := (rfl)

/-- The program runs, leaves its arguments as they were and its counters at zero. -/
theorem frame : Cert.quiescent_Hidden := by
  intro m g _
  have h := Cert.HiddenIdeal.Gen.frame (F := Bits) m g
  rw [← main_eq, ← defs_eq] at h
  exact h

theorem frame_ideal : Cert.quiescent_HiddenIdeal := fun m g _ => Cert.HiddenIdeal.Gen.frame m g

theorem frame_reference : Cert.quiescent_HiddenReferenceIdeal := fun m g _ =>
  (θ_run Cert.HiddenReferenceIdeal.defs _ _).mono
    (fun r h => ⟨fun c => (h c).2, sem_eq_zero_of_no_sems (by decide) r.2⟩)
    (Cert.HiddenReferenceIdeal.Value.run (F := Ideal) m g)

/-- The launch computes the reference's gradient. -/
theorem value : Cert.algebraic_HiddenIdeal_HiddenReferenceIdeal := by
  intro m g m' g' _ hin
  refine ⟨fun c => val_main_v6 (F := Ideal) (wts m c) (dmain m c) (dstep m c) (dgate m c), ?_, ?_⟩
  · exact (θ_run defs _ _).mono (fun r h c => ⟨(h c).1.trans (final m c), (h c).2⟩) (Cert.HiddenIdeal.Value.run_blocks (F := Ideal) m g)
  · refine (θ_run Cert.HiddenReferenceIdeal.defs _ _).mono (fun r h c => ?_) (Cert.HiddenReferenceIdeal.Value.run (F := Ideal) m' g')
    refine ⟨(h c).1.trans ?_, (h c).2⟩
    obtain ⟨_, h1, h2, h3, h4⟩ := hin c
    refine (val_main_v6_eq _ _ _ _).trans ?_
    rw [h1, h2, h3, h4]

end Cert.Proof.HiddenGrad

end
-- ==== Proof.WeightGrad.lean ====
/-
  The gradient of the projection's weights: two grid points share a block of 1024 rows, each takes half of the 4096 positions, the first leaves its
  sum in a scratch and the second adds its own, so what the launch leaves is the whole product.
-/
module

public import proofs.«01_k».proof.Defs
public import proofs.«01_k».proof.Proof.Gen.Weight
public import proofs.«01_k».proof.Proof.Gen.WeightIdeal.Value
public import proofs.«01_k».proof.Proof.Gen.WeightReferenceIdeal.Run
public import proofs.«01_k».proof.Proof.Gen.WeightReferenceIdeal.Read
public import proofs.«01_k».proof.Proof.Split

@[expose] public section

set_option maxRecDepth 20000

noncomputable section

namespace Cert.Proof.WeightGrad

open Cert.WeightIdeal Cert.WeightIdeal.Gen
open Idealize.ShloMosaic Idealize.ShloMosaic.TcCoe Idealize.SL.Sem
open Idealize.ShloMosaic.Pipeline (Dat)
open Cert.WeightReferenceIdeal.Read

section Body

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x w : Vec F S2048x1024 .bf16)

/-- The first point of a block leaves its product in the scratch. -/
theorem first_eq (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero origin]
  simp only [View.readAt_eq_ld, h3.read_unread, h4.read_unread, View.ld_unit_zero (S := S2048x1024) origin]

/-- The second adds its own and stores the sum. -/
theorem last_eq (hc0 : ¬cond0_0 i) (hc1 : ¬cond0_1 i) (hc2 : cond0_2 i) (s : Vec F S1024x1024 .f32) :
    out0_B_2 c i a3 h3 a4 h4 a5 h5 a6 h6 hc0 hc1 hc2 x w s = k0_pay3 s x w := by
  unfold out0_B_2
  rw [View.read_writes_eq_canon _ _ _ (cover0_B_2 c i a3 h3 a4 h4 a5 h5 a6 h6 hc0 hc1 hc2 x w s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

end Body

theorem pay1_at (x w : Vec Ideal S2048x1024 .bf16) (r l : Fin 1024) :
    k0_pay1 x w (ix2 r l) = ∑ k : Fin 2048, x (ix2 k r) * w (ix2 k l) := by
  unfold k0_pay1
  pointwise

theorem pay3_at (s : Vec Ideal S1024x1024 .f32) (x w : Vec Ideal S2048x1024 .bf16) (r l : Fin 1024) :
    k0_pay3 s x w (ix2 r l) = s (ix2 r l) + ∑ k : Fin 2048, x (ix2 k r) * w (ix2 k l) := by
  unfold k0_pay3
  pointwise

variable (m : (ℓ : Loc nD τ sig) → Buf (Elt Ideal) ℓ)

/-- The point's block of rows, and its half of the positions. -/
abbrev mOf (t : Fin cfg0.N) : Fin 9 := grid0.coords t 1
abbrev kOf (t : Fin cfg0.N) : Fin 2 := grid0.coords t 2

theorem at0 : ∀ t : Fin cfg0.N, win0_0.index t = ![(kOf t).val, (mOf t).val] := (by decide +kernel : ∀ t : Fin grid0.N, _)
theorem at1 : ∀ t : Fin cfg0.N, win0_1.index t = ![(kOf t).val, 0] := (by decide +kernel : ∀ t : Fin grid0.N, _)
theorem at2 : ∀ t : Fin cfg0.N, win0_2.index t = ![(mOf t).val, 0] := (by decide +kernel : ∀ t : Fin grid0.N, _)
theorem half : ∀ t : Fin cfg0.N, (kOf t).val = t.val % 2 := (by decide +kernel : ∀ t : Fin grid0.N, _)
theorem block : ∀ t : Fin cfg0.N, (mOf t).val = t.val / 2 := (by decide +kernel : ∀ t : Fin grid0.N, _)

theorem place0 (t : Fin cfg0.N) (k : Fin 2048) (r : Fin 1024) :
    (win0_0.blk t).view.emb (ix2 k r) = (ix2 ⟨2048 * (kOf t).val + k.val, by omega⟩ ⟨1024 * (mOf t).val + r.val, by omega⟩ : (⟨2, ![4096, 9216]⟩ : Shape).Idx) := by
  blk_ext [at0]

theorem place1 (t : Fin cfg0.N) (k : Fin 2048) (l : Fin 1024) :
    (win0_1.blk t).view.emb (ix2 k l) = (ix2 ⟨2048 * (kOf t).val + k.val, by omega⟩ l : (⟨2, ![4096, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![9216, 1024]⟩ : Shape).Idx) := by
  blk_ext [at2]

theorem cotangent_at (c : Dev nD) (t : Fin cfg0.N) (k : Fin 2048) (r : Fin 1024) :
    (iblk m c 0 t : Vec Ideal S2048x1024 .bf16) (ix2 k r)
      = m ((c : Thread nD τ).loc main_arg2) (ix2 ⟨2048 * (kOf t).val + k.val, by omega⟩ ⟨1024 * (mOf t).val + r.val, by omega⟩) := by
  have e : iblk m c 0 t = (win0_0.blk t).view.read (Elt Ideal) (m ((c : Thread nD τ).loc main_arg2)) :=
    congrArg (fun z => (win0_0.blk t).view.read (Elt Ideal) z) (V_main_arg2 m c)
  rw [e]
  exact congrArg (m ((c : Thread nD τ).loc main_arg2)) (place0 t k r)

theorem hidden_at (c : Dev nD) (t : Fin cfg0.N) (k : Fin 2048) (l : Fin 1024) :
    (iblk m c 1 t : Vec Ideal S2048x1024 .bf16) (ix2 k l) = m ((c : Thread nD τ).loc main_arg0) (ix2 ⟨2048 * (kOf t).val + k.val, by omega⟩ l) := by
  have e : iblk m c 1 t = (win0_1.blk t).view.read (Elt Ideal) (m ((c : Thread nD τ).loc main_arg0)) :=
    congrArg (fun z => (win0_1.blk t).view.read (Elt Ideal) z) (V_main_arg0 m c)
  rw [e]
  exact congrArg (m ((c : Thread nD τ).loc main_arg0)) (place1 t k l)

/-- The reference at an index. -/
theorem ref_at (x0 : FVec Ideal ⟨2, ![4096, 1024]⟩ .bf16) (x2 : FVec Ideal ⟨2, ![4096, 9216]⟩ .bf16) (r : Fin 9216) (l : Fin 1024) :
    val_main_v9 (F := Ideal) x0 x2 (ix2 r l) = ∑ k : Fin 4096, x2 (ix2 k r) * x0 (ix2 k l) := by
  rw [val_main_v9_apply, val_main_v8_apply, val_main_v7_apply, val_main_v6_apply]
  refine Finset.sum_congr rfl fun k _ => ?_
  rw [val_main_v5_apply, val_main_v2_apply]
  refine congrArg₂ (fun a b => x2 a * x0 b) ?_ ?_ <;> (funext a; fin_cases a <;> rfl)

/-- What the second point of a block leaves. -/
theorem point_at (c : Dev nD) (t : Fin cfg0.N) (ht : t.val % 2 = 1) (r l : Fin 1024) :
    (outsAt0 m c t.val t.isLt).1 (ix2 r l)
      = val_main_v9 (F := Ideal) (m ((c : Thread nD τ).loc main_arg0)) (m ((c : Thread nD τ).loc main_arg2)) (ix2 ⟨1024 * (mOf t).val + r.val, by omega⟩ l) := by
  have h0 : (t.val - 1) % 2 = 0 := by omega
  let t' : Fin cfg0.N := ⟨t.val - 1, Nat.lt_of_le_of_lt (Nat.sub_le _ _) t.isLt⟩
  have k1 : (kOf t).val = 1 := (half t).trans ht
  have k0 : (kOf t').val = 0 := (half t').trans h0
  have e : (mOf t').val = (mOf t).val := by
    rw [block t', block t]
    show (t.val - 1) / 2 = t.val / 2
    omega
  rw [outsAt0_B m c t (by omega) ht, outsAt0_A m c t' h0 (show ¬(t.val - 1) % 2 = 1 by omega)]
  dsimp only
  rw [last_eq, first_eq]
  refine (pay3_at _ _ _ r l).trans ?_
  rw [pay1_at, ref_at, sum_split 2048 2048 rfl]
  refine congrArg₂ (· + ·) (Finset.sum_congr rfl fun k _ => ?_) (Finset.sum_congr rfl fun k _ => ?_)
  · rw [cotangent_at, hidden_at]
    simp only [k0, e, Nat.mul_zero, Nat.zero_add]
  · rw [cotangent_at, hidden_at]
    simp only [k1, Nat.mul_one]

/-- What the launch leaves is the reference's product. -/
theorem final (c : Dev nD) :
    (dats m 0 c).arrAt 2 cfg0.N = val_main_v9 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  obtain ⟨r, l, rfl⟩ := pair_of (a := 1024) (b := 1024) y
  exact (point_at m c t ((flush0_2 t).mp hf) r l).trans (congrArg _ (place2 t r l)).symm

/-! The program and its idealization print the same text. -/

theorem bodies_eq : Cert.Weight.defs₀ (F := Bits) = Cert.WeightIdeal.defs₀ (F := Bits) := by
  unfold Cert.Weight.defs₀ Cert.WeightIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Weight.defs (F := Bits) = Cert.WeightIdeal.defs (F := Bits) := by
  unfold Cert.Weight.defs Cert.WeightIdeal.defs
  rw [bodies_eq]
  exact (rfl)

theorem main_eq : Cert.Weight.main (F := Bits) = Cert.WeightIdeal.main (F := Bits) := (rfl)

/-- The program runs, leaves its arguments as they were and its counters at zero. -/
theorem frame : Cert.quiescent_Weight := by
  intro m g _
  have h := Cert.WeightIdeal.Gen.frame (F := Bits) m g
  rw [← main_eq, ← defs_eq] at h
  exact h

theorem frame_ideal : Cert.quiescent_WeightIdeal := fun m g _ => Cert.WeightIdeal.Gen.frame m g

theorem frame_reference : Cert.quiescent_WeightReferenceIdeal := fun m g _ =>
  (θ_run Cert.WeightReferenceIdeal.defs _ _).mono
    (fun r h => ⟨fun c => (h c).2, sem_eq_zero_of_no_sems (by decide) r.2⟩)
    (Cert.WeightReferenceIdeal.Value.run (F := Ideal) m g)

/-- The launch computes the reference's gradient. -/
theorem value : Cert.algebraic_WeightIdeal_WeightReferenceIdeal := by
  intro m g m' g' _ hin
  refine ⟨fun c => val_main_v9 (F := Ideal) (m ((c.tc : Thread nD τ).loc main_arg0)) (m ((c.tc : Thread nD τ).loc main_arg2)), ?_, ?_⟩
  · exact (θ_run defs _ _).mono (fun r h c => ⟨(h c).1.trans (final m c), (h c).2⟩) (Cert.WeightIdeal.Value.run_blocks (F := Ideal) m g)
  · refine (θ_run Cert.WeightReferenceIdeal.defs _ _).mono (fun r h c => ?_) (Cert.WeightReferenceIdeal.Value.run (F := Ideal) m' g')
    refine ⟨(h c).1.trans ?_, (h c).2⟩
    exact (val_main_v9_eq _ _).trans (congrArg₂ (val_main_v9 (F := Ideal)) (hin c).1 (hin c).2.2)

end Cert.Proof.WeightGrad

end
-- ==== Proof.Projection.lean ====
/-
  The input projection: one grid point multiplies 2048 rows of the hidden states with 1024 rows of the transposed weights, over all 1024
  columns at once, so what the launch leaves is the whole product.
-/
module

public import proofs.«01_k».proof.Defs
public import proofs.«01_k».proof.Proof.Gen.Project
public import proofs.«01_k».proof.Proof.Gen.ProjectIdeal.Value
public import proofs.«01_k».proof.Proof.Gen.ProjectReferenceIdeal.Run
public import proofs.«01_k».proof.Proof.Gen.ProjectReferenceIdeal.Read
public import proofs.«01_k».proof.Proof.Split

@[expose] public section

set_option maxRecDepth 20000

noncomputable section

namespace Cert.Proof.Projection

open Cert.ProjectIdeal Cert.ProjectIdeal.Gen
open Idealize.ShloMosaic Idealize.ShloMosaic.TcCoe Idealize.SL.Sem
open Idealize.ShloMosaic.Pipeline (Dat)
open Cert.ProjectReferenceIdeal.Read

/-- The body stores the product of its two blocks. -/
theorem out_eq {F : FTy → Type} [FloatOps F] (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16) (h5 : a5.IsWhole)
    (x : Vec F S2048x1024 .bf16) (w : Vec F S1024x1024 .bf16) : out0_A_2 c i a3 h3 a4 h4 a5 h5 x w = k0_pay1 x w := by
  unfold out0_A_2
  rw [View.read_writes_eq_canon _ _ _ (cover0_A_2 c i a3 h3 a4 h4 a5 h5 x w)]
  unfold kernelRun0_A
  dsimp only
  rw [View.canon_unit_zero origin]
  simp only [View.readAt_eq_ld, h3.read_unread, h4.read_unread, View.ld_unit_zero (S := S2048x1024) origin, View.ld_unit_zero (S := S1024x1024) origin]

theorem pay_at (x : Vec Ideal S2048x1024 .bf16) (w : Vec Ideal S1024x1024 .bf16) (r : Fin 2048) (l : Fin 1024) :
    k0_pay1 x w (ix2 r l) = ∑ k : Fin 1024, x (ix2 r k) * w (ix2 l k) := by
  unfold k0_pay1
  pointwise

variable (m : (ℓ : Loc nD τ sig) → Buf (Elt Ideal) ℓ)

/-- The point's block of columns, and its block of rows. -/
abbrev nOf (t : Fin cfg0.N) : Fin 9 := grid0.coords t 0
abbrev mOf (t : Fin cfg0.N) : Fin 2 := grid0.coords t 1

theorem at0 : ∀ t : Fin cfg0.N, win0_0.index t = ![(mOf t).val, 0] := (by decide +kernel : ∀ t : Fin grid0.N, _)
theorem at1 : ∀ t : Fin cfg0.N, win0_1.index t = ![(nOf t).val, 0] := (by decide +kernel : ∀ t : Fin grid0.N, _)
theorem at2 : ∀ t : Fin cfg0.N, win0_2.index t = ![(mOf t).val, (nOf t).val] := (by decide +kernel : ∀ t : Fin grid0.N, _)

theorem place0 (t : Fin cfg0.N) (r : Fin 2048) (k : Fin 1024) :
    (win0_0.blk t).view.emb (ix2 r k) = (ix2 ⟨2048 * (mOf t).val + r.val, by omega⟩ k : (⟨2, ![4096, 1024]⟩ : Shape).Idx) := by
  blk_ext [at0]

theorem place2 (t : Fin cfg0.N) (r : Fin 2048) (l : Fin 1024) :
    (win0_2.blk t).view.emb (ix2 r l) = (ix2 ⟨2048 * (mOf t).val + r.val, by omega⟩ ⟨1024 * (nOf t).val + l.val, by omega⟩ : (⟨2, ![4096, 9216]⟩ : Shape).Idx) := by
  blk_ext [at2]

theorem rows_at (c : Dev nD) (t : Fin cfg0.N) (r : Fin 2048) (k : Fin 1024) :
    (iblk m c 0 t : Vec Ideal S2048x1024 .bf16) (ix2 r k) = m ((c : Thread nD τ).loc main_arg0) (ix2 ⟨2048 * (mOf t).val + r.val, by omega⟩ k) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t r k)

theorem weights_at (c : Dev nD) (t : Fin cfg0.N) (l k : Fin 1024) :
    (X0_1 m c t : Vec Ideal S1024x1024 .bf16) (ix2 l k) = m ((c : Thread nD τ).loc main_arg1) (ix2 ⟨1024 * (nOf t).val + l.val, by omega⟩ k) := by
  have e : iblk m c 1 t = (win0_1.blk t).view.read (Elt Ideal) (m ((c : Thread nD τ).loc main_arg1)) :=
    congrArg (fun z => (win0_1.blk t).view.read (Elt Ideal) z) (V_main_arg1 m c)
  unfold X0_1 Pipeline.Window.fill
  rw [dif_pos (moved0_1 t (ix2 l k)), e]
  refine congrArg (m ((c : Thread nD τ).loc main_arg1)) (funext fun a => Fin.ext ?_)
  have ht := at1 t
  fin_cases a
  · show win0_1.index t 0 * 1024 + 1 * l.val = 1024 * (nOf t).val + l.val
    rw [ht]; show (nOf t).val * 1024 + 1 * l.val = _; omega
  · show win0_1.index t 1 * 1024 + 1 * k.val = k.val
    rw [ht]; show 0 * 1024 + 1 * k.val = _; omega

/-- The reference at an index. -/
theorem ref_at (x0 : FVec Ideal ⟨2, ![4096, 1024]⟩ .bf16) (x1 : FVec Ideal ⟨2, ![11296, 1024]⟩ .bf16) (r : Fin 4096) (l : Fin 9216) :
    val_main_v5 (F := Ideal) x0 x1 (ix2 r l) = ∑ k : Fin 1024, x0 (ix2 r k) * x1 (ix2 ⟨l.val, by omega⟩ k) := by
  rw [val_main_v5_apply, val_main_v4_apply]
  refine Finset.sum_congr rfl fun k _ => ?_
  rw [val_main_v2_apply, val_main_v3_apply, val_main_v1_apply, val_main_v0_apply]
  refine congrArg₂ (fun a b => x0 a * x1 b) ?_ ?_ <;> (funext a; fin_cases a <;> rfl)

/-- What the launch leaves is the reference's product. -/
theorem final (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 2048) (b := 1024) y
  refine Eq.trans ?_ (congrArg _ (place2 t r l)).symm
  rw [ref_at]
  unfold outsAt0
  rw [out_eq]
  refine (pay_at _ _ r l).trans (Finset.sum_congr rfl fun k _ => ?_)
  rw [rows_at, weights_at]

/-! The program and its idealization print the same text. -/

theorem bodies_eq : Cert.Project.defs₀ (F := Bits) = Cert.ProjectIdeal.defs₀ (F := Bits) := by
  unfold Cert.Project.defs₀ Cert.ProjectIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Project.defs (F := Bits) = Cert.ProjectIdeal.defs (F := Bits) := by
  unfold Cert.Project.defs Cert.ProjectIdeal.defs
  rw [bodies_eq]
  exact (rfl)

theorem main_eq : Cert.Project.main (F := Bits) = Cert.ProjectIdeal.main (F := Bits) := (rfl)

/-- The program runs, leaves its arguments as they were and its counters at zero. -/
theorem frame : Cert.quiescent_Project := by
  intro m g _
  have h := Cert.ProjectIdeal.Gen.frame (F := Bits) m g
  rw [← main_eq, ← defs_eq] at h
  exact h

theorem frame_ideal : Cert.quiescent_ProjectIdeal := fun m g _ => Cert.ProjectIdeal.Gen.frame m g

theorem frame_reference : Cert.quiescent_ProjectReferenceIdeal := fun m g _ =>
  (θ_run Cert.ProjectReferenceIdeal.defs _ _).mono
    (fun r h => ⟨fun c => (h c).2, sem_eq_zero_of_no_sems (by decide) r.2⟩)
    (Cert.ProjectReferenceIdeal.Value.run (F := Ideal) m g)

/-- The launch computes the reference's projection. -/
theorem value : Cert.algebraic_ProjectIdeal_ProjectReferenceIdeal := by
  intro m g m' g' _ hin
  refine ⟨fun c => val_main_v5 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.ProjectIdeal.Value.run_blocks (F := Ideal) m g)
  · refine (θ_run Cert.ProjectReferenceIdeal.defs _ _).mono (fun r h c => ?_) (Cert.ProjectReferenceIdeal.Value.run (F := Ideal) m' g')
    refine ⟨(h c).1.trans ?_, (h c).2⟩
    exact (val_main_v5_eq _ _).trans (congrArg₂ (val_main_v5 (F := Ideal)) (hin c).1 (hin c).2)

end Cert.Proof.Projection

end
-- ==== Proof.SsmWeightGrad.lean ====
/-
  The gradient of the weights of the scan's branch: two grid points share a block of 1024 rows, each takes half of the 4096 positions, the first leaves its
  sum in a scratch and the second adds its own, so what the launch leaves is the whole product.
-/
module

public import proofs.«01_k».proof.Defs
public import proofs.«01_k».proof.Proof.Gen.SsmWeight
public import proofs.«01_k».proof.Proof.Gen.SsmWeightIdeal.Value
public import proofs.«01_k».proof.Proof.Gen.SsmWeightReferenceIdeal.Run
public import proofs.«01_k».proof.Proof.Gen.SsmWeightReferenceIdeal.Read
public import proofs.«01_k».proof.Proof.Split

@[expose] public section

set_option maxRecDepth 20000

noncomputable section

namespace Cert.Proof.SsmWeightGrad

open Cert.SsmWeightIdeal Cert.SsmWeightIdeal.Gen
open Idealize.ShloMosaic Idealize.ShloMosaic.TcCoe Idealize.SL.Sem
open Idealize.ShloMosaic.Pipeline (Dat)
open Cert.SsmWeightReferenceIdeal.Read

section Body

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x w : Vec F S2048x1024 .bf16)

/-- The first point of a block leaves its product in the scratch. -/
theorem first_eq (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero origin]
  simp only [View.readAt_eq_ld, h3.read_unread, h4.read_unread, View.ld_unit_zero (S := S2048x1024) origin]

/-- The second adds its own and stores the sum. -/
theorem last_eq (hc0 : ¬cond0_0 i) (hc1 : ¬cond0_1 i) (hc2 : cond0_2 i) (s : Vec F S1024x1024 .f32) :
    out0_B_2 c i a3 h3 a4 h4 a5 h5 a6 h6 hc0 hc1 hc2 x w s = k0_pay3 s x w := by
  unfold out0_B_2
  rw [View.read_writes_eq_canon _ _ _ (cover0_B_2 c i a3 h3 a4 h4 a5 h5 a6 h6 hc0 hc1 hc2 x w s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

end Body

theorem pay1_at (x w : Vec Ideal S2048x1024 .bf16) (r l : Fin 1024) :
    k0_pay1 x w (ix2 r l) = ∑ k : Fin 2048, x (ix2 k r) * w (ix2 k l) := by
  unfold k0_pay1
  pointwise

theorem pay3_at (s : Vec Ideal S1024x1024 .f32) (x w : Vec Ideal S2048x1024 .bf16) (r l : Fin 1024) :
    k0_pay3 s x w (ix2 r l) = s (ix2 r l) + ∑ k : Fin 2048, x (ix2 k r) * w (ix2 k l) := by
  unfold k0_pay3
  pointwise

variable (m : (ℓ : Loc nD τ sig) → Buf (Elt Ideal) ℓ)

/-- The point's block of rows, and its half of the positions. -/
abbrev mOf (t : Fin cfg0.N) : Fin 2 := grid0.coords t 1
abbrev kOf (t : Fin cfg0.N) : Fin 2 := grid0.coords t 2

theorem at0 : ∀ t : Fin cfg0.N, win0_0.index t = ![(kOf t).val, (mOf t).val] := (by decide +kernel : ∀ t : Fin grid0.N, _)
theorem at1 : ∀ t : Fin cfg0.N, win0_1.index t = ![(kOf t).val, 0] := (by decide +kernel : ∀ t : Fin grid0.N, _)
theorem at2 : ∀ t : Fin cfg0.N, win0_2.index t = ![(mOf t).val, 0] := (by decide +kernel : ∀ t : Fin grid0.N, _)
theorem half : ∀ t : Fin cfg0.N, (kOf t).val = t.val % 2 := (by decide +kernel : ∀ t : Fin grid0.N, _)
theorem block : ∀ t : Fin cfg0.N, (mOf t).val = t.val / 2 := (by decide +kernel : ∀ t : Fin grid0.N, _)

theorem place0 (t : Fin cfg0.N) (k : Fin 2048) (r : Fin 1024) :
    (win0_0.blk t).view.emb (ix2 k r) = (ix2 ⟨2048 * (kOf t).val + k.val, by omega⟩ ⟨1024 * (mOf t).val + r.val, by omega⟩ : (⟨2, ![4096, 2048]⟩ : Shape).Idx) := by
  blk_ext [at0]

theorem place1 (t : Fin cfg0.N) (k : Fin 2048) (l : Fin 1024) :
    (win0_1.blk t).view.emb (ix2 k l) = (ix2 ⟨2048 * (kOf t).val + k.val, by omega⟩ l : (⟨2, ![4096, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![2048, 1024]⟩ : Shape).Idx) := by
  blk_ext [at2]

theorem rows_at (c : Dev nD) (t : Fin cfg0.N) (k : Fin 2048) (r : Fin 1024) :
    (iblk m c 0 t : Vec Ideal S2048x1024 .bf16) (ix2 k r)
      = m ((c : Thread nD τ).loc main_arg0) (ix2 ⟨2048 * (kOf t).val + k.val, by omega⟩ ⟨1024 * (mOf t).val + r.val, by omega⟩) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t k r)

theorem cotangent_at (c : Dev nD) (t : Fin cfg0.N) (k : Fin 2048) (l : Fin 1024) :
    (iblk m c 1 t : Vec Ideal S2048x1024 .bf16) (ix2 k l) = m ((c : Thread nD τ).loc main_arg2) (ix2 ⟨2048 * (kOf t).val + k.val, by omega⟩ l) := by
  have e : iblk m c 1 t = (win0_1.blk t).view.read (Elt Ideal) (m ((c : Thread nD τ).loc main_arg2)) :=
    congrArg (fun z => (win0_1.blk t).view.read (Elt Ideal) z) (V_main_arg2 m c)
  rw [e]
  exact congrArg (m ((c : Thread nD τ).loc main_arg2)) (place1 t k l)

/-- The reference at an index. -/
theorem ref_at (x0 : FVec Ideal ⟨2, ![4096, 2048]⟩ .bf16) (x2 : FVec Ideal ⟨2, ![4096, 1024]⟩ .bf16) (r : Fin 2048) (l : Fin 1024) :
    val_main_v5 (F := Ideal) x0 x2 (ix2 r l) = ∑ k : Fin 4096, x0 (ix2 k r) * x2 (ix2 k l) := by
  rw [val_main_v5_apply, val_main_v4_apply]
  refine Finset.sum_congr rfl fun k _ => ?_
  rw [val_main_v3_apply, val_main_v1_apply]
  refine (mul_comm _ _).trans (congrArg₂ (fun a b => x0 a * x2 b) ?_ ?_) <;> (funext a; fin_cases a <;> rfl)

/-- What the second point of a block leaves. -/
theorem point_at (c : Dev nD) (t : Fin cfg0.N) (ht : t.val % 2 = 1) (r l : Fin 1024) :
    (outsAt0 m c t.val t.isLt).1 (ix2 r l)
      = val_main_v5 (F := Ideal) (m ((c : Thread nD τ).loc main_arg0)) (m ((c : Thread nD τ).loc main_arg2)) (ix2 ⟨1024 * (mOf t).val + r.val, by omega⟩ l) := by
  have h0 : (t.val - 1) % 2 = 0 := by omega
  let t' : Fin cfg0.N := ⟨t.val - 1, Nat.lt_of_le_of_lt (Nat.sub_le _ _) t.isLt⟩
  have k1 : (kOf t).val = 1 := (half t).trans ht
  have k0 : (kOf t').val = 0 := (half t').trans h0
  have e : (mOf t').val = (mOf t).val := by
    rw [block t', block t]
    show (t.val - 1) / 2 = t.val / 2
    omega
  rw [outsAt0_B m c t (by omega) ht, outsAt0_A m c t' h0 (show ¬(t.val - 1) % 2 = 1 by omega)]
  dsimp only
  rw [last_eq, first_eq]
  refine (pay3_at _ _ _ r l).trans ?_
  rw [pay1_at, ref_at, sum_split 2048 2048 rfl]
  refine congrArg₂ (· + ·) (Finset.sum_congr rfl fun k _ => ?_) (Finset.sum_congr rfl fun k _ => ?_)
  · rw [rows_at, cotangent_at]
    simp only [k0, e, Nat.mul_zero, Nat.zero_add]
  · rw [rows_at, cotangent_at]
    simp only [k1, Nat.mul_one]

/-- What the launch leaves is the reference's product. -/
theorem final (c : Dev nD) :
    (dats m 0 c).arrAt 2 cfg0.N = val_main_v5 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  obtain ⟨r, l, rfl⟩ := pair_of (a := 1024) (b := 1024) y
  exact (point_at m c t ((flush0_2 t).mp hf) r l).trans (congrArg _ (place2 t r l)).symm

/-! The program and its idealization print the same text. -/

theorem bodies_eq : Cert.SsmWeight.defs₀ (F := Bits) = Cert.SsmWeightIdeal.defs₀ (F := Bits) := by
  unfold Cert.SsmWeight.defs₀ Cert.SsmWeightIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.SsmWeight.defs (F := Bits) = Cert.SsmWeightIdeal.defs (F := Bits) := by
  unfold Cert.SsmWeight.defs Cert.SsmWeightIdeal.defs
  rw [bodies_eq]
  exact (rfl)

theorem main_eq : Cert.SsmWeight.main (F := Bits) = Cert.SsmWeightIdeal.main (F := Bits) := (rfl)

/-- The program runs, leaves its arguments as they were and its counters at zero. -/
theorem frame : Cert.quiescent_SsmWeight := by
  intro m g _
  have h := Cert.SsmWeightIdeal.Gen.frame (F := Bits) m g
  rw [← main_eq, ← defs_eq] at h
  exact h

theorem frame_ideal : Cert.quiescent_SsmWeightIdeal := fun m g _ => Cert.SsmWeightIdeal.Gen.frame m g

theorem frame_reference : Cert.quiescent_SsmWeightReferenceIdeal := fun m g _ =>
  (θ_run Cert.SsmWeightReferenceIdeal.defs _ _).mono
    (fun r h => ⟨fun c => (h c).2, sem_eq_zero_of_no_sems (by decide) r.2⟩)
    (Cert.SsmWeightReferenceIdeal.Value.run (F := Ideal) m g)

/-- The launch computes the reference's gradient. -/
theorem value : Cert.algebraic_SsmWeightIdeal_SsmWeightReferenceIdeal := by
  intro m g m' g' _ hin
  refine ⟨fun c => val_main_v5 (F := Ideal) (m ((c.tc : Thread nD τ).loc main_arg0)) (m ((c.tc : Thread nD τ).loc main_arg2)), ?_, ?_⟩
  · exact (θ_run defs _ _).mono (fun r h c => ⟨(h c).1.trans (final m c), (h c).2⟩) (Cert.SsmWeightIdeal.Value.run_blocks (F := Ideal) m g)
  · refine (θ_run Cert.SsmWeightReferenceIdeal.defs _ _).mono (fun r h c => ?_) (Cert.SsmWeightReferenceIdeal.Value.run (F := Ideal) m' g')
    refine ⟨(h c).1.trans ?_, (h c).2⟩
    exact (val_main_v5_eq _ _).trans (congrArg₂ (val_main_v5 (F := Ideal)) (hin c).1 (hin c).2.2)

end Cert.Proof.SsmWeightGrad

end
-- ==== Proof.SsmRowsGrad.lean ====
/-
  The gradient of the rows of the scan's branch: one grid point multiplies 1024 rows of the cotangent with the transpose of one half of the weights'
  2048 rows, so what the launch leaves is the gradient of all rows and columns.
-/
module

public import proofs.«01_k».proof.Defs
public import proofs.«01_k».proof.Proof.Gen.SsmRows
public import proofs.«01_k».proof.Proof.Gen.SsmRowsIdeal.Value
public import proofs.«01_k».proof.Proof.Gen.SsmRowsReferenceIdeal.Run
public import proofs.«01_k».proof.Proof.Gen.SsmRowsReferenceIdeal.Read
public import proofs.«01_k».proof.Proof.Split

@[expose] public section

set_option maxRecDepth 20000

noncomputable section

namespace Cert.Proof.SsmRowsGrad

open Cert.SsmRowsIdeal Cert.SsmRowsIdeal.Gen
open Idealize.ShloMosaic Idealize.ShloMosaic.TcCoe Idealize.SL.Sem
open Idealize.ShloMosaic.Pipeline (Dat)
open Cert.SsmRowsReferenceIdeal.Read

/-- The body stores the product of its two blocks. -/
theorem out_eq {F : FTy → Type} [FloatOps F] (x w : Vec F S1024x1024 .bf16) : out0_2 x w = k0_pay1 x w := by
  unfold out0_2
  rw [View.canon_unit_zero origin, View.ld_unit_zero (S := S1024x1024) origin, View.ld_unit_zero (S := S1024x1024) origin]

theorem pay_at (x w : Vec Ideal S1024x1024 .bf16) (r l : Fin 1024) : k0_pay1 x w (ix2 r l) = ∑ k : Fin 1024, x (ix2 r k) * w (ix2 l k) := by
  unfold k0_pay1
  pointwise

variable (m : (ℓ : Loc nD τ sig) → Buf (Elt Ideal) ℓ)

/-- The point's half of the columns, and its block of rows. -/
abbrev nOf (t : Fin cfg0.N) : Fin 2 := grid0.coords t 0
abbrev mOf (t : Fin cfg0.N) : Fin 4 := grid0.coords t 1

theorem at0 : ∀ t : Fin cfg0.N, win0_0.index t = ![(mOf t).val, 0] := (by decide +kernel : ∀ t : Fin grid0.N, _)
theorem at1 : ∀ t : Fin cfg0.N, win0_1.index t = ![(nOf t).val, 0] := (by decide +kernel : ∀ t : Fin grid0.N, _)
theorem at2 : ∀ t : Fin cfg0.N, win0_2.index t = ![(mOf t).val, (nOf t).val] := (by decide +kernel : ∀ t : Fin grid0.N, _)

theorem place0 (t : Fin cfg0.N) (r k : Fin 1024) :
    (win0_0.blk t).view.emb (ix2 r k) = (ix2 ⟨1024 * (mOf t).val + r.val, by omega⟩ k : (⟨2, ![4096, 1024]⟩ : Shape).Idx) := by
  blk_ext [at0]

theorem place1 (t : Fin cfg0.N) (l k : Fin 1024) :
    (win0_1.blk t).view.emb (ix2 l k) = (ix2 ⟨1024 * (nOf t).val + l.val, by omega⟩ k : (⟨2, ![2048, 1024]⟩ : Shape).Idx) := by
  blk_ext [at1]

theorem place2 (t : Fin cfg0.N) (r l : Fin 1024) :
    (win0_2.blk t).view.emb (ix2 r l) = (ix2 ⟨1024 * (mOf t).val + r.val, by omega⟩ ⟨1024 * (nOf t).val + l.val, by omega⟩ : (⟨2, ![4096, 2048]⟩ : Shape).Idx) := by
  blk_ext [at2]

theorem cotangent_at (c : Dev nD) (t : Fin cfg0.N) (r k : Fin 1024) :
    (iblk m c 0 t : Vec Ideal S1024x1024 .bf16) (ix2 r k) = m ((c : Thread nD τ).loc main_arg2) (ix2 ⟨1024 * (mOf t).val + r.val, by omega⟩ k) := by
  have e : iblk m c 0 t = (win0_0.blk t).view.read (Elt Ideal) (m ((c : Thread nD τ).loc main_arg2)) :=
    congrArg (fun z => (win0_0.blk t).view.read (Elt Ideal) z) (V_main_arg2 m c)
  rw [e]
  exact congrArg (m ((c : Thread nD τ).loc main_arg2)) (place0 t r k)

theorem weights_at (c : Dev nD) (t : Fin cfg0.N) (l k : Fin 1024) :
    (iblk m c 1 t : Vec Ideal S1024x1024 .bf16) (ix2 l k) = m ((c : Thread nD τ).loc main_arg1) (ix2 ⟨1024 * (nOf t).val + l.val, by omega⟩ k) := by
  have e : iblk m c 1 t = (win0_1.blk t).view.read (Elt Ideal) (m ((c : Thread nD τ).loc main_arg1)) :=
    congrArg (fun z => (win0_1.blk t).view.read (Elt Ideal) z) (V_main_arg1 m c)
  rw [e]
  exact congrArg (m ((c : Thread nD τ).loc main_arg1)) (place1 t l k)

/-- The reference at an index. -/
theorem ref_at (x1 : FVec Ideal ⟨2, ![2048, 1024]⟩ .bf16) (x2 : FVec Ideal ⟨2, ![4096, 1024]⟩ .bf16) (r : Fin 4096) (l : Fin 2048) :
    val_main_v4 (F := Ideal) x1 x2 (ix2 r l) = ∑ k : Fin 1024, x2 (ix2 r k) * x1 (ix2 l k) := by
  rw [val_main_v4_apply]
  refine Finset.sum_congr rfl fun k _ => ?_
  rw [val_main_v3_apply, val_main_v1_apply]
  refine congrArg₂ (fun a b => x2 a * x1 b) ?_ ?_ <;> (funext a; fin_cases a <;> rfl)

/-- What the launch leaves is the reference's gradient. -/
theorem final (c : Dev nD) :
    (dats m 0 c).arrAt 2 cfg0.N = val_main_v4 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  obtain ⟨r, l, rfl⟩ := pair_of (a := 1024) (b := 1024) y
  refine Eq.trans ?_ (congrArg _ (place2 t r l)).symm
  rw [ref_at, out_eq]
  refine (pay_at _ _ r l).trans (Finset.sum_congr rfl fun k _ => ?_)
  rw [cotangent_at, weights_at]

/-! The program and its idealization print the same text. -/

theorem bodies_eq : Cert.SsmRows.defs₀ (F := Bits) = Cert.SsmRowsIdeal.defs₀ (F := Bits) := by
  unfold Cert.SsmRows.defs₀ Cert.SsmRowsIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.SsmRows.defs (F := Bits) = Cert.SsmRowsIdeal.defs (F := Bits) := by
  unfold Cert.SsmRows.defs Cert.SsmRowsIdeal.defs
  rw [bodies_eq]
  exact (rfl)

theorem main_eq : Cert.SsmRows.main (F := Bits) = Cert.SsmRowsIdeal.main (F := Bits) := (rfl)

/-- The program runs, leaves its arguments as they were and its counters at zero. -/
theorem frame : Cert.quiescent_SsmRows := by
  intro m g _
  have h := Cert.SsmRowsIdeal.Gen.frame (F := Bits) m g
  rw [← main_eq, ← defs_eq] at h
  exact h

theorem frame_ideal : Cert.quiescent_SsmRowsIdeal := fun m g _ => Cert.SsmRowsIdeal.Gen.frame m g

theorem frame_reference : Cert.quiescent_SsmRowsReferenceIdeal := fun m g _ =>
  (θ_run Cert.SsmRowsReferenceIdeal.defs _ _).mono
    (fun r h => ⟨fun c => (h c).2, sem_eq_zero_of_no_sems (by decide) r.2⟩)
    (Cert.SsmRowsReferenceIdeal.Value.run (F := Ideal) m g)

/-- The launch computes the reference's gradient. -/
theorem value : Cert.algebraic_SsmRowsIdeal_SsmRowsReferenceIdeal := by
  intro m g m' g' _ hin
  refine ⟨fun c => val_main_v4 (F := Ideal) (m ((c.tc : Thread nD τ).loc main_arg1)) (m ((c.tc : Thread nD τ).loc main_arg2)), ?_, ?_⟩
  · exact (θ_run defs _ _).mono (fun r h c => ⟨(h c).1.trans (final m c), (h c).2⟩) (Cert.SsmRowsIdeal.Value.run_blocks (F := Ideal) m g)
  · refine (θ_run Cert.SsmRowsReferenceIdeal.defs _ _).mono (fun r h c => ?_) (Cert.SsmRowsReferenceIdeal.Value.run (F := Ideal) m' g')
    refine ⟨(h c).1.trans ?_, (h c).2⟩
    exact (val_main_v4_eq _ _).trans (congrArg₂ (val_main_v4 (F := Ideal)) (hin c).2.1 (hin c).2.2)

end Cert.Proof.SsmRowsGrad

end
-- ==== Proof.OutWeightGrad.lean ====
/-
  The gradient of a product's weights: each of two grid points takes half of the 4096 positions, the first leaves its
  sum in a scratch and the second adds its own, so what the launch leaves is the whole product.
-/
module

public import proofs.«01_k».proof.Defs
public import proofs.«01_k».proof.Proof.Gen.OutWeight
public import proofs.«01_k».proof.Proof.Gen.OutWeightIdeal.Value
public import proofs.«01_k».proof.Proof.Gen.OutWeightReferenceIdeal.Run
public import proofs.«01_k».proof.Proof.Gen.OutWeightReferenceIdeal.Read
public import proofs.«01_k».proof.Proof.Split

@[expose] public section

set_option maxRecDepth 20000

noncomputable section

namespace Cert.Proof.OutWeightGrad

open Cert.OutWeightIdeal Cert.OutWeightIdeal.Gen
open Idealize.ShloMosaic Idealize.ShloMosaic.TcCoe Idealize.SL.Sem
open Idealize.ShloMosaic.Pipeline (Dat)
open Cert.OutWeightReferenceIdeal.Read

section Body

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x w : Vec F S2048x1024 .bf16)

/-- The first point of a block leaves its product in the scratch. -/
theorem first_eq (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero origin]
  simp only [View.readAt_eq_ld, h3.read_unread, h4.read_unread, View.ld_unit_zero (S := S2048x1024) origin]

/-- The second adds its own and stores the sum. -/
theorem last_eq (hc0 : ¬cond0_0 i) (hc1 : ¬cond0_1 i) (hc2 : cond0_2 i) (s : Vec F S1024x1024 .f32) :
    out0_B_2 c i a3 h3 a4 h4 a5 h5 a6 h6 hc0 hc1 hc2 x w s = k0_pay3 s x w := by
  unfold out0_B_2
  rw [View.read_writes_eq_canon _ _ _ (cover0_B_2 c i a3 h3 a4 h4 a5 h5 a6 h6 hc0 hc1 hc2 x w s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

end Body

theorem pay1_at (x w : Vec Ideal S2048x1024 .bf16) (r l : Fin 1024) :
    k0_pay1 x w (ix2 r l) = ∑ k : Fin 2048, x (ix2 k r) * w (ix2 k l) := by
  unfold k0_pay1
  pointwise

theorem pay3_at (s : Vec Ideal S1024x1024 .f32) (x w : Vec Ideal S2048x1024 .bf16) (r l : Fin 1024) :
    k0_pay3 s x w (ix2 r l) = s (ix2 r l) + ∑ k : Fin 2048, x (ix2 k r) * w (ix2 k l) := by
  unfold k0_pay3
  pointwise

variable (m : (ℓ : Loc nD τ sig) → Buf (Elt Ideal) ℓ)

/-- The point's half of the positions. -/
abbrev kOf (t : Fin cfg0.N) : Fin 2 := grid0.coords t 2

theorem at0 : ∀ t : Fin cfg0.N, win0_0.index t = ![(kOf t).val, 0] := (by decide +kernel : ∀ t : Fin grid0.N, _)
theorem at1 : ∀ t : Fin cfg0.N, win0_1.index t = ![(kOf t).val, 0] := (by decide +kernel : ∀ t : Fin grid0.N, _)
theorem at2 : ∀ t : Fin cfg0.N, win0_2.index t = ![0, 0] := (by decide +kernel : ∀ t : Fin grid0.N, _)
theorem half : ∀ t : Fin cfg0.N, (kOf t).val = t.val % 2 := (by decide +kernel : ∀ t : Fin grid0.N, _)

theorem place0 (t : Fin cfg0.N) (k : Fin 2048) (r : Fin 1024) :
    (win0_0.blk t).view.emb (ix2 k r) = (ix2 ⟨2048 * (kOf t).val + k.val, by omega⟩ r : (⟨2, ![4096, 1024]⟩ : Shape).Idx) := by
  blk_ext [at0]

theorem place1 (t : Fin cfg0.N) (k : Fin 2048) (l : Fin 1024) :
    (win0_1.blk t).view.emb (ix2 k l) = (ix2 ⟨2048 * (kOf t).val + k.val, by omega⟩ l : (⟨2, ![4096, 1024]⟩ : Shape).Idx) := by
  blk_ext [at1]

theorem place2 (t : Fin cfg0.N) (r l : Fin 1024) :
    (win0_2.blk t).view.emb (ix2 r l) = (ix2 r l : (⟨2, ![1024, 1024]⟩ : Shape).Idx) := by
  blk_ext [at2]

theorem rows_at (c : Dev nD) (t : Fin cfg0.N) (k : Fin 2048) (r : Fin 1024) :
    (iblk m c 0 t : Vec Ideal S2048x1024 .bf16) (ix2 k r)
      = m ((c : Thread nD τ).loc main_arg0) (ix2 ⟨2048 * (kOf t).val + k.val, by omega⟩ r) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t k r)

theorem cotangent_at (c : Dev nD) (t : Fin cfg0.N) (k : Fin 2048) (l : Fin 1024) :
    (iblk m c 1 t : Vec Ideal S2048x1024 .bf16) (ix2 k l) = m ((c : Thread nD τ).loc main_arg2) (ix2 ⟨2048 * (kOf t).val + k.val, by omega⟩ l) := by
  have e : iblk m c 1 t = (win0_1.blk t).view.read (Elt Ideal) (m ((c : Thread nD τ).loc main_arg2)) :=
    congrArg (fun z => (win0_1.blk t).view.read (Elt Ideal) z) (V_main_arg2 m c)
  rw [e]
  exact congrArg (m ((c : Thread nD τ).loc main_arg2)) (place1 t k l)

/-- The reference at an index. -/
theorem ref_at (x0 : FVec Ideal ⟨2, ![4096, 1024]⟩ .bf16) (x2 : FVec Ideal ⟨2, ![4096, 1024]⟩ .bf16) (r l : Fin 1024) :
    val_main_v5 (F := Ideal) x0 x2 (ix2 r l) = ∑ k : Fin 4096, x0 (ix2 k r) * x2 (ix2 k l) := by
  rw [val_main_v5_apply, val_main_v4_apply]
  refine Finset.sum_congr rfl fun k _ => ?_
  rw [val_main_v3_apply, val_main_v1_apply]
  refine (mul_comm _ _).trans (congrArg₂ (fun a b => x0 a * x2 b) ?_ ?_) <;> (funext a; fin_cases a <;> rfl)

/-- What the second point of a block leaves. -/
theorem point_at (c : Dev nD) (t : Fin cfg0.N) (ht : t.val % 2 = 1) (r l : Fin 1024) :
    (outsAt0 m c t.val t.isLt).1 (ix2 r l)
      = val_main_v5 (F := Ideal) (m ((c : Thread nD τ).loc main_arg0)) (m ((c : Thread nD τ).loc main_arg2)) (ix2 r l) := by
  have h0 : (t.val - 1) % 2 = 0 := by omega
  let t' : Fin cfg0.N := ⟨t.val - 1, Nat.lt_of_le_of_lt (Nat.sub_le _ _) t.isLt⟩
  have k1 : (kOf t).val = 1 := (half t).trans ht
  have k0 : (kOf t').val = 0 := (half t').trans h0
  rw [outsAt0_B m c t (by omega) ht, outsAt0_A m c t' h0 (show ¬(t.val - 1) % 2 = 1 by omega)]
  dsimp only
  rw [last_eq, first_eq]
  refine (pay3_at _ _ _ r l).trans ?_
  rw [pay1_at, ref_at, sum_split 2048 2048 rfl]
  refine congrArg₂ (· + ·) (Finset.sum_congr rfl fun k _ => ?_) (Finset.sum_congr rfl fun k _ => ?_)
  · rw [rows_at, cotangent_at]
    simp only [k0, Nat.mul_zero, Nat.zero_add]
  · rw [rows_at, cotangent_at]
    simp only [k1, Nat.mul_one]

/-- What the launch leaves is the reference's product. -/
theorem final (c : Dev nD) :
    (dats m 0 c).arrAt 2 cfg0.N = val_main_v5 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  obtain ⟨r, l, rfl⟩ := pair_of (a := 1024) (b := 1024) y
  exact (point_at m c t ((flush0_2 t).mp hf) r l).trans (congrArg _ (place2 t r l)).symm

/-! The program and its idealization print the same text. -/

theorem bodies_eq : Cert.OutWeight.defs₀ (F := Bits) = Cert.OutWeightIdeal.defs₀ (F := Bits) := by
  unfold Cert.OutWeight.defs₀ Cert.OutWeightIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.OutWeight.defs (F := Bits) = Cert.OutWeightIdeal.defs (F := Bits) := by
  unfold Cert.OutWeight.defs Cert.OutWeightIdeal.defs
  rw [bodies_eq]
  exact (rfl)

theorem main_eq : Cert.OutWeight.main (F := Bits) = Cert.OutWeightIdeal.main (F := Bits) := (rfl)

/-- The program runs, leaves its arguments as they were and its counters at zero. -/
theorem frame : Cert.quiescent_OutWeight := by
  intro m g _
  have h := Cert.OutWeightIdeal.Gen.frame (F := Bits) m g
  rw [← main_eq, ← defs_eq] at h
  exact h

theorem frame_ideal : Cert.quiescent_OutWeightIdeal := fun m g _ => Cert.OutWeightIdeal.Gen.frame m g

theorem frame_reference : Cert.quiescent_OutWeightReferenceIdeal := fun m g _ =>
  (θ_run Cert.OutWeightReferenceIdeal.defs _ _).mono
    (fun r h => ⟨fun c => (h c).2, sem_eq_zero_of_no_sems (by decide) r.2⟩)
    (Cert.OutWeightReferenceIdeal.Value.run (F := Ideal) m g)

/-- The launch computes the reference's gradient. -/
theorem value : Cert.algebraic_OutWeightIdeal_OutWeightReferenceIdeal := by
  intro m g m' g' _ hin
  refine ⟨fun c => val_main_v5 (F := Ideal) (m ((c.tc : Thread nD τ).loc main_arg0)) (m ((c.tc : Thread nD τ).loc main_arg2)), ?_, ?_⟩
  · exact (θ_run defs _ _).mono (fun r h c => ⟨(h c).1.trans (final m c), (h c).2⟩) (Cert.OutWeightIdeal.Value.run_blocks (F := Ideal) m g)
  · refine (θ_run Cert.OutWeightReferenceIdeal.defs _ _).mono (fun r h c => ?_) (Cert.OutWeightReferenceIdeal.Value.run (F := Ideal) m' g')
    refine ⟨(h c).1.trans ?_, (h c).2⟩
    exact (val_main_v5_eq _ _).trans (congrArg₂ (val_main_v5 (F := Ideal)) (hin c).1 (hin c).2.2)

end Cert.Proof.OutWeightGrad

end
-- ==== Proof.RowsGrad.lean ====
/-
  The gradient of a product's rows: one grid point multiplies 1024 rows of the cotangent with the transpose of the whole of the weights, so what the
  launch leaves is the gradient of all rows.
-/
module

public import proofs.«01_k».proof.Defs
public import proofs.«01_k».proof.Proof.Gen.Rows
public import proofs.«01_k».proof.Proof.Gen.RowsIdeal.Value
public import proofs.«01_k».proof.Proof.Gen.RowsReferenceIdeal.Run
public import proofs.«01_k».proof.Proof.Gen.RowsReferenceIdeal.Read
public import proofs.«01_k».proof.Proof.Split

@[expose] public section

set_option maxRecDepth 20000

noncomputable section

namespace Cert.Proof.RowsGrad

open Cert.RowsIdeal Cert.RowsIdeal.Gen
open Idealize.ShloMosaic Idealize.ShloMosaic.TcCoe Idealize.SL.Sem
open Idealize.ShloMosaic.Pipeline (Dat)
open Cert.RowsReferenceIdeal.Read

/-- The body stores the product of its two blocks. -/
theorem out_eq {F : FTy → Type} [FloatOps F] (x w : Vec F S1024x1024 .bf16) : out0_2 x w = k0_pay1 x w := by
  unfold out0_2
  rw [View.canon_unit_zero origin, View.ld_unit_zero (S := S1024x1024) origin, View.ld_unit_zero (S := S1024x1024) origin]

theorem pay_at (x w : Vec Ideal S1024x1024 .bf16) (r l : Fin 1024) : k0_pay1 x w (ix2 r l) = ∑ k : Fin 1024, x (ix2 r k) * w (ix2 l k) := by
  unfold k0_pay1
  pointwise

variable (m : (ℓ : Loc nD τ sig) → Buf (Elt Ideal) ℓ)

/-- The point's block of rows. -/
abbrev mOf (t : Fin cfg0.N) : Fin 4 := grid0.coords t 1

theorem at0 : ∀ t : Fin cfg0.N, win0_0.index t = ![(mOf t).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(mOf t).val, 0] := (by decide +kernel : ∀ t : Fin grid0.N, _)

theorem place0 (t : Fin cfg0.N) (r k : Fin 1024) :
    (win0_0.blk t).view.emb (ix2 r k) = (ix2 ⟨1024 * (mOf t).val + r.val, by omega⟩ k : (⟨2, ![4096, 1024]⟩ : Shape).Idx) := by
  blk_ext [at0]

theorem place1 (t : Fin cfg0.N) (l k : Fin 1024) : (win0_1.blk t).view.emb (ix2 l k) = (ix2 l k : (⟨2, ![1024, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![4096, 1024]⟩ : Shape).Idx) := by
  blk_ext [at2]

theorem cotangent_at (c : Dev nD) (t : Fin cfg0.N) (r k : Fin 1024) :
    (iblk m c 0 t : Vec Ideal S1024x1024 .bf16) (ix2 r k) = m ((c : Thread nD τ).loc main_arg2) (ix2 ⟨1024 * (mOf t).val + r.val, by omega⟩ k) := by
  have e : iblk m c 0 t = (win0_0.blk t).view.read (Elt Ideal) (m ((c : Thread nD τ).loc main_arg2)) :=
    congrArg (fun z => (win0_0.blk t).view.read (Elt Ideal) z) (V_main_arg2 m c)
  rw [e]
  exact congrArg (m ((c : Thread nD τ).loc main_arg2)) (place0 t r k)

theorem weights_at (c : Dev nD) (t : Fin cfg0.N) (l k : Fin 1024) :
    (iblk m c 1 t : Vec Ideal S1024x1024 .bf16) (ix2 l k) = m ((c : Thread nD τ).loc main_arg1) (ix2 l k) := by
  have e : iblk m c 1 t = (win0_1.blk t).view.read (Elt Ideal) (m ((c : Thread nD τ).loc main_arg1)) :=
    congrArg (fun z => (win0_1.blk t).view.read (Elt Ideal) z) (V_main_arg1 m c)
  rw [e]
  exact congrArg (m ((c : Thread nD τ).loc main_arg1)) (place1 t l k)

/-- The reference at an index. -/
theorem ref_at (x1 : FVec Ideal ⟨2, ![1024, 1024]⟩ .bf16) (x2 : FVec Ideal ⟨2, ![4096, 1024]⟩ .bf16) (r : Fin 4096) (l : Fin 1024) :
    val_main_v5 (F := Ideal) x1 x2 (ix2 r l) = ∑ k : Fin 1024, x2 (ix2 r k) * x1 (ix2 l k) := by
  rw [val_main_v5_apply, val_main_v4_apply]
  refine Finset.sum_congr rfl fun k _ => ?_
  rw [val_main_v3_apply, val_main_v1_apply]
  refine congrArg₂ (fun a b => x2 a * x1 b) ?_ ?_ <;> (funext a; fin_cases a <;> rfl)

/-- What the launch leaves is the reference's gradient. -/
theorem final (c : Dev nD) :
    (dats m 0 c).arrAt 2 cfg0.N = val_main_v5 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  obtain ⟨r, l, rfl⟩ := pair_of (a := 1024) (b := 1024) y
  refine Eq.trans ?_ (congrArg _ (place2 t r l)).symm
  rw [ref_at, out_eq]
  refine (pay_at _ _ r l).trans (Finset.sum_congr rfl fun k _ => ?_)
  rw [cotangent_at, weights_at]

/-! The program and its idealization print the same text. -/

theorem bodies_eq : Cert.Rows.defs₀ (F := Bits) = Cert.RowsIdeal.defs₀ (F := Bits) := by
  unfold Cert.Rows.defs₀ Cert.RowsIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Rows.defs (F := Bits) = Cert.RowsIdeal.defs (F := Bits) := by
  unfold Cert.Rows.defs Cert.RowsIdeal.defs
  rw [bodies_eq]
  exact (rfl)

theorem main_eq : Cert.Rows.main (F := Bits) = Cert.RowsIdeal.main (F := Bits) := (rfl)

/-- The program runs, leaves its arguments as they were and its counters at zero. -/
theorem frame : Cert.quiescent_Rows := by
  intro m g _
  have h := Cert.RowsIdeal.Gen.frame (F := Bits) m g
  rw [← main_eq, ← defs_eq] at h
  exact h

theorem frame_ideal : Cert.quiescent_RowsIdeal := fun m g _ => Cert.RowsIdeal.Gen.frame m g

theorem frame_reference : Cert.quiescent_RowsReferenceIdeal := fun m g _ =>
  (θ_run Cert.RowsReferenceIdeal.defs _ _).mono
    (fun r h => ⟨fun c => (h c).2, sem_eq_zero_of_no_sems (by decide) r.2⟩)
    (Cert.RowsReferenceIdeal.Value.run (F := Ideal) m g)

/-- The launch computes the reference's gradient. -/
theorem value : Cert.algebraic_RowsIdeal_RowsReferenceIdeal := by
  intro m g m' g' _ hin
  refine ⟨fun c => val_main_v5 (F := Ideal) (m ((c.tc : Thread nD τ).loc main_arg1)) (m ((c.tc : Thread nD τ).loc main_arg2)), ?_, ?_⟩
  · exact (θ_run defs _ _).mono (fun r h c => ⟨(h c).1.trans (final m c), (h c).2⟩) (Cert.RowsIdeal.Value.run_blocks (F := Ideal) m g)
  · refine (θ_run Cert.RowsReferenceIdeal.defs _ _).mono (fun r h c => ?_) (Cert.RowsReferenceIdeal.Value.run (F := Ideal) m' g')
    refine ⟨(h c).1.trans ?_, (h c).2⟩
    exact (val_main_v5_eq _ _).trans (congrArg₂ (val_main_v5 (F := Ideal)) (hin c).2.1 (hin c).2.2)

end Cert.Proof.RowsGrad

end
-- ==== Proof.SsmBranch.lean ====
/-
  The scan's branch: one grid point multiplies 1024 rows with the whole of the weights, so what the launch leaves is the product of all rows.
-/
module

public import proofs.«01_k».proof.Defs
public import proofs.«01_k».proof.Proof.Gen.SsmOut
public import proofs.«01_k».proof.Proof.Gen.SsmOutIdeal.Value
public import proofs.«01_k».proof.Proof.Gen.SsmOutReferenceIdeal.Run
public import proofs.«01_k».proof.Proof.Gen.SsmOutReferenceIdeal.Read
public import proofs.«01_k».proof.Proof.Split

@[expose] public section

set_option maxRecDepth 20000

noncomputable section

namespace Cert.Proof.SsmBranch

open Cert.SsmOutIdeal Cert.SsmOutIdeal.Gen
open Idealize.ShloMosaic Idealize.ShloMosaic.TcCoe Idealize.SL.Sem
open Idealize.ShloMosaic.Pipeline (Dat)
open Cert.SsmOutReferenceIdeal.Read

/-- The body stores the product of its two blocks. -/
theorem out_eq {F : FTy → Type} [FloatOps F] (x : Vec F S1024x2048 .bf16) (w : Vec F S2048x1024 .bf16) : out0_2 x w = k0_pay1 x w := by
  unfold out0_2
  rw [View.canon_unit_zero origin, View.ld_unit_zero (S := S1024x2048) origin, View.ld_unit_zero (S := S2048x1024) origin]

theorem pay_at (x : Vec Ideal S1024x2048 .bf16) (w : Vec Ideal S2048x1024 .bf16) (r l : Fin 1024) : k0_pay1 x w (ix2 r l) = ∑ k : Fin 2048, x (ix2 r k) * w (ix2 k l) := by
  unfold k0_pay1
  pointwise

variable (m : (ℓ : Loc nD τ sig) → Buf (Elt Ideal) ℓ)

/-- The point's block of rows. -/
abbrev mOf (t : Fin cfg0.N) : Fin 4 := grid0.coords t 1

theorem at0 : ∀ t : Fin cfg0.N, win0_0.index t = ![(mOf t).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(mOf t).val, 0] := (by decide +kernel : ∀ t : Fin grid0.N, _)

theorem place0 (t : Fin cfg0.N) (r : Fin 1024) (k : Fin 2048) :
    (win0_0.blk t).view.emb (ix2 r k) = (ix2 ⟨1024 * (mOf t).val + r.val, by omega⟩ k : (⟨2, ![4096, 2048]⟩ : Shape).Idx) := by
  blk_ext [at0]

theorem place1 (t : Fin cfg0.N) (k : Fin 2048) (l : Fin 1024) : (win0_1.blk t).view.emb (ix2 k l) = (ix2 k l : (⟨2, ![2048, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![4096, 1024]⟩ : Shape).Idx) := by
  blk_ext [at2]

theorem rows_at (c : Dev nD) (t : Fin cfg0.N) (r : Fin 1024) (k : Fin 2048) :
    (iblk m c 0 t : Vec Ideal S1024x2048 .bf16) (ix2 r k) = m ((c : Thread nD τ).loc main_arg0) (ix2 ⟨1024 * (mOf t).val + r.val, by omega⟩ k) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t r k)

theorem weights_at (c : Dev nD) (t : Fin cfg0.N) (k : Fin 2048) (l : Fin 1024) :
    (iblk m c 1 t : Vec Ideal S2048x1024 .bf16) (ix2 k l) = m ((c : Thread nD τ).loc main_arg1) (ix2 k l) := by
  have e : iblk m c 1 t = (win0_1.blk t).view.read (Elt Ideal) (m ((c : Thread nD τ).loc main_arg1)) :=
    congrArg (fun z => (win0_1.blk t).view.read (Elt Ideal) z) (V_main_arg1 m c)
  rw [e]
  exact congrArg (m ((c : Thread nD τ).loc main_arg1)) (place1 t k l)

/-- The reference at an index. -/
theorem ref_at (x0 : FVec Ideal ⟨2, ![4096, 2048]⟩ .bf16) (x1 : FVec Ideal ⟨2, ![2048, 1024]⟩ .bf16) (r : Fin 4096) (l : Fin 1024) :
    val_main_v3 (F := Ideal) x0 x1 (ix2 r l) = ∑ k : Fin 2048, x0 (ix2 r k) * x1 (ix2 k l) := by
  rw [val_main_v3_apply, val_main_v2_apply]
  refine Finset.sum_congr rfl fun k _ => ?_
  rw [val_main_v0_apply, val_main_v1_apply]
  refine congrArg₂ (fun a b => x0 a * x1 b) ?_ ?_ <;> (funext a; fin_cases a <;> rfl)

/-- What the launch leaves is the reference's product. -/
theorem final (c : Dev nD) :
    (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 1024) (b := 1024) y
  refine Eq.trans ?_ (congrArg _ (place2 t r l)).symm
  rw [ref_at, out_eq]
  refine (pay_at _ _ r l).trans (Finset.sum_congr rfl fun k _ => ?_)
  rw [rows_at, weights_at]

/-! The program and its idealization print the same text. -/

theorem bodies_eq : Cert.SsmOut.defs₀ (F := Bits) = Cert.SsmOutIdeal.defs₀ (F := Bits) := by
  unfold Cert.SsmOut.defs₀ Cert.SsmOutIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.SsmOut.defs (F := Bits) = Cert.SsmOutIdeal.defs (F := Bits) := by
  unfold Cert.SsmOut.defs Cert.SsmOutIdeal.defs
  rw [bodies_eq]
  exact (rfl)

theorem main_eq : Cert.SsmOut.main (F := Bits) = Cert.SsmOutIdeal.main (F := Bits) := (rfl)

/-- The program runs, leaves its arguments as they were and its counters at zero. -/
theorem frame : Cert.quiescent_SsmOut := by
  intro m g _
  have h := Cert.SsmOutIdeal.Gen.frame (F := Bits) m g
  rw [← main_eq, ← defs_eq] at h
  exact h

theorem frame_ideal : Cert.quiescent_SsmOutIdeal := fun m g _ => Cert.SsmOutIdeal.Gen.frame m g

theorem frame_reference : Cert.quiescent_SsmOutReferenceIdeal := fun m g _ =>
  (θ_run Cert.SsmOutReferenceIdeal.defs _ _).mono
    (fun r h => ⟨fun c => (h c).2, sem_eq_zero_of_no_sems (by decide) r.2⟩)
    (Cert.SsmOutReferenceIdeal.Value.run (F := Ideal) m g)

/-- The launch computes the reference's product. -/
theorem value : Cert.algebraic_SsmOutIdeal_SsmOutReferenceIdeal := by
  intro m g m' g' _ hin
  refine ⟨fun c => val_main_v3 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.SsmOutIdeal.Value.run_blocks (F := Ideal) m g)
  · refine (θ_run Cert.SsmOutReferenceIdeal.defs _ _).mono (fun r h c => ?_) (Cert.SsmOutReferenceIdeal.Value.run (F := Ideal) m' g')
    refine ⟨(h c).1.trans ?_, (h c).2⟩
    exact (val_main_v3_eq _ _).trans (congrArg₂ (val_main_v3 (F := Ideal)) (hin c).1 (hin c).2)

end Cert.Proof.SsmBranch

end
-- ==== Proof.OutProduct.lean ====
/-
  The output product: one grid point multiplies 1024 rows with the whole of the weights, so what the launch leaves is the product of all rows.
-/
module

public import proofs.«01_k».proof.Defs
public import proofs.«01_k».proof.Proof.Gen.Out
public import proofs.«01_k».proof.Proof.Gen.OutIdeal.Value
public import proofs.«01_k».proof.Proof.Gen.OutReferenceIdeal.Run
public import proofs.«01_k».proof.Proof.Gen.OutReferenceIdeal.Read
public import proofs.«01_k».proof.Proof.Split

@[expose] public section

set_option maxRecDepth 20000

noncomputable section

namespace Cert.Proof.OutProduct

open Cert.OutIdeal Cert.OutIdeal.Gen
open Idealize.ShloMosaic Idealize.ShloMosaic.TcCoe Idealize.SL.Sem
open Idealize.ShloMosaic.Pipeline (Dat)
open Cert.OutReferenceIdeal.Read

/-- The body stores the product of its two blocks. -/
theorem out_eq {F : FTy → Type} [FloatOps F] (x w : Vec F S1024x1024 .bf16) : out0_2 x w = k0_pay1 x w := by
  unfold out0_2
  rw [View.canon_unit_zero origin, View.ld_unit_zero (S := S1024x1024) origin, View.ld_unit_zero (S := S1024x1024) origin]

theorem pay_at (x w : Vec Ideal S1024x1024 .bf16) (r l : Fin 1024) : k0_pay1 x w (ix2 r l) = ∑ k : Fin 1024, x (ix2 r k) * w (ix2 k l) := by
  unfold k0_pay1
  pointwise

variable (m : (ℓ : Loc nD τ sig) → Buf (Elt Ideal) ℓ)

/-- The point's block of rows. -/
abbrev mOf (t : Fin cfg0.N) : Fin 4 := grid0.coords t 1

theorem at0 : ∀ t : Fin cfg0.N, win0_0.index t = ![(mOf t).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(mOf t).val, 0] := (by decide +kernel : ∀ t : Fin grid0.N, _)

theorem place0 (t : Fin cfg0.N) (r k : Fin 1024) :
    (win0_0.blk t).view.emb (ix2 r k) = (ix2 ⟨1024 * (mOf t).val + r.val, by omega⟩ k : (⟨2, ![4096, 1024]⟩ : Shape).Idx) := by
  blk_ext [at0]

theorem place1 (t : Fin cfg0.N) (k l : Fin 1024) : (win0_1.blk t).view.emb (ix2 k l) = (ix2 k l : (⟨2, ![1024, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![4096, 1024]⟩ : Shape).Idx) := by
  blk_ext [at2]

theorem rows_at (c : Dev nD) (t : Fin cfg0.N) (r k : Fin 1024) :
    (iblk m c 0 t : Vec Ideal S1024x1024 .bf16) (ix2 r k) = m ((c : Thread nD τ).loc main_arg0) (ix2 ⟨1024 * (mOf t).val + r.val, by omega⟩ k) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t r k)

theorem weights_at (c : Dev nD) (t : Fin cfg0.N) (k l : Fin 1024) :
    (iblk m c 1 t : Vec Ideal S1024x1024 .bf16) (ix2 k l) = m ((c : Thread nD τ).loc main_arg1) (ix2 k l) := by
  have e : iblk m c 1 t = (win0_1.blk t).view.read (Elt Ideal) (m ((c : Thread nD τ).loc main_arg1)) :=
    congrArg (fun z => (win0_1.blk t).view.read (Elt Ideal) z) (V_main_arg1 m c)
  rw [e]
  exact congrArg (m ((c : Thread nD τ).loc main_arg1)) (place1 t k l)

/-- The reference at an index. -/
theorem ref_at (x0 : FVec Ideal ⟨2, ![4096, 1024]⟩ .bf16) (x1 : FVec Ideal ⟨2, ![1024, 1024]⟩ .bf16) (r : Fin 4096) (l : Fin 1024) :
    val_main_v2 (F := Ideal) x0 x1 (ix2 r l) = ∑ k : Fin 1024, x0 (ix2 r k) * x1 (ix2 k l) := by
  rw [val_main_v2_apply]
  refine Finset.sum_congr rfl fun k _ => ?_
  rw [val_main_v0_apply, val_main_v1_apply]
  refine congrArg₂ (fun a b => x0 a * x1 b) ?_ ?_ <;> (funext a; fin_cases a <;> rfl)

/-- What the launch leaves is the reference's product. -/
theorem final (c : Dev nD) :
    (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 1024) (b := 1024) y
  refine Eq.trans ?_ (congrArg _ (place2 t r l)).symm
  rw [ref_at, out_eq]
  refine (pay_at _ _ r l).trans (Finset.sum_congr rfl fun k _ => ?_)
  rw [rows_at, weights_at]

/-! The program and its idealization print the same text. -/

theorem bodies_eq : Cert.Out.defs₀ (F := Bits) = Cert.OutIdeal.defs₀ (F := Bits) := by
  unfold Cert.Out.defs₀ Cert.OutIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Out.defs (F := Bits) = Cert.OutIdeal.defs (F := Bits) := by
  unfold Cert.Out.defs Cert.OutIdeal.defs
  rw [bodies_eq]
  exact (rfl)

theorem main_eq : Cert.Out.main (F := Bits) = Cert.OutIdeal.main (F := Bits) := (rfl)

/-- The program runs, leaves its arguments as they were and its counters at zero. -/
theorem frame : Cert.quiescent_Out := by
  intro m g _
  have h := Cert.OutIdeal.Gen.frame (F := Bits) m g
  rw [← main_eq, ← defs_eq] at h
  exact h

theorem frame_ideal : Cert.quiescent_OutIdeal := fun m g _ => Cert.OutIdeal.Gen.frame m g

theorem frame_reference : Cert.quiescent_OutReferenceIdeal := fun m g _ =>
  (θ_run Cert.OutReferenceIdeal.defs _ _).mono
    (fun r h => ⟨fun c => (h c).2, sem_eq_zero_of_no_sems (by decide) r.2⟩)
    (Cert.OutReferenceIdeal.Value.run (F := Ideal) m g)

/-- The launch computes the reference's product. -/
theorem value : Cert.algebraic_OutIdeal_OutReferenceIdeal := by
  intro m g m' g' _ hin
  refine ⟨fun c => val_main_v2 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.OutIdeal.Value.run_blocks (F := Ideal) m g)
  · refine (θ_run Cert.OutReferenceIdeal.defs _ _).mono (fun r h c => ?_) (Cert.OutReferenceIdeal.Value.run (F := Ideal) m' g')
    refine ⟨(h c).1.trans ?_, (h c).2⟩
    exact (val_main_v2_eq _ _).trans (congrArg₂ (val_main_v2 (F := Ideal)) (hin c).1 (hin c).2)

end Cert.Proof.OutProduct

end
-- ==== Proof.AttnBranch.lean ====
/-
  The attention's branch: one grid point multiplies 1024 rows with the whole of the weights, so what the launch leaves is the product of all rows.
-/
module

public import proofs.«01_k».proof.Defs
public import proofs.«01_k».proof.Proof.Gen.AttnOut
public import proofs.«01_k».proof.Proof.Gen.AttnOutIdeal.Value
public import proofs.«01_k».proof.Proof.Gen.AttnOutReferenceIdeal.Run
public import proofs.«01_k».proof.Proof.Gen.AttnOutReferenceIdeal.Read
public import proofs.«01_k».proof.Proof.Split

@[expose] public section

set_option maxRecDepth 20000

noncomputable section

namespace Cert.Proof.AttnBranch

open Cert.AttnOutIdeal Cert.AttnOutIdeal.Gen
open Idealize.ShloMosaic Idealize.ShloMosaic.TcCoe Idealize.SL.Sem
open Idealize.ShloMosaic.Pipeline (Dat)
open Cert.AttnOutReferenceIdeal.Read

/-- The body stores the product of its two blocks. -/
theorem out_eq {F : FTy → Type} [FloatOps F] (x w : Vec F S1024x1024 .bf16) : out0_2 x w = k0_pay1 x w := by
  unfold out0_2
  rw [View.canon_unit_zero origin, View.ld_unit_zero (S := S1024x1024) origin, View.ld_unit_zero (S := S1024x1024) origin]

theorem pay_at (x w : Vec Ideal S1024x1024 .bf16) (r l : Fin 1024) : k0_pay1 x w (ix2 r l) = ∑ k : Fin 1024, x (ix2 r k) * w (ix2 k l) := by
  unfold k0_pay1
  pointwise

variable (m : (ℓ : Loc nD τ sig) → Buf (Elt Ideal) ℓ)

/-- The point's block of rows. -/
abbrev mOf (t : Fin cfg0.N) : Fin 4 := grid0.coords t 1

theorem at0 : ∀ t : Fin cfg0.N, win0_0.index t = ![(mOf t).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(mOf t).val, 0] := (by decide +kernel : ∀ t : Fin grid0.N, _)

theorem place0 (t : Fin cfg0.N) (r k : Fin 1024) :
    (win0_0.blk t).view.emb (ix2 r k) = (ix2 ⟨1024 * (mOf t).val + r.val, by omega⟩ k : (⟨2, ![4096, 1024]⟩ : Shape).Idx) := by
  blk_ext [at0]

theorem place1 (t : Fin cfg0.N) (k l : Fin 1024) : (win0_1.blk t).view.emb (ix2 k l) = (ix2 k l : (⟨2, ![1024, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![4096, 1024]⟩ : Shape).Idx) := by
  blk_ext [at2]

theorem rows_at (c : Dev nD) (t : Fin cfg0.N) (r k : Fin 1024) :
    (iblk m c 0 t : Vec Ideal S1024x1024 .bf16) (ix2 r k) = m ((c : Thread nD τ).loc main_arg0) (ix2 ⟨1024 * (mOf t).val + r.val, by omega⟩ k) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t r k)

theorem weights_at (c : Dev nD) (t : Fin cfg0.N) (k l : Fin 1024) :
    (iblk m c 1 t : Vec Ideal S1024x1024 .bf16) (ix2 k l) = m ((c : Thread nD τ).loc main_arg1) (ix2 k l) := by
  have e : iblk m c 1 t = (win0_1.blk t).view.read (Elt Ideal) (m ((c : Thread nD τ).loc main_arg1)) :=
    congrArg (fun z => (win0_1.blk t).view.read (Elt Ideal) z) (V_main_arg1 m c)
  rw [e]
  exact congrArg (m ((c : Thread nD τ).loc main_arg1)) (place1 t k l)

/-- The reference at an index. -/
theorem ref_at (x0 : FVec Ideal ⟨2, ![4096, 1024]⟩ .bf16) (x1 : FVec Ideal ⟨2, ![1024, 1024]⟩ .bf16) (r : Fin 4096) (l : Fin 1024) :
    val_main_v3 (F := Ideal) x0 x1 (ix2 r l) = ∑ k : Fin 1024, x0 (ix2 r k) * x1 (ix2 k l) := by
  rw [val_main_v3_apply, val_main_v2_apply]
  refine Finset.sum_congr rfl fun k _ => ?_
  rw [val_main_v0_apply, val_main_v1_apply]
  refine congrArg₂ (fun a b => x0 a * x1 b) ?_ ?_ <;> (funext a; fin_cases a <;> rfl)

/-- What the launch leaves is the reference's product. -/
theorem final (c : Dev nD) :
    (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 1024) (b := 1024) y
  refine Eq.trans ?_ (congrArg _ (place2 t r l)).symm
  rw [ref_at, out_eq]
  refine (pay_at _ _ r l).trans (Finset.sum_congr rfl fun k _ => ?_)
  rw [rows_at, weights_at]

/-! The program and its idealization print the same text. -/

theorem bodies_eq : Cert.AttnOut.defs₀ (F := Bits) = Cert.AttnOutIdeal.defs₀ (F := Bits) := by
  unfold Cert.AttnOut.defs₀ Cert.AttnOutIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.AttnOut.defs (F := Bits) = Cert.AttnOutIdeal.defs (F := Bits) := by
  unfold Cert.AttnOut.defs Cert.AttnOutIdeal.defs
  rw [bodies_eq]
  exact (rfl)

theorem main_eq : Cert.AttnOut.main (F := Bits) = Cert.AttnOutIdeal.main (F := Bits) := (rfl)

/-- The program runs, leaves its arguments as they were and its counters at zero. -/
theorem frame : Cert.quiescent_AttnOut := by
  intro m g _
  have h := Cert.AttnOutIdeal.Gen.frame (F := Bits) m g
  rw [← main_eq, ← defs_eq] at h
  exact h

theorem frame_ideal : Cert.quiescent_AttnOutIdeal := fun m g _ => Cert.AttnOutIdeal.Gen.frame m g

theorem frame_reference : Cert.quiescent_AttnOutReferenceIdeal := fun m g _ =>
  (θ_run Cert.AttnOutReferenceIdeal.defs _ _).mono
    (fun r h => ⟨fun c => (h c).2, sem_eq_zero_of_no_sems (by decide) r.2⟩)
    (Cert.AttnOutReferenceIdeal.Value.run (F := Ideal) m g)

/-- The launch computes the reference's product. -/
theorem value : Cert.algebraic_AttnOutIdeal_AttnOutReferenceIdeal := by
  intro m g m' g' _ hin
  refine ⟨fun c => val_main_v3 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.AttnOutIdeal.Value.run_blocks (F := Ideal) m g)
  · refine (θ_run Cert.AttnOutReferenceIdeal.defs _ _).mono (fun r h c => ?_) (Cert.AttnOutReferenceIdeal.Value.run (F := Ideal) m' g')
    refine ⟨(h c).1.trans ?_, (h c).2⟩
    exact (val_main_v3_eq _ _).trans (congrArg₂ (val_main_v3 (F := Ideal)) (hin c).1 (hin c).2)

end Cert.Proof.AttnBranch

end
-- ==== Proof.GateWeightGrad.lean ====
/-
  The gradient of the gate's columns of the projection: two grid points share a block of 1024 rows, each takes half of the 4096 positions, the first leaves its
  sum in a scratch and the second adds its own, so what the launch leaves is the whole product.
-/
module

public import proofs.«01_k».proof.Defs
public import proofs.«01_k».proof.Proof.Gen.GateWeight
public import proofs.«01_k».proof.Proof.Gen.GateWeightIdeal.Value
public import proofs.«01_k».proof.Proof.Gen.GateWeightReferenceIdeal.Run
public import proofs.«01_k».proof.Proof.Gen.GateWeightReferenceIdeal.Read
public import proofs.«01_k».proof.Proof.Split

@[expose] public section

set_option maxRecDepth 20000

noncomputable section

namespace Cert.Proof.GateWeightGrad

open Cert.GateWeightIdeal Cert.GateWeightIdeal.Gen
open Idealize.ShloMosaic Idealize.ShloMosaic.TcCoe Idealize.SL.Sem
open Idealize.ShloMosaic.Pipeline (Dat)
open Cert.GateWeightReferenceIdeal.Read

section Body

variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x w : Vec F S2048x1024 .bf16)

/-- The first point of a block leaves its product in the scratch. -/
theorem first_eq (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero origin]
  simp only [View.readAt_eq_ld, h3.read_unread, h4.read_unread, View.ld_unit_zero (S := S2048x1024) origin]

/-- The second adds its own and stores the sum. -/
theorem last_eq (hc0 : ¬cond0_0 i) (hc1 : ¬cond0_1 i) (hc2 : cond0_2 i) (s : Vec F S1024x1024 .f32) :
    out0_B_2 c i a3 h3 a4 h4 a5 h5 a6 h6 hc0 hc1 hc2 x w s = k0_pay3 s x w := by
  unfold out0_B_2
  rw [View.read_writes_eq_canon _ _ _ (cover0_B_2 c i a3 h3 a4 h4 a5 h5 a6 h6 hc0 hc1 hc2 x w s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

end Body

theorem pay1_at (x w : Vec Ideal S2048x1024 .bf16) (r l : Fin 1024) :
    k0_pay1 x w (ix2 r l) = ∑ k : Fin 2048, x (ix2 k r) * w (ix2 k l) := by
  unfold k0_pay1
  pointwise

theorem pay3_at (s : Vec Ideal S1024x1024 .f32) (x w : Vec Ideal S2048x1024 .bf16) (r l : Fin 1024) :
    k0_pay3 s x w (ix2 r l) = s (ix2 r l) + ∑ k : Fin 2048, x (ix2 k r) * w (ix2 k l) := by
  unfold k0_pay3
  pointwise

variable (m : (ℓ : Loc nD τ sig) → Buf (Elt Ideal) ℓ)

/-- The point's block of rows, and its half of the positions. -/
abbrev mOf (t : Fin cfg0.N) : Fin 2 := grid0.coords t 1
abbrev kOf (t : Fin cfg0.N) : Fin 2 := grid0.coords t 2

theorem at0 : ∀ t : Fin cfg0.N, win0_0.index t = ![(kOf t).val, (mOf t).val] := (by decide +kernel : ∀ t : Fin grid0.N, _)
theorem at1 : ∀ t : Fin cfg0.N, win0_1.index t = ![(kOf t).val, 0] := (by decide +kernel : ∀ t : Fin grid0.N, _)
theorem at2 : ∀ t : Fin cfg0.N, win0_2.index t = ![(mOf t).val, 0] := (by decide +kernel : ∀ t : Fin grid0.N, _)
theorem half : ∀ t : Fin cfg0.N, (kOf t).val = t.val % 2 := (by decide +kernel : ∀ t : Fin grid0.N, _)
theorem block : ∀ t : Fin cfg0.N, (mOf t).val = t.val / 2 := (by decide +kernel : ∀ t : Fin grid0.N, _)

theorem place0 (t : Fin cfg0.N) (k : Fin 2048) (r : Fin 1024) :
    (win0_0.blk t).view.emb (ix2 k r) = (ix2 ⟨2048 * (kOf t).val + k.val, by omega⟩ ⟨1024 * (mOf t).val + r.val, by omega⟩ : (⟨2, ![4096, 2048]⟩ : Shape).Idx) := by
  blk_ext [at0]

theorem place1 (t : Fin cfg0.N) (k : Fin 2048) (l : Fin 1024) :
    (win0_1.blk t).view.emb (ix2 k l) = (ix2 ⟨2048 * (kOf t).val + k.val, by omega⟩ l : (⟨2, ![4096, 1024]⟩ : Shape).Idx) := by
  blk_ext [at1]

theorem place2 (t : Fin cfg0.N) (r l : Fin 1024) :
    (win0_2.blk t).view.emb (ix2 r l) = (ix2 ⟨1024 * (mOf t).val + r.val, by omega⟩ l : (⟨2, ![2048, 1024]⟩ : Shape).Idx) := by
  blk_ext [at2]

theorem cotangent_at (c : Dev nD) (t : Fin cfg0.N) (k : Fin 2048) (r : Fin 1024) :
    (iblk m c 0 t : Vec Ideal S2048x1024 .bf16) (ix2 k r)
      = m ((c : Thread nD τ).loc main_arg2) (ix2 ⟨2048 * (kOf t).val + k.val, by omega⟩ ⟨1024 * (mOf t).val + r.val, by omega⟩) := by
  have e : iblk m c 0 t = (win0_0.blk t).view.read (Elt Ideal) (m ((c : Thread nD τ).loc main_arg2)) :=
    congrArg (fun z => (win0_0.blk t).view.read (Elt Ideal) z) (V_main_arg2 m c)
  rw [e]
  exact congrArg (m ((c : Thread nD τ).loc main_arg2)) (place0 t k r)

theorem hidden_at (c : Dev nD) (t : Fin cfg0.N) (k : Fin 2048) (l : Fin 1024) :
    (iblk m c 1 t : Vec Ideal S2048x1024 .bf16) (ix2 k l) = m ((c : Thread nD τ).loc main_arg0) (ix2 ⟨2048 * (kOf t).val + k.val, by omega⟩ l) := by
  have e : iblk m c 1 t = (win0_1.blk t).view.read (Elt Ideal) (m ((c : Thread nD τ).loc main_arg0)) :=
    congrArg (fun z => (win0_1.blk t).view.read (Elt Ideal) z) (V_main_arg0 m c)
  rw [e]
  exact congrArg (m ((c : Thread nD τ).loc main_arg0)) (place1 t k l)

/-- The reference at an index. -/
theorem ref_at (x0 : FVec Ideal ⟨2, ![4096, 1024]⟩ .bf16) (x2 : FVec Ideal ⟨2, ![4096, 2048]⟩ .bf16) (r : Fin 2048) (l : Fin 1024) :
    val_main_v9 (F := Ideal) x0 x2 (ix2 r l) = ∑ k : Fin 4096, x2 (ix2 k r) * x0 (ix2 k l) := by
  rw [val_main_v9_apply, val_main_v8_apply, val_main_v7_apply, val_main_v6_apply]
  refine Finset.sum_congr rfl fun k _ => ?_
  rw [val_main_v5_apply, val_main_v2_apply]
  refine congrArg₂ (fun a b => x2 a * x0 b) ?_ ?_ <;> (funext a; fin_cases a <;> rfl)

/-- What the second point of a block leaves. -/
theorem point_at (c : Dev nD) (t : Fin cfg0.N) (ht : t.val % 2 = 1) (r l : Fin 1024) :
    (outsAt0 m c t.val t.isLt).1 (ix2 r l)
      = val_main_v9 (F := Ideal) (m ((c : Thread nD τ).loc main_arg0)) (m ((c : Thread nD τ).loc main_arg2)) (ix2 ⟨1024 * (mOf t).val + r.val, by omega⟩ l) := by
  have h0 : (t.val - 1) % 2 = 0 := by omega
  let t' : Fin cfg0.N := ⟨t.val - 1, Nat.lt_of_le_of_lt (Nat.sub_le _ _) t.isLt⟩
  have k1 : (kOf t).val = 1 := (half t).trans ht
  have k0 : (kOf t').val = 0 := (half t').trans h0
  have e : (mOf t').val = (mOf t).val := by
    rw [block t', block t]
    show (t.val - 1) / 2 = t.val / 2
    omega
  rw [outsAt0_B m c t (by omega) ht, outsAt0_A m c t' h0 (show ¬(t.val - 1) % 2 = 1 by omega)]
  dsimp only
  rw [last_eq, first_eq]
  refine (pay3_at _ _ _ r l).trans ?_
  rw [pay1_at, ref_at, sum_split 2048 2048 rfl]
  refine congrArg₂ (· + ·) (Finset.sum_congr rfl fun k _ => ?_) (Finset.sum_congr rfl fun k _ => ?_)
  · rw [cotangent_at, hidden_at]
    simp only [k0, e, Nat.mul_zero, Nat.zero_add]
  · rw [cotangent_at, hidden_at]
    simp only [k1, Nat.mul_one]

/-- What the launch leaves is the reference's product. -/
theorem final (c : Dev nD) :
    (dats m 0 c).arrAt 2 cfg0.N = val_main_v9 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  obtain ⟨r, l, rfl⟩ := pair_of (a := 1024) (b := 1024) y
  exact (point_at m c t ((flush0_2 t).mp hf) r l).trans (congrArg _ (place2 t r l)).symm

/-! The program and its idealization print the same text. -/

theorem bodies_eq : Cert.GateWeight.defs₀ (F := Bits) = Cert.GateWeightIdeal.defs₀ (F := Bits) := by
  unfold Cert.GateWeight.defs₀ Cert.GateWeightIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.GateWeight.defs (F := Bits) = Cert.GateWeightIdeal.defs (F := Bits) := by
  unfold Cert.GateWeight.defs Cert.GateWeightIdeal.defs
  rw [bodies_eq]
  exact (rfl)

theorem main_eq : Cert.GateWeight.main (F := Bits) = Cert.GateWeightIdeal.main (F := Bits) := (rfl)

/-- The program runs, leaves its arguments as they were and its counters at zero. -/
theorem frame : Cert.quiescent_GateWeight := by
  intro m g _
  have h := Cert.GateWeightIdeal.Gen.frame (F := Bits) m g
  rw [← main_eq, ← defs_eq] at h
  exact h

theorem frame_ideal : Cert.quiescent_GateWeightIdeal := fun m g _ => Cert.GateWeightIdeal.Gen.frame m g

theorem frame_reference : Cert.quiescent_GateWeightReferenceIdeal := fun m g _ =>
  (θ_run Cert.GateWeightReferenceIdeal.defs _ _).mono
    (fun r h => ⟨fun c => (h c).2, sem_eq_zero_of_no_sems (by decide) r.2⟩)
    (Cert.GateWeightReferenceIdeal.Value.run (F := Ideal) m g)

/-- The launch computes the reference's gradient. -/
theorem value : Cert.algebraic_GateWeightIdeal_GateWeightReferenceIdeal := by
  intro m g m' g' _ hin
  refine ⟨fun c => val_main_v9 (F := Ideal) (m ((c.tc : Thread nD τ).loc main_arg0)) (m ((c.tc : Thread nD τ).loc main_arg2)), ?_, ?_⟩
  · exact (θ_run defs _ _).mono (fun r h c => ⟨(h c).1.trans (final m c), (h c).2⟩) (Cert.GateWeightIdeal.Value.run_blocks (F := Ideal) m g)
  · refine (θ_run Cert.GateWeightReferenceIdeal.defs _ _).mono (fun r h c => ?_) (Cert.GateWeightReferenceIdeal.Value.run (F := Ideal) m' g')
    refine ⟨(h c).1.trans ?_, (h c).2⟩
    exact (val_main_v9_eq _ _).trans (congrArg₂ (val_main_v9 (F := Ideal)) (hin c).1 (hin c).2.2)

end Cert.Proof.GateWeightGrad

end
-- ==== Proof.GateProjection.lean ====
/-
  The gate's columns of the input projection: the host cuts their rows from the transposed weights, and one grid point multiplies 2048 rows of the
  hidden states with 1024 of them, so what the launch leaves is the whole product.
-/
module

public import proofs.«01_k».proof.Defs
public import proofs.«01_k».proof.Proof.Gen.Gate
public import proofs.«01_k».proof.Proof.Gen.GateIdeal.Value
public import proofs.«01_k».proof.Proof.Gen.GateReferenceIdeal.Run
public import proofs.«01_k».proof.Proof.Gen.GateReferenceIdeal.Read
public import Idealize.ShloMosaic.Lib.StableHlo.RunRead
public import proofs.«01_k».proof.Proof.Split

@[expose] public section

set_option maxRecDepth 20000

noncomputable section

namespace Cert.Proof.GateProjection

open Cert.GateIdeal Cert.GateIdeal.Gen
open Idealize.ShloMosaic Idealize.ShloMosaic.TcCoe Idealize.SL.Sem
open Idealize.ShloMosaic.Pipeline (Dat)
open Cert.GateReferenceIdeal.Read

/-- The body stores the product of its two blocks. -/
theorem out_eq {F : FTy → Type} [FloatOps F] (x : Vec F S2048x1024 .bf16) (w : Vec F S1024x1024 .bf16) : out0_2 x w = k0_pay1 x w := by
  unfold out0_2
  rw [View.canon_unit_zero origin, View.ld_unit_zero (S := S2048x1024) origin, View.ld_unit_zero (S := S1024x1024) origin]

theorem pay_at (x : Vec Ideal S2048x1024 .bf16) (w : Vec Ideal S1024x1024 .bf16) (r : Fin 2048) (l : Fin 1024) :
    k0_pay1 x w (ix2 r l) = ∑ k : Fin 1024, x (ix2 r k) * w (ix2 l k) := by
  unfold k0_pay1
  pointwise

variable (m : (ℓ : Loc nD τ sig) → Buf (Elt Ideal) ℓ)

/-- The point's block of columns, and its block of rows. -/
abbrev nOf (t : Fin cfg0.N) : Fin 2 := grid0.coords t 0
abbrev mOf (t : Fin cfg0.N) : Fin 2 := grid0.coords t 1

theorem at0 : ∀ t : Fin cfg0.N, win0_0.index t = ![(mOf t).val, 0] := (by decide +kernel : ∀ t : Fin grid0.N, _)
theorem at1 : ∀ t : Fin cfg0.N, win0_1.index t = ![(nOf t).val, 0] := (by decide +kernel : ∀ t : Fin grid0.N, _)
theorem at2 : ∀ t : Fin cfg0.N, win0_2.index t = ![(mOf t).val, (nOf t).val] := (by decide +kernel : ∀ t : Fin grid0.N, _)

theorem place0 (t : Fin cfg0.N) (r : Fin 2048) (k : Fin 1024) :
    (win0_0.blk t).view.emb (ix2 r k) = (ix2 ⟨2048 * (mOf t).val + r.val, by omega⟩ k : (⟨2, ![4096, 1024]⟩ : Shape).Idx) := by
  blk_ext [at0]

theorem place2 (t : Fin cfg0.N) (r : Fin 2048) (l : Fin 1024) :
    (win0_2.blk t).view.emb (ix2 r l) = (ix2 ⟨2048 * (mOf t).val + r.val, by omega⟩ ⟨1024 * (nOf t).val + l.val, by omega⟩ : (⟨2, ![4096, 2048]⟩ : Shape).Idx) := by
  blk_ext [at2]

theorem rows_at (c : Dev nD) (t : Fin cfg0.N) (r : Fin 2048) (k : Fin 1024) :
    (iblk m c 0 t : Vec Ideal S2048x1024 .bf16) (ix2 r k) = m ((c : Thread nD τ).loc main_arg0) (ix2 ⟨2048 * (mOf t).val + r.val, by omega⟩ k) := by
  have e : iblk m c 0 t = (win0_0.blk t).view.read (Elt Ideal) (m ((c : Thread nD τ).loc main_arg0)) :=
    congrArg (fun z => (win0_0.blk t).view.read (Elt Ideal) z) (V_main_arg0 m c)
  rw [e]
  exact congrArg (m ((c : Thread nD τ).loc main_arg0)) (place0 t r k)

/-- The host cuts the gate's rows from the weights. -/
theorem V_gate (c : Dev nD) : V m c main_v0 = extractStridedSlice S2048x1024 ![9248, 0] (m ((c : Thread nD τ).loc main_arg1)) slices_S11296x1024_S2048x1024_9248_0 := by
  show StableHlo.after _ _ _ = _
  after_reads_simp

theorem gate_at (x : FVec Ideal ⟨2, ![11296, 1024]⟩ .bf16) (l : Fin 2048) (k : Fin 1024) :
    (extractStridedSlice S2048x1024 ![9248, 0] x slices_S11296x1024_S2048x1024_9248_0 : FVec Ideal S2048x1024 .bf16) (ix2 l k) = x (ix2 ⟨9248 + l.val, by omega⟩ k) := by
  pointwise

theorem place1 (t : Fin cfg0.N) (l k : Fin 1024) :
    (win0_1.blk t).view.emb (ix2 l k) = (ix2 ⟨1024 * (nOf t).val + l.val, by omega⟩ k : (⟨2, ![2048, 1024]⟩ : Shape).Idx) := by
  blk_ext [at1]

theorem weights_at (c : Dev nD) (t : Fin cfg0.N) (l k : Fin 1024) :
    (iblk m c 1 t : Vec Ideal S1024x1024 .bf16) (ix2 l k) = m ((c : Thread nD τ).loc main_arg1) (ix2 ⟨9248 + (1024 * (nOf t).val + l.val), by omega⟩ k) := by
  have e : iblk m c 1 t = (win0_1.blk t).view.read (Elt Ideal) _ := congrArg (fun z => (win0_1.blk t).view.read (Elt Ideal) z) (V_gate m c)
  rw [e]
  exact (congrArg (extractStridedSlice S2048x1024 ![9248, 0] (m ((c : Thread nD τ).loc main_arg1)) slices_S11296x1024_S2048x1024_9248_0) (place1 t l k)).trans
    (gate_at _ _ k)

/-- The reference at an index. -/
theorem ref_at (x0 : FVec Ideal ⟨2, ![4096, 1024]⟩ .bf16) (x1 : FVec Ideal ⟨2, ![11296, 1024]⟩ .bf16) (r : Fin 4096) (l : Fin 2048) :
    val_main_v5 (F := Ideal) x0 x1 (ix2 r l) = ∑ k : Fin 1024, x0 (ix2 r k) * x1 (ix2 ⟨9248 + l.val, by omega⟩ k) := by
  rw [val_main_v5_apply, val_main_v4_apply]
  refine Finset.sum_congr rfl fun k _ => ?_
  rw [val_main_v2_apply, val_main_v3_apply, val_main_v1_apply, val_main_v0_apply]
  refine congrArg₂ (fun a b => x0 a * x1 b) ?_ ?_ <;> (funext a; fin_cases a <;> rfl)

/-- What the launch leaves is the reference's product. -/
theorem final (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 2048) (b := 1024) y
  refine Eq.trans ?_ (congrArg _ (place2 t r l)).symm
  rw [ref_at]
  rw [out_eq]
  refine (pay_at _ _ r l).trans (Finset.sum_congr rfl fun k _ => ?_)
  rw [rows_at, weights_at]

/-! The program and its idealization print the same text. -/

theorem bodies_eq : Cert.Gate.defs₀ (F := Bits) = Cert.GateIdeal.defs₀ (F := Bits) := by
  unfold Cert.Gate.defs₀ Cert.GateIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Gate.defs (F := Bits) = Cert.GateIdeal.defs (F := Bits) := by
  unfold Cert.Gate.defs Cert.GateIdeal.defs
  rw [bodies_eq]
  exact (rfl)

theorem main_eq : Cert.Gate.main (F := Bits) = Cert.GateIdeal.main (F := Bits) := (rfl)

/-- The program runs, leaves its arguments as they were and its counters at zero. -/
theorem frame : Cert.quiescent_Gate := by
  intro m g _
  have h := Cert.GateIdeal.Gen.frame (F := Bits) m g
  rw [← main_eq, ← defs_eq] at h
  exact h

theorem frame_ideal : Cert.quiescent_GateIdeal := fun m g _ => Cert.GateIdeal.Gen.frame m g

theorem frame_reference : Cert.quiescent_GateReferenceIdeal := fun m g _ =>
  (θ_run Cert.GateReferenceIdeal.defs _ _).mono
    (fun r h => ⟨fun c => (h c).2, sem_eq_zero_of_no_sems (by decide) r.2⟩)
    (Cert.GateReferenceIdeal.Value.run (F := Ideal) m g)

/-- The launch computes the reference's projection. -/
theorem value : Cert.algebraic_GateIdeal_GateReferenceIdeal := by
  intro m g m' g' _ hin
  refine ⟨fun c => val_main_v5 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.GateIdeal.Value.run_blocks (F := Ideal) m g)
  · refine (θ_run Cert.GateReferenceIdeal.defs _ _).mono (fun r h c => ?_) (Cert.GateReferenceIdeal.Value.run (F := Ideal) m' g')
    refine ⟨(h c).1.trans ?_, (h c).2⟩
    exact (val_main_v5_eq _ _).trans (congrArg₂ (val_main_v5 (F := Ideal)) (hin c).1 (hin c).2)

end Cert.Proof.GateProjection

end
-- ==== Proof.StepProjection.lean ====
/-
  The step size's columns of the input projection: the host cuts their 32 rows from the transposed weights and lays them above 96 rows of zeros; one grid
  point multiplies 1024 rows of the hidden states with all of them. What the launch leaves is the product, with zeros to its right.
-/
module

public import proofs.«01_k».proof.Defs
public import proofs.«01_k».proof.Proof.Gen.StepSize
public import proofs.«01_k».proof.Proof.Gen.StepSizeIdeal.Value
public import proofs.«01_k».proof.Proof.Gen.StepSizeReferenceIdeal.Run
public import proofs.«01_k».proof.Proof.Gen.StepSizeReferenceIdeal.Read
public import proofs.«01_k».proof.Proof.Split
public import Idealize.ShloMosaic.Lib.StableHlo.RunRead

@[expose] public section

set_option maxRecDepth 20000

noncomputable section

namespace Cert.Proof.StepProjection

open Cert.StepSizeIdeal Cert.StepSizeIdeal.Gen
open Idealize.ShloMosaic Idealize.ShloMosaic.TcCoe Idealize.SL.Sem
open Idealize.ShloMosaic.Pipeline (Dat)
open Cert.StepSizeReferenceIdeal.Read

/-- The body stores the product of its two blocks. -/
theorem out_eq {F : FTy → Type} [FloatOps F] (x : Vec F S1024x1024 .bf16) (w : Vec F S128x1024 .bf16) : out0_2 x w = k0_pay1 x w := by
  unfold out0_2
  rw [View.canon_unit_zero origin, View.ld_unit_zero (S := S1024x1024) origin, View.ld_unit_zero (S := S128x1024) origin]

theorem pay_at (x : Vec Ideal S1024x1024 .bf16) (w : Vec Ideal S128x1024 .bf16) (r : Fin 1024) (l : Fin 128) :
    k0_pay1 x w (ix2 r l) = ∑ k : Fin 1024, x (ix2 r k) * w (ix2 l k) := by
  unfold k0_pay1
  pointwise

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

theorem row_lt (t : Fin cfg0.N) (r : Fin 1024) : 1024 * t.val + r.val < 4096 := by
  have h : t.val < 4 := t.isLt
  omega

theorem place0 (t : Fin cfg0.N) (r : Fin 1024) (l : Fin 1024) :
    (win0_0.blk t).view.emb (ix2 r l) = (ix2 ⟨1024 * t.val + r.val, row_lt t r⟩ l : (⟨2, ![4096, 1024]⟩ : Shape).Idx) := by
  blk_ext [at0]

theorem place1 (t : Fin cfg0.N) (r : Fin 128) (l : Fin 1024) :
    (win0_1.blk t).view.emb (ix2 r l) = (ix2 r l : (⟨2, ![128, 1024]⟩ : Shape).Idx) := by
  blk_ext [at1]

theorem place2 (t : Fin cfg0.N) (r : Fin 1024) (l : Fin 128) :
    (win0_2.blk t).view.emb (ix2 r l) = (ix2 ⟨1024 * t.val + r.val, row_lt t r⟩ l : (⟨2, ![4096, 128]⟩ : Shape).Idx) := by
  blk_ext [at2]

theorem rows_at (c : Dev nD) (t : Fin cfg0.N) (r : Fin 1024) (l : Fin 1024) :
    (iblk m c 0 t : Vec Ideal S1024x1024 .bf16) (ix2 r l) = m ((c : Thread nD τ).loc main_arg0) (ix2 ⟨1024 * t.val + r.val, row_lt t r⟩ l) := by
  exact (congrArg (fun z => (win0_0.blk t).view.read (Elt Ideal) z (ix2 r l)) (V_main_arg0 m c)).trans (congrArg (m ((c : Thread nD τ).loc main_arg0)) (place0 t r l))

/-- The host cuts the step size's rows from the weights and lays zeros below. -/
theorem V_step (c : Dev nD) : V m c main_v1 = pad S128x1024 ![0, 0] ![96, 0] ![0, 0] (extractStridedSlice S32x1024 ![9216, 0] (m ((c : Thread nD τ).loc main_arg1)) slices_S11296x1024_S32x1024_9216_0)
    (sitofp .bf16 (constantI S_ 32 0#32) : FVec Ideal S_ .bf16) pads_S32x1024_S128x1024_0960_000 h_S_ := by
  show StableHlo.after _ _ _ = _
  simp only [List.flatten_cons, List.flatten_nil, List.append_nil, List.cons_append, List.nil_append]
  after_reads_simp
  rfl

theorem zero_at : (FloatOps.sitofp FTy.bf16 0#32 : Ideal .bf16) = 0 := by
  show (((0#32 : BitVec 32).toInt : ℝ) : EReal) = 0
  simp

theorem zero_at' : (FloatOps.sitofp FTy.f32 0#32 : Ideal .f32) = 0 := zero_at

theorem step_at (x : FVec Ideal ⟨2, ![11296, 1024]⟩ .bf16) (k : Fin 128) (l : Fin 1024) :
    (pad S128x1024 ![0, 0] ![96, 0] ![0, 0] (extractStridedSlice S32x1024 ![9216, 0] x slices_S11296x1024_S32x1024_9216_0)
    (sitofp .bf16 (constantI S_ 32 0#32) : FVec Ideal S_ .bf16) pads_S32x1024_S128x1024_0960_000 h_S_ : FVec Ideal S128x1024 .bf16) (ix2 k l)
      = if h : k.val < 32 then x (ix2 ⟨9216 + k.val, by omega⟩ l) else 0 := by
  pointwise
  rw [zero_at]

theorem weights_at (c : Dev nD) (t : Fin cfg0.N) (k : Fin 128) (l : Fin 1024) :
    (iblk m c 1 t : Vec Ideal S128x1024 .bf16) (ix2 k l) = if h : k.val < 32 then ((m ((c : Thread nD τ).loc main_arg1)) (ix2 ⟨9216 + k.val, by omega⟩ l) : EReal) else (0 : EReal) := by
  have e : iblk m c 1 t = (win0_1.blk t).view.read (Elt Ideal) _ := congrArg (fun z => (win0_1.blk t).view.read (Elt Ideal) z) (V_step m c)
  rw [e]
  exact (congrArg (pad S128x1024 ![0, 0] ![96, 0] ![0, 0] (extractStridedSlice S32x1024 ![9216, 0] (m ((c : Thread nD τ).loc main_arg1)) slices_S11296x1024_S32x1024_9216_0)
    (sitofp .bf16 (constantI S_ 32 0#32) : FVec Ideal S_ .bf16) pads_S32x1024_S128x1024_0960_000 h_S_) (place1 t k l)).trans (step_at _ k l)

/-- The reference at an index. -/
theorem ref_at (x0 : FVec Ideal ⟨2, ![4096, 1024]⟩ .bf16) (x1 : FVec Ideal ⟨2, ![11296, 1024]⟩ .bf16) (r : Fin 4096) (l : Fin 128) :
    val_main_v5 (F := Ideal) x0 x1 (ix2 r l) = if h : l.val < 32 then ∑ k : Fin 1024, x0 (ix2 r k) * x1 (ix2 ⟨9216 + l.val, by omega⟩ k) else 0 := by
  have h : val_main_v5 (F := Ideal) x0 x1 (ix2 r l) = if h : l.val < 32 then val_main_v4 (F := Ideal) x0 x1 (ix2 r ⟨l.val, h⟩) else 0 := by
    unfold val_main_v5 val_main_call0_v0 val_main_c
    generalize val_main_v4 (F := Ideal) x0 x1 = z
    pointwise
    rw [zero_at']
  rw [h]
  by_cases hl : l.val < 32
  · rw [dif_pos hl, dif_pos hl, val_main_v4_apply]
    refine Finset.sum_congr rfl fun k _ => ?_
    rw [val_main_v2_apply, val_main_v3_apply, val_main_v1_apply, val_main_v0_apply]
    refine congrArg₂ (fun a b => x0 a * x1 b) ?_ ?_ <;> (funext a; fin_cases a <;> rfl)
  · rw [dif_neg hl, dif_neg hl]

/-- What the launch leaves is the reference's product. -/
theorem final (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 1024) (b := 128) y
  refine Eq.trans ?_ (congrArg _ (place2 t r l)).symm
  rw [ref_at, out_eq]
  refine (pay_at _ _ r l).trans ?_
  by_cases hl : l.val < 32
  · rw [dif_pos hl]
    refine Finset.sum_congr rfl fun k _ => ?_
    rw [rows_at, weights_at, dif_pos hl]
  · rw [dif_neg hl]
    refine Finset.sum_eq_zero fun k _ => ?_
    rw [weights_at, dif_neg hl]
    exact mul_zero (M₀ := EReal) _

/-! The program and its idealization print the same text. -/

theorem bodies_eq : Cert.StepSize.defs₀ (F := Bits) = Cert.StepSizeIdeal.defs₀ (F := Bits) := by
  unfold Cert.StepSize.defs₀ Cert.StepSizeIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.StepSize.defs (F := Bits) = Cert.StepSizeIdeal.defs (F := Bits) := by
  unfold Cert.StepSize.defs Cert.StepSizeIdeal.defs
  rw [bodies_eq]
  exact (rfl)

theorem main_eq : Cert.StepSize.main (F := Bits) = Cert.StepSizeIdeal.main (F := Bits) := (rfl)

/-- The program runs, leaves its arguments as they were and its counters at zero. -/
theorem frame : Cert.quiescent_StepSize := by
  intro m g _
  have h := Cert.StepSizeIdeal.Gen.frame (F := Bits) m g
  rw [← main_eq, ← defs_eq] at h
  exact h

theorem frame_ideal : Cert.quiescent_StepSizeIdeal := fun m g _ => Cert.StepSizeIdeal.Gen.frame m g

theorem frame_reference : Cert.quiescent_StepSizeReferenceIdeal := fun m g _ =>
  (θ_run Cert.StepSizeReferenceIdeal.defs _ _).mono
    (fun r h => ⟨fun c => (h c).2, sem_eq_zero_of_no_sems (by decide) r.2⟩)
    (Cert.StepSizeReferenceIdeal.Value.run (F := Ideal) m g)

/-- The launch computes the reference's projection. -/
theorem value : Cert.algebraic_StepSizeIdeal_StepSizeReferenceIdeal := by
  intro m g m' g' _ hin
  refine ⟨fun c => val_main_v5 (F := Ideal) (m ((c.tc : Thread nD τ).loc main_arg0)) (m ((c.tc : Thread nD τ).loc main_arg1)), ?_, ?_⟩
  · exact (θ_run defs _ _).mono (fun r h c => ⟨(h c).1.trans (final m c), (h c).2⟩) (Cert.StepSizeIdeal.Value.run_blocks (F := Ideal) m g)
  · refine (θ_run Cert.StepSizeReferenceIdeal.defs _ _).mono (fun r h c => ?_) (Cert.StepSizeReferenceIdeal.Value.run (F := Ideal) m' g')
    refine ⟨(h c).1.trans ?_, (h c).2⟩
    exact (val_main_v5_eq _ _).trans (congrArg₂ (val_main_v5 (F := Ideal)) (hin c).1 (hin c).2)

end Cert.Proof.StepProjection

end
-- ==== Proof.StepWeightGrad.lean ====
/-
  The gradient of the step size's columns of the projection: the host lays 96 columns of zeros beside the cotangent's 32; two grid points take half of the
  4096 positions each, the first leaves its sum in a scratch and the second adds its own. What the launch leaves is the product, with zeros below.
-/
module

public import proofs.«01_k».proof.Defs
public import proofs.«01_k».proof.Proof.Gen.StepWeight
public import proofs.«01_k».proof.Proof.Gen.StepWeightIdeal.Value
public import proofs.«01_k».proof.Proof.Gen.StepWeightReferenceIdeal.Run
public import proofs.«01_k».proof.Proof.Gen.StepWeightReferenceIdeal.Read
public import proofs.«01_k».proof.Proof.Split
public import Idealize.ShloMosaic.Lib.StableHlo.RunRead

@[expose] public section

set_option maxRecDepth 20000

noncomputable section

namespace Cert.Proof.StepWeightGrad

open Cert.StepWeightIdeal Cert.StepWeightIdeal.Gen
open Idealize.ShloMosaic Idealize.ShloMosaic.TcCoe Idealize.SL.Sem
open Idealize.ShloMosaic.Pipeline (Dat)
open Cert.StepWeightReferenceIdeal.Read

section Body

variable {F : FTy → Type} [FloatOps F] (c : Dev nD) (i : grid0.Coords)
  (a3 : Memref sig .tc .vmem S2048x128 .bf16) (h3 : a3.IsWhole) (a4 : Memref sig .tc .vmem S2048x1024 .bf16) (h4 : a4.IsWhole)
  (a5 : Memref sig .tc .vmem S128x1024 .bf16) (h5 : a5.IsWhole) (a6 : Memref sig .tc .vmem S128x1024 .f32) (h6 : a6.IsWhole)
  (x : Vec F S2048x128 .bf16) (w : Vec F S2048x1024 .bf16)

/-- The first point leaves its product in the scratch. -/
theorem first_eq (hc0 : cond0_0 i) (hc1 : ¬cond0_1 i) (hc2 : ¬cond0_2 i) :
    sout0_A_0 c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero origin]
  simp only [View.readAt_eq_ld, h3.read_unread, h4.read_unread, View.ld_unit_zero (S := S2048x128) origin, View.ld_unit_zero (S := S2048x1024) origin]

/-- The second adds its own and stores the sum. -/
theorem last_eq (hc0 : ¬cond0_0 i) (hc1 : ¬cond0_1 i) (hc2 : cond0_2 i) (s : Vec F S128x1024 .f32) :
    out0_B_2 c i a3 h3 a4 h4 a5 h5 a6 h6 hc0 hc1 hc2 x w s = k0_pay3 s x w := by
  unfold out0_B_2
  rw [View.read_writes_eq_canon _ _ _ (cover0_B_2 c i a3 h3 a4 h4 a5 h5 a6 h6 hc0 hc1 hc2 x w s)]
  unfold kernelRun0_B
  dsimp only
  rw [View.canon_unit_zero origin]
  simp only [View.readAt_eq_ld, h3.read_unread, h4.read_unread, h6.read_unread, View.ld_unit_zero (S := S2048x128) origin, View.ld_unit_zero (S := S2048x1024) origin, View.ld_unit_zero (S := S128x1024) origin]

end Body

theorem pay1_at (x : Vec Ideal S2048x128 .bf16) (w : Vec Ideal S2048x1024 .bf16) (r : Fin 128) (l : Fin 1024) :
    k0_pay1 x w (ix2 r l) = ∑ k : Fin 2048, x (ix2 k r) * w (ix2 k l) := by
  unfold k0_pay1
  pointwise

theorem pay3_at (s : Vec Ideal S128x1024 .f32) (x : Vec Ideal S2048x128 .bf16) (w : Vec Ideal S2048x1024 .bf16) (r : Fin 128) (l : Fin 1024) :
    k0_pay3 s x w (ix2 r l) = s (ix2 r l) + ∑ k : Fin 2048, x (ix2 k r) * w (ix2 k l) := by
  unfold k0_pay3
  pointwise

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)

theorem row_lt (t : Fin cfg0.N) (r : Fin 2048) : 2048 * t.val + r.val < 4096 := by
  have h : t.val < 2 := t.isLt
  omega

theorem place0 (t : Fin cfg0.N) (r : Fin 2048) (l : Fin 128) :
    (win0_0.blk t).view.emb (ix2 r l) = (ix2 ⟨2048 * t.val + r.val, row_lt t r⟩ l : (⟨2, ![4096, 128]⟩ : Shape).Idx) := by
  blk_ext [at0]

theorem place1 (t : Fin cfg0.N) (r : Fin 2048) (l : Fin 1024) :
    (win0_1.blk t).view.emb (ix2 r l) = (ix2 ⟨2048 * t.val + r.val, row_lt t r⟩ l : (⟨2, ![4096, 1024]⟩ : Shape).Idx) := by
  blk_ext [at1]

theorem place2 (t : Fin cfg0.N) (r : Fin 128) (l : Fin 1024) :
    (win0_2.blk t).view.emb (ix2 r l) = (ix2 r l : (⟨2, ![128, 1024]⟩ : Shape).Idx) := by
  blk_ext [at2]

theorem hidden_at (c : Dev nD) (t : Fin cfg0.N) (r : Fin 2048) (l : Fin 1024) :
    (iblk m c 1 t : Vec Ideal S2048x1024 .bf16) (ix2 r l) = m ((c : Thread nD τ).loc main_arg0) (ix2 ⟨2048 * t.val + r.val, row_lt t r⟩ l) := by
  exact (congrArg (fun z => (win0_1.blk t).view.read (Elt Ideal) z (ix2 r l)) (V_main_arg0 m c)).trans (congrArg (m ((c : Thread nD τ).loc main_arg0)) (place1 t r l))

/-- The host lays zeros to the right of the cotangent. -/
theorem V_cot (c : Dev nD) : V m c main_v0 = pad S4096x128 ![0, 0] ![0, 96] ![0, 0] (m ((c : Thread nD τ).loc main_arg2)) (sitofp .bf16 (constantI S_ 32 0#32) : FVec Ideal S_ .bf16)
    pads_S4096x32_S4096x128_000_0960 h_S_ := by
  show StableHlo.after _ _ _ = _
  simp only [List.flatten_cons, List.flatten_nil, List.append_nil, List.cons_append, List.nil_append]
  after_reads_simp
  rfl

theorem zero_at : (FloatOps.sitofp FTy.bf16 0#32 : Ideal .bf16) = 0 := by
  show (((0#32 : BitVec 32).toInt : ℝ) : EReal) = 0
  simp

theorem cot_at (x : FVec Ideal ⟨2, ![4096, 32]⟩ .bf16) (r : Fin 4096) (k : Fin 128) :
    (pad S4096x128 ![0, 0] ![0, 96] ![0, 0] x (sitofp .bf16 (constantI S_ 32 0#32) : FVec Ideal S_ .bf16)
    pads_S4096x32_S4096x128_000_0960 h_S_ : FVec Ideal S4096x128 .bf16) (ix2 r k) = if h : k.val < 32 then x (ix2 r ⟨k.val, h⟩) else 0 := by
  pointwise
  rw [zero_at]

theorem cotangent_at (c : Dev nD) (t : Fin cfg0.N) (r : Fin 2048) (l : Fin 128) :
    (iblk m c 0 t : Vec Ideal S2048x128 .bf16) (ix2 r l) = if h : l.val < 32 then ((m ((c : Thread nD τ).loc main_arg2)) (ix2 ⟨2048 * t.val + r.val, row_lt t r⟩ ⟨l.val, h⟩) : EReal) else (0 : EReal) := by
  have e : iblk m c 0 t = (win0_0.blk t).view.read (Elt Ideal) _ := congrArg (fun z => (win0_0.blk t).view.read (Elt Ideal) z) (V_cot m c)
  rw [e]
  exact (congrArg (pad S4096x128 ![0, 0] ![0, 96] ![0, 0] (m ((c : Thread nD τ).loc main_arg2)) (sitofp .bf16 (constantI S_ 32 0#32) : FVec Ideal S_ .bf16)
    pads_S4096x32_S4096x128_000_0960 h_S_) (place0 t r l)).trans (cot_at _ _ l)

/-- The reference at an index. -/
theorem ref_at (x0 : FVec Ideal ⟨2, ![4096, 1024]⟩ .bf16) (x2 : FVec Ideal ⟨2, ![4096, 32]⟩ .bf16) (r : Fin 128) (l : Fin 1024) :
    val_main_v10 (F := Ideal) x0 x2 (ix2 r l) = if h : r.val < 32 then ∑ k : Fin 4096, x2 (ix2 k ⟨r.val, h⟩) * x0 (ix2 k l) else 0 := by
  have h : val_main_v10 (F := Ideal) x0 x2 (ix2 r l) = if h : r.val < 32 then val_main_v9 (F := Ideal) x0 x2 (ix2 ⟨r.val, h⟩ l) else 0 := by
    unfold val_main_v10 val_main_call0_v0 val_main_c
    generalize val_main_v9 (F := Ideal) x0 x2 = z
    pointwise
    rw [zero_at]
  rw [h]
  by_cases hr : r.val < 32
  · rw [dif_pos hr, dif_pos hr, val_main_v9_apply, val_main_v8_apply, val_main_v7_apply, val_main_v6_apply]
    refine Finset.sum_congr rfl fun k _ => ?_
    rw [val_main_v5_apply, val_main_v2_apply]
    refine congrArg₂ (fun a b => x2 a * x0 b) ?_ ?_ <;> (funext a; fin_cases a <;> rfl)
  · rw [dif_neg hr, dif_neg hr]

/-- What the second point leaves. -/
theorem point_at (c : Dev nD) (t : Fin cfg0.N) (ht : t.val % 2 = 1) (r : Fin 128) (l : Fin 1024) :
    (outsAt0 m c t.val t.isLt).1 (ix2 r l) = val_main_v10 (F := Ideal) (m ((c : Thread nD τ).loc main_arg0)) (m ((c : Thread nD τ).loc main_arg2)) (ix2 r l) := by
  have h0 : (t.val - 1) % 2 = 0 := by omega
  have hlt : t.val < 2 := t.isLt
  let t' : Fin cfg0.N := ⟨t.val - 1, Nat.lt_of_le_of_lt (Nat.sub_le _ _) t.isLt⟩
  have k1 : t.val = 1 := by omega
  have k0 : t'.val = 0 := by show t.val - 1 = 0; omega
  rw [outsAt0_B m c t (by omega) ht, outsAt0_A m c t' h0 (show ¬(t.val - 1) % 2 = 1 by omega)]
  dsimp only
  rw [last_eq, first_eq]
  refine (pay3_at _ _ _ r l).trans ?_
  rw [pay1_at, ref_at]
  by_cases hr : r.val < 32
  · rw [dif_pos hr, sum_split 2048 2048 rfl]
    refine congrArg₂ (· + ·) (Finset.sum_congr rfl fun k _ => ?_) (Finset.sum_congr rfl fun k _ => ?_)
    · rw [cotangent_at, hidden_at, dif_pos hr]
      simp only [k0, Nat.mul_zero, Nat.zero_add]
    · rw [cotangent_at, hidden_at, dif_pos hr]
      simp only [k1, Nat.mul_one]
  · rw [dif_neg hr]
    refine (congrArg₂ (· + ·) (Finset.sum_eq_zero fun k _ => ?_) (Finset.sum_eq_zero fun k _ => ?_)).trans (add_zero _) <;>
      (rw [cotangent_at, dif_neg hr]; exact zero_mul (M₀ := EReal) _)

/-- What the launch leaves is the reference's product. -/
theorem final (c : Dev nD) : (dats m 0 c).arrAt 2 cfg0.N = val_main_v10 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  obtain ⟨r, l, rfl⟩ := pair_of (a := 128) (b := 1024) y
  exact (point_at m c t ((flush0_2 t).mp hf) r l).trans (congrArg _ (place2 t r l)).symm

/-! The program and its idealization print the same text. -/

theorem bodies_eq : Cert.StepWeight.defs₀ (F := Bits) = Cert.StepWeightIdeal.defs₀ (F := Bits) := by
  unfold Cert.StepWeight.defs₀ Cert.StepWeightIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.StepWeight.defs (F := Bits) = Cert.StepWeightIdeal.defs (F := Bits) := by
  unfold Cert.StepWeight.defs Cert.StepWeightIdeal.defs
  rw [bodies_eq]
  exact (rfl)

theorem main_eq : Cert.StepWeight.main (F := Bits) = Cert.StepWeightIdeal.main (F := Bits) := (rfl)

/-- The program runs, leaves its arguments as they were and its counters at zero. -/
theorem frame : Cert.quiescent_StepWeight := by
  intro m g _
  have h := Cert.StepWeightIdeal.Gen.frame (F := Bits) m g
  rw [← main_eq, ← defs_eq] at h
  exact h

theorem frame_ideal : Cert.quiescent_StepWeightIdeal := fun m g _ => Cert.StepWeightIdeal.Gen.frame m g

theorem frame_reference : Cert.quiescent_StepWeightReferenceIdeal := fun m g _ =>
  (θ_run Cert.StepWeightReferenceIdeal.defs _ _).mono
    (fun r h => ⟨fun c => (h c).2, sem_eq_zero_of_no_sems (by decide) r.2⟩)
    (Cert.StepWeightReferenceIdeal.Value.run (F := Ideal) m g)

/-- The launch computes the reference's gradient. -/
theorem value : Cert.algebraic_StepWeightIdeal_StepWeightReferenceIdeal := by
  intro m g m' g' _ hin
  refine ⟨fun c => val_main_v10 (F := Ideal) (m ((c.tc : Thread nD τ).loc main_arg0)) (m ((c.tc : Thread nD τ).loc main_arg2)), ?_, ?_⟩
  · exact (θ_run defs _ _).mono (fun r h c => ⟨(h c).1.trans (final m c), (h c).2⟩) (Cert.StepWeightIdeal.Value.run_blocks (F := Ideal) m g)
  · refine (θ_run Cert.StepWeightReferenceIdeal.defs _ _).mono (fun r h c => ?_) (Cert.StepWeightReferenceIdeal.Value.run (F := Ideal) m' g')
    refine ⟨(h c).1.trans ?_, (h c).2⟩
    exact (val_main_v10_eq _ _).trans (congrArg₂ (val_main_v10 (F := Ideal)) (hin c).1 (hin c).2.2)

end Cert.Proof.StepWeightGrad

end
-- ==== Proof.Logistic.lean ====
/-
  The logistic function over the extended reals: half of one plus the hyperbolic tangent of half the argument is the reciprocal of one plus the exponential of
  its negative.
-/
module

public import Idealize.ShloMosaic.PureOps.Ideal
public import Mathlib.Tactic.FieldSimp
public import Mathlib.Tactic.LinearCombination

@[expose] public section

noncomputable section

namespace Cert.Proof.Logistic

open Idealize.ShloMosaic

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem real (r : ℝ) : 1 / 2 + 1 / 2 * Real.tanh (1 / 2 * r) = 1 * (1 + Real.exp (-r))⁻¹ := by
  have hp : Real.exp (1 / 2 * r) ≠ 0 := Real.exp_ne_zero _
  have hs : Real.exp (1 / 2 * r) + Real.exp (-(1 / 2 * r)) ≠ 0 := (add_pos (Real.exp_pos _) (Real.exp_pos _)).ne'
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  have h3 : 1 + Real.exp (-r) ≠ 0 := (add_pos one_pos (Real.exp_pos _)).ne'
  rw [Real.tanh_eq_sinh_div_cosh, Real.sinh_eq, Real.cosh_eq, one_mul]
  refine eq_inv_of_mul_eq_one_left ?_
  rw [h1]
  generalize Real.exp (1 / 2 * r) = a at *
  generalize Real.exp (-(1 / 2 * r)) = b at *
  field_simp
  linear_combination 2 * b * h2

/-- Both ways of computing the logistic function. -/
theorem eq (x : EReal) :
    Ideal.ofBits .f32 0x3F000000#32 + Ideal.ofBits .f32 0x3F000000#32 * Ideal.tanh (Ideal.ofBits .f32 0x3F000000#32 * x)
      = Ideal.div (Ideal.ofBits .f32 0x3F800000#32) (Ideal.ofBits .f32 0x3F800000#32 + Ideal.exp (-x)) := by
  rw [half, one]
  induction x with
  | bot =>
    have ht : Ideal.tanh ⊥ = ((-1 : ℝ) : EReal) := rfl
    have he : Ideal.exp ⊤ = ⊤ := rfl
    rw [EReal.coe_mul_bot_of_pos (by norm_num), EReal.neg_bot, ht, he, EReal.coe_add_top, Ideal.div, if_neg EReal.top_ne_zero, EReal.inv_top, mul_zero,
      ← EReal.coe_mul, ← EReal.coe_add]
    norm_num
  | top =>
    have ht : Ideal.tanh ⊤ = ((1 : ℝ) : EReal) := rfl
    have he : Ideal.exp ⊥ = 0 := rfl
    rw [EReal.coe_mul_top_of_pos (by norm_num), EReal.neg_top, ht, he, add_zero, Ideal.div, if_neg (by norm_num), ← EReal.coe_inv, ← EReal.coe_mul,
      ← EReal.coe_mul, ← EReal.coe_add]
    norm_num
  | coe r =>
    have h : ((1 : ℝ) : EReal) + Ideal.exp (-(r : EReal)) = ((1 + Real.exp (-r) : ℝ) : EReal) := rfl
    have ht : Ideal.tanh ((1 / 2 * r : ℝ) : EReal) = ((Real.tanh (1 / 2 * r) : ℝ) : EReal) := rfl
    have h3 : (1 + Real.exp (-r)) ≠ 0 := (add_pos one_pos (Real.exp_pos _)).ne'
    rw [h, Ideal.div, if_neg (by exact_mod_cast h3), ← EReal.coe_inv, ← EReal.coe_mul, ← EReal.coe_mul, ht, ← EReal.coe_mul, ← EReal.coe_add, real]

end Cert.Proof.Logistic

end
-- ==== Proof.Merging.lean ====
/-
  The two branches merged under their gates: one grid point takes 512 rows of both branches and of both halves of the gate. The kernel computes the logistic
  function by the hyperbolic tangent.
-/
module

public import proofs.«01_k».proof.Defs
public import proofs.«01_k».proof.Proof.Gen.Merge
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Split
public import proofs.«01_k».proof.Proof.Logistic

@[expose] public section

set_option maxRecDepth 20000

noncomputable section

namespace Cert.Proof.Merging

open Cert.MergeIdeal Cert.MergeIdeal.Gen
open Idealize.ShloMosaic Idealize.ShloMosaic.TcCoe Idealize.SL.Sem
open Idealize.ShloMosaic.Pipeline (Dat)
open Cert.MergeReferenceIdeal.Read

/-- The body stores the merge of its blocks. -/
theorem out_eq {F : FTy → Type} [FloatOps F] (a s p q : Vec F S512x1024 .bf16) : out0_4 a s p q = k0_pay1 p a q s := by
  unfold out0_4
  rw [View.canon_unit_zero origin]
  simp only [View.ld_unit_zero (S := S512x1024) origin]

/-- The logistic function, as the reference spells it. -/
def logistic (x : EReal) : EReal := Ideal.div (Ideal.ofBits .f32 0x3F800000#32) (Ideal.ofBits .f32 0x3F800000#32 + Ideal.exp (-x))

theorem pay_at (p a q s : Vec Ideal S512x1024 .bf16) (i : S512x1024.Idx) :
    k0_pay1 p a q s i = logistic (p i) * a i + logistic (q i) * s i := by
  refine (show k0_pay1 p a q s i = (_ + _ * Ideal.tanh (_ * p i)) * a i + (_ + _ * Ideal.tanh (_ * q i)) * s i from rfl).trans ?_
  exact congrArg₂ (fun x y => x * a i + y * s i) (Logistic.eq _) (Logistic.eq _)

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 1] := (by decide +kernel : ∀ t : Fin grid0.N, _)
theorem at4 : ∀ t : Fin cfg0.N, win0_4.index t = ![t.val, 0] := (by decide +kernel : ∀ t : Fin grid0.N, _)

theorem row_lt (t : Fin cfg0.N) (r : Fin 512) : 512 * t.val + r.val < 4096 := by
  have h : t.val < 8 := t.isLt
  omega

theorem place0 (t : Fin cfg0.N) (r : Fin 512) (l : Fin 1024) :
    (win0_0.blk t).view.emb (ix2 r l) = (ix2 ⟨512 * t.val + r.val, row_lt t r⟩ l : (⟨2, ![4096, 1024]⟩ : Shape).Idx) := by
  blk_ext [at0]

theorem place1 (t : Fin cfg0.N) (r : Fin 512) (l : Fin 1024) :
    (win0_1.blk t).view.emb (ix2 r l) = (ix2 ⟨512 * t.val + r.val, row_lt t r⟩ l : (⟨2, ![4096, 1024]⟩ : Shape).Idx) := by
  blk_ext [at1]

theorem place2 (t : Fin cfg0.N) (r : Fin 512) (l : Fin 1024) :
    (win0_2.blk t).view.emb (ix2 r l) = (ix2 ⟨512 * t.val + r.val, row_lt t r⟩ ⟨l.val, by omega⟩ : (⟨2, ![4096, 2048]⟩ : Shape).Idx) := by
  blk_ext [at2]

theorem place3 (t : Fin cfg0.N) (r : Fin 512) (l : Fin 1024) :
    (win0_3.blk t).view.emb (ix2 r l) = (ix2 ⟨512 * t.val + r.val, row_lt t r⟩ ⟨1024 + l.val, by omega⟩ : (⟨2, ![4096, 2048]⟩ : Shape).Idx) := by
  blk_ext [at3]

theorem place4 (t : Fin cfg0.N) (r : Fin 512) (l : Fin 1024) :
    (win0_4.blk t).view.emb (ix2 r l) = (ix2 ⟨512 * t.val + r.val, row_lt t r⟩ l : (⟨2, ![4096, 1024]⟩ : Shape).Idx) := by
  blk_ext [at4]

theorem attn_at (c : Dev nD) (t : Fin cfg0.N) (r : Fin 512) (l : Fin 1024) :
    (iblk m c 0 t : Vec Ideal S512x1024 .bf16) (ix2 r l) = m ((c : Thread nD τ).loc main_arg0) (ix2 ⟨512 * t.val + r.val, row_lt t r⟩ l) := by
  exact (congrArg (fun z => (win0_0.blk t).view.read (Elt Ideal) z (ix2 r l)) (V_main_arg0 m c)).trans (congrArg (m ((c : Thread nD τ).loc main_arg0)) (place0 t r l))

theorem ssm_at (c : Dev nD) (t : Fin cfg0.N) (r : Fin 512) (l : Fin 1024) :
    (iblk m c 1 t : Vec Ideal S512x1024 .bf16) (ix2 r l) = m ((c : Thread nD τ).loc main_arg1) (ix2 ⟨512 * t.val + r.val, row_lt t r⟩ l) := by
  exact (congrArg (fun z => (win0_1.blk t).view.read (Elt Ideal) z (ix2 r l)) (V_main_arg1 m c)).trans (congrArg (m ((c : Thread nD τ).loc main_arg1)) (place1 t r l))

theorem gate_attn_at (c : Dev nD) (t : Fin cfg0.N) (r : Fin 512) (l : Fin 1024) :
    (iblk m c 2 t : Vec Ideal S512x1024 .bf16) (ix2 r l) = m ((c : Thread nD τ).loc main_arg2) (ix2 ⟨512 * t.val + r.val, row_lt t r⟩ ⟨l.val, by omega⟩) := by
  exact (congrArg (fun z => (win0_2.blk t).view.read (Elt Ideal) z (ix2 r l)) (V_main_arg2 m c)).trans (congrArg (m ((c : Thread nD τ).loc main_arg2)) (place2 t r l))

theorem gate_ssm_at (c : Dev nD) (t : Fin cfg0.N) (r : Fin 512) (l : Fin 1024) :
    (iblk m c 3 t : Vec Ideal S512x1024 .bf16) (ix2 r l) = m ((c : Thread nD τ).loc main_arg2) (ix2 ⟨512 * t.val + r.val, row_lt t r⟩ ⟨1024 + l.val, by omega⟩) := by
  exact (congrArg (fun z => (win0_3.blk t).view.read (Elt Ideal) z (ix2 r l)) (V_main_arg2 m c)).trans (congrArg (m ((c : Thread nD τ).loc main_arg2)) (place3 t r l))

/-- The reference's gate at an index. -/
theorem gate_at (x2 : FVec Ideal ⟨2, ![4096, 2048]⟩ .bf16) (i : (⟨2, ![4096, 2048]⟩ : Shape).Idx) : val_main_v6 (F := Ideal) x2 i = logistic (x2 i) := by
  rw [val_main_v6_apply, val_main_v5_apply, val_main_v4_apply, val_main_v3_apply, val_main_v2_apply, val_main_v1_apply, val_main_v0_apply]
  rfl

/-- The reference at an index. -/
theorem ref_at (x0 x1 : FVec Ideal ⟨2, ![4096, 1024]⟩ .bf16) (x2 : FVec Ideal ⟨2, ![4096, 2048]⟩ .bf16) (r : Fin 4096) (l : Fin 1024) :
    val_main_v14 (F := Ideal) x0 x1 x2 (ix2 r l)
      = logistic (x2 (ix2 r ⟨l.val, by omega⟩)) * x0 (ix2 r l) + logistic (x2 (ix2 r ⟨1024 + l.val, by omega⟩)) * x1 (ix2 r l) := by
  rw [val_main_v14_apply, val_main_v13_apply, val_main_v10_apply, val_main_v12_apply, val_main_v7_apply, val_main_v8_apply, gate_at, gate_at,
    val_main_v9_apply, val_main_v11_apply]
  refine congrArg₂ (fun a b => logistic (x2 a) * x0 (ix2 r l) + logistic (x2 b) * x1 (ix2 r l)) ?_ ?_ <;>
    (funext a; fin_cases a <;> exact Fin.ext (by simp))

/-- What the launch leaves is the reference's merge. -/
theorem final (c : Dev nD) :
    (dats m 0 c).arrAt 4 cfg0.N = val_main_v14 (F := Ideal) (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]
  obtain ⟨r, l, rfl⟩ := pair_of (a := 512) (b := 1024) y
  refine Eq.trans ?_ (congrArg _ (place4 t r l)).symm
  rw [ref_at, out_eq]
  refine (pay_at _ _ _ _ (ix2 r l)).trans ?_
  rw [attn_at, ssm_at, gate_attn_at, gate_ssm_at]

/-! The program and its idealization print the same text. -/

theorem bodies_eq : Cert.Merge.defs₀ (F := Bits) = Cert.MergeIdeal.defs₀ (F := Bits) := by
  unfold Cert.Merge.defs₀ Cert.MergeIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Merge.defs (F := Bits) = Cert.MergeIdeal.defs (F := Bits) := by
  unfold Cert.Merge.defs Cert.MergeIdeal.defs
  rw [bodies_eq]
  exact (rfl)

theorem main_eq : Cert.Merge.main (F := Bits) = Cert.MergeIdeal.main (F := Bits) := (rfl)

/-- The program runs, leaves its arguments as they were and its counters at zero. -/
theorem frame : Cert.quiescent_Merge := by
  intro m g _
  have h := Cert.MergeIdeal.Gen.frame (F := Bits) m g
  rw [← main_eq, ← defs_eq] at h
  exact h

theorem frame_ideal : Cert.quiescent_MergeIdeal := fun m g _ => Cert.MergeIdeal.Gen.frame m g

theorem frame_reference : Cert.quiescent_MergeReferenceIdeal := fun m g _ =>
  (θ_run Cert.MergeReferenceIdeal.defs _ _).mono
    (fun r h => ⟨fun c => (h c).2, sem_eq_zero_of_no_sems (by decide) r.2⟩)
    (Cert.MergeReferenceIdeal.Value.run (F := Ideal) m g)

/-- The launch computes the reference's merge. -/
theorem value : Cert.algebraic_MergeIdeal_MergeReferenceIdeal := by
  intro m g m' g' _ hin
  refine ⟨fun c => val_main_v14 (F := Ideal) (m ((c.tc : Thread nD τ).loc main_arg0)) (m ((c.tc : Thread nD τ).loc main_arg1))
    (m ((c.tc : Thread nD τ).loc main_arg2)), ?_, ?_⟩
  · exact (θ_run defs _ _).mono (fun r h c => ⟨(h c).1.trans (final m c), (h c).2⟩) (Cert.MergeIdeal.Value.run_blocks (F := Ideal) m g)
  · refine (θ_run Cert.MergeReferenceIdeal.defs _ _).mono (fun r h c => ?_) (Cert.MergeReferenceIdeal.Value.run (F := Ideal) m' g')
    refine ⟨(h c).1.trans ?_, (h c).2⟩
    exact (val_main_v14_eq _ _ _).trans (by rw [(hin c).1, (hin c).2.1, (hin c).2.2])

end Cert.Proof.Merging

end
-- ==== Proof.MergingGrad.lean ====
/-
  The gradients of the two branches and of the gate through the merge: one grid point takes 512 rows and stores the gate's gradient in two halves. The kernel
  computes the logistic function by the hyperbolic tangent.
-/
module

public import proofs.«01_k».proof.Defs
public import proofs.«01_k».proof.Proof.Gen.MergeGrad
public import proofs.«01_k».proof.Proof.Gen.MergeGradIdeal.Value
public import proofs.«01_k».proof.Proof.Gen.MergeGradReferenceIdeal.Run
public import proofs.«01_k».proof.Proof.Gen.MergeGradReferenceIdeal.Read
public import proofs.«01_k».proof.Proof.Split
public import proofs.«01_k».proof.Proof.Merging

@[expose] public section

set_option maxRecDepth 20000

noncomputable section

namespace Cert.Proof.MergingGrad

open Cert.MergeGradIdeal Cert.MergeGradIdeal.Gen
open Idealize.ShloMosaic Idealize.ShloMosaic.TcCoe Idealize.SL.Sem
open Idealize.ShloMosaic.Pipeline (Dat)
open Cert.MergeGradReferenceIdeal.Read

open Cert.Proof.Merging (logistic)

theorem pay3_at (p : Vec Ideal S512x1024 .bf16) (i : S512x1024.Idx) : k0_pay3 p i = logistic (p i) :=
  (show k0_pay3 p i = _ + _ * Ideal.tanh (_ * p i) from rfl).trans (Logistic.eq _)

theorem pay4_at (p : Vec Ideal S512x1024 .bf16) (i : S512x1024.Idx) : k0_pay4 p i = logistic (p i) :=
  (show k0_pay4 p i = _ + _ * Ideal.tanh (_ * p i) from rfl).trans (Logistic.eq _)

theorem pay5_at (d p : Vec Ideal S512x1024 .bf16) (i : S512x1024.Idx) : k0_pay5 d p i = logistic (p i) * d i :=
  (show k0_pay5 d p i = d i * k0_pay3 p i from rfl).trans (by rw [pay3_at, mul_comm])

theorem pay6_at (d p : Vec Ideal S512x1024 .bf16) (i : S512x1024.Idx) : k0_pay6 d p i = logistic (p i) * d i :=
  (show k0_pay6 d p i = d i * k0_pay4 p i from rfl).trans (by rw [pay4_at, mul_comm])

/-- The derivative of the logistic function, by its value. -/
def slope (x : EReal) : EReal := logistic x * (Ideal.ofBits .f32 0x3F800000#32 - logistic x)

theorem pay7_at (d p a : Vec Ideal S512x1024 .bf16) (i : S512x1024.Idx) : k0_pay7 d p a i = d i * a i * slope (p i) :=
  (show k0_pay7 d p a i = d i * a i * (k0_pay3 p i * (_ - k0_pay3 p i)) from rfl).trans (by rw [pay3_at]; rfl)

theorem pay1_at (d p a : Vec Ideal S512x1024 .bf16) (i : S512x1024.Idx) : k0_pay1 (k0_pay2 d) (k0_pay4 p) a i = d i * a i * slope (p i) :=
  (show k0_pay1 (k0_pay2 d) (k0_pay4 p) a i = d i * a i * (k0_pay4 p i * (_ - k0_pay4 p i)) from rfl).trans (by rw [pay4_at]; rfl)

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 1] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

theorem row_lt (t : Fin cfg0.N) (r : Fin 512) : 512 * t.val + r.val < 4096 := by
  have h : t.val < 8 := t.isLt
  omega

theorem place0 (t : Fin cfg0.N) (r : Fin 512) (l : Fin 1024) :
    (win0_0.blk t).view.emb (ix2 r l) = (ix2 ⟨512 * t.val + r.val, row_lt t r⟩ l : (⟨2, ![4096, 1024]⟩ : Shape).Idx) := by
  blk_ext [at0]

theorem place1 (t : Fin cfg0.N) (r : Fin 512) (l : Fin 1024) :
    (win0_1.blk t).view.emb (ix2 r l) = (ix2 ⟨512 * t.val + r.val, row_lt t r⟩ l : (⟨2, ![4096, 1024]⟩ : Shape).Idx) := by
  blk_ext [at1]

theorem place2 (t : Fin cfg0.N) (r : Fin 512) (l : Fin 1024) :
    (win0_2.blk t).view.emb (ix2 r l) = (ix2 ⟨512 * t.val + r.val, row_lt t r⟩ l : (⟨2, ![4096, 1024]⟩ : Shape).Idx) := by
  blk_ext [at2]

theorem place3 (t : Fin cfg0.N) (r : Fin 512) (l : Fin 1024) :
    (win0_3.blk t).view.emb (ix2 r l) = (ix2 ⟨512 * t.val + r.val, row_lt t r⟩ ⟨l.val, by omega⟩ : (⟨2, ![4096, 2048]⟩ : Shape).Idx) := by
  blk_ext [at3]

theorem place4 (t : Fin cfg0.N) (r : Fin 512) (l : Fin 1024) :
    (win0_4.blk t).view.emb (ix2 r l) = (ix2 ⟨512 * t.val + r.val, row_lt t r⟩ ⟨1024 + l.val, by omega⟩ : (⟨2, ![4096, 2048]⟩ : Shape).Idx) := by
  blk_ext [at4]

theorem place5 (t : Fin cfg0.N) (r : Fin 512) (l : Fin 1024) :
    (win0_5.blk t).view.emb (ix2 r l) = (ix2 ⟨512 * t.val + r.val, row_lt t r⟩ l : (⟨2, ![4096, 1024]⟩ : Shape).Idx) := by
  blk_ext [at5]

theorem place6 (t : Fin cfg0.N) (r : Fin 512) (l : Fin 1024) :
    (win0_6.blk t).view.emb (ix2 r l) = (ix2 ⟨512 * t.val + r.val, row_lt t r⟩ l : (⟨2, ![4096, 1024]⟩ : Shape).Idx) := by
  blk_ext [at6]

theorem place7 (t : Fin cfg0.N) (r : Fin 512) (l : Fin 2048) :
    (win0_7.blk t).view.emb (ix2 r l) = (ix2 ⟨512 * t.val + r.val, row_lt t r⟩ l : (⟨2, ![4096, 2048]⟩ : Shape).Idx) := by
  blk_ext [at7]

theorem cot_at (c : Dev nD) (t : Fin cfg0.N) (r : Fin 512) (l : Fin 1024) :
    (iblk m c 0 t : Vec Ideal S512x1024 .bf16) (ix2 r l) = m ((c : Thread nD τ).loc main_arg3) (ix2 ⟨512 * t.val + r.val, row_lt t r⟩ l) := by
  exact (congrArg (fun z => (win0_0.blk t).view.read (Elt Ideal) z (ix2 r l)) (V_main_arg3 m c)).trans (congrArg (m ((c : Thread nD τ).loc main_arg3)) (place0 t r l))

theorem attn_at (c : Dev nD) (t : Fin cfg0.N) (r : Fin 512) (l : Fin 1024) :
    (iblk m c 1 t : Vec Ideal S512x1024 .bf16) (ix2 r l) = m ((c : Thread nD τ).loc main_arg0) (ix2 ⟨512 * t.val + r.val, row_lt t r⟩ l) := by
  exact (congrArg (fun z => (win0_1.blk t).view.read (Elt Ideal) z (ix2 r l)) (V_main_arg0 m c)).trans (congrArg (m ((c : Thread nD τ).loc main_arg0)) (place1 t r l))

theorem ssm_at (c : Dev nD) (t : Fin cfg0.N) (r : Fin 512) (l : Fin 1024) :
    (iblk m c 2 t : Vec Ideal S512x1024 .bf16) (ix2 r l) = m ((c : Thread nD τ).loc main_arg1) (ix2 ⟨512 * t.val + r.val, row_lt t r⟩ l) := by
  exact (congrArg (fun z => (win0_2.blk t).view.read (Elt Ideal) z (ix2 r l)) (V_main_arg1 m c)).trans (congrArg (m ((c : Thread nD τ).loc main_arg1)) (place2 t r l))

theorem gate_attn_at (c : Dev nD) (t : Fin cfg0.N) (r : Fin 512) (l : Fin 1024) :
    (iblk m c 3 t : Vec Ideal S512x1024 .bf16) (ix2 r l) = m ((c : Thread nD τ).loc main_arg2) (ix2 ⟨512 * t.val + r.val, row_lt t r⟩ ⟨l.val, by omega⟩) := by
  exact (congrArg (fun z => (win0_3.blk t).view.read (Elt Ideal) z (ix2 r l)) (V_main_arg2 m c)).trans (congrArg (m ((c : Thread nD τ).loc main_arg2)) (place3 t r l))

theorem gate_ssm_at (c : Dev nD) (t : Fin cfg0.N) (r : Fin 512) (l : Fin 1024) :
    (iblk m c 4 t : Vec Ideal S512x1024 .bf16) (ix2 r l) = m ((c : Thread nD τ).loc main_arg2) (ix2 ⟨512 * t.val + r.val, row_lt t r⟩ ⟨1024 + l.val, by omega⟩) := by
  exact (congrArg (fun z => (win0_4.blk t).view.read (Elt Ideal) z (ix2 r l)) (V_main_arg2 m c)).trans (congrArg (m ((c : Thread nD τ).loc main_arg2)) (place4 t r l))

/-- The reference's gate at an index. -/
theorem gate_at (x2 : FVec Ideal ⟨2, ![4096, 2048]⟩ .bf16) (i : (⟨2, ![4096, 2048]⟩ : Shape).Idx) : val_main_v6 (F := Ideal) x2 i = logistic (x2 i) := by
  rw [val_main_v6_apply, val_main_v5_apply, val_main_v4_apply, val_main_v3_apply, val_main_v2_apply, val_main_v1_apply, val_main_v0_apply]
  rfl

theorem slope_at (x2 : FVec Ideal ⟨2, ![4096, 2048]⟩ .bf16) (i : (⟨2, ![4096, 2048]⟩ : Shape).Idx) : val_main_v9 (F := Ideal) x2 i = slope (x2 i) := by
  rw [val_main_v9_apply, val_main_v8_apply, gate_at, val_main_v7_apply]
  rfl

/-- The reference's three gradients at an index. -/
theorem ref_attn (x2 : FVec Ideal ⟨2, ![4096, 2048]⟩ .bf16) (x3 : FVec Ideal ⟨2, ![4096, 1024]⟩ .bf16) (r : Fin 4096) (l : Fin 1024) :
    val_main_v23 (F := Ideal) x2 x3 (ix2 r l) = logistic (x2 (ix2 r ⟨l.val, by omega⟩)) * x3 (ix2 r l) := by
  rw [val_main_v23_apply, val_main_v21_apply, val_main_v10_apply, gate_at, val_main_v17_apply]
  refine congrArg (fun a => logistic (x2 a) * x3 (ix2 r l)) ?_
  funext a; fin_cases a <;> exact Fin.ext (by simp)

theorem ref_ssm (x2 : FVec Ideal ⟨2, ![4096, 2048]⟩ .bf16) (x3 : FVec Ideal ⟨2, ![4096, 1024]⟩ .bf16) (r : Fin 4096) (l : Fin 1024) :
    val_main_v20 (F := Ideal) x2 x3 (ix2 r l) = logistic (x2 (ix2 r ⟨1024 + l.val, by omega⟩)) * x3 (ix2 r l) := by
  rw [val_main_v20_apply, val_main_v18_apply, val_main_v11_apply, gate_at, val_main_v17_apply]
  refine congrArg (fun a => logistic (x2 a) * x3 (ix2 r l)) ?_
  funext a; fin_cases a <;> exact Fin.ext (by simp)

theorem ref_gate (x0 x1 x3 : FVec Ideal ⟨2, ![4096, 1024]⟩ .bf16) (x2 : FVec Ideal ⟨2, ![4096, 2048]⟩ .bf16) (r : Fin 4096) (j : Fin 2048) :
    val_main_v26 (F := Ideal) x0 x1 x2 x3 (ix2 r j)
      = (if h : j.val < 1024 then x3 (ix2 r ⟨j.val, h⟩) * x0 (ix2 r ⟨j.val, h⟩)
          else x3 (ix2 r ⟨j.val - 1024, by omega⟩) * x1 (ix2 r ⟨j.val - 1024, by omega⟩)) * slope (x2 (ix2 r j)) := by
  rw [val_main_v26_apply, val_main_v25_apply, slope_at]
  refine congrArg (fun a : EReal => a * slope (x2 (ix2 r j))) ?_
  unfold val_main_v24
  pointwise
  rfl

/-- What the launch leaves are the reference's gradients: of the attention's branch, -/
theorem final_attn (c : Dev nD) : (dats m 0 c).arrAt 5 cfg0.N = val_main_v23 (F := Ideal) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, l, rfl⟩ := pair_of (a := 512) (b := 1024) y
  refine Eq.trans ?_ (congrArg _ (place5 t r l)).symm
  unfold out0_5
  rw [ref_attn, View.canon_unit_zero origin]
  simp only [View.ld_unit_zero (S := S512x1024) origin]
  refine (pay5_at _ _ (ix2 r l)).trans ?_
  rw [cot_at, gate_attn_at]

/-- of the other branch, -/
theorem final_ssm (c : Dev nD) : (dats m 0 c).arrAt 6 cfg0.N = val_main_v20 (F := Ideal) (m ((c : Thread nD τ).loc main_arg2)) (m ((c : Thread nD τ).loc main_arg3)) := by
  refine (dats m 0 c).arrAt_eq_of_covers 6 _ (by decide +kernel) fun t _ y => ?_
  blk_simp
  rw [after0_6]
  obtain ⟨r, l, rfl⟩ := pair_of (a := 512) (b := 1024) y
  refine Eq.trans ?_ (congrArg _ (place6 t r l)).symm
  unfold out0_6
  rw [ref_ssm, View.canon_unit_zero origin]
  simp only [View.ld_unit_zero (S := S512x1024) origin]
  refine (pay6_at _ _ (ix2 r l)).trans ?_
  rw [cot_at, gate_ssm_at]

theorem left_emb (r : Fin 512) (l : Fin 1024) : r0_1.emb (ix2 r l) = (ix2 r ⟨l.val, by omega⟩ : S512x2048.Idx) := by
  funext a; fin_cases a <;> exact Fin.ext ((ValueKit.rect_emb_unit_val _ _ _ _ _).trans (by simp))

theorem right_emb (r : Fin 512) (l : Fin 1024) : r0_2.emb (ix2 r l) = (ix2 r ⟨1024 + l.val, by omega⟩ : S512x2048.Idx) := by
  funext a; fin_cases a <;> exact Fin.ext ((ValueKit.rect_emb_unit_val _ _ _ _ _).trans (by simp))

/-- and of the gate. -/
theorem final_gate (c : Dev nD) : (dats m 0 c).arrAt 7 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  refine View.canon_apply_of_pieces (fun y => val_main_v26 (F := Ideal) (m ((c : Thread nD τ).loc main_arg0)) (m ((c : Thread nD τ).loc main_arg1)) (m ((c : Thread nD τ).loc main_arg2)) (m ((c : Thread nD τ).loc main_arg3)) ((win0_7.blk t).view.emb y)) _ ?_ y (cover0_7 _ _ y)
  simp only [View.ld_unit_zero (S := S512x1024) origin]
  intro p hp x
  rcases List.mem_cons.mp hp with rfl | hp
  · obtain ⟨r, l, rfl⟩ := pair_of (a := 512) (b := 1024) x
    refine (pay1_at _ _ _ (ix2 r l)).trans (Eq.trans ?_ (congrArg _ ((congrArg _ (right_emb r l)).trans (place7 t r _))).symm)
    rw [ref_gate, dif_neg (by simp), cot_at, ssm_at, gate_ssm_at]
    simp only [Nat.add_sub_cancel_left]
  · rcases List.mem_cons.mp hp with rfl | hp
    · obtain ⟨r, l, rfl⟩ := pair_of (a := 512) (b := 1024) x
      refine (pay7_at _ _ _ (ix2 r l)).trans (Eq.trans ?_ (congrArg _ ((congrArg _ (left_emb r l)).trans (place7 t r _))).symm)
      rw [ref_gate, dif_pos l.isLt, cot_at, attn_at, gate_attn_at]
    · exact absurd hp List.not_mem_nil

/-! The program and its idealization print the same text. -/

theorem bodies_eq : Cert.MergeGrad.defs₀ (F := Bits) = Cert.MergeGradIdeal.defs₀ (F := Bits) := by
  unfold Cert.MergeGrad.defs₀ Cert.MergeGradIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.MergeGrad.defs (F := Bits) = Cert.MergeGradIdeal.defs (F := Bits) := by
  unfold Cert.MergeGrad.defs Cert.MergeGradIdeal.defs
  rw [bodies_eq]
  exact (rfl)

theorem main_eq : Cert.MergeGrad.main (F := Bits) = Cert.MergeGradIdeal.main (F := Bits) := (rfl)

/-- The program runs, leaves its arguments as they were and its counters at zero. -/
theorem frame : Cert.quiescent_MergeGrad := by
  intro m g _
  have h := Cert.MergeGradIdeal.Gen.frame (F := Bits) m g
  rw [← main_eq, ← defs_eq] at h
  exact h

theorem frame_ideal : Cert.quiescent_MergeGradIdeal := fun m g _ => Cert.MergeGradIdeal.Gen.frame m g

theorem frame_reference : Cert.quiescent_MergeGradReferenceIdeal := fun m g _ =>
  (θ_run Cert.MergeGradReferenceIdeal.defs _ _).mono
    (fun r h => ⟨fun c => (h c).2.2.2, sem_eq_zero_of_no_sems (by decide) r.2⟩)
    (Cert.MergeGradReferenceIdeal.Value.run (F := Ideal) m g)

/-- The launch computes the reference's gradients. -/
theorem value : Cert.algebraic_MergeGradIdeal_MergeGradReferenceIdeal := by
  intro m g m' g' _ hin
  refine ⟨fun c => val_main_v23 (F := Ideal) (m ((c.tc : Thread nD τ).loc main_arg2)) (m ((c.tc : Thread nD τ).loc main_arg3)),
    fun c => val_main_v20 (F := Ideal) (m ((c.tc : Thread nD τ).loc main_arg2)) (m ((c.tc : Thread nD τ).loc main_arg3)),
    fun c => val_main_v26 (F := Ideal) (m ((c.tc : Thread nD τ).loc main_arg0)) (m ((c.tc : Thread nD τ).loc main_arg1))
      (m ((c.tc : Thread nD τ).loc main_arg2)) (m ((c.tc : Thread nD τ).loc main_arg3)), ?_, ?_⟩
  · exact (θ_run defs _ _).mono (fun r h c => ⟨(h c).1.trans (final_attn m c), (h c).2.1.trans (final_ssm m c), (h c).2.2.1.trans (final_gate m c), (h c).2.2.2⟩)
      (Cert.MergeGradIdeal.Value.run_blocks (F := Ideal) m g)
  · refine (θ_run Cert.MergeGradReferenceIdeal.defs _ _).mono (fun r h c => ?_) (Cert.MergeGradReferenceIdeal.Value.run (F := Ideal) m' g')
    refine ⟨(h c).1.trans ?_, (h c).2.1.trans ?_, (h c).2.2.1.trans ?_, (h c).2.2.2⟩
    · exact (val_main_v23_eq _ _).trans (by rw [(hin c).2.2.1, (hin c).2.2.2])
    · exact (val_main_v20_eq _ _).trans (by rw [(hin c).2.2.1, (hin c).2.2.2])
    · exact (val_main_v26_eq _ _ _ _).trans (by rw [(hin c).1, (hin c).2.1, (hin c).2.2.1, (hin c).2.2.2])

end Cert.Proof.MergingGrad

end
-- ==== Proof.Normalizing.lean ====
/-
  The root-mean-square norm: one grid point takes 512 rows, stores them normalized and weighted, and each row's factor.
-/
module

public import proofs.«01_k».proof.Defs
public import proofs.«01_k».proof.Proof.Gen.Norm
public import proofs.«01_k».proof.Proof.Gen.NormIdeal.Value
public import proofs.«01_k».proof.Proof.Gen.NormReferenceIdeal.Run
public import proofs.«01_k».proof.Proof.Gen.NormReferenceIdeal.Read
public import proofs.«01_k».proof.Proof.Split

@[expose] public section

set_option maxRecDepth 20000

noncomputable section

namespace Cert.Proof.Normalizing

open Cert.NormIdeal Cert.NormIdeal.Gen
open Idealize.ShloMosaic Idealize.ShloMosaic.TcCoe Idealize.SL.Sem
open Idealize.ShloMosaic.Pipeline (Dat)
open Cert.NormReferenceIdeal.Read

/-- A row's factor: the reciprocal root of its mean square, a small constant added. -/
def factor {n : Nat} (x : (⟨2, ![n, 1024]⟩ : Shape).Idx → EReal) (r : Fin n) : EReal :=
  Ideal.rsqrt (Ideal.div (∑ k : Fin 1024, x (ix2 r k) * x (ix2 r k)) (Ideal.ofBits .f32 0x44800000#32) + Ideal.ofBits .f32 0x358637BD#32)

theorem pay1_at (x : Vec Ideal S512x1024 .f32) (r : Fin 512) (z : Fin 1) : k0_pay1 x (ix2 r z) = factor x r := by
  unfold k0_pay1 factor
  pointwise

theorem pay2_at (x : Vec Ideal S512x1024 .f32) (w : Vec Ideal S1x1024 .f32) (r : Fin 512) (l : Fin 1024) :
    k0_pay2 x w (ix2 r l) = x (ix2 r l) * factor x r * w (ix2 0 l) := by
  have h : k0_pay2 x w (ix2 r l) = x (ix2 r l) * k0_pay1 x (ix2 r 0) * w (ix2 0 l) := by
    unfold k0_pay2
    generalize k0_pay1 x = z
    pointwise
  rw [h, pay1_at]

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

theorem row_lt (t : Fin cfg0.N) (r : Fin 512) : 512 * t.val + r.val < 4096 := by
  have h : t.val < 8 := t.isLt
  omega

theorem place0 (t : Fin cfg0.N) (r : Fin 512) (l : Fin 1024) :
    (win0_0.blk t).view.emb (ix2 r l) = (ix2 ⟨512 * t.val + r.val, row_lt t r⟩ l : (⟨2, ![4096, 1024]⟩ : Shape).Idx) := by
  blk_ext [at0]

theorem place1 (t : Fin cfg0.N) (r : Fin 1) (l : Fin 1024) :
    (win0_1.blk t).view.emb (ix2 r l) = (ix2 r l : (⟨2, ![1, 1024]⟩ : Shape).Idx) := by
  blk_ext [at1]

theorem place2 (t : Fin cfg0.N) (r : Fin 512) (l : Fin 1024) :
    (win0_2.blk t).view.emb (ix2 r l) = (ix2 ⟨512 * t.val + r.val, row_lt t r⟩ l : (⟨2, ![4096, 1024]⟩ : Shape).Idx) := by
  blk_ext [at2]

theorem place3 (t : Fin cfg0.N) (r : Fin 512) (l : Fin 1) :
    (win0_3.blk t).view.emb (ix2 r l) = (ix2 ⟨512 * t.val + r.val, row_lt t r⟩ l : (⟨2, ![4096, 1]⟩ : Shape).Idx) := by
  blk_ext [at3]

theorem rows_at (c : Dev nD) (t : Fin cfg0.N) (r : Fin 512) (l : Fin 1024) :
    (iblk m c 0 t : Vec Ideal S512x1024 .f32) (ix2 r l) = m ((c : Thread nD τ).loc main_arg0) (ix2 ⟨512 * t.val + r.val, row_lt t r⟩ l) := by
  exact (congrArg (fun z => (win0_0.blk t).view.read (Elt Ideal) z (ix2 r l)) (V_main_arg0 m c)).trans (congrArg (m ((c : Thread nD τ).loc main_arg0)) (place0 t r l))

theorem weights_at (c : Dev nD) (t : Fin cfg0.N) (r : Fin 1) (l : Fin 1024) :
    (iblk m c 1 t : Vec Ideal S1x1024 .f32) (ix2 r l) = m ((c : Thread nD τ).loc main_arg1) (ix2 r l) := by
  exact (congrArg (fun z => (win0_1.blk t).view.read (Elt Ideal) z (ix2 r l)) (V_main_arg1 m c)).trans (congrArg (m ((c : Thread nD τ).loc main_arg1)) (place1 t r l))

theorem factor_at (c : Dev nD) (t : Fin cfg0.N) (r : Fin 512) :
    factor (iblk m c 0 t : Vec Ideal S512x1024 .f32) r = factor (n := 4096) (m ((c : Thread nD τ).loc main_arg0)) ⟨512 * t.val + r.val, row_lt t r⟩ := by
  unfold factor
  refine congrArg (fun s => Ideal.rsqrt (Ideal.div s _ + _)) (Finset.sum_congr rfl fun k _ => ?_)
  rw [rows_at]

/-- The reference's factor at an index. -/
theorem ref_factor (x0 : FVec Ideal ⟨2, ![4096, 1024]⟩ .f32) (r : Fin 4096) (z : Fin 1) : val_main_v7 (F := Ideal) x0 (ix2 r z) = factor (n := 4096) x0 r := by
  have zero : (val_main_cst (F := Ideal)) (Shape.Idx.first Cert.NormReferenceIdeal.Gen.h_S_) = 0 := by
    show Ideal.ofBits .f32 0x00000000#32 = 0
    exact Ideal.ofBits_zero _
  rw [val_main_v7_apply, val_main_v6_apply, val_main_v5_apply, val_main_v4_apply, val_main_v3_apply, val_main_v2_apply, val_main_v1_apply, zero, zero_add]
  unfold factor
  refine congrArg (fun s => Ideal.rsqrt (Ideal.div s _ + _)) (Finset.sum_congr rfl fun k _ => ?_)
  rw [val_main_v0_apply]
  refine congrArg (fun a => x0 a * x0 a) ?_
  funext a; fin_cases a <;> rfl

/-- The reference at an index. -/
theorem ref_at (x0 : FVec Ideal ⟨2, ![4096, 1024]⟩ .f32) (x1 : FVec Ideal ⟨2, ![1, 1024]⟩ .f32) (r : Fin 4096) (l : Fin 1024) :
    val_main_v12 (F := Ideal) x0 x1 (ix2 r l) = x0 (ix2 r l) * factor (n := 4096) x0 r * x1 (ix2 0 l) := by
  have e8 : idx_main_v8 (ix2 r l) = ix2 r 0 := by funext a; fin_cases a <;> rfl
  have e10 : idx_main_v10 (ix2 r l) = ix2 0 l := by funext a; fin_cases a <;> rfl
  rw [val_main_v12_apply, val_main_v11_apply, val_main_v10_apply, val_main_v9_apply, val_main_v8_apply, e8, e10, ref_factor]
  rfl

/-- What the launch leaves are the reference's normalized rows -/
theorem final (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, l, rfl⟩ := pair_of (a := 512) (b := 1024) y
  refine Eq.trans ?_ (congrArg _ (place2 t r l)).symm
  unfold out0_2
  rw [ref_at, View.canon_unit_zero origin]
  simp only [View.ld_unit_zero (S := S512x1024) origin, View.ld_unit_zero (S := S1x1024) origin]
  refine (pay2_at _ _ r l).trans ?_
  rw [factor_at, rows_at, weights_at]

/-- and their factors. -/
theorem final_factor (c : Dev nD) : (dats m 0 c).arrAt 3 cfg0.N = val_main_v7 (F := Ideal) (m ((c : Thread nD τ).loc main_arg0)) := by
  refine (dats m 0 c).arrAt_eq_of_covers 3 _ (by decide +kernel) fun t _ y => ?_
  blk_simp
  rw [after0_3]
  obtain ⟨r, z, rfl⟩ := pair_of (a := 512) (b := 1) y
  refine Eq.trans ?_ (congrArg _ (place3 t r z)).symm
  unfold out0_3
  rw [ref_factor, View.canon_unit_zero origin]
  simp only [View.ld_unit_zero (S := S512x1024) origin]
  refine (pay1_at _ r z).trans ?_
  rw [factor_at]

/-! The program and its idealization print the same text. -/

theorem bodies_eq : Cert.Norm.defs₀ (F := Bits) = Cert.NormIdeal.defs₀ (F := Bits) := by
  unfold Cert.Norm.defs₀ Cert.NormIdeal.defs₀
  refine congrArg Defs.onTc ?_
  funext l x
  match l, x with
  | 0, (t, s) => exact (rfl)
  | ⟨_ + 1, h⟩, _ => exact absurd h (Nat.not_lt.2 (Nat.le_add_left _ _))

theorem defs_eq : Cert.Norm.defs (F := Bits) = Cert.NormIdeal.defs (F := Bits) := by
  unfold Cert.Norm.defs Cert.NormIdeal.defs
  rw [bodies_eq]
  exact (rfl)

theorem main_eq : Cert.Norm.main (F := Bits) = Cert.NormIdeal.main (F := Bits) := (rfl)

/-- The program runs, leaves its arguments as they were and its counters at zero. -/
theorem frame : Cert.quiescent_Norm := by
  intro m g _
  have h := Cert.NormIdeal.Gen.frame (F := Bits) m g
  rw [← main_eq, ← defs_eq] at h
  exact h

theorem frame_ideal : Cert.quiescent_NormIdeal := fun m g _ => Cert.NormIdeal.Gen.frame m g

theorem frame_reference : Cert.quiescent_NormReferenceIdeal := fun m g _ =>
  (θ_run Cert.NormReferenceIdeal.defs _ _).mono
    (fun r h => ⟨fun c => (h c).2.2, sem_eq_zero_of_no_sems (by decide) r.2⟩)
    (Cert.NormReferenceIdeal.Value.run (F := Ideal) m g)

/-- The launch computes the reference's norm. -/
theorem value : Cert.algebraic_NormIdeal_NormReferenceIdeal := by
  intro m g m' g' _ hin
  refine ⟨fun c => val_main_v12 (F := Ideal) (m ((c.tc : Thread nD τ).loc main_arg0)) (m ((c.tc : Thread nD τ).loc main_arg1)),
    fun c => val_main_v7 (F := Ideal) (m ((c.tc : Thread nD τ).loc main_arg0)), ?_, ?_⟩
  · exact (θ_run defs _ _).mono (fun r h c => ⟨(h c).1.trans (final m c), (h c).2.1.trans (final_factor m c), (h c).2.2⟩)
      (Cert.NormIdeal.Value.run_blocks (F := Ideal) m g)
  · refine (θ_run Cert.NormReferenceIdeal.defs _ _).mono (fun r h c => ?_) (Cert.NormReferenceIdeal.Value.run (F := Ideal) m' g')
    refine ⟨(h c).1.trans ?_, (h c).2.1.trans ?_, (h c).2.2⟩
    · exact (val_main_v12_eq _ _).trans (by rw [(hin c).1, (hin c).2])
    · exact (val_main_v7_eq _).trans (by rw [(hin c).1])

end Cert.Proof.Normalizing

end
-- ==== Proof.lean ====
/-
  The stick-breaking attention, its gradient, the products with the weights, the norm and the merge: each program and its ideal reading run
  and leave their arguments and counters as they were, and each ideal reading computes what its reference computes.
-/
module

public import proofs.«01_k».proof.Defs
public import proofs.«01_k».proof.Proof.Gen.ReferenceIdeal.Run
public import proofs.«01_k».proof.Proof.Gen.Attend.Skeleton
public import proofs.«01_k».proof.Proof.Gen.AttendReferenceIdeal.Run
public import proofs.«01_k».proof.Proof.Launch
public import proofs.«01_k».proof.Proof.Twin
public import proofs.«01_k».proof.Proof.Final
public import proofs.«01_k».proof.Proof.Attend.Final
public import proofs.«01_k».proof.Proof.Attend.BitsLaunch
public import proofs.«01_k».proof.Proof.HiddenGrad
public import proofs.«01_k».proof.Proof.WeightGrad
public import proofs.«01_k».proof.Proof.Projection
public import proofs.«01_k».proof.Proof.SsmWeightGrad
public import proofs.«01_k».proof.Proof.SsmRowsGrad
public import proofs.«01_k».proof.Proof.OutWeightGrad
public import proofs.«01_k».proof.Proof.RowsGrad
public import proofs.«01_k».proof.Proof.SsmBranch
public import proofs.«01_k».proof.Proof.OutProduct
public import proofs.«01_k».proof.Proof.AttnBranch
public import proofs.«01_k».proof.Proof.GateWeightGrad
public import proofs.«01_k».proof.Proof.GateProjection
public import proofs.«01_k».proof.Proof.StepProjection
public import proofs.«01_k».proof.Proof.StepWeightGrad
public import proofs.«01_k».proof.Proof.Merging
public import proofs.«01_k».proof.Proof.MergingGrad
public import proofs.«01_k».proof.Proof.Normalizing

@[expose] public section

noncomputable section

namespace Cert.Proof

open Idealize.ShloMosaic Idealize.SL.Sem Idealize.ShloMosaic.TcCoe
open Cert.ReferenceIdeal.Read (val_main_v62 val_main_v59 val_main_v42 val_main_v62_eq val_main_v59_eq val_main_v42_eq)

theorem frame_kernelIdeal : Cert.quiescent_KernelIdeal := fun m g _ => Attn.run_frame m g

theorem frame_kernelIdeal_finite : Cert.quiescent_KernelIdeal_pre_finite_v_do := fun m g _ => Attn.run_frame m g

theorem frame_referenceIdeal : Cert.quiescent_ReferenceIdeal := fun m g _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m g)

theorem frame_referenceIdeal_finite : Cert.quiescent_ReferenceIdeal_pre_finite_v_do := fun m g _ => frame_referenceIdeal m g trivial

/-- What the launch leaves, with the three outputs named by the reference's mathematics. -/
theorem run_value (m : (ℓ : Loc Cert.KernelIdeal.nD Cert.KernelIdeal.τ Cert.KernelIdeal.sig) → Buf (Elt Ideal) ℓ) (g : Dev Cert.KernelIdeal.nD → PrngReg)
    (hf : ∀ c : Dev Cert.KernelIdeal.nD, Attn.Finite (m ((c : Thread Cert.KernelIdeal.nD Cert.KernelIdeal.τ).loc Cert.KernelIdeal.main_arg0)) (m ((c : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v70_0) = val_main_v62 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      ∧ r.2.mem ((c.tc : Thread Cert.KernelIdeal.nD Cert.KernelIdeal.τ).loc Cert.KernelIdeal.main_v70_1) = val_main_v59 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      ∧ r.2.mem ((c.tc : Thread Cert.KernelIdeal.nD Cert.KernelIdeal.τ).loc Cert.KernelIdeal.main_v70_2) = val_main_v42 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))) :=
  (θ_run Cert.KernelIdeal.defs _ _).mono
    (fun _ h c => ⟨((h c).1 6).trans (Attn.final_dq m c (hf c)), ((h c).1 7).trans (Attn.final_dk m c (hf c)), ((h c).1 8).trans (Attn.final_dv m c)⟩)
    (Attn.run_main m g)

/-- The launch computes the reference's gradients of the queries, the keys and the values. -/
theorem value : Cert.algebraic_KernelIdeal_ReferenceIdeal_pre_finite_v_do := by
  intro m g m' g' hpre hin
  refine ⟨fun c => val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_)
      (θ_run_and (run_value m g fun c => Attn.finite_of _ _ (hpre c)) (Attn.run_frame m g))
    exact ⟨(h.1 c).1, (h.1 c).2.1, (h.1 c).2.2, (h.2.1 c).1, (h.2.1 c).2⟩
  · refine (θ_run Cert.ReferenceIdeal.defs _ _).mono (fun r h c => ?_) (Cert.ReferenceIdeal.Value.run (F := Ideal) m' g')
    obtain ⟨h0, h1, h2, h3, h4⟩ := h c
    refine ⟨h0.trans ?_, h1.trans ?_, h2.trans ?_, h3, h4⟩
    · exact (val_main_v62_eq _).trans (congrArg₂ (val_main_v62 (F := Ideal)) (hin c).1 (hin c).2)
    · exact (val_main_v59_eq _).trans (congrArg₂ (val_main_v59 (F := Ideal)) (hin c).1 (hin c).2)
    · exact (val_main_v42_eq _).trans (congrArg₂ (val_main_v42 (F := Ideal)) (hin c).1 (hin c).2)

theorem frame_attend : Cert.quiescent_Attend := fun m g _ => AttendBits.run_frame m g

/-- Every place where the ideal reading takes a value kept to its upper sixteen bits for the value itself. -/
theorem preserves_attend : Cert.preserves_Attend_AttendIdeal := IdealRules.bf16_pack.statement _

theorem claim : Cert.Claim := ⟨Cert.Kernel.Gen.facts, Cert.KernelIdeal.Gen.facts, Cert.ReferenceIdeal.Gen.facts,
  Cert.Attend.Gen.facts, Cert.AttendIdeal.Gen.facts, Cert.AttendReferenceIdeal.Gen.facts,
  Cert.Hidden.Gen.facts, Cert.HiddenIdeal.Gen.facts, Cert.HiddenReferenceIdeal.Gen.facts,
  Cert.Weight.Gen.facts, Cert.WeightIdeal.Gen.facts, Cert.WeightReferenceIdeal.Gen.facts,
  Cert.Project.Gen.facts, Cert.ProjectIdeal.Gen.facts, Cert.ProjectReferenceIdeal.Gen.facts,
  Cert.Gate.Gen.facts, Cert.GateIdeal.Gen.facts, Cert.GateReferenceIdeal.Gen.facts,
  Cert.GateWeight.Gen.facts, Cert.GateWeightIdeal.Gen.facts, Cert.GateWeightReferenceIdeal.Gen.facts,
  Cert.AttnOut.Gen.facts, Cert.AttnOutIdeal.Gen.facts, Cert.AttnOutReferenceIdeal.Gen.facts,
  Cert.Out.Gen.facts, Cert.OutIdeal.Gen.facts, Cert.OutReferenceIdeal.Gen.facts,
  Cert.SsmOut.Gen.facts, Cert.SsmOutIdeal.Gen.facts, Cert.SsmOutReferenceIdeal.Gen.facts,
  Cert.Rows.Gen.facts, Cert.RowsIdeal.Gen.facts, Cert.RowsReferenceIdeal.Gen.facts,
  Cert.OutWeight.Gen.facts, Cert.OutWeightIdeal.Gen.facts, Cert.OutWeightReferenceIdeal.Gen.facts,
  Cert.SsmRows.Gen.facts, Cert.SsmRowsIdeal.Gen.facts, Cert.SsmRowsReferenceIdeal.Gen.facts,
  Cert.SsmWeight.Gen.facts, Cert.SsmWeightIdeal.Gen.facts, Cert.SsmWeightReferenceIdeal.Gen.facts,
  Cert.StepSize.Gen.facts, Cert.StepSizeIdeal.Gen.facts, Cert.StepSizeReferenceIdeal.Gen.facts,
  Cert.StepWeight.Gen.facts, Cert.StepWeightIdeal.Gen.facts, Cert.StepWeightReferenceIdeal.Gen.facts,
  Cert.Merge.Gen.facts, Cert.MergeIdeal.Gen.facts, Cert.MergeReferenceIdeal.Gen.facts,
  Cert.MergeGrad.Gen.facts, Cert.MergeGradIdeal.Gen.facts, Cert.MergeGradReferenceIdeal.Gen.facts,
  Cert.Norm.Gen.facts, Cert.NormIdeal.Gen.facts, Cert.NormReferenceIdeal.Gen.facts,
  Cert.Pre_finite_v_do.Gen.facts, Cert.Pre_finite_q_k.Gen.facts,
  frame_kernel, frame_kernelIdeal, frame_kernelIdeal_finite, frame_referenceIdeal, frame_referenceIdeal_finite,
  frame_attend, Attend.frame_ideal, Attend.frame_ideal_finite, Attend.frame_reference, Attend.frame_reference_finite,
  HiddenGrad.frame, HiddenGrad.frame_ideal, HiddenGrad.frame_reference,
  WeightGrad.frame, WeightGrad.frame_ideal, WeightGrad.frame_reference,
  Projection.frame, Projection.frame_ideal, Projection.frame_reference,
  GateProjection.frame, GateProjection.frame_ideal, GateProjection.frame_reference,
  GateWeightGrad.frame, GateWeightGrad.frame_ideal, GateWeightGrad.frame_reference,
  AttnBranch.frame, AttnBranch.frame_ideal, AttnBranch.frame_reference,
  OutProduct.frame, OutProduct.frame_ideal, OutProduct.frame_reference,
  SsmBranch.frame, SsmBranch.frame_ideal, SsmBranch.frame_reference,
  RowsGrad.frame, RowsGrad.frame_ideal, RowsGrad.frame_reference,
  OutWeightGrad.frame, OutWeightGrad.frame_ideal, OutWeightGrad.frame_reference,
  SsmRowsGrad.frame, SsmRowsGrad.frame_ideal, SsmRowsGrad.frame_reference,
  SsmWeightGrad.frame, SsmWeightGrad.frame_ideal, SsmWeightGrad.frame_reference,
  StepProjection.frame, StepProjection.frame_ideal, StepProjection.frame_reference,
  StepWeightGrad.frame, StepWeightGrad.frame_ideal, StepWeightGrad.frame_reference,
  Merging.frame, Merging.frame_ideal, Merging.frame_reference,
  MergingGrad.frame, MergingGrad.frame_ideal, MergingGrad.frame_reference,
  Normalizing.frame, Normalizing.frame_ideal, Normalizing.frame_reference,
  trivial, value,
  preserves_attend, Attend.value,
  trivial, HiddenGrad.value, trivial, WeightGrad.value, trivial, Projection.value,
  trivial, GateProjection.value, trivial, GateWeightGrad.value, trivial, AttnBranch.value,
  trivial, OutProduct.value, trivial, SsmBranch.value, trivial, RowsGrad.value,
  trivial, OutWeightGrad.value, trivial, SsmRowsGrad.value, trivial, SsmWeightGrad.value,
  trivial, StepProjection.value, trivial, StepWeightGrad.value, trivial, Merging.value, trivial, MergingGrad.value, trivial, Normalizing.value⟩

end Cert.Proof

end
